-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_p [hPre_finite_p : Cert.Pre_finite_p.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_p.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_p [hPre_finite_p : Cert.Pre_finite_p.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_p.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite_p [hKernel11Ideal : Cert.Kernel11Ideal.Facts] [hPre_finite_p : Cert.Pre_finite_p.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_p m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite_p [hReference11Ideal : Cert.Reference11Ideal.Facts] [hPre_finite_p : Cert.Pre_finite_p.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_p m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  IdealRules.named_const.Statement Cert.Kernel9Ideal.κ "rsqrt2" .f32 0x3F3504F3#32 (((Real.sqrt 2)⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v51) = v0 c
          ∧ r.2.mem ((c.tc : Thread Cert.Reference9Ideal.nD Cert.Reference9Ideal.τ).loc Cert.Reference9Ideal.main_v52) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite_p [hKernel11Ideal : Cert.Kernel11Ideal.Facts] [hReference11Ideal : Cert.Reference11Ideal.Facts] [hPre_finite_p : Cert.Pre_finite_p.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_p m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v75) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite_p : Cert.Pre_finite_p.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_p (hKernel11Ideal := hKernel11Ideal) (hPre_finite_p := hPre_finite_p)
    ∧ quiescent_Reference11Ideal (hReference11Ideal := hReference11Ideal)
    ∧ quiescent_Reference11Ideal_pre_finite_p (hReference11Ideal := hReference11Ideal) (hPre_finite_p := hPre_finite_p)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_p (hKernel11Ideal := hKernel11Ideal) (hReference11Ideal := hReference11Ideal) (hPre_finite_p := hPre_finite_p)
-- ==== Pre_finite.lean ====
abbrev S8x4096x5120 : Shape := ⟨3, ![8, 4096, 5120]⟩
abbrev S8x4096x4608 : Shape := ⟨3, ![8, 4096, 4608]⟩
abbrev S_ : Shape := ⟨0, ![]⟩

class Facts : Prop where
  slices_S8x4096x5120_S8x4096x4608_0_0_0 : S8x4096x5120.Slices ![0, 0, 0] S8x4096x4608
  bcast_S_S8x4096x4608 : S_.BroadcastsInDim S8x4096x4608 (![] : Fin 0 → Fin S8x4096x4608.rank)

variable [Facts]

def fn {F : FTy → Type} [FloatOps F] (main_arg0 : FVec F S8x4096x5120 .f32) : IVec S8x4096x4608 1 :=
  let main_v0 : FVec F S8x4096x4608 .f32 := (extractStridedSlice S8x4096x4608 ![0, 0, 0] · slices_S8x4096x5120_S8x4096x4608_0_0_0) main_arg0
  let main_v1 : FVec F S8x4096x4608 .f32 := Host.absf main_v0
  let main_cst : FVec F S_ .f32 := constant S_ .f32 0x7F800000#32
  let main_v2 : FVec F S8x4096x4608 .f32 := broadcastInDim S8x4096x4608 ![] bcast_S_S8x4096x4608 main_cst
  let main_v3 : IVec S8x4096x4608 1 := cmpf .olt main_v1 main_v2
  main_v3
-- ==== Pre_finite_p.lean ====
abbrev S8x4096x2048 : Shape := ⟨3, ![8, 4096, 2048]⟩
abbrev S4x384x384 : Shape := ⟨3, ![4, 384, 384]⟩
abbrev S1536 : Shape := ⟨1, ![1536]⟩
abbrev S8x4096x1536 : Shape := ⟨3, ![8, 4096, 1536]⟩
abbrev S_ : Shape := ⟨0, ![]⟩

class Facts : Prop where
  slices_S8x4096x2048_S8x4096x1536_0_0_0 : S8x4096x2048.Slices ![0, 0, 0] S8x4096x1536
  bcast_S_S8x4096x1536 : S_.BroadcastsInDim S8x4096x1536 (![] : Fin 0 → Fin S8x4096x1536.rank)

variable [Facts]

def fn {F : FTy → Type} [FloatOps F] (main_arg0 : FVec F S8x4096x2048 .f32) (main_arg1 : FVec F S4x384x384 .f32) (main_arg2 : FVec F S1536 .f32) : IVec S8x4096x1536 1 :=
  let main_v0 : FVec F S8x4096x1536 .f32 := (extractStridedSlice S8x4096x1536 ![0, 0, 0] · slices_S8x4096x2048_S8x4096x1536_0_0_0) main_arg0
  let main_v1 : FVec F S8x4096x1536 .f32 := Host.absf main_v0
  let main_cst : FVec F S_ .f32 := constant S_ .f32 0x7F800000#32
  let main_v2 : FVec F S8x4096x1536 .f32 := broadcastInDim S8x4096x1536 ![] bcast_S_S8x4096x1536 main_cst
  let main_v3 : IVec S8x4096x1536 1 := cmpf .olt main_v1 main_v2
  main_v3
-- ==== Kernel.lean ====
abbrev S8x4096x5120 : Shape := ⟨3, ![8, 4096, 5120]⟩
abbrev S8x4096x512 : Shape := ⟨3, ![8, 4096, 512]⟩
abbrev S1x2048x128 : Shape := ⟨3, ![1, 2048, 128]⟩
abbrev S1x128x128 : Shape := ⟨3, ![1, 128, 128]⟩
abbrev S1x512x128 : Shape := ⟨3, ![1, 512, 128]⟩
abbrev S2176x128 : Shape := ⟨2, ![2176, 128]⟩
abbrev S2560x128 : Shape := ⟨2, ![2560, 128]⟩
abbrev S4096x128 : Shape := ⟨2, ![4096, 128]⟩
abbrev S256x384 : Shape := ⟨2, ![256, 384]⟩
abbrev S256x768 : Shape := ⟨2, ![256, 768]⟩
abbrev S256x2304 : Shape := ⟨2, ![256, 2304]⟩
abbrev S128x128 : Shape := ⟨2, ![128, 128]⟩
abbrev S2048x128 : Shape := ⟨2, ![2048, 128]⟩
abbrev S512x128 : Shape := ⟨2, ![512, 128]⟩
abbrev S1x256x128 : Shape := ⟨3, ![1, 256, 128]⟩
abbrev S256x128 : Shape := ⟨2, ![256, 128]⟩
abbrev S384x128 : Shape := ⟨2, ![384, 128]⟩
abbrev S1x384 : Shape := ⟨2, ![1, 384]⟩
abbrev S768x128 : Shape := ⟨2, ![768, 128]⟩
abbrev S1x768 : Shape := ⟨2, ![1, 768]⟩
abbrev S2304x128 : Shape := ⟨2, ![2304, 128]⟩
abbrev S1x2304 : Shape := ⟨2, ![1, 2304]⟩
abbrev S256 : Shape := ⟨1, ![256]⟩
abbrev S256x1 : Shape := ⟨2, ![256, 1]⟩

abbrev nBuf : Space → Nat
  | .hbm => 5
  | .vmem => 45
  | .smem => 0
  | _ => 0

abbrev bufTy : (tb : Table) → Fin (tcTables nBuf tb) → BufTy
  | .hbm, ⟨0, _⟩ => ⟨S8x4096x5120, .f32⟩
  | .hbm, ⟨1, _⟩ => ⟨S8x4096x5120, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x128x128, .bf16⟩
  | .local _ .vmem, ⟨25, _⟩ => ⟨S1x128x128, .bf16⟩
  | .local _ .vmem, ⟨26, _⟩ => ⟨S1x512x128, .bf16⟩
  | .local _ .vmem, ⟨27, _⟩ => ⟨S1x512x128, .bf16⟩
  | .local _ .vmem, ⟨28, _⟩ => ⟨S1x2048x128, .bf16⟩
  | .local _ .vmem, ⟨29, _⟩ => ⟨S1x2048x128, .bf16⟩
  | .local _ .vmem, ⟨30, _⟩ => ⟨S1x2048x128, .bf16⟩
  | .local _ .vmem, ⟨31, _⟩ => ⟨S1x2048x128, .bf16⟩
  | .local _ .vmem, ⟨32, _⟩ => ⟨S1x2048x128, .bf16⟩
  | .local _ .vmem, ⟨33, _⟩ => ⟨S1x2048x128, .bf16⟩
  | .local _ .vmem, ⟨34, _⟩ => ⟨S1x2048x128, .bf16⟩
  | .local _ .vmem, ⟨35, _⟩ => ⟨S1x2048x128, .bf16⟩
  | .local _ .vmem, ⟨36, _⟩ => ⟨S2176x128, .bf16⟩
  | .local _ .vmem, ⟨37, _⟩ => ⟨S2560x128, .bf16⟩
  | .local _ .vmem, ⟨38, _⟩ => ⟨S4096x128, .bf16⟩
  | .local _ .vmem, ⟨39, _⟩ => ⟨S2176x128, .bf16⟩
  | .local _ .vmem, ⟨40, _⟩ => ⟨S2560x128, .bf16⟩
  | .local _ .vmem, ⟨41, _⟩ => ⟨S4096x128, .bf16⟩
  | .local _ .vmem, ⟨42, _⟩ => ⟨S256x384, .f32⟩
  | .local _ .vmem, ⟨43, _⟩ => ⟨S256x768, .f32⟩
  | .local _ .vmem, ⟨44, _⟩ => ⟨S256x2304, .f32⟩
  | _, _ => ⟨S8x4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg1 : BitVec 32 := BitVec.ofNat 32 (i 1).val
  let c0_i32_59 : BitVec 32 := 0#32
  let v67 : BitVec 1 := Scalar.cmpi .eq arg1 c0_i32_59
  let v68 : BitVec 32 := Scalar.extui v67
  let c0_i32_60 : BitVec 32 := 0#32
  let v69 : BitVec 1 := Scalar.cmpi .ne v68 c0_i32_60
  v69

@[reducible] def k0_t1_loop : Scf.Loop 32 :=
  let c0_i32_63 : BitVec 32 := 0#32
  let c8_i32 : BitVec 32 := 8#32
  let v73 : BitVec 32 := Scalar.addi c0_i32_63 c8_i32
  let c1_i32 : BitVec 32 := 1#32
  ⟨c0_i32_63, v73, c1_i32⟩
def k0_mult1 (k0_t1 : Fin k0_t1_loop.trips) : BitVec 32 :=
  let c0_i32_63 : BitVec 32 := 0#32
  let c1_i32 : BitVec 32 := 1#32
  let arg30 : BitVec 32 := Scf.iv c0_i32_63 c1_i32 k0_t1
  let c256_i32 : BitVec 32 := 256#32
  let v74 : BitVec 32 := Scalar.muli arg30 c256_i32
  v74
def k0_off1 (k0_t1 : Fin k0_t1_loop.trips) : Fin 3 → Nat :=
  let c0_65 : Index := 0#32
  let c0_i32_63 : BitVec 32 := 0#32
  let c1_i32 : BitVec 32 := 1#32
  let arg30 : BitVec 32 := Scf.iv c0_i32_63 c1_i32 k0_t1
  let c256_i32 : BitVec 32 := 256#32
  let v74 : BitVec 32 := Scalar.muli arg30 c256_i32
  let v75 : BitVec 32 := v74
  let v76 : Index := Scalar.indexCast v75
  let c0_66 : Index := 0#32
  ![0, v76.toNat, 0]
def k0_off2 (k0_t1 : Fin k0_t1_loop.trips) : Fin 2 → Nat :=
  let c0_i32_63 : BitVec 32 := 0#32
  let c1_i32 : BitVec 32 := 1#32
  let arg30 : BitVec 32 := Scf.iv c0_i32_63 c1_i32 k0_t1
  let c256_i32 : BitVec 32 := 256#32
  let v74 : BitVec 32 := Scalar.muli arg30 c256_i32
  let v75 : BitVec 32 := v74
  let v79 : Index := Scalar.indexCast v75
  let c0_67 : Index := 0#32
  ![v79.toNat, 0]
def k0_off3 (k0_t1 : Fin k0_t1_loop.trips) : Fin 2 → Nat :=
  let c0_i32_63 : BitVec 32 := 0#32
  let c1_i32 : BitVec 32 := 1#32
  let arg30 : BitVec 32 := Scf.iv c0_i32_63 c1_i32 k0_t1
  let c256_i32 : BitVec 32 := 256#32
  let v74 : BitVec 32 := Scalar.muli arg30 c256_i32
  let v75 : BitVec 32 := v74
  let v95 : Index := Scalar.indexCast v75
  let c0_73 : Index := 0#32
  ![v95.toNat, 0]
def k0_off4 (k0_t1 : Fin k0_t1_loop.trips) : Fin 2 → Nat :=
  let c0_i32_63 : BitVec 32 := 0#32
  let c1_i32 : BitVec 32 := 1#32
  let arg30 : BitVec 32 := Scf.iv c0_i32_63 c1_i32 k0_t1
  let c256_i32 : BitVec 32 := 256#32
  let v74 : BitVec 32 := Scalar.muli arg30 c256_i32
  let v75 : BitVec 32 := v74
  let v111 : Index := Scalar.indexCast v75
  let c0_80 : Index := 0#32
  ![v111.toNat, 0]
def k0_cond3 (i : grid0.Coords) : BitVec 1 :=
  let arg1 : BitVec 32 := BitVec.ofNat 32 (i 1).val
  let c0_i32_61 : BitVec 32 := 0#32
  let v70 : BitVec 1 := Scalar.cmpi .sgt arg1 c0_i32_61
  let v71 : BitVec 32 := Scalar.extui v70
  let c0_i32_62 : BitVec 32 := 0#32
  let v72 : BitVec 1 := Scalar.cmpi .ne v71 c0_i32_62
  v72

@[reducible] def k0_t2_loop : Scf.Loop 32 :=
  let c0_i32_63 : BitVec 32 := 0#32
  let c8_i32 : BitVec 32 := 8#32
  let v73 : BitVec 32 := Scalar.addi c0_i32_63 c8_i32
  let c1_i32 : BitVec 32 := 1#32
  ⟨c0_i32_63, v73, c1_i32⟩
def k0_mult2 (k0_t2 : Fin k0_t2_loop.trips) : BitVec 32 :=
  let c0_i32_63 : BitVec 32 := 0#32
  let c1_i32 : BitVec 32 := 1#32
  let arg30 : BitVec 32 := Scf.iv c0_i32_63 c1_i32 k0_t2
  let c256_i32 : BitVec 32 := 256#32
  let v74 : BitVec 32 := Scalar.muli arg30 c256_i32
  v74
def k0_off5 (k0_t2 : Fin k0_t2_loop.trips) : Fin 3 → Nat :=
  let c0_65 : Index := 0#32
  let c0_i32_63 : BitVec 32 := 0#32
  let c1_i32 : BitVec 32 := 1#32
  let arg30 : BitVec 32 := Scf.iv c0_i32_63 c1_i32 k0_t2
  let c256_i32 : BitVec 32 := 256#32
  let v74 : BitVec 32 := Scalar.muli arg30 c256_i32
  let v75 : BitVec 32 := v74
  let v76 : Index := Scalar.indexCast v75
  let c0_66 : Index := 0#32
  ![0, v76.toNat, 0]
def k0_off6 (k0_t2 : Fin k0_t2_loop.trips) : Fin 2 → Nat :=
  let c0_i32_63 : BitVec 32 := 0#32
  let c1_i32 : BitVec 32 := 1#32
  let arg30 : BitVec 32 := Scf.iv c0_i32_63 c1_i32 k0_t2
  let c256_i32 : BitVec 32 := 256#32
  let v74 : BitVec 32 := Scalar.muli arg30 c256_i32
  let v75 : BitVec 32 := v74
  let v79 : Index := Scalar.indexCast v75
  let c0_67 : Index := 0#32
  ![v79.toNat, 0]
def k0_off7 (k0_t2 : Fin k0_t2_loop.trips) : Fin 2 → Nat :=
  let c0_i32_63 : BitVec 32 := 0#32
  let c1_i32 : BitVec 32 := 1#32
  let arg30 : BitVec 32 := Scf.iv c0_i32_63 c1_i32 k0_t2
  let c256_i32 : BitVec 32 := 256#32
  let v74 : BitVec 32 := Scalar.muli arg30 c256_i32
  let v75 : BitVec 32 := v74
  let v87 : Index := Scalar.indexCast v75
  let c0_72 : Index := 0#32
  ![v87.toNat, 0]
def k0_off8 (k0_t2 : Fin k0_t2_loop.trips) : Fin 2 → Nat :=
  let c0_i32_63 : BitVec 32 := 0#32
  let c1_i32 : BitVec 32 := 1#32
  let arg30 : BitVec 32 := Scf.iv c0_i32_63 c1_i32 k0_t2
  let c256_i32 : BitVec 32 := 256#32
  let v74 : BitVec 32 := Scalar.muli arg30 c256_i32
  let v75 : BitVec 32 := v74
  let v95 : Index := Scalar.indexCast v75
  let c0_78 : Index := 0#32
  ![v95.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  ![arg0.toNat, arg1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi c12_i32 arg2
  let c0_i32_0 : BitVec 32 := 0#32
  ![arg0.toNat, v2.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg2
  let c0_i32_0 : BitVec 32 := 0#32
  ![arg0.toNat, v2.toNat, v3.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c20_i32 : BitVec 32 := 20#32
  let v3 : BitVec 32 := Scalar.addi c20_i32 arg2
  let c0_i32_1 : BitVec 32 := 0#32
  ![arg0.toNat, v2.toNat, v3.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg2
  let c0_i32 : BitVec 32 := 0#32
  ![arg0.toNat, arg1.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg2
  let c0_i32 : BitVec 32 := 0#32
  ![arg0.toNat, arg1.toNat, v0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg2
  let c0_i32 : BitVec 32 := 0#32
  ![arg0.toNat, arg1.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg2
  let c0_i32_0 : BitVec 32 := 0#32
  ![arg0.toNat, v2.toNat, v3.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c28_i32 : BitVec 32 := 28#32
  let v3 : BitVec 32 := Scalar.addi c28_i32 arg2
  let c0_i32_0 : BitVec 32 := 0#32
  ![arg0.toNat, v2.toNat, v3.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c32_i32 : BitVec 32 := 32#32
  let v3 : BitVec 32 := Scalar.addi c32_i32 arg2
  let c0_i32_1 : BitVec 32 := 0#32
  ![arg0.toNat, v2.toNat, v3.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x2048x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S8x4096x5120 : Shape := ⟨3, ![8, 4096, 5120]⟩
abbrev S8x4096x1536 : Shape := ⟨3, ![8, 4096, 1536]⟩
abbrev S_ : Shape := ⟨0, ![]⟩
abbrev S8x4096x512 : Shape := ⟨3, ![8, 4096, 512]⟩
abbrev S8x4096x4x128 : Shape := ⟨4, ![8, 4096, 4, 128]⟩
abbrev S129 : Shape := ⟨1, ![129]⟩
abbrev S4096 : Shape := ⟨1, ![4096]⟩
abbrev S4096x1 : Shape := ⟨2, ![4096, 1]⟩
abbrev S1x129 : Shape := ⟨2, ![1, 129]⟩
abbrev S4096x129 : Shape := ⟨2, ![4096, 129]⟩
abbrev S4096x129x1 : Shape := ⟨3, ![4096, 129, 1]⟩
abbrev S8x4096x129x4x128 : Shape := ⟨5, ![8, 4096, 129, 4, 128]⟩
abbrev S8x4x4096x129 : Shape := ⟨4, ![8, 4, 4096, 129]⟩
abbrev S1x1x4096x129 : Shape := ⟨4, ![1, 1, 4096, 129]⟩
abbrev S8x4x4096 : Shape := ⟨3, ![8, 4, 4096]⟩
abbrev S8x4x4096x1 : Shape := ⟨4, ![8, 4, 4096, 1]⟩
abbrev S8x4096x4 : Shape := ⟨3, ![8, 4096, 4]⟩
abbrev S1x8x4096x4 : Shape := ⟨4, ![1, 8, 4096, 4]⟩
abbrev S3x8x4096x4 : Shape := ⟨4, ![3, 8, 4096, 4]⟩
abbrev S8x4096x4x1 : Shape := ⟨4, ![8, 4096, 4, 1]⟩

abbrev nBuf : Space → Nat
  | .hbm => 198
  | .vmem => 0
  | .smem => 0
  | _ => 0

abbrev hbmTy0_0 (i : Nat) : BufTy := match i % 128 with
  | 0 => ⟨S8x4096x5120, .f32⟩
  | 1 => ⟨S8x4096x1536, .f32⟩
  | 2 => ⟨S8x4096x1536, .f32⟩
  | 3 => ⟨S8x4096x1536, .f32⟩
  | 4 => ⟨S_, .f32⟩
  | 5 => ⟨S_, .f32⟩
  | 6 => ⟨S8x4096x512, .f32⟩
  | 7 => ⟨S8x4096x4x128, .f32⟩
  | 8 => ⟨S8x4096x512, .f32⟩
  | 9 => ⟨S8x4096x4x128, .f32⟩
  | 10 => ⟨S8x4096x512, .f32⟩
  | 11 => ⟨S8x4096x4x128, .f32⟩
  | 12 => ⟨S129, .i32⟩
  | 13 => ⟨S_, .i32⟩
  | 14 => ⟨S129, .i32⟩
  | 15 => ⟨S129, .i32⟩
  | 16 => ⟨S4096, .i32⟩
  | 17 => ⟨S4096x1, .i32⟩
  | 18 => ⟨S1x129, .i32⟩
  | 19 => ⟨S4096x129, .i32⟩
  | 20 => ⟨S4096x129, .i32⟩
  | 21 => ⟨S4096x129, .i32⟩
  | 22 => ⟨S_, .i32⟩
  | 23 => ⟨S4096x129, .i32⟩
  | 24 => ⟨S4096x129, .i1⟩
  | 25 => ⟨S_, .i32⟩
  | 26 => ⟨S4096x129, .i32⟩
  | 27 => ⟨S4096x129, .i32⟩
  | 28 => ⟨S4096x129x1, .i32⟩
  | 29 => ⟨S8x4096x129x4x128, .f32⟩
  | 30 => ⟨S4096x129x1, .i32⟩
  | 31 => ⟨S8x4096x129x4x128, .f32⟩
  | 32 => ⟨S8x4x4096x129, .f32⟩
  | 33 => ⟨S8x4x4096x129, .f32⟩
  | 34 => ⟨S8x4x4096x129, .f32⟩
  | 35 => ⟨S1x1x4096x129, .i1⟩
  | 36 => ⟨S_, .f32⟩
  | 37 => ⟨S_, .f32⟩
  | 38 => ⟨S8x4x4096x129, .i1⟩
  | 39 => ⟨S8x4x4096x129, .f32⟩
  | 40 => ⟨S8x4x4096x129, .f32⟩
  | 41 => ⟨S_, .f32⟩
  | 42 => ⟨S8x4x4096, .f32⟩
  | 43 => ⟨S8x4x4096x1, .f32⟩
  | 44 => ⟨S8x4x4096x129, .f32⟩
  | 45 => ⟨S8x4x4096x129, .f32⟩
  | 46 => ⟨S8x4x4096x129, .f32⟩
  | 47 => ⟨S_, .f32⟩
  | 48 => ⟨S8x4x4096, .f32⟩
  | 49 => ⟨S8x4x4096, .f32⟩
  | 50 => ⟨S8x4x4096, .f32⟩
  | 51 => ⟨S8x4x4096x1, .f32⟩
  | 52 => ⟨S8x4x4096x129, .f32⟩
  | 53 => ⟨S8x4x4096x129, .f32⟩
  | 54 => ⟨S8x4x4096x129, .f32⟩
  | 55 => ⟨S8x4096x4x128, .f32⟩
  | 56 => ⟨S8x4096x4, .f32⟩
  | 57 => ⟨S8x4096x512, .f32⟩
  | 58 => ⟨S8x4096x4x128, .f32⟩
  | 59 => ⟨S8x4096x512, .f32⟩
  | 60 => ⟨S8x4096x4x128, .f32⟩
  | 61 => ⟨S8x4096x512, .f32⟩
  | 62 => ⟨S8x4096x4x128, .f32⟩
  | 63 => ⟨S129, .i32⟩
  | 64 => ⟨S_, .i32⟩
  | 65 => ⟨S129, .i32⟩
  | 66 => ⟨S129, .i32⟩
  | 67 => ⟨S4096, .i32⟩
  | 68 => ⟨S4096x1, .i32⟩
  | 69 => ⟨S1x129, .i32⟩
  | 70 => ⟨S4096x129, .i32⟩
  | 71 => ⟨S4096x129, .i32⟩
  | 72 => ⟨S4096x129, .i32⟩
  | 73 => ⟨S_, .i32⟩
  | 74 => ⟨S4096x129, .i32⟩
  | 75 => ⟨S4096x129, .i1⟩
  | 76 => ⟨S_, .i32⟩
  | 77 => ⟨S4096x129, .i32⟩
  | 78 => ⟨S4096x129, .i32⟩
  | 79 => ⟨S4096x129x1, .i32⟩
  | 80 => ⟨S8x4096x129x4x128, .f32⟩
  | 81 => ⟨S4096x129x1, .i32⟩
  | 82 => ⟨S8x4096x129x4x128, .f32⟩
  | 83 => ⟨S8x4x4096x129, .f32⟩
  | 84 => ⟨S8x4x4096x129, .f32⟩
  | 85 => ⟨S8x4x4096x129, .f32⟩
  | 86 => ⟨S1x1x4096x129, .i1⟩
  | 87 => ⟨S_, .f32⟩
  | 88 => ⟨S_, .f32⟩
  | 89 => ⟨S8x4x4096x129, .i1⟩
  | 90 => ⟨S8x4x4096x129, .f32⟩
  | 91 => ⟨S8x4x4096x129, .f32⟩
  | 92 => ⟨S_, .f32⟩
  | 93 => ⟨S8x4x4096, .f32⟩
  | 94 => ⟨S8x4x4096x1, .f32⟩
  | 95 => ⟨S8x4x4096x129, .f32⟩
  | 96 => ⟨S8x4x4096x129, .f32⟩
  | 97 => ⟨S8x4x4096x129, .f32⟩
  | 98 => ⟨S_, .f32⟩
  | 99 => ⟨S8x4x4096, .f32⟩
  | 100 => ⟨S8x4x4096, .f32⟩
  | 101 => ⟨S8x4x4096, .f32⟩
  | 102 => ⟨S8x4x4096x1, .f32⟩
  | 103 => ⟨S8x4x4096x129, .f32⟩
  | 104 => ⟨S8x4x4096x129, .f32⟩
  | 105 => ⟨S8x4x4096x129, .f32⟩
  | 106 => ⟨S8x4096x4x128, .f32⟩
  | 107 => ⟨S8x4096x4, .f32⟩
  | 108 => ⟨S8x4096x512, .f32⟩
  | 109 => ⟨S8x4096x4x128, .f32⟩
  | 110 => ⟨S8x4096x512, .f32⟩
  | 111 => ⟨S8x4096x4x128, .f32⟩
  | 112 => ⟨S8x4096x512, .f32⟩
  | 113 => ⟨S8x4096x4x128, .f32⟩
  | 114 => ⟨S129, .i32⟩
  | 115 => ⟨S_, .i32⟩
  | 116 => ⟨S129, .i32⟩
  | 117 => ⟨S129, .i32⟩
  | 118 => ⟨S4096, .i32⟩
  | 119 => ⟨S4096x1, .i32⟩
  | 120 => ⟨S1x129, .i32⟩
  | 121 => ⟨S4096x129, .i32⟩
  | 122 => ⟨S4096x129, .i32⟩
  | 123 => ⟨S4096x129, .i32⟩
  | 124 => ⟨S_, .i32⟩
  | 125 => ⟨S4096x129, .i32⟩
  | 126 => ⟨S4096x129, .i1⟩
  | 127 => ⟨S_, .i32⟩
  | _ => ⟨S8x4096x5120, .f32⟩

abbrev hbmTy0_1 (i : Nat) : BufTy := match i % 128 with
  | 0 => ⟨S4096x129, .i32⟩
  | 1 => ⟨S4096x129, .i32⟩
  | 2 => ⟨S4096x129x1, .i32⟩
  | 3 => ⟨S8x4096x129x4x128, .f32⟩
  | 4 => ⟨S4096x129x1, .i32⟩
  | 5 => ⟨S8x4096x129x4x128, .f32⟩
  | 6 => ⟨S8x4x4096x129, .f32⟩
  | 7 => ⟨S8x4x4096x129, .f32⟩
  | 8 => ⟨S8x4x4096x129, .f32⟩
  | 9 => ⟨S1x1x4096x129, .i1⟩
  | 10 => ⟨S_, .f32⟩
  | 11 => ⟨S_, .f32⟩
  | 12 => ⟨S8x4x4096x129, .i1⟩
  | 13 => ⟨S8x4x4096x129, .f32⟩
  | 14 => ⟨S8x4x4096x129, .f32⟩
  | 15 => ⟨S_, .f32⟩
  | 16 => ⟨S8x4x4096, .f32⟩
  | 17 => ⟨S8x4x4096x1, .f32⟩
  | 18 => ⟨S8x4x4096x129, .f32⟩
  | 19 => ⟨S8x4x4096x129, .f32⟩
  | 20 => ⟨S8x4x4096x129, .f32⟩
  | 21 => ⟨S_, .f32⟩
  | 22 => ⟨S8x4x4096, .f32⟩
  | 23 => ⟨S8x4x4096, .f32⟩
  | 24 => ⟨S8x4x4096, .f32⟩
  | 25 => ⟨S8x4x4096x1, .f32⟩
  | 26 => ⟨S8x4x4096x129, .f32⟩
  | 27 => ⟨S8x4x4096x129, .f32⟩
  | 28 => ⟨S8x4x4096x129, .f32⟩
  | 29 => ⟨S8x4096x4x128, .f32⟩
  | 30 => ⟨S8x4096x4, .f32⟩
  | 31 => ⟨S1x8x4096x4, .f32⟩
  | 32 => ⟨S1x8x4096x4, .f32⟩
  | 33 => ⟨S1x8x4096x4, .f32⟩
  | 34 => ⟨S3x8x4096x4, .f32⟩
  | 35 => ⟨S_, .f32⟩
  | 36 => ⟨S8x4096x4, .f32⟩
  | 37 => ⟨S_, .f32⟩
  | 38 => ⟨S8x4096x4, .f32⟩
  | 39 => ⟨S8x4096x4, .f32⟩
  | 40 => ⟨S1x8x4096x4, .f32⟩
  | 41 => ⟨S3x8x4096x4, .f32⟩
  | 42 => ⟨S3x8x4096x4, .f32⟩
  | 43 => ⟨S3x8x4096x4, .f32⟩
  | 44 => ⟨S_, .f32⟩
  | 45 => ⟨S8x4096x4, .f32⟩
  | 46 => ⟨S1x8x4096x4, .f32⟩
  | 47 => ⟨S3x8x4096x4, .f32⟩
  | 48 => ⟨S3x8x4096x4, .f32⟩
  | 49 => ⟨S1x8x4096x4, .f32⟩
  | 50 => ⟨S8x4096x4, .f32⟩
  | 51 => ⟨S8x4096x4x1, .f32⟩
  | 52 => ⟨S8x4096x4x128, .f32⟩
  | 53 => ⟨S8x4096x4x128, .f32⟩
  | 54 => ⟨S1x8x4096x4, .f32⟩
  | 55 => ⟨S8x4096x4, .f32⟩
  | 56 => ⟨S8x4096x4x1, .f32⟩
  | 57 => ⟨S8x4096x4x128, .f32⟩
  | 58 => ⟨S8x4096x4x128, .f32⟩
  | 59 => ⟨S1x8x4096x4, .f32⟩
  | 60 => ⟨S8x4096x4, .f32⟩
  | 61 => ⟨S8x4096x4x1, .f32⟩
  | 62 => ⟨S8x4096x4x128, .f32⟩
  | 63 => ⟨S8x4096x4x128, .f32⟩
  | 64 => ⟨S8x4096x512, .f32⟩
  | 65 => ⟨S8x4096x512, .bf16⟩
  | 66 => ⟨S8x4096x512, .f32⟩
  | 67 => ⟨S8x4096x512, .bf16⟩
  | 68 => ⟨S8x4096x512, .f32⟩
  | 69 => ⟨S8x4096x512, .bf16⟩
  | _ => ⟨S8x4096x5120, .f32⟩

abbrev hbmTy (i : Nat) : BufTy := match i / 128 with
  | 0 => hbmTy0_0 i
  | 1 => hbmTy0_1 i
  | _ => ⟨S8x4096x5120, .f32⟩

abbrev bufTy : (tb : Table) → Fin (tcTables nBuf tb) → BufTy
  | .hbm, ⟨i, _⟩ => hbmTy i
  | _, _ => ⟨S8x4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_v23 : Ref sig .tc := ⟨.hbm, 29, rfl⟩
abbrev main_call1_v0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_6 : Ref sig .tc := ⟨.hbm, 73, rfl⟩
abbrev main_v59 : Ref sig .tc := ⟨.hbm, 74, rfl⟩
abbrev main_v60 : Ref sig .tc := ⟨.hbm, 75, rfl⟩
abbrev main_c_7 : Ref sig .tc := ⟨.hbm, 76, rfl⟩
abbrev main_v61 : Ref sig .tc := ⟨.hbm, 77, rfl⟩
abbrev main_v62 : Ref sig .tc := ⟨.hbm, 78, rfl⟩
abbrev main_call3_v0 : Ref sig .tc := ⟨.hbm, 79, rfl⟩
abbrev main_v63 : Ref sig .tc := ⟨.hbm, 80, rfl⟩
abbrev main_call4_v0 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_11 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_c_12 : Ref sig .tc := ⟨.hbm, 124, rfl⟩
abbrev main_v99 : Ref sig .tc := ⟨.hbm, 125, rfl⟩
abbrev main_v100 : Ref sig .tc := ⟨.hbm, 126, rfl⟩
abbrev main_c_13 : Ref sig .tc := ⟨.hbm, 127, rfl⟩
abbrev main_v101 : Ref sig .tc := ⟨.hbm, 128, rfl⟩
abbrev main_v102 : Ref sig .tc := ⟨.hbm, 129, rfl⟩
abbrev main_call6_v0 : Ref sig .tc := ⟨.hbm, 130, rfl⟩
abbrev main_v103 : Ref sig .tc := ⟨.hbm, 131, rfl⟩
abbrev main_call7_v0 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_14 : Ref sig .tc := ⟨.hbm, 138, rfl⟩
abbrev main_call8_v0 : Ref sig .tc := ⟨.hbm, 139, rfl⟩
abbrev main_call8_v1 : Ref sig .tc := ⟨.hbm, 140, rfl⟩
abbrev main_call8_v2 : Ref sig .tc := ⟨.hbm, 141, rfl⟩
abbrev main_v109 : Ref sig .tc := ⟨.hbm, 142, rfl⟩
abbrev main_cst_15 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_16 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_17 : Ref sig .tc := ⟨.hbm, 163, rfl⟩
abbrev main_v128 : Ref sig .tc := ⟨.hbm, 164, rfl⟩
abbrev main_cst_18 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_19 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩

abbrev nD : Nat := 1
abbrev τ : Topo := Topo.v7x

variable {F : FTy → Type} [FloatOps F]
-- ==== Kernel2.lean ====
abbrev S8x4096x2048 : Shape := ⟨3, ![8, 4096, 2048]⟩
abbrev S2048x5120 : Shape := ⟨2, ![2048, 5120]⟩
abbrev S32768x2048 : Shape := ⟨2, ![32768, 2048]⟩
abbrev S32768x5120 : Shape := ⟨2, ![32768, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S2048x5120, .f32⟩
  | .hbm, ⟨2, _⟩ => ⟨S32768x2048, .f32⟩
  | .hbm, ⟨3, _⟩ => ⟨S32768x2048, .bf16⟩
  | .hbm, ⟨4, _⟩ => ⟨S2048x5120, .bf16⟩
  | .hbm, ⟨5, _⟩ => ⟨S32768x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel2Ideal.lean ====
abbrev S8x4096x2048 : Shape := ⟨3, ![8, 4096, 2048]⟩
abbrev S2048x5120 : Shape := ⟨2, ![2048, 5120]⟩
abbrev S32768x2048 : Shape := ⟨2, ![32768, 2048]⟩
abbrev S32768x5120 : Shape := ⟨2, ![32768, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S2048x5120, .f32⟩
  | .hbm, ⟨2, _⟩ => ⟨S32768x2048, .f32⟩
  | .hbm, ⟨3, _⟩ => ⟨S32768x2048, .bf16⟩
  | .hbm, ⟨4, _⟩ => ⟨S2048x5120, .bf16⟩
  | .hbm, ⟨5, _⟩ => ⟨S32768x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x4096x2048 : Shape := ⟨3, ![8, 4096, 2048]⟩
abbrev S2048x5120 : Shape := ⟨2, ![2048, 5120]⟩
abbrev S8x4096x5120 : Shape := ⟨3, ![8, 4096, 5120]⟩
abbrev S32768x5120 : Shape := ⟨2, ![32768, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x5120, .f32⟩
  | .hbm, ⟨2, _⟩ => ⟨S8x4096x5120, .f32⟩
  | .hbm, ⟨3, _⟩ => ⟨S8x4096x5120, .bf16⟩
  | .hbm, ⟨4, _⟩ => ⟨S32768x5120, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S8x4096x2048 : Shape := ⟨3, ![8, 4096, 2048]⟩
abbrev S2048x2048 : Shape := ⟨2, ![2048, 2048]⟩
abbrev S32768x2048 : Shape := ⟨2, ![32768, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S32768x2048, .f32⟩
  | .hbm, ⟨3, _⟩ => ⟨S32768x2048, .bf16⟩
  | .hbm, ⟨4, _⟩ => ⟨S2048x2048, .bf16⟩
  | .hbm, ⟨5, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8x4096x2048 : Shape := ⟨3, ![8, 4096, 2048]⟩
abbrev S2048x2048 : Shape := ⟨2, ![2048, 2048]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S8x4096x2048, .f32⟩
  | .hbm, ⟨3, _⟩ => ⟨S8x4096x2048, .bf16⟩
  | .hbm, ⟨4, _⟩ => ⟨S32768x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .bf16⟩
  | .hbm, ⟨3, _⟩ => ⟨S2048x2048, .bf16⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x2048 : Shape := ⟨2, ![32768, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S8x256x2048 : Shape := ⟨3, ![8, 256, 2048]⟩
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x256x2048, .f32⟩
  | .hbm, ⟨1, _⟩ => ⟨S2048x1024, .f32⟩
  | .hbm, ⟨2, _⟩ => ⟨S2048x2048, .f32⟩
  | .hbm, ⟨3, _⟩ => ⟨S2048x2048, .bf16⟩
  | .hbm, ⟨4, _⟩ => ⟨S2048x1024, .bf16⟩
  | .hbm, ⟨5, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8x256x2048 : Shape := ⟨3, ![8, 256, 2048]⟩
abbrev S2048x1024 : Shape := ⟨2, ![2048, 1024]⟩
abbrev S8x256x1024 : Shape := ⟨3, ![8, 256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048x1024, .f32⟩
  | .hbm, ⟨2, _⟩ => ⟨S8x256x1024, .f32⟩
  | .hbm, ⟨3, _⟩ => ⟨S8x256x1024, .bf16⟩
  | .hbm, ⟨4, _⟩ => ⟨S2048x1024, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S32768x512 : Shape := ⟨2, ![32768, 512]⟩
abbrev S2048x2048 : Shape := ⟨2, ![2048, 2048]⟩
abbrev S32768x2048 : Shape := ⟨2, ![32768, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S2048x2048, .f32⟩
  | .hbm, ⟨5, _⟩ => ⟨S32768x2048, .f32⟩
  | .hbm, ⟨6, _⟩ => ⟨S2048, .f32⟩
  | .hbm, ⟨7, _⟩ => ⟨S2048, .f32⟩
  | .hbm, ⟨8, _⟩ => ⟨S32768x512, .bf16⟩
  | .hbm, ⟨9, _⟩ => ⟨S32768x512, .bf16⟩
  | .hbm, ⟨10, _⟩ => ⟨S32768x512, .bf16⟩
  | .hbm, ⟨11, _⟩ => ⟨S32768x512, .bf16⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S32768x2048, .f32⟩
  | .hbm, ⟨16, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S32768x512 : Shape := ⟨2, ![32768, 512]⟩
abbrev S2048x2048 : Shape := ⟨2, ![2048, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S2048x2048, .f32⟩
  | .hbm, ⟨5, _⟩ => ⟨S32768x2048, .f32⟩
  | .hbm, ⟨6, _⟩ => ⟨S2048, .f32⟩
  | .hbm, ⟨7, _⟩ => ⟨S2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S1x2048, .f32⟩
  | .hbm, ⟨41, _⟩ => ⟨S32768x2048, .f32⟩
  | .hbm, ⟨42, _⟩ => ⟨S32768x2048, .f32⟩
  | .hbm, ⟨43, _⟩ => ⟨S32768x2048, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel7.lean ====
abbrev S32768x1536 : Shape := ⟨2, ![32768, 1536]⟩
abbrev S32768x512 : Shape := ⟨2, ![32768, 512]⟩
abbrev S2048x2048 : Shape := ⟨2, ![2048, 2048]⟩
abbrev S32768x2048 : Shape := ⟨2, ![32768, 2048]⟩
abbrev S2048 : Shape := ⟨1, ![2048]⟩
abbrev S1x2048 : Shape := ⟨2, ![1, 2048]⟩
abbrev S512x1536 : Shape := ⟨2, ![512, 1536]⟩
abbrev S512x512 : Shape := ⟨2, ![512, 512]⟩
abbrev S512x2048 : Shape := ⟨2, ![512, 2048]⟩
abbrev S1536x2048 : Shape := ⟨2, ![1536, 2048]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S32768x1536, .bf16⟩
  | .hbm, ⟨7, _⟩ => ⟨S32768x512, .bf16⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S32768x1536 : Shape := ⟨2, ![32768, 1536]⟩
abbrev S32768x512 : Shape := ⟨2, ![32768, 512]⟩
abbrev S2048x2048 : Shape := ⟨2, ![2048, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel8.lean ====
abbrev S8x4096x5120 : Shape := ⟨3, ![8, 4096, 5120]⟩
abbrev S8x256x1024 : Shape := ⟨3, ![8, 256, 1024]⟩
abbrev S8x4096x512 : Shape := ⟨3, ![8, 4096, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8x4096x5120, .f32⟩
  | .hbm, ⟨1, _⟩ => ⟨S8x256x1024, .f32⟩
  | .hbm, ⟨2, _⟩ => ⟨S8x4096x5120, .bf16⟩
  | .hbm, ⟨3, _⟩ => ⟨S8x256x1024, .bf16⟩
  | .hbm, ⟨4, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .bf16⟩
  | .local _ .vmem, ⟨5, _⟩ => ⟨S1x512x512, .bf16⟩
  | _, _ => ⟨S8x4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8x4096x5120 : Shape := ⟨3, ![8, 4096, 5120]⟩
abbrev S8x256x1024 : Shape := ⟨3, ![8, 256, 1024]⟩
abbrev S8x4096x512 : Shape := ⟨3, ![8, 4096, 512]⟩
abbrev S8x256x512 : Shape := ⟨3, ![8, 256, 512]⟩
abbrev S8x256x4x128 : Shape := ⟨4, ![8, 256, 4, 128]⟩
abbrev S8x4096x4x128 : Shape := ⟨4, ![8, 4096, 4, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x5120, .f32⟩
  | .hbm, ⟨1, _⟩ => ⟨S8x256x1024, .f32⟩
  | .hbm, ⟨2, _⟩ => ⟨S8x4096x512, .f32⟩
  | .hbm, ⟨3, _⟩ => ⟨S8x256x512, .f32⟩
  | .hbm, ⟨4, _⟩ => ⟨S8x256x4x128, .f32⟩
  | .hbm, ⟨5, _⟩ => ⟨S8x256x512, .f32⟩
  | .hbm, ⟨6, _⟩ => ⟨S8x256x4x128, .f32⟩
  | .hbm, ⟨7, _⟩ => ⟨S8x4096x4x128, .f32⟩
  | .hbm, ⟨8, _⟩ => ⟨S8x4x4096x256, .f32⟩
  | .hbm, ⟨9, _⟩ => ⟨S_, .f32⟩
  | .hbm, ⟨10, _⟩ => ⟨S8x4x4096x256, .f32⟩
  | .hbm, ⟨11, _⟩ => ⟨S8x4x4096x256, .f32⟩
  | .hbm, ⟨12, _⟩ => ⟨S_, .f32⟩
  | .hbm, ⟨13, _⟩ => ⟨S8x4x4096, .f32⟩
  | .hbm, ⟨14, _⟩ => ⟨S_, .f32⟩
  | .hbm, ⟨15, _⟩ => ⟨S8x4x4096, .f32⟩
  | .hbm, ⟨16, _⟩ => ⟨S8x4x4096, .f32⟩
  | .hbm, ⟨17, _⟩ => ⟨S8x4x4096x1, .f32⟩
  | .hbm, ⟨18, _⟩ => ⟨S8x4x4096x256, .f32⟩
  | .hbm, ⟨19, _⟩ => ⟨S8x4x4096x256, .f32⟩
  | .hbm, ⟨20, _⟩ => ⟨S8x4x4096x256, .f32⟩
  | .hbm, ⟨21, _⟩ => ⟨S_, .f32⟩
  | .hbm, ⟨22, _⟩ => ⟨S8x4x4096, .f32⟩
  | .hbm, ⟨23, _⟩ => ⟨S8x4x4096x1, .f32⟩
  | .hbm, ⟨24, _⟩ => ⟨S8x4x4096x256, .f32⟩
  | .hbm, ⟨25, _⟩ => ⟨S8x4x4096x256, .f32⟩
  | .hbm, ⟨26, _⟩ => ⟨S8x4x128x4096, .f32⟩
  | .hbm, ⟨27, _⟩ => ⟨S8x4096x4x128, .f32⟩
  | .hbm, ⟨28, _⟩ => ⟨S8x4096x512, .f32⟩
  | .hbm, ⟨29, _⟩ => ⟨S8x4096x512, .bf16⟩
  | _, _ => ⟨S8x4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel9.lean ====
abbrev S16384x2048 : Shape := ⟨2, ![16384, 2048]⟩
abbrev S8x128x32768 : Shape := ⟨3, ![8, 128, 32768]⟩
abbrev S32768x2048 : Shape := ⟨2, ![32768, 2048]⟩
abbrev S2048 : Shape := ⟨1, ![2048]⟩
abbrev S1x2048 : Shape := ⟨2, ![1, 2048]⟩
abbrev S1024x2048 : Shape := ⟨2, ![1024, 2048]⟩
abbrev S8x128x512 : Shape := ⟨3, ![8, 128, 512]⟩
abbrev S512x2048 : Shape := ⟨2, ![512, 2048]⟩
abbrev S2048x512 : Shape := ⟨2, ![2048, 512]⟩
abbrev S512x512 : Shape := ⟨2, ![512, 512]⟩
abbrev S512x256 : Shape := ⟨2, ![512, 256]⟩
abbrev S256x512 : Shape := ⟨2, ![256, 512]⟩
abbrev S2048x256 : Shape := ⟨2, ![2048, 256]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S8x128x32768, .f32⟩
  | .hbm, ⟨3, _⟩ => ⟨S8x128x32768, .f32⟩
  | .hbm, ⟨4, _⟩ => ⟨S8x128x32768, .f32⟩
  | .hbm, ⟨5, _⟩ => ⟨S8x128x32768, .f32⟩
  | .hbm, ⟨6, _⟩ => ⟨S32768x2048, .f32⟩
  | .hbm, ⟨7, _⟩ => ⟨S2048, .f32⟩
  | .hbm, ⟨8, _⟩ => ⟨S2048, .f32⟩
  | .hbm, ⟨9, _⟩ => ⟨S16384x2048, .bf16⟩
  | .hbm, ⟨10, _⟩ => ⟨S16384x2048, .bf16⟩
  | .hbm, ⟨11, _⟩ => ⟨S8x128x32768, .bf16⟩
  | .hbm, ⟨12, _⟩ => ⟨S8x128x32768, .bf16⟩
  | .hbm, ⟨13, _⟩ => ⟨S1x2048, .f32⟩
  | .hbm, ⟨14, _⟩ => ⟨S1x2048, .f32⟩
  | .hbm, ⟨15, _⟩ => ⟨S32768x2048, .f32⟩
  | .hbm, ⟨16, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128x512, .f32⟩
  | .local _ .vmem, ⟨5, _⟩ => ⟨S8x128x512, .f32⟩
  | .local _ .vmem, ⟨6, _⟩ => ⟨S8x128x512, .f32⟩
  | .local _ .vmem, ⟨7, _⟩ => ⟨S8x128x512, .f32⟩
  | .local _ .vmem, ⟨8, _⟩ => ⟨S8x128x512, .bf16⟩
  | .local _ .vmem, ⟨9, _⟩ => ⟨S8x128x512, .bf16⟩
  | .local _ .vmem, ⟨10, _⟩ => ⟨S8x128x512, .bf16⟩
  | .local _ .vmem, ⟨11, _⟩ => ⟨S8x128x512, .bf16⟩
  | .local _ .vmem, ⟨12, _⟩ => ⟨S512x2048, .f32⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | .local _ .vmem, ⟨19, _⟩ => ⟨S2048x512, .bf16⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![64, 17], ![false, false]⟩

def k0_cond3 (i : grid0.Coords) : BitVec 1 :=
  let arg1 : BitVec 32 := BitVec.ofNat 32 (i 1).val
  let c1_i32 : BitVec 32 := 1#32
  let v4 : BitVec 1 := Scalar.cmpi .slt arg1 c1_i32
  let v15 : BitVec 32 := Scalar.extui v4
  let c0_i32_7 : BitVec 32 := 0#32
  let v16 : BitVec 1 := Scalar.cmpi .ne v15 c0_i32_7
  v16

def k0_off1 (i : grid0.Coords) (c0_i32_20 : BitVec 32) : Fin 3 → Nat :=
  let c0_22 : Index := 0#32
  let c2_i32 : BitVec 32 := 2#32
  let arg1 : BitVec 32 := BitVec.ofNat 32 (i 1).val
  let v35 : BitVec 32 := Scalar.muli c2_i32 arg1
  let c1_i32_18 : BitVec 32 := 1#32
  let v36 : BitVec 32 := Scalar.addi v35 c1_i32_18
  let c1_i32_19 : BitVec 32 := 1#32
  let v37 : BitVec 32 := Scalar.subi v36 c1_i32_19
  let c4_i32 : BitVec 32 := 4#32
  let v38 : BitVec 32 := Scalar.muli v37 c4_i32
  let v39 : BitVec 32 := Scalar.addi v38 c0_i32_20
  let v41 : Index := Scalar.indexCast v39
  let c0_23 : Index := 0#32
  ![0, v41.toNat, 0]
def k0_off2 (i : grid0.Coords) (c0_i32_20 : BitVec 32) : Fin 3 → Nat :=
  let c1 : Index := 1#32
  let c2_i32 : BitVec 32 := 2#32
  let arg1 : BitVec 32 := BitVec.ofNat 32 (i 1).val
  let v35 : BitVec 32 := Scalar.muli c2_i32 arg1
  let c1_i32_18 : BitVec 32 := 1#32
  let v36 : BitVec 32 := Scalar.addi v35 c1_i32_18
  let c1_i32_19 : BitVec 32 := 1#32
  let v37 : BitVec 32 := Scalar.subi v36 c1_i32_19
  let c4_i32 : BitVec 32 := 4#32
  let v38 : BitVec 32 := Scalar.muli v37 c4_i32
  let v39 : BitVec 32 := Scalar.addi v38 c0_i32_20
  let v60 : Index := Scalar.indexCast v39
  let c0_33 : Index := 0#32
  ![1, v60.toNat, 0]
def k0_off3 (i : grid0.Coords) (c0_i32_20 : BitVec 32) : Fin 3 → Nat :=
  let c2 : Index := 2#32
  let c2_i32 : BitVec 32 := 2#32
  let arg1 : BitVec 32 := BitVec.ofNat 32 (i 1).val
  let v35 : BitVec 32 := Scalar.muli c2_i32 arg1
  let c1_i32_18 : BitVec 32 := 1#32
  let v36 : BitVec 32 := Scalar.addi v35 c1_i32_18
  let c1_i32_19 : BitVec 32 := 1#32
  let v37 : BitVec 32 := Scalar.subi v36 c1_i32_19
  let c4_i32 : BitVec 32 := 4#32
  let v38 : BitVec 32 := Scalar.muli v37 c4_i32
  let v39 : BitVec 32 := Scalar.addi v38 c0_i32_20
  let v79 : Index := Scalar.indexCast v39
  let c0_43 : Index := 0#32
  ![2, v79.toNat, 0]
def k0_off4 (i : grid0.Coords) (c0_i32_20 : BitVec 32) : Fin 3 → Nat :=
  let c3 : Index := 3#32
  let c2_i32 : BitVec 32 := 2#32
  let arg1 : BitVec 32 := BitVec.ofNat 32 (i 1).val
  let v35 : BitVec 32 := Scalar.muli c2_i32 arg1
  let c1_i32_18 : BitVec 32 := 1#32
  let v36 : BitVec 32 := Scalar.addi v35 c1_i32_18
  let c1_i32_19 : BitVec 32 := 1#32
  let v37 : BitVec 32 := Scalar.subi v36 c1_i32_19
  let c4_i32 : BitVec 32 := 4#32
  let v38 : BitVec 32 := Scalar.muli v37 c4_i32
  let v39 : BitVec 32 := Scalar.addi v38 c0_i32_20
  let v98 : Index := Scalar.indexCast v39
  let c0_53 : Index := 0#32
  ![3, v98.toNat, 0]
def k0_off5 (i : grid0.Coords) (c0_i32_20 : BitVec 32) : Fin 3 → Nat :=
  let c4 : Index := 4#32
  let c2_i32 : BitVec 32 := 2#32
  let arg1 : BitVec 32 := BitVec.ofNat 32 (i 1).val
  let v35 : BitVec 32 := Scalar.muli c2_i32 arg1
  let c1_i32_18 : BitVec 32 := 1#32
  let v36 : BitVec 32 := Scalar.addi v35 c1_i32_18
  let c1_i32_19 : BitVec 32 := 1#32
  let v37 : BitVec 32 := Scalar.subi v36 c1_i32_19
  let c4_i32 : BitVec 32 := 4#32
  let v38 : BitVec 32 := Scalar.muli v37 c4_i32
  let v39 : BitVec 32 := Scalar.addi v38 c0_i32_20
  let v117 : Index := Scalar.indexCast v39
  let c0_63 : Index := 0#32
  ![4, v117.toNat, 0]
def k0_off6 (i : grid0.Coords) (c0_i32_20 : BitVec 32) : Fin 3 → Nat :=
  let c5 : Index := 5#32
  let c2_i32 : BitVec 32 := 2#32
  let arg1 : BitVec 32 := BitVec.ofNat 32 (i 1).val
  let v35 : BitVec 32 := Scalar.muli c2_i32 arg1
  let c1_i32_18 : BitVec 32 := 1#32
  let v36 : BitVec 32 := Scalar.addi v35 c1_i32_18
  let c1_i32_19 : BitVec 32 := 1#32
  let v37 : BitVec 32 := Scalar.subi v36 c1_i32_19
  let c4_i32 : BitVec 32 := 4#32
  let v38 : BitVec 32 := Scalar.muli v37 c4_i32
  let v39 : BitVec 32 := Scalar.addi v38 c0_i32_20
  let v136 : Index := Scalar.indexCast v39
  let c0_73 : Index := 0#32
  ![5, v136.toNat, 0]
def k0_off7 (i : grid0.Coords) (c0_i32_20 : BitVec 32) : Fin 3 → Nat :=
  let c6 : Index := 6#32
  let c2_i32 : BitVec 32 := 2#32
  let arg1 : BitVec 32 := BitVec.ofNat 32 (i 1).val
  let v35 : BitVec 32 := Scalar.muli c2_i32 arg1
  let c1_i32_18 : BitVec 32 := 1#32
  let v36 : BitVec 32 := Scalar.addi v35 c1_i32_18
  let c1_i32_19 : BitVec 32 := 1#32
  let v37 : BitVec 32 := Scalar.subi v36 c1_i32_19
  let c4_i32 : BitVec 32 := 4#32
  let v38 : BitVec 32 := Scalar.muli v37 c4_i32
  let v39 : BitVec 32 := Scalar.addi v38 c0_i32_20
  let v155 : Index := Scalar.indexCast v39
  let c0_83 : Index := 0#32
  ![6, v155.toNat, 0]
def k0_off8 (i : grid0.Coords) (c0_i32_20 : BitVec 32) : Fin 3 → Nat :=
  let c7 : Index := 7#32
  let c2_i32 : BitVec 32 := 2#32
  let arg1 : BitVec 32 := BitVec.ofNat 32 (i 1).val
  let v35 : BitVec 32 := Scalar.muli c2_i32 arg1
  let c1_i32_18 : BitVec 32 := 1#32
  let v36 : BitVec 32 := Scalar.addi v35 c1_i32_18
  let c1_i32_19 : BitVec 32 := 1#32
  let v37 : BitVec 32 := Scalar.subi v36 c1_i32_19
  let c4_i32 : BitVec 32 := 4#32
  let v38 : BitVec 32 := Scalar.muli v37 c4_i32
  let v39 : BitVec 32 := Scalar.addi v38 c0_i32_20
  let v174 : Index := Scalar.indexCast v39
  let c0_93 : Index := 0#32
  ![7, v174.toNat, 0]
def k0_cond4 (i : grid0.Coords) : BitVec 1 :=
  let arg1 : BitVec 32 := BitVec.ofNat 32 (i 1).val
  let c0_i32_2 : BitVec 32 := 0#32
  let v5 : BitVec 1 := Scalar.cmpi .sgt arg1 c0_i32_2
  let c16_i32 : BitVec 32 := 16#32
  let v6 : BitVec 1 := Scalar.cmpi .slt arg1 c16_i32
  let v7 : BitVec 1 := Scalar.andi v5 v6
  let v17 : BitVec 32 := Scalar.extui v7
  let c0_i32_8 : BitVec 32 := 0#32
  let v18 : BitVec 1 := Scalar.cmpi .ne v17 c0_i32_8
  v18

def k0_off9 (i : grid0.Coords) (c0_i32_38 : BitVec 32) : Fin 3 → Nat :=
  let c0_40 : Index := 0#32
  let c2_i32 : BitVec 32 := 2#32
  let arg1 : BitVec 32 := BitVec.ofNat 32 (i 1).val
  let v51 : BitVec 32 := Scalar.muli c2_i32 arg1
  let c0_i32_36 : BitVec 32 := 0#32
  let v52 : BitVec 32 := Scalar.addi v51 c0_i32_36
  let c1_i32_37 : BitVec 32 := 1#32
  let v53 : BitVec 32 := Scalar.subi v52 c1_i32_37
  let c4_i32 : BitVec 32 := 4#32
  let v54 : BitVec 32 := Scalar.muli v53 c4_i32
  let v55 : BitVec 32 := Scalar.addi v54 c0_i32_38
  let v57 : Index := Scalar.indexCast v55
  let c0_41 : Index := 0#32
  ![0, v57.toNat, 0]
def k0_off10 (i : grid0.Coords) (c0_i32_38 : BitVec 32) : Fin 3 → Nat :=
  let c1 : Index := 1#32
  let c2_i32 : BitVec 32 := 2#32
  let arg1 : BitVec 32 := BitVec.ofNat 32 (i 1).val
  let v51 : BitVec 32 := Scalar.muli c2_i32 arg1
  let c0_i32_36 : BitVec 32 := 0#32
  let v52 : BitVec 32 := Scalar.addi v51 c0_i32_36
  let c1_i32_37 : BitVec 32 := 1#32
  let v53 : BitVec 32 := Scalar.subi v52 c1_i32_37
  let c4_i32 : BitVec 32 := 4#32
  let v54 : BitVec 32 := Scalar.muli v53 c4_i32
  let v55 : BitVec 32 := Scalar.addi v54 c0_i32_38
  let v76 : Index := Scalar.indexCast v55
  let c0_51 : Index := 0#32
  ![1, v76.toNat, 0]
def k0_off11 (i : grid0.Coords) (c0_i32_38 : BitVec 32) : Fin 3 → Nat :=
  let c2 : Index := 2#32
  let c2_i32 : BitVec 32 := 2#32
  let arg1 : BitVec 32 := BitVec.ofNat 32 (i 1).val
  let v51 : BitVec 32 := Scalar.muli c2_i32 arg1
  let c0_i32_36 : BitVec 32 := 0#32
  let v52 : BitVec 32 := Scalar.addi v51 c0_i32_36
  let c1_i32_37 : BitVec 32 := 1#32
  let v53 : BitVec 32 := Scalar.subi v52 c1_i32_37
  let c4_i32 : BitVec 32 := 4#32
  let v54 : BitVec 32 := Scalar.muli v53 c4_i32
  let v55 : BitVec 32 := Scalar.addi v54 c0_i32_38
  let v95 : Index := Scalar.indexCast v55
  let c0_61 : Index := 0#32
  ![2, v95.toNat, 0]
def k0_off12 (i : grid0.Coords) (c0_i32_38 : BitVec 32) : Fin 3 → Nat :=
  let c3 : Index := 3#32
  let c2_i32 : BitVec 32 := 2#32
  let arg1 : BitVec 32 := BitVec.ofNat 32 (i 1).val
  let v51 : BitVec 32 := Scalar.muli c2_i32 arg1
  let c0_i32_36 : BitVec 32 := 0#32
  let v52 : BitVec 32 := Scalar.addi v51 c0_i32_36
  let c1_i32_37 : BitVec 32 := 1#32
  let v53 : BitVec 32 := Scalar.subi v52 c1_i32_37
  let c4_i32 : BitVec 32 := 4#32
  let v54 : BitVec 32 := Scalar.muli v53 c4_i32
  let v55 : BitVec 32 := Scalar.addi v54 c0_i32_38
  let v114 : Index := Scalar.indexCast v55
  let c0_71 : Index := 0#32
  ![3, v114.toNat, 0]
def k0_off13 (i : grid0.Coords) (c0_i32_38 : BitVec 32) : Fin 3 → Nat :=
  let c4 : Index := 4#32
  let c2_i32 : BitVec 32 := 2#32
  let arg1 : BitVec 32 := BitVec.ofNat 32 (i 1).val
  let v51 : BitVec 32 := Scalar.muli c2_i32 arg1
  let c0_i32_36 : BitVec 32 := 0#32
  let v52 : BitVec 32 := Scalar.addi v51 c0_i32_36
  let c1_i32_37 : BitVec 32 := 1#32
  let v53 : BitVec 32 := Scalar.subi v52 c1_i32_37
  let c4_i32 : BitVec 32 := 4#32
  let v54 : BitVec 32 := Scalar.muli v53 c4_i32
  let v55 : BitVec 32 := Scalar.addi v54 c0_i32_38
  let v133 : Index := Scalar.indexCast v55
  let c0_81 : Index := 0#32
  ![4, v133.toNat, 0]
def k0_off14 (i : grid0.Coords) (c0_i32_38 : BitVec 32) : Fin 3 → Nat :=
  let c5 : Index := 5#32
  let c2_i32 : BitVec 32 := 2#32
  let arg1 : BitVec 32 := BitVec.ofNat 32 (i 1).val
  let v51 : BitVec 32 := Scalar.muli c2_i32 arg1
  let c0_i32_36 : BitVec 32 := 0#32
  let v52 : BitVec 32 := Scalar.addi v51 c0_i32_36
  let c1_i32_37 : BitVec 32 := 1#32
  let v53 : BitVec 32 := Scalar.subi v52 c1_i32_37
  let c4_i32 : BitVec 32 := 4#32
  let v54 : BitVec 32 := Scalar.muli v53 c4_i32
  let v55 : BitVec 32 := Scalar.addi v54 c0_i32_38
  let v152 : Index := Scalar.indexCast v55
  let c0_91 : Index := 0#32
  ![5, v152.toNat, 0]
def k0_off15 (i : grid0.Coords) (c0_i32_38 : BitVec 32) : Fin 3 → Nat :=
  let c6 : Index := 6#32
  let c2_i32 : BitVec 32 := 2#32
  let arg1 : BitVec 32 := BitVec.ofNat 32 (i 1).val
  let v51 : BitVec 32 := Scalar.muli c2_i32 arg1
  let c0_i32_36 : BitVec 32 := 0#32
  let v52 : BitVec 32 := Scalar.addi v51 c0_i32_36
  let c1_i32_37 : BitVec 32 := 1#32
  let v53 : BitVec 32 := Scalar.subi v52 c1_i32_37
  let c4_i32 : BitVec 32 := 4#32
  let v54 : BitVec 32 := Scalar.muli v53 c4_i32
  let v55 : BitVec 32 := Scalar.addi v54 c0_i32_38
  let v171 : Index := Scalar.indexCast v55
  let c0_101 : Index := 0#32
  ![6, v171.toNat, 0]
def k0_off16 (i : grid0.Coords) (c0_i32_38 : BitVec 32) : Fin 3 → Nat :=
  let c7 : Index := 7#32
  let c2_i32 : BitVec 32 := 2#32
  let arg1 : BitVec 32 := BitVec.ofNat 32 (i 1).val
  let v51 : BitVec 32 := Scalar.muli c2_i32 arg1
  let c0_i32_36 : BitVec 32 := 0#32
  let v52 : BitVec 32 := Scalar.addi v51 c0_i32_36
  let c1_i32_37 : BitVec 32 := 1#32
  let v53 : BitVec 32 := Scalar.subi v52 c1_i32_37
  let c4_i32 : BitVec 32 := 4#32
  let v54 : BitVec 32 := Scalar.muli v53 c4_i32
  let v55 : BitVec 32 := Scalar.addi v54 c0_i32_38
  let v190 : Index := Scalar.indexCast v55
  let c0_111 : Index := 0#32
  ![7, v190.toNat, 0]
def k0_cond5 (i : grid0.Coords) : BitVec 1 :=
  let arg1 : BitVec 32 := BitVec.ofNat 32 (i 1).val
  let c1_i32_3 : BitVec 32 := 1#32
  let v8 : BitVec 1 := Scalar.cmpi .sge arg1 c1_i32_3
  let c15_i32 : BitVec 32 := 15#32
  let v9 : BitVec 1 := Scalar.cmpi .sle arg1 c15_i32
  let v10 : BitVec 1 := Scalar.andi v8 v9
  let v19 : BitVec 32 := Scalar.extui v10
  let c0_i32_9 : BitVec 32 := 0#32
  let v20 : BitVec 1 := Scalar.cmpi .ne v19 c0_i32_9
  v20

def k0_off17 (i : grid0.Coords) (c0_i32_37 : BitVec 32) : Fin 3 → Nat :=
  let c0_39 : Index := 0#32
  let c2_i32 : BitVec 32 := 2#32
  let arg1 : BitVec 32 := BitVec.ofNat 32 (i 1).val
  let v51 : BitVec 32 := Scalar.muli c2_i32 arg1
  let c1_i32_35 : BitVec 32 := 1#32
  let v52 : BitVec 32 := Scalar.addi v51 c1_i32_35
  let c1_i32_36 : BitVec 32 := 1#32
  let v53 : BitVec 32 := Scalar.subi v52 c1_i32_36
  let c4_i32 : BitVec 32 := 4#32
  let v54 : BitVec 32 := Scalar.muli v53 c4_i32
  let v55 : BitVec 32 := Scalar.addi v54 c0_i32_37
  let v57 : Index := Scalar.indexCast v55
  let c0_40 : Index := 0#32
  ![0, v57.toNat, 0]
def k0_off18 (i : grid0.Coords) (c0_i32_37 : BitVec 32) : Fin 3 → Nat :=
  let c1 : Index := 1#32
  let c2_i32 : BitVec 32 := 2#32
  let arg1 : BitVec 32 := BitVec.ofNat 32 (i 1).val
  let v51 : BitVec 32 := Scalar.muli c2_i32 arg1
  let c1_i32_35 : BitVec 32 := 1#32
  let v52 : BitVec 32 := Scalar.addi v51 c1_i32_35
  let c1_i32_36 : BitVec 32 := 1#32
  let v53 : BitVec 32 := Scalar.subi v52 c1_i32_36
  let c4_i32 : BitVec 32 := 4#32
  let v54 : BitVec 32 := Scalar.muli v53 c4_i32
  let v55 : BitVec 32 := Scalar.addi v54 c0_i32_37
  let v76 : Index := Scalar.indexCast v55
  let c0_50 : Index := 0#32
  ![1, v76.toNat, 0]
def k0_off19 (i : grid0.Coords) (c0_i32_37 : BitVec 32) : Fin 3 → Nat :=
  let c2 : Index := 2#32
  let c2_i32 : BitVec 32 := 2#32
  let arg1 : BitVec 32 := BitVec.ofNat 32 (i 1).val
  let v51 : BitVec 32 := Scalar.muli c2_i32 arg1
  let c1_i32_35 : BitVec 32 := 1#32
  let v52 : BitVec 32 := Scalar.addi v51 c1_i32_35
  let c1_i32_36 : BitVec 32 := 1#32
  let v53 : BitVec 32 := Scalar.subi v52 c1_i32_36
  let c4_i32 : BitVec 32 := 4#32
  let v54 : BitVec 32 := Scalar.muli v53 c4_i32
  let v55 : BitVec 32 := Scalar.addi v54 c0_i32_37
  let v95 : Index := Scalar.indexCast v55
  let c0_60 : Index := 0#32
  ![2, v95.toNat, 0]
def k0_off20 (i : grid0.Coords) (c0_i32_37 : BitVec 32) : Fin 3 → Nat :=
  let c3 : Index := 3#32
  let c2_i32 : BitVec 32 := 2#32
  let arg1 : BitVec 32 := BitVec.ofNat 32 (i 1).val
  let v51 : BitVec 32 := Scalar.muli c2_i32 arg1
  let c1_i32_35 : BitVec 32 := 1#32
  let v52 : BitVec 32 := Scalar.addi v51 c1_i32_35
  let c1_i32_36 : BitVec 32 := 1#32
  let v53 : BitVec 32 := Scalar.subi v52 c1_i32_36
  let c4_i32 : BitVec 32 := 4#32
  let v54 : BitVec 32 := Scalar.muli v53 c4_i32
  let v55 : BitVec 32 := Scalar.addi v54 c0_i32_37
  let v114 : Index := Scalar.indexCast v55
  let c0_70 : Index := 0#32
  ![3, v114.toNat, 0]
def k0_off21 (i : grid0.Coords) (c0_i32_37 : BitVec 32) : Fin 3 → Nat :=
  let c4 : Index := 4#32
  let c2_i32 : BitVec 32 := 2#32
  let arg1 : BitVec 32 := BitVec.ofNat 32 (i 1).val
  let v51 : BitVec 32 := Scalar.muli c2_i32 arg1
  let c1_i32_35 : BitVec 32 := 1#32
  let v52 : BitVec 32 := Scalar.addi v51 c1_i32_35
  let c1_i32_36 : BitVec 32 := 1#32
  let v53 : BitVec 32 := Scalar.subi v52 c1_i32_36
  let c4_i32 : BitVec 32 := 4#32
  let v54 : BitVec 32 := Scalar.muli v53 c4_i32
  let v55 : BitVec 32 := Scalar.addi v54 c0_i32_37
  let v133 : Index := Scalar.indexCast v55
  let c0_80 : Index := 0#32
  ![4, v133.toNat, 0]
def k0_off22 (i : grid0.Coords) (c0_i32_37 : BitVec 32) : Fin 3 → Nat :=
  let c5 : Index := 5#32
  let c2_i32 : BitVec 32 := 2#32
  let arg1 : BitVec 32 := BitVec.ofNat 32 (i 1).val
  let v51 : BitVec 32 := Scalar.muli c2_i32 arg1
  let c1_i32_35 : BitVec 32 := 1#32
  let v52 : BitVec 32 := Scalar.addi v51 c1_i32_35
  let c1_i32_36 : BitVec 32 := 1#32
  let v53 : BitVec 32 := Scalar.subi v52 c1_i32_36
  let c4_i32 : BitVec 32 := 4#32
  let v54 : BitVec 32 := Scalar.muli v53 c4_i32
  let v55 : BitVec 32 := Scalar.addi v54 c0_i32_37
  let v152 : Index := Scalar.indexCast v55
  let c0_90 : Index := 0#32
  ![5, v152.toNat, 0]
def k0_off23 (i : grid0.Coords) (c0_i32_37 : BitVec 32) : Fin 3 → Nat :=
  let c6 : Index := 6#32
  let c2_i32 : BitVec 32 := 2#32
  let arg1 : BitVec 32 := BitVec.ofNat 32 (i 1).val
  let v51 : BitVec 32 := Scalar.muli c2_i32 arg1
  let c1_i32_35 : BitVec 32 := 1#32
  let v52 : BitVec 32 := Scalar.addi v51 c1_i32_35
  let c1_i32_36 : BitVec 32 := 1#32
  let v53 : BitVec 32 := Scalar.subi v52 c1_i32_36
  let c4_i32 : BitVec 32 := 4#32
  let v54 : BitVec 32 := Scalar.muli v53 c4_i32
  let v55 : BitVec 32 := Scalar.addi v54 c0_i32_37
  let v171 : Index := Scalar.indexCast v55
  let c0_100 : Index := 0#32
  ![6, v171.toNat, 0]
def k0_off24 (i : grid0.Coords) (c0_i32_37 : BitVec 32) : Fin 3 → Nat :=
  let c7 : Index := 7#32
  let c2_i32 : BitVec 32 := 2#32
  let arg1 : BitVec 32 := BitVec.ofNat 32 (i 1).val
  let v51 : BitVec 32 := Scalar.muli c2_i32 arg1
  let c1_i32_35 : BitVec 32 := 1#32
  let v52 : BitVec 32 := Scalar.addi v51 c1_i32_35
  let c1_i32_36 : BitVec 32 := 1#32
  let v53 : BitVec 32 := Scalar.subi v52 c1_i32_36
  let c4_i32 : BitVec 32 := 4#32
  let v54 : BitVec 32 := Scalar.muli v53 c4_i32
  let v55 : BitVec 32 := Scalar.addi v54 c0_i32_37
  let v190 : Index := Scalar.indexCast v55
  let c0_110 : Index := 0#32
  ![7, v190.toNat, 0]
def k0_cond6 (i : grid0.Coords) : BitVec 1 :=
  let arg1 : BitVec 32 := BitVec.ofNat 32 (i 1).val
  let c16_i32_4 : BitVec 32 := 16#32
  let v11 : BitVec 1 := Scalar.cmpi .eq arg1 c16_i32_4
  let v21 : BitVec 32 := Scalar.extui v11
  let c0_i32_10 : BitVec 32 := 0#32
  let v22 : BitVec 1 := Scalar.cmpi .ne v21 c0_i32_10
  v22

def k0_off25 (i : grid0.Coords) (c0_i32_31 : BitVec 32) : Fin 3 → Nat :=
  let c0_33 : Index := 0#32
  let c2_i32 : BitVec 32 := 2#32
  let arg1 : BitVec 32 := BitVec.ofNat 32 (i 1).val
  let v44 : BitVec 32 := Scalar.muli c2_i32 arg1
  let c0_i32_29 : BitVec 32 := 0#32
  let v45 : BitVec 32 := Scalar.addi v44 c0_i32_29
  let c1_i32_30 : BitVec 32 := 1#32
  let v46 : BitVec 32 := Scalar.subi v45 c1_i32_30
  let c4_i32 : BitVec 32 := 4#32
  let v47 : BitVec 32 := Scalar.muli v46 c4_i32
  let v48 : BitVec 32 := Scalar.addi v47 c0_i32_31
  let v50 : Index := Scalar.indexCast v48
  let c0_34 : Index := 0#32
  ![0, v50.toNat, 0]
def k0_off26 (i : grid0.Coords) (c0_i32_31 : BitVec 32) : Fin 3 → Nat :=
  let c1 : Index := 1#32
  let c2_i32 : BitVec 32 := 2#32
  let arg1 : BitVec 32 := BitVec.ofNat 32 (i 1).val
  let v44 : BitVec 32 := Scalar.muli c2_i32 arg1
  let c0_i32_29 : BitVec 32 := 0#32
  let v45 : BitVec 32 := Scalar.addi v44 c0_i32_29
  let c1_i32_30 : BitVec 32 := 1#32
  let v46 : BitVec 32 := Scalar.subi v45 c1_i32_30
  let c4_i32 : BitVec 32 := 4#32
  let v47 : BitVec 32 := Scalar.muli v46 c4_i32
  let v48 : BitVec 32 := Scalar.addi v47 c0_i32_31
  let v69 : Index := Scalar.indexCast v48
  let c0_44 : Index := 0#32
  ![1, v69.toNat, 0]
def k0_off27 (i : grid0.Coords) (c0_i32_31 : BitVec 32) : Fin 3 → Nat :=
  let c2 : Index := 2#32
  let c2_i32 : BitVec 32 := 2#32
  let arg1 : BitVec 32 := BitVec.ofNat 32 (i 1).val
  let v44 : BitVec 32 := Scalar.muli c2_i32 arg1
  let c0_i32_29 : BitVec 32 := 0#32
  let v45 : BitVec 32 := Scalar.addi v44 c0_i32_29
  let c1_i32_30 : BitVec 32 := 1#32
  let v46 : BitVec 32 := Scalar.subi v45 c1_i32_30
  let c4_i32 : BitVec 32 := 4#32
  let v47 : BitVec 32 := Scalar.muli v46 c4_i32
  let v48 : BitVec 32 := Scalar.addi v47 c0_i32_31
  let v88 : Index := Scalar.indexCast v48
  let c0_54 : Index := 0#32
  ![2, v88.toNat, 0]
def k0_off28 (i : grid0.Coords) (c0_i32_31 : BitVec 32) : Fin 3 → Nat :=
  let c3 : Index := 3#32
  let c2_i32 : BitVec 32 := 2#32
  let arg1 : BitVec 32 := BitVec.ofNat 32 (i 1).val
  let v44 : BitVec 32 := Scalar.muli c2_i32 arg1
  let c0_i32_29 : BitVec 32 := 0#32
  let v45 : BitVec 32 := Scalar.addi v44 c0_i32_29
  let c1_i32_30 : BitVec 32 := 1#32
  let v46 : BitVec 32 := Scalar.subi v45 c1_i32_30
  let c4_i32 : BitVec 32 := 4#32
  let v47 : BitVec 32 := Scalar.muli v46 c4_i32
  let v48 : BitVec 32 := Scalar.addi v47 c0_i32_31
  let v107 : Index := Scalar.indexCast v48
  let c0_64 : Index := 0#32
  ![3, v107.toNat, 0]
def k0_off29 (i : grid0.Coords) (c0_i32_31 : BitVec 32) : Fin 3 → Nat :=
  let c4 : Index := 4#32
  let c2_i32 : BitVec 32 := 2#32
  let arg1 : BitVec 32 := BitVec.ofNat 32 (i 1).val
  let v44 : BitVec 32 := Scalar.muli c2_i32 arg1
  let c0_i32_29 : BitVec 32 := 0#32
  let v45 : BitVec 32 := Scalar.addi v44 c0_i32_29
  let c1_i32_30 : BitVec 32 := 1#32
  let v46 : BitVec 32 := Scalar.subi v45 c1_i32_30
  let c4_i32 : BitVec 32 := 4#32
  let v47 : BitVec 32 := Scalar.muli v46 c4_i32
  let v48 : BitVec 32 := Scalar.addi v47 c0_i32_31
  let v126 : Index := Scalar.indexCast v48
  let c0_74 : Index := 0#32
  ![4, v126.toNat, 0]
def k0_off30 (i : grid0.Coords) (c0_i32_31 : BitVec 32) : Fin 3 → Nat :=
  let c5 : Index := 5#32
  let c2_i32 : BitVec 32 := 2#32
  let arg1 : BitVec 32 := BitVec.ofNat 32 (i 1).val
  let v44 : BitVec 32 := Scalar.muli c2_i32 arg1
  let c0_i32_29 : BitVec 32 := 0#32
  let v45 : BitVec 32 := Scalar.addi v44 c0_i32_29
  let c1_i32_30 : BitVec 32 := 1#32
  let v46 : BitVec 32 := Scalar.subi v45 c1_i32_30
  let c4_i32 : BitVec 32 := 4#32
  let v47 : BitVec 32 := Scalar.muli v46 c4_i32
  let v48 : BitVec 32 := Scalar.addi v47 c0_i32_31
  let v145 : Index := Scalar.indexCast v48
  let c0_84 : Index := 0#32
  ![5, v145.toNat, 0]
def k0_off31 (i : grid0.Coords) (c0_i32_31 : BitVec 32) : Fin 3 → Nat :=
  let c6 : Index := 6#32
  let c2_i32 : BitVec 32 := 2#32
  let arg1 : BitVec 32 := BitVec.ofNat 32 (i 1).val
  let v44 : BitVec 32 := Scalar.muli c2_i32 arg1
  let c0_i32_29 : BitVec 32 := 0#32
  let v45 : BitVec 32 := Scalar.addi v44 c0_i32_29
  let c1_i32_30 : BitVec 32 := 1#32
  let v46 : BitVec 32 := Scalar.subi v45 c1_i32_30
  let c4_i32 : BitVec 32 := 4#32
  let v47 : BitVec 32 := Scalar.muli v46 c4_i32
  let v48 : BitVec 32 := Scalar.addi v47 c0_i32_31
  let v164 : Index := Scalar.indexCast v48
  let c0_94 : Index := 0#32
  ![6, v164.toNat, 0]
def k0_off32 (i : grid0.Coords) (c0_i32_31 : BitVec 32) : Fin 3 → Nat :=
  let c7 : Index := 7#32
  let c2_i32 : BitVec 32 := 2#32
  let arg1 : BitVec 32 := BitVec.ofNat 32 (i 1).val
  let v44 : BitVec 32 := Scalar.muli c2_i32 arg1
  let c0_i32_29 : BitVec 32 := 0#32
  let v45 : BitVec 32 := Scalar.addi v44 c0_i32_29
  let c1_i32_30 : BitVec 32 := 1#32
  let v46 : BitVec 32 := Scalar.subi v45 c1_i32_30
  let c4_i32 : BitVec 32 := 4#32
  let v47 : BitVec 32 := Scalar.muli v46 c4_i32
  let v48 : BitVec 32 := Scalar.addi v47 c0_i32_31
  let v183 : Index := Scalar.indexCast v48
  let c0_104 : Index := 0#32
  ![7, v183.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond7 (i : grid0.Coords) : BitVec 1 :=
  let arg1 : BitVec 32 := BitVec.ofNat 32 (i 1).val
  let c15_i32_5 : BitVec 32 := 15#32
  let v12 : BitVec 1 := Scalar.cmpi .sgt arg1 c15_i32_5
  let v23 : BitVec 32 := Scalar.extui v12
  let c0_i32_11 : BitVec 32 := 0#32
  let v24 : BitVec 1 := Scalar.cmpi .ne v23 c0_i32_11
  v24

def k0_cond8 (i : grid0.Coords) : BitVec 1 :=
  let arg1 : BitVec 32 := BitVec.ofNat 32 (i 1).val
  let c16_i32_12 : BitVec 32 := 16#32
  let v25 : BitVec 1 := Scalar.cmpi .eq arg1 c16_i32_12
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Kernel9Ideal.lean ====
variable {F : FTy → Type} [FloatOps F] [Named F]
def κ : String → Option EReal := fun
  | "rsqrt2" => some (((Real.sqrt 2)⁻¹ : ℝ) : EReal)
  | _ => none
-- ==== Reference9Ideal.lean ====
abbrev S16384x2048 : Shape := ⟨2, ![16384, 2048]⟩
abbrev S8x128x32768 : Shape := ⟨3, ![8, 128, 32768]⟩
abbrev S32768x2048 : Shape := ⟨2, ![32768, 2048]⟩
abbrev S2048 : Shape := ⟨1, ![2048]⟩
abbrev S8x1x128x32768 : Shape := ⟨4, ![8, 1, 128, 32768]⟩
abbrev S8x128x1x32768 : Shape := ⟨4, ![8, 128, 1, 32768]⟩
abbrev S8x128x128x32768 : Shape := ⟨4, ![8, 128, 128, 32768]⟩
abbrev S_ : Shape := ⟨0, ![]⟩
abbrev S128x128x32768 : Shape := ⟨3, ![128, 128, 32768]⟩
abbrev S16384x32768 : Shape := ⟨2, ![16384, 32768]⟩
abbrev S32768 : Shape := ⟨1, ![32768]⟩
abbrev S32768x1 : Shape := ⟨2, ![32768, 1]⟩
abbrev S1x2048 : Shape := ⟨2, ![1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S8x128x32768, .f32⟩
  | .hbm, ⟨3, _⟩ => ⟨S8x128x32768, .f32⟩
  | .hbm, ⟨4, _⟩ => ⟨S8x128x32768, .f32⟩
  | .hbm, ⟨5, _⟩ => ⟨S8x128x32768, .f32⟩
  | .hbm, ⟨6, _⟩ => ⟨S32768x2048, .f32⟩
  | .hbm, ⟨7, _⟩ => ⟨S2048, .f32⟩
  | .hbm, ⟨8, _⟩ => ⟨S2048, .f32⟩
  | .hbm, ⟨9, _⟩ => ⟨S8x1x128x32768, .f32⟩
  | .hbm, ⟨10, _⟩ => ⟨S8x128x1x32768, .f32⟩
  | .hbm, ⟨11, _⟩ => ⟨S8x128x128x32768, .f32⟩
  | .hbm, ⟨12, _⟩ => ⟨S8x128x128x32768, .f32⟩
  | .hbm, ⟨13, _⟩ => ⟨S8x128x128x32768, .i1⟩
  | .hbm, ⟨14, _⟩ => ⟨S8x128x1x32768, .f32⟩
  | .hbm, ⟨15, _⟩ => ⟨S8x1x128x32768, .f32⟩
  | .hbm, ⟨16, _⟩ => ⟨S8x128x128x32768, .f32⟩
  | .hbm, ⟨17, _⟩ => ⟨S8x128x128x32768, .f32⟩
  | .hbm, ⟨18, _⟩ => ⟨S8x128x128x32768, .f32⟩
  | .hbm, ⟨19, _⟩ => ⟨S_, .f32⟩
  | .hbm, ⟨20, _⟩ => ⟨S_, .f32⟩
  | .hbm, ⟨21, _⟩ => ⟨S8x128x128x32768, .f32⟩
  | .hbm, ⟨22, _⟩ => ⟨S8x128x128x32768, .f32⟩
  | .hbm, ⟨23, _⟩ => ⟨S_, .f32⟩
  | .hbm, ⟨24, _⟩ => ⟨S128x128x32768, .f32⟩
  | .hbm, ⟨25, _⟩ => ⟨S16384x32768, .f32⟩
  | .hbm, ⟨26, _⟩ => ⟨S_, .f32⟩
  | .hbm, ⟨27, _⟩ => ⟨S16384x32768, .f32⟩
  | .hbm, ⟨28, _⟩ => ⟨S16384x32768, .f32⟩
  | .hbm, ⟨29, _⟩ => ⟨S_, .f32⟩
  | .hbm, ⟨30, _⟩ => ⟨S_, .f32⟩
  | .hbm, ⟨31, _⟩ => ⟨S16384x32768, .f32⟩
  | .hbm, ⟨32, _⟩ => ⟨S16384x32768, .f32⟩
  | .hbm, ⟨33, _⟩ => ⟨S16384x32768, .f32⟩
  | .hbm, ⟨34, _⟩ => ⟨S_, .f32⟩
  | .hbm, ⟨35, _⟩ => ⟨S16384x32768, .f32⟩
  | .hbm, ⟨36, _⟩ => ⟨S16384x32768, .f32⟩
  | .hbm, ⟨37, _⟩ => ⟨S16384x32768, .f32⟩
  | .hbm, ⟨38, _⟩ => ⟨S16384x32768, .f32⟩
  | .hbm, ⟨39, _⟩ => ⟨S16384x32768, .f32⟩
  | .hbm, ⟨40, _⟩ => ⟨S32768x2048, .f32⟩
  | .hbm, ⟨41, _⟩ => ⟨S_, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x2048, .f32⟩
  | .hbm, ⟨52, _⟩ => ⟨S32768x2048, .f32⟩
  | .hbm, ⟨53, _⟩ => ⟨S32768x2048, .f32⟩
  | .hbm, ⟨54, _⟩ => ⟨S_, .f32⟩
  | .hbm, ⟨55, _⟩ => ⟨S32768, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x2048, .f32⟩
  | .hbm, ⟨61, _⟩ => ⟨S32768x2048, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x2048, .f32⟩
  | .hbm, ⟨67, _⟩ => ⟨S32768x2048, .f32⟩
  | .hbm, ⟨68, _⟩ => ⟨S1x2048, .f32⟩
  | .hbm, ⟨69, _⟩ => ⟨S32768x2048, .f32⟩
  | .hbm, ⟨70, _⟩ => ⟨S32768x2048, .f32⟩
  | .hbm, ⟨71, _⟩ => ⟨S1x2048, .f32⟩
  | .hbm, ⟨72, _⟩ => ⟨S32768x2048, .f32⟩
  | .hbm, ⟨73, _⟩ => ⟨S32768x2048, .f32⟩
  | .hbm, ⟨74, _⟩ => ⟨S32768x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel10.lean ====
abbrev S8x4096x2048 : Shape := ⟨3, ![8, 4096, 2048]⟩
abbrev S8x256x1024 : Shape := ⟨3, ![8, 256, 1024]⟩
abbrev S8x4096x512 : Shape := ⟨3, ![8, 4096, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S8x256x1024, .f32⟩
  | .hbm, ⟨2, _⟩ => ⟨S8x4096x2048, .bf16⟩
  | .hbm, ⟨3, _⟩ => ⟨S8x256x1024, .bf16⟩
  | .hbm, ⟨4, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .bf16⟩
  | .local _ .vmem, ⟨5, _⟩ => ⟨S1x512x512, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8x4096x2048 : Shape := ⟨3, ![8, 4096, 2048]⟩
abbrev S8x256x1024 : Shape := ⟨3, ![8, 256, 1024]⟩
abbrev S8x4096x512 : Shape := ⟨3, ![8, 4096, 512]⟩
abbrev S8x256x512 : Shape := ⟨3, ![8, 256, 512]⟩
abbrev S8x256x4x128 : Shape := ⟨4, ![8, 256, 4, 128]⟩
abbrev S8x4096x4x128 : Shape := ⟨4, ![8, 4096, 4, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x256x1024, .f32⟩
  | .hbm, ⟨2, _⟩ => ⟨S8x4096x512, .f32⟩
  | .hbm, ⟨3, _⟩ => ⟨S8x256x512, .f32⟩
  | .hbm, ⟨4, _⟩ => ⟨S8x256x4x128, .f32⟩
  | .hbm, ⟨5, _⟩ => ⟨S8x256x512, .f32⟩
  | .hbm, ⟨6, _⟩ => ⟨S8x256x4x128, .f32⟩
  | .hbm, ⟨7, _⟩ => ⟨S8x4096x4x128, .f32⟩
  | .hbm, ⟨8, _⟩ => ⟨S8x4x4096x256, .f32⟩
  | .hbm, ⟨9, _⟩ => ⟨S_, .f32⟩
  | .hbm, ⟨10, _⟩ => ⟨S8x4x4096x256, .f32⟩
  | .hbm, ⟨11, _⟩ => ⟨S8x4x4096x256, .f32⟩
  | .hbm, ⟨12, _⟩ => ⟨S_, .f32⟩
  | .hbm, ⟨13, _⟩ => ⟨S8x4x4096, .f32⟩
  | .hbm, ⟨14, _⟩ => ⟨S_, .f32⟩
  | .hbm, ⟨15, _⟩ => ⟨S8x4x4096, .f32⟩
  | .hbm, ⟨16, _⟩ => ⟨S8x4x4096, .f32⟩
  | .hbm, ⟨17, _⟩ => ⟨S8x4x4096x1, .f32⟩
  | .hbm, ⟨18, _⟩ => ⟨S8x4x4096x256, .f32⟩
  | .hbm, ⟨19, _⟩ => ⟨S8x4x4096x256, .f32⟩
  | .hbm, ⟨20, _⟩ => ⟨S8x4x4096x256, .f32⟩
  | .hbm, ⟨21, _⟩ => ⟨S_, .f32⟩
  | .hbm, ⟨22, _⟩ => ⟨S8x4x4096, .f32⟩
  | .hbm, ⟨23, _⟩ => ⟨S8x4x4096x1, .f32⟩
  | .hbm, ⟨24, _⟩ => ⟨S8x4x4096x256, .f32⟩
  | .hbm, ⟨25, _⟩ => ⟨S8x4x4096x256, .f32⟩
  | .hbm, ⟨26, _⟩ => ⟨S8x4x128x4096, .f32⟩
  | .hbm, ⟨27, _⟩ => ⟨S8x4096x4x128, .f32⟩
  | .hbm, ⟨28, _⟩ => ⟨S8x4096x512, .f32⟩
  | .hbm, ⟨29, _⟩ => ⟨S8x4096x512, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel11.lean ====
abbrev S8x4096x2048 : Shape := ⟨3, ![8, 4096, 2048]⟩
abbrev S4x384x384 : Shape := ⟨3, ![4, 384, 384]⟩
abbrev S1536 : Shape := ⟨1, ![1536]⟩
abbrev S1x1536 : Shape := ⟨2, ![1, 1536]⟩
abbrev S8x4096x1536 : Shape := ⟨3, ![8, 4096, 1536]⟩
abbrev S1x1024x1536 : Shape := ⟨3, ![1, 1024, 1536]⟩
abbrev S1x16x1536 : Shape := ⟨3, ![1, 16, 1536]⟩
abbrev S1040x1536 : Shape := ⟨2, ![1040, 1536]⟩
abbrev S1024x1536 : Shape := ⟨2, ![1024, 1536]⟩
abbrev S16x1536 : Shape := ⟨2, ![16, 1536]⟩
abbrev S256x384 : Shape := ⟨2, ![256, 384]⟩
abbrev S256x1 : Shape := ⟨2, ![256, 1]⟩
abbrev S1x384x384 : Shape := ⟨3, ![1, 384, 384]⟩
abbrev S384x384 : Shape := ⟨2, ![384, 384]⟩
abbrev S1x384 : Shape := ⟨2, ![1, 384]⟩
abbrev S1x256x384 : Shape := ⟨3, ![1, 256, 384]⟩

abbrev nBuf : Space → Nat
  | .hbm => 7
  | .vmem => 9
  | .smem => 0
  | _ => 0

abbrev bufTy : (tb : Table) → Fin (tcTables nBuf tb) → BufTy
  | .hbm, ⟨0, _⟩ => ⟨S8x4096x2048, .f32⟩
  | .hbm, ⟨1, _⟩ => ⟨S4x384x384, .f32⟩
  | .hbm, ⟨2, _⟩ => ⟨S1536, .f32⟩
  | .hbm, ⟨3, _⟩ => ⟨S8x4096x2048, .bf16⟩
  | .hbm, ⟨4, _⟩ => ⟨S4x384x384, .bf16⟩
  | .hbm, ⟨5, _⟩ => ⟨S1x1536, .f32⟩
  | .hbm, ⟨6, _⟩ => ⟨S8x4096x1536, .bf16⟩
  | .local _ .vmem, ⟨0, _⟩ => ⟨S1x1024x1536, .bf16⟩
  | .local _ .vmem, ⟨1, _⟩ => ⟨S1x1024x1536, .bf16⟩
  | .local _ .vmem, ⟨2, _⟩ => ⟨S1x16x1536, .bf16⟩
  | .local _ .vmem, ⟨3, _⟩ => ⟨S1x16x1536, .bf16⟩
  | .local _ .vmem, ⟨4, _⟩ => ⟨S4x384x384, .bf16⟩
  | .local _ .vmem, ⟨5, _⟩ => ⟨S1x1536, .f32⟩
  | .local _ .vmem, ⟨6, _⟩ => ⟨S1x1024x1536, .bf16⟩
  | .local _ .vmem, ⟨7, _⟩ => ⟨S1x1024x1536, .bf16⟩
  | .local _ .vmem, ⟨8, _⟩ => ⟨S1040x1536, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8x4096x2048 : Shape := ⟨3, ![8, 4096, 2048]⟩
abbrev S4x384x384 : Shape := ⟨3, ![4, 384, 384]⟩
abbrev S1536 : Shape := ⟨1, ![1536]⟩
abbrev S8x4096x1536 : Shape := ⟨3, ![8, 4096, 1536]⟩
abbrev S_ : Shape := ⟨0, ![]⟩
abbrev S4096 : Shape := ⟨1, ![4096]⟩
abbrev S8x4096x384 : Shape := ⟨3, ![8, 4096, 384]⟩
abbrev S8x4094x384 : Shape := ⟨3, ![8, 4094, 384]⟩
abbrev S1x4096x1 : Shape := ⟨3, ![1, 4096, 1]⟩
abbrev S1x384x384 : Shape := ⟨3, ![1, 384, 384]⟩
abbrev S384x384 : Shape := ⟨2, ![384, 384]⟩
abbrev S8x4092x384 : Shape := ⟨3, ![8, 4092, 384]⟩
abbrev S8x4088x384 : Shape := ⟨3, ![8, 4088, 384]⟩
abbrev S8x4080x384 : Shape := ⟨3, ![8, 4080, 384]⟩
abbrev S1x1x1536 : Shape := ⟨3, ![1, 1, 1536]⟩

abbrev nBuf : Space → Nat
  | .hbm => 97
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x384x384, .f32⟩
  | .hbm, ⟨2, _⟩ => ⟨S1536, .f32⟩
  | .hbm, ⟨3, _⟩ => ⟨S8x4096x1536, .f32⟩
  | .hbm, ⟨4, _⟩ => ⟨S_, .f32⟩
  | .hbm, ⟨5, _⟩ => ⟨S_, .f32⟩
  | .hbm, ⟨6, _⟩ => ⟨S8x4096x1536, .f32⟩
  | .hbm, ⟨7, _⟩ => ⟨S4096, .i32⟩
  | .hbm, ⟨8, _⟩ => ⟨S8x4096x384, .f32⟩
  | .hbm, ⟨9, _⟩ => ⟨S8x4094x384, .f32⟩
  | .hbm, ⟨10, _⟩ => ⟨S_, .i32⟩
  | .hbm, ⟨11, _⟩ => ⟨S_, .f32⟩
  | .hbm, ⟨12, _⟩ => ⟨S8x4096x384, .f32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .f32⟩
  | .hbm, ⟨20, _⟩ => ⟨S1x4096x1, .f32⟩
  | .hbm, ⟨21, _⟩ => ⟨S8x4096x384, .f32⟩
  | .hbm, ⟨22, _⟩ => ⟨S8x4096x384, .f32⟩
  | .hbm, ⟨23, _⟩ => ⟨S8x4096x384, .f32⟩
  | .hbm, ⟨24, _⟩ => ⟨S8x4096x384, .f32⟩
  | .hbm, ⟨25, _⟩ => ⟨S8x4096x384, .f32⟩
  | .hbm, ⟨26, _⟩ => ⟨S1x384x384, .f32⟩
  | .hbm, ⟨27, _⟩ => ⟨S384x384, .f32⟩
  | .hbm, ⟨28, _⟩ => ⟨S8x4096x384, .f32⟩
  | .hbm, ⟨29, _⟩ => ⟨S8x4096x384, .f32⟩
  | .hbm, ⟨30, _⟩ => ⟨S8x4092x384, .f32⟩
  | .hbm, ⟨31, _⟩ => ⟨S_, .i32⟩
  | .hbm, ⟨32, _⟩ => ⟨S_, .f32⟩
  | .hbm, ⟨33, _⟩ => ⟨S8x4096x384, .f32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .f32⟩
  | .hbm, ⟨41, _⟩ => ⟨S1x4096x1, .f32⟩
  | .hbm, ⟨42, _⟩ => ⟨S8x4096x384, .f32⟩
  | .hbm, ⟨43, _⟩ => ⟨S8x4096x384, .f32⟩
  | .hbm, ⟨44, _⟩ => ⟨S8x4096x384, .f32⟩
  | .hbm, ⟨45, _⟩ => ⟨S8x4096x384, .f32⟩
  | .hbm, ⟨46, _⟩ => ⟨S8x4096x384, .f32⟩
  | .hbm, ⟨47, _⟩ => ⟨S1x384x384, .f32⟩
  | .hbm, ⟨48, _⟩ => ⟨S384x384, .f32⟩
  | .hbm, ⟨49, _⟩ => ⟨S8x4096x384, .f32⟩
  | .hbm, ⟨50, _⟩ => ⟨S8x4096x384, .f32⟩
  | .hbm, ⟨51, _⟩ => ⟨S8x4088x384, .f32⟩
  | .hbm, ⟨52, _⟩ => ⟨S_, .i32⟩
  | .hbm, ⟨53, _⟩ => ⟨S_, .f32⟩
  | .hbm, ⟨54, _⟩ => ⟨S8x4096x384, .f32⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .f32⟩
  | .hbm, ⟨62, _⟩ => ⟨S1x4096x1, .f32⟩
  | .hbm, ⟨63, _⟩ => ⟨S8x4096x384, .f32⟩
  | .hbm, ⟨64, _⟩ => ⟨S8x4096x384, .f32⟩
  | .hbm, ⟨65, _⟩ => ⟨S8x4096x384, .f32⟩
  | .hbm, ⟨66, _⟩ => ⟨S8x4096x384, .f32⟩
  | .hbm, ⟨67, _⟩ => ⟨S8x4096x384, .f32⟩
  | .hbm, ⟨68, _⟩ => ⟨S1x384x384, .f32⟩
  | .hbm, ⟨69, _⟩ => ⟨S384x384, .f32⟩
  | .hbm, ⟨70, _⟩ => ⟨S8x4096x384, .f32⟩
  | .hbm, ⟨71, _⟩ => ⟨S8x4096x384, .f32⟩
  | .hbm, ⟨72, _⟩ => ⟨S8x4080x384, .f32⟩
  | .hbm, ⟨73, _⟩ => ⟨S_, .i32⟩
  | .hbm, ⟨74, _⟩ => ⟨S_, .f32⟩
  | .hbm, ⟨75, _⟩ => ⟨S8x4096x384, .f32⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .f32⟩
  | .hbm, ⟨83, _⟩ => ⟨S1x4096x1, .f32⟩
  | .hbm, ⟨84, _⟩ => ⟨S8x4096x384, .f32⟩
  | .hbm, ⟨85, _⟩ => ⟨S8x4096x384, .f32⟩
  | .hbm, ⟨86, _⟩ => ⟨S8x4096x384, .f32⟩
  | .hbm, ⟨87, _⟩ => ⟨S8x4096x384, .f32⟩
  | .hbm, ⟨88, _⟩ => ⟨S8x4096x384, .f32⟩
  | .hbm, ⟨89, _⟩ => ⟨S1x384x384, .f32⟩
  | .hbm, ⟨90, _⟩ => ⟨S384x384, .f32⟩
  | .hbm, ⟨91, _⟩ => ⟨S8x4096x384, .f32⟩
  | .hbm, ⟨92, _⟩ => ⟨S8x4096x1536, .f32⟩
  | .hbm, ⟨93, _⟩ => ⟨S1x1x1536, .f32⟩
  | .hbm, ⟨94, _⟩ => ⟨S8x4096x1536, .f32⟩
  | .hbm, ⟨95, _⟩ => ⟨S8x4096x1536, .f32⟩
  | .hbm, ⟨96, _⟩ => ⟨S8x4096x1536, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call1_v0 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call2_v0 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_call3_v0 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_8 : Ref sig .tc := ⟨.hbm, 73, rfl⟩
abbrev main_call4_v0 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== Proof.RefLib.lean ====
module

public import proofs.«01_k».proof.Proof.Gen.ReferenceIdeal.Read
public import Idealize.ShloMosaic.Lib.ValueIdxCore
public import Idealize.ShloMosaic.Lib.Pipeline.ValueKit

@[expose] public section

set_option maxRecDepth 16384

noncomputable section

namespace Cert.ReferenceIdeal.Ref

open Idealize.ShloMosaic Cert.ReferenceIdeal Cert.ReferenceIdeal.Gen Cert.ReferenceIdeal.Read

/-- The gather of the reference: whole rows of the operand's second axis, taken at the row the index word names. -/
theorem take_apply {α : Type} (x : S8x4096x4x128.Idx → α) (idx : IVec S4096x129x1 32) (y : S8x4096x129x4x128.Idx) (r : Fin 4096)
    (hr : (idx (ix3 (⟨(y 1).val, (y 1).isLt⟩ : Fin 4096) (⟨(y 2).val, (y 2).isLt⟩ : Fin 129) (0 : Fin 1))).toInt.toNat = r.val) :
    Host.gather gather_S8x4096x4x128_S4096x129x1_S8x4096x129x4x128_034_1_n_n_1_2_814128 x idx y
      = x (ix4 (⟨(y 0).val, (y 0).isLt⟩ : Fin 8) r (⟨(y 3).val, (y 3).isLt⟩ : Fin 4) (⟨(y 4).val, (y 4).isLt⟩ : Fin 128)) := by
  unfold Host.gather
  congr 1
  funext a
  refine Fin.ext ?_
  show GatherDims.start _ y idx a + GatherDims.batchCoord _ y a + GatherDims.offCoord _ y a = _
  rw [GatherDims.batchCoord_eq_zero _ _ _ (List.not_mem_nil)]
  have ha : ∀ a : Fin S8x4096x4x128.rank, a = 0 ∨ a = 1 ∨ a = 2 ∨ a = 3 := by decide
  rcases ha a with rfl | rfl | rfl | rfl
  · unfold GatherDims.start GatherDims.offCoord
    rw [dif_neg (by decide), dif_pos (by decide)]
    exact Nat.zero_add _
  · rw [GatherDims.offCoord_eq_zero _ _ _ (by decide)]
    unfold GatherDims.start
    rw [dif_pos (by decide)]
    have hsi : GatherDims.siIdx gather_S8x4096x4x128_S4096x129x1_S8x4096x129x4x128_034_1_n_n_1_2_814128 y ⟨List.idxOf (1 : Fin 4) [1], by decide⟩
        = ix3 (⟨(y 1).val, (y 1).isLt⟩ : Fin 4096) (⟨(y 2).val, (y 2).isLt⟩ : Fin 129) (0 : Fin 1) := by
      funext b; refine Fin.ext ?_
      match b with
      | ⟨0, _⟩ => rfl
      | ⟨1, _⟩ => rfl
      | ⟨2, _⟩ => rfl
    have e := hsi ▸ hr
    show min (idx (GatherDims.siIdx gather_S8x4096x4x128_S4096x129x1_S8x4096x129x4x128_034_1_n_n_1_2_814128 y ⟨List.idxOf (1 : Fin 4) [1], by decide⟩)).toInt.toNat 4095 + 0 + 0 = r.val
    rw [e]
    have := r.isLt
    omega
  · unfold GatherDims.start GatherDims.offCoord
    rw [dif_neg (by decide), dif_pos (by decide)]
    exact Nat.zero_add _
  · unfold GatherDims.start GatherDims.offCoord
    rw [dif_neg (by decide), dif_pos (by decide)]
    exact Nat.zero_add _

/-- The position of a key, as the reference computes it in words: the query's position less the distance. -/
def iw (D s j : ℕ) : BitVec 32 := IntOp.subi (BitVec.ofNat 32 s) (IntOp.muli (BitVec.ofNat 32 D) (BitVec.ofNat 32 j))

theorem iw_toInt {D s j : ℕ} (hD : D ≤ 16) (hs : s < 4096) (hj : j < 129) : (iw D s j).toInt = (s : ℤ) - ((D * j : ℕ) : ℤ) := by
  have h : D * j ≤ 16 * 128 := Nat.mul_le_mul hD (by omega)
  have e : iw D s j = BitVec.ofNat 32 s - BitVec.ofNat 32 (D * j) := by
    unfold iw
    show BitVec.ofNat 32 s - BitVec.ofNat 32 D * BitVec.ofNat 32 j = _
    rw [BitVec.ofNat_mul]
  rw [e, BitVec.toInt_sub]
  simp only [BitVec.toInt_eq_toNat_bmod, BitVec.toNat_ofNat]
  generalize D * j = p at *
  simp only [Int.bmod_def]
  omega

/-- The word says that the key is there exactly when the key does not stand before the start. -/
theorem iw_sge {D s j : ℕ} (hD : D ≤ 16) (hs : s < 4096) (hj : j < 129) :
    IntOp.cmpi .sge (iw D s j) 0#32 = BitVec.ofBool (decide (D * j ≤ s)) := by
  have e := iw_toInt hD hs hj
  show BitVec.ofBool (BitVec.sle 0#32 (iw D s j)) = _
  congr 1
  rw [BitVec.sle_eq_decide, e]
  refine decide_eq_decide.2 ?_
  show (0 : ℤ) ≤ _ ↔ _
  omega

/-- The row read: the key's own, or the first when the key is not there. -/
theorem iw_max {D s j : ℕ} (hD : D ≤ 16) (hs : s < 4096) (hj : j < 129) : (IntOp.maxsi (iw D s j) 0#32).toInt.toNat = s - D * j := by
  have e := iw_toInt hD hs hj
  have h : IntOp.maxsi (iw D s j) 0#32 = if BitVec.slt 0#32 (iw D s j) then iw D s j else 0#32 := rfl
  rw [h]
  split
  · rw [e]; omega
  · rename_i h1
    rw [BitVec.slt_iff_toInt_lt, e] at h1
    show 0 = _
    have h2 : ¬((0 : ℤ) < _) := h1
    omega

/-- The reference's divisor is the root of the head's width. -/
theorem ofBits_128 : Ideal.ofBits .f32 0x43000000#32 = ((128 : ℝ) : EReal) := by
  simp [Ideal.ofBits, Ideal.ieee, -EReal.coe_mul]; norm_num

instance : Std.Commutative (FloatOps.maximumf (F := Ideal) (φ := .f32)) := ⟨fun a b => max_comm a b⟩
instance : Std.Associative (FloatOps.maximumf (F := Ideal) (φ := .f32)) := ⟨fun a b c => max_assoc a b c⟩

end Cert.ReferenceIdeal.Ref

end
-- ==== Proof.Math.lean ====
module

public import Idealize.ShloMosaic.Lib.Pointwise

@[expose] public section

noncomputable section

namespace Cert.Attn

open Idealize.ShloMosaic

/-- The weight of key `j`: the exponential of its scaled score where the key exists, nothing where it does not. -/
def wt {n : ℕ} (a : ℝ) (ok : Fin n → Bool) (x : Fin n → ℝ) (j : Fin n) : ℝ :=
  if ok j then Real.exp (x j * a) else 0

/-- The sum of the weights of one group's keys. -/
def den {n : ℕ} (a : ℝ) (ok : Fin n → Bool) (x : Fin n → ℝ) : ℝ := ∑ j, wt a ok x j

/-- The weighted sum of one group's values (one lane). -/
def num {n : ℕ} (a : ℝ) (ok : Fin n → Bool) (x y : Fin n → ℝ) : ℝ := ∑ j, wt a ok x j * y j

variable {n : ℕ} {a : ℝ} {ok : Fin n → Bool} {x y : Fin n → ℝ}

theorem wt_nonneg (j : Fin n) : 0 ≤ wt a ok x j := by
  unfold wt; split
  · exact (Real.exp_pos _).le
  · exact le_rfl

/-- One existing key makes the sum of the weights positive. -/
theorem den_pos {j0 : Fin n} (h0 : ok j0 = true) : 0 < den a ok x := by
  unfold den
  refine Finset.sum_pos' (fun j _ => wt_nonneg j) ⟨j0, Finset.mem_univ _, ?_⟩
  unfold wt; rw [if_pos h0]; exact Real.exp_pos _

/-- A finite sum of reals, taken in the extended reals. -/
theorem coe_sum' {ι : Type*} (t : Finset ι) (f : ι → ℝ) : ∑ i ∈ t, ((f i : ℝ) : EReal) = ((∑ i ∈ t, f i : ℝ) : EReal) := by
  induction t using Finset.cons_induction with
  | empty => simp
  | cons i t hi ih => rw [Finset.sum_cons, Finset.sum_cons, ih, EReal.coe_add]

/-- The maximum of scores that are reals or minus infinity, one of them a real, is a real. -/
theorem fold_max_real {ι : Type*} [Fintype ι] (s : ι → EReal) (hlt : ∀ c, s c ≠ ⊤) (c0 : ι) (h0 : s c0 ≠ ⊥) :
    ∃ μ : ℝ, Finset.univ.fold max ⊥ s = (μ : EReal) := by
  have hsup : Finset.univ.fold max ⊥ s = Finset.univ.sup s := rfl
  refine ⟨(Finset.univ.sup s).toReal, ?_⟩
  rw [hsup, EReal.coe_toReal]
  · refine ((Finset.sup_lt_iff (by simp)).2 fun c _ => lt_top_iff_ne_top.2 (hlt c)).ne
  · intro h
    exact h0 (le_bot_iff.1 (h ▸ Finset.le_sup (f := s) (Finset.mem_univ c0)))

/-- Minus infinity less a real is minus infinity. -/
theorem bot_sub_coe (μ : ℝ) : (⊥ : EReal) - (μ : EReal) = ⊥ := by
  rw [sub_eq_add_neg]; exact EReal.bot_add _

/-- What the kernel knows of one group's row of scores: column `e j` holds key `j`'s product where the key exists and
    minus infinity where it does not, and every other column holds minus infinity. -/
structure Row {ι : Type*} (s : ι → EReal) (e : Fin n → ι) (ok : Fin n → Bool) (x : Fin n → ℝ) : Prop where
  inj : Function.Injective e
  on : ∀ j, s (e j) = if ok j then ((x j : ℝ) : EReal) else ⊥
  off : ∀ c, c ∉ Set.range e → s c = ⊥

/-- The kernel's unscaled probability of a column with score `z`: two to the power of the difference to the row's maximum. -/
def kp (a : ℝ) (μ z : EReal) : EReal := Ideal.exp2 ((z - μ) * (((a * (Real.log 2)⁻¹ : ℝ)) : EReal))

theorem kp_bot (ha : 0 < a) (μ : ℝ) : kp a μ ⊥ = 0 := by
  unfold kp
  rw [bot_sub_coe, EReal.bot_mul_coe_of_pos (mul_pos ha (inv_pos.2 (Real.log_pos one_lt_two))), Ideal.exp2_bot]

theorem kp_coe (μ z : ℝ) : kp a μ z = ((Real.exp (-(μ * a)) * Real.exp (z * a) : ℝ) : EReal) := by
  unfold kp
  rw [← EReal.coe_sub, ← EReal.coe_mul, Ideal.exp2_coe, ← Real.exp_add]
  congr 1
  show (2 : ℝ) ^ ((z - μ) * (a * (Real.log 2)⁻¹)) = _
  rw [Real.rpow_def_of_pos two_pos]
  congr 1
  have : Real.log 2 ≠ 0 := (Real.log_pos one_lt_two).ne'
  field_simp
  ring

section Kernel
variable {ι : Type*} {s : ι → EReal} {e : Fin n → ι}

theorem kp_on (ha : 0 < a) (μ : ℝ) (h : Row s e ok x) (j : Fin n) :
    kp a μ (s (e j)) = ((Real.exp (-(μ * a)) * wt a ok x j : ℝ) : EReal) := by
  rw [h.on]; unfold wt
  split
  · exact kp_coe μ (x j)
  · rw [kp_bot ha, mul_zero, EReal.coe_zero]

theorem Row.ne_top (h : Row s e ok x) (c : ι) : s c ≠ ⊤ := by
  by_cases hc : c ∈ Set.range e
  · obtain ⟨j, rfl⟩ := hc
    rw [h.on]; split
    · exact EReal.coe_ne_top _
    · exact bot_ne_top
  · rw [h.off c hc]; exact bot_ne_top

theorem Row.max_real [Fintype ι] (h : Row s e ok x) {j0 : Fin n} (h0 : ok j0 = true) :
    ∃ μ : ℝ, Finset.univ.fold max ⊥ s = (μ : EReal) :=
  fold_max_real s h.ne_top (e j0) (by rw [h.on, if_pos h0]; exact EReal.coe_ne_bot _)

/-- The kernel's sum of a group's probabilities is the sum of the weights, less the maximum's factor. -/
theorem Row.sum_kp [Fintype ι] (ha : 0 < a) (μ : ℝ) (h : Row s e ok x) :
    ∑ c, kp a μ (s c) = ((Real.exp (-(μ * a)) * den a ok x : ℝ) : EReal) := by
  rw [← Fintype.sum_of_injective e h.inj (fun j => kp a μ (s (e j))) (fun c => kp a μ (s c))
    (fun c hc => by rw [h.off c hc]; exact kp_bot ha μ) (fun _ => rfl)]
  rw [Finset.sum_congr rfl fun j _ => kp_on ha μ h j, coe_sum', ← Finset.mul_sum]
  rfl

/-- The kernel's product of a group's probabilities with its values, likewise. -/
theorem Row.sum_kp_mul [Fintype ι] (ha : 0 < a) (μ : ℝ) (h : Row s e ok x) (v : ι → EReal)
    (hv : ∀ j, ok j = true → v (e j) = ((y j : ℝ) : EReal)) :
    ∑ c, kp a μ (s c) * v c = ((Real.exp (-(μ * a)) * num a ok x y : ℝ) : EReal) := by
  rw [← Fintype.sum_of_injective e h.inj (fun j => kp a μ (s (e j)) * v (e j)) (fun c => kp a μ (s c) * v c)
    (fun c hc => by rw [h.off c hc, kp_bot ha μ, zero_mul]) (fun _ => rfl)]
  have : ∀ j, kp a μ (s (e j)) * v (e j) = ((Real.exp (-(μ * a)) * (wt a ok x j * y j) : ℝ) : EReal) := by
    intro j
    rw [kp_on ha μ h j]
    cases hj : ok j
    · simp [wt, hj]
    · rw [hv j hj, ← EReal.coe_mul, mul_assoc]
  rw [Finset.sum_congr rfl fun j _ => this j, coe_sum', ← Finset.mul_sum]
  rfl

end Kernel

/-- THE KERNEL'S ROW. Three groups of scores, one maximum over all of them: a group's product times the reciprocal of the
    three sums is that group's weighted sum over the sum of all weights. -/
theorem kernel_row {ι0 ι1 ι2 ι : Type*} [Fintype ι0] [Fintype ι1] [Fintype ι2] [Fintype ι]
    {s0 : ι0 → EReal} {s1 : ι1 → EReal} {s2 : ι2 → EReal} {s : ι → EReal} {e0 : Fin n → ι0} {e1 : Fin n → ι1} {e2 : Fin n → ι2}
    {e : Fin n → ι} {ok0 ok1 ok2 : Fin n → Bool} {x0 x1 x2 : Fin n → ℝ} (ha : 0 < a) {j0 : Fin n}
    (h0 : Row s0 e0 ok0 x0) (h1 : Row s1 e1 ok1 x1) (h2 : Row s2 e2 ok2 x2) (h : Row s e ok x)
    (k0 : ok0 j0 = true) (k1 : ok1 j0 = true) (k2 : ok2 j0 = true) (v : ι → EReal)
    (hv : ∀ j, ok j = true → v (e j) = ((y j : ℝ) : EReal)) (m : EReal)
    (hm : m = max (max (Finset.univ.fold max ⊥ s0) (Finset.univ.fold max ⊥ s1)) (Finset.univ.fold max ⊥ s2)) :
    (∑ c, kp a m (s c) * v c) * Ideal.div 1 ((∑ c, kp a m (s0 c)) + (∑ c, kp a m (s1 c)) + ∑ c, kp a m (s2 c))
      = ((num a ok x y / (den a ok0 x0 + den a ok1 x1 + den a ok2 x2) : ℝ) : EReal) := by
  obtain ⟨m0, e0'⟩ := h0.max_real k0
  obtain ⟨m1, e1'⟩ := h1.max_real k1
  obtain ⟨m2, e2'⟩ := h2.max_real k2
  have hμ : m = ((max (max m0 m1) m2 : ℝ) : EReal) := by
    rw [hm, e0', e1', e2', EReal.coe_strictMono.monotone.map_max, EReal.coe_strictMono.monotone.map_max]
  rw [hμ]
  generalize max (max m0 m1) m2 = μ
  have p0 := den_pos (a := a) (x := x0) k0
  have p1 := den_pos (a := a) (x := x1) k1
  have p2 := den_pos (a := a) (x := x2) k2
  rw [h0.sum_kp ha, h1.sum_kp ha, h2.sum_kp ha, h.sum_kp_mul ha μ v hv, ← EReal.coe_add, ← EReal.coe_add]
  have hE := Real.exp_pos (-(μ * a))
  rw [← mul_add, ← mul_add, Ideal.div_coe (by positivity), one_mul, ← EReal.coe_mul]
  congr 1
  field_simp

section Ref
variable {s : Fin n → EReal}

/-- The exponential of a reference score less a real. -/
theorem exp_score (μ : ℝ) (h : ∀ j, s j = if ok j then ((x j * a : ℝ) : EReal) else ⊥) (j : Fin n) :
    Ideal.exp (s j - (μ : EReal)) = ((Real.exp (-μ) * wt a ok x j : ℝ) : EReal) := by
  rw [h]; unfold wt
  split
  · rw [← EReal.coe_sub, Ideal.exp_coe, ← Real.exp_add]; congr 2; ring
  · rw [bot_sub_coe, Ideal.exp_bot, mul_zero, EReal.coe_zero]

/-- The reference's logarithm of the sum of exponentials, its maximum taken out and put back. -/
def lse (s : Fin n → EReal) : EReal :=
  Finset.univ.fold max ⊥ s + Ideal.log (∑ j, Ideal.exp (s j - Finset.univ.fold max ⊥ s))

/-- … is the logarithm of the sum of the weights. -/
theorem lse_eq (h : ∀ j, s j = if ok j then ((x j * a : ℝ) : EReal) else ⊥) {j0 : Fin n} (h0 : ok j0 = true) :
    lse s = ((Real.log (den a ok x) : ℝ) : EReal) := by
  obtain ⟨μ, hμ⟩ := fold_max_real s (fun c => by rw [h]; split; exacts [EReal.coe_ne_top _, bot_ne_top]) j0
    (by rw [h, if_pos h0]; exact EReal.coe_ne_bot _)
  unfold lse
  rw [hμ, Finset.sum_congr rfl fun j _ => exp_score μ h j, coe_sum', ← Finset.mul_sum]
  have hd : 0 < den a ok x := den_pos h0
  have hE := Real.exp_pos (-μ)
  rw [show ∑ j, wt a ok x j = den a ok x from rfl, Ideal.log_coe, if_neg (not_le.2 (mul_pos hE hd)), ← EReal.coe_add,
    Real.log_mul hE.ne' hd.ne', Real.log_exp]
  congr 1; ring

/-- A group's own attention output: its weighted sum over its own weights. -/
theorem ref_out (h : ∀ j, s j = if ok j then ((x j * a : ℝ) : EReal) else ⊥) {j0 : Fin n} (h0 : ok j0 = true)
    (v : Fin n → EReal) (hv : ∀ j, ok j = true → v j = ((y j : ℝ) : EReal)) :
    ∑ j, Ideal.exp (s j - lse s) * v j = ((num a ok x y / den a ok x : ℝ) : EReal) := by
  have hd : 0 < den a ok x := den_pos h0
  rw [lse_eq h h0]
  have : ∀ j, Ideal.exp (s j - ((Real.log (den a ok x) : ℝ) : EReal)) * v j
      = ((wt a ok x j * y j / den a ok x : ℝ) : EReal) := by
    intro j
    rw [exp_score _ h, Real.exp_neg, Real.exp_log hd]
    cases hj : ok j
    · simp [wt, hj]
    · rw [hv j hj, ← EReal.coe_mul]; congr 1; field_simp
  rw [Finset.sum_congr rfl fun j _ => this j, coe_sum', ← Finset.sum_div]
  rfl

end Ref

/-- The weight a group gets in the merge: the softmax of the three logarithms at that group. -/
theorem ref_alpha {z0 z1 z2 : ℝ} (p0 : 0 < z0) (p1 : 0 < z1) (p2 : 0 < z2) {z : ℝ} (p : 0 < z) (m : EReal)
    (hm : m = max (max ((Real.log z0 : ℝ) : EReal) ((Real.log z1 : ℝ) : EReal)) ((Real.log z2 : ℝ) : EReal)) :
    Ideal.div (Ideal.exp (((Real.log z : ℝ) : EReal) - m))
      (Ideal.exp (((Real.log z0 : ℝ) : EReal) - m) + Ideal.exp (((Real.log z1 : ℝ) : EReal) - m)
        + Ideal.exp (((Real.log z2 : ℝ) : EReal) - m)) = ((z / (z0 + z1 + z2) : ℝ) : EReal) := by
  have hμ : m = ((max (max (Real.log z0) (Real.log z1)) (Real.log z2) : ℝ) : EReal) := by
    rw [hm, EReal.coe_strictMono.monotone.map_max, EReal.coe_strictMono.monotone.map_max]
  rw [hμ]
  generalize max (max (Real.log z0) (Real.log z1)) (Real.log z2) = μ
  have he : ∀ {w : ℝ}, 0 < w → Ideal.exp (((Real.log w : ℝ) : EReal) - (μ : EReal)) = ((w * Real.exp (-μ) : ℝ) : EReal) := by
    intro w hw
    rw [← EReal.coe_sub, Ideal.exp_coe, sub_eq_add_neg, Real.exp_add, Real.exp_log hw]
  have hE := Real.exp_pos (-μ)
  rw [he p, he p0, he p1, he p2, ← EReal.coe_add, ← EReal.coe_add, Ideal.div_coe (by positivity), ← EReal.coe_mul]
  congr 1
  field_simp

/-- THE REFERENCE'S ROW. A group's attention output times its weight in the merge is that group's weighted sum over the sum
    of all weights. -/
theorem ref_row {s0 s1 s2 s : Fin n → EReal} {ok0 ok1 ok2 : Fin n → Bool} {x0 x1 x2 : Fin n → ℝ} {j0 : Fin n}
    (h0 : ∀ j, s0 j = if ok0 j then ((x0 j * a : ℝ) : EReal) else ⊥)
    (h1 : ∀ j, s1 j = if ok1 j then ((x1 j * a : ℝ) : EReal) else ⊥)
    (h2 : ∀ j, s2 j = if ok2 j then ((x2 j * a : ℝ) : EReal) else ⊥)
    (h : ∀ j, s j = if ok j then ((x j * a : ℝ) : EReal) else ⊥)
    (k0 : ok0 j0 = true) (k1 : ok1 j0 = true) (k2 : ok2 j0 = true) (k : ok j0 = true) (v : Fin n → EReal)
    (hv : ∀ j, ok j = true → v j = ((y j : ℝ) : EReal)) (m : EReal) (hm : m = max (max (lse s0) (lse s1)) (lse s2)) :
    (∑ j, Ideal.exp (s j - lse s) * v j)
        * Ideal.div (Ideal.exp (lse s - m)) (Ideal.exp (lse s0 - m) + Ideal.exp (lse s1 - m) + Ideal.exp (lse s2 - m))
      = ((num a ok x y / (den a ok0 x0 + den a ok1 x1 + den a ok2 x2) : ℝ) : EReal) := by
  have p0 : 0 < den a ok0 x0 := den_pos k0
  have p1 : 0 < den a ok1 x1 := den_pos k1
  have p2 : 0 < den a ok2 x2 := den_pos k2
  have p : 0 < den a ok x := den_pos k
  rw [ref_out h k v hv, lse_eq h k, lse_eq h0 k0, lse_eq h1 k1, lse_eq h2 k2]
  rw [lse_eq h0 k0, lse_eq h1 k1, lse_eq h2 k2] at hm
  rw [ref_alpha p0 p1 p2 p m hm, ← EReal.coe_mul]
  congr 1
  field_simp

end Cert.Attn

end
end
-- ==== Proof.Tile.lean ====
module

public import proofs.«01_k».proof.Proof.Math
public import proofs.«01_k».proof.Proof.Gen.KernelIdeal.Skeleton

@[expose] public section

set_option maxRecDepth 16384

noncomputable section

namespace Cert.KernelIdeal.Tile

open Idealize.ShloMosaic Idealize.ShloMosaic.TcCoe Cert.KernelIdeal Cert.KernelIdeal.Gen Cert.Attn

section Any
variable {F : FTy → Type} [FloatOps F] [Named F]

/-- Scores of a block of queries over group 0's key window, with the bias added. -/
def SC0 (q : Vec F S1x256x128 .bf16) (k : Vec F S384x128 .bf16) (b : Vec F S256x384 .f32) : FVec F S256x384 .f32 :=
  addf (matmul dot_S256x128_S384x128_S256x384_1_1_0_0_n_n none (shapeCast S256x128 q shapeCasts_S1x256x128_S256x128) k
    (constant S256x384 .f32 0x00000000#32)) b
/-- The same for group 1. -/
def SC1 (q : Vec F S1x256x128 .bf16) (k : Vec F S768x128 .bf16) (b : Vec F S256x768 .f32) : FVec F S256x768 .f32 :=
  addf (matmul dot_S256x128_S768x128_S256x768_1_1_0_0_n_n none (shapeCast S256x128 q shapeCasts_S1x256x128_S256x128) k
    (constant S256x768 .f32 0x00000000#32)) b
/-- The same for group 2. -/
def SC2 (q : Vec F S1x256x128 .bf16) (k : Vec F S2304x128 .bf16) (b : Vec F S256x2304 .f32) : FVec F S256x2304 .f32 :=
  addf (matmul dot_S256x128_S2304x128_S256x2304_1_1_0_0_n_n none (shapeCast S256x128 q shapeCasts_S1x256x128_S256x128) k
    (constant S256x2304 .f32 0x00000000#32)) b

/-- The first position block's mask on group 0's scores: columns before the sequence's start hold the mask value. -/
def FM0 (r0 : BitVec 32) (s : FVec F S256x384 .f32) : FVec F S256x384 .f32 :=
  select (broadcastTo S256x384 (shapeCast S1x384 (cmpi .sge (iota .tc S1x384 32 [1] iota_S1x384_d1_w32)
    (broadcast S1x384 (Scalar.subi 128#32 r0))) shapeCasts_S1x384_S1x384) broadcasts_S1x384_S256x384) s
    (broadcast S256x384 (Named.named κ "mask" 0xF149F2CA#32))
/-- The same for group 1. -/
def FM1 (r0 : BitVec 32) (s : FVec F S256x768 .f32) : FVec F S256x768 .f32 :=
  select (broadcastTo S256x768 (shapeCast S1x768 (cmpi .sge (iota .tc S1x768 32 [1] iota_S1x768_d1_w32)
    (broadcast S1x768 (Scalar.subi 512#32 r0))) shapeCasts_S1x768_S1x768) broadcasts_S1x768_S256x768) s
    (broadcast S256x768 (Named.named κ "mask" 0xF149F2CA#32))
/-- The same for group 2. -/
def FM2 (r0 : BitVec 32) (s : FVec F S256x2304 .f32) : FVec F S256x2304 .f32 :=
  select (broadcastTo S256x2304 (shapeCast S1x2304 (cmpi .sge (iota .tc S1x2304 32 [1] iota_S1x2304_d1_w32)
    (broadcast S1x2304 (Scalar.subi 2048#32 r0))) shapeCasts_S1x2304_S1x2304) broadcasts_S1x2304_S256x2304) s
    (broadcast S256x2304 (Named.named κ "mask" 0xF149F2CA#32))

/-- The maximum of each row over the three groups. -/
def MX (s0 : FVec F S256x384 .f32) (s1 : FVec F S256x768 .f32) (s2 : FVec F S256x2304 .f32) : FVec F S256x1 .f32 :=
  maximumf (maximumf
    (shapeCast S256x1 (multiReduction .maximumf [1] S256 s0 0xFF800000#32 reduces_S256x384_S256 (.inl rfl) rfl) shapeCasts_S256_S256x1)
    (shapeCast S256x1 (multiReduction .maximumf [1] S256 s1 0xFF800000#32 reduces_S256x768_S256 (.inl rfl) rfl) shapeCasts_S256_S256x1))
    (shapeCast S256x1 (multiReduction .maximumf [1] S256 s2 0xFF800000#32 reduces_S256x2304_S256 (.inl rfl) rfl) shapeCasts_S256_S256x1)

/-- Group 0's probabilities before the division. -/
def PR0 (s : FVec F S256x384 .f32) (m : FVec F S256x1 .f32) : FVec F S256x384 .f32 :=
  exp2 (mulf (subf s (broadcastTo S256x384 m broadcasts_S256x1_S256x384)) (broadcast S256x384 (Named.named κ "scale_log2e" 0x3E0293EE#32)))
/-- Group 1's. -/
def PR1 (s : FVec F S256x768 .f32) (m : FVec F S256x1 .f32) : FVec F S256x768 .f32 :=
  exp2 (mulf (subf s (broadcastTo S256x768 m broadcasts_S256x1_S256x768)) (broadcast S256x768 (Named.named κ "scale_log2e" 0x3E0293EE#32)))
/-- Group 2's. -/
def PR2 (s : FVec F S256x2304 .f32) (m : FVec F S256x1 .f32) : FVec F S256x2304 .f32 :=
  exp2 (mulf (subf s (broadcastTo S256x2304 m broadcasts_S256x1_S256x2304)) (broadcast S256x2304 (Named.named κ "scale_log2e" 0x3E0293EE#32)))

/-- The reciprocal of each row's three sums together. -/
def IV (p0 : FVec F S256x384 .f32) (p1 : FVec F S256x768 .f32) (p2 : FVec F S256x2304 .f32) : FVec F S256x1 .f32 :=
  divf (broadcast S256x1 (Scalar.ofBits .f32 0x3F800000#32)) (addf (addf
    (shapeCast S256x1 (multiReduction .add [1] S256 p0 0x00000000#32 reduces_S256x384_S256 (.inl rfl) rfl) shapeCasts_S256_S256x1)
    (shapeCast S256x1 (multiReduction .add [1] S256 p1 0x00000000#32 reduces_S256x768_S256 (.inl rfl) rfl) shapeCasts_S256_S256x1))
    (shapeCast S256x1 (multiReduction .add [1] S256 p2 0x00000000#32 reduces_S256x2304_S256 (.inl rfl) rfl) shapeCasts_S256_S256x1))

/-- The three groups' reciprocal from their scores. -/
def DN (s0 : FVec F S256x384 .f32) (s1 : FVec F S256x768 .f32) (s2 : FVec F S256x2304 .f32) : FVec F S256x1 .f32 :=
  IV (PR0 s0 (MX s0 s1 s2)) (PR1 s1 (MX s0 s1 s2)) (PR2 s2 (MX s0 s1 s2))

/-- Group 0's output block. -/
def O0 (s0 : FVec F S256x384 .f32) (s1 : FVec F S256x768 .f32) (s2 : FVec F S256x2304 .f32) (v : Vec F S384x128 .bf16) :
    FVec F S1x256x128 .bf16 :=
  shapeCast S1x256x128 (truncf .bf16 (mulf (matmul dot_S256x384_S384x128_S256x128_1_0_0_1_n_n none
    (truncf .bf16 (PR0 s0 (MX s0 s1 s2)) bitsLt_bf16_f32) v (constant S256x128 .f32 0x00000000#32))
    (broadcastTo S256x128 (DN s0 s1 s2) broadcasts_S256x1_S256x128)) bitsLt_bf16_f32) shapeCasts_S256x128_S1x256x128
/-- Group 1's output block. -/
def O1 (s0 : FVec F S256x384 .f32) (s1 : FVec F S256x768 .f32) (s2 : FVec F S256x2304 .f32) (v : Vec F S768x128 .bf16) :
    FVec F S1x256x128 .bf16 :=
  shapeCast S1x256x128 (truncf .bf16 (mulf (matmul dot_S256x768_S768x128_S256x128_1_0_0_1_n_n none
    (truncf .bf16 (PR1 s1 (MX s0 s1 s2)) bitsLt_bf16_f32) v (constant S256x128 .f32 0x00000000#32))
    (broadcastTo S256x128 (DN s0 s1 s2) broadcasts_S256x1_S256x128)) bitsLt_bf16_f32) shapeCasts_S256x128_S1x256x128
/-- Group 2's output block. -/
def O2 (s0 : FVec F S256x384 .f32) (s1 : FVec F S256x768 .f32) (s2 : FVec F S256x2304 .f32) (v : Vec F S2304x128 .bf16) :
    FVec F S1x256x128 .bf16 :=
  shapeCast S1x256x128 (truncf .bf16 (mulf (matmul dot_S256x2304_S2304x128_S256x128_1_0_0_1_n_n none
    (truncf .bf16 (PR2 s2 (MX s0 s1 s2)) bitsLt_bf16_f32) v (constant S256x128 .f32 0x00000000#32))
    (broadcastTo S256x128 (DN s0 s1 s2) broadcasts_S256x1_S256x128)) bitsLt_bf16_f32) shapeCasts_S256x128_S1x256x128

end Any

/-- The reciprocal square root of the head size. -/
abbrev sc : ℝ := (Real.sqrt 128)⁻¹

theorem named_mask : Named.named (F := Ideal) κ "mask" (φ := .f32) 0xF149F2CA#32 = (⊥ : EReal) :=
  IdealRules.named_const.ideal_named_scalar _ _ _ _ rfl
theorem named_scale : Named.named (F := Ideal) κ "scale_log2e" (φ := .f32) 0x3E0293EE#32 = ((sc * (Real.log 2)⁻¹ : ℝ) : EReal) :=
  IdealRules.named_const.ideal_named_scalar _ _ _ _ rfl
theorem ofBits_neg_inf : Ideal.ofBits .f32 0xFF800000#32 = (⊥ : EReal) := by
  simp [Ideal.ofBits, Ideal.ieee]

theorem SC0_apply (q : Vec Ideal S1x256x128 .bf16) (k : Vec Ideal S384x128 .bf16) (b : Vec Ideal S256x384 .f32) (r : Fin 256) (c : Fin 384) :
    SC0 q k b (ix2 r c) = (∑ d : Fin 128, q (ix3 0 r d) * k (ix2 c d)) + b (ix2 r c) := by
  pointwise [SC0]
theorem SC1_apply (q : Vec Ideal S1x256x128 .bf16) (k : Vec Ideal S768x128 .bf16) (b : Vec Ideal S256x768 .f32) (r : Fin 256) (c : Fin 768) :
    SC1 q k b (ix2 r c) = (∑ d : Fin 128, q (ix3 0 r d) * k (ix2 c d)) + b (ix2 r c) := by
  pointwise [SC1]
theorem SC2_apply (q : Vec Ideal S1x256x128 .bf16) (k : Vec Ideal S2304x128 .bf16) (b : Vec Ideal S256x2304 .f32) (r : Fin 256) (c : Fin 2304) :
    SC2 q k b (ix2 r c) = (∑ d : Fin 128, q (ix3 0 r d) * k (ix2 c d)) + b (ix2 r c) := by
  pointwise [SC2]

theorem MX_apply (s0 : FVec Ideal S256x384 .f32) (s1 : FVec Ideal S256x768 .f32) (s2 : FVec Ideal S256x2304 .f32) (r : Fin 256) (z : Fin 1) :
    MX s0 s1 s2 (ix2 r z) = max (max (Finset.univ.fold max ⊥ fun c => s0 (ix2 r c)) (Finset.univ.fold max ⊥ fun c => s1 (ix2 r c)))
      (Finset.univ.fold max ⊥ fun c => s2 (ix2 r c)) := by
  pointwise [MX, ofBits_neg_inf]

theorem PR0_apply (s : FVec Ideal S256x384 .f32) (m : FVec Ideal S256x1 .f32) (r : Fin 256) (c : Fin 384) :
    PR0 s m (ix2 r c) = kp sc (m (ix2 r 0)) (s (ix2 r c)) := by
  pointwise [PR0, named_scale]
  rfl

theorem PR1_apply (s : FVec Ideal S256x768 .f32) (m : FVec Ideal S256x1 .f32) (r : Fin 256) (c : Fin 768) :
    PR1 s m (ix2 r c) = kp sc (m (ix2 r 0)) (s (ix2 r c)) := by
  pointwise [PR1, named_scale]
  rfl
theorem PR2_apply (s : FVec Ideal S256x2304 .f32) (m : FVec Ideal S256x1 .f32) (r : Fin 256) (c : Fin 2304) :
    PR2 s m (ix2 r c) = kp sc (m (ix2 r 0)) (s (ix2 r c)) := by
  pointwise [PR2, named_scale]
  rfl

theorem DN_apply (s0 : FVec Ideal S256x384 .f32) (s1 : FVec Ideal S256x768 .f32) (s2 : FVec Ideal S256x2304 .f32) (r : Fin 256) :
    DN s0 s1 s2 (ix2 r 0) = Ideal.div 1 ((∑ c, kp sc (MX s0 s1 s2 (ix2 r 0)) (s0 (ix2 r c)))
      + (∑ c, kp sc (MX s0 s1 s2 (ix2 r 0)) (s1 (ix2 r c))) + ∑ c, kp sc (MX s0 s1 s2 (ix2 r 0)) (s2 (ix2 r c))) := by
  pointwise [DN, IV, PR0_apply, PR1_apply, PR2_apply]

theorem O0_apply (s0 : FVec Ideal S256x384 .f32) (s1 : FVec Ideal S256x768 .f32) (s2 : FVec Ideal S256x2304 .f32)
    (v : Vec Ideal S384x128 .bf16) (r : Fin 256) (d : Fin 128) :
    O0 s0 s1 s2 v (ix3 0 r d) = (∑ c, kp sc (MX s0 s1 s2 (ix2 r 0)) (s0 (ix2 r c)) * v (ix2 c d)) * DN s0 s1 s2 (ix2 r 0) := by
  pointwise [O0, PR0_apply]
theorem O1_apply (s0 : FVec Ideal S256x384 .f32) (s1 : FVec Ideal S256x768 .f32) (s2 : FVec Ideal S256x2304 .f32)
    (v : Vec Ideal S768x128 .bf16) (r : Fin 256) (d : Fin 128) :
    O1 s0 s1 s2 v (ix3 0 r d) = (∑ c, kp sc (MX s0 s1 s2 (ix2 r 0)) (s1 (ix2 r c)) * v (ix2 c d)) * DN s0 s1 s2 (ix2 r 0) := by
  pointwise [O1, PR1_apply]
theorem O2_apply (s0 : FVec Ideal S256x384 .f32) (s1 : FVec Ideal S256x768 .f32) (s2 : FVec Ideal S256x2304 .f32)
    (v : Vec Ideal S2304x128 .bf16) (r : Fin 256) (d : Fin 128) :
    O2 s0 s1 s2 v (ix3 0 r d) = (∑ c, kp sc (MX s0 s1 s2 (ix2 r 0)) (s2 (ix2 r c)) * v (ix2 c d)) * DN s0 s1 s2 (ix2 r 0) := by
  pointwise [O2, PR2_apply]

/-- The start of sub-block `j` as the body computes it. -/
def r0w (j : Fin 8) : BitVec 32 := Scalar.muli (BitVec.ofNat 32 j.val) 256#32

theorem cmp_fm0 : ∀ (j : Fin 8) (c : Fin 384), IntOp.cmpi .sge (BitVec.ofNat 32 c.val) (Scalar.subi 128#32 (r0w j))
    = if 128 ≤ c.val + 256 * j.val then 1#1 else 0#1 := by decide +kernel
theorem cmp_fm1 : ∀ (j : Fin 8) (c : Fin 768), IntOp.cmpi .sge (BitVec.ofNat 32 c.val) (Scalar.subi 512#32 (r0w j))
    = if 512 ≤ c.val + 256 * j.val then 1#1 else 0#1 := by decide +kernel
theorem cmp_fm2 : ∀ (j : Fin 8) (c : Fin 2304), IntOp.cmpi .sge (BitVec.ofNat 32 c.val) (Scalar.subi 2048#32 (r0w j))
    = if 2048 ≤ c.val + 256 * j.val then 1#1 else 0#1 := by decide +kernel

theorem FM0_apply (j : Fin 8) (s : FVec Ideal S256x384 .f32) (r : Fin 256) (c : Fin 384) :
    FM0 (r0w j) s (ix2 r c) = if 128 ≤ c.val + 256 * j.val then s (ix2 r c) else (⊥ : EReal) := by
  pointwise [FM0, named_mask]
  rw [cmp_fm0 j c]
  split <;> rfl
theorem FM1_apply (j : Fin 8) (s : FVec Ideal S256x768 .f32) (r : Fin 256) (c : Fin 768) :
    FM1 (r0w j) s (ix2 r c) = if 512 ≤ c.val + 256 * j.val then s (ix2 r c) else (⊥ : EReal) := by
  pointwise [FM1, named_mask]
  rw [cmp_fm1 j c]
  split <;> rfl
theorem FM2_apply (j : Fin 8) (s : FVec Ideal S256x2304 .f32) (r : Fin 256) (c : Fin 2304) :
    FM2 (r0w j) s (ix2 r c) = if 2048 ≤ c.val + 256 * j.val then s (ix2 r c) else (⊥ : EReal) := by
  pointwise [FM2, named_mask]
  rw [cmp_fm2 j c]
  split <;> rfl

theorem word_toInt (a : ℕ) (ha : a < 4096) : (BitVec.ofNat 32 a).toInt = a := by
  have h : (BitVec.ofNat 32 a).toNat = a := by rw [BitVec.toNat_ofNat, Nat.mod_eq_of_lt (by omega)]
  rw [BitVec.toInt_eq_toNat_of_lt (by rw [h]; omega), h]

theorem word_sge (a b : ℕ) (ha : a < 4096) (hb : b < 4096) :
    IntOp.cmpi .sge (BitVec.ofNat 32 a) (BitVec.ofNat 32 b) = if b ≤ a then 1#1 else 0#1 := by
  simp only [IntOp.cmpi, BitVec.sle, word_toInt a ha, word_toInt b hb, Int.ofNat_le]
  by_cases h : b ≤ a
  · rw [if_pos h, decide_eq_true h]; rfl
  · rw [if_neg h, decide_eq_false h]; rfl

theorem word_sle (a b : ℕ) (ha : a < 4096) (hb : b < 4096) :
    IntOp.cmpi .sle (BitVec.ofNat 32 a) (BitVec.ofNat 32 b) = if a ≤ b then 1#1 else 0#1 := by
  simp only [IntOp.cmpi, BitVec.sle, word_toInt a ha, word_toInt b hb, Int.ofNat_le]
  by_cases h : a ≤ b
  · rw [if_pos h, decide_eq_true h]; rfl
  · rw [if_neg h, decide_eq_false h]; rfl

theorem word_add (a b : ℕ) : IntOp.addi (BitVec.ofNat 32 a) (BitVec.ofNat 32 b) = BitVec.ofNat 32 (a + b) := by
  simp [IntOp.addi, BitVec.ofNat_add]

theorem word_mod (k a b : ℕ) (hk : k ≤ 8) (ha : a < 4096) (hb : b < 4096) :
    IntOp.cmpi .eq (IntOp.andi (IntOp.subi (BitVec.ofNat 32 a) (BitVec.ofNat 32 b)) (BitVec.ofNat 32 (2 ^ k - 1))) 0#32
      = if b % 2 ^ k = a % 2 ^ k then 1#1 else 0#1 := by
  have hk' : 2 ^ k ≤ 2 ^ 8 := Nat.pow_le_pow_right (by norm_num) hk
  have h : (BitVec.ofNat 32 a - BitVec.ofNat 32 b) &&& BitVec.ofNat 32 (2 ^ k - 1) = 0#32 ↔ b % 2 ^ k = a % 2 ^ k := by
    rw [← BitVec.toNat_inj]
    simp only [BitVec.toNat_and, BitVec.toNat_sub, BitVec.toNat_ofNat]
    rw [Nat.mod_eq_of_lt (a := 2 ^ k - 1) (by omega), Nat.and_two_pow_sub_one_eq_mod, Nat.mod_mod_of_dvd _ (pow_dvd_pow 2 (by omega : k ≤ 32)),
      Nat.mod_eq_of_lt (a := a) (by omega), Nat.mod_eq_of_lt (a := b) (by omega)]
    interval_cases k <;> simp <;> omega
  simp only [IntOp.cmpi, IntOp.andi, IntOp.subi]
  by_cases hh : b % 2 ^ k = a % 2 ^ k
  · rw [if_pos hh, h.mpr hh]; rfl
  · rw [if_neg hh]
    have := mt h.mp hh
    rw [beq_false_of_ne this]; rfl

theorem word_mod' (k m z a b : ℕ) (hk : k ≤ 8) (hm : m = 2 ^ k) (hz : z = 2 ^ k - 1) (ha : a < 4096) (hb : b < 4096) :
    IntOp.cmpi .eq (IntOp.andi (IntOp.subi (BitVec.ofNat 32 a) (BitVec.ofNat 32 b)) (BitVec.ofNat 32 z)) 0#32
      = if b % m = a % m then 1#1 else 0#1 := by
  subst hm hz; exact word_mod k a b hk ha hb

theorem sel_ite (p q s : Prop) [Decidable p] [Decidable q] [Decidable s] (x y : EReal) :
    Scalar.select (α := EReal) (IntOp.andi (IntOp.andi (if p then 1#1 else 0#1) (if q then 1#1 else 0#1)) (if s then 1#1 else 0#1)) x y
      = if p ∧ q ∧ s then x else y := by
  by_cases hp : p <;> by_cases hq : q <;> by_cases hs : s <;> simp [hp, hq, hs, Scalar.select, IntOp.andi]

theorem B0_apply (r : Fin 256) (c : Fin 384) : (k0_pay8 : FVec Ideal S256x384 .f32) (ix2 r c)
    = if r.val ≤ c.val ∧ c.val ≤ r.val + 128 ∧ c.val % 1 = r.val % 1 then (0 : EReal) else ⊥ := by
  refine Eq.trans ?_ (sel_ite _ _ _ _ _)
  pointwise [k0_pay8, named_mask]
  rw [word_sge c r (by omega) (by omega), word_add r 128, word_sle c _ (by omega) (by omega), word_mod' 0 1 0 r c (by omega) rfl rfl (by omega) (by omega)]
  simp only [Nat.mod_one, if_true]
theorem B1_apply (r : Fin 256) (c : Fin 768) : (k0_pay9 : FVec Ideal S256x768 .f32) (ix2 r c)
    = if r.val ≤ c.val ∧ c.val ≤ r.val + 512 ∧ c.val % 4 = r.val % 4 then (0 : EReal) else ⊥ := by
  pointwise [k0_pay9, named_mask]
  rw [word_sge c r (by omega) (by omega), word_add r 512, word_sle c _ (by omega) (by omega), word_mod' 2 4 3 r c (by omega) rfl rfl (by omega) (by omega)]
  exact sel_ite _ _ _ _ _
/-- The bias of group 2 as the body computes it. -/
def B2 {F : FTy → Type} [FloatOps F] [Named F] : FVec F S256x2304 .f32 :=
  k0_pay33 (iota .tc S256x2304 32 [0] iota_S256x2304_d0_w32) (iota .tc S256x2304 32 [1] iota_S256x2304_d1_w32) k0_pay10 k0_pay11
theorem B2_apply (r : Fin 256) (c : Fin 2304) : (B2 : FVec Ideal S256x2304 .f32) (ix2 r c)
    = if r.val ≤ c.val ∧ c.val ≤ r.val + 2048 ∧ c.val % 16 = r.val % 16 then (0 : EReal) else ⊥ := by
  pointwise [B2, k0_pay33, k0_pay10, k0_pay11, named_mask]
  rw [word_sge c r (by omega) (by omega), word_add r 2048, word_sle c _ (by omega) (by omega), word_mod' 4 16 15 r c (by omega) rfl rfl (by omega) (by omega)]
  exact sel_ite _ _ _ _ _

/-- The trip's start as the loop's body computes it. -/
theorem r0w_iv (t : Fin 8) : Scalar.muli (Scf.iv 0#32 1#32 t) 256#32 = r0w t := by
  revert t; decide +kernel
end Cert.KernelIdeal.Tile

end
end
-- ==== Proof.Rows.lean ====
module

public import proofs.«01_k».proof.Proof.Tile
public import Idealize.ShloMosaic.Lib.Pipeline.ValueKit

@[expose] public section

set_option maxRecDepth 16384

noncomputable section

namespace Cert.KernelIdeal.Tile

open Idealize.ShloMosaic Idealize.ShloMosaic.TcCoe Cert.KernelIdeal Cert.KernelIdeal.Gen Cert.Attn

/-- The column of key `j` in the window of query row `r`, for dilation `D`: the keys run backwards from the query. -/
def col (D r : ℕ) (j : Fin 129) : ℕ := r + 128 * D - D * j.val

theorem col_lt {D r : ℕ} (hr : r < 256) (j : Fin 129) : col D r j < 128 * D + 256 := by
  unfold col; omega

/-- Whether key `j` exists for row `p` of the block: everywhere, except before the start of the first position block. -/
def okey (fst : Bool) (D p : ℕ) (j : Fin 129) : Bool := !fst || decide (D * j.val ≤ p)

theorem okey_zero (fst : Bool) (D p : ℕ) : okey fst D p 0 = true := by
  simp [okey]

/-- A row of scores with the dilated window's bias, and the first block's mask where it applies, is a row of the keys. -/
theorem row_of {D W : ℕ} (hD : 0 < D) (hW : W = 128 * D + 256) (fst : Bool) {r jb : ℕ} (hr : r < 256) (s z : Fin W → EReal)
    (hs : ∀ c : Fin W, s c = if fst = true → 128 * D ≤ c.val + 256 * jb then
      z c + (if r ≤ c.val ∧ c.val ≤ r + 128 * D ∧ c.val % D = r % D then 0 else ⊥) else ⊥)
    (x : Fin 129 → ℝ) (hx : ∀ j, z ⟨col D r j, hW ▸ col_lt hr j⟩ = ((x j : ℝ) : EReal)) :
    Row s (fun j => ⟨col D r j, hW ▸ col_lt hr j⟩) (okey fst D (256 * jb + r)) x where
  inj := by
    intro i j h
    have h' : col D r i = col D r j := congrArg Fin.val h
    have hi : D * i.val ≤ D * 128 := Nat.mul_le_mul_left _ (by omega)
    have hj : D * j.val ≤ D * 128 := Nat.mul_le_mul_left _ (by omega)
    unfold col at h'
    have : D * i.val = D * j.val := by omega
    exact Fin.ext (Nat.eq_of_mul_eq_mul_left hD this)
  on j := by
    have hj : D * j.val ≤ D * 128 := Nat.mul_le_mul_left _ (by omega)
    have hc : r ≤ col D r j ∧ col D r j ≤ r + 128 * D ∧ col D r j % D = r % D := by
      unfold col
      refine ⟨by omega, by omega, ?_⟩
      have : r + 128 * D - D * j.val = r + D * (128 - j.val) := by rw [Nat.mul_sub]; omega
      rw [this, Nat.add_mul_mod_self_left]
    rw [hs, if_pos hc, hx, add_zero]
    have : (fst = true → 128 * D ≤ col D r j + 256 * jb) ↔ okey fst D (256 * jb + r) j = true := by
      unfold okey col
      cases fst
      · simp
      · simp; omega
    by_cases hk : okey fst D (256 * jb + r) j = true
    · rw [if_pos (this.2 hk), if_pos hk]
    · rw [if_neg (fun h => hk (this.1 h)), if_neg hk]
  off c hc := by
    rw [hs]
    split
    · rw [if_neg, EReal.add_bot]
      rintro ⟨h1, h2, h3⟩
      apply hc
      have hd : D ∣ r + 128 * D - c.val := by
        refine (Nat.modEq_iff_dvd' h2).1 ?_
        show c.val % D = (r + 128 * D) % D
        rw [Nat.add_mul_mod_self_right]; exact h3
      obtain ⟨q, hq⟩ := hd
      have hq' : q ≤ 128 := by
        by_contra hh
        have : D * 129 ≤ D * q := Nat.mul_le_mul_left _ (by omega)
        omega
      refine ⟨⟨q, by omega⟩, Fin.ext ?_⟩
      show r + 128 * D - D * q = c.val
      omega
    · rfl

/-- Group 0's scores in either variant of the body. -/
def S0 (fst : Bool) (jb : Fin 8) (q : Vec Ideal S1x256x128 .bf16) (k : Vec Ideal S384x128 .bf16) (b : Vec Ideal S256x384 .f32) :
    FVec Ideal S256x384 .f32 := if fst then FM0 (r0w jb) (SC0 q k b) else SC0 q k b
/-- Group 1's scores in either variant of the body. -/
def S1 (fst : Bool) (jb : Fin 8) (q : Vec Ideal S1x256x128 .bf16) (k : Vec Ideal S768x128 .bf16) (b : Vec Ideal S256x768 .f32) :
    FVec Ideal S256x768 .f32 := if fst then FM1 (r0w jb) (SC1 q k b) else SC1 q k b
/-- Group 2's scores in either variant of the body. -/
def S2 (fst : Bool) (jb : Fin 8) (q : Vec Ideal S1x256x128 .bf16) (k : Vec Ideal S2304x128 .bf16) (b : Vec Ideal S256x2304 .f32) :
    FVec Ideal S256x2304 .f32 := if fst then FM2 (r0w jb) (SC2 q k b) else SC2 q k b

/-- Group 0's row of scores over the body's own bias. -/
theorem row0 (fst : Bool) (jb : Fin 8) (q : Vec Ideal S1x256x128 .bf16) (k : Vec Ideal S384x128 .bf16) (r : Fin 256) (x : Fin 129 → ℝ)
    (hx : ∀ j, ∑ d : Fin 128, q (ix3 0 r d) * k (ix2 ⟨col 1 r.val j, col_lt r.isLt j⟩ d) = ((x j : ℝ) : EReal)) :
    Row (fun c => S0 fst jb q k (k0_pay8 (F := Ideal)) (ix2 r c)) (fun j => ⟨col 1 r.val j, col_lt r.isLt j⟩) (okey fst 1 (256 * jb.val + r.val)) x :=
  row_of (D := 1) (by omega) rfl fst r.isLt _ (fun c => ∑ d : Fin 128, q (ix3 0 r d) * k (ix2 c d)) (fun c => by
    unfold S0
    cases fst
    · simp only [Bool.false_eq_true, if_false, false_imp_iff, if_true, SC0_apply, B0_apply]
    · simp only [if_true, true_imp_iff, FM0_apply, SC0_apply, B0_apply]) x hx
/-- Group 1's row of scores over the body's own bias. -/
theorem row1 (fst : Bool) (jb : Fin 8) (q : Vec Ideal S1x256x128 .bf16) (k : Vec Ideal S768x128 .bf16) (r : Fin 256) (x : Fin 129 → ℝ)
    (hx : ∀ j, ∑ d : Fin 128, q (ix3 0 r d) * k (ix2 ⟨col 4 r.val j, col_lt r.isLt j⟩ d) = ((x j : ℝ) : EReal)) :
    Row (fun c => S1 fst jb q k (k0_pay9 (F := Ideal)) (ix2 r c)) (fun j => ⟨col 4 r.val j, col_lt r.isLt j⟩) (okey fst 4 (256 * jb.val + r.val)) x :=
  row_of (D := 4) (by omega) rfl fst r.isLt _ (fun c => ∑ d : Fin 128, q (ix3 0 r d) * k (ix2 c d)) (fun c => by
    unfold S1
    cases fst
    · simp only [Bool.false_eq_true, if_false, false_imp_iff, if_true, SC1_apply, B1_apply]
    · simp only [if_true, true_imp_iff, FM1_apply, SC1_apply, B1_apply]) x hx
/-- Group 2's row of scores over the body's own bias. -/
theorem row2 (fst : Bool) (jb : Fin 8) (q : Vec Ideal S1x256x128 .bf16) (k : Vec Ideal S2304x128 .bf16) (r : Fin 256) (x : Fin 129 → ℝ)
    (hx : ∀ j, ∑ d : Fin 128, q (ix3 0 r d) * k (ix2 ⟨col 16 r.val j, col_lt r.isLt j⟩ d) = ((x j : ℝ) : EReal)) :
    Row (fun c => S2 fst jb q k (B2 (F := Ideal)) (ix2 r c)) (fun j => ⟨col 16 r.val j, col_lt r.isLt j⟩) (okey fst 16 (256 * jb.val + r.val)) x :=
  row_of (D := 16) (by omega) rfl fst r.isLt _ (fun c => ∑ d : Fin 128, q (ix3 0 r d) * k (ix2 c d)) (fun c => by
    unfold S2
    cases fst
    · simp only [Bool.false_eq_true, if_false, false_imp_iff, if_true, SC2_apply, B2_apply]
    · simp only [if_true, true_imp_iff, FM2_apply, SC2_apply, B2_apply]) x hx

theorem sc_pos : 0 < sc := inv_pos.2 (Real.sqrt_pos.2 (by norm_num))

section Out
variable {s0 : FVec Ideal S256x384 .f32} {s1 : FVec Ideal S256x768 .f32} {s2 : FVec Ideal S256x2304 .f32} {r : Fin 256}
  {e0 : Fin 129 → Fin 384} {e1 : Fin 129 → Fin 768} {e2 : Fin 129 → Fin 2304} {ok0 ok1 ok2 : Fin 129 → Bool} {x0 x1 x2 y : Fin 129 → ℝ}
  (h0 : Row (fun c => s0 (ix2 r c)) e0 ok0 x0) (h1 : Row (fun c => s1 (ix2 r c)) e1 ok1 x1) (h2 : Row (fun c => s2 (ix2 r c)) e2 ok2 x2)
  (k0 : ok0 0 = true) (k1 : ok1 0 = true) (k2 : ok2 0 = true) (d : Fin 128)
include h0 h1 h2 k0 k1 k2

/-- Group 0's output element from its row of keys. -/
theorem O0_row (v : Vec Ideal S384x128 .bf16) (hv : ∀ j, ok0 j = true → v (ix2 (e0 j) d) = ((y j : ℝ) : EReal)) :
    O0 s0 s1 s2 v (ix3 0 r d) = ((num sc ok0 x0 y / (den sc ok0 x0 + den sc ok1 x1 + den sc ok2 x2) : ℝ) : EReal) := by
  rw [O0_apply, DN_apply]
  exact kernel_row sc_pos h0 h1 h2 h0 k0 k1 k2 (fun c => v (ix2 c d)) hv _ (MX_apply s0 s1 s2 r 0)
/-- Group 1's output element from its row of keys. -/
theorem O1_row (v : Vec Ideal S768x128 .bf16) (hv : ∀ j, ok1 j = true → v (ix2 (e1 j) d) = ((y j : ℝ) : EReal)) :
    O1 s0 s1 s2 v (ix3 0 r d) = ((num sc ok1 x1 y / (den sc ok0 x0 + den sc ok1 x1 + den sc ok2 x2) : ℝ) : EReal) := by
  rw [O1_apply, DN_apply]
  exact kernel_row sc_pos h0 h1 h2 h1 k0 k1 k2 (fun c => v (ix2 c d)) hv _ (MX_apply s0 s1 s2 r 0)
/-- Group 2's output element from its row of keys. -/
theorem O2_row (v : Vec Ideal S2304x128 .bf16) (hv : ∀ j, ok2 j = true → v (ix2 (e2 j) d) = ((y j : ℝ) : EReal)) :
    O2 s0 s1 s2 v (ix3 0 r d) = ((num sc ok2 x2 y / (den sc ok0 x0 + den sc ok1 x1 + den sc ok2 x2) : ℝ) : EReal) := by
  rw [O2_apply, DN_apply]
  exact kernel_row sc_pos h0 h1 h2 h2 k0 k1 k2 (fun c => v (ix2 c d)) hv _ (MX_apply s0 s1 s2 r 0)
end Out

/-- A piece of whole rows agrees with the rows' function where it lies. -/
theorem piece_rows {o m n : ℕ} {h} {w : (Rect.unit (s := (⟨2, ![n, 128]⟩ : Shape)) ![o, 0] ![m, 128] h).shape.Idx → EReal} (f : ℕ → Fin 128 → EReal)
    (hw : ∀ (p : Fin m) (d : Fin 128), w (ix2 p d) = f (o + p.val) d) (x : (Rect.unit (s := (⟨2, ![n, 128]⟩ : Shape)) ![o, 0] ![m, 128] h).shape.Idx) :
    w x = f ((Rect.unit (s := (⟨2, ![n, 128]⟩ : Shape)) ![o, 0] ![m, 128] h).emb x 0).val ((Rect.unit (s := (⟨2, ![n, 128]⟩ : Shape)) ![o, 0] ![m, 128] h).emb x 1) := by
  have e0 : ((Rect.unit (s := (⟨2, ![n, 128]⟩ : Shape)) ![o, 0] ![m, 128] h).emb x 0 : ℕ) = o + (x 0).val := ValueKit.rect_emb_unit_val _ _ _ _ _
  have e1 : ((Rect.unit (s := (⟨2, ![n, 128]⟩ : Shape)) ![o, 0] ![m, 128] h).emb x 1 : ℕ) = 0 + (x 1).val := ValueKit.rect_emb_unit_val _ _ _ _ _
  have hx : (ix2 (x 0) (x 1) : (⟨2, ![m, 128]⟩ : Shape).Idx) = x := by
    funext a; match a with | 0 => rfl | 1 => rfl
  have := hw (x 0) (x 1)
  refine ((congrArg w hx.symm).trans this).trans ?_
  rw [e0]; congr 1; exact Fin.ext (by rw [e1, Nat.zero_add])

/-- A scratch window: the history's rows, then the block's own. -/
theorem window {R n : ℕ} (hn : n = R + 2048) {h1 h2} {w1 : (Rect.unit (s := (⟨2, ![n, 128]⟩ : Shape)) ![R, 0] ![2048, 128] h1).shape.Idx → EReal}
    {w2 : (Rect.unit (s := (⟨2, ![n, 128]⟩ : Shape)) ![0, 0] ![R, 128] h2).shape.Idx → EReal} (f : ℕ → Fin 128 → EReal)
    (hc : ∀ (p : Fin 2048) (d : Fin 128), w1 (ix2 p d) = f (R + p.val) d) (hh : ∀ (p : Fin R) (d : Fin 128), w2 (ix2 p d) = f p.val d)
    (i : Fin n) (d : Fin 128) :
    View.canon (Val := Elt Ideal) (e := .bf16) [⟨Rect.unit ![R, 0] ![2048, 128] h1, w1⟩, ⟨Rect.unit ![0, 0] ![R, 128] h2, w2⟩] (ix2 i d) = f i.val d := by
  refine (View.canon_apply_of_pieces (Val := Elt Ideal) (e := .bf16) (S := (⟨2, ![n, 128]⟩ : Shape)) (fun y => f (y 0).val (y 1)) _ ?_ (ix2 i d) ?_).trans rfl
  · intro p hp
    rcases List.mem_cons.1 hp with rfl | hp
    · exact piece_rows (h := h1) (w := w1) f hc
    · rcases List.mem_cons.1 hp with rfl | hp
      · exact piece_rows (h := h2) (w := w2) f fun p d => (hh p d).trans (by rw [Nat.zero_add])
      · exact absurd hp (by simp)
  · by_cases h : i.val < R
    · refine ⟨⟨Rect.unit ![0, 0] ![R, 128] h2, w2⟩, by simp, ?_⟩
      rw [Rect.mem_set_unit]
      exact Fin.forall_fin_two.2 ⟨⟨Nat.zero_le _, by show i.val < 0 + R; omega⟩, ⟨Nat.zero_le _, by show d.val < 0 + 128; omega⟩⟩
    · refine ⟨⟨Rect.unit ![R, 0] ![2048, 128] h1, w1⟩, by simp, ?_⟩
      rw [Rect.mem_set_unit]
      exact Fin.forall_fin_two.2 ⟨⟨by show R ≤ i.val; omega, by show i.val < R + 2048; omega⟩, ⟨Nat.zero_le _, by show d.val < 0 + 128; omega⟩⟩

end Cert.KernelIdeal.Tile

end
end
-- ==== Proof.Trips.lean ====
module

public import proofs.«01_k».proof.Proof.Rows
public import proofs.«01_k».proof.Proof.Gen.KernelIdeal.Frame

@[expose] public section

set_option maxRecDepth 16384

noncomputable section

namespace Cert.KernelIdeal.Tile

open Idealize.ShloMosaic Idealize.ShloMosaic.TcCoe Idealize.SL Cert.KernelIdeal Cert.KernelIdeal.Gen Cert.Attn

/-- The dilation of each group. -/
def dil : Fin 3 → ℕ := ![1, 4, 16]
/-- The keys' scores of row `p` of a block, before the scale. -/
def lx (Q K : ℕ → Fin 128 → ℝ) (D p : ℕ) (j : Fin 129) : ℝ := ∑ d : Fin 128, Q p d * K (p + 128 * D - D * j.val) d
/-- The keys' values at row `p` of a block. -/
def ly (V : ℕ → Fin 128 → ℝ) (D p : ℕ) (d : Fin 128) (j : Fin 129) : ℝ := V (p + 128 * D - D * j.val) d
/-- The three groups' softmax denominators together. -/
def total (fst : Bool) (Q K : Fin 3 → ℕ → Fin 128 → ℝ) (p : ℕ) : ℝ :=
  den sc (okey fst 1 p) (lx (Q 0) (K 0) 1 p) + den sc (okey fst 4 p) (lx (Q 1) (K 1) 4 p) + den sc (okey fst 16 p) (lx (Q 2) (K 2) 16 p)
/-- One output element of one group. -/
def val (fst : Bool) (Q K V : Fin 3 → ℕ → Fin 128 → ℝ) (g : Fin 3) (p : ℕ) (d : Fin 128) : ℝ :=
  num sc (okey fst (dil g) p) (lx (Q g) (K g) (dil g) p) (ly (V g) (dil g) p d) / total fst Q K p

/-- What the body reads in its loop: the queries' blocks, the windows of keys and values, the biases. -/
structure Held (Q K V : Fin 3 → ℕ → Fin 128 → ℝ) (q0 q1 q2 : S1x2048x128.Idx → EReal) (k0 : S2176x128.Idx → EReal) (k1 : S2560x128.Idx → EReal)
    (k2 : S4096x128.Idx → EReal) (v0 : S2176x128.Idx → EReal) (v1 : S2560x128.Idx → EReal) (v2 : S4096x128.Idx → EReal)
    (b0 : S256x384.Idx → EReal) (b1 : S256x768.Idx → EReal) (b2 : S256x2304.Idx → EReal) : Prop where
  q0 : ∀ (p : Fin 2048) (d : Fin 128), q0 (ix3 0 p d) = ((Q 0 p.val d : ℝ) : EReal)
  q1 : ∀ (p : Fin 2048) (d : Fin 128), q1 (ix3 0 p d) = ((Q 1 p.val d : ℝ) : EReal)
  q2 : ∀ (p : Fin 2048) (d : Fin 128), q2 (ix3 0 p d) = ((Q 2 p.val d : ℝ) : EReal)
  k0 : ∀ (p : Fin 2176) (d : Fin 128), k0 (ix2 p d) = ((K 0 p.val d : ℝ) : EReal)
  k1 : ∀ (p : Fin 2560) (d : Fin 128), k1 (ix2 p d) = ((K 1 p.val d : ℝ) : EReal)
  k2 : ∀ (p : Fin 4096) (d : Fin 128), k2 (ix2 p d) = ((K 2 p.val d : ℝ) : EReal)
  v0 : ∀ (p : Fin 2176) (d : Fin 128), v0 (ix2 p d) = ((V 0 p.val d : ℝ) : EReal)
  v1 : ∀ (p : Fin 2560) (d : Fin 128), v1 (ix2 p d) = ((V 1 p.val d : ℝ) : EReal)
  v2 : ∀ (p : Fin 4096) (d : Fin 128), v2 (ix2 p d) = ((V 2 p.val d : ℝ) : EReal)
  b0 : b0 = k0_pay8 (F := Ideal)
  b1 : b1 = k0_pay9 (F := Ideal)
  b2 : b2 = B2 (F := Ideal)

/-- A real inner product of cast entries is the cast of the inner product. -/
theorem dot_coe (a b : Fin 128 → EReal) (x y : Fin 128 → ℝ) (ha : ∀ d, a d = ((x d : ℝ) : EReal)) (hb : ∀ d, b d = ((y d : ℝ) : EReal)) :
    ∑ d : Fin 128, a d * b d = ((∑ d : Fin 128, x d * y d : ℝ) : EReal) := by
  rw [← coe_sum']
  exact Finset.sum_congr rfl fun d _ => by rw [ha, hb, EReal.coe_mul]

/-- A column of the tile's window, in the block's window. -/
theorem col_row (D r : ℕ) (j : Fin 129) (b : ℕ) : b + col D r j = b + r + 128 * D - D * j.val := by
  have : D * j.val ≤ D * 128 := Nat.mul_le_mul_left _ (by omega)
  unfold col; omega

section Tile
variable {Q K V : Fin 3 → ℕ → Fin 128 → ℝ} (fst : Bool) (jb : Fin 8)
  {q0 q1 q2 : Vec Ideal S1x256x128 .bf16} {k0 v0 : Vec Ideal S384x128 .bf16} {k1 v1 : Vec Ideal S768x128 .bf16} {k2 v2 : Vec Ideal S2304x128 .bf16}
  (hq0 : ∀ r d, q0 (ix3 0 r d) = ((Q 0 (256 * jb.val + r.val) d : ℝ) : EReal))
  (hq1 : ∀ r d, q1 (ix3 0 r d) = ((Q 1 (256 * jb.val + r.val) d : ℝ) : EReal))
  (hq2 : ∀ r d, q2 (ix3 0 r d) = ((Q 2 (256 * jb.val + r.val) d : ℝ) : EReal))
  (hk0 : ∀ c d, k0 (ix2 c d) = ((K 0 (256 * jb.val + c.val) d : ℝ) : EReal))
  (hk1 : ∀ c d, k1 (ix2 c d) = ((K 1 (256 * jb.val + c.val) d : ℝ) : EReal))
  (hk2 : ∀ c d, k2 (ix2 c d) = ((K 2 (256 * jb.val + c.val) d : ℝ) : EReal))
include hq0 hq1 hq2 hk0 hk1 hk2

/-- The three rows of keys of a tile. -/
theorem tile_rows (r : Fin 256) :
    Row (fun c => S0 fst jb q0 k0 (k0_pay8 (F := Ideal)) (ix2 r c)) (fun j => ⟨col 1 r.val j, col_lt r.isLt j⟩) (okey fst 1 (256 * jb.val + r.val)) (lx (Q 0) (K 0) 1 (256 * jb.val + r.val))
    ∧ Row (fun c => S1 fst jb q1 k1 (k0_pay9 (F := Ideal)) (ix2 r c)) (fun j => ⟨col 4 r.val j, col_lt r.isLt j⟩) (okey fst 4 (256 * jb.val + r.val)) (lx (Q 1) (K 1) 4 (256 * jb.val + r.val))
    ∧ Row (fun c => S2 fst jb q2 k2 (B2 (F := Ideal)) (ix2 r c)) (fun j => ⟨col 16 r.val j, col_lt r.isLt j⟩) (okey fst 16 (256 * jb.val + r.val)) (lx (Q 2) (K 2) 16 (256 * jb.val + r.val)) :=
  ⟨row0 fst jb q0 k0 r _ fun j => (dot_coe _ _ _ _ (fun d => hq0 r d) (fun d => hk0 _ d)).trans (by unfold lx; simp only [col_row]),
   row1 fst jb q1 k1 r _ fun j => (dot_coe _ _ _ _ (fun d => hq1 r d) (fun d => hk1 _ d)).trans (by unfold lx; simp only [col_row]),
   row2 fst jb q2 k2 r _ fun j => (dot_coe _ _ _ _ (fun d => hq2 r d) (fun d => hk2 _ d)).trans (by unfold lx; simp only [col_row])⟩

/-- The tile's three outputs. -/
theorem tile_vals (hv0 : ∀ c d, v0 (ix2 c d) = ((V 0 (256 * jb.val + c.val) d : ℝ) : EReal))
    (hv1 : ∀ c d, v1 (ix2 c d) = ((V 1 (256 * jb.val + c.val) d : ℝ) : EReal))
    (hv2 : ∀ c d, v2 (ix2 c d) = ((V 2 (256 * jb.val + c.val) d : ℝ) : EReal)) (r : Fin 256) (d : Fin 128) :
    O0 (S0 fst jb q0 k0 (k0_pay8 (F := Ideal))) (S1 fst jb q1 k1 (k0_pay9 (F := Ideal))) (S2 fst jb q2 k2 (B2 (F := Ideal))) v0 (ix3 0 r d) = ((val fst Q K V 0 (256 * jb.val + r.val) d : ℝ) : EReal)
    ∧ O1 (S0 fst jb q0 k0 (k0_pay8 (F := Ideal))) (S1 fst jb q1 k1 (k0_pay9 (F := Ideal))) (S2 fst jb q2 k2 (B2 (F := Ideal))) v1 (ix3 0 r d) = ((val fst Q K V 1 (256 * jb.val + r.val) d : ℝ) : EReal)
    ∧ O2 (S0 fst jb q0 k0 (k0_pay8 (F := Ideal))) (S1 fst jb q1 k1 (k0_pay9 (F := Ideal))) (S2 fst jb q2 k2 (B2 (F := Ideal))) v2 (ix3 0 r d) = ((val fst Q K V 2 (256 * jb.val + r.val) d : ℝ) : EReal) := by
  obtain ⟨h0, h1, h2⟩ := tile_rows fst jb hq0 hq1 hq2 hk0 hk1 hk2 r
  exact ⟨O0_row h0 h1 h2 (okey_zero _ _ _) (okey_zero _ _ _) (okey_zero _ _ _) d v0 (y := ly (V 0) 1 (256 * jb.val + r.val) d) fun j _ => (hv0 _ d).trans (by unfold ly; simp only [col_row]),
    O1_row h0 h1 h2 (okey_zero _ _ _) (okey_zero _ _ _) (okey_zero _ _ _) d v1 (y := ly (V 1) 4 (256 * jb.val + r.val) d) fun j _ => (hv1 _ d).trans (by unfold ly; simp only [col_row]),
    O2_row h0 h1 h2 (okey_zero _ _ _) (okey_zero _ _ _) (okey_zero _ _ _) d v2 (y := ly (V 2) 16 (256 * jb.val + r.val) d) fun j _ => (hv2 _ d).trans (by unfold ly; simp only [col_row])⟩
end Tile

/-- A tile's piece agrees with the block's function where it lies. -/
theorem piece_tile {jb : ℕ} {off : Fin 3 → ℕ} (hoff : off = ![0, 256 * jb, 0]) {h} {w : (Rect.unit (s := S1x2048x128) off S1x256x128.size h).shape.Idx → EReal}
    (f : ℕ → Fin 128 → EReal) (hw : ∀ (r : Fin 256) (d : Fin 128), w (ix3 0 r d) = f (256 * jb + r.val) d)
    (x : (Rect.unit (s := S1x2048x128) off S1x256x128.size h).shape.Idx) :
    w x = f ((Rect.unit (s := S1x2048x128) off S1x256x128.size h).emb x 1).val ((Rect.unit (s := S1x2048x128) off S1x256x128.size h).emb x 2) := by
  subst hoff
  have e1 : ((Rect.unit (s := S1x2048x128) ![0, 256 * jb, 0] S1x256x128.size h).emb x 1 : ℕ) = 256 * jb + (x 1).val := ValueKit.rect_emb_unit_val _ _ _ _ _
  have e2 : ((Rect.unit (s := S1x2048x128) ![0, 256 * jb, 0] S1x256x128.size h).emb x 2 : ℕ) = 0 + (x 2).val := ValueKit.rect_emb_unit_val _ _ _ _ _
  have hx : (ix3 0 (x 1) (x 2) : S1x256x128.Idx) = x := by
    funext a; match a with | 0 => exact Fin.ext (by have : (x 0).val < 1 := (x 0).isLt; show 0 = (x 0).val; omega) | 1 => rfl | 2 => rfl
  have := hw (x 1) (x 2)
  refine ((congrArg w hx.symm).trans this).trans ?_
  rw [e1]; congr 1; exact Fin.ext (by rw [e2, Nat.zero_add])

/-- A tile's query rows. -/
theorem ld_q {jb : ℕ} {off : Fin 3 → ℕ} (hoff : off = ![0, 256 * jb, 0]) (X : S1x2048x128.Idx → EReal) (f : ℕ → Fin 128 → ℝ)
    (hX : ∀ (p : Fin 2048) (d : Fin 128), X (ix3 0 p d) = ((f p.val d : ℝ) : EReal)) (h) (r : Fin 256) (d : Fin 128) :
    View.ld (Val := Elt Ideal) (e' := .bf16) X (Rect.unit (s := S1x2048x128) off S1x256x128.size h) (ix3 0 r d) = ((f (256 * jb + r.val) d : ℝ) : EReal) := by
  subst hoff
  have hb : 256 * jb + r.val < 2048 := by
    have := h 1; have h' : 256 * jb + 256 ≤ 2048 := this; omega
  refine (View.ld_unit_apply_of (Val := Elt Ideal) (e := .bf16) X _ _ h _ (ix3 0 ⟨256 * jb + r.val, hb⟩ d) ?_).trans (hX _ _)
  intro a; match a with | 0 => rfl | 1 => rfl | 2 => exact (Nat.zero_add _).symm
/-- A tile's rows of a window. -/
theorem ld_w {jb n m : ℕ} {off : Fin 2 → ℕ} (hoff : off = ![256 * jb, 0]) (X : (⟨2, ![n, 128]⟩ : Shape).Idx → EReal) (f : ℕ → Fin 128 → ℝ)
    (hX : ∀ (p : Fin n) (d : Fin 128), X (ix2 p d) = ((f p.val d : ℝ) : EReal)) (h) (r : Fin m) (d : Fin 128) :
    View.ld (Val := Elt Ideal) (e' := .bf16) X (Rect.unit (s := (⟨2, ![n, 128]⟩ : Shape)) off ![m, 128] h) (ix2 r d) = ((f (256 * jb + r.val) d : ℝ) : EReal) := by
  subst hoff
  have hb : 256 * jb + r.val < n := by
    have := h 0; have h' : 256 * jb + m ≤ n := this; omega
  refine (View.ld_unit_apply_of (Val := Elt Ideal) (e := .bf16) X _ _ h _ (ix2 ⟨256 * jb + r.val, hb⟩ d) ?_).trans (hX _ _)
  intro a; match a with | 0 => rfl | 1 => exact (Nat.zero_add _).symm
/-- Both offsets are zero. -/
theorem zero_off : ∀ a : Fin 2, (![0, 0] : Fin 2 → ℕ) a = 0 := by decide
/-- A whole load is the contents. -/
theorem ld_all {S : Shape} {e : EltTy} (X : S.Idx → Elt Ideal e) {off : Fin S.rank → ℕ} (hoff : ∀ a, off a = 0) (h) :
    View.ld (Val := Elt Ideal) (e' := e) X (Rect.unit (s := S) off S.size h) = X :=
  funext fun x => View.ld_unit_apply_of (Val := Elt Ideal) (e := e) X _ _ h x x fun a => by rw [hoff, Nat.zero_add]

section Any1
variable {F : FTy → Type} [FloatOps F] [Named F] (𝒱 : Variants) (c : Dev nD) (bd : Option 𝒱.V) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x128x128 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S1x128x128 .bf16) (harg15 : arg15.IsWhole) (arg16 : Memref sig .tc .vmem S1x512x128 .bf16) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S1x2048x128 .bf16) (harg19 : arg19.IsWhole) (arg20 : Memref sig .tc .vmem S1x2048x128 .bf16) (harg20 : arg20.IsWhole) (arg21 : Memref sig .tc .vmem S2176x128 .bf16) (harg21 : arg21.IsWhole) (arg22 : Memref sig .tc .vmem S2560x128 .bf16) (harg22 : arg22.IsWhole) (arg23 : Memref sig .tc .vmem S4096x128 .bf16) (harg23 : arg23.IsWhole) (arg24 : Memref sig .tc .vmem S2176x128 .bf16) (harg24 : arg24.IsWhole) (arg25 : Memref sig .tc .vmem S2560x128 .bf16) (harg25 : arg25.IsWhole) (arg26 : Memref sig .tc .vmem S4096x128 .bf16) (harg26 : arg26.IsWhole) (arg27 : Memref sig .tc .vmem S256x384 .f32) (harg27 : arg27.IsWhole) (arg28 : Memref sig .tc .vmem S256x768 .f32) (harg28 : arg28.IsWhole) (arg29 : Memref sig .tc .vmem S256x2304 .f32) (harg29 : arg29.IsWhole) (k0_h2 : k0_cond2 i = 1#1) (X_arg3 : BufTy.Contents (Elt F) arg3.view.ty) (X_arg4 : BufTy.Contents (Elt F) arg4.view.ty) (X_arg5 : BufTy.Contents (Elt F) arg5.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (X_arg29 : BufTy.Contents (Elt F) arg29.view.ty)

/-- One trip's three pieces, in the tile's own terms. -/
theorem trip1_eq (k : Fin k0_t1_loop.trips) : (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h2 X_arg3 X_arg4 X_arg5 X_arg21 X_arg22 X_arg23 X_arg24 X_arg25 X_arg26 X_arg27 X_arg28 X_arg29 k)
    = ([⟨Rect.unit (k0_off1 k) S1x256x128.size (k0_off1_inb i k k0_h2), O0 (FM0 (Scalar.muli (Scf.iv 0#32 1#32 k) 256#32) (SC0 (View.ld (arg3.view.read (Elt F) X_arg3) (Rect.unit (k0_off1 k) S1x256x128.size (k0_off1_inb i k k0_h2))) (View.ld (arg21.view.read (Elt F) X_arg21) (Rect.unit (k0_off2 k) S384x128.size (k0_off2_inb i k k0_h2))) (View.ld (arg27.view.read (Elt F) X_arg27) (Rect.unit ![0, 0] S256x384.size inb_S256x384_S256x384_0_0)))) (FM1 (Scalar.muli (Scf.iv 0#32 1#32 k) 256#32) (SC1 (View.ld (arg4.view.read (Elt F) X_arg4) (Rect.unit (k0_off1 k) S1x256x128.size (k0_off1_inb i k k0_h2))) (View.ld (arg22.view.read (Elt F) X_arg22) (Rect.unit (k0_off3 k) S768x128.size (k0_off3_inb i k k0_h2))) (View.ld (arg28.view.read (Elt F) X_arg28) (Rect.unit ![0, 0] S256x768.size inb_S256x768_S256x768_0_0)))) (FM2 (Scalar.muli (Scf.iv 0#32 1#32 k) 256#32) (SC2 (View.ld (arg5.view.read (Elt F) X_arg5) (Rect.unit (k0_off1 k) S1x256x128.size (k0_off1_inb i k k0_h2))) (View.ld (arg23.view.read (Elt F) X_arg23) (Rect.unit (k0_off4 k) S2304x128.size (k0_off4_inb i k k0_h2))) (View.ld (arg29.view.read (Elt F) X_arg29) (Rect.unit ![0, 0] S256x2304.size inb_S256x2304_S256x2304_0_0)))) (View.ld (arg24.view.read (Elt F) X_arg24) (Rect.unit (k0_off2 k) S384x128.size (k0_off2_inb i k k0_h2)))⟩], [⟨Rect.unit (k0_off1 k) S1x256x128.size (k0_off1_inb i k k0_h2), O1 (FM0 (Scalar.muli (Scf.iv 0#32 1#32 k) 256#32) (SC0 (View.ld (arg3.view.read (Elt F) X_arg3) (Rect.unit (k0_off1 k) S1x256x128.size (k0_off1_inb i k k0_h2))) (View.ld (arg21.view.read (Elt F) X_arg21) (Rect.unit (k0_off2 k) S384x128.size (k0_off2_inb i k k0_h2))) (View.ld (arg27.view.read (Elt F) X_arg27) (Rect.unit ![0, 0] S256x384.size inb_S256x384_S256x384_0_0)))) (FM1 (Scalar.muli (Scf.iv 0#32 1#32 k) 256#32) (SC1 (View.ld (arg4.view.read (Elt F) X_arg4) (Rect.unit (k0_off1 k) S1x256x128.size (k0_off1_inb i k k0_h2))) (View.ld (arg22.view.read (Elt F) X_arg22) (Rect.unit (k0_off3 k) S768x128.size (k0_off3_inb i k k0_h2))) (View.ld (arg28.view.read (Elt F) X_arg28) (Rect.unit ![0, 0] S256x768.size inb_S256x768_S256x768_0_0)))) (FM2 (Scalar.muli (Scf.iv 0#32 1#32 k) 256#32) (SC2 (View.ld (arg5.view.read (Elt F) X_arg5) (Rect.unit (k0_off1 k) S1x256x128.size (k0_off1_inb i k k0_h2))) (View.ld (arg23.view.read (Elt F) X_arg23) (Rect.unit (k0_off4 k) S2304x128.size (k0_off4_inb i k k0_h2))) (View.ld (arg29.view.read (Elt F) X_arg29) (Rect.unit ![0, 0] S256x2304.size inb_S256x2304_S256x2304_0_0)))) (View.ld (arg25.view.read (Elt F) X_arg25) (Rect.unit (k0_off3 k) S768x128.size (k0_off3_inb i k k0_h2)))⟩], [⟨Rect.unit (k0_off1 k) S1x256x128.size (k0_off1_inb i k k0_h2), O2 (FM0 (Scalar.muli (Scf.iv 0#32 1#32 k) 256#32) (SC0 (View.ld (arg3.view.read (Elt F) X_arg3) (Rect.unit (k0_off1 k) S1x256x128.size (k0_off1_inb i k k0_h2))) (View.ld (arg21.view.read (Elt F) X_arg21) (Rect.unit (k0_off2 k) S384x128.size (k0_off2_inb i k k0_h2))) (View.ld (arg27.view.read (Elt F) X_arg27) (Rect.unit ![0, 0] S256x384.size inb_S256x384_S256x384_0_0)))) (FM1 (Scalar.muli (Scf.iv 0#32 1#32 k) 256#32) (SC1 (View.ld (arg4.view.read (Elt F) X_arg4) (Rect.unit (k0_off1 k) S1x256x128.size (k0_off1_inb i k k0_h2))) (View.ld (arg22.view.read (Elt F) X_arg22) (Rect.unit (k0_off3 k) S768x128.size (k0_off3_inb i k k0_h2))) (View.ld (arg28.view.read (Elt F) X_arg28) (Rect.unit ![0, 0] S256x768.size inb_S256x768_S256x768_0_0)))) (FM2 (Scalar.muli (Scf.iv 0#32 1#32 k) 256#32) (SC2 (View.ld (arg5.view.read (Elt F) X_arg5) (Rect.unit (k0_off1 k) S1x256x128.size (k0_off1_inb i k k0_h2))) (View.ld (arg23.view.read (Elt F) X_arg23) (Rect.unit (k0_off4 k) S2304x128.size (k0_off4_inb i k k0_h2))) (View.ld (arg29.view.read (Elt F) X_arg29) (Rect.unit ![0, 0] S256x2304.size inb_S256x2304_S256x2304_0_0)))) (View.ld (arg26.view.read (Elt F) X_arg26) (Rect.unit (k0_off4 k) S2304x128.size (k0_off4_inb i k k0_h2)))⟩]) := by
  unfold tripL_k0_t1 trip_k0_t1
  sl_unfold_words
  dsimp only
  simp only [View.readAt_eq_ld]
  rfl
end Any1

section Loop1
variable (𝒱 : Variants) (c : Dev nD) (bd : Option 𝒱.V) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x128x128 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S1x128x128 .bf16) (harg15 : arg15.IsWhole) (arg16 : Memref sig .tc .vmem S1x512x128 .bf16) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S1x2048x128 .bf16) (harg19 : arg19.IsWhole) (arg20 : Memref sig .tc .vmem S1x2048x128 .bf16) (harg20 : arg20.IsWhole) (arg21 : Memref sig .tc .vmem S2176x128 .bf16) (harg21 : arg21.IsWhole) (arg22 : Memref sig .tc .vmem S2560x128 .bf16) (harg22 : arg22.IsWhole) (arg23 : Memref sig .tc .vmem S4096x128 .bf16) (harg23 : arg23.IsWhole) (arg24 : Memref sig .tc .vmem S2176x128 .bf16) (harg24 : arg24.IsWhole) (arg25 : Memref sig .tc .vmem S2560x128 .bf16) (harg25 : arg25.IsWhole) (arg26 : Memref sig .tc .vmem S4096x128 .bf16) (harg26 : arg26.IsWhole) (arg27 : Memref sig .tc .vmem S256x384 .f32) (harg27 : arg27.IsWhole) (arg28 : Memref sig .tc .vmem S256x768 .f32) (harg28 : arg28.IsWhole) (arg29 : Memref sig .tc .vmem S256x2304 .f32) (harg29 : arg29.IsWhole) (k0_h2 : k0_cond2 i = 1#1) (X_arg3 : BufTy.Contents (Elt Ideal) arg3.view.ty) (X_arg4 : BufTy.Contents (Elt Ideal) arg4.view.ty) (X_arg5 : BufTy.Contents (Elt Ideal) arg5.view.ty) (X_arg21 : BufTy.Contents (Elt Ideal) arg21.view.ty) (X_arg22 : BufTy.Contents (Elt Ideal) arg22.view.ty) (X_arg23 : BufTy.Contents (Elt Ideal) arg23.view.ty) (X_arg24 : BufTy.Contents (Elt Ideal) arg24.view.ty) (X_arg25 : BufTy.Contents (Elt Ideal) arg25.view.ty) (X_arg26 : BufTy.Contents (Elt Ideal) arg26.view.ty) (X_arg27 : BufTy.Contents (Elt Ideal) arg27.view.ty) (X_arg28 : BufTy.Contents (Elt Ideal) arg28.view.ty) (X_arg29 : BufTy.Contents (Elt Ideal) arg29.view.ty)  {Q K V : Fin 3 → ℕ → Fin 128 → ℝ}

/-- One trip's pieces hold the block's values. -/
theorem trip1_val (k : Fin k0_t1_loop.trips) (H : Held Q K V (arg3.view.read (Elt Ideal) X_arg3) (arg4.view.read (Elt Ideal) X_arg4) (arg5.view.read (Elt Ideal) X_arg5) (arg21.view.read (Elt Ideal) X_arg21) (arg22.view.read (Elt Ideal) X_arg22) (arg23.view.read (Elt Ideal) X_arg23) (arg24.view.read (Elt Ideal) X_arg24) (arg25.view.read (Elt Ideal) X_arg25) (arg26.view.read (Elt Ideal) X_arg26) (arg27.view.read (Elt Ideal) X_arg27) (arg28.view.read (Elt Ideal) X_arg28) (arg29.view.read (Elt Ideal) X_arg29)) : (∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h2 X_arg3 X_arg4 X_arg5 X_arg21 X_arg22 X_arg23 X_arg24 X_arg25 X_arg26 X_arg27 X_arg28 X_arg29 k).1, ∀ x, p.2 x = ((val true Q K V 0 (p.1.emb x 1).val (p.1.emb x 2) : ℝ) : EReal))
    ∧ (∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h2 X_arg3 X_arg4 X_arg5 X_arg21 X_arg22 X_arg23 X_arg24 X_arg25 X_arg26 X_arg27 X_arg28 X_arg29 k).2.1, ∀ x, p.2 x = ((val true Q K V 1 (p.1.emb x 1).val (p.1.emb x 2) : ℝ) : EReal))
    ∧ (∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h2 X_arg3 X_arg4 X_arg5 X_arg21 X_arg22 X_arg23 X_arg24 X_arg25 X_arg26 X_arg27 X_arg28 X_arg29 k).2.2, ∀ x, p.2 x = ((val true Q K V 2 (p.1.emb x 1).val (p.1.emb x 2) : ℝ) : EReal)) := by
  have hk : k.val < 8 := Nat.lt_of_lt_of_le k.isLt k0_t1_abs.2.1
  have T := tile_vals (Q := Q) (K := K) (V := V) true ⟨k.val, hk⟩ (ld_q (k0_off1_eq k) _ (Q 0) H.q0 (k0_off1_inb i k k0_h2)) (ld_q (k0_off1_eq k) _ (Q 1) H.q1 (k0_off1_inb i k k0_h2)) (ld_q (k0_off1_eq k) _ (Q 2) H.q2 (k0_off1_inb i k k0_h2))
    (ld_w (k0_off2_eq k) _ (K 0) H.k0 (k0_off2_inb i k k0_h2)) (ld_w (k0_off3_eq k) _ (K 1) H.k1 (k0_off3_inb i k k0_h2)) (ld_w (k0_off4_eq k) _ (K 2) H.k2 (k0_off4_inb i k k0_h2))
    (ld_w (k0_off2_eq k) _ (V 0) H.v0 (k0_off2_inb i k k0_h2)) (ld_w (k0_off3_eq k) _ (V 1) H.v1 (k0_off3_inb i k k0_h2)) (ld_w (k0_off4_eq k) _ (V 2) H.v2 (k0_off4_inb i k k0_h2))
  rw [trip1_eq 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h2 X_arg3 X_arg4 X_arg5 X_arg21 X_arg22 X_arg23 X_arg24 X_arg25 X_arg26 X_arg27 X_arg28 X_arg29 k, ld_all (S := S256x384) (e := .f32) _ zero_off, ld_all (S := S256x768) (e := .f32) _ zero_off, ld_all (S := S256x2304) (e := .f32) _ zero_off, H.b0, H.b1, H.b2]
  simp only [S0, S1, S2, if_true, Bool.false_eq_true, if_false, ← r0w_iv] at T
  refine ⟨fun p hp => ?_, fun p hp => ?_, fun p hp => ?_⟩
  · obtain rfl := List.mem_singleton.1 hp
    dsimp only
    exact piece_tile (h := k0_off1_inb i k k0_h2) (k0_off1_eq k) (fun p d => ((val true Q K V 0 p d : ℝ) : EReal)) fun r d => (T r d).1
  · obtain rfl := List.mem_singleton.1 hp
    dsimp only
    exact piece_tile (h := k0_off1_inb i k k0_h2) (k0_off1_eq k) (fun p d => ((val true Q K V 1 p d : ℝ) : EReal)) fun r d => (T r d).2.1
  · obtain rfl := List.mem_singleton.1 hp
    dsimp only
    exact piece_tile (h := k0_off1_inb i k k0_h2) (k0_off1_eq k) (fun p d => ((val true Q K V 2 p d : ℝ) : EReal)) fun r d => (T r d).2.2

/-- All trips' pieces hold the block's values. -/
theorem pb1_val (H : Held Q K V (arg3.view.read (Elt Ideal) X_arg3) (arg4.view.read (Elt Ideal) X_arg4) (arg5.view.read (Elt Ideal) X_arg5) (arg21.view.read (Elt Ideal) X_arg21) (arg22.view.read (Elt Ideal) X_arg22) (arg23.view.read (Elt Ideal) X_arg23) (arg24.view.read (Elt Ideal) X_arg24) (arg25.view.read (Elt Ideal) X_arg25) (arg26.view.read (Elt Ideal) X_arg26) (arg27.view.read (Elt Ideal) X_arg27) (arg28.view.read (Elt Ideal) X_arg28) (arg29.view.read (Elt Ideal) X_arg29)) (n : ℕ) : (∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h2 X_arg3 X_arg4 X_arg5 X_arg21 X_arg22 X_arg23 X_arg24 X_arg25 X_arg26 X_arg27 X_arg28 X_arg29 n).1, ∀ x, p.2 x = ((val true Q K V 0 (p.1.emb x 1).val (p.1.emb x 2) : ℝ) : EReal))
    ∧ (∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h2 X_arg3 X_arg4 X_arg5 X_arg21 X_arg22 X_arg23 X_arg24 X_arg25 X_arg26 X_arg27 X_arg28 X_arg29 n).2.1, ∀ x, p.2 x = ((val true Q K V 1 (p.1.emb x 1).val (p.1.emb x 2) : ℝ) : EReal))
    ∧ (∀ p ∈ (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h2 X_arg3 X_arg4 X_arg5 X_arg21 X_arg22 X_arg23 X_arg24 X_arg25 X_arg26 X_arg27 X_arg28 X_arg29 n).2.2, ∀ x, p.2 x = ((val true Q K V 2 (p.1.emb x 1).val (p.1.emb x 2) : ℝ) : EReal)) := by
  induction n with
  | zero =>
    rw [pb_k0_t1.eq_1]
    exact ⟨fun p hp => absurd hp (by simp), fun p hp => absurd hp (by simp), fun p hp => absurd hp (by simp)⟩
  | succ n ih =>
    rw [pb_k0_t1.eq_2]; unfold pb_k0_t1Step
    by_cases h : n < k0_t1_loop.trips
    · rw [dif_pos h]
      have T := trip1_val 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h2 X_arg3 X_arg4 X_arg5 X_arg21 X_arg22 X_arg23 X_arg24 X_arg25 X_arg26 X_arg27 X_arg28 X_arg29 ⟨n, h⟩ H
      exact ⟨fun p hp => (List.mem_append.1 hp).elim (T.1 p) (ih.1 p), fun p hp => (List.mem_append.1 hp).elim (T.2.1 p) (ih.2.1 p),
        fun p hp => (List.mem_append.1 hp).elim (T.2.2 p) (ih.2.2 p)⟩
    · rw [dif_neg h]; exact ih
end Loop1

section Any2
variable {F : FTy → Type} [FloatOps F] [Named F] (𝒱 : Variants) (c : Dev nD) (bd : Option 𝒱.V) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x128x128 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S1x128x128 .bf16) (harg15 : arg15.IsWhole) (arg16 : Memref sig .tc .vmem S1x512x128 .bf16) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S1x2048x128 .bf16) (harg19 : arg19.IsWhole) (arg20 : Memref sig .tc .vmem S1x2048x128 .bf16) (harg20 : arg20.IsWhole) (arg21 : Memref sig .tc .vmem S2176x128 .bf16) (harg21 : arg21.IsWhole) (arg22 : Memref sig .tc .vmem S2560x128 .bf16) (harg22 : arg22.IsWhole) (arg23 : Memref sig .tc .vmem S4096x128 .bf16) (harg23 : arg23.IsWhole) (arg24 : Memref sig .tc .vmem S2176x128 .bf16) (harg24 : arg24.IsWhole) (arg25 : Memref sig .tc .vmem S2560x128 .bf16) (harg25 : arg25.IsWhole) (arg26 : Memref sig .tc .vmem S4096x128 .bf16) (harg26 : arg26.IsWhole) (arg27 : Memref sig .tc .vmem S256x384 .f32) (harg27 : arg27.IsWhole) (arg28 : Memref sig .tc .vmem S256x768 .f32) (harg28 : arg28.IsWhole) (arg29 : Memref sig .tc .vmem S256x2304 .f32) (harg29 : arg29.IsWhole) (k0_h3 : k0_cond3 i = 1#1) (X_arg3 : BufTy.Contents (Elt F) arg3.view.ty) (X_arg4 : BufTy.Contents (Elt F) arg4.view.ty) (X_arg5 : BufTy.Contents (Elt F) arg5.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (X_arg29 : BufTy.Contents (Elt F) arg29.view.ty)

/-- One trip's three pieces, in the tile's own terms. -/
theorem trip2_eq (k : Fin k0_t2_loop.trips) : (tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h3 X_arg3 X_arg4 X_arg5 X_arg21 X_arg22 X_arg23 X_arg24 X_arg25 X_arg26 X_arg27 X_arg28 X_arg29 k)
    = ([⟨Rect.unit (k0_off5 k) S1x256x128.size (k0_off5_inb i k k0_h3), O0 (SC0 (View.ld (arg3.view.read (Elt F) X_arg3) (Rect.unit (k0_off5 k) S1x256x128.size (k0_off5_inb i k k0_h3))) (View.ld (arg21.view.read (Elt F) X_arg21) (Rect.unit (k0_off6 k) S384x128.size (k0_off6_inb i k k0_h3))) (View.ld (arg27.view.read (Elt F) X_arg27) (Rect.unit ![0, 0] S256x384.size inb_S256x384_S256x384_0_0))) (SC1 (View.ld (arg4.view.read (Elt F) X_arg4) (Rect.unit (k0_off5 k) S1x256x128.size (k0_off5_inb i k k0_h3))) (View.ld (arg22.view.read (Elt F) X_arg22) (Rect.unit (k0_off7 k) S768x128.size (k0_off7_inb i k k0_h3))) (View.ld (arg28.view.read (Elt F) X_arg28) (Rect.unit ![0, 0] S256x768.size inb_S256x768_S256x768_0_0))) (SC2 (View.ld (arg5.view.read (Elt F) X_arg5) (Rect.unit (k0_off5 k) S1x256x128.size (k0_off5_inb i k k0_h3))) (View.ld (arg23.view.read (Elt F) X_arg23) (Rect.unit (k0_off8 k) S2304x128.size (k0_off8_inb i k k0_h3))) (View.ld (arg29.view.read (Elt F) X_arg29) (Rect.unit ![0, 0] S256x2304.size inb_S256x2304_S256x2304_0_0))) (View.ld (arg24.view.read (Elt F) X_arg24) (Rect.unit (k0_off6 k) S384x128.size (k0_off6_inb i k k0_h3)))⟩], [⟨Rect.unit (k0_off5 k) S1x256x128.size (k0_off5_inb i k k0_h3), O1 (SC0 (View.ld (arg3.view.read (Elt F) X_arg3) (Rect.unit (k0_off5 k) S1x256x128.size (k0_off5_inb i k k0_h3))) (View.ld (arg21.view.read (Elt F) X_arg21) (Rect.unit (k0_off6 k) S384x128.size (k0_off6_inb i k k0_h3))) (View.ld (arg27.view.read (Elt F) X_arg27) (Rect.unit ![0, 0] S256x384.size inb_S256x384_S256x384_0_0))) (SC1 (View.ld (arg4.view.read (Elt F) X_arg4) (Rect.unit (k0_off5 k) S1x256x128.size (k0_off5_inb i k k0_h3))) (View.ld (arg22.view.read (Elt F) X_arg22) (Rect.unit (k0_off7 k) S768x128.size (k0_off7_inb i k k0_h3))) (View.ld (arg28.view.read (Elt F) X_arg28) (Rect.unit ![0, 0] S256x768.size inb_S256x768_S256x768_0_0))) (SC2 (View.ld (arg5.view.read (Elt F) X_arg5) (Rect.unit (k0_off5 k) S1x256x128.size (k0_off5_inb i k k0_h3))) (View.ld (arg23.view.read (Elt F) X_arg23) (Rect.unit (k0_off8 k) S2304x128.size (k0_off8_inb i k k0_h3))) (View.ld (arg29.view.read (Elt F) X_arg29) (Rect.unit ![0, 0] S256x2304.size inb_S256x2304_S256x2304_0_0))) (View.ld (arg25.view.read (Elt F) X_arg25) (Rect.unit (k0_off7 k) S768x128.size (k0_off7_inb i k k0_h3)))⟩], [⟨Rect.unit (k0_off5 k) S1x256x128.size (k0_off5_inb i k k0_h3), O2 (SC0 (View.ld (arg3.view.read (Elt F) X_arg3) (Rect.unit (k0_off5 k) S1x256x128.size (k0_off5_inb i k k0_h3))) (View.ld (arg21.view.read (Elt F) X_arg21) (Rect.unit (k0_off6 k) S384x128.size (k0_off6_inb i k k0_h3))) (View.ld (arg27.view.read (Elt F) X_arg27) (Rect.unit ![0, 0] S256x384.size inb_S256x384_S256x384_0_0))) (SC1 (View.ld (arg4.view.read (Elt F) X_arg4) (Rect.unit (k0_off5 k) S1x256x128.size (k0_off5_inb i k k0_h3))) (View.ld (arg22.view.read (Elt F) X_arg22) (Rect.unit (k0_off7 k) S768x128.size (k0_off7_inb i k k0_h3))) (View.ld (arg28.view.read (Elt F) X_arg28) (Rect.unit ![0, 0] S256x768.size inb_S256x768_S256x768_0_0))) (SC2 (View.ld (arg5.view.read (Elt F) X_arg5) (Rect.unit (k0_off5 k) S1x256x128.size (k0_off5_inb i k k0_h3))) (View.ld (arg23.view.read (Elt F) X_arg23) (Rect.unit (k0_off8 k) S2304x128.size (k0_off8_inb i k k0_h3))) (View.ld (arg29.view.read (Elt F) X_arg29) (Rect.unit ![0, 0] S256x2304.size inb_S256x2304_S256x2304_0_0))) (View.ld (arg26.view.read (Elt F) X_arg26) (Rect.unit (k0_off8 k) S2304x128.size (k0_off8_inb i k k0_h3)))⟩]) := by
  unfold tripL_k0_t2 trip_k0_t2
  sl_unfold_words
  dsimp only
  simp only [View.readAt_eq_ld]
  rfl
end Any2

section Loop2
variable (𝒱 : Variants) (c : Dev nD) (bd : Option 𝒱.V) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x128x128 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S1x128x128 .bf16) (harg15 : arg15.IsWhole) (arg16 : Memref sig .tc .vmem S1x512x128 .bf16) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S1x2048x128 .bf16) (harg19 : arg19.IsWhole) (arg20 : Memref sig .tc .vmem S1x2048x128 .bf16) (harg20 : arg20.IsWhole) (arg21 : Memref sig .tc .vmem S2176x128 .bf16) (harg21 : arg21.IsWhole) (arg22 : Memref sig .tc .vmem S2560x128 .bf16) (harg22 : arg22.IsWhole) (arg23 : Memref sig .tc .vmem S4096x128 .bf16) (harg23 : arg23.IsWhole) (arg24 : Memref sig .tc .vmem S2176x128 .bf16) (harg24 : arg24.IsWhole) (arg25 : Memref sig .tc .vmem S2560x128 .bf16) (harg25 : arg25.IsWhole) (arg26 : Memref sig .tc .vmem S4096x128 .bf16) (harg26 : arg26.IsWhole) (arg27 : Memref sig .tc .vmem S256x384 .f32) (harg27 : arg27.IsWhole) (arg28 : Memref sig .tc .vmem S256x768 .f32) (harg28 : arg28.IsWhole) (arg29 : Memref sig .tc .vmem S256x2304 .f32) (harg29 : arg29.IsWhole) (k0_h3 : k0_cond3 i = 1#1) (X_arg3 : BufTy.Contents (Elt Ideal) arg3.view.ty) (X_arg4 : BufTy.Contents (Elt Ideal) arg4.view.ty) (X_arg5 : BufTy.Contents (Elt Ideal) arg5.view.ty) (X_arg21 : BufTy.Contents (Elt Ideal) arg21.view.ty) (X_arg22 : BufTy.Contents (Elt Ideal) arg22.view.ty) (X_arg23 : BufTy.Contents (Elt Ideal) arg23.view.ty) (X_arg24 : BufTy.Contents (Elt Ideal) arg24.view.ty) (X_arg25 : BufTy.Contents (Elt Ideal) arg25.view.ty) (X_arg26 : BufTy.Contents (Elt Ideal) arg26.view.ty) (X_arg27 : BufTy.Contents (Elt Ideal) arg27.view.ty) (X_arg28 : BufTy.Contents (Elt Ideal) arg28.view.ty) (X_arg29 : BufTy.Contents (Elt Ideal) arg29.view.ty)  {Q K V : Fin 3 → ℕ → Fin 128 → ℝ}

/-- One trip's pieces hold the block's values. -/
theorem trip2_val (k : Fin k0_t2_loop.trips) (H : Held Q K V (arg3.view.read (Elt Ideal) X_arg3) (arg4.view.read (Elt Ideal) X_arg4) (arg5.view.read (Elt Ideal) X_arg5) (arg21.view.read (Elt Ideal) X_arg21) (arg22.view.read (Elt Ideal) X_arg22) (arg23.view.read (Elt Ideal) X_arg23) (arg24.view.read (Elt Ideal) X_arg24) (arg25.view.read (Elt Ideal) X_arg25) (arg26.view.read (Elt Ideal) X_arg26) (arg27.view.read (Elt Ideal) X_arg27) (arg28.view.read (Elt Ideal) X_arg28) (arg29.view.read (Elt Ideal) X_arg29)) : (∀ p ∈ (tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h3 X_arg3 X_arg4 X_arg5 X_arg21 X_arg22 X_arg23 X_arg24 X_arg25 X_arg26 X_arg27 X_arg28 X_arg29 k).1, ∀ x, p.2 x = ((val false Q K V 0 (p.1.emb x 1).val (p.1.emb x 2) : ℝ) : EReal))
    ∧ (∀ p ∈ (tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h3 X_arg3 X_arg4 X_arg5 X_arg21 X_arg22 X_arg23 X_arg24 X_arg25 X_arg26 X_arg27 X_arg28 X_arg29 k).2.1, ∀ x, p.2 x = ((val false Q K V 1 (p.1.emb x 1).val (p.1.emb x 2) : ℝ) : EReal))
    ∧ (∀ p ∈ (tripL_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h3 X_arg3 X_arg4 X_arg5 X_arg21 X_arg22 X_arg23 X_arg24 X_arg25 X_arg26 X_arg27 X_arg28 X_arg29 k).2.2, ∀ x, p.2 x = ((val false Q K V 2 (p.1.emb x 1).val (p.1.emb x 2) : ℝ) : EReal)) := by
  have hk : k.val < 8 := Nat.lt_of_lt_of_le k.isLt k0_t2_abs.2.1
  have T := tile_vals (Q := Q) (K := K) (V := V) false ⟨k.val, hk⟩ (ld_q (k0_off5_eq k) _ (Q 0) H.q0 (k0_off5_inb i k k0_h3)) (ld_q (k0_off5_eq k) _ (Q 1) H.q1 (k0_off5_inb i k k0_h3)) (ld_q (k0_off5_eq k) _ (Q 2) H.q2 (k0_off5_inb i k k0_h3))
    (ld_w (k0_off6_eq k) _ (K 0) H.k0 (k0_off6_inb i k k0_h3)) (ld_w (k0_off7_eq k) _ (K 1) H.k1 (k0_off7_inb i k k0_h3)) (ld_w (k0_off8_eq k) _ (K 2) H.k2 (k0_off8_inb i k k0_h3))
    (ld_w (k0_off6_eq k) _ (V 0) H.v0 (k0_off6_inb i k k0_h3)) (ld_w (k0_off7_eq k) _ (V 1) H.v1 (k0_off7_inb i k k0_h3)) (ld_w (k0_off8_eq k) _ (V 2) H.v2 (k0_off8_inb i k k0_h3))
  rw [trip2_eq 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h3 X_arg3 X_arg4 X_arg5 X_arg21 X_arg22 X_arg23 X_arg24 X_arg25 X_arg26 X_arg27 X_arg28 X_arg29 k, ld_all (S := S256x384) (e := .f32) _ zero_off, ld_all (S := S256x768) (e := .f32) _ zero_off, ld_all (S := S256x2304) (e := .f32) _ zero_off, H.b0, H.b1, H.b2]
  simp only [S0, S1, S2, if_true, Bool.false_eq_true, if_false] at T
  refine ⟨fun p hp => ?_, fun p hp => ?_, fun p hp => ?_⟩
  · obtain rfl := List.mem_singleton.1 hp
    dsimp only
    exact piece_tile (h := k0_off5_inb i k k0_h3) (k0_off5_eq k) (fun p d => ((val false Q K V 0 p d : ℝ) : EReal)) fun r d => (T r d).1
  · obtain rfl := List.mem_singleton.1 hp
    dsimp only
    exact piece_tile (h := k0_off5_inb i k k0_h3) (k0_off5_eq k) (fun p d => ((val false Q K V 1 p d : ℝ) : EReal)) fun r d => (T r d).2.1
  · obtain rfl := List.mem_singleton.1 hp
    dsimp only
    exact piece_tile (h := k0_off5_inb i k k0_h3) (k0_off5_eq k) (fun p d => ((val false Q K V 2 p d : ℝ) : EReal)) fun r d => (T r d).2.2

/-- All trips' pieces hold the block's values. -/
theorem pb2_val (H : Held Q K V (arg3.view.read (Elt Ideal) X_arg3) (arg4.view.read (Elt Ideal) X_arg4) (arg5.view.read (Elt Ideal) X_arg5) (arg21.view.read (Elt Ideal) X_arg21) (arg22.view.read (Elt Ideal) X_arg22) (arg23.view.read (Elt Ideal) X_arg23) (arg24.view.read (Elt Ideal) X_arg24) (arg25.view.read (Elt Ideal) X_arg25) (arg26.view.read (Elt Ideal) X_arg26) (arg27.view.read (Elt Ideal) X_arg27) (arg28.view.read (Elt Ideal) X_arg28) (arg29.view.read (Elt Ideal) X_arg29)) (n : ℕ) : (∀ p ∈ (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h3 X_arg3 X_arg4 X_arg5 X_arg21 X_arg22 X_arg23 X_arg24 X_arg25 X_arg26 X_arg27 X_arg28 X_arg29 n).1, ∀ x, p.2 x = ((val false Q K V 0 (p.1.emb x 1).val (p.1.emb x 2) : ℝ) : EReal))
    ∧ (∀ p ∈ (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h3 X_arg3 X_arg4 X_arg5 X_arg21 X_arg22 X_arg23 X_arg24 X_arg25 X_arg26 X_arg27 X_arg28 X_arg29 n).2.1, ∀ x, p.2 x = ((val false Q K V 1 (p.1.emb x 1).val (p.1.emb x 2) : ℝ) : EReal))
    ∧ (∀ p ∈ (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h3 X_arg3 X_arg4 X_arg5 X_arg21 X_arg22 X_arg23 X_arg24 X_arg25 X_arg26 X_arg27 X_arg28 X_arg29 n).2.2, ∀ x, p.2 x = ((val false Q K V 2 (p.1.emb x 1).val (p.1.emb x 2) : ℝ) : EReal)) := by
  induction n with
  | zero =>
    rw [pb_k0_t2.eq_1]
    exact ⟨fun p hp => absurd hp (by simp), fun p hp => absurd hp (by simp), fun p hp => absurd hp (by simp)⟩
  | succ n ih =>
    rw [pb_k0_t2.eq_2]; unfold pb_k0_t2Step
    by_cases h : n < k0_t2_loop.trips
    · rw [dif_pos h]
      have T := trip2_val 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 k0_h3 X_arg3 X_arg4 X_arg5 X_arg21 X_arg22 X_arg23 X_arg24 X_arg25 X_arg26 X_arg27 X_arg28 X_arg29 ⟨n, h⟩ H
      exact ⟨fun p hp => (List.mem_append.1 hp).elim (T.1 p) (ih.1 p), fun p hp => (List.mem_append.1 hp).elim (T.2.1 p) (ih.2.1 p),
        fun p hp => (List.mem_append.1 hp).elim (T.2.2 p) (ih.2.2 p)⟩
    · rw [dif_neg h]; exact ih
end Loop2

end Cert.KernelIdeal.Tile

end
end
-- ==== Proof.Cases.lean ====
module

public import proofs.«01_k».proof.Proof.Trips
public import Idealize.ShloMosaic.Lib.ValueLayout

@[expose] public section

set_option maxRecDepth 16384

noncomputable section

namespace Cert.KernelIdeal.Tile

open Idealize.ShloMosaic Idealize.ShloMosaic.TcCoe Idealize.SL Cert.KernelIdeal Cert.KernelIdeal.Gen Cert.Attn

/-- What the body's input blocks hold: queries, and for keys and values each window's own rows after its history's. -/
structure Blocks (Q K V : Fin 3 → ℕ → Fin 128 → ℝ) (x0 x1 x2 x3 x4 x5 : S1x2048x128.Idx → EReal) (x6 : S1x128x128.Idx → EReal)
    (x7 : S1x512x128.Idx → EReal) (x8 x9 x10 x11 : S1x2048x128.Idx → EReal) (x12 : S1x128x128.Idx → EReal) (x13 : S1x512x128.Idx → EReal)
    (x14 : S1x2048x128.Idx → EReal) : Prop where
  q0 : ∀ (p : Fin 2048) (d : Fin 128), x0 (ix3 0 p d) = ((Q 0 p.val d : ℝ) : EReal)
  q1 : ∀ (p : Fin 2048) (d : Fin 128), x1 (ix3 0 p d) = ((Q 1 p.val d : ℝ) : EReal)
  q2 : ∀ (p : Fin 2048) (d : Fin 128), x2 (ix3 0 p d) = ((Q 2 p.val d : ℝ) : EReal)
  kc0 : ∀ (p : Fin 2048) (d : Fin 128), x3 (ix3 0 p d) = ((K 0 (128 + p.val) d : ℝ) : EReal)
  kc1 : ∀ (p : Fin 2048) (d : Fin 128), x4 (ix3 0 p d) = ((K 1 (512 + p.val) d : ℝ) : EReal)
  kc2 : ∀ (p : Fin 2048) (d : Fin 128), x5 (ix3 0 p d) = ((K 2 (2048 + p.val) d : ℝ) : EReal)
  kh0 : ∀ (p : Fin 128) (d : Fin 128), x6 (ix3 0 p d) = ((K 0 p.val d : ℝ) : EReal)
  kh1 : ∀ (p : Fin 512) (d : Fin 128), x7 (ix3 0 p d) = ((K 1 p.val d : ℝ) : EReal)
  kh2 : ∀ (p : Fin 2048) (d : Fin 128), x8 (ix3 0 p d) = ((K 2 p.val d : ℝ) : EReal)
  vc0 : ∀ (p : Fin 2048) (d : Fin 128), x9 (ix3 0 p d) = ((V 0 (128 + p.val) d : ℝ) : EReal)
  vc1 : ∀ (p : Fin 2048) (d : Fin 128), x10 (ix3 0 p d) = ((V 1 (512 + p.val) d : ℝ) : EReal)
  vc2 : ∀ (p : Fin 2048) (d : Fin 128), x11 (ix3 0 p d) = ((V 2 (2048 + p.val) d : ℝ) : EReal)
  vh0 : ∀ (p : Fin 128) (d : Fin 128), x12 (ix3 0 p d) = ((V 0 p.val d : ℝ) : EReal)
  vh1 : ∀ (p : Fin 512) (d : Fin 128), x13 (ix3 0 p d) = ((V 1 p.val d : ℝ) : EReal)
  vh2 : ∀ (p : Fin 2048) (d : Fin 128), x14 (ix3 0 p d) = ((V 2 p.val d : ℝ) : EReal)

/-- Rows behind a leading unit axis, cast to a matrix twice: the same rows. -/
theorem cast_rows {m : ℕ} (v : (⟨3, ![1, m, 128]⟩ : Shape).Idx → EReal) (h1) (h2) (p : Fin m) (d : Fin 128) :
    shapeCast (⟨2, ![m, 128]⟩ : Shape) (shapeCast (⟨2, ![m, 128]⟩ : Shape) v h1) h2 (ix2 p d) = v (ix3 0 p d) := by
  pointwise []
  exact congrArg v (ValueIdx.reshapeEquiv_ix2_1ab _ p d)

/-- All three offsets are zero. -/
theorem zero_off3 : ∀ a : Fin 3, (![0, 0, 0] : Fin 3 → ℕ) a = 0 := by decide

/-- The rows of an input block, copied. -/
theorem copy_rows {m : ℕ} (x : (⟨3, ![1, m, 128]⟩ : Shape).Idx → EReal) (hi) (h1) (h2) (p : Fin m) (d : Fin 128) :
    shapeCast (⟨2, ![m, 128]⟩ : Shape) (shapeCast (⟨2, ![m, 128]⟩ : Shape)
      (View.ld (Val := Elt Ideal) (e' := .bf16) x (Rect.unit (s := (⟨3, ![1, m, 128]⟩ : Shape)) ![0, 0, 0] ![1, m, 128] hi)) h1) h2 (ix2 p d) = x (ix3 0 p d) :=
  (cast_rows _ h1 h2 p d).trans (congrFun (ld_all (S := (⟨3, ![1, m, 128]⟩ : Shape)) (e := .bf16) x zero_off3 hi) _)

/-- A buffer written once whole reads as what was written. -/
theorem whole_read {sp : Space} {m n : ℕ} (v : View sig .tc sp (⟨2, ![m, n]⟩ : Shape) .f32) {h} (w : (⟨2, ![m, n]⟩ : Shape).Idx → EReal) :
    v.read (Elt Ideal) (v.writes (Elt Ideal) v.junk [⟨Rect.unit ![0, 0] ![m, n] h, w⟩]) = w := by
  funext y
  refine (View.read_writes_junk_apply_eq_canon v y _).trans
    (View.canon_apply_of_pieces (Val := Elt Ideal) (e := .f32) (S := (⟨2, ![m, n]⟩ : Shape)) w _ ?_ y ⟨_, List.mem_singleton_self _, ?_⟩)
  · intro p hp x
    obtain rfl := List.mem_singleton.1 hp
    refine congrArg w (funext fun b => Fin.ext ?_)
    rw [ValueKit.rect_emb_unit_val, zero_off b, Nat.zero_add]
  · rw [Rect.mem_set_unit]
    intro b
    rw [zero_off b]
    exact ⟨Nat.zero_le _, by rw [Nat.zero_add]; exact (y b).isLt⟩

/-- A scratch window as the loop reads it: history rows and the block's rows, each copied from its input block. -/
theorem window_read {R n : ℕ} (hn : n = R + 2048) (a : Memref sig .tc .vmem (⟨2, ![n, 128]⟩ : Shape) .bf16) {h1 h2}
    {w1 : (⟨2, ![2048, 128]⟩ : Shape).Idx → EReal} {w2 : (⟨2, ![R, 128]⟩ : Shape).Idx → EReal} (f : ℕ → Fin 128 → ℝ)
    (hc : ∀ (p : Fin 2048) (d : Fin 128), w1 (ix2 p d) = ((f (R + p.val) d : ℝ) : EReal)) (hh : ∀ (p : Fin R) (d : Fin 128), w2 (ix2 p d) = ((f p.val d : ℝ) : EReal))
    (i : Fin n) (d : Fin 128) :
    a.view.read (Elt Ideal) (a.view.writes (Elt Ideal) a.view.junk [⟨Rect.unit ![R, 0] ![2048, 128] h1, w1⟩, ⟨Rect.unit ![0, 0] ![R, 128] h2, w2⟩]) (ix2 i d) = ((f i.val d : ℝ) : EReal) :=
  (View.read_writes_junk_apply_eq_canon a.view (ix2 i d) _).trans
    (window hn (h1 := h1) (h2 := h2) (w1 := w1) (w2 := w2) (fun p d => ((f p d : ℝ) : EReal)) hc hh i d)

/-- The loop's reads from the input blocks' contents. -/
theorem held_of {Q K V : Fin 3 → ℕ → Fin 128 → ℝ} {x0 x1 x2 x3 x4 x5 : S1x2048x128.Idx → EReal} {x6 : S1x128x128.Idx → EReal}
    {x7 : S1x512x128.Idx → EReal} {x8 x9 x10 x11 : S1x2048x128.Idx → EReal} {x12 : S1x128x128.Idx → EReal} {x13 : S1x512x128.Idx → EReal}
    {x14 : S1x2048x128.Idx → EReal} (H : Blocks Q K V x0 x1 x2 x3 x4 x5 x6 x7 x8 x9 x10 x11 x12 x13 x14)
    (arg21 : Memref sig .tc .vmem S2176x128 .bf16) (arg22 : Memref sig .tc .vmem S2560x128 .bf16) (arg23 : Memref sig .tc .vmem S4096x128 .bf16)
    (arg24 : Memref sig .tc .vmem S2176x128 .bf16) (arg25 : Memref sig .tc .vmem S2560x128 .bf16) (arg26 : Memref sig .tc .vmem S4096x128 .bf16)
    {b0 : S256x384.Idx → EReal} {b1 : S256x768.Idx → EReal} {b2 : S256x2304.Idx → EReal}
    (h0 : b0 = k0_pay8 (F := Ideal)) (h1 : b1 = k0_pay9 (F := Ideal)) (h2 : b2 = B2 (F := Ideal)) :
    Held Q K V x0 x1 x2
      (arg21.view.read (Elt Ideal) (arg21.view.writes (Elt Ideal) arg21.view.junk [⟨Rect.unit ![128, 0] S2048x128.size inb_S2176x128_S2048x128_128_0, k0_pay35 (F := Ideal) (View.ld (Val := Elt Ideal) (e' := .bf16) x3 (Rect.unit ![0, 0, 0] S1x2048x128.size inb_S1x2048x128_S1x2048x128_0_0_0))⟩, ⟨Rect.unit ![0, 0] S128x128.size inb_S2176x128_S128x128_0_0, k0_pay34 (F := Ideal) (View.ld (Val := Elt Ideal) (e' := .bf16) x6 (Rect.unit ![0, 0, 0] S1x128x128.size inb_S1x128x128_S1x128x128_0_0_0))⟩]))
      (arg22.view.read (Elt Ideal) (arg22.view.writes (Elt Ideal) arg22.view.junk [⟨Rect.unit ![512, 0] S2048x128.size inb_S2560x128_S2048x128_512_0, k0_pay39 (F := Ideal) (View.ld (Val := Elt Ideal) (e' := .bf16) x4 (Rect.unit ![0, 0, 0] S1x2048x128.size inb_S1x2048x128_S1x2048x128_0_0_0))⟩, ⟨Rect.unit ![0, 0] S512x128.size inb_S2560x128_S512x128_0_0, k0_pay38 (F := Ideal) (View.ld (Val := Elt Ideal) (e' := .bf16) x7 (Rect.unit ![0, 0, 0] S1x512x128.size inb_S1x512x128_S1x512x128_0_0_0))⟩]))
      (arg23.view.read (Elt Ideal) (arg23.view.writes (Elt Ideal) arg23.view.junk [⟨Rect.unit ![2048, 0] S2048x128.size inb_S4096x128_S2048x128_2048_0, k0_pay1 (F := Ideal) (k0_pay43 (F := Ideal) (View.ld (Val := Elt Ideal) (e' := .bf16) x5 (Rect.unit ![0, 0, 0] S1x2048x128.size inb_S1x2048x128_S1x2048x128_0_0_0)))⟩, ⟨Rect.unit ![0, 0] S2048x128.size inb_S4096x128_S2048x128_0_0, k0_pay42 (F := Ideal) (View.ld (Val := Elt Ideal) (e' := .bf16) x8 (Rect.unit ![0, 0, 0] S1x2048x128.size inb_S1x2048x128_S1x2048x128_0_0_0))⟩]))
      (arg24.view.read (Elt Ideal) (arg24.view.writes (Elt Ideal) arg24.view.junk [⟨Rect.unit ![128, 0] S2048x128.size inb_S2176x128_S2048x128_128_0, k0_pay37 (F := Ideal) (View.ld (Val := Elt Ideal) (e' := .bf16) x9 (Rect.unit ![0, 0, 0] S1x2048x128.size inb_S1x2048x128_S1x2048x128_0_0_0))⟩, ⟨Rect.unit ![0, 0] S128x128.size inb_S2176x128_S128x128_0_0, k0_pay36 (F := Ideal) (View.ld (Val := Elt Ideal) (e' := .bf16) x12 (Rect.unit ![0, 0, 0] S1x128x128.size inb_S1x128x128_S1x128x128_0_0_0))⟩]))
      (arg25.view.read (Elt Ideal) (arg25.view.writes (Elt Ideal) arg25.view.junk [⟨Rect.unit ![512, 0] S2048x128.size inb_S2560x128_S2048x128_512_0, k0_pay41 (F := Ideal) (View.ld (Val := Elt Ideal) (e' := .bf16) x10 (Rect.unit ![0, 0, 0] S1x2048x128.size inb_S1x2048x128_S1x2048x128_0_0_0))⟩, ⟨Rect.unit ![0, 0] S512x128.size inb_S2560x128_S512x128_0_0, k0_pay40 (F := Ideal) (View.ld (Val := Elt Ideal) (e' := .bf16) x13 (Rect.unit ![0, 0, 0] S1x512x128.size inb_S1x512x128_S1x512x128_0_0_0))⟩]))
      (arg26.view.read (Elt Ideal) (arg26.view.writes (Elt Ideal) arg26.view.junk [⟨Rect.unit ![2048, 0] S2048x128.size inb_S4096x128_S2048x128_2048_0, k0_pay3 (F := Ideal) (View.ld (Val := Elt Ideal) (e' := .bf16) x11 (Rect.unit ![0, 0, 0] S1x2048x128.size inb_S1x2048x128_S1x2048x128_0_0_0))⟩, ⟨Rect.unit ![0, 0] S2048x128.size inb_S4096x128_S2048x128_0_0, k0_pay2 (F := Ideal) (View.ld (Val := Elt Ideal) (e' := .bf16) x14 (Rect.unit ![0, 0, 0] S1x2048x128.size inb_S1x2048x128_S1x2048x128_0_0_0))⟩]))
      b0 b1 b2 where
  q0 := H.q0
  q1 := H.q1
  q2 := H.q2
  k0 := window_read (R := 128) (n := 2176) rfl arg21 (K 0) (fun p d => (copy_rows (m := 2048) x3 _ _ _ p d).trans (H.kc0 p d)) (fun p d => (copy_rows (m := 128) x6 _ _ _ p d).trans (H.kh0 p d))
  k1 := window_read (R := 512) (n := 2560) rfl arg22 (K 1) (fun p d => (copy_rows (m := 2048) x4 _ _ _ p d).trans (H.kc1 p d)) (fun p d => (copy_rows (m := 512) x7 _ _ _ p d).trans (H.kh1 p d))
  k2 := window_read (R := 2048) (n := 4096) rfl arg23 (K 2) (fun p d => (copy_rows (m := 2048) x5 _ _ _ p d).trans (H.kc2 p d)) (fun p d => (copy_rows (m := 2048) x8 _ _ _ p d).trans (H.kh2 p d))
  v0 := window_read (R := 128) (n := 2176) rfl arg24 (V 0) (fun p d => (copy_rows (m := 2048) x9 _ _ _ p d).trans (H.vc0 p d)) (fun p d => (copy_rows (m := 128) x12 _ _ _ p d).trans (H.vh0 p d))
  v1 := window_read (R := 512) (n := 2560) rfl arg25 (V 1) (fun p d => (copy_rows (m := 2048) x10 _ _ _ p d).trans (H.vc1 p d)) (fun p d => (copy_rows (m := 512) x13 _ _ _ p d).trans (H.vh1 p d))
  v2 := window_read (R := 2048) (n := 4096) rfl arg26 (V 2) (fun p d => (copy_rows (m := 2048) x11 _ _ _ p d).trans (H.vc2 p d)) (fun p d => (copy_rows (m := 2048) x14 _ _ _ p d).trans (H.vh2 p d))
  b0 := h0
  b1 := h1
  b2 := h2

section CaseA
variable (c : Dev nD) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x128x128 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S1x128x128 .bf16) (harg15 : arg15.IsWhole) (arg16 : Memref sig .tc .vmem S1x512x128 .bf16) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S1x2048x128 .bf16) (harg19 : arg19.IsWhole) (arg20 : Memref sig .tc .vmem S1x2048x128 .bf16) (harg20 : arg20.IsWhole) (arg21 : Memref sig .tc .vmem S2176x128 .bf16) (harg21 : arg21.IsWhole) (arg22 : Memref sig .tc .vmem S2560x128 .bf16) (harg22 : arg22.IsWhole) (arg23 : Memref sig .tc .vmem S4096x128 .bf16) (harg23 : arg23.IsWhole) (arg24 : Memref sig .tc .vmem S2176x128 .bf16) (harg24 : arg24.IsWhole) (arg25 : Memref sig .tc .vmem S2560x128 .bf16) (harg25 : arg25.IsWhole) (arg26 : Memref sig .tc .vmem S4096x128 .bf16) (harg26 : arg26.IsWhole) (arg27 : Memref sig .tc .vmem S256x384 .f32) (harg27 : arg27.IsWhole) (arg28 : Memref sig .tc .vmem S256x768 .f32) (harg28 : arg28.IsWhole) (arg29 : Memref sig .tc .vmem S256x2304 .f32) (harg29 : arg29.IsWhole) (hc0 : cond0_0 i) (hc1 : cond0_1 i) (hc2 : ¬cond0_2 i)    (x0 : Vec Ideal S1x2048x128 .bf16) (x1 : Vec Ideal S1x2048x128 .bf16) (x2 : Vec Ideal S1x2048x128 .bf16) (x3 : Vec Ideal S1x2048x128 .bf16) (x4 : Vec Ideal S1x2048x128 .bf16) (x5 : Vec Ideal S1x2048x128 .bf16) (x6 : Vec Ideal S1x128x128 .bf16) (x7 : Vec Ideal S1x512x128 .bf16) (x8 : Vec Ideal S1x2048x128 .bf16) (x9 : Vec Ideal S1x2048x128 .bf16) (x10 : Vec Ideal S1x2048x128 .bf16) (x11 : Vec Ideal S1x2048x128 .bf16) (x12 : Vec Ideal S1x128x128 .bf16) (x13 : Vec Ideal S1x512x128 .bf16) (x14 : Vec Ideal S1x2048x128 .bf16) {Q K V : Fin 3 → ℕ → Fin 128 → ℝ}

/-- Case A's pieces hold the block's values. -/
theorem pieces_A (H : Blocks Q K V x0 x1 x2 x3 x4 x5 x6 x7 x8 x9 x10 x11 x12 x13 x14) : (∀ p ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14).1, ∀ x, p.2 x = ((val true Q K V 0 (p.1.emb x 1).val (p.1.emb x 2) : ℝ) : EReal))
    ∧ (∀ p ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14).2.1, ∀ x, p.2 x = ((val true Q K V 1 (p.1.emb x 1).val (p.1.emb x 2) : ℝ) : EReal))
    ∧ (∀ p ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14).2.2.1, ∀ x, p.2 x = ((val true Q K V 2 (p.1.emb x 1).val (p.1.emb x 2) : ℝ) : EReal)) := by
  unfold kernelRun0_A
  sl_unfold_words
  dsimp only
  refine pb1_val (Q := Q) (K := K) (V := V) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ _
  simp only [View.readAt_eq_ld, Memref.IsWhole.read_unread]
  exact held_of H arg21 arg22 arg23 arg24 arg25 arg26 (whole_read arg27.view _) (whole_read arg28.view _) (whole_read arg29.view _)

/-- What case A leaves in its output blocks. -/
theorem out_A (H : Blocks Q K V x0 x1 x2 x3 x4 x5 x6 x7 x8 x9 x10 x11 x12 x13 x14) : (∀ y : S1x2048x128.Idx, out0_A_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 y = ((val true Q K V 0 (y 1).val (y 2) : ℝ) : EReal))
    ∧ (∀ y : S1x2048x128.Idx, out0_A_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 y = ((val true Q K V 1 (y 1).val (y 2) : ℝ) : EReal))
    ∧ (∀ y : S1x2048x128.Idx, out0_A_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 y = ((val true Q K V 2 (y 1).val (y 2) : ℝ) : EReal)) := by
  have P := pieces_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 H
  refine ⟨fun y => ?_, fun y => ?_, fun y => ?_⟩
  · exact (View.read_writes_junk_apply_eq_canon _ y _).trans (View.canon_apply_of_pieces (Val := Elt Ideal) (e := .bf16) (S := S1x2048x128) (fun y => ((val true Q K V 0 (y 1).val (y 2) : ℝ) : EReal)) _ P.1 y (cover0_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 y))
  · exact (View.read_writes_junk_apply_eq_canon _ y _).trans (View.canon_apply_of_pieces (Val := Elt Ideal) (e := .bf16) (S := S1x2048x128) (fun y => ((val true Q K V 1 (y 1).val (y 2) : ℝ) : EReal)) _ P.2.1 y (cover0_A_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 y))
  · exact (View.read_writes_junk_apply_eq_canon _ y _).trans (View.canon_apply_of_pieces (Val := Elt Ideal) (e := .bf16) (S := S1x2048x128) (fun y => ((val true Q K V 2 (y 1).val (y 2) : ℝ) : EReal)) _ P.2.2 y (cover0_A_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 y))

/-- What the first point leaves in the bias buffers. -/
theorem sout_A : (sout0_A_6 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 = k0_pay8 (F := Ideal))
    ∧ (sout0_A_7 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 = k0_pay9 (F := Ideal))
    ∧ (sout0_A_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 = B2 (F := Ideal)) := by
  unfold sout0_A_6 sout0_A_7 sout0_A_8 kernelRun0_A
  sl_unfold_words
  dsimp only
  exact ⟨whole_read _ _, whole_read _ _, whole_read _ _⟩
end CaseA

section CaseB
variable (c : Dev nD) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x128x128 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S1x128x128 .bf16) (harg15 : arg15.IsWhole) (arg16 : Memref sig .tc .vmem S1x512x128 .bf16) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S1x2048x128 .bf16) (harg19 : arg19.IsWhole) (arg20 : Memref sig .tc .vmem S1x2048x128 .bf16) (harg20 : arg20.IsWhole) (arg21 : Memref sig .tc .vmem S2176x128 .bf16) (harg21 : arg21.IsWhole) (arg22 : Memref sig .tc .vmem S2560x128 .bf16) (harg22 : arg22.IsWhole) (arg23 : Memref sig .tc .vmem S4096x128 .bf16) (harg23 : arg23.IsWhole) (arg24 : Memref sig .tc .vmem S2176x128 .bf16) (harg24 : arg24.IsWhole) (arg25 : Memref sig .tc .vmem S2560x128 .bf16) (harg25 : arg25.IsWhole) (arg26 : Memref sig .tc .vmem S4096x128 .bf16) (harg26 : arg26.IsWhole) (arg27 : Memref sig .tc .vmem S256x384 .f32) (harg27 : arg27.IsWhole) (arg28 : Memref sig .tc .vmem S256x768 .f32) (harg28 : arg28.IsWhole) (arg29 : Memref sig .tc .vmem S256x2304 .f32) (harg29 : arg29.IsWhole) (hc0 : ¬cond0_0 i) (hc1 : cond0_1 i) (hc2 : ¬cond0_2 i)    (x0 : Vec Ideal S1x2048x128 .bf16) (x1 : Vec Ideal S1x2048x128 .bf16) (x2 : Vec Ideal S1x2048x128 .bf16) (x3 : Vec Ideal S1x2048x128 .bf16) (x4 : Vec Ideal S1x2048x128 .bf16) (x5 : Vec Ideal S1x2048x128 .bf16) (x6 : Vec Ideal S1x128x128 .bf16) (x7 : Vec Ideal S1x512x128 .bf16) (x8 : Vec Ideal S1x2048x128 .bf16) (x9 : Vec Ideal S1x2048x128 .bf16) (x10 : Vec Ideal S1x2048x128 .bf16) (x11 : Vec Ideal S1x2048x128 .bf16) (x12 : Vec Ideal S1x128x128 .bf16) (x13 : Vec Ideal S1x512x128 .bf16) (x14 : Vec Ideal S1x2048x128 .bf16) (xs6 : Vec Ideal S256x384 .f32) (xs7 : Vec Ideal S256x768 .f32) (xs8 : Vec Ideal S256x2304 .f32) {Q K V : Fin 3 → ℕ → Fin 128 → ℝ}

/-- Case B's pieces hold the block's values. -/
theorem pieces_B (H : Blocks Q K V x0 x1 x2 x3 x4 x5 x6 x7 x8 x9 x10 x11 x12 x13 x14) (hb0 : xs6 = k0_pay8 (F := Ideal)) (hb1 : xs7 = k0_pay9 (F := Ideal)) (hb2 : xs8 = B2 (F := Ideal)) : (∀ p ∈ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8).1, ∀ x, p.2 x = ((val true Q K V 0 (p.1.emb x 1).val (p.1.emb x 2) : ℝ) : EReal))
    ∧ (∀ p ∈ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8).2.1, ∀ x, p.2 x = ((val true Q K V 1 (p.1.emb x 1).val (p.1.emb x 2) : ℝ) : EReal))
    ∧ (∀ p ∈ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8).2.2.1, ∀ x, p.2 x = ((val true Q K V 2 (p.1.emb x 1).val (p.1.emb x 2) : ℝ) : EReal)) := by
  unfold kernelRun0_B
  sl_unfold_words
  dsimp only
  refine pb1_val (Q := Q) (K := K) (V := V) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ _
  simp only [View.readAt_eq_ld, Memref.IsWhole.read_unread]
  exact held_of H arg21 arg22 arg23 arg24 arg25 arg26 hb0 hb1 hb2

/-- What case B leaves in its output blocks. -/
theorem out_B (H : Blocks Q K V x0 x1 x2 x3 x4 x5 x6 x7 x8 x9 x10 x11 x12 x13 x14) (hb0 : xs6 = k0_pay8 (F := Ideal)) (hb1 : xs7 = k0_pay9 (F := Ideal)) (hb2 : xs8 = B2 (F := Ideal)) : (∀ y : S1x2048x128.Idx, out0_B_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y = ((val true Q K V 0 (y 1).val (y 2) : ℝ) : EReal))
    ∧ (∀ y : S1x2048x128.Idx, out0_B_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y = ((val true Q K V 1 (y 1).val (y 2) : ℝ) : EReal))
    ∧ (∀ y : S1x2048x128.Idx, out0_B_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y = ((val true Q K V 2 (y 1).val (y 2) : ℝ) : EReal)) := by
  have P := pieces_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 H hb0 hb1 hb2
  refine ⟨fun y => ?_, fun y => ?_, fun y => ?_⟩
  · exact (View.read_writes_junk_apply_eq_canon _ y _).trans (View.canon_apply_of_pieces (Val := Elt Ideal) (e := .bf16) (S := S1x2048x128) (fun y => ((val true Q K V 0 (y 1).val (y 2) : ℝ) : EReal)) _ P.1 y (cover0_B_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y))
  · exact (View.read_writes_junk_apply_eq_canon _ y _).trans (View.canon_apply_of_pieces (Val := Elt Ideal) (e := .bf16) (S := S1x2048x128) (fun y => ((val true Q K V 1 (y 1).val (y 2) : ℝ) : EReal)) _ P.2.1 y (cover0_B_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y))
  · exact (View.read_writes_junk_apply_eq_canon _ y _).trans (View.canon_apply_of_pieces (Val := Elt Ideal) (e := .bf16) (S := S1x2048x128) (fun y => ((val true Q K V 2 (y 1).val (y 2) : ℝ) : EReal)) _ P.2.2 y (cover0_B_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y))
end CaseB

section CaseC
variable (c : Dev nD) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x128x128 .bf16) (harg9 : arg9.IsWhole) (arg10 : Memref sig .tc .vmem S1x512x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S1x128x128 .bf16) (harg15 : arg15.IsWhole) (arg16 : Memref sig .tc .vmem S1x512x128 .bf16) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S1x2048x128 .bf16) (harg19 : arg19.IsWhole) (arg20 : Memref sig .tc .vmem S1x2048x128 .bf16) (harg20 : arg20.IsWhole) (arg21 : Memref sig .tc .vmem S2176x128 .bf16) (harg21 : arg21.IsWhole) (arg22 : Memref sig .tc .vmem S2560x128 .bf16) (harg22 : arg22.IsWhole) (arg23 : Memref sig .tc .vmem S4096x128 .bf16) (harg23 : arg23.IsWhole) (arg24 : Memref sig .tc .vmem S2176x128 .bf16) (harg24 : arg24.IsWhole) (arg25 : Memref sig .tc .vmem S2560x128 .bf16) (harg25 : arg25.IsWhole) (arg26 : Memref sig .tc .vmem S4096x128 .bf16) (harg26 : arg26.IsWhole) (arg27 : Memref sig .tc .vmem S256x384 .f32) (harg27 : arg27.IsWhole) (arg28 : Memref sig .tc .vmem S256x768 .f32) (harg28 : arg28.IsWhole) (arg29 : Memref sig .tc .vmem S256x2304 .f32) (harg29 : arg29.IsWhole) (hc0 : ¬cond0_0 i) (hc1 : ¬cond0_1 i) (hc2 : cond0_2 i)    (x0 : Vec Ideal S1x2048x128 .bf16) (x1 : Vec Ideal S1x2048x128 .bf16) (x2 : Vec Ideal S1x2048x128 .bf16) (x3 : Vec Ideal S1x2048x128 .bf16) (x4 : Vec Ideal S1x2048x128 .bf16) (x5 : Vec Ideal S1x2048x128 .bf16) (x6 : Vec Ideal S1x128x128 .bf16) (x7 : Vec Ideal S1x512x128 .bf16) (x8 : Vec Ideal S1x2048x128 .bf16) (x9 : Vec Ideal S1x2048x128 .bf16) (x10 : Vec Ideal S1x2048x128 .bf16) (x11 : Vec Ideal S1x2048x128 .bf16) (x12 : Vec Ideal S1x128x128 .bf16) (x13 : Vec Ideal S1x512x128 .bf16) (x14 : Vec Ideal S1x2048x128 .bf16) (xs6 : Vec Ideal S256x384 .f32) (xs7 : Vec Ideal S256x768 .f32) (xs8 : Vec Ideal S256x2304 .f32) {Q K V : Fin 3 → ℕ → Fin 128 → ℝ}

/-- Case C's pieces hold the block's values. -/
theorem pieces_C (H : Blocks Q K V x0 x1 x2 x3 x4 x5 x6 x7 x8 x9 x10 x11 x12 x13 x14) (hb0 : xs6 = k0_pay8 (F := Ideal)) (hb1 : xs7 = k0_pay9 (F := Ideal)) (hb2 : xs8 = B2 (F := Ideal)) : (∀ p ∈ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8).1, ∀ x, p.2 x = ((val false Q K V 0 (p.1.emb x 1).val (p.1.emb x 2) : ℝ) : EReal))
    ∧ (∀ p ∈ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8).2.1, ∀ x, p.2 x = ((val false Q K V 1 (p.1.emb x 1).val (p.1.emb x 2) : ℝ) : EReal))
    ∧ (∀ p ∈ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8).2.2.1, ∀ x, p.2 x = ((val false Q K V 2 (p.1.emb x 1).val (p.1.emb x 2) : ℝ) : EReal)) := by
  unfold kernelRun0_C
  sl_unfold_words
  dsimp only
  refine pb2_val (Q := Q) (K := K) (V := V) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ _
  simp only [View.readAt_eq_ld, Memref.IsWhole.read_unread]
  exact held_of H arg21 arg22 arg23 arg24 arg25 arg26 hb0 hb1 hb2

/-- What case C leaves in its output blocks. -/
theorem out_C (H : Blocks Q K V x0 x1 x2 x3 x4 x5 x6 x7 x8 x9 x10 x11 x12 x13 x14) (hb0 : xs6 = k0_pay8 (F := Ideal)) (hb1 : xs7 = k0_pay9 (F := Ideal)) (hb2 : xs8 = B2 (F := Ideal)) : (∀ y : S1x2048x128.Idx, out0_C_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y = ((val false Q K V 0 (y 1).val (y 2) : ℝ) : EReal))
    ∧ (∀ y : S1x2048x128.Idx, out0_C_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y = ((val false Q K V 1 (y 1).val (y 2) : ℝ) : EReal))
    ∧ (∀ y : S1x2048x128.Idx, out0_C_17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y = ((val false Q K V 2 (y 1).val (y 2) : ℝ) : EReal)) := by
  have P := pieces_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 H hb0 hb1 hb2
  refine ⟨fun y => ?_, fun y => ?_, fun y => ?_⟩
  · exact (View.read_writes_junk_apply_eq_canon _ y _).trans (View.canon_apply_of_pieces (Val := Elt Ideal) (e := .bf16) (S := S1x2048x128) (fun y => ((val false Q K V 0 (y 1).val (y 2) : ℝ) : EReal)) _ P.1 y (cover0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y))
  · exact (View.read_writes_junk_apply_eq_canon _ y _).trans (View.canon_apply_of_pieces (Val := Elt Ideal) (e := .bf16) (S := S1x2048x128) (fun y => ((val false Q K V 1 (y 1).val (y 2) : ℝ) : EReal)) _ P.2.1 y (cover0_C_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y))
  · exact (View.read_writes_junk_apply_eq_canon _ y _).trans (View.canon_apply_of_pieces (Val := Elt Ideal) (e := .bf16) (S := S1x2048x128) (fun y => ((val false Q K V 2 (y 1).val (y 2) : ℝ) : EReal)) _ P.2.2 y (cover0_C_17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 x12 x13 x14 xs6 xs7 xs8 y))
end CaseC

end Cert.KernelIdeal.Tile

end
end
-- ==== Proof.Points.lean ====
module

public import proofs.«01_k».proof.Proof.Cases
public import proofs.«01_k».proof.Proof.Gen.KernelIdeal.Value

@[expose] public section

set_option maxRecDepth 16384

noncomputable section

namespace Cert.KernelIdeal.Tile

open Idealize.ShloMosaic Idealize.ShloMosaic.TcCoe Idealize.SL Cert.KernelIdeal Cert.KernelIdeal.Gen Cert.KernelIdeal.Value Cert.Attn

/-- The block index each input window reads at a point, on each axis. -/
abbrev IdxAt (f : Fin 3 → ℕ) (t a e : ℕ) : Prop := f 0 = t / 8 ∧ f 1 = a ∧ f 2 = e + t % 4

theorem idx0 : ∀ t : Fin cfg0.N, IdxAt (win0_0.index t) t.val (t.val / 4 % 2) 0 := by decide +kernel
theorem idx1 : ∀ t : Fin cfg0.N, IdxAt (win0_1.index t) t.val (t.val / 4 % 2) 4 := by decide +kernel
theorem idx2 : ∀ t : Fin cfg0.N, IdxAt (win0_2.index t) t.val (t.val / 4 % 2) 8 := by decide +kernel
theorem idx3 : ∀ t : Fin cfg0.N, IdxAt (win0_3.index t) t.val (t.val / 4 % 2) 12 := by decide +kernel
theorem idx4 : ∀ t : Fin cfg0.N, IdxAt (win0_4.index t) t.val (t.val / 4 % 2) 16 := by decide +kernel
theorem idx5 : ∀ t : Fin cfg0.N, IdxAt (win0_5.index t) t.val (t.val / 4 % 2) 20 := by decide +kernel
theorem idx6 : ∀ t : Fin cfg0.N, IdxAt (win0_6.index t) t.val ((t.val / 4 % 2 * 16 - 1)) 12 := by decide +kernel
theorem idx7 : ∀ t : Fin cfg0.N, IdxAt (win0_7.index t) t.val ((t.val / 4 % 2 * 4 - 1)) 16 := by decide +kernel
theorem idx8 : ∀ t : Fin cfg0.N, IdxAt (win0_8.index t) t.val ((t.val / 4 % 2 * 1 - 1)) 20 := by decide +kernel
theorem idx9 : ∀ t : Fin cfg0.N, IdxAt (win0_9.index t) t.val (t.val / 4 % 2) 24 := by decide +kernel
theorem idx10 : ∀ t : Fin cfg0.N, IdxAt (win0_10.index t) t.val (t.val / 4 % 2) 28 := by decide +kernel
theorem idx11 : ∀ t : Fin cfg0.N, IdxAt (win0_11.index t) t.val (t.val / 4 % 2) 32 := by decide +kernel
theorem idx12 : ∀ t : Fin cfg0.N, IdxAt (win0_12.index t) t.val ((t.val / 4 % 2 * 16 - 1)) 24 := by decide +kernel
theorem idx13 : ∀ t : Fin cfg0.N, IdxAt (win0_13.index t) t.val ((t.val / 4 % 2 * 4 - 1)) 28 := by decide +kernel
theorem idx14 : ∀ t : Fin cfg0.N, IdxAt (win0_14.index t) t.val ((t.val / 4 % 2 * 1 - 1)) 32 := by decide +kernel

variable (m : (ℓ : Loc nD τ sig) → Buf (Elt Ideal) ℓ) (c : Dev nD) (X : ℕ → ℕ → ℕ → ℝ)

/-- The argument's query, key and value entries are the reals `X`. -/
abbrev Holds : Prop := ∀ i : S8x4096x5120.Idx, (i 2).val < 4608 → m ((c : Thread nD τ).loc main_arg0) i = ((X (i 0).val (i 1).val (i 2).val : ℝ) : EReal)

/-- The array the windows read: the argument's entries. -/
theorem entry (hX : Holds m c X) (i : S8x4096x5120.Idx) (hi : (i 2).val < 4608) : V m c main_v0 i = ((X (i 0).val (i 1).val (i 2).val : ℝ) : EReal) := by
  entry_read
  exact hX i hi

variable {m c X}

theorem blk0 (hX : Holds m c X) (t : Fin cfg0.N) (p : Fin 2048) (d : Fin 128) :
    iblk m c 0 t (ix3 0 p d) = ((X (t.val / 8) (2048 * (t.val / 4 % 2) + p.val) (0 + 128 * (t.val % 4) + d.val) : ℝ) : EReal) := by
  obtain ⟨e0, e1, e2⟩ := idx0 t
  unfold iblk
  rw [View.read_apply]
  refine (entry m c X hX _ ?_).trans ?_
  · blk_simp [e2]
    omega
  congr 2 <;> blk_simp [e0, e1, e2] <;> simp <;> omega

theorem blk1 (hX : Holds m c X) (t : Fin cfg0.N) (p : Fin 2048) (d : Fin 128) :
    iblk m c 1 t (ix3 0 p d) = ((X (t.val / 8) (2048 * (t.val / 4 % 2) + p.val) (512 + 128 * (t.val % 4) + d.val) : ℝ) : EReal) := by
  obtain ⟨e0, e1, e2⟩ := idx1 t
  unfold iblk
  rw [View.read_apply]
  refine (entry m c X hX _ ?_).trans ?_
  · blk_simp [e2]
    omega
  congr 2 <;> blk_simp [e0, e1, e2] <;> simp <;> omega

theorem blk2 (hX : Holds m c X) (t : Fin cfg0.N) (p : Fin 2048) (d : Fin 128) :
    iblk m c 2 t (ix3 0 p d) = ((X (t.val / 8) (2048 * (t.val / 4 % 2) + p.val) (1024 + 128 * (t.val % 4) + d.val) : ℝ) : EReal) := by
  obtain ⟨e0, e1, e2⟩ := idx2 t
  unfold iblk
  rw [View.read_apply]
  refine (entry m c X hX _ ?_).trans ?_
  · blk_simp [e2]
    omega
  congr 2 <;> blk_simp [e0, e1, e2] <;> simp <;> omega

theorem blk3 (hX : Holds m c X) (t : Fin cfg0.N) (p : Fin 2048) (d : Fin 128) :
    iblk m c 3 t (ix3 0 p d) = ((X (t.val / 8) (2048 * (t.val / 4 % 2) + p.val) (1536 + 128 * (t.val % 4) + d.val) : ℝ) : EReal) := by
  obtain ⟨e0, e1, e2⟩ := idx3 t
  unfold iblk
  rw [View.read_apply]
  refine (entry m c X hX _ ?_).trans ?_
  · blk_simp [e2]
    omega
  congr 2 <;> blk_simp [e0, e1, e2] <;> simp <;> omega

theorem blk4 (hX : Holds m c X) (t : Fin cfg0.N) (p : Fin 2048) (d : Fin 128) :
    iblk m c 4 t (ix3 0 p d) = ((X (t.val / 8) (2048 * (t.val / 4 % 2) + p.val) (2048 + 128 * (t.val % 4) + d.val) : ℝ) : EReal) := by
  obtain ⟨e0, e1, e2⟩ := idx4 t
  unfold iblk
  rw [View.read_apply]
  refine (entry m c X hX _ ?_).trans ?_
  · blk_simp [e2]
    omega
  congr 2 <;> blk_simp [e0, e1, e2] <;> simp <;> omega

theorem blk5 (hX : Holds m c X) (t : Fin cfg0.N) (p : Fin 2048) (d : Fin 128) :
    iblk m c 5 t (ix3 0 p d) = ((X (t.val / 8) (2048 * (t.val / 4 % 2) + p.val) (2560 + 128 * (t.val % 4) + d.val) : ℝ) : EReal) := by
  obtain ⟨e0, e1, e2⟩ := idx5 t
  unfold iblk
  rw [View.read_apply]
  refine (entry m c X hX _ ?_).trans ?_
  · blk_simp [e2]
    omega
  congr 2 <;> blk_simp [e0, e1, e2] <;> simp <;> omega

theorem blk6 (hX : Holds m c X) (t : Fin cfg0.N) (p : Fin 128) (d : Fin 128) :
    iblk m c 6 t (ix3 0 p d) = ((X (t.val / 8) ((128 * (t.val / 4 % 2 * 16 - 1) + p.val)) (1536 + 128 * (t.val % 4) + d.val) : ℝ) : EReal) := by
  obtain ⟨e0, e1, e2⟩ := idx6 t
  unfold iblk
  rw [View.read_apply]
  refine (entry m c X hX _ ?_).trans ?_
  · blk_simp [e2]
    omega
  congr 2 <;> blk_simp [e0, e1, e2] <;> simp <;> omega

theorem blk7 (hX : Holds m c X) (t : Fin cfg0.N) (p : Fin 512) (d : Fin 128) :
    iblk m c 7 t (ix3 0 p d) = ((X (t.val / 8) ((512 * (t.val / 4 % 2 * 4 - 1) + p.val)) (2048 + 128 * (t.val % 4) + d.val) : ℝ) : EReal) := by
  obtain ⟨e0, e1, e2⟩ := idx7 t
  unfold iblk
  rw [View.read_apply]
  refine (entry m c X hX _ ?_).trans ?_
  · blk_simp [e2]
    omega
  congr 2 <;> blk_simp [e0, e1, e2] <;> simp <;> omega

theorem blk8 (hX : Holds m c X) (t : Fin cfg0.N) (p : Fin 2048) (d : Fin 128) :
    iblk m c 8 t (ix3 0 p d) = ((X (t.val / 8) ((2048 * (t.val / 4 % 2 * 1 - 1) + p.val)) (2560 + 128 * (t.val % 4) + d.val) : ℝ) : EReal) := by
  obtain ⟨e0, e1, e2⟩ := idx8 t
  unfold iblk
  rw [View.read_apply]
  refine (entry m c X hX _ ?_).trans ?_
  · blk_simp [e2]
    omega
  congr 2 <;> blk_simp [e0, e1, e2] <;> simp <;> omega

theorem blk9 (hX : Holds m c X) (t : Fin cfg0.N) (p : Fin 2048) (d : Fin 128) :
    iblk m c 9 t (ix3 0 p d) = ((X (t.val / 8) (2048 * (t.val / 4 % 2) + p.val) (3072 + 128 * (t.val % 4) + d.val) : ℝ) : EReal) := by
  obtain ⟨e0, e1, e2⟩ := idx9 t
  unfold iblk
  rw [View.read_apply]
  refine (entry m c X hX _ ?_).trans ?_
  · blk_simp [e2]
    omega
  congr 2 <;> blk_simp [e0, e1, e2] <;> simp <;> omega

theorem blk10 (hX : Holds m c X) (t : Fin cfg0.N) (p : Fin 2048) (d : Fin 128) :
    iblk m c 10 t (ix3 0 p d) = ((X (t.val / 8) (2048 * (t.val / 4 % 2) + p.val) (3584 + 128 * (t.val % 4) + d.val) : ℝ) : EReal) := by
  obtain ⟨e0, e1, e2⟩ := idx10 t
  unfold iblk
  rw [View.read_apply]
  refine (entry m c X hX _ ?_).trans ?_
  · blk_simp [e2]
    omega
  congr 2 <;> blk_simp [e0, e1, e2] <;> simp <;> omega

theorem blk11 (hX : Holds m c X) (t : Fin cfg0.N) (p : Fin 2048) (d : Fin 128) :
    iblk m c 11 t (ix3 0 p d) = ((X (t.val / 8) (2048 * (t.val / 4 % 2) + p.val) (4096 + 128 * (t.val % 4) + d.val) : ℝ) : EReal) := by
  obtain ⟨e0, e1, e2⟩ := idx11 t
  unfold iblk
  rw [View.read_apply]
  refine (entry m c X hX _ ?_).trans ?_
  · blk_simp [e2]
    omega
  congr 2 <;> blk_simp [e0, e1, e2] <;> simp <;> omega

theorem blk12 (hX : Holds m c X) (t : Fin cfg0.N) (p : Fin 128) (d : Fin 128) :
    iblk m c 12 t (ix3 0 p d) = ((X (t.val / 8) ((128 * (t.val / 4 % 2 * 16 - 1) + p.val)) (3072 + 128 * (t.val % 4) + d.val) : ℝ) : EReal) := by
  obtain ⟨e0, e1, e2⟩ := idx12 t
  unfold iblk
  rw [View.read_apply]
  refine (entry m c X hX _ ?_).trans ?_
  · blk_simp [e2]
    omega
  congr 2 <;> blk_simp [e0, e1, e2] <;> simp <;> omega

theorem blk13 (hX : Holds m c X) (t : Fin cfg0.N) (p : Fin 512) (d : Fin 128) :
    iblk m c 13 t (ix3 0 p d) = ((X (t.val / 8) ((512 * (t.val / 4 % 2 * 4 - 1) + p.val)) (3584 + 128 * (t.val % 4) + d.val) : ℝ) : EReal) := by
  obtain ⟨e0, e1, e2⟩ := idx13 t
  unfold iblk
  rw [View.read_apply]
  refine (entry m c X hX _ ?_).trans ?_
  · blk_simp [e2]
    omega
  congr 2 <;> blk_simp [e0, e1, e2] <;> simp <;> omega

theorem blk14 (hX : Holds m c X) (t : Fin cfg0.N) (p : Fin 2048) (d : Fin 128) :
    iblk m c 14 t (ix3 0 p d) = ((X (t.val / 8) ((2048 * (t.val / 4 % 2 * 1 - 1) + p.val)) (4096 + 128 * (t.val % 4) + d.val) : ℝ) : EReal) := by
  obtain ⟨e0, e1, e2⟩ := idx14 t
  unfold iblk
  rw [View.read_apply]
  refine (entry m c X hX _ ?_).trans ?_
  · blk_simp [e2]
    omega
  congr 2 <;> blk_simp [e0, e1, e2] <;> simp <;> omega

end Cert.KernelIdeal.Tile

end
end
-- ==== Proof.Vals.lean ====
module

public import proofs.«01_k».proof.Proof.Points

@[expose] public section

set_option maxRecDepth 16384

noncomputable section

namespace Cert.Attn

open Cert.KernelIdeal.Tile

/-- The product of a position's query with its key number `j` (the key stands `dil g * j` positions earlier). -/
def gx (X : ℕ → ℕ → ℕ → ℝ) (b n : ℕ) (g : Fin 3) (s : ℕ) (j : Fin 129) : ℝ :=
  ∑ d : Fin 128, X b s (512 * g.val + 128 * n + d.val) * X b (s - dil g * j.val) (1536 + 512 * g.val + 128 * n + d.val)
/-- The value that goes with key number `j`. -/
def gy (X : ℕ → ℕ → ℕ → ℝ) (b n : ℕ) (g : Fin 3) (s d : ℕ) (j : Fin 129) : ℝ := X b (s - dil g * j.val) (3072 + 512 * g.val + 128 * n + d)
/-- Key number `j` exists: it does not stand before the start. -/
def gok (g : Fin 3) (s : ℕ) (j : Fin 129) : Bool := decide (dil g * j.val ≤ s)
/-- One group's denominator. -/
def gden (X : ℕ → ℕ → ℕ → ℝ) (b n : ℕ) (g : Fin 3) (s : ℕ) : ℝ := den sc (gok g s) (gx X b n g s)
/-- One element of the layer's merged attention output. -/
def gval (X : ℕ → ℕ → ℕ → ℝ) (b n : ℕ) (g : Fin 3) (s d : ℕ) : ℝ :=
  num sc (gok g s) (gx X b n g s) (gy X b n g s d) / (gden X b n 0 s + gden X b n 1 s + gden X b n 2 s)

theorem den_congr {n : ℕ} {a : ℝ} {ok ok' : Fin n → Bool} {x x' : Fin n → ℝ} (h : ∀ j, ok j = ok' j) (hx : ∀ j, ok j = true → x j = x' j) :
    den a ok x = den a ok' x' := by
  refine Finset.sum_congr rfl fun j _ => ?_
  unfold wt
  rw [← h j]
  split
  · rename_i hj; rw [hx j hj]
  · rfl

theorem num_congr {n : ℕ} {a : ℝ} {ok ok' : Fin n → Bool} {x x' y y' : Fin n → ℝ} (h : ∀ j, ok j = ok' j) (hx : ∀ j, ok j = true → x j = x' j)
    (hy : ∀ j, ok j = true → y j = y' j) : num a ok x y = num a ok' x' y' := by
  refine Finset.sum_congr rfl fun j _ => ?_
  unfold wt
  rw [← h j]
  split
  · rename_i hj; rw [hx j hj, hy j hj]
  · rw [zero_mul, zero_mul]

end Cert.Attn

namespace Cert.KernelIdeal.Tile

open Idealize.ShloMosaic Idealize.ShloMosaic.TcCoe Idealize.SL Cert.KernelIdeal Cert.KernelIdeal.Gen Cert.KernelIdeal.Value Cert.Attn

/-- The row of the array that row `r` of a window with `R` history rows is at a block number `i`. -/
def wrow (i R r : ℕ) : ℕ := if i = 0 ∧ r < R then r else 2048 * i + r - R

/-- The queries that the body reads at point `t`. -/
def Qt (X : ℕ → ℕ → ℕ → ℝ) (t : ℕ) : Fin 3 → ℕ → Fin 128 → ℝ := fun g p d =>
  X (t / 8) (2048 * (t / 4 % 2) + p) (512 * g.val + 128 * (t % 4) + d.val)
/-- The keys or values (columns from `o` on) that the body reads at point `t`. -/
def Kt (X : ℕ → ℕ → ℕ → ℝ) (o t : ℕ) : Fin 3 → ℕ → Fin 128 → ℝ := fun g r d =>
  X (t / 8) (wrow (t / 4 % 2) (128 * dil g) r) (o + 512 * g.val + 128 * (t % 4) + d.val)

theorem dil0 : dil 0 = 1 := rfl
theorem dil1 : dil 1 = 4 := rfl
theorem dil2 : dil 2 = 16 := rfl

/-- What a tile computes is the layer's value at the tile's place. -/
theorem val_eq (X : ℕ → ℕ → ℕ → ℝ) (t : ℕ) (fst : Bool) (hf : fst = decide (t / 4 % 2 = 0)) (g : Fin 3) (p : ℕ) (d : Fin 128) :
    val fst (Qt X t) (Kt X 1536 t) (Kt X 3072 t) g p d = gval X (t / 8) (t % 4) g (2048 * (t / 4 % 2) + p) d.val := by
  have hd : ∀ g : Fin 3, dil g ≤ 16 := by decide
  have hi : t / 4 % 2 = 0 ∨ t / 4 % 2 = 1 := by omega
  have ok : ∀ (g : Fin 3) (j : Fin 129), okey fst (dil g) p j = gok g (2048 * (t / 4 % 2) + p) j := by
    intro g j
    have := Nat.mul_le_mul (hd g) (Nat.le_of_lt_succ j.isLt)
    unfold okey gok
    subst hf
    rcases hi with h | h <;> simp [h]
    omega
  have row : ∀ (g : Fin 3) (j : Fin 129), okey fst (dil g) p j = true →
      wrow (t / 4 % 2) (128 * dil g) (p + 128 * dil g - dil g * j.val) = 2048 * (t / 4 % 2) + p - dil g * j.val := by
    intro g j h
    have h1 := Nat.mul_le_mul_left (dil g) (Nat.le_of_lt_succ j.isLt)
    have h2 := Nat.mul_le_mul (hd g) (Nat.le_of_lt_succ j.isLt)
    rw [ok] at h
    have h3 := of_decide_eq_true h
    unfold wrow
    split <;> omega
  have hx : ∀ (g : Fin 3) (j : Fin 129), okey fst (dil g) p j = true →
      lx (Qt X t g) (Kt X 1536 t g) (dil g) p j = gx X (t / 8) (t % 4) g (2048 * (t / 4 % 2) + p) j := by
    intro g j h
    refine Finset.sum_congr rfl fun d _ => ?_
    unfold Qt Kt
    rw [row g j h]
  unfold val gval total gden
  have hy : ∀ j : Fin 129, okey fst (dil g) p j = true → ly (Kt X 3072 t g) (dil g) p d j = gy X (t / 8) (t % 4) g (2048 * (t / 4 % 2) + p) d.val j := by
    intro j h
    unfold ly Kt gy
    rw [row g j h]
  rw [num_congr (ok g) (hx g) hy]
  exact congrArg₂ (fun a b => _ / (a + b)) (congrArg₂ (· + ·) (den_congr (ok 0) (hx 0)) (den_congr (ok 1) (hx 1))) (den_congr (ok 2) (hx 2))

variable {m : (ℓ : Loc nD τ sig) → Buf (Elt Ideal) ℓ} {c : Dev nD} {X : ℕ → ℕ → ℕ → ℝ}

/-- The input blocks of point `t` hold the argument's queries, keys and values. -/
theorem blocks (hX : Holds m c X) (t : Fin cfg0.N) : Blocks (Qt X t.val) (Kt X 1536 t.val) (Kt X 3072 t.val)
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) where
  q0 p d := (blk0 hX t p d).trans (congrArg Real.toEReal (congrArg (X _ _) (by show _ = 512 * 0 + _ + _; omega)))
  q1 p d := (blk1 hX t p d).trans (congrArg Real.toEReal (congrArg (X _ _) (by show _ = 512 * 1 + _ + _; omega)))
  q2 p d := (blk2 hX t p d).trans (congrArg Real.toEReal (congrArg (X _ _) (by show _ = 512 * 2 + _ + _; omega)))
  kc0 p d := (blk3 hX t p d).trans (congrArg Real.toEReal (congrArg₂ (X _) (by show _ = wrow _ (128 * 1) _; unfold wrow; split <;> omega) (by show _ = 1536 + 512 * 0 + _ + _; omega)))
  kc1 p d := (blk4 hX t p d).trans (congrArg Real.toEReal (congrArg₂ (X _) (by show _ = wrow _ (128 * 4) _; unfold wrow; split <;> omega) (by show _ = 1536 + 512 * 1 + _ + _; omega)))
  kc2 p d := (blk5 hX t p d).trans (congrArg Real.toEReal (congrArg₂ (X _) (by show _ = wrow _ (128 * 16) _; unfold wrow; split <;> omega) (by show _ = 1536 + 512 * 2 + _ + _; omega)))
  kh0 p d := (blk6 hX t p d).trans (congrArg Real.toEReal (congrArg₂ (X _) (by show _ = wrow _ (128 * 1) _; have := p.isLt; unfold wrow; split <;> omega) (by show _ = 1536 + 512 * 0 + _ + _; omega)))
  kh1 p d := (blk7 hX t p d).trans (congrArg Real.toEReal (congrArg₂ (X _) (by show _ = wrow _ (128 * 4) _; have := p.isLt; unfold wrow; split <;> omega) (by show _ = 1536 + 512 * 1 + _ + _; omega)))
  kh2 p d := (blk8 hX t p d).trans (congrArg Real.toEReal (congrArg₂ (X _) (by show _ = wrow _ (128 * 16) _; have := p.isLt; unfold wrow; split <;> omega) (by show _ = 1536 + 512 * 2 + _ + _; omega)))
  vc0 p d := (blk9 hX t p d).trans (congrArg Real.toEReal (congrArg₂ (X _) (by show _ = wrow _ (128 * 1) _; unfold wrow; split <;> omega) (by show _ = 3072 + 512 * 0 + _ + _; omega)))
  vc1 p d := (blk10 hX t p d).trans (congrArg Real.toEReal (congrArg₂ (X _) (by show _ = wrow _ (128 * 4) _; unfold wrow; split <;> omega) (by show _ = 3072 + 512 * 1 + _ + _; omega)))
  vc2 p d := (blk11 hX t p d).trans (congrArg Real.toEReal (congrArg₂ (X _) (by show _ = wrow _ (128 * 16) _; unfold wrow; split <;> omega) (by show _ = 3072 + 512 * 2 + _ + _; omega)))
  vh0 p d := (blk12 hX t p d).trans (congrArg Real.toEReal (congrArg₂ (X _) (by show _ = wrow _ (128 * 1) _; have := p.isLt; unfold wrow; split <;> omega) (by show _ = 3072 + 512 * 0 + _ + _; omega)))
  vh1 p d := (blk13 hX t p d).trans (congrArg Real.toEReal (congrArg₂ (X _) (by show _ = wrow _ (128 * 4) _; have := p.isLt; unfold wrow; split <;> omega) (by show _ = 3072 + 512 * 1 + _ + _; omega)))
  vh2 p d := (blk14 hX t p d).trans (congrArg Real.toEReal (congrArg₂ (X _) (by show _ = wrow _ (128 * 16) _; have := p.isLt; unfold wrow; split <;> omega) (by show _ = 3072 + 512 * 2 + _ + _; omega)))

/-- After the first point. -/
theorem at_A (hX : Holds m c X) (t : Fin cfg0.N) (h0 : t.val % 64 = 0) (h1 : t.val / 4 % 2 = 0) (h2 : ¬t.val / 4 % 2 = 1) :
    ((∀ y : S1x2048x128.Idx, (outsAt0 m c t.val t.isLt).1 y = ((val true (Qt X t.val) (Kt X 1536 t.val) (Kt X 3072 t.val) 0 (y 1).val (y 2) : ℝ) : EReal))
    ∧ (∀ y : S1x2048x128.Idx, (outsAt0 m c t.val t.isLt).2.1 y = ((val true (Qt X t.val) (Kt X 1536 t.val) (Kt X 3072 t.val) 1 (y 1).val (y 2) : ℝ) : EReal))
    ∧ (∀ y : S1x2048x128.Idx, (outsAt0 m c t.val t.isLt).2.2.1 y = ((val true (Qt X t.val) (Kt X 1536 t.val) (Kt X 3072 t.val) 2 (y 1).val (y 2) : ℝ) : EReal)))
    ∧ (outsAt0 m c t.val t.isLt).2.2.2 = (k0_pay8 (F := Ideal), k0_pay9 (F := Ideal), B2 (F := Ideal)) := by
  rw [outsAt0_A m c t h0 h1 h2]
  refine ⟨out_A _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocks hX t), ?_⟩
  have s := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
  exact Prod.ext s.1 (Prod.ext s.2.1 s.2.2)

/-- After a point of a first block, the biases in place. -/
theorem at_B (hX : Holds m c X) (t : Fin cfg0.N) (h0 : ¬t.val % 64 = 0) (h1 : t.val / 4 % 2 = 0) (h2 : ¬t.val / 4 % 2 = 1)
    (hb : (outsAt0 m c (t.val - 1) (lt_of_le_of_lt (Nat.sub_le _ _) t.isLt)).2.2.2 = (k0_pay8 (F := Ideal), k0_pay9 (F := Ideal), B2 (F := Ideal))) :
    ((∀ y : S1x2048x128.Idx, (outsAt0 m c t.val t.isLt).1 y = ((val true (Qt X t.val) (Kt X 1536 t.val) (Kt X 3072 t.val) 0 (y 1).val (y 2) : ℝ) : EReal))
    ∧ (∀ y : S1x2048x128.Idx, (outsAt0 m c t.val t.isLt).2.1 y = ((val true (Qt X t.val) (Kt X 1536 t.val) (Kt X 3072 t.val) 1 (y 1).val (y 2) : ℝ) : EReal))
    ∧ (∀ y : S1x2048x128.Idx, (outsAt0 m c t.val t.isLt).2.2.1 y = ((val true (Qt X t.val) (Kt X 1536 t.val) (Kt X 3072 t.val) 2 (y 1).val (y 2) : ℝ) : EReal)))
    ∧ (outsAt0 m c t.val t.isLt).2.2.2 = (k0_pay8 (F := Ideal), k0_pay9 (F := Ideal), B2 (F := Ideal)) := by
  rw [outsAt0_B m c t h0 h1 h2]
  refine ⟨out_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocks hX t) (congrArg Prod.fst hb) (congrArg (fun z => z.2.1) hb) (congrArg (fun z => z.2.2) hb), ?_⟩
  exact hb

/-- After a point of a second block, the biases in place. -/
theorem at_C (hX : Holds m c X) (t : Fin cfg0.N) (h0 : ¬t.val % 64 = 0) (h1 : ¬t.val / 4 % 2 = 0) (h2 : t.val / 4 % 2 = 1)
    (hb : (outsAt0 m c (t.val - 1) (lt_of_le_of_lt (Nat.sub_le _ _) t.isLt)).2.2.2 = (k0_pay8 (F := Ideal), k0_pay9 (F := Ideal), B2 (F := Ideal))) :
    ((∀ y : S1x2048x128.Idx, (outsAt0 m c t.val t.isLt).1 y = ((val false (Qt X t.val) (Kt X 1536 t.val) (Kt X 3072 t.val) 0 (y 1).val (y 2) : ℝ) : EReal))
    ∧ (∀ y : S1x2048x128.Idx, (outsAt0 m c t.val t.isLt).2.1 y = ((val false (Qt X t.val) (Kt X 1536 t.val) (Kt X 3072 t.val) 1 (y 1).val (y 2) : ℝ) : EReal))
    ∧ (∀ y : S1x2048x128.Idx, (outsAt0 m c t.val t.isLt).2.2.1 y = ((val false (Qt X t.val) (Kt X 1536 t.val) (Kt X 3072 t.val) 2 (y 1).val (y 2) : ℝ) : EReal)))
    ∧ (outsAt0 m c t.val t.isLt).2.2.2 = (k0_pay8 (F := Ideal), k0_pay9 (F := Ideal), B2 (F := Ideal)) := by
  rw [outsAt0_C m c t h0 h1 h2]
  refine ⟨out_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocks hX t) (congrArg Prod.fst hb) (congrArg (fun z => z.2.1) hb) (congrArg (fun z => z.2.2) hb), ?_⟩
  exact hb

/-- After every point: the output blocks hold the layer's values, the bias buffers the biases. -/
theorem outs (hX : Holds m c X) : ∀ (n : ℕ) (h : n < cfg0.N),
    (∀ y : S1x2048x128.Idx, (outsAt0 m c n h).1 y = ((gval X (n / 8) (n % 4) 0 (2048 * (n / 4 % 2) + (y 1).val) (y 2).val : ℝ) : EReal))
    ∧ (∀ y : S1x2048x128.Idx, (outsAt0 m c n h).2.1 y = ((gval X (n / 8) (n % 4) 1 (2048 * (n / 4 % 2) + (y 1).val) (y 2).val : ℝ) : EReal))
    ∧ (∀ y : S1x2048x128.Idx, (outsAt0 m c n h).2.2.1 y = ((gval X (n / 8) (n % 4) 2 (2048 * (n / 4 % 2) + (y 1).val) (y 2).val : ℝ) : EReal))
    ∧ (outsAt0 m c n h).2.2.2 = (k0_pay8 (F := Ideal), k0_pay9 (F := Ideal), B2 (F := Ideal)) := by
  intro n
  induction n with
  | zero =>
    intro h
    obtain ⟨⟨a0, a1, a2⟩, b⟩ := at_A hX ⟨0, h⟩ (Nat.zero_mod _) (by dsimp only) (by dsimp only; omega)
    have e := val_eq X 0 true rfl
    exact ⟨fun y => (a0 y).trans (congrArg _ (e 0 _ _)), fun y => (a1 y).trans (congrArg _ (e 1 _ _)), fun y => (a2 y).trans (congrArg _ (e 2 _ _)), b⟩
  | succ n ih =>
    intro h
    have hN : n + 1 < 64 := lt_of_lt_of_eq h N_0
    have hb := (ih (Nat.lt_of_succ_lt h)).2.2.2
    have h0 : ¬(n + 1) % 64 = 0 := by omega
    by_cases h1 : (n + 1) / 4 % 2 = 0
    · obtain ⟨⟨a0, a1, a2⟩, b⟩ := at_B hX ⟨n + 1, h⟩ h0 h1 (by dsimp only; omega) hb
      have e := val_eq X (n + 1) true (decide_eq_true h1).symm
      exact ⟨fun y => (a0 y).trans (congrArg _ (e 0 _ _)), fun y => (a1 y).trans (congrArg _ (e 1 _ _)), fun y => (a2 y).trans (congrArg _ (e 2 _ _)), b⟩
    · obtain ⟨⟨a0, a1, a2⟩, b⟩ := at_C hX ⟨n + 1, h⟩ h0 h1 (by dsimp only; omega) hb
      have e := val_eq X (n + 1) false (decide_eq_false h1).symm
      exact ⟨fun y => (a0 y).trans (congrArg _ (e 0 _ _)), fun y => (a1 y).trans (congrArg _ (e 1 _ _)), fun y => (a2 y).trans (congrArg _ (e 2 _ _)), b⟩

/-- Result 0 of the kernel, element by element. -/
theorem result0 (hX : Holds m c X) (i : S8x4096x512.Idx) :
    G15 m c i = ((gval X (i 0).val ((i 2).val / 128) 0 (i 1).val ((i 2).val % 128) : ℝ) : EReal) := by
  have h0 : (i 0).val < 8 := (i 0).isLt
  have h1 : (i 1).val < 4096 := (i 1).isLt
  have h2 : (i 2).val < 512 := (i 2).isLt
  have hr : run15Of i = 8 * (i 0).val + 4 * ((i 1).val / 2048) + (i 2).val / 128 := by unfold run15Of; omega
  have hp : pt15Of i < cfg0.N := lt_of_lt_of_eq (show run15Of i < 64 by rw [hr]; omega) N_0.symm
  unfold G15
  rw [dif_pos hp, ← outsAt0_sweep]
  refine ((outs hX _ hp).1 _).trans (congrArg Real.toEReal ?_)
  show gval X (run15Of i / 8) (run15Of i % 4) 0 (2048 * (run15Of i / 4 % 2) + (i 1).val % 2048) ((i 2).val % 128) = _
  rw [hr]
  congr 1 <;> omega

/-- Result 1 of the kernel, element by element. -/
theorem result1 (hX : Holds m c X) (i : S8x4096x512.Idx) :
    G16 m c i = ((gval X (i 0).val ((i 2).val / 128) 1 (i 1).val ((i 2).val % 128) : ℝ) : EReal) := by
  have h0 : (i 0).val < 8 := (i 0).isLt
  have h1 : (i 1).val < 4096 := (i 1).isLt
  have h2 : (i 2).val < 512 := (i 2).isLt
  have hr : run16Of i = 8 * (i 0).val + 4 * ((i 1).val / 2048) + (i 2).val / 128 := by unfold run16Of; omega
  have hp : pt16Of i < cfg0.N := lt_of_lt_of_eq (show run16Of i < 64 by rw [hr]; omega) N_0.symm
  unfold G16
  rw [dif_pos hp, ← outsAt0_sweep]
  refine ((outs hX _ hp).2.1 _).trans (congrArg Real.toEReal ?_)
  show gval X (run16Of i / 8) (run16Of i % 4) 1 (2048 * (run16Of i / 4 % 2) + (i 1).val % 2048) ((i 2).val % 128) = _
  rw [hr]
  congr 1 <;> omega

/-- Result 2 of the kernel, element by element. -/
theorem result2 (hX : Holds m c X) (i : S8x4096x512.Idx) :
    G17 m c i = ((gval X (i 0).val ((i 2).val / 128) 2 (i 1).val ((i 2).val % 128) : ℝ) : EReal) := by
  have h0 : (i 0).val < 8 := (i 0).isLt
  have h1 : (i 1).val < 4096 := (i 1).isLt
  have h2 : (i 2).val < 512 := (i 2).isLt
  have hr : run17Of i = 8 * (i 0).val + 4 * ((i 1).val / 2048) + (i 2).val / 128 := by unfold run17Of; omega
  have hp : pt17Of i < cfg0.N := lt_of_lt_of_eq (show run17Of i < 64 by rw [hr]; omega) N_0.symm
  unfold G17
  rw [dif_pos hp, ← outsAt0_sweep]
  refine ((outs hX _ hp).2.2.1 _).trans (congrArg Real.toEReal ?_)
  show gval X (run17Of i / 8) (run17Of i % 4) 2 (2048 * (run17Of i / 4 % 2) + (i 1).val % 2048) ((i 2).val % 128) = _
  rw [hr]
  congr 1 <;> omega

end Cert.KernelIdeal.Tile

end
end
-- ==== Proof.Ref.lean ====
module

public import proofs.«01_k».proof.Proof.RefLib
public import proofs.«01_k».proof.Proof.Vals

@[expose] public section

set_option maxRecDepth 16384

noncomputable section

namespace Cert.ReferenceIdeal.Ref

open Idealize.ShloMosaic Cert.ReferenceIdeal Cert.ReferenceIdeal.Gen Cert.ReferenceIdeal.Read Cert.Attn Cert.KernelIdeal.Tile

variable {X : ℕ → ℕ → ℕ → ℝ} {x0 : (⟨S8x4096x5120, .f32⟩ : BufTy).Contents (Elt Ideal)}

/-- The argument's query, key and value columns hold the reals `X`. -/
def At (x0 : (⟨S8x4096x5120, .f32⟩ : BufTy).Contents (Elt Ideal)) (X : ℕ → ℕ → ℕ → ℝ) : Prop :=
  ∀ i : S8x4096x5120.Idx, (i 2).val < 4608 → x0 i = ((X (i 0).val (i 1).val (i 2).val : ℝ) : EReal)

/-- The row of scores of one query: batch element, head and position of an output element. -/
abbrev rowOf (i : S8x4096x4x128.Idx) : S8x4x4096.Idx := ix3 (⟨(i 0).val, (i 0).isLt⟩ : Fin 8) (⟨(i 2).val, (i 2).isLt⟩ : Fin 4) (⟨(i 1).val, (i 1).isLt⟩ : Fin 4096)

theorem ok_zero (g : Fin 3) (s : ℕ) : gok g s 0 = true := by
  unfold gok
  simp

theorem select_ofBool (b : Bool) (u v : EReal) : Scalar.select (BitVec.ofBool b) u v = if b then u else v := by
  cases b <;> rfl

/-- A score divided by the root is the score times its inverse. -/
theorem div_root (z : ℝ) : Ideal.div ((z : ℝ) : EReal) (Ideal.sqrt ((128 : ℝ) : EReal)) = ((z * sc : ℝ) : EReal) := by
  have h : (0 : ℝ) < Real.sqrt 128 := Real.sqrt_pos.2 (by norm_num)
  rw [Ideal.sqrt_coe, if_neg (by norm_num), Ideal.div_coe h.ne', ← EReal.coe_mul, one_div]

/-! ## Group 0 -/

theorem word0 (i : S4096x129.Idx) : val_main_v18 (F := Ideal) i = iw (dil 0) (i 0).val (i 1).val := by
  rw [val_main_v18_apply, val_main_v16_apply, val_main_v14_apply, val_main_v13_apply, val_main_v17_apply, val_main_v15_apply, val_main_v12_apply, val_main_v11_apply, val_main_c_apply, val_main_v10_apply]
  rfl

theorem row0 (i : S4096x129.Idx) : ((val_main_v22 (F := Ideal) i).toInt.toNat) = (i 0).val - dil 0 * (i 1).val := by
  rw [val_main_v22_apply, word0, val_main_v21_apply, val_main_c_1_apply]
  exact iw_max (show dil 0 ≤ 16 by decide) (i 0).isLt (i 1).isLt

/-- The keys gathered, by position. -/
theorem key0 (hx : At x0 X) (i : S8x4096x129x4x128.Idx) :
    val_main_v23 (F := Ideal) x0 i = ((X (i 0).val ((i 1).val - dil 0 * (i 2).val) (1536 + 512 * 0 + 128 * (i 3).val + (i 4).val) : ℝ) : EReal) := by
  have h0 : (i 0).val < 8 := (i 0).isLt
  have h1 : (i 1).val < 4096 := (i 1).isLt
  have h2 : (i 2).val < 129 := (i 2).isLt
  have h3 : (i 3).val < 4 := (i 3).isLt
  have h4 : (i 4).val < 128 := (i 4).isLt
  have hr : (i 1).val - dil 0 * (i 2).val < 4096 := lt_of_le_of_lt (Nat.sub_le _ _) h1
  unfold val_main_v23
  rw [take_apply _ _ i ⟨_, hr⟩ (by rw [val_main_call0_v0_apply, row0]; rfl), val_main_v7_apply, val_main_v6_apply, val_main_v1_apply, hx]
  on_goal 2 => show 1536 + (((((i 0).val * 4096 + _) * 4 + (i 3).val) * 128 + (i 4).val) % 512) < 4608; omega
  refine congrArg Real.toEReal ?_
  generalize (i 1).val - dil 0 * (i 2).val = r at hr
  congr 1
  · show ((((i 0).val * 4096 + r) * 4 + (i 3).val) * 128 + (i 4).val) / 2097152 = _; omega
  · show ((((i 0).val * 4096 + r) * 4 + (i 3).val) * 128 + (i 4).val) / 512 % 4096 = _; omega
  · show 1536 + (((((i 0).val * 4096 + r) * 4 + (i 3).val) * 128 + (i 4).val) % 512) = _; omega

/-- The values gathered, by position. -/
theorem valu0 (hx : At x0 X) (i : S8x4096x129x4x128.Idx) :
    val_main_v24 (F := Ideal) x0 i = ((X (i 0).val ((i 1).val - dil 0 * (i 2).val) (3072 + 512 * 0 + 128 * (i 3).val + (i 4).val) : ℝ) : EReal) := by
  have h0 : (i 0).val < 8 := (i 0).isLt
  have h1 : (i 1).val < 4096 := (i 1).isLt
  have h2 : (i 2).val < 129 := (i 2).isLt
  have h3 : (i 3).val < 4 := (i 3).isLt
  have h4 : (i 4).val < 128 := (i 4).isLt
  have hr : (i 1).val - dil 0 * (i 2).val < 4096 := lt_of_le_of_lt (Nat.sub_le _ _) h1
  unfold val_main_v24
  rw [take_apply _ _ i ⟨_, hr⟩ (by rw [val_main_call1_v0_apply, row0]; rfl), val_main_v9_apply, val_main_v8_apply, val_main_v2_apply, hx]
  on_goal 2 => show 3072 + (((((i 0).val * 4096 + _) * 4 + (i 3).val) * 128 + (i 4).val) % 512) < 4608; omega
  refine congrArg Real.toEReal ?_
  generalize (i 1).val - dil 0 * (i 2).val = r at hr
  congr 1
  · show ((((i 0).val * 4096 + r) * 4 + (i 3).val) * 128 + (i 4).val) / 2097152 = _; omega
  · show ((((i 0).val * 4096 + r) * 4 + (i 3).val) * 128 + (i 4).val) / 512 % 4096 = _; omega
  · show 3072 + (((((i 0).val * 4096 + r) * 4 + (i 3).val) * 128 + (i 4).val) % 512) = _; omega

/-- The queries. -/
theorem query0 (hx : At x0 X) (i : S8x4096x4x128.Idx) :
    val_main_v5 (F := Ideal) x0 i = ((X (i 0).val (i 1).val (512 * 0 + 128 * (i 2).val + (i 3).val) : ℝ) : EReal) := by
  have h0 : (i 0).val < 8 := (i 0).isLt
  have h1 : (i 1).val < 4096 := (i 1).isLt
  have h2 : (i 2).val < 4 := (i 2).isLt
  have h3 : (i 3).val < 128 := (i 3).isLt
  rw [val_main_v5_apply, val_main_v4_apply, val_main_v0_apply, hx]
  on_goal 2 => show ((((i 0).val * 4096 + (i 1).val) * 4 + (i 2).val) * 128 + (i 3).val) % 512 < 4608; omega
  refine congrArg Real.toEReal ?_
  congr 1
  · show ((((i 0).val * 4096 + (i 1).val) * 4 + (i 2).val) * 128 + (i 3).val) / 2097152 = _; omega
  · show ((((i 0).val * 4096 + (i 1).val) * 4 + (i 2).val) * 128 + (i 3).val) / 512 % 4096 = _; omega
  · show ((((i 0).val * 4096 + (i 1).val) * 4 + (i 2).val) * 128 + (i 3).val) % 512 = _; omega

/-- The scores of one query: the scaled product where the key is there, −∞ elsewhere. -/
theorem score0 (hx : At x0 X) (i : S8x4x4096x129.Idx) :
    val_main_v29 (F := Ideal) x0 i = if gok 0 (i 2).val (i 3) then ((gx X (i 0).val (i 1).val 0 (i 2).val (i 3) * sc : ℝ) : EReal) else ⊥ := by
  have hd : val_main_v25 (F := Ideal) x0 i = ((gx X (i 0).val (i 1).val 0 (i 2).val (i 3) : ℝ) : EReal) := by
    rw [val_main_v25_apply, Finset.sum_congr rfl fun k _ => by rw [query0 hx, key0 hx, ← EReal.coe_mul], coe_sum']
    rfl
  rw [val_main_v29_apply, val_main_v27_apply, val_main_v26_apply, val_main_v3_apply, val_main_cst_apply, hd, val_main_call2_v1_apply, val_main_v28_apply, val_main_v20_apply, word0, val_main_v19_apply, val_main_c_0_apply,
    val_main_call2_v2_apply, val_main_call2_v0_apply, val_main_cst_2_apply]
  show Scalar.select (IntOp.cmpi .sge (iw (dil 0) (i 2).val (i 3).val) 0#32)
    (Ideal.div _ (Ideal.sqrt (Ideal.ofBits .f32 0x43000000#32))) (Ideal.ofBits .f32 0xFF800000#32) = _
  rw [iw_sge (show dil 0 ≤ 16 by decide) (i 2).isLt (i 3).isLt, select_ofBool, ofBits_128, div_root, ofBits_neg_inf]
  rfl

/-- The row of scores. -/
def S0 (x0 : (⟨S8x4096x5120, .f32⟩ : BufTy).Contents (Elt Ideal)) (p : S8x4x4096.Idx) (j : Fin 129) : EReal := val_main_v29 (F := Ideal) x0 (idx_main_v35 p j)

theorem S0_eq (hx : At x0 X) (p : S8x4x4096.Idx) (j : Fin 129) :
    S0 x0 p j = if gok 0 (p 2).val j then ((gx X (p 0).val (p 1).val 0 (p 2).val j * sc : ℝ) : EReal) else ⊥ := score0 hx _

/-- The logarithm of the sum of exponentials. -/
theorem lse0 (p : S8x4x4096.Idx) : val_main_v37 (F := Ideal) x0 p = lse (S0 x0 p) := by
  have hm : val_main_v30 (F := Ideal) x0 p = Finset.univ.fold max ⊥ (S0 x0 p) := by
    unfold val_main_v30 S0
    generalize val_main_v29 (F := Ideal) x0 = y
    rw [Host.reduce_eq_fold_single (FloatOps.maximumf (F := Ideal) (φ := .f32)) y _ reducesTo_S8x4x4096x129_S8x4x4096_d3 (by decide), val_main_cst_3_apply]
    show Finset.fold max (Ideal.ofBits .f32 0xFF800000#32) _ _ = _
    rw [ofBits_neg_inf]
    refine congrArg (fun f => Finset.fold max ⊥ f Finset.univ) (funext fun k => congrArg y (funext fun a => Fin.ext ?_))
    match a with
    | ⟨0, _⟩ => rfl
    | ⟨1, _⟩ => rfl
    | ⟨2, _⟩ => rfl
    | ⟨3, _⟩ => rfl
  rw [val_main_v37_apply, val_main_v36_apply, val_main_v35_apply, val_main_cst_4_apply, hm]
  unfold lse
  rw [Finset.sum_congr rfl fun k _ => by rw [val_main_v34_apply, val_main_v33_apply, val_main_v32_apply, val_main_v31_apply]]
  show Finset.univ.fold max ⊥ (S0 x0 p) + Ideal.log (Ideal.ofBits .f32 0x00000000#32 + ∑ k : Fin 129, Ideal.exp (S0 x0 p k - val_main_v30 (F := Ideal) x0
    (idx_main_v31 (idx_main_v32 (idx_main_v35 p k))))) = _
  rw [Ideal.ofBits_zero_f32, zero_add]
  have e : ∀ k : Fin 129, idx_main_v31 (idx_main_v32 (idx_main_v35 p k)) = p := fun k => funext fun a => by
    match a with
    | ⟨0, _⟩ => rfl
    | ⟨1, _⟩ => rfl
    | ⟨2, _⟩ => rfl
  simp only [e, hm]

/-- The group's own output. -/
theorem out0 (i : S8x4096x4x128.Idx) : val_main_v42 (F := Ideal) x0 i
    = ∑ j : Fin 129, Ideal.exp (S0 x0 (rowOf i) j - lse (S0 x0 (rowOf i))) * val_main_v24 (F := Ideal) x0 (ridx_main_v42 i j) := by
  rw [val_main_v42_apply]
  refine Finset.sum_congr rfl fun k _ => ?_
  rw [val_main_v41_apply, val_main_v40_apply, val_main_v39_apply, val_main_v38_apply, lse0]
  have e1 : idx_main_v38 (idx_main_v39 (lidx_main_v42 i k)) = rowOf i := funext fun a => by
    match a with
    | ⟨0, _⟩ => rfl
    | ⟨1, _⟩ => rfl
    | ⟨2, _⟩ => rfl
  have e2 : lidx_main_v42 i k = idx_main_v35 (rowOf i) k := funext fun a => by
    match a with
    | ⟨0, _⟩ => rfl
    | ⟨1, _⟩ => rfl
    | ⟨2, _⟩ => rfl
    | ⟨3, _⟩ => rfl
  show Ideal.exp (val_main_v29 (F := Ideal) x0 (lidx_main_v42 i k) - lse (S0 x0 (idx_main_v38 (idx_main_v39 (lidx_main_v42 i k))))) * _ = _
  rw [e1, e2]
  rfl

/-! ## Group 1 -/

theorem word1 (i : S4096x129.Idx) : val_main_v58 (F := Ideal) i = iw (dil 1) (i 0).val (i 1).val := by
  rw [val_main_v58_apply, val_main_v56_apply, val_main_v54_apply, val_main_v53_apply, val_main_v57_apply, val_main_v55_apply, val_main_v52_apply, val_main_v51_apply, val_main_c_5_apply, val_main_v50_apply]
  rfl

theorem row1 (i : S4096x129.Idx) : ((val_main_v62 (F := Ideal) i).toInt.toNat) = (i 0).val - dil 1 * (i 1).val := by
  rw [val_main_v62_apply, word1, val_main_v61_apply, val_main_c_7_apply]
  exact iw_max (show dil 1 ≤ 16 by decide) (i 0).isLt (i 1).isLt

/-- The keys gathered, by position. -/
theorem key1 (hx : At x0 X) (i : S8x4096x129x4x128.Idx) :
    val_main_v63 (F := Ideal) x0 i = ((X (i 0).val ((i 1).val - dil 1 * (i 2).val) (1536 + 512 * 1 + 128 * (i 3).val + (i 4).val) : ℝ) : EReal) := by
  have h0 : (i 0).val < 8 := (i 0).isLt
  have h1 : (i 1).val < 4096 := (i 1).isLt
  have h2 : (i 2).val < 129 := (i 2).isLt
  have h3 : (i 3).val < 4 := (i 3).isLt
  have h4 : (i 4).val < 128 := (i 4).isLt
  have hr : (i 1).val - dil 1 * (i 2).val < 4096 := lt_of_le_of_lt (Nat.sub_le _ _) h1
  unfold val_main_v63
  rw [take_apply _ _ i ⟨_, hr⟩ (by rw [val_main_call3_v0_apply, row1]; rfl), val_main_v47_apply, val_main_v46_apply, val_main_v1_apply, hx]
  on_goal 2 => show 1536 + (512 + ((((i 0).val * 4096 + _) * 4 + (i 3).val) * 128 + (i 4).val) % 512) < 4608; omega
  refine congrArg Real.toEReal ?_
  generalize (i 1).val - dil 1 * (i 2).val = r at hr
  congr 1
  · show ((((i 0).val * 4096 + r) * 4 + (i 3).val) * 128 + (i 4).val) / 2097152 = _; omega
  · show ((((i 0).val * 4096 + r) * 4 + (i 3).val) * 128 + (i 4).val) / 512 % 4096 = _; omega
  · show 1536 + (512 + ((((i 0).val * 4096 + r) * 4 + (i 3).val) * 128 + (i 4).val) % 512) = _; omega

/-- The values gathered, by position. -/
theorem valu1 (hx : At x0 X) (i : S8x4096x129x4x128.Idx) :
    val_main_v64 (F := Ideal) x0 i = ((X (i 0).val ((i 1).val - dil 1 * (i 2).val) (3072 + 512 * 1 + 128 * (i 3).val + (i 4).val) : ℝ) : EReal) := by
  have h0 : (i 0).val < 8 := (i 0).isLt
  have h1 : (i 1).val < 4096 := (i 1).isLt
  have h2 : (i 2).val < 129 := (i 2).isLt
  have h3 : (i 3).val < 4 := (i 3).isLt
  have h4 : (i 4).val < 128 := (i 4).isLt
  have hr : (i 1).val - dil 1 * (i 2).val < 4096 := lt_of_le_of_lt (Nat.sub_le _ _) h1
  unfold val_main_v64
  rw [take_apply _ _ i ⟨_, hr⟩ (by rw [val_main_call4_v0_apply, row1]; rfl), val_main_v49_apply, val_main_v48_apply, val_main_v2_apply, hx]
  on_goal 2 => show 3072 + (512 + ((((i 0).val * 4096 + _) * 4 + (i 3).val) * 128 + (i 4).val) % 512) < 4608; omega
  refine congrArg Real.toEReal ?_
  generalize (i 1).val - dil 1 * (i 2).val = r at hr
  congr 1
  · show ((((i 0).val * 4096 + r) * 4 + (i 3).val) * 128 + (i 4).val) / 2097152 = _; omega
  · show ((((i 0).val * 4096 + r) * 4 + (i 3).val) * 128 + (i 4).val) / 512 % 4096 = _; omega
  · show 3072 + (512 + ((((i 0).val * 4096 + r) * 4 + (i 3).val) * 128 + (i 4).val) % 512) = _; omega

/-- The queries. -/
theorem query1 (hx : At x0 X) (i : S8x4096x4x128.Idx) :
    val_main_v45 (F := Ideal) x0 i = ((X (i 0).val (i 1).val (512 * 1 + 128 * (i 2).val + (i 3).val) : ℝ) : EReal) := by
  have h0 : (i 0).val < 8 := (i 0).isLt
  have h1 : (i 1).val < 4096 := (i 1).isLt
  have h2 : (i 2).val < 4 := (i 2).isLt
  have h3 : (i 3).val < 128 := (i 3).isLt
  rw [val_main_v45_apply, val_main_v44_apply, val_main_v0_apply, hx]
  on_goal 2 => show 512 + ((((i 0).val * 4096 + (i 1).val) * 4 + (i 2).val) * 128 + (i 3).val) % 512 < 4608; omega
  refine congrArg Real.toEReal ?_
  congr 1
  · show ((((i 0).val * 4096 + (i 1).val) * 4 + (i 2).val) * 128 + (i 3).val) / 2097152 = _; omega
  · show ((((i 0).val * 4096 + (i 1).val) * 4 + (i 2).val) * 128 + (i 3).val) / 512 % 4096 = _; omega
  · show 512 + ((((i 0).val * 4096 + (i 1).val) * 4 + (i 2).val) * 128 + (i 3).val) % 512 = _; omega

/-- The scores of one query: the scaled product where the key is there, −∞ elsewhere. -/
theorem score1 (hx : At x0 X) (i : S8x4x4096x129.Idx) :
    val_main_v69 (F := Ideal) x0 i = if gok 1 (i 2).val (i 3) then ((gx X (i 0).val (i 1).val 1 (i 2).val (i 3) * sc : ℝ) : EReal) else ⊥ := by
  have hd : val_main_v65 (F := Ideal) x0 i = ((gx X (i 0).val (i 1).val 1 (i 2).val (i 3) : ℝ) : EReal) := by
    rw [val_main_v65_apply, Finset.sum_congr rfl fun k _ => by rw [query1 hx, key1 hx, ← EReal.coe_mul], coe_sum']
    rfl
  rw [val_main_v69_apply, val_main_v67_apply, val_main_v66_apply, val_main_v3_apply, val_main_cst_apply, hd, val_main_call5_v1_apply, val_main_v68_apply, val_main_v60_apply, word1, val_main_v59_apply, val_main_c_6_apply,
    val_main_call5_v2_apply, val_main_call5_v0_apply, val_main_cst_8_apply]
  show Scalar.select (IntOp.cmpi .sge (iw (dil 1) (i 2).val (i 3).val) 0#32)
    (Ideal.div _ (Ideal.sqrt (Ideal.ofBits .f32 0x43000000#32))) (Ideal.ofBits .f32 0xFF800000#32) = _
  rw [iw_sge (show dil 1 ≤ 16 by decide) (i 2).isLt (i 3).isLt, select_ofBool, ofBits_128, div_root, ofBits_neg_inf]
  rfl

/-- The row of scores. -/
def S1 (x0 : (⟨S8x4096x5120, .f32⟩ : BufTy).Contents (Elt Ideal)) (p : S8x4x4096.Idx) (j : Fin 129) : EReal := val_main_v69 (F := Ideal) x0 (idx_main_v35 p j)

theorem S1_eq (hx : At x0 X) (p : S8x4x4096.Idx) (j : Fin 129) :
    S1 x0 p j = if gok 1 (p 2).val j then ((gx X (p 0).val (p 1).val 1 (p 2).val j * sc : ℝ) : EReal) else ⊥ := score1 hx _

/-- The logarithm of the sum of exponentials. -/
theorem lse1 (p : S8x4x4096.Idx) : val_main_v77 (F := Ideal) x0 p = lse (S1 x0 p) := by
  have hm : val_main_v70 (F := Ideal) x0 p = Finset.univ.fold max ⊥ (S1 x0 p) := by
    unfold val_main_v70 S1
    generalize val_main_v69 (F := Ideal) x0 = y
    rw [Host.reduce_eq_fold_single (FloatOps.maximumf (F := Ideal) (φ := .f32)) y _ reducesTo_S8x4x4096x129_S8x4x4096_d3 (by decide), val_main_cst_9_apply]
    show Finset.fold max (Ideal.ofBits .f32 0xFF800000#32) _ _ = _
    rw [ofBits_neg_inf]
    refine congrArg (fun f => Finset.fold max ⊥ f Finset.univ) (funext fun k => congrArg y (funext fun a => Fin.ext ?_))
    match a with
    | ⟨0, _⟩ => rfl
    | ⟨1, _⟩ => rfl
    | ⟨2, _⟩ => rfl
    | ⟨3, _⟩ => rfl
  rw [val_main_v77_apply, val_main_v76_apply, val_main_v75_apply, val_main_cst_10_apply, hm]
  unfold lse
  rw [Finset.sum_congr rfl fun k _ => by rw [val_main_v74_apply, val_main_v73_apply, val_main_v72_apply, val_main_v71_apply]]
  show Finset.univ.fold max ⊥ (S1 x0 p) + Ideal.log (Ideal.ofBits .f32 0x00000000#32 + ∑ k : Fin 129, Ideal.exp (S1 x0 p k - val_main_v70 (F := Ideal) x0
    (idx_main_v31 (idx_main_v32 (idx_main_v35 p k))))) = _
  rw [Ideal.ofBits_zero_f32, zero_add]
  have e : ∀ k : Fin 129, idx_main_v31 (idx_main_v32 (idx_main_v35 p k)) = p := fun k => funext fun a => by
    match a with
    | ⟨0, _⟩ => rfl
    | ⟨1, _⟩ => rfl
    | ⟨2, _⟩ => rfl
  simp only [e, hm]

/-- The group's own output. -/
theorem out1 (i : S8x4096x4x128.Idx) : val_main_v82 (F := Ideal) x0 i
    = ∑ j : Fin 129, Ideal.exp (S1 x0 (rowOf i) j - lse (S1 x0 (rowOf i))) * val_main_v64 (F := Ideal) x0 (ridx_main_v42 i j) := by
  rw [val_main_v82_apply]
  refine Finset.sum_congr rfl fun k _ => ?_
  rw [val_main_v81_apply, val_main_v80_apply, val_main_v79_apply, val_main_v78_apply, lse1]
  have e1 : idx_main_v38 (idx_main_v39 (lidx_main_v42 i k)) = rowOf i := funext fun a => by
    match a with
    | ⟨0, _⟩ => rfl
    | ⟨1, _⟩ => rfl
    | ⟨2, _⟩ => rfl
  have e2 : lidx_main_v42 i k = idx_main_v35 (rowOf i) k := funext fun a => by
    match a with
    | ⟨0, _⟩ => rfl
    | ⟨1, _⟩ => rfl
    | ⟨2, _⟩ => rfl
    | ⟨3, _⟩ => rfl
  show Ideal.exp (val_main_v69 (F := Ideal) x0 (lidx_main_v42 i k) - lse (S1 x0 (idx_main_v38 (idx_main_v39 (lidx_main_v42 i k))))) * _ = _
  rw [e1, e2]
  rfl

/-! ## Group 2 -/

theorem word2 (i : S4096x129.Idx) : val_main_v98 (F := Ideal) i = iw (dil 2) (i 0).val (i 1).val := by
  rw [val_main_v98_apply, val_main_v96_apply, val_main_v94_apply, val_main_v93_apply, val_main_v97_apply, val_main_v95_apply, val_main_v92_apply, val_main_v91_apply, val_main_c_11_apply, val_main_v90_apply]
  rfl

theorem row2 (i : S4096x129.Idx) : ((val_main_v102 (F := Ideal) i).toInt.toNat) = (i 0).val - dil 2 * (i 1).val := by
  rw [val_main_v102_apply, word2, val_main_v101_apply, val_main_c_13_apply]
  exact iw_max (show dil 2 ≤ 16 by decide) (i 0).isLt (i 1).isLt

/-- The keys gathered, by position. -/
theorem key2 (hx : At x0 X) (i : S8x4096x129x4x128.Idx) :
    val_main_v103 (F := Ideal) x0 i = ((X (i 0).val ((i 1).val - dil 2 * (i 2).val) (1536 + 512 * 2 + 128 * (i 3).val + (i 4).val) : ℝ) : EReal) := by
  have h0 : (i 0).val < 8 := (i 0).isLt
  have h1 : (i 1).val < 4096 := (i 1).isLt
  have h2 : (i 2).val < 129 := (i 2).isLt
  have h3 : (i 3).val < 4 := (i 3).isLt
  have h4 : (i 4).val < 128 := (i 4).isLt
  have hr : (i 1).val - dil 2 * (i 2).val < 4096 := lt_of_le_of_lt (Nat.sub_le _ _) h1
  unfold val_main_v103
  rw [take_apply _ _ i ⟨_, hr⟩ (by rw [val_main_call6_v0_apply, row2]; rfl), val_main_v87_apply, val_main_v86_apply, val_main_v1_apply, hx]
  on_goal 2 => show 1536 + (1024 + ((((i 0).val * 4096 + _) * 4 + (i 3).val) * 128 + (i 4).val) % 512) < 4608; omega
  refine congrArg Real.toEReal ?_
  generalize (i 1).val - dil 2 * (i 2).val = r at hr
  congr 1
  · show ((((i 0).val * 4096 + r) * 4 + (i 3).val) * 128 + (i 4).val) / 2097152 = _; omega
  · show ((((i 0).val * 4096 + r) * 4 + (i 3).val) * 128 + (i 4).val) / 512 % 4096 = _; omega
  · show 1536 + (1024 + ((((i 0).val * 4096 + r) * 4 + (i 3).val) * 128 + (i 4).val) % 512) = _; omega

/-- The values gathered, by position. -/
theorem valu2 (hx : At x0 X) (i : S8x4096x129x4x128.Idx) :
    val_main_v104 (F := Ideal) x0 i = ((X (i 0).val ((i 1).val - dil 2 * (i 2).val) (3072 + 512 * 2 + 128 * (i 3).val + (i 4).val) : ℝ) : EReal) := by
  have h0 : (i 0).val < 8 := (i 0).isLt
  have h1 : (i 1).val < 4096 := (i 1).isLt
  have h2 : (i 2).val < 129 := (i 2).isLt
  have h3 : (i 3).val < 4 := (i 3).isLt
  have h4 : (i 4).val < 128 := (i 4).isLt
  have hr : (i 1).val - dil 2 * (i 2).val < 4096 := lt_of_le_of_lt (Nat.sub_le _ _) h1
  unfold val_main_v104
  rw [take_apply _ _ i ⟨_, hr⟩ (by rw [val_main_call7_v0_apply, row2]; rfl), val_main_v89_apply, val_main_v88_apply, val_main_v2_apply, hx]
  on_goal 2 => show 3072 + (1024 + ((((i 0).val * 4096 + _) * 4 + (i 3).val) * 128 + (i 4).val) % 512) < 4608; omega
  refine congrArg Real.toEReal ?_
  generalize (i 1).val - dil 2 * (i 2).val = r at hr
  congr 1
  · show ((((i 0).val * 4096 + r) * 4 + (i 3).val) * 128 + (i 4).val) / 2097152 = _; omega
  · show ((((i 0).val * 4096 + r) * 4 + (i 3).val) * 128 + (i 4).val) / 512 % 4096 = _; omega
  · show 3072 + (1024 + ((((i 0).val * 4096 + r) * 4 + (i 3).val) * 128 + (i 4).val) % 512) = _; omega

/-- The queries. -/
theorem query2 (hx : At x0 X) (i : S8x4096x4x128.Idx) :
    val_main_v85 (F := Ideal) x0 i = ((X (i 0).val (i 1).val (512 * 2 + 128 * (i 2).val + (i 3).val) : ℝ) : EReal) := by
  have h0 : (i 0).val < 8 := (i 0).isLt
  have h1 : (i 1).val < 4096 := (i 1).isLt
  have h2 : (i 2).val < 4 := (i 2).isLt
  have h3 : (i 3).val < 128 := (i 3).isLt
  rw [val_main_v85_apply, val_main_v84_apply, val_main_v0_apply, hx]
  on_goal 2 => show 1024 + ((((i 0).val * 4096 + (i 1).val) * 4 + (i 2).val) * 128 + (i 3).val) % 512 < 4608; omega
  refine congrArg Real.toEReal ?_
  congr 1
  · show ((((i 0).val * 4096 + (i 1).val) * 4 + (i 2).val) * 128 + (i 3).val) / 2097152 = _; omega
  · show ((((i 0).val * 4096 + (i 1).val) * 4 + (i 2).val) * 128 + (i 3).val) / 512 % 4096 = _; omega
  · show 1024 + ((((i 0).val * 4096 + (i 1).val) * 4 + (i 2).val) * 128 + (i 3).val) % 512 = _; omega

/-- The scores of one query: the scaled product where the key is there, −∞ elsewhere. -/
theorem score2 (hx : At x0 X) (i : S8x4x4096x129.Idx) :
    val_main_v109 (F := Ideal) x0 i = if gok 2 (i 2).val (i 3) then ((gx X (i 0).val (i 1).val 2 (i 2).val (i 3) * sc : ℝ) : EReal) else ⊥ := by
  have hd : val_main_v105 (F := Ideal) x0 i = ((gx X (i 0).val (i 1).val 2 (i 2).val (i 3) : ℝ) : EReal) := by
    rw [val_main_v105_apply, Finset.sum_congr rfl fun k _ => by rw [query2 hx, key2 hx, ← EReal.coe_mul], coe_sum']
    rfl
  rw [val_main_v109_apply, val_main_v107_apply, val_main_v106_apply, val_main_v3_apply, val_main_cst_apply, hd, val_main_call8_v1_apply, val_main_v108_apply, val_main_v100_apply, word2, val_main_v99_apply, val_main_c_12_apply,
    val_main_call8_v2_apply, val_main_call8_v0_apply, val_main_cst_14_apply]
  show Scalar.select (IntOp.cmpi .sge (iw (dil 2) (i 2).val (i 3).val) 0#32)
    (Ideal.div _ (Ideal.sqrt (Ideal.ofBits .f32 0x43000000#32))) (Ideal.ofBits .f32 0xFF800000#32) = _
  rw [iw_sge (show dil 2 ≤ 16 by decide) (i 2).isLt (i 3).isLt, select_ofBool, ofBits_128, div_root, ofBits_neg_inf]
  rfl

/-- The row of scores. -/
def S2 (x0 : (⟨S8x4096x5120, .f32⟩ : BufTy).Contents (Elt Ideal)) (p : S8x4x4096.Idx) (j : Fin 129) : EReal := val_main_v109 (F := Ideal) x0 (idx_main_v35 p j)

theorem S2_eq (hx : At x0 X) (p : S8x4x4096.Idx) (j : Fin 129) :
    S2 x0 p j = if gok 2 (p 2).val j then ((gx X (p 0).val (p 1).val 2 (p 2).val j * sc : ℝ) : EReal) else ⊥ := score2 hx _

/-- The logarithm of the sum of exponentials. -/
theorem lse2 (p : S8x4x4096.Idx) : val_main_v117 (F := Ideal) x0 p = lse (S2 x0 p) := by
  have hm : val_main_v110 (F := Ideal) x0 p = Finset.univ.fold max ⊥ (S2 x0 p) := by
    unfold val_main_v110 S2
    generalize val_main_v109 (F := Ideal) x0 = y
    rw [Host.reduce_eq_fold_single (FloatOps.maximumf (F := Ideal) (φ := .f32)) y _ reducesTo_S8x4x4096x129_S8x4x4096_d3 (by decide), val_main_cst_15_apply]
    show Finset.fold max (Ideal.ofBits .f32 0xFF800000#32) _ _ = _
    rw [ofBits_neg_inf]
    refine congrArg (fun f => Finset.fold max ⊥ f Finset.univ) (funext fun k => congrArg y (funext fun a => Fin.ext ?_))
    match a with
    | ⟨0, _⟩ => rfl
    | ⟨1, _⟩ => rfl
    | ⟨2, _⟩ => rfl
    | ⟨3, _⟩ => rfl
  rw [val_main_v117_apply, val_main_v116_apply, val_main_v115_apply, val_main_cst_16_apply, hm]
  unfold lse
  rw [Finset.sum_congr rfl fun k _ => by rw [val_main_v114_apply, val_main_v113_apply, val_main_v112_apply, val_main_v111_apply]]
  show Finset.univ.fold max ⊥ (S2 x0 p) + Ideal.log (Ideal.ofBits .f32 0x00000000#32 + ∑ k : Fin 129, Ideal.exp (S2 x0 p k - val_main_v110 (F := Ideal) x0
    (idx_main_v31 (idx_main_v32 (idx_main_v35 p k))))) = _
  rw [Ideal.ofBits_zero_f32, zero_add]
  have e : ∀ k : Fin 129, idx_main_v31 (idx_main_v32 (idx_main_v35 p k)) = p := fun k => funext fun a => by
    match a with
    | ⟨0, _⟩ => rfl
    | ⟨1, _⟩ => rfl
    | ⟨2, _⟩ => rfl
  simp only [e, hm]

/-- The group's own output. -/
theorem out2 (i : S8x4096x4x128.Idx) : val_main_v122 (F := Ideal) x0 i
    = ∑ j : Fin 129, Ideal.exp (S2 x0 (rowOf i) j - lse (S2 x0 (rowOf i))) * val_main_v104 (F := Ideal) x0 (ridx_main_v42 i j) := by
  rw [val_main_v122_apply]
  refine Finset.sum_congr rfl fun k _ => ?_
  rw [val_main_v121_apply, val_main_v120_apply, val_main_v119_apply, val_main_v118_apply, lse2]
  have e1 : idx_main_v38 (idx_main_v39 (lidx_main_v42 i k)) = rowOf i := funext fun a => by
    match a with
    | ⟨0, _⟩ => rfl
    | ⟨1, _⟩ => rfl
    | ⟨2, _⟩ => rfl
  have e2 : lidx_main_v42 i k = idx_main_v35 (rowOf i) k := funext fun a => by
    match a with
    | ⟨0, _⟩ => rfl
    | ⟨1, _⟩ => rfl
    | ⟨2, _⟩ => rfl
    | ⟨3, _⟩ => rfl
  show Ideal.exp (val_main_v109 (F := Ideal) x0 (lidx_main_v42 i k) - lse (S2 x0 (idx_main_v38 (idx_main_v39 (lidx_main_v42 i k))))) * _ = _
  rw [e1, e2]
  rfl

/-! ## The merge -/

/-- The three groups' logarithms at one query. -/
def L (x0 : (⟨S8x4096x5120, .f32⟩ : BufTy).Contents (Elt Ideal)) (p : S8x4x4096.Idx) (g : ℕ) : EReal :=
  if g = 0 then lse (S0 x0 p) else if g = 1 then lse (S1 x0 p) else lse (S2 x0 p)

/-- The query of an element of the merge's array of logarithms. -/
abbrev rowL (i : S3x8x4096x4.Idx) : S8x4x4096.Idx := ix3 (⟨(i 1).val, (i 1).isLt⟩ : Fin 8) (⟨(i 3).val, (i 3).isLt⟩ : Fin 4) (⟨(i 2).val, (i 2).isLt⟩ : Fin 4096)

theorem piece {p : S8x4x4096.Idx} {i : S3x8x4096x4.Idx} {k : S1x8x4096x4.Idx} (h : ∀ b : Fin 4, b ≠ 0 → (k b).val = (i b).val)
    (e : p = ix3 (⟨(k 1).val, (k 1).isLt⟩ : Fin 8) (⟨(k 3).val, (k 3).isLt⟩ : Fin 4) (⟨(k 2).val, (k 2).isLt⟩ : Fin 4096)) : p = rowL i := by
  subst e
  funext a
  refine Fin.ext ?_
  match a with
  | ⟨0, _⟩ => exact h 1 (by decide)
  | ⟨1, _⟩ => exact h 3 (by decide)
  | ⟨2, _⟩ => exact h 2 (by decide)

theorem stacked (i : S3x8x4096x4.Idx) : val_main_v127 (F := Ideal) x0 i = L x0 (rowL i) (i 0).val := by
  unfold val_main_v127
  refine concatenate_unit_eq 0 _ _ i _ rfl (concatAt_cons _ _ _ _ ?_ (concatAt_cons _ _ _ _ ?_ (concatAt_cons _ _ _ _ ?_ (concatAt_nil _ _ _ _))))
  · intro hk hr k _ h
    rw [val_main_v124_apply, val_main_v43_apply, lse0, hk]
    exact congrArg (fun p => lse (S0 x0 p)) (piece h (funext fun a => by match a with | ⟨0, _⟩ => rfl | ⟨1, _⟩ => rfl | ⟨2, _⟩ => rfl))
  · intro hk hr k _ h
    rw [val_main_v125_apply, val_main_v83_apply, lse1, hk]
    exact congrArg (fun p => lse (S1 x0 p)) (piece h (funext fun a => by match a with | ⟨0, _⟩ => rfl | ⟨1, _⟩ => rfl | ⟨2, _⟩ => rfl))
  · intro hk hr k _ h
    rw [val_main_v126_apply, val_main_v123_apply, lse2, hk]
    exact congrArg (fun p => lse (S2 x0 p)) (piece h (funext fun a => by match a with | ⟨0, _⟩ => rfl | ⟨1, _⟩ => rfl | ⟨2, _⟩ => rfl))

/-- The query of an element of the merge's weights. -/
abbrev rowA (i : S8x4096x4.Idx) : S8x4x4096.Idx := ix3 (⟨(i 0).val, (i 0).isLt⟩ : Fin 8) (⟨(i 2).val, (i 2).isLt⟩ : Fin 4) (⟨(i 1).val, (i 1).isLt⟩ : Fin 4096)

/-- The largest of the three logarithms. -/
def M (x0 : (⟨S8x4096x5120, .f32⟩ : BufTy).Contents (Elt Ideal)) (p : S8x4x4096.Idx) : EReal := max (max (L x0 p 0) (L x0 p 1)) (L x0 p 2)

theorem largest (i : S8x4096x4.Idx) : val_main_v130 (F := Ideal) x0 i = M x0 (rowA i) := by
  have hm : val_main_v128 (F := Ideal) x0 i = Finset.univ.fold max ⊥ fun k : Fin 3 => L x0 (rowA i) k.val := by
    unfold val_main_v128
    rw [Host.reduce_eq_fold_single (FloatOps.maximumf (F := Ideal) (φ := .f32)) _ _ reducesTo_S3x8x4096x4_S8x4096x4_d0 (by decide), val_main_cst_17_apply]
    show Finset.fold max (Ideal.ofBits .f32 0xFF800000#32) _ _ = _
    rw [ofBits_neg_inf]
    refine congrArg (fun f => Finset.fold max ⊥ f Finset.univ) (funext fun k => (stacked _).trans ?_)
    rfl
  rw [val_main_v130_apply, val_main_v129_apply, val_main_cst_18_apply, hm]
  show max (Ideal.ofBits .f32 0xFF800000#32) _ = _
  rw [ofBits_neg_inf, bot_sup_eq]
  show Finset.fold max ⊥ _ (Finset.univ : Finset (Fin 3)) = _
  rw [show (Finset.univ : Finset (Fin 3)) = {0, 1, 2} from rfl, Finset.fold_insert (by decide), Finset.fold_insert (by decide), Finset.fold_singleton,
    max_bot_right, ← max_assoc]
  rfl

/-- The merge's weight of one group. -/
theorem weight (i : S3x8x4096x4.Idx) : val_main_v138 (F := Ideal) x0 i
    = Ideal.div (Ideal.exp (L x0 (rowL i) (i 0).val - M x0 (rowL i)))
        (Ideal.exp (L x0 (rowL i) 0 - M x0 (rowL i)) + Ideal.exp (L x0 (rowL i) 1 - M x0 (rowL i)) + Ideal.exp (L x0 (rowL i) 2 - M x0 (rowL i))) := by
  have he : ∀ j : S3x8x4096x4.Idx, val_main_v134 (F := Ideal) x0 j = Ideal.exp (L x0 (rowL j) (j 0).val - M x0 (rowL j)) := by
    intro j
    rw [val_main_v134_apply, val_main_v133_apply, val_main_v132_apply, val_main_v131_apply, largest, stacked]
    rfl
  rw [val_main_v138_apply, he, val_main_v137_apply, val_main_v136_apply, val_main_v135_apply, val_main_cst_19_apply, Fin.sum_univ_three, he, he, he]
  show Ideal.div _ (Ideal.ofBits .f32 0x00000000#32 + _) = _
  rw [Ideal.ofBits_zero_f32, zero_add]
  rfl

theorem alpha0 (i : S8x4096x4x128.Idx) : val_main_v142 (F := Ideal) x0 i
    = Ideal.div (Ideal.exp (lse (S0 x0 (rowOf i)) - M x0 (rowOf i)))
        (Ideal.exp (L x0 (rowOf i) 0 - M x0 (rowOf i)) + Ideal.exp (L x0 (rowOf i) 1 - M x0 (rowOf i)) + Ideal.exp (L x0 (rowOf i) 2 - M x0 (rowOf i))) := by
  have h0 : (i 0).val < 8 := (i 0).isLt
  have h1 : (i 1).val < 4096 := (i 1).isLt
  have h2 : (i 2).val < 4 := (i 2).isLt
  rw [val_main_v142_apply, val_main_v141_apply, val_main_v140_apply, val_main_v139_apply, weight]
  have e : rowL (idx_main_v139 (idx_main_v140 (idx_main_v141 (idx_main_v142 i)))) = rowOf i := by
    funext a
    refine Fin.ext ?_
    match a with
    | ⟨0, _⟩ => show (((i 0).val * 4096 + (i 1).val) * 4 + (i 2).val) / 16384 % 8 = (i 0).val; omega
    | ⟨1, _⟩ => show (((i 0).val * 4096 + (i 1).val) * 4 + (i 2).val) % 4 = (i 2).val; omega
    | ⟨2, _⟩ => show (((i 0).val * 4096 + (i 1).val) * 4 + (i 2).val) / 4 % 4096 = (i 1).val; omega
  rw [e]
  rfl

/-- Result 0 of the reference, element by element. -/
theorem result0 (hx : At x0 X) (i : S8x4096x512.Idx) :
    val_main_v155 (F := Ideal) x0 i = ((gval X (i 0).val ((i 2).val / 128) 0 (i 1).val ((i 2).val % 128) : ℝ) : EReal) := by
  have h0 : (i 0).val < 8 := (i 0).isLt
  have h1 : (i 1).val < 4096 := (i 1).isLt
  have h2 : (i 2).val < 512 := (i 2).isLt
  rw [val_main_v155_apply, val_main_v154_apply]
  have e0 : (idx_main_v154 i 0).val = (i 0).val := by show (((i 0).val * 4096 + (i 1).val) * 512 + (i 2).val) / 2097152 = _; omega
  have e1 : (idx_main_v154 i 1).val = (i 1).val := by show (((i 0).val * 4096 + (i 1).val) * 512 + (i 2).val) / 512 % 4096 = _; omega
  have e2 : (idx_main_v154 i 2).val = (i 2).val / 128 := by show (((i 0).val * 4096 + (i 1).val) * 512 + (i 2).val) / 128 % 4 = _; omega
  have e3 : (idx_main_v154 i 3).val = (i 2).val % 128 := by show (((i 0).val * 4096 + (i 1).val) * 512 + (i 2).val) % 128 = _; omega
  rw [← e0, ← e1, ← e2, ← e3]
  generalize idx_main_v154 i = k
  show val_main_v143 (F := Ideal) x0 k = _
  rw [val_main_v143_apply, out0, alpha0]
  exact ref_row (S0_eq hx _) (S1_eq hx _) (S2_eq hx _) (S0_eq hx _) (ok_zero _ _) (ok_zero _ _) (ok_zero _ _) (ok_zero _ _) _
    (fun j _ => valu0 hx _) _ rfl

theorem alpha1 (i : S8x4096x4x128.Idx) : val_main_v147 (F := Ideal) x0 i
    = Ideal.div (Ideal.exp (lse (S1 x0 (rowOf i)) - M x0 (rowOf i)))
        (Ideal.exp (L x0 (rowOf i) 0 - M x0 (rowOf i)) + Ideal.exp (L x0 (rowOf i) 1 - M x0 (rowOf i)) + Ideal.exp (L x0 (rowOf i) 2 - M x0 (rowOf i))) := by
  have h0 : (i 0).val < 8 := (i 0).isLt
  have h1 : (i 1).val < 4096 := (i 1).isLt
  have h2 : (i 2).val < 4 := (i 2).isLt
  rw [val_main_v147_apply, val_main_v146_apply, val_main_v145_apply, val_main_v144_apply, weight]
  have e : rowL (idx_main_v144 (idx_main_v145 (idx_main_v146 (idx_main_v147 i)))) = rowOf i := by
    funext a
    refine Fin.ext ?_
    match a with
    | ⟨0, _⟩ => show (((i 0).val * 4096 + (i 1).val) * 4 + (i 2).val) / 16384 % 8 = (i 0).val; omega
    | ⟨1, _⟩ => show (((i 0).val * 4096 + (i 1).val) * 4 + (i 2).val) % 4 = (i 2).val; omega
    | ⟨2, _⟩ => show (((i 0).val * 4096 + (i 1).val) * 4 + (i 2).val) / 4 % 4096 = (i 1).val; omega
  rw [e]
  rfl

/-- Result 1 of the reference, element by element. -/
theorem result1 (hx : At x0 X) (i : S8x4096x512.Idx) :
    val_main_v157 (F := Ideal) x0 i = ((gval X (i 0).val ((i 2).val / 128) 1 (i 1).val ((i 2).val % 128) : ℝ) : EReal) := by
  have h0 : (i 0).val < 8 := (i 0).isLt
  have h1 : (i 1).val < 4096 := (i 1).isLt
  have h2 : (i 2).val < 512 := (i 2).isLt
  rw [val_main_v157_apply, val_main_v156_apply]
  have e0 : (idx_main_v156 i 0).val = (i 0).val := by show (((i 0).val * 4096 + (i 1).val) * 512 + (i 2).val) / 2097152 = _; omega
  have e1 : (idx_main_v156 i 1).val = (i 1).val := by show (((i 0).val * 4096 + (i 1).val) * 512 + (i 2).val) / 512 % 4096 = _; omega
  have e2 : (idx_main_v156 i 2).val = (i 2).val / 128 := by show (((i 0).val * 4096 + (i 1).val) * 512 + (i 2).val) / 128 % 4 = _; omega
  have e3 : (idx_main_v156 i 3).val = (i 2).val % 128 := by show (((i 0).val * 4096 + (i 1).val) * 512 + (i 2).val) % 128 = _; omega
  rw [← e0, ← e1, ← e2, ← e3]
  generalize idx_main_v156 i = k
  show val_main_v148 (F := Ideal) x0 k = _
  rw [val_main_v148_apply, out1, alpha1]
  exact ref_row (S0_eq hx _) (S1_eq hx _) (S2_eq hx _) (S1_eq hx _) (ok_zero _ _) (ok_zero _ _) (ok_zero _ _) (ok_zero _ _) _
    (fun j _ => valu1 hx _) _ rfl

theorem alpha2 (i : S8x4096x4x128.Idx) : val_main_v152 (F := Ideal) x0 i
    = Ideal.div (Ideal.exp (lse (S2 x0 (rowOf i)) - M x0 (rowOf i)))
        (Ideal.exp (L x0 (rowOf i) 0 - M x0 (rowOf i)) + Ideal.exp (L x0 (rowOf i) 1 - M x0 (rowOf i)) + Ideal.exp (L x0 (rowOf i) 2 - M x0 (rowOf i))) := by
  have h0 : (i 0).val < 8 := (i 0).isLt
  have h1 : (i 1).val < 4096 := (i 1).isLt
  have h2 : (i 2).val < 4 := (i 2).isLt
  rw [val_main_v152_apply, val_main_v151_apply, val_main_v150_apply, val_main_v149_apply, weight]
  have e : rowL (idx_main_v149 (idx_main_v150 (idx_main_v151 (idx_main_v152 i)))) = rowOf i := by
    funext a
    refine Fin.ext ?_
    match a with
    | ⟨0, _⟩ => show (((i 0).val * 4096 + (i 1).val) * 4 + (i 2).val) / 16384 % 8 = (i 0).val; omega
    | ⟨1, _⟩ => show (((i 0).val * 4096 + (i 1).val) * 4 + (i 2).val) % 4 = (i 2).val; omega
    | ⟨2, _⟩ => show (((i 0).val * 4096 + (i 1).val) * 4 + (i 2).val) / 4 % 4096 = (i 1).val; omega
  rw [e]
  rfl

/-- Result 2 of the reference, element by element. -/
theorem result2 (hx : At x0 X) (i : S8x4096x512.Idx) :
    val_main_v159 (F := Ideal) x0 i = ((gval X (i 0).val ((i 2).val / 128) 2 (i 1).val ((i 2).val % 128) : ℝ) : EReal) := by
  have h0 : (i 0).val < 8 := (i 0).isLt
  have h1 : (i 1).val < 4096 := (i 1).isLt
  have h2 : (i 2).val < 512 := (i 2).isLt
  rw [val_main_v159_apply, val_main_v158_apply]
  have e0 : (idx_main_v158 i 0).val = (i 0).val := by show (((i 0).val * 4096 + (i 1).val) * 512 + (i 2).val) / 2097152 = _; omega
  have e1 : (idx_main_v158 i 1).val = (i 1).val := by show (((i 0).val * 4096 + (i 1).val) * 512 + (i 2).val) / 512 % 4096 = _; omega
  have e2 : (idx_main_v158 i 2).val = (i 2).val / 128 := by show (((i 0).val * 4096 + (i 1).val) * 512 + (i 2).val) / 128 % 4 = _; omega
  have e3 : (idx_main_v158 i 3).val = (i 2).val % 128 := by show (((i 0).val * 4096 + (i 1).val) * 512 + (i 2).val) % 128 = _; omega
  rw [← e0, ← e1, ← e2, ← e3]
  generalize idx_main_v158 i = k
  show val_main_v153 (F := Ideal) x0 k = _
  rw [val_main_v153_apply, out2, alpha2]
  exact ref_row (S0_eq hx _) (S1_eq hx _) (S2_eq hx _) (S2_eq hx _) (ok_zero _ _) (ok_zero _ _) (ok_zero _ _) (ok_zero _ _) _
    (fun j _ => valu2 hx _) _ rfl

end Cert.ReferenceIdeal.Ref

end
-- ==== Proof.Finish.lean ====
/- The claims about the dilated attention: the frames, the named constants, and the two programs' equal results. -/
module

public import proofs.«01_k».proof.Defs
public import proofs.«01_k».proof.Proof.Ref
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import Idealize.ShloMosaic.Adequacy

@[expose] public section

set_option maxRecDepth 16384

noncomputable section

namespace Cert.Proof.Dilated

open Idealize.ShloMosaic Idealize.SL.Sem

/-- The float word of infinity, as an extended real. -/
theorem ofBits_inf : Ideal.ofBits .f32 0x7F800000#32 = ⊤ := by
  simp [Ideal.ofBits, Ideal.ieee]

/-- The first 4608 columns of an array of which the precondition holds consist of reals. -/
theorem real_of_finite (h : (⟨Cert.Pre_finite.S8x4096x5120, .f32⟩ : BufTy).Contents (Elt Ideal))
    (hp : Cert.Pre_finite.fn (F := Ideal) h = fun _ => 1#1) (i : Cert.Pre_finite.S8x4096x5120.Idx) (hi : (i 2).val < 4608) :
    h i = (((h i).toReal : ℝ) : EReal) := by
  obtain ⟨j, e, hj⟩ : ∃ j : Cert.Pre_finite.S8x4096x5120.Idx, BitVec.ofBool (decide (max (h j) (-(h j)) < Ideal.ofBits .f32 0x7F800000#32)) = 1#1 ∧ ∀ a, (j a).val = 0 + (i a).val := by
    refine ⟨_, congrFun hp (ix3 (⟨(i 0).val, (i 0).isLt⟩ : Fin 8) (⟨(i 1).val, (i 1).isLt⟩ : Fin 4096) (⟨(i 2).val, hi⟩ : Fin 4608)), fun a => ?_⟩
    match a with
    | ⟨0, _⟩ => rfl
    | ⟨1, _⟩ => rfl
    | ⟨2, _⟩ => rfl
  rw [show j = i from funext fun a => Fin.ext ((hj a).trans (Nat.zero_add _))] at e
  rw [ofBits_inf] at e
  have hlt : max (h i) (-(h i)) < ⊤ := by
    by_contra hn
    rw [decide_eq_false hn] at e
    exact absurd e (by decide)
  obtain ⟨h1, h2⟩ := max_lt_iff.1 hlt
  refine (EReal.coe_toReal h1.ne ?_).symm
  intro hb
  rw [hb] at h2
  exact absurd h2 (by simp)

/-- The reals an array holds, by position (0 outside the array). -/
def reals (h : (⟨Cert.Pre_finite.S8x4096x5120, .f32⟩ : BufTy).Contents (Elt Ideal)) (b s d : ℕ) : ℝ :=
  if H : b < 8 ∧ s < 4096 ∧ d < 5120 then (h (ix3 ⟨b, H.1⟩ ⟨s, H.2.1⟩ ⟨d, H.2.2⟩)).toReal else 0

theorem reals_eq (h : (⟨Cert.Pre_finite.S8x4096x5120, .f32⟩ : BufTy).Contents (Elt Ideal))
    (hp : Cert.Pre_finite.fn (F := Ideal) h = fun _ => 1#1) (i : Cert.Pre_finite.S8x4096x5120.Idx) (hi : (i 2).val < 4608) :
    h i = ((reals h (i 0).val (i 1).val (i 2).val : ℝ) : EReal) := by
  have e : ix3 (⟨(i 0).val, (i 0).isLt⟩ : Fin 8) (⟨(i 1).val, (i 1).isLt⟩ : Fin 4096) (⟨(i 2).val, (i 2).isLt⟩ : Fin 5120) = i := funext fun a => by
    match a with
    | ⟨0, _⟩ => rfl
    | ⟨1, _⟩ => rfl
    | ⟨2, _⟩ => rfl
  unfold reals
  rw [dif_pos ⟨(i 0).isLt, (i 1).isLt, (i 2).isLt⟩, e]
  exact real_of_finite h hp i hi

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)
theorem frame_ri : Cert.quiescent_ReferenceIdeal := fun m ρ _ => frame_r m ρ
theorem frame_ri_pre : Cert.quiescent_ReferenceIdeal_pre_finite := fun m ρ _ => frame_r m ρ

/-- The two named constants stand for −∞ and for the scale times log₂ e. -/
theorem preserves : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3E0293EE#32 (((Real.sqrt 128)⁻¹ * (Real.log 2)⁻¹ : ℝ) : EReal) rfl⟩

/-- Kernel and reference leave the same three arrays: each element is the same quotient of sums over the kept keys. -/
theorem algebraic : Cert.algebraic_KernelIdeal_ReferenceIdeal_pre_finite := by
  intro m ρ m' ρ' hpre hagree
  refine ⟨_, _, _, Cert.KernelIdeal.Value.run (F := Ideal) m ρ, ?_⟩
  refine (θ_run Cert.ReferenceIdeal.defs _ _).mono (fun _ h c => ?_) (Cert.ReferenceIdeal.Value.run (F := Ideal) m' ρ')
  obtain ⟨h0, h1, h2, h3⟩ := h c
  have hX : Cert.KernelIdeal.Tile.Holds m c (reals (m ((c.tc : Thread Cert.KernelIdeal.nD Cert.KernelIdeal.τ).loc Cert.KernelIdeal.main_arg0))) :=
    reals_eq _ (hpre c)
  have hx : Cert.ReferenceIdeal.Ref.At (m' ((c.tc : Thread Cert.ReferenceIdeal.nD Cert.ReferenceIdeal.τ).loc Cert.ReferenceIdeal.main_arg0))
      (reals (m ((c.tc : Thread Cert.KernelIdeal.nD Cert.KernelIdeal.τ).loc Cert.KernelIdeal.main_arg0))) := by
    rw [hagree c]
    exact reals_eq _ (hpre c)
  refine ⟨h0.trans ((Cert.ReferenceIdeal.Read.val_main_v155_eq _).trans (funext fun i => ?_)),
    h1.trans ((Cert.ReferenceIdeal.Read.val_main_v157_eq _).trans (funext fun i => ?_)),
    h2.trans ((Cert.ReferenceIdeal.Read.val_main_v159_eq _).trans (funext fun i => ?_)), h3⟩
  · exact (Cert.ReferenceIdeal.Ref.result0 hx i).trans (Cert.KernelIdeal.Tile.result0 hX i).symm
  · exact (Cert.ReferenceIdeal.Ref.result1 hx i).trans (Cert.KernelIdeal.Tile.result1 hX i).symm
  · exact (Cert.ReferenceIdeal.Ref.result2 hx i).trans (Cert.KernelIdeal.Tile.result2 hX i).symm

end Cert.Proof.Dilated

end
-- ==== Proof.Mat2.lean ====
/- Program 2: the input projection of a dilated layer. The kernel's blocks are the blocks of one product. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Adequacy
public import Idealize.ShloMosaic.Lib.Pipeline.ValueKit
public import Idealize.ShloMosaic.Lib.Pointwise

@[expose] public section

set_option maxRecDepth 16384

noncomputable section

namespace Cert.Kernel2Ideal.Blocks

open Idealize.ShloMosaic Idealize.ShloMosaic.TcCoe Idealize.SL.Sem Cert.Kernel2Ideal Cert.Kernel2Ideal.Gen Cert.Kernel2Ideal.Value

variable (m : (ℓ : Loc nD τ sig) → Buf (Elt Ideal) ℓ) (c : Dev nD)

/-- The block index of each window at a grid point. -/
theorem idx : ∀ t : Fin cfg0.N, (win0_0.index t 0 = t.val / 5 ∧ win0_0.index t 1 = 0) ∧ (win0_1.index t 0 = 0 ∧ win0_1.index t 1 = t.val % 5)
    ∧ win0_2.index t 0 = t.val / 5 ∧ win0_2.index t 1 = t.val % 5 ∧ (cfg0.win 2).flush t = true :=
  (by decide +kernel : ∀ t : Fin grid0.N, _)

/-- The tokens of all batch elements, one below the other. -/
theorem rows (y : S8x4096x2048.Idx → EReal) (i : S32768x2048.Idx) :
    shapeCast S32768x2048 y shapeCasts_S8x4096x2048_S32768x2048 i
      = y (ix3 (⟨(i 0).val / 4096, by have h : (i 0).val < 32768 := (i 0).isLt; omega⟩ : Fin 8) (⟨(i 0).val % 4096, by omega⟩ : Fin 4096) (⟨(i 1).val, (i 1).isLt⟩ : Fin 2048)) := by
  refine shapeCast_apply y shapeCasts_S8x4096x2048_S32768x2048 i _ ?_
  rewrite [Shape.rowMajor_val_three, Shape.rowMajor_val_two]
  show ((i 0).val / 4096 * 4096 + (i 0).val % 4096) * 2048 + (i 1).val = (i 0).val * 2048 + (i 1).val
  omega

/-- The tokens, as the windows find them. -/
abbrev tokens (i : S32768x2048.Idx) : EReal := m ((c : Thread nD τ).loc main_arg0) (ix3 (⟨(i 0).val / 4096, by have h : (i 0).val < 32768 := (i 0).isLt; omega⟩ : Fin 8) (⟨(i 0).val % 4096, by omega⟩ : Fin 4096) (⟨(i 1).val, (i 1).isLt⟩ : Fin 2048))

/-- The weights, as the program is given them. -/
abbrev weights (i : S2048x5120.Idx) : EReal := m ((c : Thread nD τ).loc main_arg1) i

theorem entry_x (i : S32768x2048.Idx) : V m c main_v1 i = tokens m c i := by
  entry_read
  exact rows _ i

theorem entry_w (i : S2048x5120.Idx) : V m c main_v2 i = weights m c i := by
  entry_read
  rfl

/-- The product. -/
def G (i : S32768x5120.Idx) : EReal :=
  ∑ k : Fin 2048, tokens m c (ix2 (i 0) k) * weights m c (ix2 k (i 1))

/-- One block of the product, from a row block and a column block. -/
theorem pay (x : Vec Ideal S1024x2048 .bf16) (w : Vec Ideal S2048x1024 .bf16) (p q : Fin 1024) :
    k0_pay1 x w (ix2 p q) = ∑ k : Fin 2048, x (ix2 p k) * w (ix2 k q) := by
  pointwise [k0_pay1]

theorem out (x : Vec Ideal S1024x2048 .bf16) (w : Vec Ideal S2048x1024 .bf16) (p q : Fin 1024) :
    out0_2 x w (ix2 p q) = ∑ k : Fin 2048, x (ix2 p k) * w (ix2 k q) := by
  unfold out0_2
  rw [View.canon_cons_unit_lit _ _ _ (by decide), View.ld_unit_lit _ _ (by decide), View.ld_unit_lit _ _ (by decide), pay]

/-- A row block holds rows of the tokens. -/
theorem blk_x (t : Fin cfg0.N) (p : Fin 1024) (k : Fin 2048) (r : Fin 32768) (hr : r.val = t.val / 5 * 1024 + p.val) :
    iblk m c 0 t (ix2 p k) = tokens m c (ix2 r k) := by
  obtain ⟨⟨a0, a1⟩, ⟨b0, b1⟩, e0, e1, -⟩ := idx t
  unfold iblk
  rw [View.read_apply]
  refine (entry_x m c _).trans (congrArg (tokens m c) (funext fun a => Fin.ext ?_))
  match a with
  | ⟨0, _⟩ => blk_simp [a0, a1, hr]
  | ⟨1, _⟩ => blk_simp [a0, a1]

/-- A column block holds columns of the weights. -/
theorem blk_w (t : Fin cfg0.N) (k : Fin 2048) (q : Fin 1024) (r : Fin 5120) (hr : r.val = t.val % 5 * 1024 + q.val) :
    iblk m c 1 t (ix2 k q) = weights m c (ix2 k r) := by
  obtain ⟨⟨a0, a1⟩, ⟨b0, b1⟩, e0, e1, -⟩ := idx t
  unfold iblk
  rw [View.read_apply]
  refine (entry_w m c _).trans (congrArg (weights m c) (funext fun a => Fin.ext ?_))
  match a with
  | ⟨0, _⟩ => blk_simp [b0, b1]
  | ⟨1, _⟩ => blk_simp [b0, b1, hr]

theorem out_blk (t : Fin cfg0.N) (p q : Fin 1024) (i : S32768x5120.Idx) (h0 : (i 0).val = t.val / 5 * 1024 + p.val)
    (h1 : (i 1).val = t.val % 5 * 1024 + q.val) : out0_2 (iblk m c 0 t) (iblk m c 1 t) (ix2 p q) = G m c i := by
  rw [out]
  unfold G
  exact Finset.sum_congr rfl fun k _ => congrArg₂ (· * ·) (blk_x m c t p k (i 0) h0) (blk_w m c t k q (i 1) h1)

/-- What a point writes back is its block of the product. -/
theorem flushed (t : Fin cfg0.N) : (dats m 0 c).flushed 2 t = ((cfg0.win 2).blk t).view.read (Elt Ideal) (G m c) := by
  obtain ⟨-, -, e0, e1, -⟩ := idx t
  rw [flushed2]
  funext y
  rw [View.read_apply]
  have h0 : (((cfg0.win 2).blk t).view.emb y 0).val = t.val / 5 * 1024 + (y 0).val := by blk_simp [e0]
  have h1 : (((cfg0.win 2).blk t).view.emb y 1).val = t.val % 5 * 1024 + (y 1).val := by blk_simp [e1]
  exact (congrArg (out0_2 (iblk m c 0 t) (iblk m c 1 t)) (funext fun a => Fin.ext (by
    match a with
    | ⟨0, _⟩ => rfl
    | ⟨1, _⟩ => rfl))).trans (out_blk m c t ⟨(y 0).val, (y 0).isLt⟩ ⟨(y 1).val, (y 1).isLt⟩ _ h0 h1)

/-- Every entry is in the block of a point. -/
theorem covered (i : S32768x5120.Idx) : ∃ t : Fin cfg0.N, (cfg0.win 2).flush t = true ∧ i ∈ ((cfg0.win 2).blk t).view.set := by
  have h0 : (i 0).val < 32768 := (i 0).isLt
  have h1 : (i 1).val < 5120 := (i 1).isLt
  obtain ⟨t, ht⟩ : ∃ t : Fin cfg0.N, t.val = (i 0).val / 1024 * 5 + (i 1).val / 1024 :=
    ⟨⟨_, lt_of_lt_of_eq (by omega : (i 0).val / 1024 * 5 + (i 1).val / 1024 < 160) N_0.symm⟩, rfl⟩
  obtain ⟨-, -, e0, e1, hf⟩ := idx t
  refine ⟨t, hf, ?_⟩
  show i ∈ ((View.whole main_v3).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- After the run the output array is the product. -/
theorem final : (dats m 0 c).arrAt 2 cfg0.N = G m c :=
  (dats m 0 c).arrAt_eq_of_cover 2 _ (fun t _ => flushed m c t) (fun i => covered i)

end Cert.Kernel2Ideal.Blocks

namespace Cert.Proof.Mat2

open Idealize.ShloMosaic Idealize.ShloMosaic.TcCoe Idealize.SL.Sem Cert.Kernel2Ideal Cert.Reference2Ideal.Read

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's product is the kernel's. -/
theorem reference_eq (m : (ℓ : Loc nD τ sig) → Buf (Elt Ideal) ℓ) (c : Dev nD) (i : S32768x5120.Idx) :
    val_main_v2 (F := Ideal) (m ((c : Thread nD τ).loc main_arg0)) (m ((c : Thread nD τ).loc main_arg1)) i = Blocks.G m c i := by
  rw [val_main_v2_apply, val_main_v1_apply]
  show val_main_v0 (F := Ideal) _ _ _ = _
  rw [val_main_v0_apply]
  have h0 : (i 0).val < 32768 := (i 0).isLt
  have h1 : (i 1).val < 5120 := (i 1).isLt
  refine Finset.sum_congr rfl fun k _ => congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show ((i 0).val * 5120 + (i 1).val) / 20971520 = (i 0).val / 4096; omega
    | ⟨1, _⟩ => show ((i 0).val * 5120 + (i 1).val) / 5120 % 4096 = (i 0).val % 4096; omega
    | ⟨2, _⟩ => rfl
  · match a with
    | ⟨0, _⟩ => rfl
    | ⟨1, _⟩ => show ((i 0).val * 5120 + (i 1).val) % 5120 = (i 1).val; omega

/-- Kernel and reference leave the same product. -/
theorem algebraic : Cert.algebraic_Kernel2Ideal_Reference2Ideal := by
  intro m ρ m' ρ' _ hagree
  refine ⟨fun c => Blocks.G m c, (θ_run Cert.Kernel2Ideal.defs _ _).mono (fun _ h c => ⟨(h c).1.trans (Blocks.final m c), (h c).2⟩)
    (Cert.Kernel2Ideal.Value.run_blocks (F := Ideal) m ρ), ?_⟩
  refine (θ_run Cert.Reference2Ideal.defs _ _).mono (fun _ h c => ⟨(h c).1.trans ?_, (h c).2⟩) (Cert.Reference2Ideal.Value.run (F := Ideal) m' ρ')
  rw [(hagree c).1, (hagree c).2]
  exact (val_main_v2_eq _ _).trans (funext fun i => reference_eq m c i)

end Cert.Proof.Mat2

end
-- ==== Proof.Mat3.lean ====
/- Program 3: the input projection of a pooling layer. The kernel's blocks are the blocks of one product. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import Idealize.ShloMosaic.Lib.Pipeline.ValueKit
public import Idealize.ShloMosaic.Lib.Pointwise

@[expose] public section

set_option maxRecDepth 16384

noncomputable section

namespace Cert.Kernel3Ideal.Blocks

open Idealize.ShloMosaic Idealize.ShloMosaic.TcCoe Idealize.SL.Sem Cert.Kernel3Ideal Cert.Kernel3Ideal.Gen Cert.Kernel3Ideal.Value

variable (m : (ℓ : Loc nD τ sig) → Buf (Elt Ideal) ℓ) (c : Dev nD)

/-- The block index of each window at a grid point. -/
theorem idx : ∀ t : Fin cfg0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2 ∧ (cfg0.win 2).flush t = true :=
  (by decide +kernel : ∀ t : Fin grid0.N, _)

/-- The tokens of all batch elements, one below the other. -/
theorem rows (y : S8x4096x2048.Idx → EReal) (i : S32768x2048.Idx) :
    shapeCast S32768x2048 y shapeCasts_S8x4096x2048_S32768x2048 i
      = y (ix3 (⟨(i 0).val / 4096, by have h : (i 0).val < 32768 := (i 0).isLt; omega⟩ : Fin 8) (⟨(i 0).val % 4096, by omega⟩ : Fin 4096) (⟨(i 1).val, (i 1).isLt⟩ : Fin 2048)) := by
  refine shapeCast_apply y shapeCasts_S8x4096x2048_S32768x2048 i _ ?_
  rewrite [Shape.rowMajor_val_three, Shape.rowMajor_val_two]
  show ((i 0).val / 4096 * 4096 + (i 0).val % 4096) * 2048 + (i 1).val = (i 0).val * 2048 + (i 1).val
  omega

/-- The tokens, as the windows find them. -/
abbrev tokens (i : S32768x2048.Idx) : EReal := m ((c : Thread nD τ).loc main_arg0) (ix3 (⟨(i 0).val / 4096, by have h : (i 0).val < 32768 := (i 0).isLt; omega⟩ : Fin 8) (⟨(i 0).val % 4096, by omega⟩ : Fin 4096) (⟨(i 1).val, (i 1).isLt⟩ : Fin 2048))

/-- The weights, as the program is given them. -/
abbrev weights (i : S2048x2048.Idx) : EReal := m ((c : Thread nD τ).loc main_arg1) i

theorem entry_x (i : S32768x2048.Idx) : V m c main_v1 i = tokens m c i := by
  entry_read
  exact rows _ i

theorem entry_w (i : S2048x2048.Idx) : V m c main_v2 i = weights m c i := by
  entry_read
  rfl

/-- The product. -/
def G (i : S32768x2048.Idx) : EReal :=
  ∑ k : Fin 2048, tokens m c (ix2 (i 0) k) * weights m c (ix2 k (i 1))

/-- One block of the product, from a row block and a column block. -/
theorem pay (x : Vec Ideal S1024x2048 .bf16) (w : Vec Ideal S2048x1024 .bf16) (p q : Fin 1024) :
    k0_pay1 x w (ix2 p q) = ∑ k : Fin 2048, x (ix2 p k) * w (ix2 k q) := by
  pointwise [k0_pay1]

theorem out (x : Vec Ideal S1024x2048 .bf16) (w : Vec Ideal S2048x1024 .bf16) (p q : Fin 1024) :
    out0_2 x w (ix2 p q) = ∑ k : Fin 2048, x (ix2 p k) * w (ix2 k q) := by
  unfold out0_2
  rw [View.canon_cons_unit_lit _ _ _ (by decide), View.ld_unit_lit _ _ (by decide), View.ld_unit_lit _ _ (by decide), pay]

/-- A row block holds rows of the tokens. -/
theorem blk_x (t : Fin cfg0.N) (p : Fin 1024) (k : Fin 2048) (r : Fin 32768) (hr : r.val = t.val / 2 * 1024 + p.val) :
    iblk m c 0 t (ix2 p k) = tokens m c (ix2 r k) := by
  obtain ⟨⟨a0, a1⟩, ⟨b0, b1⟩, e0, e1, -⟩ := idx t
  unfold iblk
  rw [View.read_apply]
  refine (entry_x m c _).trans (congrArg (tokens m c) (funext fun a => Fin.ext ?_))
  match a with
  | ⟨0, _⟩ => blk_simp [a0, a1, hr]
  | ⟨1, _⟩ => blk_simp [a0, a1]

/-- A column block holds columns of the weights. -/
theorem blk_w (t : Fin cfg0.N) (k : Fin 2048) (q : Fin 1024) (r : Fin 2048) (hr : r.val = t.val % 2 * 1024 + q.val) :
    iblk m c 1 t (ix2 k q) = weights m c (ix2 k r) := by
  obtain ⟨⟨a0, a1⟩, ⟨b0, b1⟩, e0, e1, -⟩ := idx t
  unfold iblk
  rw [View.read_apply]
  refine (entry_w m c _).trans (congrArg (weights m c) (funext fun a => Fin.ext ?_))
  match a with
  | ⟨0, _⟩ => blk_simp [b0, b1]
  | ⟨1, _⟩ => blk_simp [b0, b1, hr]

theorem out_blk (t : Fin cfg0.N) (p q : Fin 1024) (i : S32768x2048.Idx) (h0 : (i 0).val = t.val / 2 * 1024 + p.val)
    (h1 : (i 1).val = t.val % 2 * 1024 + q.val) : out0_2 (iblk m c 0 t) (iblk m c 1 t) (ix2 p q) = G m c i := by
  rw [out]
  unfold G
  exact Finset.sum_congr rfl fun k _ => congrArg₂ (· * ·) (blk_x m c t p k (i 0) h0) (blk_w m c t k q (i 1) h1)

/-- What a point writes back is its block of the product. -/
theorem flushed (t : Fin cfg0.N) : (dats m 0 c).flushed 2 t = ((cfg0.win 2).blk t).view.read (Elt Ideal) (G m c) := by
  obtain ⟨-, -, e0, e1, -⟩ := idx t
  rw [flushed2]
  funext y
  rw [View.read_apply]
  have h0 : (((cfg0.win 2).blk t).view.emb y 0).val = t.val / 2 * 1024 + (y 0).val := by blk_simp [e0]
  have h1 : (((cfg0.win 2).blk t).view.emb y 1).val = t.val % 2 * 1024 + (y 1).val := by blk_simp [e1]
  exact (congrArg (out0_2 (iblk m c 0 t) (iblk m c 1 t)) (funext fun a => Fin.ext (by
    match a with
    | ⟨0, _⟩ => rfl
    | ⟨1, _⟩ => rfl))).trans (out_blk m c t ⟨(y 0).val, (y 0).isLt⟩ ⟨(y 1).val, (y 1).isLt⟩ _ h0 h1)

/-- Every entry is in the block of a point. -/
theorem covered (i : S32768x2048.Idx) : ∃ t : Fin cfg0.N, (cfg0.win 2).flush t = true ∧ i ∈ ((cfg0.win 2).blk t).view.set := by
  have h0 : (i 0).val < 32768 := (i 0).isLt
  have h1 : (i 1).val < 2048 := (i 1).isLt
  obtain ⟨t, ht⟩ : ∃ t : Fin cfg0.N, t.val = (i 0).val / 1024 * 2 + (i 1).val / 1024 :=
    ⟨⟨_, lt_of_lt_of_eq (by omega : (i 0).val / 1024 * 2 + (i 1).val / 1024 < 64) N_0.symm⟩, rfl⟩
  obtain ⟨-, -, e0, e1, hf⟩ := idx t
  refine ⟨t, hf, ?_⟩
  show i ∈ ((View.whole main_v3).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- After the run the output array is the product. -/
theorem final : (dats m 0 c).arrAt 2 cfg0.N = G m c :=
  (dats m 0 c).arrAt_eq_of_cover 2 _ (fun t _ => flushed m c t) (fun i => covered i)

end Cert.Kernel3Ideal.Blocks

namespace Cert.Proof.Mat3

open Idealize.ShloMosaic Idealize.ShloMosaic.TcCoe Idealize.SL.Sem Cert.Kernel3Ideal Cert.Reference3Ideal.Read

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's product is the kernel's. -/
theorem reference_eq (m : (ℓ : Loc nD τ sig) → Buf (Elt Ideal) ℓ) (c : Dev nD) (i : S32768x2048.Idx) :
    val_main_v2 (F := Ideal) (m ((c : Thread nD τ).loc main_arg0)) (m ((c : Thread nD τ).loc main_arg1)) i = Blocks.G m c i := by
  rw [val_main_v2_apply, val_main_v1_apply]
  show val_main_v0 (F := Ideal) _ _ _ = _
  rw [val_main_v0_apply]
  have h0 : (i 0).val < 32768 := (i 0).isLt
  have h1 : (i 1).val < 2048 := (i 1).isLt
  refine Finset.sum_congr rfl fun k _ => congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show ((i 0).val * 2048 + (i 1).val) / 8388608 = (i 0).val / 4096; omega
    | ⟨1, _⟩ => show ((i 0).val * 2048 + (i 1).val) / 2048 % 4096 = (i 0).val % 4096; omega
    | ⟨2, _⟩ => rfl
  · match a with
    | ⟨0, _⟩ => rfl
    | ⟨1, _⟩ => show ((i 0).val * 2048 + (i 1).val) % 2048 = (i 1).val; omega

/-- Kernel and reference leave the same product. -/
theorem algebraic : Cert.algebraic_Kernel3Ideal_Reference3Ideal := by
  intro m ρ m' ρ' _ hagree
  refine ⟨fun c => Blocks.G m c, (θ_run Cert.Kernel3Ideal.defs _ _).mono (fun _ h c => ⟨(h c).1.trans (Blocks.final m c), (h c).2⟩)
    (Cert.Kernel3Ideal.Value.run_blocks (F := Ideal) m ρ), ?_⟩
  refine (θ_run Cert.Reference3Ideal.defs _ _).mono (fun _ h c => ⟨(h c).1.trans ?_, (h c).2⟩) (Cert.Reference3Ideal.Value.run (F := Ideal) m' ρ')
  rw [(hagree c).1, (hagree c).2]
  exact (val_main_v2_eq _ _).trans (funext fun i => reference_eq m c i)

end Cert.Proof.Mat3

end
-- ==== Proof.Mat4.lean ====
/- Program 4: the query projection of the PEER layer. The kernel's blocks are the blocks of one product. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Lib.Pipeline.ValueKit
public import Idealize.ShloMosaic.Lib.Pointwise

@[expose] public section

set_option maxRecDepth 16384

noncomputable section

namespace Cert.Kernel4Ideal.Blocks

open Idealize.ShloMosaic Idealize.ShloMosaic.TcCoe Idealize.SL.Sem Cert.Kernel4Ideal Cert.Kernel4Ideal.Gen Cert.Kernel4Ideal.Value

variable (m : (ℓ : Loc nD τ sig) → Buf (Elt Ideal) ℓ) (c : Dev nD)

/-- The block index of each window at a grid point. -/
theorem idx : ∀ t : Fin cfg0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2 ∧ (cfg0.win 2).flush t = true :=
  (by decide +kernel : ∀ t : Fin grid0.N, _)

/-- The tokens, as the windows find them. -/
abbrev tokens (i : S32768x2048.Idx) : EReal := m ((c : Thread nD τ).loc main_arg0) i

/-- The weights, as the program is given them. -/
abbrev weights (i : S2048x2048.Idx) : EReal := m ((c : Thread nD τ).loc main_arg1) i

theorem entry_x (i : S32768x2048.Idx) : V m c main_v0 i = tokens m c i := by
  entry_read
  rfl

theorem entry_w (i : S2048x2048.Idx) : V m c main_v1 i = weights m c i := by
  entry_read
  rfl

/-- The product. -/
def G (i : S32768x2048.Idx) : EReal :=
  ∑ k : Fin 2048, tokens m c (ix2 (i 0) k) * weights m c (ix2 k (i 1))

/-- One block of the product, from a row block and a column block. -/
theorem pay (x : Vec Ideal S1024x2048 .bf16) (w : Vec Ideal S2048x1024 .bf16) (p q : Fin 1024) :
    k0_pay1 x w (ix2 p q) = ∑ k : Fin 2048, x (ix2 p k) * w (ix2 k q) := by
  pointwise [k0_pay1]

theorem out (x : Vec Ideal S1024x2048 .bf16) (w : Vec Ideal S2048x1024 .bf16) (p q : Fin 1024) :
    out0_2 x w (ix2 p q) = ∑ k : Fin 2048, x (ix2 p k) * w (ix2 k q) := by
  unfold out0_2
  rw [View.canon_cons_unit_lit _ _ _ (by decide), View.ld_unit_lit _ _ (by decide), View.ld_unit_lit _ _ (by decide), pay]

/-- A row block holds rows of the tokens. -/
theorem blk_x (t : Fin cfg0.N) (p : Fin 1024) (k : Fin 2048) (r : Fin 32768) (hr : r.val = t.val / 2 * 1024 + p.val) :
    iblk m c 0 t (ix2 p k) = tokens m c (ix2 r k) := by
  obtain ⟨⟨a0, a1⟩, ⟨b0, b1⟩, e0, e1, -⟩ := idx t
  unfold iblk
  rw [View.read_apply]
  refine (entry_x m c _).trans (congrArg (tokens m c) (funext fun a => Fin.ext ?_))
  match a with
  | ⟨0, _⟩ => blk_simp [a0, a1, hr]
  | ⟨1, _⟩ => blk_simp [a0, a1]

/-- A column block holds columns of the weights. -/
theorem blk_w (t : Fin cfg0.N) (k : Fin 2048) (q : Fin 1024) (r : Fin 2048) (hr : r.val = t.val % 2 * 1024 + q.val) :
    iblk m c 1 t (ix2 k q) = weights m c (ix2 k r) := by
  obtain ⟨⟨a0, a1⟩, ⟨b0, b1⟩, e0, e1, -⟩ := idx t
  unfold iblk
  rw [View.read_apply]
  refine (entry_w m c _).trans (congrArg (weights m c) (funext fun a => Fin.ext ?_))
  match a with
  | ⟨0, _⟩ => blk_simp [b0, b1]
  | ⟨1, _⟩ => blk_simp [b0, b1, hr]

theorem out_blk (t : Fin cfg0.N) (p q : Fin 1024) (i : S32768x2048.Idx) (h0 : (i 0).val = t.val / 2 * 1024 + p.val)
    (h1 : (i 1).val = t.val % 2 * 1024 + q.val) : out0_2 (iblk m c 0 t) (iblk m c 1 t) (ix2 p q) = G m c i := by
  rw [out]
  unfold G
  exact Finset.sum_congr rfl fun k _ => congrArg₂ (· * ·) (blk_x m c t p k (i 0) h0) (blk_w m c t k q (i 1) h1)

/-- What a point writes back is its block of the product. -/
theorem flushed (t : Fin cfg0.N) : (dats m 0 c).flushed 2 t = ((cfg0.win 2).blk t).view.read (Elt Ideal) (G m c) := by
  obtain ⟨-, -, e0, e1, -⟩ := idx t
  rw [flushed2]
  funext y
  rw [View.read_apply]
  have h0 : (((cfg0.win 2).blk t).view.emb y 0).val = t.val / 2 * 1024 + (y 0).val := by blk_simp [e0]
  have h1 : (((cfg0.win 2).blk t).view.emb y 1).val = t.val % 2 * 1024 + (y 1).val := by blk_simp [e1]
  exact (congrArg (out0_2 (iblk m c 0 t) (iblk m c 1 t)) (funext fun a => Fin.ext (by
    match a with
    | ⟨0, _⟩ => rfl
    | ⟨1, _⟩ => rfl))).trans (out_blk m c t ⟨(y 0).val, (y 0).isLt⟩ ⟨(y 1).val, (y 1).isLt⟩ _ h0 h1)

/-- Every entry is in the block of a point. -/
theorem covered (i : S32768x2048.Idx) : ∃ t : Fin cfg0.N, (cfg0.win 2).flush t = true ∧ i ∈ ((cfg0.win 2).blk t).view.set := by
  have h0 : (i 0).val < 32768 := (i 0).isLt
  have h1 : (i 1).val < 2048 := (i 1).isLt
  obtain ⟨t, ht⟩ : ∃ t : Fin cfg0.N, t.val = (i 0).val / 1024 * 2 + (i 1).val / 1024 :=
    ⟨⟨_, lt_of_lt_of_eq (by omega : (i 0).val / 1024 * 2 + (i 1).val / 1024 < 64) N_0.symm⟩, rfl⟩
  obtain ⟨-, -, e0, e1, hf⟩ := idx t
  refine ⟨t, hf, ?_⟩
  show i ∈ ((View.whole main_v2).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- After the run the output array is the product. -/
theorem final : (dats m 0 c).arrAt 2 cfg0.N = G m c :=
  (dats m 0 c).arrAt_eq_of_cover 2 _ (fun t _ => flushed m c t) (fun i => covered i)

end Cert.Kernel4Ideal.Blocks

namespace Cert.Proof.Mat4

open Idealize.ShloMosaic Idealize.ShloMosaic.TcCoe Idealize.SL.Sem Cert.Kernel4Ideal Cert.Reference4Ideal.Read

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's product is the kernel's. -/
theorem reference_eq (m : (ℓ : Loc nD τ sig) → Buf (Elt Ideal) ℓ) (c : Dev nD) (i : S32768x2048.Idx) :
    val_main_v0 (F := Ideal) (m ((c : Thread nD τ).loc main_arg0)) (m ((c : Thread nD τ).loc main_arg1)) i = Blocks.G m c i := by
  rw [val_main_v0_apply]
  refine Finset.sum_congr rfl fun k _ => congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => rfl
    | ⟨1, _⟩ => rfl
  · match a with
    | ⟨0, _⟩ => rfl
    | ⟨1, _⟩ => rfl

/-- Kernel and reference leave the same product. -/
theorem algebraic : Cert.algebraic_Kernel4Ideal_Reference4Ideal := by
  intro m ρ m' ρ' _ hagree
  refine ⟨fun c => Blocks.G m c, (θ_run Cert.Kernel4Ideal.defs _ _).mono (fun _ h c => ⟨(h c).1.trans (Blocks.final m c), (h c).2⟩)
    (Cert.Kernel4Ideal.Value.run_blocks (F := Ideal) m ρ), ?_⟩
  refine (θ_run Cert.Reference4Ideal.defs _ _).mono (fun _ h c => ⟨(h c).1.trans ?_, (h c).2⟩) (Cert.Reference4Ideal.Value.run (F := Ideal) m' ρ')
  rw [(hagree c).1, (hagree c).2]
  exact (val_main_v0_eq _ _).trans (funext fun i => reference_eq m c i)

end Cert.Proof.Mat4

end
-- ==== Proof.Mat5.lean ====
/- Program 5: the keys and values of the memory tokens. The kernel's blocks are the blocks of one product. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Adequacy
public import Idealize.ShloMosaic.Lib.Pipeline.ValueKit
public import Idealize.ShloMosaic.Lib.Pointwise

@[expose] public section

set_option maxRecDepth 16384

noncomputable section

namespace Cert.Kernel5Ideal.Blocks

open Idealize.ShloMosaic Idealize.ShloMosaic.TcCoe Idealize.SL.Sem Cert.Kernel5Ideal Cert.Kernel5Ideal.Gen Cert.Kernel5Ideal.Value

variable (m : (ℓ : Loc nD τ sig) → Buf (Elt Ideal) ℓ) (c : Dev nD)

/-- The block index of each window at a grid point. -/
theorem idx : ∀ t : Fin cfg0.N, (win0_0.index t 0 = t.val / 1 ∧ win0_0.index t 1 = 0) ∧ (win0_1.index t 0 = 0 ∧ win0_1.index t 1 = t.val % 1)
    ∧ win0_2.index t 0 = t.val / 1 ∧ win0_2.index t 1 = t.val % 1 ∧ (cfg0.win 2).flush t = true :=
  (by decide +kernel : ∀ t : Fin grid0.N, _)

/-- The tokens of all batch elements, one below the other. -/
theorem rows (y : S8x256x2048.Idx → EReal) (i : S2048x2048.Idx) :
    shapeCast S2048x2048 y shapeCasts_S8x256x2048_S2048x2048 i
      = y (ix3 (⟨(i 0).val / 256, by have h : (i 0).val < 2048 := (i 0).isLt; omega⟩ : Fin 8) (⟨(i 0).val % 256, by omega⟩ : Fin 256) (⟨(i 1).val, (i 1).isLt⟩ : Fin 2048)) := by
  refine shapeCast_apply y shapeCasts_S8x256x2048_S2048x2048 i _ ?_
  rewrite [Shape.rowMajor_val_three, Shape.rowMajor_val_two]
  show ((i 0).val / 256 * 256 + (i 0).val % 256) * 2048 + (i 1).val = (i 0).val * 2048 + (i 1).val
  omega

/-- The tokens, as the windows find them. -/
abbrev tokens (i : S2048x2048.Idx) : EReal := m ((c : Thread nD τ).loc main_arg0) (ix3 (⟨(i 0).val / 256, by have h : (i 0).val < 2048 := (i 0).isLt; omega⟩ : Fin 8) (⟨(i 0).val % 256, by omega⟩ : Fin 256) (⟨(i 1).val, (i 1).isLt⟩ : Fin 2048))

/-- The weights, as the program is given them. -/
abbrev weights (i : S2048x1024.Idx) : EReal := m ((c : Thread nD τ).loc main_arg1) i

theorem entry_x (i : S2048x2048.Idx) : V m c main_v1 i = tokens m c i := by
  entry_read
  exact rows _ i

theorem entry_w (i : S2048x1024.Idx) : V m c main_v2 i = weights m c i := by
  entry_read
  rfl

/-- The product. -/
def G (i : S2048x1024.Idx) : EReal :=
  ∑ k : Fin 2048, tokens m c (ix2 (i 0) k) * weights m c (ix2 k (i 1))

/-- One block of the product, from a row block and a column block. -/
theorem pay (x : Vec Ideal S1024x2048 .bf16) (w : Vec Ideal S2048x1024 .bf16) (p q : Fin 1024) :
    k0_pay1 x w (ix2 p q) = ∑ k : Fin 2048, x (ix2 p k) * w (ix2 k q) := by
  pointwise [k0_pay1]

theorem out (x : Vec Ideal S1024x2048 .bf16) (w : Vec Ideal S2048x1024 .bf16) (p q : Fin 1024) :
    out0_2 x w (ix2 p q) = ∑ k : Fin 2048, x (ix2 p k) * w (ix2 k q) := by
  unfold out0_2
  rw [View.canon_cons_unit_lit _ _ _ (by decide), View.ld_unit_lit _ _ (by decide), View.ld_unit_lit _ _ (by decide), pay]

/-- A row block holds rows of the tokens. -/
theorem blk_x (t : Fin cfg0.N) (p : Fin 1024) (k : Fin 2048) (r : Fin 2048) (hr : r.val = t.val / 1 * 1024 + p.val) :
    iblk m c 0 t (ix2 p k) = tokens m c (ix2 r k) := by
  obtain ⟨⟨a0, a1⟩, ⟨b0, b1⟩, e0, e1, -⟩ := idx t
  unfold iblk
  rw [View.read_apply]
  refine (entry_x m c _).trans (congrArg (tokens m c) (funext fun a => Fin.ext ?_))
  match a with
  | ⟨0, _⟩ => blk_simp [a0, a1, hr]
  | ⟨1, _⟩ => blk_simp [a0, a1]

/-- A column block holds columns of the weights. -/
theorem blk_w (t : Fin cfg0.N) (k : Fin 2048) (q : Fin 1024) (r : Fin 1024) (hr : r.val = t.val % 1 * 1024 + q.val) :
    iblk m c 1 t (ix2 k q) = weights m c (ix2 k r) := by
  obtain ⟨⟨a0, a1⟩, ⟨b0, b1⟩, e0, e1, -⟩ := idx t
  unfold iblk
  rw [View.read_apply]
  refine (entry_w m c _).trans (congrArg (weights m c) (funext fun a => Fin.ext ?_))
  match a with
  | ⟨0, _⟩ => blk_simp [b0, b1]
  | ⟨1, _⟩ => blk_simp [b0, b1, hr]

theorem out_blk (t : Fin cfg0.N) (p q : Fin 1024) (i : S2048x1024.Idx) (h0 : (i 0).val = t.val / 1 * 1024 + p.val)
    (h1 : (i 1).val = t.val % 1 * 1024 + q.val) : out0_2 (iblk m c 0 t) (iblk m c 1 t) (ix2 p q) = G m c i := by
  rw [out]
  unfold G
  exact Finset.sum_congr rfl fun k _ => congrArg₂ (· * ·) (blk_x m c t p k (i 0) h0) (blk_w m c t k q (i 1) h1)

/-- What a point writes back is its block of the product. -/
theorem flushed (t : Fin cfg0.N) : (dats m 0 c).flushed 2 t = ((cfg0.win 2).blk t).view.read (Elt Ideal) (G m c) := by
  obtain ⟨-, -, e0, e1, -⟩ := idx t
  rw [flushed2]
  funext y
  rw [View.read_apply]
  have h0 : (((cfg0.win 2).blk t).view.emb y 0).val = t.val / 1 * 1024 + (y 0).val := by blk_simp [e0]
  have h1 : (((cfg0.win 2).blk t).view.emb y 1).val = t.val % 1 * 1024 + (y 1).val := by blk_simp [e1]
  exact (congrArg (out0_2 (iblk m c 0 t) (iblk m c 1 t)) (funext fun a => Fin.ext (by
    match a with
    | ⟨0, _⟩ => rfl
    | ⟨1, _⟩ => rfl))).trans (out_blk m c t ⟨(y 0).val, (y 0).isLt⟩ ⟨(y 1).val, (y 1).isLt⟩ _ h0 h1)

/-- Every entry is in the block of a point. -/
theorem covered (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  obtain ⟨t, ht⟩ : ∃ t : Fin cfg0.N, t.val = (i 0).val / 1024 * 1 + (i 1).val / 1024 :=
    ⟨⟨_, lt_of_lt_of_eq (by omega : (i 0).val / 1024 * 1 + (i 1).val / 1024 < 2) N_0.symm⟩, rfl⟩
  obtain ⟨-, -, e0, e1, hf⟩ := idx t
  refine ⟨t, hf, ?_⟩
  show i ∈ ((View.whole main_v3).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- After the run the output array is the product. -/
theorem final : (dats m 0 c).arrAt 2 cfg0.N = G m c :=
  (dats m 0 c).arrAt_eq_of_cover 2 _ (fun t _ => flushed m c t) (fun i => covered i)

end Cert.Kernel5Ideal.Blocks

namespace Cert.Proof.Mat5

open Idealize.ShloMosaic Idealize.ShloMosaic.TcCoe Idealize.SL.Sem Cert.Kernel5Ideal Cert.Reference5Ideal.Read

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's product is the kernel's. -/
theorem reference_eq (m : (ℓ : Loc nD τ sig) → Buf (Elt Ideal) ℓ) (c : Dev nD) (i : S2048x1024.Idx) :
    val_main_v2 (F := Ideal) (m ((c : Thread nD τ).loc main_arg0)) (m ((c : Thread nD τ).loc main_arg1)) i = Blocks.G m c i := by
  rw [val_main_v2_apply, val_main_v1_apply]
  show val_main_v0 (F := Ideal) _ _ _ = _
  rw [val_main_v0_apply]
  have h0 : (i 0).val < 2048 := (i 0).isLt
  have h1 : (i 1).val < 1024 := (i 1).isLt
  refine Finset.sum_congr rfl fun k _ => congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show ((i 0).val * 1024 + (i 1).val) / 262144 = (i 0).val / 256; omega
    | ⟨1, _⟩ => show ((i 0).val * 1024 + (i 1).val) / 1024 % 256 = (i 0).val % 256; omega
    | ⟨2, _⟩ => rfl
  · match a with
    | ⟨0, _⟩ => rfl
    | ⟨1, _⟩ => show ((i 0).val * 1024 + (i 1).val) % 1024 = (i 1).val; omega

/-- Kernel and reference leave the same product. -/
theorem algebraic : Cert.algebraic_Kernel5Ideal_Reference5Ideal := by
  intro m ρ m' ρ' _ hagree
  refine ⟨fun c => Blocks.G m c, (θ_run Cert.Kernel5Ideal.defs _ _).mono (fun _ h c => ⟨(h c).1.trans (Blocks.final m c), (h c).2⟩)
    (Cert.Kernel5Ideal.Value.run_blocks (F := Ideal) m ρ), ?_⟩
  refine (θ_run Cert.Reference5Ideal.defs _ _).mono (fun _ h c => ⟨(h c).1.trans ?_, (h c).2⟩) (Cert.Reference5Ideal.Value.run (F := Ideal) m' ρ')
  rw [(hagree c).1, (hagree c).2]
  exact (val_main_v2_eq _ _).trans (funext fun i => reference_eq m c i)

end Cert.Proof.Mat5

end
-- ==== Proof.Norm.lean ====
/- The layer norm of one row, and sums over rows laid end to end. -/
module

public import Idealize.ShloMosaic.Lib.Pipeline.ValueKit
public import Idealize.ShloMosaic.Lib.Pointwise

@[expose] public section

noncomputable section

namespace Cert.Norm

open Idealize.ShloMosaic

/-- The mean of a row of 2048 entries. -/
def mean (r : Fin 2048 → EReal) : EReal :=
  Ideal.div (∑ k : Fin 2048, r k) (Ideal.ofBits .f32 0x45000000#32)

/-- One entry of the layer norm of a row. -/
def layer (r g b : Fin 2048 → EReal) (j : Fin 2048) : EReal :=
  (r j - mean r) * Ideal.rsqrt (mean (fun k => (r k - mean r) * (r k - mean r)) + Ideal.ofBits .f32 0x3727C5AC#32) * g j + b j

/-- A sum over two stretches laid end to end. -/
theorem sum_append {a b n : ℕ} (h : n = a + b) (f : Fin n → EReal) :
    ∑ k, f k = (∑ k : Fin a, f ⟨k.val, by omega⟩) + ∑ k : Fin b, f ⟨a + k.val, by omega⟩ := by
  subst h
  exact Fin.sum_univ_add f

end Cert.Norm

end
-- ==== Proof.Wo6.lean ====
/- Program 6: the output projection of a dilated layer with its residual and layer norm. -/
module

public import proofs.«01_k».proof.Defs
public import proofs.«01_k».proof.Proof.Norm
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Adequacy
public import Idealize.ShloMosaic.Lib.Pipeline.ValueKit
public import Idealize.ShloMosaic.Lib.Pointwise

@[expose] public section

set_option maxRecDepth 16384

noncomputable section

namespace Cert.Kernel6Ideal.Blocks

open Idealize.ShloMosaic Idealize.ShloMosaic.TcCoe Idealize.SL.Sem Cert.Kernel6Ideal Cert.Kernel6Ideal.Gen Cert.Kernel6Ideal.Value

/-- A row of 2048 entries laid out as one row of a matrix. -/
theorem reshaped (y : S2048.Idx → EReal) (h : S2048.ShapeCasts S1x2048) (q : Fin 2048) : shapeCast S1x2048 y h (ix2 0 q) = y (ix1 q) := by
  pointwise []

/-- The normed block, from the block of rows. -/
theorem pay1 (r : FVec Ideal S512x2048 .f32) (g b : FVec Ideal S1x2048 .f32) (p : Fin 512) (q : Fin 2048) :
    k0_pay1 r g b (ix2 p q) = Norm.layer (fun k => r (ix2 p k)) (fun k => g (ix2 0 k)) (fun k => b (ix2 0 k)) q := by
  pointwise [k0_pay1]
  rfl

theorem pay2 (r : FVec Ideal S512x2048 .f32) (g b : FVec Ideal S1x2048 .f32) (p : Fin 512) (q : Fin 2048) :
    k0_pay2 r g b (ix2 p q) = k0_pay1 r g b (ix2 p q) := by
  unfold k0_pay2
  rfl

/-- The block of rows: the scaled input rows and the products. -/
theorem pay3 (x0 : Vec Ideal S512x512 .bf16) (w0 : Vec Ideal S512x2048 .bf16) (x1 : Vec Ideal S512x512 .bf16) (w1 : Vec Ideal S512x2048 .bf16) (x2 : Vec Ideal S512x512 .bf16) (w2 : Vec Ideal S512x2048 .bf16) (x3 : Vec Ideal S512x512 .bf16) (w3 : Vec Ideal S512x2048 .bf16)
    (x : Vec Ideal S512x2048 .f32) (p : Fin 512) (q : Fin 2048) :
    k0_pay3 x0 w0 x1 w1 x2 w2 x3 w3 x (ix2 p q) = Ideal.ofBits .f32 0x3FD744FD#32 * x (ix2 p q)
      + ((((∑ k : Fin 512, x0 (ix2 p k) * w0 (ix2 k q))
        + (∑ k : Fin 512, x1 (ix2 p k) * w1 (ix2 k q)))
        + (∑ k : Fin 512, x2 (ix2 p k) * w2 (ix2 k q)))
        + (∑ k : Fin 512, x3 (ix2 p k) * w3 (ix2 k q))) := by
  pointwise [k0_pay3]

theorem pay4 (g : Vec Ideal S1x2048 .f32) (q : Fin 2048) : k0_pay4 g (ix2 0 q) = g (ix2 0 q) := by
  pointwise [k0_pay4]

theorem pay5 (b : Vec Ideal S1x2048 .f32) (q : Fin 2048) : k0_pay5 b (ix2 0 q) = b (ix2 0 q) := by
  pointwise [k0_pay5]

theorem piece0 (w : Vec Ideal S2048x2048 .bf16) (k : Fin 512) (q : Fin 2048) :
    View.ld w r0_1 (ix2 k q) = w (ix2 ⟨0 + k.val, by omega⟩ q) := by
  refine congrArg w (funext fun a => Fin.ext ?_)
  match a with
  | ⟨0, _⟩ => exact Rect.idx_unit_val _ _ _ _ _
  | ⟨1, _⟩ => exact (Rect.idx_unit_val _ _ _ _ _).trans (Nat.zero_add _)

theorem piece1 (w : Vec Ideal S2048x2048 .bf16) (k : Fin 512) (q : Fin 2048) :
    View.ld w r0_2 (ix2 k q) = w (ix2 ⟨512 + k.val, by omega⟩ q) := by
  refine congrArg w (funext fun a => Fin.ext ?_)
  match a with
  | ⟨0, _⟩ => exact Rect.idx_unit_val _ _ _ _ _
  | ⟨1, _⟩ => exact (Rect.idx_unit_val _ _ _ _ _).trans (Nat.zero_add _)

theorem piece2 (w : Vec Ideal S2048x2048 .bf16) (k : Fin 512) (q : Fin 2048) :
    View.ld w r0_3 (ix2 k q) = w (ix2 ⟨1024 + k.val, by omega⟩ q) := by
  refine congrArg w (funext fun a => Fin.ext ?_)
  match a with
  | ⟨0, _⟩ => exact Rect.idx_unit_val _ _ _ _ _
  | ⟨1, _⟩ => exact (Rect.idx_unit_val _ _ _ _ _).trans (Nat.zero_add _)

theorem piece3 (w : Vec Ideal S2048x2048 .bf16) (k : Fin 512) (q : Fin 2048) :
    View.ld w r0_4 (ix2 k q) = w (ix2 ⟨1536 + k.val, by omega⟩ q) := by
  refine congrArg w (funext fun a => Fin.ext ?_)
  match a with
  | ⟨0, _⟩ => exact Rect.idx_unit_val _ _ _ _ _
  | ⟨1, _⟩ => exact (Rect.idx_unit_val _ _ _ _ _).trans (Nat.zero_add _)

/-- An entry of a block of rows before the norm. -/
def row (x0 : Vec Ideal S512x512 .bf16) (x1 : Vec Ideal S512x512 .bf16) (x2 : Vec Ideal S512x512 .bf16) (x3 : Vec Ideal S512x512 .bf16) (w : Vec Ideal S2048x2048 .bf16)
    (x : Vec Ideal S512x2048 .f32) (p : Fin 512) (q : Fin 2048) : EReal :=
  Ideal.ofBits .f32 0x3FD744FD#32 * x (ix2 p q) + ((((∑ k : Fin 512, x0 (ix2 p k) * w (ix2 ⟨0 + k.val, by omega⟩ q))
    + (∑ k : Fin 512, x1 (ix2 p k) * w (ix2 ⟨512 + k.val, by omega⟩ q)))
    + (∑ k : Fin 512, x2 (ix2 p k) * w (ix2 ⟨1024 + k.val, by omega⟩ q)))
    + (∑ k : Fin 512, x3 (ix2 p k) * w (ix2 ⟨1536 + k.val, by omega⟩ q)))

theorem rows_eq (x0 : Vec Ideal S512x512 .bf16) (x1 : Vec Ideal S512x512 .bf16) (x2 : Vec Ideal S512x512 .bf16) (x3 : Vec Ideal S512x512 .bf16) (w : Vec Ideal S2048x2048 .bf16)
    (x : Vec Ideal S512x2048 .f32) (g b : Vec Ideal S1x2048 .f32) (p : Fin 512) (q : Fin 2048) :
    k0_pay6 x0 x1 x2 x3 w x g b (ix2 p q) = row x0 x1 x2 x3 w x p q := by
  unfold k0_pay6 row
  rw [pay3]
  skip
  have e0 : ∀ (y : Vec Ideal S512x512 .bf16) (k : Fin 512), View.ld y r0_0 (ix2 p k) = y (ix2 p k) := fun y k => by
    rw [View.ld_unit_lit _ _ (by decide)]
  have ex : View.ld x r0_5 (ix2 p q) = x (ix2 p q) := by rw [View.ld_unit_lit _ _ (by decide)]
  refine congrArg₂ (· + ·) (congrArg (_ * ·) ex) ?_
  exact (congrArg₂ (· + ·) (congrArg₂ (· + ·) (congrArg₂ (· + ·) (Finset.sum_congr rfl fun k _ => congrArg₂ (· * ·) (e0 x0 k) (piece0 w k q))
    (Finset.sum_congr rfl fun k _ => congrArg₂ (· * ·) (e0 x1 k) (piece1 w k q)))
    (Finset.sum_congr rfl fun k _ => congrArg₂ (· * ·) (e0 x2 k) (piece2 w k q)))
    (Finset.sum_congr rfl fun k _ => congrArg₂ (· * ·) (e0 x3 k) (piece3 w k q)))

/-- A block of the result: the layer norm of its rows. -/
theorem out (x0 : Vec Ideal S512x512 .bf16) (x1 : Vec Ideal S512x512 .bf16) (x2 : Vec Ideal S512x512 .bf16) (x3 : Vec Ideal S512x512 .bf16) (w : Vec Ideal S2048x2048 .bf16)
    (x : Vec Ideal S512x2048 .f32) (g b : Vec Ideal S1x2048 .f32) (p : Fin 512) (q : Fin 2048) :
    out0_8 x0 x1 x2 x3 w x g b (ix2 p q) = Norm.layer (row x0 x1 x2 x3 w x p) (fun k => g (ix2 0 k)) (fun k => b (ix2 0 k)) q := by
  have eg : ∀ k : Fin 2048, k0_pay7 x0 x1 x2 x3 w x g b (ix2 0 k) = g (ix2 0 k) := fun k => by
    unfold k0_pay7
    rw [pay4, View.ld_unit_lit _ _ (by decide)]
  have eb : ∀ k : Fin 2048, k0_pay8 x0 x1 x2 x3 w x g b (ix2 0 k) = b (ix2 0 k) := fun k => by
    unfold k0_pay8
    rw [pay5, View.ld_unit_lit _ _ (by decide)]
  unfold out0_8
  rw [View.canon_cons_unit_lit _ _ _ (by decide), pay1]
  simp only [rows_eq, eg, eb]

/-- The narrow copy of a block holds the same values. -/
theorem out_narrow (x0 : Vec Ideal S512x512 .bf16) (x1 : Vec Ideal S512x512 .bf16) (x2 : Vec Ideal S512x512 .bf16) (x3 : Vec Ideal S512x512 .bf16) (w : Vec Ideal S2048x2048 .bf16)
    (x : Vec Ideal S512x2048 .f32) (g b : Vec Ideal S1x2048 .f32) (p : Fin 512) (q : Fin 2048) :
    out0_9 x0 x1 x2 x3 w x g b (ix2 p q) = out0_8 x0 x1 x2 x3 w x g b (ix2 p q) := by
  unfold out0_8 out0_9
  rw [View.canon_cons_unit_lit _ _ _ (by decide), View.canon_cons_unit_lit _ _ _ (by decide), pay2]

variable (m : (ℓ : Loc nD τ sig) → Buf (Elt Ideal) ℓ) (c : Dev nD)

abbrev part0 (i : S32768x512.Idx) : EReal := m ((c : Thread nD τ).loc main_arg0) i
abbrev part1 (i : S32768x512.Idx) : EReal := m ((c : Thread nD τ).loc main_arg1) i
abbrev part2 (i : S32768x512.Idx) : EReal := m ((c : Thread nD τ).loc main_arg2) i
abbrev part3 (i : S32768x512.Idx) : EReal := m ((c : Thread nD τ).loc main_arg3) i
abbrev weights (i : S2048x2048.Idx) : EReal := m ((c : Thread nD τ).loc main_arg4) i
abbrev input (i : S32768x2048.Idx) : EReal := m ((c : Thread nD τ).loc main_arg5) i
abbrev gain (i : S2048.Idx) : EReal := m ((c : Thread nD τ).loc main_arg6) i
abbrev bias (i : S2048.Idx) : EReal := m ((c : Thread nD τ).loc main_arg7) i

theorem entry_0 (i : S32768x512.Idx) : V m c main_v0 i = part0 m c i := by
  entry_read
  rfl

theorem entry_1 (i : S32768x512.Idx) : V m c main_v1 i = part1 m c i := by
  entry_read
  rfl

theorem entry_2 (i : S32768x512.Idx) : V m c main_v2 i = part2 m c i := by
  entry_read
  rfl

theorem entry_3 (i : S32768x512.Idx) : V m c main_v3 i = part3 m c i := by
  entry_read
  rfl

theorem entry_4 (i : S2048x2048.Idx) : V m c main_v4 i = weights m c i := by
  entry_read
  rfl

theorem entry_x (i : S32768x2048.Idx) : V m c main_arg5 i = input m c i := by
  rw [V_main_arg5]

theorem entry_6 (q : Fin 2048) : V m c main_v5 (ix2 0 q) = gain m c (ix1 q) := by
  entry_read
  exact reshaped (m ((c : Thread nD τ).loc main_arg6)) shapeCasts_S2048_S1x2048 q

theorem entry_7 (q : Fin 2048) : V m c main_v6 (ix2 0 q) = bias m c (ix1 q) := by
  entry_read
  exact reshaped (m ((c : Thread nD τ).loc main_arg7)) shapeCasts_S2048_S1x2048 q

/-- The block index of each window at a grid point. -/
theorem idx : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = 0 ∧ win0_4.index t 1 = 0) ∧ (win0_5.index t 0 = t.val ∧ win0_5.index t 1 = 0) ∧ (win0_6.index t 0 = 0 ∧ win0_6.index t 1 = 0) ∧ (win0_7.index t 0 = 0 ∧ win0_7.index t 1 = 0) ∧ (win0_8.index t 0 = t.val ∧ win0_8.index t 1 = 0) ∧ (win0_9.index t 0 = t.val ∧ win0_9.index t 1 = 0)
    ∧ (cfg0.win 8).flush t = true ∧ (cfg0.win 9).flush t = true :=
  (by decide +kernel : ∀ t : Fin grid0.N, _)

theorem blk0 (t : Fin cfg0.N) (p : Fin 512) (k : Fin 512) (r : Fin 32768) (hr : r.val = t.val * 512 + p.val) :
    iblk m c 0 t (ix2 p k) = part0 m c (ix2 r k) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  unfold iblk
  rw [View.read_apply]
  refine (entry_0 m c _).trans (congrArg (part0 m c) (funext fun a => Fin.ext ?_))
  match a with
  | ⟨0, _⟩ => blk_simp [a0, b0, hr]
  | ⟨1, _⟩ => blk_simp [a0, b0]

theorem blk1 (t : Fin cfg0.N) (p : Fin 512) (k : Fin 512) (r : Fin 32768) (hr : r.val = t.val * 512 + p.val) :
    iblk m c 1 t (ix2 p k) = part1 m c (ix2 r k) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  unfold iblk
  rw [View.read_apply]
  refine (entry_1 m c _).trans (congrArg (part1 m c) (funext fun a => Fin.ext ?_))
  match a with
  | ⟨0, _⟩ => blk_simp [a1, b1, hr]
  | ⟨1, _⟩ => blk_simp [a1, b1]

theorem blk2 (t : Fin cfg0.N) (p : Fin 512) (k : Fin 512) (r : Fin 32768) (hr : r.val = t.val * 512 + p.val) :
    iblk m c 2 t (ix2 p k) = part2 m c (ix2 r k) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  unfold iblk
  rw [View.read_apply]
  refine (entry_2 m c _).trans (congrArg (part2 m c) (funext fun a => Fin.ext ?_))
  match a with
  | ⟨0, _⟩ => blk_simp [a2, b2, hr]
  | ⟨1, _⟩ => blk_simp [a2, b2]

theorem blk3 (t : Fin cfg0.N) (p : Fin 512) (k : Fin 512) (r : Fin 32768) (hr : r.val = t.val * 512 + p.val) :
    iblk m c 3 t (ix2 p k) = part3 m c (ix2 r k) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  unfold iblk
  rw [View.read_apply]
  refine (entry_3 m c _).trans (congrArg (part3 m c) (funext fun a => Fin.ext ?_))
  match a with
  | ⟨0, _⟩ => blk_simp [a3, b3, hr]
  | ⟨1, _⟩ => blk_simp [a3, b3]

theorem blk5 (t : Fin cfg0.N) (p : Fin 512) (k : Fin 2048) (r : Fin 32768) (hr : r.val = t.val * 512 + p.val) :
    iblk m c 5 t (ix2 p k) = input m c (ix2 r k) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  unfold iblk
  rw [View.read_apply]
  refine (entry_x m c _).trans (congrArg (input m c) (funext fun a => Fin.ext ?_))
  match a with
  | ⟨0, _⟩ => blk_simp [a5, b5, hr]
  | ⟨1, _⟩ => blk_simp [a5, b5]

theorem blk4 (t : Fin cfg0.N) (k q : Fin 2048) : iblk m c 4 t (ix2 k q) = weights m c (ix2 k q) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  unfold iblk
  rw [View.read_apply]
  refine (entry_4 m c _).trans (congrArg (weights m c) (funext fun a => Fin.ext ?_))
  match a with
  | ⟨0, _⟩ => blk_simp [a4, b4]
  | ⟨1, _⟩ => blk_simp [a4, b4]

theorem blk6 (t : Fin cfg0.N) (q : Fin 2048) : iblk m c 6 t (ix2 0 q) = gain m c (ix1 q) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  unfold iblk
  rw [View.read_apply]
  refine Eq.trans (congrArg (V m c main_v5) (funext fun a => Fin.ext ?_)) (entry_6 m c q)
  match a with
  | ⟨0, _⟩ => blk_simp [a6, b6]
  | ⟨1, _⟩ => blk_simp [a6, b6]

theorem blk7 (t : Fin cfg0.N) (q : Fin 2048) : iblk m c 7 t (ix2 0 q) = bias m c (ix1 q) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  unfold iblk
  rw [View.read_apply]
  refine Eq.trans (congrArg (V m c main_v6) (funext fun a => Fin.ext ?_)) (entry_7 m c q)
  match a with
  | ⟨0, _⟩ => blk_simp [a7, b7]
  | ⟨1, _⟩ => blk_simp [a7, b7]

/-- An entry of a row before the norm: the scaled input and the projected pieces. -/
def pre (r : Fin 32768) (q : Fin 2048) : EReal :=
  Ideal.ofBits .f32 0x3FD744FD#32 * input m c (ix2 r q) + ((((∑ k : Fin 512, part0 m c (ix2 r k) * weights m c (ix2 ⟨0 + k.val, by omega⟩ q))
    + (∑ k : Fin 512, part1 m c (ix2 r k) * weights m c (ix2 ⟨512 + k.val, by omega⟩ q)))
    + (∑ k : Fin 512, part2 m c (ix2 r k) * weights m c (ix2 ⟨1024 + k.val, by omega⟩ q)))
    + (∑ k : Fin 512, part3 m c (ix2 r k) * weights m c (ix2 ⟨1536 + k.val, by omega⟩ q)))

/-- The result: the layer norm of every row. -/
def G (i : S32768x2048.Idx) : EReal :=
  Norm.layer (pre m c (i 0)) (fun k => gain m c (ix1 k)) (fun k => bias m c (ix1 k)) (i 1)

abbrev blks (t : Fin cfg0.N) : Fin 512 → Fin 2048 → EReal :=
  row (iblk m c 0 t) (iblk m c 1 t) (iblk m c 2 t) (iblk m c 3 t) (iblk m c 4 t) (iblk m c 5 t)

theorem row_blk (t : Fin cfg0.N) (p : Fin 512) (q : Fin 2048) (r : Fin 32768) (hr : r.val = t.val * 512 + p.val) :
    blks m c t p q = pre m c r q := by
  unfold blks row pre
  refine congrArg₂ (· + ·) (congrArg (_ * ·) (blk5 m c t p q r hr)) ?_
  exact (congrArg₂ (· + ·) (congrArg₂ (· + ·) (congrArg₂ (· + ·) (Finset.sum_congr rfl fun k _ => congrArg₂ (· * ·) (blk0 m c t p k r hr) (blk4 m c t ⟨0 + k.val, by omega⟩ q))
    (Finset.sum_congr rfl fun k _ => congrArg₂ (· * ·) (blk1 m c t p k r hr) (blk4 m c t ⟨512 + k.val, by omega⟩ q)))
    (Finset.sum_congr rfl fun k _ => congrArg₂ (· * ·) (blk2 m c t p k r hr) (blk4 m c t ⟨1024 + k.val, by omega⟩ q)))
    (Finset.sum_congr rfl fun k _ => congrArg₂ (· * ·) (blk3 m c t p k r hr) (blk4 m c t ⟨1536 + k.val, by omega⟩ q)))

theorem out_blk (t : Fin cfg0.N) (p : Fin 512) (q : Fin 2048) (i : S32768x2048.Idx) (h0 : (i 0).val = t.val * 512 + p.val)
    (h1 : (i 1).val = q.val) : out0_8 (iblk m c 0 t) (iblk m c 1 t) (iblk m c 2 t) (iblk m c 3 t) (iblk m c 4 t) (iblk m c 5 t) (iblk m c 6 t) (iblk m c 7 t) (ix2 p q) = G m c i := by
  rw [out]
  unfold G
  rw [show i 1 = q from Fin.ext h1]
  exact congrFun (congrFun (congrFun (congrArg Norm.layer (funext fun k => row_blk m c t p k (i 0) h0)) _ |>.trans
    (congrArg _ (funext fun k => blk6 m c t k))) _ |>.trans (congrArg _ (funext fun k => blk7 m c t k))) q

theorem narrow_blk (t : Fin cfg0.N) (p : Fin 512) (q : Fin 2048) (i : S32768x2048.Idx) (h0 : (i 0).val = t.val * 512 + p.val)
    (h1 : (i 1).val = q.val) : out0_9 (iblk m c 0 t) (iblk m c 1 t) (iblk m c 2 t) (iblk m c 3 t) (iblk m c 4 t) (iblk m c 5 t) (iblk m c 6 t) (iblk m c 7 t) (ix2 p q) = G m c i :=
  (out_narrow (iblk m c 0 t) (iblk m c 1 t) (iblk m c 2 t) (iblk m c 3 t) (iblk m c 4 t) (iblk m c 5 t) (iblk m c 6 t) (iblk m c 7 t) p q).trans (out_blk m c t p q i h0 h1)

/-- What a point writes back is its block of the result. -/
theorem written8 (t : Fin cfg0.N) : (dats m 0 c).flushed 8 t = ((cfg0.win 8).blk t).view.read (Elt Ideal) (G m c) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  rw [flushed8]
  funext y
  rw [View.read_apply]
  have h0 : (((cfg0.win 8).blk t).view.emb y 0).val = t.val * 512 + (y 0).val := by blk_simp [a8]
  have h1 : (((cfg0.win 8).blk t).view.emb y 1).val = (y 1).val := by blk_simp [b8]
  exact (congrArg (out0_8 (iblk m c 0 t) (iblk m c 1 t) (iblk m c 2 t) (iblk m c 3 t) (iblk m c 4 t) (iblk m c 5 t) (iblk m c 6 t) (iblk m c 7 t)) (funext fun a => Fin.ext (by
    match a with
    | ⟨0, _⟩ => rfl
    | ⟨1, _⟩ => rfl))).trans (out_blk m c t ⟨(y 0).val, (y 0).isLt⟩ ⟨(y 1).val, (y 1).isLt⟩ _ h0 h1)

theorem covered8 (i : S32768x2048.Idx) : ∃ t : Fin cfg0.N, (cfg0.win 8).flush t = true ∧ i ∈ ((cfg0.win 8).blk t).view.set := by
  have h0 : (i 0).val < 32768 := (i 0).isLt
  have h1 : (i 1).val < 2048 := (i 1).isLt
  obtain ⟨t, ht⟩ : ∃ t : Fin cfg0.N, t.val = (i 0).val / 512 :=
    ⟨⟨_, lt_of_lt_of_eq (by omega : (i 0).val / 512 < 64) N_0.symm⟩, rfl⟩
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  refine ⟨t, f1, ?_⟩
  show i ∈ ((View.whole main_v7_0).slice (win0_8.rect t)).set
  rw [View.set_slice_whole, Rect.mem_set_unit]
  intro a
  match a with
  | ⟨0, _⟩ => show win0_8.index t 0 * 512 ≤ (i 0).val ∧ (i 0).val < win0_8.index t 0 * 512 + 512; omega
  | ⟨1, _⟩ => show win0_8.index t 1 * 2048 ≤ (i 1).val ∧ (i 1).val < win0_8.index t 1 * 2048 + 2048; omega

theorem final : (dats m 0 c).arrAt 8 cfg0.N = G m c :=
  (dats m 0 c).arrAt_eq_of_cover 8 _ (fun t _ => written8 m c t) (fun i => covered8 i)

/-- What a point writes back is its block of the result. -/
theorem written9 (t : Fin cfg0.N) : (dats m 0 c).flushed 9 t = ((cfg0.win 9).blk t).view.read (Elt Ideal) (G m c) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  rw [flushed9]
  funext y
  rw [View.read_apply]
  have h0 : (((cfg0.win 9).blk t).view.emb y 0).val = t.val * 512 + (y 0).val := by blk_simp [a9]
  have h1 : (((cfg0.win 9).blk t).view.emb y 1).val = (y 1).val := by blk_simp [b9]
  exact (congrArg (out0_9 (iblk m c 0 t) (iblk m c 1 t) (iblk m c 2 t) (iblk m c 3 t) (iblk m c 4 t) (iblk m c 5 t) (iblk m c 6 t) (iblk m c 7 t)) (funext fun a => Fin.ext (by
    match a with
    | ⟨0, _⟩ => rfl
    | ⟨1, _⟩ => rfl))).trans (narrow_blk m c t ⟨(y 0).val, (y 0).isLt⟩ ⟨(y 1).val, (y 1).isLt⟩ _ h0 h1)

theorem covered9 (i : S32768x2048.Idx) : ∃ t : Fin cfg0.N, (cfg0.win 9).flush t = true ∧ i ∈ ((cfg0.win 9).blk t).view.set := by
  have h0 : (i 0).val < 32768 := (i 0).isLt
  have h1 : (i 1).val < 2048 := (i 1).isLt
  obtain ⟨t, ht⟩ : ∃ t : Fin cfg0.N, t.val = (i 0).val / 512 :=
    ⟨⟨_, lt_of_lt_of_eq (by omega : (i 0).val / 512 < 64) N_0.symm⟩, rfl⟩
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, f1, f2⟩ := idx t
  refine ⟨t, f2, ?_⟩
  show i ∈ ((View.whole main_v7_1).slice (win0_9.rect t)).set
  rw [View.set_slice_whole, Rect.mem_set_unit]
  intro a
  match a with
  | ⟨0, _⟩ => show win0_9.index t 0 * 512 ≤ (i 0).val ∧ (i 0).val < win0_9.index t 0 * 512 + 512; omega
  | ⟨1, _⟩ => show win0_9.index t 1 * 2048 ≤ (i 1).val ∧ (i 1).val < win0_9.index t 1 * 2048 + 2048; omega

theorem final_narrow : (dats m 0 c).arrAt 9 cfg0.N = G m c :=
  (dats m 0 c).arrAt_eq_of_cover 9 _ (fun t _ => written9 m c t) (fun i => covered9 i)

end Cert.Kernel6Ideal.Blocks

namespace Cert.Proof.Wo6

open Idealize.ShloMosaic Idealize.ShloMosaic.TcCoe Idealize.SL.Sem Cert.Kernel6Ideal Cert.Reference6Ideal.Read

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

variable (m : (ℓ : Loc nD τ sig) → Buf (Elt Ideal) ℓ) (c : Dev nD)

/-- The reference's projection of the joined pieces, cut at the joins. -/
theorem mix_eq (r : Fin 32768) (q : Fin 2048) :
    val_main_v1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q)
      = ((((∑ k : Fin 512, Blocks.part0 m c (ix2 r k) * Blocks.weights m c (ix2 ⟨0 + k.val, by omega⟩ q))
    + (∑ k : Fin 512, Blocks.part1 m c (ix2 r k) * Blocks.weights m c (ix2 ⟨512 + k.val, by omega⟩ q)))
    + (∑ k : Fin 512, Blocks.part2 m c (ix2 r k) * Blocks.weights m c (ix2 ⟨1024 + k.val, by omega⟩ q)))
    + (∑ k : Fin 512, Blocks.part3 m c (ix2 r k) * Blocks.weights m c (ix2 ⟨1536 + k.val, by omega⟩ q))) := by
  rw [val_main_v1_apply]
  pointwise [val_main_v0]
  refine (Norm.sum_append (a := 1536) (b := 512) rfl _).trans ?_
  rw [Norm.sum_append (a := 1024) (b := 512) (n := 1536) rfl]
  rw [Norm.sum_append (a := 512) (b := 512) (n := 1024) rfl]
  exact (congrArg₂ (· + ·) (congrArg₂ (· + ·) (congrArg₂ (· + ·) (Finset.sum_congr rfl fun k _ => congrArg₂ (· * ·) (by
      refine (dif_pos (show k.val < 512 by omega)).trans ?_
      refine congrArg (m ((c : Thread nD τ).loc main_arg0)) (funext fun a => Fin.ext ?_)
      match a with
      | ⟨0, _⟩ => rfl
      | ⟨1, _⟩ => show k.val = k.val; omega) (congrArg (m ((c : Thread nD τ).loc main_arg4)) (funext fun a => Fin.ext (by
        match a with
        | ⟨0, _⟩ => rfl
        | ⟨1, _⟩ => rfl))))
    (Finset.sum_congr rfl fun k _ => congrArg₂ (· * ·) (by
      refine (dif_neg (show ¬ 512 + k.val < 512 by omega)).trans ?_
      refine (dif_pos (show 512 + k.val - 512 < 512 by omega)).trans ?_
      refine congrArg (m ((c : Thread nD τ).loc main_arg1)) (funext fun a => Fin.ext ?_)
      match a with
      | ⟨0, _⟩ => rfl
      | ⟨1, _⟩ => show 512 + k.val - 512 = k.val; omega) (congrArg (m ((c : Thread nD τ).loc main_arg4)) (funext fun a => Fin.ext (by
        match a with
        | ⟨0, _⟩ => rfl
        | ⟨1, _⟩ => rfl)))))
    (Finset.sum_congr rfl fun k _ => congrArg₂ (· * ·) (by
      refine (dif_neg (show ¬ 1024 + k.val < 512 by omega)).trans ?_
      refine (dif_neg (show ¬ 1024 + k.val - 512 < 512 by omega)).trans ?_
      refine (dif_pos (show 1024 + k.val - 512 - 512 < 512 by omega)).trans ?_
      refine congrArg (m ((c : Thread nD τ).loc main_arg2)) (funext fun a => Fin.ext ?_)
      match a with
      | ⟨0, _⟩ => rfl
      | ⟨1, _⟩ => show 1024 + k.val - 512 - 512 = k.val; omega) (congrArg (m ((c : Thread nD τ).loc main_arg4)) (funext fun a => Fin.ext (by
        match a with
        | ⟨0, _⟩ => rfl
        | ⟨1, _⟩ => rfl)))))
    (Finset.sum_congr rfl fun k _ => congrArg₂ (· * ·) (by
      refine (dif_neg (show ¬ 1536 + k.val < 512 by omega)).trans ?_
      refine (dif_neg (show ¬ 1536 + k.val - 512 < 512 by omega)).trans ?_
      refine (dif_neg (show ¬ 1536 + k.val - 512 - 512 < 512 by omega)).trans ?_
      refine congrArg (m ((c : Thread nD τ).loc main_arg3)) (funext fun a => Fin.ext ?_)
      match a with
      | ⟨0, _⟩ => rfl
      | ⟨1, _⟩ => show 1536 + k.val - 512 - 512 - 512 = k.val; omega) (congrArg (m ((c : Thread nD τ).loc main_arg4)) (funext fun a => Fin.ext (by
        match a with
        | ⟨0, _⟩ => rfl
        | ⟨1, _⟩ => rfl)))))

/-- A row of the reference before its norm is the kernel's. -/
theorem pre_eq (r : Fin 32768) (q : Fin 2048) :
    val_main_v4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q) = Blocks.pre m c r q := by
  rw [val_main_v4_apply, val_main_v3_apply, val_main_v2_apply, mix_eq]
  rfl

theorem mean_eq (r : Fin 32768) :
    val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r 0) = Norm.mean (Blocks.pre m c r) := by
  rw [val_main_v8_apply, val_main_v6_apply, val_main_v5_apply, val_main_v7_apply]
  unfold Norm.mean
  refine congrArg₂ Ideal.div (((congrArg (· + _) Ideal.ofBits_zero_f32).trans (zero_add _)).trans
    (Finset.sum_congr rfl fun k _ => (congrArg _ (funext fun a => Fin.ext ?_)).trans (pre_eq m c r k))) rfl
  match a with
  | ⟨0, _⟩ => rfl
  | ⟨1, _⟩ => rfl

theorem centred_eq (r : Fin 32768) (q : Fin 2048) :
    val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q) = Blocks.pre m c r q - Norm.mean (Blocks.pre m c r) := by
  rw [val_main_v10_apply, val_main_v9_apply, pre_eq]
  refine congrArg (Blocks.pre m c r q - ·) ((congrArg _ (funext fun a => Fin.ext ?_)).trans (mean_eq m c r))
  match a with
  | ⟨0, _⟩ => rfl
  | ⟨1, _⟩ => rfl

theorem variance_eq (r : Fin 32768) :
    val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r 0)
      = Norm.mean (fun k => (Blocks.pre m c r k - Norm.mean (Blocks.pre m c r)) * (Blocks.pre m c r k - Norm.mean (Blocks.pre m c r))) := by
  rw [val_main_v15_apply, val_main_v13_apply, val_main_v12_apply, val_main_v14_apply]
  conv_rhs => unfold Norm.mean
  refine congrArg₂ Ideal.div (((congrArg (· + _) Ideal.ofBits_zero_f32).trans (zero_add _)).trans
    (Finset.sum_congr rfl fun k _ => (congrArg _ (funext fun a => Fin.ext ?_)).trans
      ((val_main_v11_apply _ _ _ _ _ _ (ix2 r k)).trans (congrArg₂ (· * ·) (centred_eq m c r k) (centred_eq m c r k))))) rfl
  match a with
  | ⟨0, _⟩ => rfl
  | ⟨1, _⟩ => rfl

/-- The reference's result is the kernel's. -/
theorem reference_eq (r : Fin 32768) (q : Fin 2048) :
    val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r q) = Blocks.G m c (ix2 r q) := by
  have hp := pre_eq m c r q
  have hm : val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q) = Norm.mean (Blocks.pre m c r) := by
    rw [val_main_v16_apply]
    refine (congrArg _ (funext fun a => Fin.ext ?_)).trans (mean_eq m c r)
    match a with
    | ⟨0, _⟩ => rfl
    | ⟨1, _⟩ => rfl
  have hv : val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q) = Ideal.rsqrt (Norm.mean (fun k => (Blocks.pre m c r k - Norm.mean (Blocks.pre m c r)) * (Blocks.pre m c r k - Norm.mean (Blocks.pre m c r)))
      + Ideal.ofBits .f32 0x3727C5AC#32) := by
    rw [val_main_v21_apply, val_main_v20_apply, val_main_v19_apply, val_main_v18_apply]
    refine congrArg (fun z => Ideal.rsqrt (z + Ideal.ofBits .f32 0x3727C5AC#32)) ((congrArg _ (funext fun a => Fin.ext ?_)).trans (variance_eq m c r))
    match a with
    | ⟨0, _⟩ => rfl
    | ⟨1, _⟩ => rfl
  have hg : val_main_v24 (F := Ideal) (m ((c : Thread nD τ).loc main_arg6)) (ix2 r q) = Blocks.gain m c (ix1 q) := by
    rw [val_main_v24_apply, val_main_v23_apply]
    refine congrArg (m ((c : Thread nD τ).loc main_arg6)) (funext fun a => Fin.ext ?_)
    match a with
    | ⟨0, _⟩ => rfl
  have hb : val_main_v27 (F := Ideal) (m ((c : Thread nD τ).loc main_arg7)) (ix2 r q) = Blocks.bias m c (ix1 q) := by
    rw [val_main_v27_apply, val_main_v26_apply]
    refine congrArg (m ((c : Thread nD τ).loc main_arg7)) (funext fun a => Fin.ext ?_)
    match a with
    | ⟨0, _⟩ => rfl
  rw [val_main_v28_apply, val_main_v25_apply, val_main_v22_apply, val_main_v17_apply, hp, hm, hv, hg, hb]
  rfl

theorem result_eq : val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = Blocks.G m c :=
  funext fun i => (congrArg _ (funext fun a => Fin.ext (by
    match a with
    | ⟨0, _⟩ => rfl
    | ⟨1, _⟩ => rfl))).trans ((reference_eq m c (i 0) (i 1)).trans (congrArg (Blocks.G m c) (funext fun a => Fin.ext (by
      match a with
      | ⟨0, _⟩ => rfl
      | ⟨1, _⟩ => rfl))))

/-- Kernel and reference leave the same two results. -/
theorem algebraic : Cert.algebraic_Kernel6Ideal_Reference6Ideal := by
  intro m ρ m' ρ' _ hagree
  refine ⟨fun c => Blocks.G m c, fun c => Blocks.G m c, (θ_run Cert.Kernel6Ideal.defs _ _).mono
      (fun _ h c => ⟨(h c).1.trans (Blocks.final m c), (h c).2.1.trans (Blocks.final_narrow m c), (h c).2.2⟩)
    (Cert.Kernel6Ideal.Value.run_blocks (F := Ideal) m ρ), ?_⟩
  have key : ∀ c, Cert.Reference6Ideal.Value.res_main_v28 (F := Ideal) m' c = Blocks.G m c := fun c => by
    refine (val_main_v28_eq m' c).trans ?_
    obtain ⟨h0, h1, h2, h3, h4, h5, h6, h7⟩ := hagree c
    rw [h0, h1, h2, h3, h4, h5, h6, h7]
    exact result_eq m c
  have narrow : ∀ c, Cert.Reference6Ideal.Value.res_main_v29 (F := Ideal) m' c = Blocks.G m c := fun c =>
    (val_main_v29_eq m' c).trans (Eq.trans (funext fun i => val_main_v29_apply _ _ _ _ _ _ _ _ i) ((val_main_v28_eq m' c).symm.trans (key c)))
  exact (θ_run Cert.Reference6Ideal.defs _ _).mono (fun _ h c => ⟨(h c).1.trans (key c), (h c).2.1.trans (narrow c), (h c).2.2⟩)
    (Cert.Reference6Ideal.Value.run (F := Ideal) m' ρ')

end Cert.Proof.Wo6

end
-- ==== Proof.Wo7.lean ====
/- Program 7: the output projection of the pooling layer with its residual and layer norm. -/
module

public import proofs.«01_k».proof.Defs
public import proofs.«01_k».proof.Proof.Norm
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Adequacy
public import Idealize.ShloMosaic.Lib.Pipeline.ValueKit
public import Idealize.ShloMosaic.Lib.Pointwise

@[expose] public section

set_option maxRecDepth 16384

noncomputable section

namespace Cert.Kernel7Ideal.Blocks

open Idealize.ShloMosaic Idealize.ShloMosaic.TcCoe Idealize.SL.Sem Cert.Kernel7Ideal Cert.Kernel7Ideal.Gen Cert.Kernel7Ideal.Value

/-- A row of 2048 entries laid out as one row of a matrix. -/
theorem reshaped (y : S2048.Idx → EReal) (h : S2048.ShapeCasts S1x2048) (q : Fin 2048) : shapeCast S1x2048 y h (ix2 0 q) = y (ix1 q) := by
  pointwise []

/-- The normed block, from the blocks of rows and weights. -/
theorem pay1 (x0 : Vec Ideal S512x1536 .bf16) (w0 : Vec Ideal S1536x2048 .bf16) (x1 : Vec Ideal S512x512 .bf16) (w1 : Vec Ideal S512x2048 .bf16)
    (x : Vec Ideal S512x2048 .f32) (g b : Vec Ideal S1x2048 .f32) (p : Fin 512) (q : Fin 2048) :
    k0_pay1 (k0_pay3 b) (k0_pay4 x0 w0 x1 w1 x g) (ix2 p q) = Norm.layer (fun q => Ideal.ofBits .f32 0x3FD744FD#32 * x (ix2 p q)
      + ((∑ k : Fin 1536, x0 (ix2 p k) * w0 (ix2 k q))
        + (∑ k : Fin 512, x1 (ix2 p k) * w1 (ix2 k q)))) (fun k => g (ix2 0 k)) (fun k => b (ix2 0 k)) q := by
  pointwise [k0_pay1, k0_pay3, k0_pay4]
  rfl

theorem pay2 (b : FVec Ideal S1x2048 .f32) (r : FVec Ideal S512x2048 .f32) (p : Fin 512) (q : Fin 2048) :
    k0_pay2 b r (ix2 p q) = k0_pay1 b r (ix2 p q) := by
  unfold k0_pay2
  rfl

theorem piece0 (w : Vec Ideal S2048x2048 .bf16) (k : Fin 1536) (q : Fin 2048) :
    View.ld w r0_1 (ix2 k q) = w (ix2 ⟨0 + k.val, by omega⟩ q) := by
  refine congrArg w (funext fun a => Fin.ext ?_)
  match a with
  | ⟨0, _⟩ => exact Rect.idx_unit_val _ _ _ _ _
  | ⟨1, _⟩ => exact (Rect.idx_unit_val _ _ _ _ _).trans (Nat.zero_add _)

theorem piece1 (w : Vec Ideal S2048x2048 .bf16) (k : Fin 512) (q : Fin 2048) :
    View.ld w r0_3 (ix2 k q) = w (ix2 ⟨1536 + k.val, by omega⟩ q) := by
  refine congrArg w (funext fun a => Fin.ext ?_)
  match a with
  | ⟨0, _⟩ => exact Rect.idx_unit_val _ _ _ _ _
  | ⟨1, _⟩ => exact (Rect.idx_unit_val _ _ _ _ _).trans (Nat.zero_add _)

/-- An entry of a block of rows before the norm. -/
def row (x0 : Vec Ideal S512x1536 .bf16) (x1 : Vec Ideal S512x512 .bf16) (w : Vec Ideal S2048x2048 .bf16)
    (x : Vec Ideal S512x2048 .f32) (p : Fin 512) (q : Fin 2048) : EReal :=
  Ideal.ofBits .f32 0x3FD744FD#32 * x (ix2 p q) + ((∑ k : Fin 1536, x0 (ix2 p k) * w (ix2 ⟨0 + k.val, by omega⟩ q))
    + (∑ k : Fin 512, x1 (ix2 p k) * w (ix2 ⟨1536 + k.val, by omega⟩ q)))

/-- A block of the result: the layer norm of its rows. -/
theorem out (x0 : Vec Ideal S512x1536 .bf16) (x1 : Vec Ideal S512x512 .bf16) (w : Vec Ideal S2048x2048 .bf16)
    (x : Vec Ideal S512x2048 .f32) (g b : Vec Ideal S1x2048 .f32) (p : Fin 512) (q : Fin 2048) :
    out0_6 x0 x1 w x g b (ix2 p q) = Norm.layer (row x0 x1 w x p) (fun k => g (ix2 0 k)) (fun k => b (ix2 0 k)) q := by
  unfold out0_6 k0_pay5 k0_pay6
  rw [View.canon_cons_unit_lit _ _ _ (by decide), pay1]
  have e0 : ∀ k, View.ld x0 r0_0 (ix2 p k) = x0 (ix2 p k) := fun k => by rw [View.ld_unit_lit _ _ (by decide)]
  have e1 : ∀ k, View.ld x1 r0_2 (ix2 p k) = x1 (ix2 p k) := fun k => by rw [View.ld_unit_lit _ _ (by decide)]
  have ex : ∀ k, View.ld x r0_4 (ix2 p k) = x (ix2 p k) := fun k => by rw [View.ld_unit_lit _ _ (by decide)]
  have er : ∀ q, Ideal.ofBits .f32 0x3FD744FD#32 * View.ld x r0_4 (ix2 p q) + ((∑ k : Fin 1536, View.ld x0 r0_0 (ix2 p k) * View.ld w r0_1 (ix2 k q))
      + ∑ k : Fin 512, View.ld x1 r0_2 (ix2 p k) * View.ld w r0_3 (ix2 k q)) = row x0 x1 w x p q := fun q => by
    unfold row
    refine congrArg₂ (· + ·) (congrArg (_ * ·) (ex q)) ?_
    exact (congrArg₂ (· + ·) (Finset.sum_congr rfl fun k _ => congrArg₂ (· * ·) (e0 k) (piece0 w k q))
    (Finset.sum_congr rfl fun k _ => congrArg₂ (· * ·) (e1 k) (piece1 w k q)))
  have ev : ∀ (y : Vec Ideal S1x2048 .f32) k, View.ld y r0_5 (ix2 0 k) = y (ix2 0 k) := fun y k => by rw [View.ld_unit_lit _ _ (by decide)]
  exact congrFun (congrFun (congrFun (congrArg Norm.layer (funext fun k => er k)) _ |>.trans
    (congrArg _ (funext fun k => ev g k))) _ |>.trans (congrArg _ (funext fun k => ev b k))) q

/-- The narrow copy of a block holds the same values. -/
theorem out_narrow (x0 : Vec Ideal S512x1536 .bf16) (x1 : Vec Ideal S512x512 .bf16) (w : Vec Ideal S2048x2048 .bf16)
    (x : Vec Ideal S512x2048 .f32) (g b : Vec Ideal S1x2048 .f32) (p : Fin 512) (q : Fin 2048) :
    out0_7 x0 x1 w x g b (ix2 p q) = out0_6 x0 x1 w x g b (ix2 p q) := by
  unfold out0_6 out0_7
  rw [View.canon_cons_unit_lit _ _ _ (by decide), View.canon_cons_unit_lit _ _ _ (by decide), pay2]

variable (m : (ℓ : Loc nD τ sig) → Buf (Elt Ideal) ℓ) (c : Dev nD)

abbrev part0 (i : S32768x1536.Idx) : EReal := m ((c : Thread nD τ).loc main_arg0) i
abbrev part1 (i : S32768x512.Idx) : EReal := m ((c : Thread nD τ).loc main_arg1) i
abbrev weights (i : S2048x2048.Idx) : EReal := m ((c : Thread nD τ).loc main_arg2) i
abbrev input (i : S32768x2048.Idx) : EReal := m ((c : Thread nD τ).loc main_arg3) i
abbrev gain (i : S2048.Idx) : EReal := m ((c : Thread nD τ).loc main_arg4) i
abbrev bias (i : S2048.Idx) : EReal := m ((c : Thread nD τ).loc main_arg5) i

theorem entry_0 (i : S32768x1536.Idx) : V m c main_v0 i = part0 m c i := by
  entry_read
  rfl

theorem entry_1 (i : S32768x512.Idx) : V m c main_v1 i = part1 m c i := by
  entry_read
  rfl

theorem entry_2 (i : S2048x2048.Idx) : V m c main_v2 i = weights m c i := by
  entry_read
  rfl

theorem entry_x (i : S32768x2048.Idx) : V m c main_arg3 i = input m c i := by
  rw [V_main_arg3]

theorem entry_4 (q : Fin 2048) : V m c main_v3 (ix2 0 q) = gain m c (ix1 q) := by
  entry_read
  exact reshaped (m ((c : Thread nD τ).loc main_arg4)) shapeCasts_S2048_S1x2048 q

theorem entry_5 (q : Fin 2048) : V m c main_v4 (ix2 0 q) = bias m c (ix1 q) := by
  entry_read
  exact reshaped (m ((c : Thread nD τ).loc main_arg5)) shapeCasts_S2048_S1x2048 q

/-- The block index of each window at a grid point. -/
theorem idx : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0) ∧ (win0_4.index t 0 = 0 ∧ win0_4.index t 1 = 0) ∧ (win0_5.index t 0 = 0 ∧ win0_5.index t 1 = 0) ∧ (win0_6.index t 0 = t.val ∧ win0_6.index t 1 = 0) ∧ (win0_7.index t 0 = t.val ∧ win0_7.index t 1 = 0)
    ∧ (cfg0.win 6).flush t = true ∧ (cfg0.win 7).flush t = true :=
  (by decide +kernel : ∀ t : Fin grid0.N, _)

theorem blk0 (t : Fin cfg0.N) (p : Fin 512) (k : Fin 1536) (r : Fin 32768) (hr : r.val = t.val * 512 + p.val) :
    iblk m c 0 t (ix2 p k) = part0 m c (ix2 r k) := by
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  unfold iblk
  rw [View.read_apply]
  refine (entry_0 m c _).trans (congrArg (part0 m c) (funext fun a => Fin.ext ?_))
  match a with
  | ⟨0, _⟩ => blk_simp [a0, b0, hr]
  | ⟨1, _⟩ => blk_simp [a0, b0]

theorem blk1 (t : Fin cfg0.N) (p : Fin 512) (k : Fin 512) (r : Fin 32768) (hr : r.val = t.val * 512 + p.val) :
    iblk m c 1 t (ix2 p k) = part1 m c (ix2 r k) := by
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  unfold iblk
  rw [View.read_apply]
  refine (entry_1 m c _).trans (congrArg (part1 m c) (funext fun a => Fin.ext ?_))
  match a with
  | ⟨0, _⟩ => blk_simp [a1, b1, hr]
  | ⟨1, _⟩ => blk_simp [a1, b1]

theorem blk3 (t : Fin cfg0.N) (p : Fin 512) (k : Fin 2048) (r : Fin 32768) (hr : r.val = t.val * 512 + p.val) :
    iblk m c 3 t (ix2 p k) = input m c (ix2 r k) := by
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  unfold iblk
  rw [View.read_apply]
  refine (entry_x m c _).trans (congrArg (input m c) (funext fun a => Fin.ext ?_))
  match a with
  | ⟨0, _⟩ => blk_simp [a3, b3, hr]
  | ⟨1, _⟩ => blk_simp [a3, b3]

theorem blk2 (t : Fin cfg0.N) (k q : Fin 2048) : iblk m c 2 t (ix2 k q) = weights m c (ix2 k q) := by
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  unfold iblk
  rw [View.read_apply]
  refine (entry_2 m c _).trans (congrArg (weights m c) (funext fun a => Fin.ext ?_))
  match a with
  | ⟨0, _⟩ => blk_simp [a2, b2]
  | ⟨1, _⟩ => blk_simp [a2, b2]

theorem blk4 (t : Fin cfg0.N) (q : Fin 2048) : iblk m c 4 t (ix2 0 q) = gain m c (ix1 q) := by
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  unfold iblk
  rw [View.read_apply]
  refine Eq.trans (congrArg (V m c main_v3) (funext fun a => Fin.ext ?_)) (entry_4 m c q)
  match a with
  | ⟨0, _⟩ => blk_simp [a4, b4]
  | ⟨1, _⟩ => blk_simp [a4, b4]

theorem blk5 (t : Fin cfg0.N) (q : Fin 2048) : iblk m c 5 t (ix2 0 q) = bias m c (ix1 q) := by
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  unfold iblk
  rw [View.read_apply]
  refine Eq.trans (congrArg (V m c main_v4) (funext fun a => Fin.ext ?_)) (entry_5 m c q)
  match a with
  | ⟨0, _⟩ => blk_simp [a5, b5]
  | ⟨1, _⟩ => blk_simp [a5, b5]

/-- An entry of a row before the norm: the scaled input and the projected pieces. -/
def pre (r : Fin 32768) (q : Fin 2048) : EReal :=
  Ideal.ofBits .f32 0x3FD744FD#32 * input m c (ix2 r q) + ((∑ k : Fin 1536, part0 m c (ix2 r k) * weights m c (ix2 ⟨0 + k.val, by omega⟩ q))
    + (∑ k : Fin 512, part1 m c (ix2 r k) * weights m c (ix2 ⟨1536 + k.val, by omega⟩ q)))

/-- The result: the layer norm of every row. -/
def G (i : S32768x2048.Idx) : EReal :=
  Norm.layer (pre m c (i 0)) (fun k => gain m c (ix1 k)) (fun k => bias m c (ix1 k)) (i 1)

abbrev blks (t : Fin cfg0.N) : Fin 512 → Fin 2048 → EReal :=
  row (iblk m c 0 t) (iblk m c 1 t) (iblk m c 2 t) (iblk m c 3 t)

theorem row_blk (t : Fin cfg0.N) (p : Fin 512) (q : Fin 2048) (r : Fin 32768) (hr : r.val = t.val * 512 + p.val) :
    blks m c t p q = pre m c r q := by
  unfold blks row pre
  refine congrArg₂ (· + ·) (congrArg (_ * ·) (blk3 m c t p q r hr)) ?_
  exact (congrArg₂ (· + ·) (Finset.sum_congr rfl fun k _ => congrArg₂ (· * ·) (blk0 m c t p k r hr) (blk2 m c t ⟨0 + k.val, by omega⟩ q))
    (Finset.sum_congr rfl fun k _ => congrArg₂ (· * ·) (blk1 m c t p k r hr) (blk2 m c t ⟨1536 + k.val, by omega⟩ q)))

theorem out_blk (t : Fin cfg0.N) (p : Fin 512) (q : Fin 2048) (i : S32768x2048.Idx) (h0 : (i 0).val = t.val * 512 + p.val)
    (h1 : (i 1).val = q.val) : out0_6 (iblk m c 0 t) (iblk m c 1 t) (iblk m c 2 t) (iblk m c 3 t) (iblk m c 4 t) (iblk m c 5 t) (ix2 p q) = G m c i := by
  rw [out]
  unfold G
  rw [show i 1 = q from Fin.ext h1]
  exact congrFun (congrFun (congrFun (congrArg Norm.layer (funext fun k => row_blk m c t p k (i 0) h0)) _ |>.trans
    (congrArg _ (funext fun k => blk4 m c t k))) _ |>.trans (congrArg _ (funext fun k => blk5 m c t k))) q

theorem narrow_blk (t : Fin cfg0.N) (p : Fin 512) (q : Fin 2048) (i : S32768x2048.Idx) (h0 : (i 0).val = t.val * 512 + p.val)
    (h1 : (i 1).val = q.val) : out0_7 (iblk m c 0 t) (iblk m c 1 t) (iblk m c 2 t) (iblk m c 3 t) (iblk m c 4 t) (iblk m c 5 t) (ix2 p q) = G m c i :=
  (out_narrow (iblk m c 0 t) (iblk m c 1 t) (iblk m c 2 t) (iblk m c 3 t) (iblk m c 4 t) (iblk m c 5 t) p q).trans (out_blk m c t p q i h0 h1)

/-- What a point writes back is its block of the result. -/
theorem written6 (t : Fin cfg0.N) : (dats m 0 c).flushed 6 t = ((cfg0.win 6).blk t).view.read (Elt Ideal) (G m c) := by
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  rw [flushed6]
  funext y
  rw [View.read_apply]
  have h0 : (((cfg0.win 6).blk t).view.emb y 0).val = t.val * 512 + (y 0).val := by blk_simp [a6]
  have h1 : (((cfg0.win 6).blk t).view.emb y 1).val = (y 1).val := by blk_simp [b6]
  exact (congrArg (out0_6 (iblk m c 0 t) (iblk m c 1 t) (iblk m c 2 t) (iblk m c 3 t) (iblk m c 4 t) (iblk m c 5 t)) (funext fun a => Fin.ext (by
    match a with
    | ⟨0, _⟩ => rfl
    | ⟨1, _⟩ => rfl))).trans (out_blk m c t ⟨(y 0).val, (y 0).isLt⟩ ⟨(y 1).val, (y 1).isLt⟩ _ h0 h1)

theorem covered6 (i : S32768x2048.Idx) : ∃ t : Fin cfg0.N, (cfg0.win 6).flush t = true ∧ i ∈ ((cfg0.win 6).blk t).view.set := by
  have h0 : (i 0).val < 32768 := (i 0).isLt
  have h1 : (i 1).val < 2048 := (i 1).isLt
  obtain ⟨t, ht⟩ : ∃ t : Fin cfg0.N, t.val = (i 0).val / 512 :=
    ⟨⟨_, lt_of_lt_of_eq (by omega : (i 0).val / 512 < 64) N_0.symm⟩, rfl⟩
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  refine ⟨t, f1, ?_⟩
  show i ∈ ((View.whole main_v5_0).slice (win0_6.rect t)).set
  rw [View.set_slice_whole, Rect.mem_set_unit]
  intro a
  match a with
  | ⟨0, _⟩ => show win0_6.index t 0 * 512 ≤ (i 0).val ∧ (i 0).val < win0_6.index t 0 * 512 + 512; omega
  | ⟨1, _⟩ => show win0_6.index t 1 * 2048 ≤ (i 1).val ∧ (i 1).val < win0_6.index t 1 * 2048 + 2048; omega

theorem final : (dats m 0 c).arrAt 6 cfg0.N = G m c :=
  (dats m 0 c).arrAt_eq_of_cover 6 _ (fun t _ => written6 m c t) (fun i => covered6 i)

/-- What a point writes back is its block of the result. -/
theorem written7 (t : Fin cfg0.N) : (dats m 0 c).flushed 7 t = ((cfg0.win 7).blk t).view.read (Elt Ideal) (G m c) := by
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  rw [flushed7]
  funext y
  rw [View.read_apply]
  have h0 : (((cfg0.win 7).blk t).view.emb y 0).val = t.val * 512 + (y 0).val := by blk_simp [a7]
  have h1 : (((cfg0.win 7).blk t).view.emb y 1).val = (y 1).val := by blk_simp [b7]
  exact (congrArg (out0_7 (iblk m c 0 t) (iblk m c 1 t) (iblk m c 2 t) (iblk m c 3 t) (iblk m c 4 t) (iblk m c 5 t)) (funext fun a => Fin.ext (by
    match a with
    | ⟨0, _⟩ => rfl
    | ⟨1, _⟩ => rfl))).trans (narrow_blk m c t ⟨(y 0).val, (y 0).isLt⟩ ⟨(y 1).val, (y 1).isLt⟩ _ h0 h1)

theorem covered7 (i : S32768x2048.Idx) : ∃ t : Fin cfg0.N, (cfg0.win 7).flush t = true ∧ i ∈ ((cfg0.win 7).blk t).view.set := by
  have h0 : (i 0).val < 32768 := (i 0).isLt
  have h1 : (i 1).val < 2048 := (i 1).isLt
  obtain ⟨t, ht⟩ : ∃ t : Fin cfg0.N, t.val = (i 0).val / 512 :=
    ⟨⟨_, lt_of_lt_of_eq (by omega : (i 0).val / 512 < 64) N_0.symm⟩, rfl⟩
  obtain ⟨⟨a0, b0⟩, ⟨a1, b1⟩, ⟨a2, b2⟩, ⟨a3, b3⟩, ⟨a4, b4⟩, ⟨a5, b5⟩, ⟨a6, b6⟩, ⟨a7, b7⟩, f1, f2⟩ := idx t
  refine ⟨t, f2, ?_⟩
  show i ∈ ((View.whole main_v5_1).slice (win0_7.rect t)).set
  rw [View.set_slice_whole, Rect.mem_set_unit]
  intro a
  match a with
  | ⟨0, _⟩ => show win0_7.index t 0 * 512 ≤ (i 0).val ∧ (i 0).val < win0_7.index t 0 * 512 + 512; omega
  | ⟨1, _⟩ => show win0_7.index t 1 * 2048 ≤ (i 1).val ∧ (i 1).val < win0_7.index t 1 * 2048 + 2048; omega

theorem final_narrow : (dats m 0 c).arrAt 7 cfg0.N = G m c :=
  (dats m 0 c).arrAt_eq_of_cover 7 _ (fun t _ => written7 m c t) (fun i => covered7 i)

end Cert.Kernel7Ideal.Blocks

namespace Cert.Proof.Wo7

open Idealize.ShloMosaic Idealize.ShloMosaic.TcCoe Idealize.SL.Sem Cert.Kernel7Ideal Cert.Reference7Ideal.Read

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

variable (m : (ℓ : Loc nD τ sig) → Buf (Elt Ideal) ℓ) (c : Dev nD)

/-- The reference's projection of the joined pieces, cut at the joins. -/
theorem mix_eq (r : Fin 32768) (q : Fin 2048) :
    val_main_v1 (F := Ideal) (m ((c : Thread nD τ).loc main_arg0)) (m ((c : Thread nD τ).loc main_arg1)) (m ((c : Thread nD τ).loc main_arg2)) (ix2 r q)
      = ((∑ k : Fin 1536, Blocks.part0 m c (ix2 r k) * Blocks.weights m c (ix2 ⟨0 + k.val, by omega⟩ q))
    + (∑ k : Fin 512, Blocks.part1 m c (ix2 r k) * Blocks.weights m c (ix2 ⟨1536 + k.val, by omega⟩ q))) := by
  rw [val_main_v1_apply]
  pointwise [val_main_v0]
  exact (congrArg₂ (· + ·) (Finset.sum_congr rfl fun k _ => congrArg₂ (· * ·) (by
      refine congrArg (m ((c : Thread nD τ).loc main_arg0)) (funext fun a => Fin.ext ?_)
      match a with
      | ⟨0, _⟩ => rfl
      | ⟨1, _⟩ => rfl) (congrArg (m ((c : Thread nD τ).loc main_arg2)) (funext fun a => Fin.ext (by
        match a with
        | ⟨0, _⟩ => rfl
        | ⟨1, _⟩ => rfl))))
    (Finset.sum_congr rfl fun k _ => congrArg₂ (· * ·) (by
      refine congrArg (m ((c : Thread nD τ).loc main_arg1)) (funext fun a => Fin.ext ?_)
      match a with
      | ⟨0, _⟩ => rfl
      | ⟨1, _⟩ => rfl) (congrArg (m ((c : Thread nD τ).loc main_arg2)) (funext fun a => Fin.ext (by
        match a with
        | ⟨0, _⟩ => rfl
        | ⟨1, _⟩ => rfl)))))

/-- A row of the reference before its norm is the kernel's. -/
theorem pre_eq (r : Fin 32768) (q : Fin 2048) :
    val_main_v4 (F := Ideal) (m ((c : Thread nD τ).loc main_arg0)) (m ((c : Thread nD τ).loc main_arg1)) (m ((c : Thread nD τ).loc main_arg2)) (m ((c : Thread nD τ).loc main_arg3)) (ix2 r q) = Blocks.pre m c r q := by
  rw [val_main_v4_apply, val_main_v3_apply, val_main_v2_apply, mix_eq]
  rfl

theorem mean_eq (r : Fin 32768) :
    val_main_v8 (F := Ideal) (m ((c : Thread nD τ).loc main_arg0)) (m ((c : Thread nD τ).loc main_arg1)) (m ((c : Thread nD τ).loc main_arg2)) (m ((c : Thread nD τ).loc main_arg3)) (ix2 r 0) = Norm.mean (Blocks.pre m c r) := by
  rw [val_main_v8_apply, val_main_v6_apply, val_main_v5_apply, val_main_v7_apply]
  unfold Norm.mean
  refine congrArg₂ Ideal.div (((congrArg (· + _) Ideal.ofBits_zero_f32).trans (zero_add _)).trans
    (Finset.sum_congr rfl fun k _ => (congrArg _ (funext fun a => Fin.ext ?_)).trans (pre_eq m c r k))) rfl
  match a with
  | ⟨0, _⟩ => rfl
  | ⟨1, _⟩ => rfl

theorem centred_eq (r : Fin 32768) (q : Fin 2048) :
    val_main_v10 (F := Ideal) (m ((c : Thread nD τ).loc main_arg0)) (m ((c : Thread nD τ).loc main_arg1)) (m ((c : Thread nD τ).loc main_arg2)) (m ((c : Thread nD τ).loc main_arg3)) (ix2 r q) = Blocks.pre m c r q - Norm.mean (Blocks.pre m c r) := by
  rw [val_main_v10_apply, val_main_v9_apply, pre_eq]
  refine congrArg (Blocks.pre m c r q - ·) ((congrArg _ (funext fun a => Fin.ext ?_)).trans (mean_eq m c r))
  match a with
  | ⟨0, _⟩ => rfl
  | ⟨1, _⟩ => rfl

theorem variance_eq (r : Fin 32768) :
    val_main_v15 (F := Ideal) (m ((c : Thread nD τ).loc main_arg0)) (m ((c : Thread nD τ).loc main_arg1)) (m ((c : Thread nD τ).loc main_arg2)) (m ((c : Thread nD τ).loc main_arg3)) (ix2 r 0)
      = Norm.mean (fun k => (Blocks.pre m c r k - Norm.mean (Blocks.pre m c r)) * (Blocks.pre m c r k - Norm.mean (Blocks.pre m c r))) := by
  rw [val_main_v15_apply, val_main_v13_apply, val_main_v12_apply, val_main_v14_apply]
  conv_rhs => unfold Norm.mean
  refine congrArg₂ Ideal.div (((congrArg (· + _) Ideal.ofBits_zero_f32).trans (zero_add _)).trans
    (Finset.sum_congr rfl fun k _ => (congrArg _ (funext fun a => Fin.ext ?_)).trans
      ((val_main_v11_apply _ _ _ _ (ix2 r k)).trans (congrArg₂ (· * ·) (centred_eq m c r k) (centred_eq m c r k))))) rfl
  match a with
  | ⟨0, _⟩ => rfl
  | ⟨1, _⟩ => rfl

/-- The reference's result is the kernel's. -/
theorem reference_eq (r : Fin 32768) (q : Fin 2048) :
    val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r q) = Blocks.G m c (ix2 r q) := by
  have hp := pre_eq m c r q
  have hm : val_main_v16 (F := Ideal) (m ((c : Thread nD τ).loc main_arg0)) (m ((c : Thread nD τ).loc main_arg1)) (m ((c : Thread nD τ).loc main_arg2)) (m ((c : Thread nD τ).loc main_arg3)) (ix2 r q) = Norm.mean (Blocks.pre m c r) := by
    rw [val_main_v16_apply]
    refine (congrArg _ (funext fun a => Fin.ext ?_)).trans (mean_eq m c r)
    match a with
    | ⟨0, _⟩ => rfl
    | ⟨1, _⟩ => rfl
  have hv : val_main_v21 (F := Ideal) (m ((c : Thread nD τ).loc main_arg0)) (m ((c : Thread nD τ).loc main_arg1)) (m ((c : Thread nD τ).loc main_arg2)) (m ((c : Thread nD τ).loc main_arg3)) (ix2 r q) = Ideal.rsqrt (Norm.mean (fun k => (Blocks.pre m c r k - Norm.mean (Blocks.pre m c r)) * (Blocks.pre m c r k - Norm.mean (Blocks.pre m c r)))
      + Ideal.ofBits .f32 0x3727C5AC#32) := by
    rw [val_main_v21_apply, val_main_v20_apply, val_main_v19_apply, val_main_v18_apply]
    refine congrArg (fun z => Ideal.rsqrt (z + Ideal.ofBits .f32 0x3727C5AC#32)) ((congrArg _ (funext fun a => Fin.ext ?_)).trans (variance_eq m c r))
    match a with
    | ⟨0, _⟩ => rfl
    | ⟨1, _⟩ => rfl
  have hg : val_main_v24 (F := Ideal) (m ((c : Thread nD τ).loc main_arg4)) (ix2 r q) = Blocks.gain m c (ix1 q) := by
    rw [val_main_v24_apply, val_main_v23_apply]
    refine congrArg (m ((c : Thread nD τ).loc main_arg4)) (funext fun a => Fin.ext ?_)
    match a with
    | ⟨0, _⟩ => rfl
  have hb : val_main_v27 (F := Ideal) (m ((c : Thread nD τ).loc main_arg5)) (ix2 r q) = Blocks.bias m c (ix1 q) := by
    rw [val_main_v27_apply, val_main_v26_apply]
    refine congrArg (m ((c : Thread nD τ).loc main_arg5)) (funext fun a => Fin.ext ?_)
    match a with
    | ⟨0, _⟩ => rfl
  rw [val_main_v28_apply, val_main_v25_apply, val_main_v22_apply, val_main_v17_apply, hp, hm, hv, hg, hb]
  rfl

theorem result_eq : val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Blocks.G m c :=
  funext fun i => (congrArg _ (funext fun a => Fin.ext (by
    match a with
    | ⟨0, _⟩ => rfl
    | ⟨1, _⟩ => rfl))).trans ((reference_eq m c (i 0) (i 1)).trans (congrArg (Blocks.G m c) (funext fun a => Fin.ext (by
      match a with
      | ⟨0, _⟩ => rfl
      | ⟨1, _⟩ => rfl))))

/-- Kernel and reference leave the same two results. -/
theorem algebraic : Cert.algebraic_Kernel7Ideal_Reference7Ideal := by
  intro m ρ m' ρ' _ hagree
  refine ⟨fun c => Blocks.G m c, fun c => Blocks.G m c, (θ_run Cert.Kernel7Ideal.defs _ _).mono
      (fun _ h c => ⟨(h c).1.trans (Blocks.final m c), (h c).2.1.trans (Blocks.final_narrow m c), (h c).2.2⟩)
    (Cert.Kernel7Ideal.Value.run_blocks (F := Ideal) m ρ), ?_⟩
  have key : ∀ c, Cert.Reference7Ideal.Value.res_main_v28 (F := Ideal) m' c = Blocks.G m c := fun c => by
    refine (val_main_v28_eq m' c).trans ?_
    obtain ⟨h0, h1, h2, h3, h4, h5⟩ := hagree c
    rw [h0, h1, h2, h3, h4, h5]
    exact result_eq m c
  have narrow : ∀ c, Cert.Reference7Ideal.Value.res_main_v29 (F := Ideal) m' c = Blocks.G m c := fun c =>
    (val_main_v29_eq m' c).trans (Eq.trans (funext fun i => val_main_v29_apply _ _ _ _ _ _ i) ((val_main_v28_eq m' c).symm.trans (key c)))
  exact (θ_run Cert.Reference7Ideal.defs _ _).mono (fun _ h c => ⟨(h c).1.trans (key c), (h c).2.1.trans (narrow c), (h c).2.2⟩)
    (Cert.Reference7Ideal.Value.run (F := Ideal) m' ρ')

end Cert.Proof.Wo7

end
-- ==== Proof.Mem.lean ====
/- Program 8: the attention over the memory. -/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Adequacy
public import Idealize.ShloMosaic.Lib.Pipeline.ValueKit
public import Idealize.ShloMosaic.Lib.Pointwise

@[expose] public section

set_option maxRecDepth 16384

noncomputable section

namespace Cert.Kernel8Ideal.Blocks

open Idealize.ShloMosaic Idealize.ShloMosaic.TcCoe Idealize.SL.Sem Cert.Kernel8Ideal Cert.Kernel8Ideal.Gen Cert.Kernel8Ideal.Value

/-- One entry of an attention row: the weights of 256 keys, by their scores, over the values. -/
def att (q : Fin 128 → EReal) (k v : Fin 256 → Fin 128 → EReal) (d : Fin 128) : EReal :=
  ∑ x : Fin 256, Ideal.div
      (Ideal.exp ((∑ e, q e * k x e) * Ideal.ofBits .f32 0x3DB504F3#32
        - Finset.fold max (Ideal.ofBits .f32 0xFF800000#32) (fun x => (∑ e, q e * k x e) * Ideal.ofBits .f32 0x3DB504F3#32) Finset.univ))
      (∑ x, Ideal.exp ((∑ e, q e * k x e) * Ideal.ofBits .f32 0x3DB504F3#32
        - Finset.fold max (Ideal.ofBits .f32 0xFF800000#32) (fun x => (∑ e, q e * k x e) * Ideal.ofBits .f32 0x3DB504F3#32) Finset.univ))
    * v x d

theorem att_congr {q q' : Fin 128 → EReal} {k k' v v' : Fin 256 → Fin 128 → EReal} (hq : ∀ e, q e = q' e) (hk : ∀ x e, k x e = k' x e)
    (hv : ∀ x e, v x e = v' x e) (d : Fin 128) : att q k v d = att q' k' v' d := by
  rw [funext hq, show k = k' from funext fun x => funext (hk x), show v = v' from funext fun x => funext (hv x)]

theorem pay3 (q : Vec Ideal S1x512x128 .bf16) (k v : Vec Ideal S1x256x128 .bf16) (p : Fin 512) (d : Fin 128) :
    k0_pay3 q k v (ix3 0 p d) = att (fun e => q (ix3 0 p e)) (fun x e => k (ix3 0 x e)) (fun x e => v (ix3 0 x e)) d := by
  pointwise [k0_pay3]
  rfl

theorem pay7 (q : Vec Ideal S1x512x128 .bf16) (k v : Vec Ideal S1x256x128 .bf16) (p : Fin 512) (d : Fin 128) :
    k0_pay7 (k0_pay4 q) (k0_pay5 k) (k0_pay6 v) (constant S512x256 .f32 0x00000000#32) (ix3 0 p d) = att (fun e => q (ix3 0 p e)) (fun x e => k (ix3 0 x e)) (fun x e => v (ix3 0 x e)) d := by
  pointwise [k0_pay7, k0_pay4, k0_pay5, k0_pay6]
  rfl

theorem pay8 (q : Vec Ideal S1x512x128 .bf16) (k v : Vec Ideal S1x256x128 .bf16) (p : Fin 512) (d : Fin 128) :
    k0_pay1 (k0_pay8 q k v) (ix3 0 p d) = att (fun e => q (ix3 0 p e)) (fun x e => k (ix3 0 x e)) (fun x e => v (ix3 0 x e)) d := by
  pointwise [k0_pay1, k0_pay8]
  rfl

theorem pay2 (q : Vec Ideal S1x512x128 .bf16) (k v : Vec Ideal S1x256x128 .bf16) (p : Fin 512) (d : Fin 128) :
    k0_pay2 q k v (ix3 0 p d) = att (fun e => q (ix3 0 p e)) (fun x e => k (ix3 0 x e)) (fun x e => v (ix3 0 x e)) d := by
  pointwise [k0_pay2]
  rfl

/-- One head of a block of the result. -/
def head (x0 : Vec Ideal S1x512x512 .bf16) (x1 : Vec Ideal S1x256x1024 .bf16) (p : Fin 512) (h : ℕ) (hh : h < 4) (d : Fin 128) : EReal :=
  att (fun e => x0 (ix3 0 p ⟨h * 128 + e.val, by omega⟩)) (fun x e => x1 (ix3 0 x ⟨h * 128 + e.val, by omega⟩))
    (fun x e => x1 (ix3 0 x ⟨512 + (h * 128 + e.val), by omega⟩)) d

theorem piece0 (x0 : Vec Ideal S1x512x512 .bf16) (x1 : Vec Ideal S1x256x1024 .bf16) (p : Fin 512) (d : Fin 128) :
    k0_pay3 (View.ld x0 r0_0) (View.ld x1 r0_1) (View.ld x1 r0_2) (ix3 0 p d) = head x0 x1 p 0 (by omega) d := by
  rw [pay3]
  unfold head
  refine att_congr (fun e => View.ld_unit_apply_of _ _ _ _ _ _ fun a => ?_) (fun x e => View.ld_unit_apply_of _ _ _ _ _ _ fun a => ?_)
    (fun x e => View.ld_unit_apply_of _ _ _ _ _ _ fun a => ?_) d
  · match a with
    | ⟨0, _⟩ => rfl
    | ⟨1, _⟩ => exact (Nat.zero_add _).symm
    | ⟨2, _⟩ => show 0 * 128 + e.val = 0 + e.val; omega
  · match a with
    | ⟨0, _⟩ => rfl
    | ⟨1, _⟩ => exact (Nat.zero_add _).symm
    | ⟨2, _⟩ => show 0 * 128 + e.val = 0 + e.val; omega
  · match a with
    | ⟨0, _⟩ => rfl
    | ⟨1, _⟩ => exact (Nat.zero_add _).symm
    | ⟨2, _⟩ => show 512 + (0 * 128 + e.val) = 512 + e.val; omega

theorem piece1 (x0 : Vec Ideal S1x512x512 .bf16) (x1 : Vec Ideal S1x256x1024 .bf16) (p : Fin 512) (d : Fin 128) :
    k0_pay7 (k0_pay4 (View.ld x0 r0_3)) (k0_pay5 (View.ld x1 r0_4)) (k0_pay6 (View.ld x1 r0_5)) (constant S512x256 .f32 0x00000000#32) (ix3 0 p d) = head x0 x1 p 1 (by omega) d := by
  rw [pay7]
  unfold head
  refine att_congr (fun e => View.ld_unit_apply_of _ _ _ _ _ _ fun a => ?_) (fun x e => View.ld_unit_apply_of _ _ _ _ _ _ fun a => ?_)
    (fun x e => View.ld_unit_apply_of _ _ _ _ _ _ fun a => ?_) d
  · match a with
    | ⟨0, _⟩ => rfl
    | ⟨1, _⟩ => exact (Nat.zero_add _).symm
    | ⟨2, _⟩ => show 1 * 128 + e.val = 128 + e.val; omega
  · match a with
    | ⟨0, _⟩ => rfl
    | ⟨1, _⟩ => exact (Nat.zero_add _).symm
    | ⟨2, _⟩ => show 1 * 128 + e.val = 128 + e.val; omega
  · match a with
    | ⟨0, _⟩ => rfl
    | ⟨1, _⟩ => exact (Nat.zero_add _).symm
    | ⟨2, _⟩ => show 512 + (1 * 128 + e.val) = 640 + e.val; omega

theorem piece2 (x0 : Vec Ideal S1x512x512 .bf16) (x1 : Vec Ideal S1x256x1024 .bf16) (p : Fin 512) (d : Fin 128) :
    k0_pay1 (k0_pay8 (View.ld x0 r0_6) (View.ld x1 r0_7) (View.ld x1 r0_8)) (ix3 0 p d) = head x0 x1 p 2 (by omega) d := by
  rw [pay8]
  unfold head
  refine att_congr (fun e => View.ld_unit_apply_of _ _ _ _ _ _ fun a => ?_) (fun x e => View.ld_unit_apply_of _ _ _ _ _ _ fun a => ?_)
    (fun x e => View.ld_unit_apply_of _ _ _ _ _ _ fun a => ?_) d
  · match a with
    | ⟨0, _⟩ => rfl
    | ⟨1, _⟩ => exact (Nat.zero_add _).symm
    | ⟨2, _⟩ => show 2 * 128 + e.val = 256 + e.val; omega
  · match a with
    | ⟨0, _⟩ => rfl
    | ⟨1, _⟩ => exact (Nat.zero_add _).symm
    | ⟨2, _⟩ => show 2 * 128 + e.val = 256 + e.val; omega
  · match a with
    | ⟨0, _⟩ => rfl
    | ⟨1, _⟩ => exact (Nat.zero_add _).symm
    | ⟨2, _⟩ => show 512 + (2 * 128 + e.val) = 768 + e.val; omega

theorem piece3 (x0 : Vec Ideal S1x512x512 .bf16) (x1 : Vec Ideal S1x256x1024 .bf16) (p : Fin 512) (d : Fin 128) :
    k0_pay2 (View.ld x0 r0_9) (View.ld x1 r0_10) (View.ld x1 r0_11) (ix3 0 p d) = head x0 x1 p 3 (by omega) d := by
  rw [pay2]
  unfold head
  refine att_congr (fun e => View.ld_unit_apply_of _ _ _ _ _ _ fun a => ?_) (fun x e => View.ld_unit_apply_of _ _ _ _ _ _ fun a => ?_)
    (fun x e => View.ld_unit_apply_of _ _ _ _ _ _ fun a => ?_) d
  · match a with
    | ⟨0, _⟩ => rfl
    | ⟨1, _⟩ => exact (Nat.zero_add _).symm
    | ⟨2, _⟩ => show 3 * 128 + e.val = 384 + e.val; omega
  · match a with
    | ⟨0, _⟩ => rfl
    | ⟨1, _⟩ => exact (Nat.zero_add _).symm
    | ⟨2, _⟩ => show 3 * 128 + e.val = 384 + e.val; omega
  · match a with
    | ⟨0, _⟩ => rfl
    | ⟨1, _⟩ => exact (Nat.zero_add _).symm
    | ⟨2, _⟩ => show 512 + (3 * 128 + e.val) = 896 + e.val; omega

theorem corner (x : S1x512x128.Idx) : x = ix3 (0 : Fin 1) (⟨(x 1).val, (x 1).isLt⟩ : Fin 512) (⟨(x 2).val, (x 2).isLt⟩ : Fin 128) := funext fun a => Fin.ext (by
  match a with
  | ⟨0, _⟩ => exact Nat.lt_one_iff.mp (x 0).isLt
  | ⟨1, _⟩ => rfl
  | ⟨2, _⟩ => rfl)

theorem head_at (x0 : Vec Ideal S1x512x512 .bf16) (x1 : Vec Ideal S1x256x1024 .bf16) (p p' : Fin 512) (h h' : ℕ) (hh : h < 4) (hh' : h' < 4) (d d' : Fin 128)
    (e0 : p = p') (e1 : h = h') (e2 : d = d') : head x0 x1 p h hh d = head x0 x1 p' h' hh' d' := by
  subst e0; subst e1; subst e2; rfl

/-- A block of the result: its four heads side by side. -/
theorem out (x0 : Vec Ideal S1x512x512 .bf16) (x1 : Vec Ideal S1x256x1024 .bf16) (y : S1x512x512.Idx) :
    out0_2 x0 x1 y = head x0 x1 ⟨(y 1).val, (y 1).isLt⟩ ((y 2).val / 128) (by have h : (y 2).val < 512 := (y 2).isLt; omega) ⟨(y 2).val % 128, by omega⟩ := by
  canon_tiles x h
  · rw [corner x, piece3]
    exact head_at _ _ _ _ _ _ _ _ _ _ (Fin.ext h1.symm) (by omega) (Fin.ext (by show (x 2).val = (y 2).val % 128; omega))
  · rw [corner x, piece2]
    exact head_at _ _ _ _ _ _ _ _ _ _ (Fin.ext h1.symm) (by omega) (Fin.ext (by show (x 2).val = (y 2).val % 128; omega))
  · rw [corner x, piece1]
    exact head_at _ _ _ _ _ _ _ _ _ _ (Fin.ext h1.symm) (by omega) (Fin.ext (by show (x 2).val = (y 2).val % 128; omega))
  · rw [corner x, piece0]
    exact head_at _ _ _ _ _ _ _ _ _ _ (Fin.ext h1.symm) (by omega) (Fin.ext (by show (x 2).val = (y 2).val % 128; omega))

variable (m : (ℓ : Loc nD τ sig) → Buf (Elt Ideal) ℓ) (c : Dev nD)

/-- The hidden array, whose last 512 columns are the queries. -/
abbrev hidden (i : S8x4096x5120.Idx) : EReal := m ((c : Thread nD τ).loc main_arg0) i

/-- The keys and values of the memory. -/
abbrev memory (i : S8x256x1024.Idx) : EReal := m ((c : Thread nD τ).loc main_arg1) i

theorem entry_h (i : S8x4096x5120.Idx) : V m c main_v0 i = hidden m c i := by
  entry_read
  rfl

theorem entry_k (i : S8x256x1024.Idx) : V m c main_v1 i = memory m c i := by
  entry_read
  rfl

/-- The block index of each window at a grid point. -/
theorem idx : ∀ t : Fin cfg0.N, (win0_0.index t 0 = t.val / 8 ∧ win0_0.index t 1 = t.val % 8 ∧ win0_0.index t 2 = 9)
    ∧ (win0_1.index t 0 = t.val / 8 ∧ win0_1.index t 1 = 0 ∧ win0_1.index t 2 = 0)
    ∧ win0_2.index t 0 = t.val / 8 ∧ win0_2.index t 1 = t.val % 8 ∧ win0_2.index t 2 = 0 ∧ (cfg0.win 2).flush t = true :=
  (by decide +kernel : ∀ t : Fin grid0.N, _)

/-- The result: for every batch element, position and head the attention over the memory. -/
def G (i : S8x4096x512.Idx) : EReal :=
  att (fun e => hidden m c (ix3 (i 0) (i 1) ⟨4608 + ((i 2).val / 128 * 128 + e.val), by have h : (i 2).val < 512 := (i 2).isLt; omega⟩))
    (fun x e => memory m c (ix3 (i 0) x ⟨(i 2).val / 128 * 128 + e.val, by have h : (i 2).val < 512 := (i 2).isLt; omega⟩))
    (fun x e => memory m c (ix3 (i 0) x ⟨512 + ((i 2).val / 128 * 128 + e.val), by have h : (i 2).val < 512 := (i 2).isLt; omega⟩))
    ⟨(i 2).val % 128, by omega⟩

theorem blk_h (t : Fin cfg0.N) (p : Fin 512) (j : Fin 512) (b : Fin 8) (r : Fin 4096) (l : Fin 5120) (hb : b.val = t.val / 8)
    (hr : r.val = t.val % 8 * 512 + p.val) (hl : l.val = 4608 + j.val) : iblk m c 0 t (ix3 0 p j) = hidden m c (ix3 b r l) := by
  obtain ⟨⟨a0, a1, a2⟩, ⟨b0, b1, b2⟩, e0, e1, e2, -⟩ := idx t
  unfold iblk
  rw [View.read_apply]
  refine (entry_h m c _).trans (congrArg (hidden m c) (funext fun a => Fin.ext ?_))
  match a with
  | ⟨0, _⟩ => (blk_simp [a0, a1, a2, hb]; rfl)
  | ⟨1, _⟩ => blk_simp [a0, a1, a2, hr]
  | ⟨2, _⟩ => blk_simp [a0, a1, a2, hl]

theorem blk_k (t : Fin cfg0.N) (x : Fin 256) (j : Fin 1024) (b : Fin 8) (hb : b.val = t.val / 8) :
    iblk m c 1 t (ix3 0 x j) = memory m c (ix3 b x j) := by
  obtain ⟨⟨a0, a1, a2⟩, ⟨b0, b1, b2⟩, e0, e1, e2, -⟩ := idx t
  unfold iblk
  rw [View.read_apply]
  refine (entry_k m c _).trans (congrArg (memory m c) (funext fun a => Fin.ext ?_))
  match a with
  | ⟨0, _⟩ => (blk_simp [b0, b1, b2, hb]; rfl)
  | ⟨1, _⟩ => blk_simp [b0, b1, b2]
  | ⟨2, _⟩ => blk_simp [b0, b1, b2]

theorem out_blk (t : Fin cfg0.N) (y : S1x512x512.Idx) (i : S8x4096x512.Idx) (h0 : (i 0).val = t.val / 8)
    (h1 : (i 1).val = t.val % 8 * 512 + (y 1).val) (h2 : (i 2).val = (y 2).val) : out0_2 (iblk m c 0 t) (iblk m c 1 t) y = G m c i := by
  rw [out]
  unfold head G
  have hd : (⟨(i 2).val % 128, by omega⟩ : Fin 128) = ⟨(y 2).val % 128, by omega⟩ := Fin.ext (by show (i 2).val % 128 = _; rw [h2])
  rw [hd]
  refine att_congr (fun e => ?_) (fun x e => ?_) (fun x e => ?_) _
  · exact blk_h m c t _ _ (i 0) (i 1) _ h0 h1 (by show 4608 + ((i 2).val / 128 * 128 + e.val) = _; rw [h2])
  · refine (blk_k m c t x _ (i 0) h0).trans (congrArg (fun j => memory m c (ix3 (i 0) x j)) (Fin.ext ?_))
    show (y 2).val / 128 * 128 + e.val = (i 2).val / 128 * 128 + e.val
    rw [h2]
  · refine (blk_k m c t x _ (i 0) h0).trans (congrArg (fun j => memory m c (ix3 (i 0) x j)) (Fin.ext ?_))
    show 512 + ((y 2).val / 128 * 128 + e.val) = 512 + ((i 2).val / 128 * 128 + e.val)
    rw [h2]

/-- What a point writes back is its block of the result. -/
theorem written (t : Fin cfg0.N) : (dats m 0 c).flushed 2 t = ((cfg0.win 2).blk t).view.read (Elt Ideal) (G m c) := by
  obtain ⟨-, -, e0, e1, e2, -⟩ := idx t
  rw [flushed2]
  funext y
  rw [View.read_apply]
  have y0 : (y 0).val = 0 := Nat.lt_one_iff.mp (y 0).isLt
  have h0 : (((cfg0.win 2).blk t).view.emb y 0).val = t.val / 8 := by blk_simp [e0, y0]
  have h1 : (((cfg0.win 2).blk t).view.emb y 1).val = t.val % 8 * 512 + (y 1).val := by blk_simp [e1]
  have h2 : (((cfg0.win 2).blk t).view.emb y 2).val = (y 2).val := by blk_simp [e2]
  exact (congrArg (out0_2 (iblk m c 0 t) (iblk m c 1 t)) (funext fun a => Fin.ext (by
    match a with
    | ⟨0, _⟩ => rfl
    | ⟨1, _⟩ => rfl
    | ⟨2, _⟩ => rfl))).trans (out_blk m c t (fun a => ⟨(y a).val, (y a).isLt⟩) _ h0 h1 h2)

theorem covered (i : S8x4096x512.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 512 := (i 2).isLt
  obtain ⟨t, ht⟩ : ∃ t : Fin cfg0.N, t.val = (i 0).val * 8 + (i 1).val / 512 :=
    ⟨⟨_, lt_of_lt_of_eq (by omega : (i 0).val * 8 + (i 1).val / 512 < 64) N_0.symm⟩, rfl⟩
  obtain ⟨-, -, e0, e1, e2, hf⟩ := idx t
  refine ⟨t, hf, ?_⟩
  show i ∈ ((View.whole main_v2).slice (win0_2.rect t)).set
  rw [View.set_slice_whole, Rect.mem_set_unit]
  intro a
  match a with
  | ⟨0, _⟩ => show win0_2.index t 0 * 1 ≤ (i 0).val ∧ (i 0).val < win0_2.index t 0 * 1 + 1; omega
  | ⟨1, _⟩ => show win0_2.index t 1 * 512 ≤ (i 1).val ∧ (i 1).val < win0_2.index t 1 * 512 + 512; omega
  | ⟨2, _⟩ => show win0_2.index t 2 * 512 ≤ (i 2).val ∧ (i 2).val < win0_2.index t 2 * 512 + 512; omega

/-- After the run the output array is the attention. -/
theorem final : (dats m 0 c).arrAt 2 cfg0.N = G m c :=
  (dats m 0 c).arrAt_eq_of_cover 2 _ (fun t _ => written m c t) (fun i => covered i)

end Cert.Kernel8Ideal.Blocks

namespace Cert.Proof.Mem

open Idealize.ShloMosaic Idealize.ShloMosaic.TcCoe Idealize.SL.Sem Cert.Kernel8Ideal Cert.Reference8Ideal.Read

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

section Reference
variable (x0 : (⟨Cert.Reference8Ideal.S8x4096x5120, .f32⟩ : BufTy).Contents (Elt Ideal)) (x1 : (⟨Cert.Reference8Ideal.S8x256x1024, .f32⟩ : BufTy).Contents (Elt Ideal))

/-- The queries of a head. -/
theorem queries (b : Fin 8) (p : Fin 4096) (h : Fin 4) (e : Fin 128) :
    val_main_v5 (F := Ideal) x0 (ix4 b p h e) = x0 (ix3 b p ⟨4608 + (h.val * 128 + e.val), by omega⟩) := by
  rw [val_main_v5_apply, val_main_v0_apply]
  refine congrArg x0 (funext fun a => Fin.ext ?_)
  match a with
  | ⟨0, _⟩ => show (((b.val * 4096 + p.val) * 4 + h.val) * 128 + e.val) / 2097152 = b.val; omega
  | ⟨1, _⟩ => show (((b.val * 4096 + p.val) * 4 + h.val) * 128 + e.val) / 512 % 4096 = p.val; omega
  | ⟨2, _⟩ => show 4608 + (((b.val * 4096 + p.val) * 4 + h.val) * 128 + e.val) % 512 = 4608 + (h.val * 128 + e.val); omega

/-- The keys of a head. -/
theorem keys (b : Fin 8) (x : Fin 256) (h : Fin 4) (e : Fin 128) :
    val_main_v2 (F := Ideal) x1 (ix4 b x h e) = x1 (ix3 b x ⟨h.val * 128 + e.val, by omega⟩) := by
  rw [val_main_v2_apply, val_main_v1_apply]
  refine congrArg x1 (funext fun a => Fin.ext ?_)
  match a with
  | ⟨0, _⟩ => show (((b.val * 256 + x.val) * 4 + h.val) * 128 + e.val) / 131072 = b.val; omega
  | ⟨1, _⟩ => show (((b.val * 256 + x.val) * 4 + h.val) * 128 + e.val) / 512 % 256 = x.val; omega
  | ⟨2, _⟩ => show (((b.val * 256 + x.val) * 4 + h.val) * 128 + e.val) % 512 = h.val * 128 + e.val; omega

/-- The values of a head. -/
theorem values (b : Fin 8) (x : Fin 256) (h : Fin 4) (e : Fin 128) :
    val_main_v4 (F := Ideal) x1 (ix4 b x h e) = x1 (ix3 b x ⟨512 + (h.val * 128 + e.val), by omega⟩) := by
  rw [val_main_v4_apply, val_main_v3_apply]
  refine congrArg x1 (funext fun a => Fin.ext ?_)
  match a with
  | ⟨0, _⟩ => show (((b.val * 256 + x.val) * 4 + h.val) * 128 + e.val) / 131072 = b.val; omega
  | ⟨1, _⟩ => show (((b.val * 256 + x.val) * 4 + h.val) * 128 + e.val) / 512 % 256 = x.val; omega
  | ⟨2, _⟩ => show 512 + (((b.val * 256 + x.val) * 4 + h.val) * 128 + e.val) % 512 = 512 + (h.val * 128 + e.val); omega

/-- A scaled score. -/
def score (b : Fin 8) (h : Fin 4) (p : Fin 4096) (x : Fin 256) : EReal :=
  (∑ e : Fin 128, x0 (ix3 b p ⟨4608 + (h.val * 128 + e.val), by omega⟩) * x1 (ix3 b x ⟨h.val * 128 + e.val, by omega⟩)) * Ideal.ofBits .f32 0x3DB504F3#32

theorem score_eq (b : Fin 8) (h : Fin 4) (p : Fin 4096) (x : Fin 256) : val_main_v8 (F := Ideal) x0 x1 (ix4 b h p x) = score x0 x1 b h p x := by
  rw [val_main_v8_apply, val_main_v6_apply, val_main_v7_apply]
  refine congrArg₂ (· * ·) (Finset.sum_congr rfl fun e _ => congrArg₂ (· * ·) (Eq.trans (congrArg _ (funext fun a => Fin.ext ?_)) (queries x0 b p h e))
    (Eq.trans (congrArg _ (funext fun a => Fin.ext ?_)) (keys x1 b x h e))) rfl
  all_goals match a with
    | ⟨0, _⟩ => rfl
    | ⟨1, _⟩ => rfl
    | ⟨2, _⟩ => rfl
    | ⟨3, _⟩ => rfl

/-- The largest score of a row. -/
def top (b : Fin 8) (h : Fin 4) (p : Fin 4096) : EReal :=
  Finset.fold max (Ideal.ofBits .f32 0xFF800000#32) (score x0 x1 b h p) Finset.univ

theorem top_eq (b : Fin 8) (h : Fin 4) (p : Fin 4096) : val_main_v9 (F := Ideal) x0 x1 (ix3 b h p) = top x0 x1 b h p := by
  have hs : ∀ x, val_main_v8 (F := Ideal) x0 x1 (ix4 b h p x) = score x0 x1 b h p x := score_eq x0 x1 b h p
  unfold val_main_v9 top
  revert hs
  generalize val_main_v8 (F := Ideal) x0 x1 = y
  intro hs
  rw [Host.reduce_eq_fold_single (FloatOps.maximumf (F := Ideal) (φ := .f32)) y _ Cert.Reference8Ideal.Gen.reducesTo_S8x4x4096x256_S8x4x4096_d3 (by decide), val_main_cst_0_apply]
  show Finset.fold max (Ideal.ofBits .f32 0xFF800000#32) _ _ = _
  refine congrArg (fun f => Finset.fold max (Ideal.ofBits .f32 0xFF800000#32) f Finset.univ) (funext fun k => (congrArg y (funext fun a => Fin.ext ?_)).trans (hs k))
  match a with
  | ⟨0, _⟩ => rfl
  | ⟨1, _⟩ => rfl
  | ⟨2, _⟩ => rfl
  | ⟨3, _⟩ => rfl

/-- Raising the largest score to the bound that the fold starts from changes nothing. -/
theorem top_max (b : Fin 8) (h : Fin 4) (p : Fin 4096) : max (Ideal.ofBits .f32 0xFF800000#32) (top x0 x1 b h p) = top x0 x1 b h p :=
  max_eq_right (Finset.le_fold_max _ |>.mpr (Or.inl le_rfl))

theorem expo_eq (b : Fin 8) (h : Fin 4) (p : Fin 4096) (x : Fin 256) :
    val_main_v15 (F := Ideal) x0 x1 (ix4 b h p x) = Ideal.exp (score x0 x1 b h p x - top x0 x1 b h p) := by
  rw [val_main_v15_apply, val_main_v14_apply, val_main_v13_apply, val_main_v12_apply, val_main_v11_apply, val_main_v10_apply, score_eq]
  refine congrArg (fun z => Ideal.exp (score x0 x1 b h p x - z)) (Eq.trans (congrArg (max (Ideal.ofBits .f32 0xFF800000#32))
    (Eq.trans (congrArg _ (funext fun a => Fin.ext ?_)) (top_eq x0 x1 b h p))) (top_max x0 x1 b h p))
  match a with
  | ⟨0, _⟩ => rfl
  | ⟨1, _⟩ => rfl
  | ⟨2, _⟩ => rfl

theorem total_eq (b : Fin 8) (h : Fin 4) (p : Fin 4096) (x : Fin 256) :
    val_main_v18 (F := Ideal) x0 x1 (ix4 b h p x) = ∑ k, Ideal.exp (score x0 x1 b h p k - top x0 x1 b h p) := by
  rw [val_main_v18_apply, val_main_v17_apply, val_main_v16_apply]
  refine ((congrArg (· + _) Ideal.ofBits_zero_f32).trans (zero_add _)).trans
    (Finset.sum_congr rfl fun k _ => (congrArg _ (funext fun a => Fin.ext ?_)).trans (expo_eq x0 x1 b h p k))
  match a with
  | ⟨0, _⟩ => rfl
  | ⟨1, _⟩ => rfl
  | ⟨2, _⟩ => rfl
  | ⟨3, _⟩ => rfl

theorem head_eq (b : Fin 8) (h : Fin 4) (d : Fin 128) (p : Fin 4096) : val_main_v20 (F := Ideal) x0 x1 (ix4 b h d p)
    = Blocks.att (fun e => x0 (ix3 b p ⟨4608 + (h.val * 128 + e.val), by omega⟩)) (fun x e => x1 (ix3 b x ⟨h.val * 128 + e.val, by omega⟩))
      (fun x e => x1 (ix3 b x ⟨512 + (h.val * 128 + e.val), by omega⟩)) d := by
  rw [val_main_v20_apply]
  unfold Blocks.att
  refine Finset.sum_congr rfl fun x _ => (mul_comm _ _).trans (congrArg₂ (· * ·) (Eq.trans (congrArg _ (funext fun a => Fin.ext ?_))
    ((val_main_v19_apply x0 x1 (ix4 b h p x)).trans (congrArg₂ Ideal.div (expo_eq x0 x1 b h p x) (total_eq x0 x1 b h p x))))
    (Eq.trans (congrArg _ (funext fun a => Fin.ext ?_)) (values x1 b x h d)))
  all_goals match a with
    | ⟨0, _⟩ => rfl
    | ⟨1, _⟩ => rfl
    | ⟨2, _⟩ => rfl
    | ⟨3, _⟩ => rfl

theorem joined (b : Fin 8) (p : Fin 4096) (j : Fin 512) : val_main_v23 (F := Ideal) x0 x1 (ix3 b p j)
    = val_main_v20 (F := Ideal) x0 x1 (ix4 b (⟨j.val / 128, by omega⟩ : Fin 4) (⟨j.val % 128, by omega⟩ : Fin 128) p) := by
  rw [val_main_v23_apply]
  refine (val_main_v22_apply x0 x1 (ix3 b p j)).trans ((val_main_v21_apply x0 x1 _).trans (congrArg _ (funext fun a => Fin.ext ?_)))
  match a with
  | ⟨0, _⟩ => show ((b.val * 4096 + p.val) * 512 + j.val) / 2097152 = b.val; omega
  | ⟨1, _⟩ => show ((b.val * 4096 + p.val) * 512 + j.val) / 128 % 4 = j.val / 128; omega
  | ⟨2, _⟩ => show ((b.val * 4096 + p.val) * 512 + j.val) % 128 = j.val % 128; omega
  | ⟨3, _⟩ => show ((b.val * 4096 + p.val) * 512 + j.val) / 512 % 4096 = p.val; omega

end Reference

/-- The reference's attention is the kernel's. -/
theorem reference_eq (m : (ℓ : Loc nD τ sig) → Buf (Elt Ideal) ℓ) (c : Dev nD) (i : S8x4096x512.Idx) :
    val_main_v23 (F := Ideal) (m ((c : Thread nD τ).loc main_arg0)) (m ((c : Thread nD τ).loc main_arg1)) i = Blocks.G m c i :=
  (congrArg _ (funext fun a => Fin.ext (by
    match a with
    | ⟨0, _⟩ => rfl
    | ⟨1, _⟩ => rfl
    | ⟨2, _⟩ => rfl))).trans ((joined _ _ (i 0) (i 1) (i 2)).trans (head_eq _ _ (i 0) _ _ (i 1)))

/-- Kernel and reference leave the same attention. -/
theorem algebraic : Cert.algebraic_Kernel8Ideal_Reference8Ideal := by
  intro m ρ m' ρ' _ hagree
  refine ⟨fun c => Blocks.G m c, (θ_run Cert.Kernel8Ideal.defs _ _).mono (fun _ h c => ⟨(h c).1.trans (Blocks.final m c), (h c).2⟩)
    (Cert.Kernel8Ideal.Value.run_blocks (F := Ideal) m ρ), ?_⟩
  refine (θ_run Cert.Reference8Ideal.defs _ _).mono (fun _ h c => ⟨(h c).1.trans ?_, (h c).2⟩) (Cert.Reference8Ideal.Value.run (F := Ideal) m' ρ')
  rw [(hagree c).1, (hagree c).2]
  exact (val_main_v23_eq _ _).trans (funext fun i => reference_eq m c i)

end Cert.Proof.Mem

end
-- ==== Proof.PeerMath.lean ====
/- The experts' values as functions of the selection: the gate of an expert, its activation, and sums over experts. -/
module

public import Idealize.ShloMosaic.Lib.Pipeline.ValueKit
public import Idealize.ShloMosaic.Lib.Pointwise
public import Idealize.ShloMosaic.Lib.IdealHost

@[expose] public section

noncomputable section

namespace Cert.Peer

open Idealize.ShloMosaic

/-- One head's share of an expert's gate: the product of the two scores if the rank is below the count. -/
def pick (n a r e : EReal) : EReal := if r < n then a * e else 0

theorem select_eq (n x r : EReal) : Scalar.select (Ideal.cmp .olt r n) x 0 = if r < n then x else 0 := by
  by_cases h : r < n
  · simp [Scalar.select, Ideal.cmp, h]
  · simp [Scalar.select, Ideal.cmp, h]

/-- An expert's gate, head after head. -/
def mix (n a r e : Fin 8 → EReal) : EReal :=
  pick (n 0) (a 0) (r 0) (e 0) + pick (n 1) (a 1) (r 1) (e 1) + pick (n 2) (a 2) (r 2) (e 2) + pick (n 3) (a 3) (r 3) (e 3)
    + pick (n 4) (a 4) (r 4) (e 4) + pick (n 5) (a 5) (r 5) (e 5) + pick (n 6) (a 6) (r 6) (e 6) + pick (n 7) (a 7) (r 7) (e 7)

theorem mix_sum (n a r e : Fin 8 → EReal) : mix n a r e = ∑ h : Fin 8, pick (n h) (a h) (r h) (e h) := by
  unfold mix
  rw [Fin.sum_univ_eight]

/-- The activation function. -/
def gelu (a : EReal) : EReal :=
  (Ideal.ofBits .f32 0x3F000000#32 * a) * (1 + Ideal.erf (a * (((Real.sqrt 2)⁻¹ : ℝ) : EReal)))

theorem ofBits_two : Ideal.ofBits .f32 0x40000000#32 = ((2 : ℝ) : EReal) := by
  simp [Ideal.ofBits, Ideal.ieee]
  rw [← EReal.coe_mul]
  norm_num

/-- Dividing by the root of two is multiplying by its inverse. -/
theorem div_root (a : EReal) : Ideal.div a (Ideal.sqrt (Ideal.ofBits .f32 0x40000000#32)) = a * (((Real.sqrt 2)⁻¹ : ℝ) : EReal) := by
  rw [ofBits_two]
  have hs : Ideal.sqrt ((2 : ℝ) : EReal) = ((Real.sqrt 2 : ℝ) : EReal) := if_neg (by norm_num)
  have hn : ((Real.sqrt 2 : ℝ) : EReal) ≠ 0 := by
    have : Real.sqrt 2 ≠ 0 := by positivity
    exact_mod_cast this
  rw [hs]
  unfold Ideal.div
  rw [if_neg hn, EReal.coe_inv]

/-- A sum over the first `n` places of a function of all numbers. -/
theorem sum_range {n : ℕ} (f : ℕ → EReal) : ∑ k : Fin n, f k.val = ∑ k ∈ Finset.range n, f k := (Finset.sum_range f).symm

/-- Adding one more stretch of places. -/
theorem sum_grow (f : ℕ → EReal) (a b : ℕ) :
    (∑ k ∈ Finset.range a, f k) + (∑ k : Fin b, f (a + k.val)) = ∑ k ∈ Finset.range (a + b), f k := by
  rw [Finset.sum_range_add, Finset.sum_range (fun k => f (a + k))]

end Cert.Peer

end
-- ==== Proof.PeerGate.lean ====
/- Program 9: the hidden values of one row of experts, from the operations of the kernel. -/
module

public import proofs.«01_k».proof.Proof.PeerMath
public import proofs.«01_k».proof.Proof.Gen.Kernel9Ideal
public import proofs.«01_k».proof.Proof.Gen.Kernel9Ideal.Skeleton
public import Idealize.ShloMosaic.Lib.Pipeline.ValueKit
public import Idealize.ShloMosaic.Lib.Pointwise

@[expose] public section

set_option maxRecDepth 16384

noncomputable section

namespace Cert.Kernel9Ideal.Blocks

open Idealize.ShloMosaic Idealize.ShloMosaic.TcCoe Idealize.SL.Sem Cert.Kernel9Ideal Cert.Kernel9Ideal.Gen Cert.Peer

/-- One head's share of the gates of a row of experts. -/
def headGate (n a : Vec Ideal S1x1x512 .f32) (r e : Vec Ideal S1x128x512 .bf16) : FVec Ideal S128x512 .bf16 :=
  select (cmpf .olt (shapeCast S128x512 r shapeCasts_S1x128x512_S128x512 : FVec Ideal S128x512 .bf16)
      (broadcastTo S128x512 (truncf .bf16 (shapeCast S1x512 n shapeCasts_S1x1x512_S1x512 : FVec Ideal S1x512 .f32) bitsLt_bf16_f32) broadcasts_S1x512_S128x512))
    (mulf (broadcastTo S128x512 (truncf .bf16 (shapeCast S1x512 a shapeCasts_S1x1x512_S1x512 : FVec Ideal S1x512 .f32) bitsLt_bf16_f32) broadcasts_S1x512_S128x512)
      (shapeCast S128x512 e shapeCasts_S1x128x512_S128x512 : FVec Ideal S128x512 .bf16))
    (broadcast S128x512 (Scalar.ofBits .bf16 0x0000#16))

theorem headGate_apply (n a : Vec Ideal S1x1x512 .f32) (r e : Vec Ideal S1x128x512 .bf16) (j : Fin 128) (p : Fin 512) :
    headGate n a r e (ix2 j p) = pick (n (ix3 0 0 p)) (a (ix3 0 0 p)) (r (ix3 0 j p)) (e (ix3 0 j p)) := by
  pointwise [headGate]
  rfl

/-- The hidden values of a row of experts. -/
def gateRow (n a : Fin 8 → Vec Ideal S1x1x512 .f32) (r e : Fin 8 → Vec Ideal S1x128x512 .bf16) (x : Vec Ideal S128x512 .f32) : FVec Ideal S512x128 .bf16 :=
  shapeCast S512x128 (transpose S512x128 [1, 0] (mulf
    (addf (addf (addf (addf (addf (addf (addf (addf (broadcast S128x512 (Scalar.ofBits .bf16 0x0000#16))
      (headGate (n 0) (a 0) (r 0) (e 0))) (headGate (n 1) (a 1) (r 1) (e 1))) (headGate (n 2) (a 2) (r 2) (e 2)))
      (headGate (n 3) (a 3) (r 3) (e 3))) (headGate (n 4) (a 4) (r 4) (e 4))) (headGate (n 5) (a 5) (r 5) (e 5)))
      (headGate (n 6) (a 6) (r 6) (e 6))) (headGate (n 7) (a 7) (r 7) (e 7)))
    (truncf .bf16 (mulf (mulf (broadcast S128x512 (Scalar.ofBits .f32 0x3F000000#32)) x)
      (addf (broadcast S128x512 (Scalar.ofBits .f32 0x3F800000#32))
        (erf (mulf x (broadcast S128x512 (Named.named κ "rsqrt2" 0x3F3504F3#32)))))) bitsLt_bf16_f32))
    transposes_S128x512_p1_0_S512x128) shapeCasts_S512x128_S512x128

theorem named_rsqrt2 : Named.named (F := Ideal) κ "rsqrt2" (φ := .f32) 0x3F3504F3#32 = (((Real.sqrt 2)⁻¹ : ℝ) : EReal) :=
  IdealRules.named_const.ideal_named_scalar _ _ _ _ rfl

theorem gateRow_apply (n a : Fin 8 → Vec Ideal S1x1x512 .f32) (r e : Fin 8 → Vec Ideal S1x128x512 .bf16) (x : Vec Ideal S128x512 .f32)
    (p : Fin 512) (j : Fin 128) :
    gateRow n a r e x (ix2 p j)
      = mix (fun h => n h (ix3 0 0 p)) (fun h => a h (ix3 0 0 p)) (fun h => r h (ix3 0 j p)) (fun h => e h (ix3 0 j p)) * gelu (x (ix2 j p)) := by
  unfold gelu
  rw [← named_rsqrt2]
  pointwise [gateRow]
  simp only [headGate_apply]
  rfl

end Cert.Kernel9Ideal.Blocks

end
-- ==== Proof.PeerBuf.lean ====
/- Program 9: what the kernel's buffers hold after its stores, in plain entries. -/
module

public import proofs.«01_k».proof.Proof.PeerGate
public import Idealize.ShloMosaic.Lib.Pipeline.ValueKit
public import Idealize.ShloMosaic.Lib.WholeRead

@[expose] public section

set_option maxRecDepth 16384

noncomputable section

namespace Cert.Kernel9Ideal.Blocks

open Idealize.ShloMosaic Idealize.ShloMosaic.TcCoe Idealize.SL.Sem Cert.Kernel9Ideal Cert.Kernel9Ideal.Gen Cert.Peer

/-- A two-axis rectangle's entry, placed in its array. -/
theorem idx2 {M N m n R C : ℕ} (inb : ∀ a, ![R, C] a + (![m, n] : Fin 2 → ℕ) a ≤ (⟨2, ![M, N]⟩ : Shape).size a) (i : Fin m) (j : Fin n)
    (hi : R + i.val < M) (hj : C + j.val < N) :
    (Rect.unit (s := ⟨2, ![M, N]⟩) ![R, C] ![m, n] inb).emb (ix2 i j) = ix2 ⟨R + i.val, hi⟩ ⟨C + j.val, hj⟩ :=
  funext fun a => Fin.ext (by
    match a with
    | ⟨0, _⟩ => exact congrArg (R + ·) (Nat.one_mul _)
    | ⟨1, _⟩ => exact congrArg (C + ·) (Nat.one_mul _))

/-- A load of a two-axis rectangle of a whole memref. -/
theorem ld2 {M N m n R C : ℕ} {e : EltTy} {sp : Space} (v : Memref sig .tc sp (⟨2, ![M, N]⟩ : Shape) e) (hv : v.IsWhole) (X : (⟨2, ![M, N]⟩ : Shape).Idx → Elt Ideal e)
    (inb : ∀ a, ![R, C] a + (![m, n] : Fin 2 → ℕ) a ≤ (⟨2, ![M, N]⟩ : Shape).size a) (i : Fin m) (j : Fin n)
    (hi : R + i.val < M) (hj : C + j.val < N) :
    View.readAt (Elt Ideal) v.view (Rect.unit (s := ⟨2, ![M, N]⟩) ![R, C] ![m, n] inb).toLoadRect (hv.unread X) (ix2 i j) = X (ix2 ⟨R + i.val, hi⟩ ⟨C + j.val, hj⟩) :=
  (Memref.IsWhole.readAt_unread hv X _ _).trans (congrArg X (idx2 inb i j hi hj))

/-- A load of a two-axis rectangle of what a list of stores left. -/
theorem cov2 {M N m n R C : ℕ} {e : EltTy} {sp : Space} (v : View sig .tc sp (⟨2, ![M, N]⟩ : Shape) e) (L : List (View.Piece (Elt Ideal) (⟨2, ![M, N]⟩ : Shape) e))
    (inb : ∀ a, ![R, C] a + (![m, n] : Fin 2 → ℕ) a ≤ (⟨2, ![M, N]⟩ : Shape).size a) (i : Fin m) (j : Fin n)
    (hi : R + i.val < M) (hj : C + j.val < N) :
    v.readCov L (Rect.unit (s := ⟨2, ![M, N]⟩) ![R, C] ![m, n] inb).toLoadRect (ix2 i j) = View.canon L (ix2 ⟨R + i.val, hi⟩ ⟨C + j.val, hj⟩) :=
  (View.read_writes_junk_apply_eq_canon v _ L).trans (congrArg (View.canon L) (idx2 inb i j hi hj))

/-- A load of one row of one head's layer of a three-axis array. -/
theorem ld3 {A B D m n h k : ℕ} {off : Fin 3 → ℕ} {e : EltTy} {sp : Space} (v : Memref sig .tc sp (⟨3, ![A, B, D]⟩ : Shape) e) (hv : v.IsWhole) (X : (⟨3, ![A, B, D]⟩ : Shape).Idx → Elt Ideal e)
    (inb : ∀ a, off a + (![1, m, n] : Fin 3 → ℕ) a ≤ (⟨3, ![A, B, D]⟩ : Shape).size a) (ho : off = ![h, k, 0]) (i : Fin m) (j : Fin n)
    (hh : h < A) (hi : k + i.val < B) (hj : j.val < D) :
    View.readAt (Elt Ideal) v.view (Rect.unit (s := ⟨3, ![A, B, D]⟩) off ![1, m, n] inb).toLoadRect (hv.unread X) (ix3 0 i j)
      = X (ix3 ⟨h, hh⟩ ⟨k + i.val, hi⟩ ⟨j.val, hj⟩) := by
  subst ho
  refine (Memref.IsWhole.readAt_unread hv X _ _).trans (congrArg X (funext fun a => Fin.ext ?_))
  match a with
  | ⟨0, _⟩ => exact congrArg (h + ·) (Nat.one_mul _)
  | ⟨1, _⟩ => exact congrArg (k + ·) (Nat.one_mul _)
  | ⟨2, _⟩ => exact (Nat.zero_add _).trans (Nat.one_mul _)

/-- The same load, at a named entry. -/
theorem ld2' {M N m n R C : ℕ} {e : EltTy} {sp : Space} (v : Memref sig .tc sp (⟨2, ![M, N]⟩ : Shape) e) (hv : v.IsWhole) (X : (⟨2, ![M, N]⟩ : Shape).Idx → Elt Ideal e)
    (inb : ∀ a, ![R, C] a + (![m, n] : Fin 2 → ℕ) a ≤ (⟨2, ![M, N]⟩ : Shape).size a) (i : Fin m) (j : Fin n) (I : Fin M) (J : Fin N)
    (hi : I.val = R + i.val) (hj : J.val = C + j.val) :
    View.readAt (Elt Ideal) v.view (Rect.unit (s := ⟨2, ![M, N]⟩) ![R, C] ![m, n] inb).toLoadRect (hv.unread X) (ix2 i j) = X (ix2 I J) :=
  (ld2 v hv X inb i j (hi ▸ I.isLt) (hj ▸ J.isLt)).trans (congrArg X (congrArg₂ ix2 (Fin.ext hi.symm) (Fin.ext hj.symm)))

/-- The same load of stores, at a named entry. -/
theorem cov2' {M N m n R C : ℕ} {e : EltTy} {sp : Space} (v : View sig .tc sp (⟨2, ![M, N]⟩ : Shape) e) (L : List (View.Piece (Elt Ideal) (⟨2, ![M, N]⟩ : Shape) e))
    (inb : ∀ a, ![R, C] a + (![m, n] : Fin 2 → ℕ) a ≤ (⟨2, ![M, N]⟩ : Shape).size a) (i : Fin m) (j : Fin n) (I : Fin M) (J : Fin N)
    (hi : I.val = R + i.val) (hj : J.val = C + j.val) :
    v.readCov L (Rect.unit (s := ⟨2, ![M, N]⟩) ![R, C] ![m, n] inb).toLoadRect (ix2 i j) = View.canon L (ix2 I J) :=
  (cov2 v L inb i j (hi ▸ I.isLt) (hj ▸ J.isLt)).trans (congrArg (View.canon L) (congrArg₂ ix2 (Fin.ext hi.symm) (Fin.ext hj.symm)))

/-- A load of one head's rows, at a named entry. -/
theorem ld3' {A B D m n h k : ℕ} {off : Fin 3 → ℕ} {e : EltTy} {sp : Space} (v : Memref sig .tc sp (⟨3, ![A, B, D]⟩ : Shape) e) (hv : v.IsWhole) (X : (⟨3, ![A, B, D]⟩ : Shape).Idx → Elt Ideal e)
    (inb : ∀ a, off a + (![1, m, n] : Fin 3 → ℕ) a ≤ (⟨3, ![A, B, D]⟩ : Shape).size a) (ho : off = ![h, k, 0]) (i : Fin m) (j : Fin n)
    (I : Fin A) (J : Fin B) (K : Fin D) (hI : I.val = h) (hJ : J.val = k + i.val) (hK : K.val = j.val) :
    View.readAt (Elt Ideal) v.view (Rect.unit (s := ⟨3, ![A, B, D]⟩) off ![1, m, n] inb).toLoadRect (hv.unread X) (ix3 0 i j) = X (ix3 I J K) := by
  refine (ld3 v hv X inb ho i j (hI ▸ I.isLt) (hJ ▸ J.isLt) (hK ▸ K.isLt)).trans (congrArg X ?_)
  have e1 : (⟨h, hI ▸ I.isLt⟩ : Fin A) = I := Fin.ext hI.symm
  have e2 : (⟨k + i.val, hJ ▸ J.isLt⟩ : Fin B) = J := Fin.ext hJ.symm
  have e3 : (⟨j.val, hK ▸ K.isLt⟩ : Fin D) = K := Fin.ext hK.symm
  rw [e1, e2, e3]

/-- An entry a list's first store wrote. -/
theorem canon_hit {M N m n R C : ℕ} {e : EltTy} (inb : ∀ a, ![R, C] a + (![m, n] : Fin 2 → ℕ) a ≤ (⟨2, ![M, N]⟩ : Shape).size a)
    (w : (⟨2, ![m, n]⟩ : Shape).Idx → Elt Ideal e) (L : List (View.Piece (Elt Ideal) (⟨2, ![M, N]⟩ : Shape) e)) (i : Fin M) (j : Fin N)
    (hi : R ≤ i.val) (hi' : i.val - R < m) (hj : C ≤ j.val) (hj' : j.val - C < n) :
    View.canon (⟨Rect.unit (s := ⟨2, ![M, N]⟩) ![R, C] ![m, n] inb, w⟩ :: L) (ix2 i j) = w (ix2 ⟨i.val - R, hi'⟩ ⟨j.val - C, hj'⟩) := by
  refine Eq.trans (congrArg _ ?_) (View.canon_cons_emb (Rect.unit (s := ⟨2, ![M, N]⟩) ![R, C] ![m, n] inb) w L (ix2 ⟨i.val - R, hi'⟩ ⟨j.val - C, hj'⟩))
  rw [idx2 inb _ _ (by show R + (i.val - R) < M; omega) (by show C + (j.val - C) < N; omega)]
  exact congrArg₂ ix2 (Fin.ext (by show i.val = R + (i.val - R); omega)) (Fin.ext (by show j.val = C + (j.val - C); omega))

/-- An entry a list's first store left alone. -/
theorem canon_miss {M N m n R C : ℕ} {e : EltTy} (inb : ∀ a, ![R, C] a + (![m, n] : Fin 2 → ℕ) a ≤ (⟨2, ![M, N]⟩ : Shape).size a)
    (w : (⟨2, ![m, n]⟩ : Shape).Idx → Elt Ideal e) (L : List (View.Piece (Elt Ideal) (⟨2, ![M, N]⟩ : Shape) e)) (i : Fin M) (j : Fin N)
    (h : i.val < R ∨ R + m ≤ i.val ∨ j.val < C ∨ C + n ≤ j.val) :
    View.canon (⟨Rect.unit (s := ⟨2, ![M, N]⟩) ![R, C] ![m, n] inb, w⟩ :: L) (ix2 i j) = View.canon L (ix2 i j) := by
  refine View.canon_cons_of_not_mem _ _ fun hm => ?_
  have h2 := (Rect.mem_set_unit (s := ⟨2, ![M, N]⟩) (off := ![R, C]) (size := ![m, n]) (inb := inb) (i := ix2 i j)).1 hm
  have a0 : R ≤ i.val ∧ i.val < R + m := h2 0
  have a1 : C ≤ j.val ∧ j.val < C + n := h2 1
  omega

/-- A product of a block of rows of `u` with columns of the transposed tokens. -/
def actPay (U : Vec Ideal S512x2048 .bf16) (X : Vec Ideal S2048x256 .bf16) : FVec Ideal S512x256 .f32 := k0_pay64 U X

theorem actPay_apply (U : Vec Ideal S512x2048 .bf16) (X : Vec Ideal S2048x256 .bf16) (r : Fin 512) (t : Fin 256) :
    actPay U X (ix2 r t) = ∑ d : Fin 2048, U (ix2 r d) * X (ix2 d t) := by
  pointwise [actPay, k0_pay64]

/-- The two stores of the activations. -/
def actPieces (U : Vec Ideal S512x2048 .bf16) (X0 X1 : Vec Ideal S2048x256 .bf16) : List (View.Piece (Elt Ideal) S512x512 .f32) :=
  [⟨Rect.unit ![0, 256] ![512, 256] inb_S512x512_S512x256_0_256, actPay U X1⟩, ⟨Rect.unit ![0, 0] ![512, 256] inb_S512x512_S512x256_0_0, actPay U X0⟩]

theorem actPieces_canon (U : Vec Ideal S512x2048 .bf16) (X0 X1 : Vec Ideal S2048x256 .bf16) (Y : S2048x512.Idx → EReal)
    (h0 : ∀ d (t : Fin 256), X0 (ix2 d t) = Y (ix2 d ⟨t.val, by omega⟩)) (h1 : ∀ d (t : Fin 256), X1 (ix2 d t) = Y (ix2 d ⟨256 + t.val, by omega⟩))
    (r : Fin 512) (t : Fin 512) :
    View.canon (actPieces U X0 X1) (ix2 r t) = ∑ d : Fin 2048, U (ix2 r d) * Y (ix2 d t) := by
  unfold actPieces
  by_cases ht : t.val < 256
  · rw [canon_miss _ _ _ _ _ (by omega), canon_hit _ _ _ _ _ (by omega) (by omega) (by omega) (by omega), actPay_apply]
    exact Finset.sum_congr rfl fun d _ => congrArg₂ (· * ·) rfl (h0 _ _)
  · rw [canon_hit _ _ _ _ _ (by omega) (by omega) (by omega) (by omega), actPay_apply]
    exact Finset.sum_congr rfl fun d _ => congrArg₂ (· * ·) rfl ((h1 _ _).trans (congrArg Y (congrArg (ix2 d) (Fin.ext (by show 256 + (t.val - 256) = t.val; omega)))))

/-- The hidden values' four stores. -/
def hidPieces (n a : Fin 4 → Fin 8 → Vec Ideal S1x1x512 .f32) (r e : Fin 8 → Vec Ideal S1x128x512 .bf16) (X : Fin 4 → Vec Ideal S128x512 .f32) :
    List (View.Piece (Elt Ideal) S512x512 .bf16) :=
  [⟨Rect.unit ![0, 384] ![512, 128] inb_S512x512_S512x128_0_384, gateRow (n 3) (a 3) r e (X 3)⟩,
    ⟨Rect.unit ![0, 256] ![512, 128] inb_S512x512_S512x128_0_256, gateRow (n 2) (a 2) r e (X 2)⟩,
    ⟨Rect.unit ![0, 128] ![512, 128] inb_S512x512_S512x128_0_128, gateRow (n 1) (a 1) r e (X 1)⟩,
    ⟨Rect.unit ![0, 0] ![512, 128] inb_S512x512_S512x128_0_0, gateRow (n 0) (a 0) r e (X 0)⟩]

/-- A hidden value, from the blocks. -/
def hidAt (N A R E : S8x128x512.Idx → EReal) (act : S512x512.Idx → EReal) (k : Fin 128) (j : Fin 128) (x : Fin 512) (p : Fin 512) : EReal :=
  mix (fun h => N (ix3 h k p)) (fun h => A (ix3 h k p)) (fun h => R (ix3 h j p)) (fun h => E (ix3 h j p)) * gelu (act (ix2 x p))

theorem hidPieces_canon (n a : Fin 4 → Fin 8 → Vec Ideal S1x1x512 .f32) (r e : Fin 8 → Vec Ideal S1x128x512 .bf16) (X : Fin 4 → Vec Ideal S128x512 .f32)
    (N A R E : S8x128x512.Idx → EReal) (act : S512x512.Idx → EReal) (k : ℕ) (hk : k + 4 ≤ 128)
    (hn : ∀ (s : Fin 4) h p, n s h (ix3 0 0 p) = N (ix3 h ⟨k + s.val, by omega⟩ p)) (ha : ∀ (s : Fin 4) h p, a s h (ix3 0 0 p) = A (ix3 h ⟨k + s.val, by omega⟩ p))
    (hr : ∀ h j p, r h (ix3 0 j p) = R (ix3 h j p)) (he : ∀ h j p, e h (ix3 0 j p) = E (ix3 h j p))
    (hX : ∀ (s : Fin 4) (j : Fin 128) p, X s (ix2 j p) = act (ix2 ⟨128 * s.val + j.val, by omega⟩ p)) (p q : Fin 512) :
    View.canon (hidPieces n a r e X) (ix2 p q) = hidAt N A R E act ⟨k + q.val / 128, by omega⟩ ⟨q.val % 128, Nat.mod_lt _ (by decide)⟩ q p := by
  have key : ∀ (s : Fin 4) (j : Fin 128), q.val = 128 * s.val + j.val → gateRow (n s) (a s) r e (X s) (ix2 p j) = hidAt N A R E act ⟨k + q.val / 128, by omega⟩ ⟨q.val % 128, Nat.mod_lt _ (by decide)⟩ q p := by
    intro s j hq
    rw [gateRow_apply]
    simp only [hn, ha, hr, he, hX]
    have e1 : (⟨k + q.val / 128, by omega⟩ : Fin 128) = ⟨k + s.val, by omega⟩ := Fin.ext (by show k + q.val / 128 = k + s.val; omega)
    have e2 : (⟨q.val % 128, Nat.mod_lt _ (by decide)⟩ : Fin 128) = j := Fin.ext (by show q.val % 128 = j.val; omega)
    have e3 : (⟨128 * s.val + j.val, by omega⟩ : Fin 512) = q := Fin.ext hq.symm
    rw [e1, e2, e3]
    rfl
  unfold hidPieces
  by_cases h3 : 384 ≤ q.val
  · rw [canon_hit _ _ _ _ _ (by omega) (by omega) (by omega) (by omega)]
    exact key 3 _ (by show q.val = 128 * 3 + (q.val - 384); omega)
  rw [canon_miss _ _ _ _ _ (by omega)]
  by_cases h2 : 256 ≤ q.val
  · rw [canon_hit _ _ _ _ _ (by omega) (by omega) (by omega) (by omega)]
    exact key 2 _ (by show q.val = 128 * 2 + (q.val - 256); omega)
  rw [canon_miss _ _ _ _ _ (by omega)]
  by_cases h1 : 128 ≤ q.val
  · rw [canon_hit _ _ _ _ _ (by omega) (by omega) (by omega) (by omega)]
    exact key 1 _ (by show q.val = 128 * 1 + (q.val - 128); omega)
  rw [canon_miss _ _ _ _ _ (by omega), canon_hit _ _ _ _ _ (by omega) (by omega) (by omega) (by omega)]
  exact key 0 _ (by show q.val = 128 * 0 + (q.val - 0); omega)

/-- What one store adds to the running output. -/
def accPay (O : Vec Ideal S512x256 .f32) (H : Vec Ideal S512x512 .bf16) (V : Vec Ideal S512x256 .bf16) : FVec Ideal S512x256 .f32 := k0_pay62 O H V

theorem accPay_apply (O : Vec Ideal S512x256 .f32) (H : Vec Ideal S512x512 .bf16) (V : Vec Ideal S512x256 .bf16) (p : Fin 512) (c : Fin 256) :
    accPay O H V (ix2 p c) = O (ix2 p c) + ∑ r : Fin 512, H (ix2 p r) * V (ix2 r c) := by
  pointwise [accPay, k0_pay62]

/-- The output after the first `j` of eight stores: the columns below `256 j` are done. -/
def accTo (j : ℕ) (F T : Fin 512 → Fin 2048 → EReal) (p : Fin 512) (c : Fin 2048) : EReal := if c.val < 256 * j then T p c else F p c

/-- The output with one product added. -/
def accOut (F : Fin 512 → Fin 2048 → EReal) (H' : S512x512.Idx → EReal) (W : Fin 512 → Fin 2048 → EReal) (p : Fin 512) (c : Fin 2048) : EReal :=
  F p c + ∑ r : Fin 512, H' (ix2 p r) * W r c

/-- One of the first eight stores, which read what was there before them all. -/
theorem acc_first (j C : ℕ) (hC : C = 256 * j) (hj : j < 8) (inb : ∀ a, ![0, C] a + (![512, 256] : Fin 2 → ℕ) a ≤ S512x2048.size a) (L : List (View.Piece (Elt Ideal) S512x2048 .f32))
    (O : Vec Ideal S512x256 .f32) (H : Vec Ideal S512x512 .bf16) (V : Vec Ideal S512x256 .bf16) (F : Fin 512 → Fin 2048 → EReal)
    (H' : S512x512.Idx → EReal) (W : Fin 512 → Fin 2048 → EReal)
    (hL : ∀ p (c : Fin 2048), c.val < 256 * j → View.canon L (ix2 p c) = accOut F H' W p c)
    (hO : ∀ p (c : Fin 256), O (ix2 p c) = F p ⟨C + c.val, by omega⟩)
    (hH : ∀ p r, H (ix2 p r) = H' (ix2 p r)) (hV : ∀ r (c : Fin 256), V (ix2 r c) = W r ⟨C + c.val, by omega⟩) (p : Fin 512) (c : Fin 2048)
    (hc : c.val < 256 * (j + 1)) :
    View.canon (⟨Rect.unit (s := S512x2048) ![0, C] ![512, 256] inb, accPay O H V⟩ :: L) (ix2 p c) = accOut F H' W p c := by
  subst hC
  by_cases h : 256 * j ≤ c.val
  · rw [canon_hit _ _ _ _ _ (by omega) (by omega) (by omega) (by omega), accPay_apply, hO]
    have ec : (⟨256 * j + (c.val - 256 * j), by omega⟩ : Fin 2048) = c := Fin.ext (by show 256 * j + (c.val - 256 * j) = c.val; omega)
    simp only [hH, hV, ec]
    rfl
  · rw [canon_miss _ _ _ _ _ (by omega), hL _ _ (by omega)]

/-- One more store. -/
theorem acc_step (j C : ℕ) (hC : C = 256 * j) (hj : j < 8) (inb : ∀ a, ![0, C] a + (![512, 256] : Fin 2 → ℕ) a ≤ S512x2048.size a) (L : List (View.Piece (Elt Ideal) S512x2048 .f32))
    (O : Vec Ideal S512x256 .f32) (H : Vec Ideal S512x512 .bf16) (V : Vec Ideal S512x256 .bf16) (F : Fin 512 → Fin 2048 → EReal)
    (H' : S512x512.Idx → EReal) (W : Fin 512 → Fin 2048 → EReal)
    (hL : ∀ p (c : Fin 2048), View.canon L (ix2 p c) = accTo j F (accOut F H' W) p c)
    (hO : ∀ p (c : Fin 256), O (ix2 p c) = View.canon L (ix2 p ⟨C + c.val, by omega⟩))
    (hH : ∀ p r, H (ix2 p r) = H' (ix2 p r)) (hV : ∀ r (c : Fin 256), V (ix2 r c) = W r ⟨C + c.val, by omega⟩) (p : Fin 512) (c : Fin 2048) :
    View.canon (⟨Rect.unit (s := S512x2048) ![0, C] ![512, 256] inb, accPay O H V⟩ :: L) (ix2 p c)
      = accTo (j + 1) F (accOut F H' W) p c := by
  subst hC
  by_cases h : 256 * j ≤ c.val ∧ c.val < 256 * j + 256
  · obtain ⟨h1, h2⟩ := h
    rw [canon_hit _ _ _ _ _ (by omega) (by omega) (by omega) (by omega), accPay_apply, hO, hL]
    have ec : (⟨256 * j + (c.val - 256 * j), by omega⟩ : Fin 2048) = c := Fin.ext (by show 256 * j + (c.val - 256 * j) = c.val; omega)
    simp only [hH, hV, ec]
    unfold accTo
    rw [if_neg (by omega), if_pos (by omega)]
    rfl
  · rw [canon_miss _ _ _ _ _ (by omega), hL]
    unfold accTo
    by_cases h2 : c.val < 256 * j
    · rw [if_pos h2, if_pos (by omega)]
    · rw [if_neg h2, if_neg (by omega)]

end Cert.Kernel9Ideal.Blocks

end
-- ==== Proof.PeerRef.lean ====
/- Program 9's reference: the experts of every token with the residual and the layer norm. -/
module

public import proofs.«01_k».proof.Defs
public import proofs.«01_k».proof.Proof.Norm
public import proofs.«01_k».proof.Proof.PeerMath
public import proofs.«01_k».proof.Proof.Gen.Reference9Ideal.Run
public import proofs.«01_k».proof.Proof.Gen.Reference9Ideal.Read
public import Idealize.ShloMosaic.Adequacy
public import Idealize.ShloMosaic.Lib.Pipeline.ValueKit
public import Idealize.ShloMosaic.Lib.Pointwise

@[expose] public section

set_option maxRecDepth 16384

noncomputable section

namespace Cert.Proof.PeerRef

open Idealize.ShloMosaic Idealize.ShloMosaic.TcCoe Idealize.SL.Sem Cert.Reference9Ideal Cert.Reference9Ideal.Read Cert.Peer

variable (x0 x1 : S16384x2048.Idx → EReal) (x2 x3 x4 x5 : S8x128x32768.Idx → EReal) (x6 : S32768x2048.Idx → EReal)
  (x7 x8 : S2048.Idx → EReal)

/-- An expert's activation before the activation function. -/
def dotUp (e : Fin 16384) (t : Fin 32768) : EReal := ∑ d : Fin 2048, x0 (ix2 e d) * x6 (ix2 t d)

/-- The gate of expert (i, j) for a token. -/
def gate (i j : Fin 128) (t : Fin 32768) : EReal :=
  mix (fun h => x2 (ix3 h i t)) (fun h => x3 (ix3 h i t)) (fun h => x4 (ix3 h j t)) (fun h => x5 (ix3 h j t))

/-- An expert's hidden value for a token. -/
def hid (e : Fin 16384) (t : Fin 32768) : EReal :=
  gate x2 x3 x4 x5 ⟨e.val / 128, by omega⟩ ⟨e.val % 128, Nat.mod_lt _ (by decide)⟩ t * gelu (dotUp x0 x6 e t)

/-- A row before the norm: the scaled input and the experts' outputs. -/
def pre (t : Fin 32768) (q : Fin 2048) : EReal :=
  Ideal.ofBits .f32 0x3FD744FD#32 * x6 (ix2 t q) + ∑ e : Fin 16384, hid x0 x2 x3 x4 x5 x6 e t * x1 (ix2 e q)

/-- The result: the layer norm of every row. -/
def G (i : S32768x2048.Idx) : EReal :=
  Norm.layer (pre x0 x1 x2 x3 x4 x5 x6 (i 0)) (fun k => x7 (ix1 k)) (fun k => x8 (ix1 k)) (i 1)

theorem pick_eq (h : Fin 8) (i j : Fin 128) (t : Fin 32768) (y : S8x128x128x32768.Idx) (y0 : (y 0).val = h.val) (y1 : (y 1).val = i.val)
    (y2 : (y 2).val = j.val) (y3 : (y 3).val = t.val) :
    val_main_v10 (F := Ideal) x2 x3 x4 x5 y = pick (x2 (ix3 h i t)) (x3 (ix3 h i t)) (x4 (ix3 h j t)) (x5 (ix3 h j t)) := by
  have e2 : val_main_v3 (F := Ideal) x2 y = x2 (ix3 h i t) := by
    rw [val_main_v3_apply, val_main_v1_apply]
    refine congrArg x2 (funext fun a => Fin.ext ?_)
    match a with
    | ⟨0, _⟩ => exact y0
    | ⟨1, _⟩ => exact y1
    | ⟨2, _⟩ => exact y3
  have e3 : val_main_v7 (F := Ideal) x3 y = x3 (ix3 h i t) := by
    rw [val_main_v7_apply, val_main_v5_apply]
    refine congrArg x3 (funext fun a => Fin.ext ?_)
    match a with
    | ⟨0, _⟩ => exact y0
    | ⟨1, _⟩ => exact y1
    | ⟨2, _⟩ => exact y3
  have e4 : val_main_v2 (F := Ideal) x4 y = x4 (ix3 h j t) := by
    rw [val_main_v2_apply, val_main_v0_apply]
    refine congrArg x4 (funext fun a => Fin.ext ?_)
    match a with
    | ⟨0, _⟩ => exact y0
    | ⟨1, _⟩ => exact y2
    | ⟨2, _⟩ => exact y3
  have e5 : val_main_v8 (F := Ideal) x5 y = x5 (ix3 h j t) := by
    rw [val_main_v8_apply, val_main_v6_apply]
    refine congrArg x5 (funext fun a => Fin.ext ?_)
    match a with
    | ⟨0, _⟩ => exact y0
    | ⟨1, _⟩ => exact y2
    | ⟨2, _⟩ => exact y3
  have ez : val_main_call0_v1 (F := Ideal) y = 0 := by
    rw [val_main_call0_v1_apply, val_main_call0_v0_apply, val_main_cst_apply]
    exact Ideal.ofBits_zero_f32
  rw [val_main_v10_apply, val_main_v4_apply, val_main_v9_apply, e2, e3, e4, e5, ez]
  exact select_eq _ _ _

theorem gate_eq (e : Fin 16384) (t : Fin 32768) :
    val_main_v22 (F := Ideal) x2 x3 x4 x5 (ix2 e t) = gate x2 x3 x4 x5 ⟨e.val / 128, by omega⟩ ⟨e.val % 128, Nat.mod_lt _ (by decide)⟩ t := by
  rw [val_main_v22_apply, val_main_v11_apply]
  unfold gate
  rw [mix_sum]
  refine ((congrArg (· + _) Ideal.ofBits_zero_f32).trans (zero_add _)).trans (Finset.sum_congr rfl fun h _ => ?_)
  refine pick_eq x2 x3 x4 x5 h _ _ t _ rfl ?_ ?_ ?_
  · show (e.val * 32768 + t.val) / 4194304 = e.val / 128
    omega
  · show (e.val * 32768 + t.val) / 32768 % 128 = e.val % 128
    omega
  · show (e.val * 32768 + t.val) % 32768 = t.val
    omega

theorem dotUp_eq (e : Fin 16384) (t : Fin 32768) : val_main_v12 (F := Ideal) x0 x6 (ix2 e t) = dotUp x0 x6 e t := by
  rw [val_main_v12_apply]
  refine Finset.sum_congr rfl fun d _ => congrArg₂ (· * ·) (congrArg x0 (funext fun a => Fin.ext ?_)) (congrArg x6 (funext fun a => Fin.ext ?_))
  · match a with
    | ⟨0, _⟩ => rfl
    | ⟨1, _⟩ => rfl
  · match a with
    | ⟨0, _⟩ => rfl
    | ⟨1, _⟩ => rfl

theorem gelu_eq (e : Fin 16384) (t : Fin 32768) : val_main_v21 (F := Ideal) x0 x6 (ix2 e t) = gelu (dotUp x0 x6 e t) := by
  rw [val_main_v21_apply, val_main_v20_apply, val_main_v19_apply, val_main_v18_apply, val_main_v17_apply, val_main_v16_apply,
    val_main_v15_apply, val_main_v14_apply, val_main_v13_apply, dotUp_eq]
  unfold gelu
  rw [← div_root, ← Ideal.ofBits_one_f32]
  rfl

theorem hid_eq (e : Fin 16384) (t : Fin 32768) : val_main_v23 (F := Ideal) x0 x2 x3 x4 x5 x6 (ix2 e t) = hid x0 x2 x3 x4 x5 x6 e t := by
  rw [val_main_v23_apply, gate_eq, gelu_eq]
  rfl

theorem ffn_eq (r : Fin 32768) (q : Fin 2048) :
    val_main_v24 (F := Ideal) x0 x1 x2 x3 x4 x5 x6 (ix2 r q) = ∑ e : Fin 16384, hid x0 x2 x3 x4 x5 x6 e r * x1 (ix2 e q) := by
  rw [val_main_v24_apply]
  refine Finset.sum_congr rfl fun e _ => ?_
  have e1 : lidx_main_v24 (ix2 r q) e = ix2 e r := funext fun a => Fin.ext (by
    match a with
    | ⟨0, _⟩ => rfl
    | ⟨1, _⟩ => rfl)
  have e2 : ridx_main_v24 (ix2 r q) e = ix2 e q := funext fun a => Fin.ext (by
    match a with
    | ⟨0, _⟩ => rfl
    | ⟨1, _⟩ => rfl)
  rw [e1, e2, hid_eq]

theorem pre_eq (r : Fin 32768) (q : Fin 2048) :
    val_main_v27 (F := Ideal) x0 x1 x2 x3 x4 x5 x6 (ix2 r q) = pre x0 x1 x2 x3 x4 x5 x6 r q := by
  rw [val_main_v27_apply, val_main_v26_apply, val_main_v25_apply, ffn_eq]
  rfl

theorem mean_eq (r : Fin 32768) :
    val_main_v31 (F := Ideal) x0 x1 x2 x3 x4 x5 x6 (ix2 r 0) = Norm.mean (pre x0 x1 x2 x3 x4 x5 x6 r) := by
  rw [val_main_v31_apply, val_main_v29_apply, val_main_v28_apply, val_main_v30_apply]
  unfold Norm.mean
  refine congrArg₂ Ideal.div (((congrArg (· + _) Ideal.ofBits_zero_f32).trans (zero_add _)).trans
    (Finset.sum_congr rfl fun k _ => (congrArg _ (funext fun a => Fin.ext ?_)).trans (pre_eq x0 x1 x2 x3 x4 x5 x6 r k))) rfl
  match a with
  | ⟨0, _⟩ => rfl
  | ⟨1, _⟩ => rfl

theorem centred_eq (r : Fin 32768) (q : Fin 2048) :
    val_main_v33 (F := Ideal) x0 x1 x2 x3 x4 x5 x6 (ix2 r q) = pre x0 x1 x2 x3 x4 x5 x6 r q - Norm.mean (pre x0 x1 x2 x3 x4 x5 x6 r) := by
  rw [val_main_v33_apply, val_main_v32_apply, pre_eq]
  refine congrArg (pre x0 x1 x2 x3 x4 x5 x6 r q - ·) ((congrArg _ (funext fun a => Fin.ext ?_)).trans (mean_eq x0 x1 x2 x3 x4 x5 x6 r))
  match a with
  | ⟨0, _⟩ => rfl
  | ⟨1, _⟩ => rfl

theorem variance_eq (r : Fin 32768) :
    val_main_v38 (F := Ideal) x0 x1 x2 x3 x4 x5 x6 (ix2 r 0)
      = Norm.mean (fun k => (pre x0 x1 x2 x3 x4 x5 x6 r k - Norm.mean (pre x0 x1 x2 x3 x4 x5 x6 r)) * (pre x0 x1 x2 x3 x4 x5 x6 r k - Norm.mean (pre x0 x1 x2 x3 x4 x5 x6 r))) := by
  rw [val_main_v38_apply, val_main_v36_apply, val_main_v35_apply, val_main_v37_apply]
  conv_rhs => unfold Norm.mean
  refine congrArg₂ Ideal.div (((congrArg (· + _) Ideal.ofBits_zero_f32).trans (zero_add _)).trans
    (Finset.sum_congr rfl fun k _ => (congrArg _ (funext fun a => Fin.ext ?_)).trans
      ((val_main_v34_apply _ _ _ _ _ _ _ (ix2 r k)).trans (congrArg₂ (· * ·) (centred_eq x0 x1 x2 x3 x4 x5 x6 r k) (centred_eq x0 x1 x2 x3 x4 x5 x6 r k))))) rfl
  match a with
  | ⟨0, _⟩ => rfl
  | ⟨1, _⟩ => rfl

/-- An entry of the reference's result. -/
theorem reference_eq (r : Fin 32768) (q : Fin 2048) :
    val_main_v51 (F := Ideal) x0 x1 x2 x3 x4 x5 x6 x7 x8 (ix2 r q) = G x0 x1 x2 x3 x4 x5 x6 x7 x8 (ix2 r q) := by
  have hp := pre_eq x0 x1 x2 x3 x4 x5 x6 r q
  have hm : val_main_v39 (F := Ideal) x0 x1 x2 x3 x4 x5 x6 (ix2 r q) = Norm.mean (pre x0 x1 x2 x3 x4 x5 x6 r) := by
    rw [val_main_v39_apply]
    refine (congrArg _ (funext fun a => Fin.ext ?_)).trans (mean_eq x0 x1 x2 x3 x4 x5 x6 r)
    match a with
    | ⟨0, _⟩ => rfl
    | ⟨1, _⟩ => rfl
  have hv : val_main_v44 (F := Ideal) x0 x1 x2 x3 x4 x5 x6 (ix2 r q) = Ideal.rsqrt (Norm.mean (fun k => (pre x0 x1 x2 x3 x4 x5 x6 r k - Norm.mean (pre x0 x1 x2 x3 x4 x5 x6 r)) * (pre x0 x1 x2 x3 x4 x5 x6 r k - Norm.mean (pre x0 x1 x2 x3 x4 x5 x6 r)))
      + Ideal.ofBits .f32 0x3727C5AC#32) := by
    rw [val_main_v44_apply, val_main_v43_apply, val_main_v42_apply, val_main_v41_apply]
    refine congrArg (fun z => Ideal.rsqrt (z + Ideal.ofBits .f32 0x3727C5AC#32)) ((congrArg _ (funext fun a => Fin.ext ?_)).trans (variance_eq x0 x1 x2 x3 x4 x5 x6 r))
    match a with
    | ⟨0, _⟩ => rfl
    | ⟨1, _⟩ => rfl
  have hg : val_main_v47 (F := Ideal) x7 (ix2 r q) = x7 (ix1 q) := by
    rw [val_main_v47_apply, val_main_v46_apply]
    refine congrArg x7 (funext fun a => Fin.ext ?_)
    match a with
    | ⟨0, _⟩ => rfl
  have hb : val_main_v50 (F := Ideal) x8 (ix2 r q) = x8 (ix1 q) := by
    rw [val_main_v50_apply, val_main_v49_apply]
    refine congrArg x8 (funext fun a => Fin.ext ?_)
    match a with
    | ⟨0, _⟩ => rfl
  rw [val_main_v51_apply, val_main_v48_apply, val_main_v45_apply, val_main_v40_apply, hp, hm, hv, hg, hb]
  rfl

theorem result_eq : val_main_v51 (F := Ideal) x0 x1 x2 x3 x4 x5 x6 x7 x8 = G x0 x1 x2 x3 x4 x5 x6 x7 x8 :=
  funext fun i => (congrArg _ (funext fun a => Fin.ext (by
    match a with
    | ⟨0, _⟩ => rfl
    | ⟨1, _⟩ => rfl))).trans ((reference_eq x0 x1 x2 x3 x4 x5 x6 x7 x8 (i 0) (i 1)).trans (congrArg (G x0 x1 x2 x3 x4 x5 x6 x7 x8) (funext fun a => Fin.ext (by
      match a with
      | ⟨0, _⟩ => rfl
      | ⟨1, _⟩ => rfl))))

end Cert.Proof.PeerRef

end
-- ==== Proof.PeerBlk.lean ====
/- Program 9: the blocks the kernel's points read, as entries of the arguments. -/
module

public import proofs.«01_k».proof.Proof.PeerBuf
public import proofs.«01_k».proof.Proof.PeerRef
public import proofs.«01_k».proof.Proof.Gen.Kernel9Ideal.Frame
public import Idealize.ShloMosaic.Lib.Pipeline.ValueKit
public import Idealize.ShloMosaic.Lib.Pointwise

@[expose] public section

set_option maxRecDepth 16384

noncomputable section

namespace Cert.Kernel9Ideal.Blocks

open Idealize.ShloMosaic Idealize.ShloMosaic.TcCoe Idealize.SL.Sem Cert.Kernel9Ideal Cert.Kernel9Ideal.Gen Cert.Peer
open Cert.Proof

/-- A row of 2048 entries laid out as one row of a matrix. -/
theorem reshaped (y : S2048.Idx → EReal) (h : S2048.ShapeCasts S1x2048) (q : Fin 2048) : shapeCast S1x2048 y h (ix2 0 q) = y (ix1 q) := by
  pointwise []

variable (m : (ℓ : Loc nD τ sig) → Buf (Elt Ideal) ℓ) (c : Dev nD)

abbrev ups (i : S16384x2048.Idx) : EReal := m ((c : Thread nD τ).loc main_arg0) i
abbrev downs (i : S16384x2048.Idx) : EReal := m ((c : Thread nD τ).loc main_arg1) i
abbrev num1 (i : S8x128x32768.Idx) : EReal := m ((c : Thread nD τ).loc main_arg2) i
abbrev wgt1 (i : S8x128x32768.Idx) : EReal := m ((c : Thread nD τ).loc main_arg3) i
abbrev rank2 (i : S8x128x32768.Idx) : EReal := m ((c : Thread nD τ).loc main_arg4) i
abbrev wgt2 (i : S8x128x32768.Idx) : EReal := m ((c : Thread nD τ).loc main_arg5) i
abbrev tokens (i : S32768x2048.Idx) : EReal := m ((c : Thread nD τ).loc main_arg6) i
abbrev gain (i : S2048.Idx) : EReal := m ((c : Thread nD τ).loc main_arg7) i
abbrev bias (i : S2048.Idx) : EReal := m ((c : Thread nD τ).loc main_arg8) i

theorem entry_0 (i : S16384x2048.Idx) : V m c main_v0 i = ups m c i := by
  entry_read
  rfl
theorem entry_1 (i : S16384x2048.Idx) : V m c main_v1 i = downs m c i := by
  entry_read
  rfl
theorem entry_2 (i : S8x128x32768.Idx) : V m c main_arg2 i = num1 m c i := by
  rw [V_main_arg2]
theorem entry_3 (i : S8x128x32768.Idx) : V m c main_arg3 i = wgt1 m c i := by
  rw [V_main_arg3]
theorem entry_4 (i : S8x128x32768.Idx) : V m c main_v2 i = rank2 m c i := by
  entry_read
  rfl
theorem entry_5 (i : S8x128x32768.Idx) : V m c main_v3 i = wgt2 m c i := by
  entry_read
  rfl
theorem entry_6 (i : S32768x2048.Idx) : V m c main_arg6 i = tokens m c i := by
  rw [V_main_arg6]
theorem entry_7 (q : Fin 2048) : V m c main_v4 (ix2 0 q) = gain m c (ix1 q) := by
  entry_read
  exact reshaped (m ((c : Thread nD τ).loc main_arg7)) shapeCasts_S2048_S1x2048 q
theorem entry_8 (q : Fin 2048) : V m c main_v5 (ix2 0 q) = bias m c (ix1 q) := by
  entry_read
  exact reshaped (m ((c : Thread nD τ).loc main_arg8)) shapeCasts_S2048_S1x2048 q

/-- The step within a run of tokens is a point's second coordinate. -/
theorem step : ∀ t : Fin cfg0.N, (grid0.coords t 1).val = t.val % 17 :=
  (by decide +kernel : ∀ t : Fin grid0.N, _)
/-- The block index of each window at a grid point. -/
theorem widx0 : ∀ t : Fin cfg0.N, win0_0.index t 0 = min (t.val % 17) 15 ∧ win0_0.index t 1 = 0 :=
  (by decide +kernel : ∀ t : Fin grid0.N, _)
theorem widx1 : ∀ t : Fin cfg0.N, win0_1.index t 0 = t.val % 17 - 1 ∧ win0_1.index t 1 = 0 :=
  (by decide +kernel : ∀ t : Fin grid0.N, _)
theorem widx6 : ∀ t : Fin cfg0.N, win0_6.index t 0 = t.val / 17 ∧ win0_6.index t 1 = 0 :=
  (by decide +kernel : ∀ t : Fin grid0.N, _)
theorem widx7 : ∀ t : Fin cfg0.N, (win0_7.index t 0 = 0 ∧ win0_7.index t 1 = 0) ∧ (win0_8.index t 0 = 0 ∧ win0_8.index t 1 = 0) :=
  (by decide +kernel : ∀ t : Fin grid0.N, _)
theorem widx9 : ∀ t : Fin cfg0.N, (win0_9.index t 0 = t.val / 17 ∧ win0_9.index t 1 = 0) ∧ (win0_10.index t 0 = t.val / 17 ∧ win0_10.index t 1 = 0) :=
  (by decide +kernel : ∀ t : Fin grid0.N, _)
theorem widx2 : ∀ t : Fin cfg0.N, win0_2.index t 0 = 0 ∧ win0_2.index t 1 = 0 ∧ win0_2.index t 2 = t.val / 17 :=
  (by decide +kernel : ∀ t : Fin grid0.N, _)
theorem widx3 : ∀ t : Fin cfg0.N, win0_3.index t 0 = 0 ∧ win0_3.index t 1 = 0 ∧ win0_3.index t 2 = t.val / 17 :=
  (by decide +kernel : ∀ t : Fin grid0.N, _)
theorem widx4 : ∀ t : Fin cfg0.N, win0_4.index t 0 = 0 ∧ win0_4.index t 1 = 0 ∧ win0_4.index t 2 = t.val / 17 :=
  (by decide +kernel : ∀ t : Fin grid0.N, _)
theorem widx5 : ∀ t : Fin cfg0.N, win0_5.index t 0 = 0 ∧ win0_5.index t 1 = 0 ∧ win0_5.index t 2 = t.val / 17 :=
  (by decide +kernel : ∀ t : Fin grid0.N, _)

theorem blk0 (t : Fin cfg0.N) (p : Fin 1024) (k : Fin 2048) (e : Fin 16384) (he : e.val = min (t.val % 17) 15 * 1024 + p.val) :
    iblk m c 0 t (ix2 p k) = ups m c (ix2 e k) := by
  obtain ⟨ha, hb⟩ := widx0 t
  unfold iblk
  rw [View.read_apply]
  refine (entry_0 m c _).trans (congrArg (ups m c) (funext fun a => Fin.ext ?_))
  match a with
  | ⟨0, _⟩ => blk_simp [ha, hb, he]
  | ⟨1, _⟩ => blk_simp [ha, hb]

theorem blk1 (t : Fin cfg0.N) (p : Fin 1024) (k : Fin 2048) (e : Fin 16384) (he : e.val = (t.val % 17 - 1) * 1024 + p.val) :
    iblk m c 1 t (ix2 p k) = downs m c (ix2 e k) := by
  obtain ⟨ha, hb⟩ := widx1 t
  unfold iblk
  rw [View.read_apply]
  refine (entry_1 m c _).trans (congrArg (downs m c) (funext fun a => Fin.ext ?_))
  match a with
  | ⟨0, _⟩ => blk_simp [ha, hb, he]
  | ⟨1, _⟩ => blk_simp [ha, hb]

theorem blk2 (t : Fin cfg0.N) (h : Fin 8) (k : Fin 128) (p : Fin 512) (r : Fin 32768) (hr : r.val = t.val / 17 * 512 + p.val) :
    iblk m c 2 t (ix3 h k p) = num1 m c (ix3 h k r) := by
  obtain ⟨ha, hb, hd⟩ := widx2 t
  unfold iblk
  rw [View.read_apply]
  refine (entry_2 m c _).trans (congrArg (num1 m c) (funext fun a => Fin.ext ?_))
  match a with
  | ⟨0, _⟩ => blk_simp [ha, hb, hd]
  | ⟨1, _⟩ => blk_simp [ha, hb, hd]
  | ⟨2, _⟩ => blk_simp [ha, hb, hd, hr]

theorem blk3 (t : Fin cfg0.N) (h : Fin 8) (k : Fin 128) (p : Fin 512) (r : Fin 32768) (hr : r.val = t.val / 17 * 512 + p.val) :
    iblk m c 3 t (ix3 h k p) = wgt1 m c (ix3 h k r) := by
  obtain ⟨ha, hb, hd⟩ := widx3 t
  unfold iblk
  rw [View.read_apply]
  refine (entry_3 m c _).trans (congrArg (wgt1 m c) (funext fun a => Fin.ext ?_))
  match a with
  | ⟨0, _⟩ => blk_simp [ha, hb, hd]
  | ⟨1, _⟩ => blk_simp [ha, hb, hd]
  | ⟨2, _⟩ => blk_simp [ha, hb, hd, hr]

theorem blk4 (t : Fin cfg0.N) (h : Fin 8) (k : Fin 128) (p : Fin 512) (r : Fin 32768) (hr : r.val = t.val / 17 * 512 + p.val) :
    iblk m c 4 t (ix3 h k p) = rank2 m c (ix3 h k r) := by
  obtain ⟨ha, hb, hd⟩ := widx4 t
  unfold iblk
  rw [View.read_apply]
  refine (entry_4 m c _).trans (congrArg (rank2 m c) (funext fun a => Fin.ext ?_))
  match a with
  | ⟨0, _⟩ => blk_simp [ha, hb, hd]
  | ⟨1, _⟩ => blk_simp [ha, hb, hd]
  | ⟨2, _⟩ => blk_simp [ha, hb, hd, hr]

theorem blk5 (t : Fin cfg0.N) (h : Fin 8) (k : Fin 128) (p : Fin 512) (r : Fin 32768) (hr : r.val = t.val / 17 * 512 + p.val) :
    iblk m c 5 t (ix3 h k p) = wgt2 m c (ix3 h k r) := by
  obtain ⟨ha, hb, hd⟩ := widx5 t
  unfold iblk
  rw [View.read_apply]
  refine (entry_5 m c _).trans (congrArg (wgt2 m c) (funext fun a => Fin.ext ?_))
  match a with
  | ⟨0, _⟩ => blk_simp [ha, hb, hd]
  | ⟨1, _⟩ => blk_simp [ha, hb, hd]
  | ⟨2, _⟩ => blk_simp [ha, hb, hd, hr]

theorem blk6 (t : Fin cfg0.N) (p : Fin 512) (k : Fin 2048) (r : Fin 32768) (hr : r.val = t.val / 17 * 512 + p.val) :
    iblk m c 6 t (ix2 p k) = tokens m c (ix2 r k) := by
  obtain ⟨ha, hb⟩ := widx6 t
  unfold iblk
  rw [View.read_apply]
  refine (entry_6 m c _).trans (congrArg (tokens m c) (funext fun a => Fin.ext ?_))
  match a with
  | ⟨0, _⟩ => blk_simp [ha, hb, hr]
  | ⟨1, _⟩ => blk_simp [ha, hb]

theorem blk7 (t : Fin cfg0.N) (q : Fin 2048) : iblk m c 7 t (ix2 0 q) = gain m c (ix1 q) := by
  obtain ⟨⟨ha, hb⟩, -⟩ := widx7 t
  unfold iblk
  rw [View.read_apply]
  refine Eq.trans (congrArg (V m c main_v4) (funext fun a => Fin.ext ?_)) (entry_7 m c q)
  match a with
  | ⟨0, _⟩ => blk_simp [ha, hb]
  | ⟨1, _⟩ => blk_simp [ha, hb]

theorem blk8 (t : Fin cfg0.N) (q : Fin 2048) : iblk m c 8 t (ix2 0 q) = bias m c (ix1 q) := by
  obtain ⟨-, ⟨ha, hb⟩⟩ := widx7 t
  unfold iblk
  rw [View.read_apply]
  refine Eq.trans (congrArg (V m c main_v5) (funext fun a => Fin.ext ?_)) (entry_8 m c q)
  match a with
  | ⟨0, _⟩ => blk_simp [ha, hb]
  | ⟨1, _⟩ => blk_simp [ha, hb]

end Cert.Kernel9Ideal.Blocks

end
-- ==== Proof.PeerOff.lean ====
/- Program 9: where the kernel's dynamic loads stand. -/
module

public import proofs.«01_k».proof.Proof.PeerBuf

@[expose] public section

set_option maxRecDepth 16384

noncomputable section

namespace Cert.Kernel9Ideal.Blocks

open Idealize.ShloMosaic Idealize.ShloMosaic.TcCoe Idealize.SL.Sem Cert.Kernel9Ideal Cert.Kernel9Ideal.Gen Cert.Peer

/-- The first expert row of a group of 512 experts: twice the step's number, one more or less. -/
abbrev rowWord (g : Fin 17) (a b : BitVec 32) (s : Fin 4) : BitVec 32 :=
  Scalar.indexCast (Scalar.addi (Scalar.muli (Scalar.subi (Scalar.addi (Scalar.muli 2#32 (BitVec.ofNat 32 g.val)) a) b) 4#32) (BitVec.ofNat 32 s.val))

theorem word_lower : ∀ (g : Fin 17) (s : Fin 4), 1 ≤ g.val → (rowWord g 0#32 1#32 s).toNat = 8 * g.val - 4 + s.val := by decide +kernel
theorem word_upper : ∀ (g : Fin 17) (s : Fin 4), (rowWord g 1#32 1#32 s).toNat = 8 * g.val + s.val := by decide +kernel

variable (i : grid0.Coords) (s : Fin 4) (h : Fin 8)

/-- The offsets of the eight loads of a row of experts. -/
def offA : Fin 3 → ℕ :=
  ![k0_off1 i (BitVec.ofNat 32 s.val), k0_off2 i (BitVec.ofNat 32 s.val), k0_off3 i (BitVec.ofNat 32 s.val), k0_off4 i (BitVec.ofNat 32 s.val), k0_off5 i (BitVec.ofNat 32 s.val), k0_off6 i (BitVec.ofNat 32 s.val), k0_off7 i (BitVec.ofNat 32 s.val), k0_off8 i (BitVec.ofNat 32 s.val)] h

theorem offA_val : offA i s h = ![h.val, 8 * (i 1).val + s.val, 0] := by
  have e := word_upper (i 1) s
  refine Eq.trans ?_ (congrArg (fun n => ![h.val, n, 0]) e)
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem offA_inb (hl : 8 * (i 1).val + s.val < 128) (a : Fin 3) : offA i s h a + (![1, 1, 512] : Fin 3 → ℕ) a ≤ S8x128x512.size a := by
  rw [offA_val i s h]
  have hh := h.isLt
  match a with
  | ⟨0, _⟩ => show h.val + 1 ≤ 8; omega
  | ⟨1, _⟩ => show 8 * (i 1).val + s.val + 1 ≤ 128; omega
  | ⟨2, _⟩ => show 0 + 512 ≤ 512; omega

/-- The offsets of the eight loads of a row of experts. -/
def offB0 : Fin 3 → ℕ :=
  ![k0_off9 i (BitVec.ofNat 32 s.val), k0_off10 i (BitVec.ofNat 32 s.val), k0_off11 i (BitVec.ofNat 32 s.val), k0_off12 i (BitVec.ofNat 32 s.val), k0_off13 i (BitVec.ofNat 32 s.val), k0_off14 i (BitVec.ofNat 32 s.val), k0_off15 i (BitVec.ofNat 32 s.val), k0_off16 i (BitVec.ofNat 32 s.val)] h

theorem offB0_val (hg : 1 ≤ (i 1).val) : offB0 i s h = ![h.val, 8 * (i 1).val - 4 + s.val, 0] := by
  have e := word_lower (i 1) s hg
  refine Eq.trans ?_ (congrArg (fun n => ![h.val, n, 0]) e)
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem offB0_inb (hg : 1 ≤ (i 1).val) (hl : 8 * (i 1).val - 4 + s.val < 128) (a : Fin 3) : offB0 i s h a + (![1, 1, 512] : Fin 3 → ℕ) a ≤ S8x128x512.size a := by
  rw [offB0_val i s h hg]
  have hh := h.isLt
  match a with
  | ⟨0, _⟩ => show h.val + 1 ≤ 8; omega
  | ⟨1, _⟩ => show 8 * (i 1).val - 4 + s.val + 1 ≤ 128; omega
  | ⟨2, _⟩ => show 0 + 512 ≤ 512; omega

/-- The offsets of the eight loads of a row of experts. -/
def offB1 : Fin 3 → ℕ :=
  ![k0_off17 i (BitVec.ofNat 32 s.val), k0_off18 i (BitVec.ofNat 32 s.val), k0_off19 i (BitVec.ofNat 32 s.val), k0_off20 i (BitVec.ofNat 32 s.val), k0_off21 i (BitVec.ofNat 32 s.val), k0_off22 i (BitVec.ofNat 32 s.val), k0_off23 i (BitVec.ofNat 32 s.val), k0_off24 i (BitVec.ofNat 32 s.val)] h

theorem offB1_val : offB1 i s h = ![h.val, 8 * (i 1).val + s.val, 0] := by
  have e := word_upper (i 1) s
  refine Eq.trans ?_ (congrArg (fun n => ![h.val, n, 0]) e)
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem offB1_inb (hl : 8 * (i 1).val + s.val < 128) (a : Fin 3) : offB1 i s h a + (![1, 1, 512] : Fin 3 → ℕ) a ≤ S8x128x512.size a := by
  rw [offB1_val i s h]
  have hh := h.isLt
  match a with
  | ⟨0, _⟩ => show h.val + 1 ≤ 8; omega
  | ⟨1, _⟩ => show 8 * (i 1).val + s.val + 1 ≤ 128; omega
  | ⟨2, _⟩ => show 0 + 512 ≤ 512; omega

/-- The offsets of the eight loads of a row of experts. -/
def offC : Fin 3 → ℕ :=
  ![k0_off25 i (BitVec.ofNat 32 s.val), k0_off26 i (BitVec.ofNat 32 s.val), k0_off27 i (BitVec.ofNat 32 s.val), k0_off28 i (BitVec.ofNat 32 s.val), k0_off29 i (BitVec.ofNat 32 s.val), k0_off30 i (BitVec.ofNat 32 s.val), k0_off31 i (BitVec.ofNat 32 s.val), k0_off32 i (BitVec.ofNat 32 s.val)] h

theorem offC_val (hg : 1 ≤ (i 1).val) : offC i s h = ![h.val, 8 * (i 1).val - 4 + s.val, 0] := by
  have e := word_lower (i 1) s hg
  refine Eq.trans ?_ (congrArg (fun n => ![h.val, n, 0]) e)
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

theorem offC_inb (hg : 1 ≤ (i 1).val) (hl : 8 * (i 1).val - 4 + s.val < 128) (a : Fin 3) : offC i s h a + (![1, 1, 512] : Fin 3 → ℕ) a ≤ S8x128x512.size a := by
  rw [offC_val i s h hg]
  have hh := h.isLt
  match a with
  | ⟨0, _⟩ => show h.val + 1 ≤ 8; omega
  | ⟨1, _⟩ => show 8 * (i 1).val - 4 + s.val + 1 ≤ 128; omega
  | ⟨2, _⟩ => show 0 + 512 ≤ 512; omega

theorem rowInb (a : Fin 2) : (![128 * s.val, 0] : Fin 2 → ℕ) a + (![128, 512] : Fin 2 → ℕ) a ≤ S512x512.size a := by
  have hs := s.isLt
  match a with
  | ⟨0, _⟩ => show 128 * s.val + 128 ≤ 512; omega
  | ⟨1, _⟩ => show 0 + 512 ≤ 512; omega

theorem headInb (a : Fin 3) : (![h.val, 0, 0] : Fin 3 → ℕ) a + (![1, 128, 512] : Fin 3 → ℕ) a ≤ S8x128x512.size a := by
  have hh := h.isLt
  match a with
  | ⟨0, _⟩ => show h.val + 1 ≤ 8; omega
  | ⟨1, _⟩ => show 0 + 128 ≤ 128; omega
  | ⟨2, _⟩ => show 0 + 512 ≤ 512; omega

end Cert.Kernel9Ideal.Blocks

end
-- ==== Proof.PeerRunA.lean ====
/- Program 9: the stores of a first step. -/
module

public import proofs.«01_k».proof.Proof.PeerOff
public import proofs.«01_k».proof.Proof.Gen.Kernel9Ideal.Frame.RunA

@[expose] public section

set_option maxRecDepth 16384

noncomputable section

namespace Cert.Kernel9Ideal.Blocks

open Idealize.ShloMosaic Idealize.ShloMosaic.TcCoe Idealize.SL.Sem Cert.Kernel9Ideal Cert.Kernel9Ideal.Gen Cert.Peer

variable {c : Dev nD} {i : grid0.Coords} {arg2 : Memref sig .tc .vmem S1024x2048 .bf16} {harg2 : arg2.IsWhole} {arg3 : Memref sig .tc .vmem S1024x2048 .bf16} {harg3 : arg3.IsWhole} {arg4 : Memref sig .tc .vmem S8x128x512 .f32} {harg4 : arg4.IsWhole} {arg5 : Memref sig .tc .vmem S8x128x512 .f32} {harg5 : arg5.IsWhole} {arg6 : Memref sig .tc .vmem S8x128x512 .bf16} {harg6 : arg6.IsWhole} {arg7 : Memref sig .tc .vmem S8x128x512 .bf16} {harg7 : arg7.IsWhole} {arg8 : Memref sig .tc .vmem S512x2048 .f32} {harg8 : arg8.IsWhole} {arg9 : Memref sig .tc .vmem S1x2048 .f32} {harg9 : arg9.IsWhole} {arg10 : Memref sig .tc .vmem S1x2048 .f32} {harg10 : arg10.IsWhole} {arg11 : Memref sig .tc .vmem S512x2048 .f32} {harg11 : arg11.IsWhole} {arg12 : Memref sig .tc .vmem S512x2048 .bf16} {harg12 : arg12.IsWhole} {arg13 : Memref sig .tc .vmem S2048x512 .bf16} {harg13 : arg13.IsWhole} {arg14 : Memref sig .tc .vmem S512x512 .f32} {harg14 : arg14.IsWhole} {arg15 : Memref sig .tc .vmem S512x512 .f32} {harg15 : arg15.IsWhole} {arg16 : Memref sig .tc .vmem S512x512 .bf16} {harg16 : arg16.IsWhole} {arg17 : Memref sig .tc .vmem S512x512 .bf16} {harg17 : arg17.IsWhole} {hc0 : cond0_0 i} {hc1 : cond0_1 i} {hc2 : cond0_2 i} {hc3 : ¬cond0_3 i} {hc4 : ¬cond0_4 i} {hc5 : ¬cond0_5 i} {hc6 : ¬cond0_6 i} {hc7 : ¬cond0_7 i}
    {x0 : Vec Ideal S1024x2048 .bf16} {x1 : Vec Ideal S1024x2048 .bf16} {x2 : Vec Ideal S8x128x512 .f32} {x3 : Vec Ideal S8x128x512 .f32} {x4 : Vec Ideal S8x128x512 .bf16} {x5 : Vec Ideal S8x128x512 .bf16} {x6 : Vec Ideal S512x2048 .f32} {x7 : Vec Ideal S1x2048 .f32} {x8 : Vec Ideal S1x2048 .f32}

/-- A block of tokens, turned. -/
def turned (X : Vec Ideal S512x256 .f32) : FVec Ideal S256x512 .bf16 := k0_pay15 X

theorem turned_apply (X : Vec Ideal S512x256 .f32) (d : Fin 256) (t : Fin 512) : turned X (ix2 d t) = X (ix2 t d) := by
  pointwise [turned, k0_pay15]

theorem zero_apply (p : Fin 512) (q : Fin 2048) : k0_pay14 (F := Ideal) (ix2 p q) = 0 := by
  pointwise [k0_pay14]
  try exact Ideal.ofBits_zero_f32

theorem xtA_eq : (kernelRun0_A.sl.HS0_8 (F := Ideal) c arg8 harg8 x6) = [⟨Rect.unit (s := S2048x512) ![1792, 0] ![256, 512] inb_S2048x512_S256x512_1792_0, turned (View.readAt (Elt Ideal) arg8.view (Rect.unit (s := S512x2048) ![0, 1792] ![512, 256] inb_S512x2048_S512x256_0_1792).toLoadRect (harg8.unread x6))⟩,
      ⟨Rect.unit (s := S2048x512) ![1536, 0] ![256, 512] inb_S2048x512_S256x512_1536_0, turned (View.readAt (Elt Ideal) arg8.view (Rect.unit (s := S512x2048) ![0, 1536] ![512, 256] inb_S512x2048_S512x256_0_1536).toLoadRect (harg8.unread x6))⟩,
      ⟨Rect.unit (s := S2048x512) ![1280, 0] ![256, 512] inb_S2048x512_S256x512_1280_0, turned (View.readAt (Elt Ideal) arg8.view (Rect.unit (s := S512x2048) ![0, 1280] ![512, 256] inb_S512x2048_S512x256_0_1280).toLoadRect (harg8.unread x6))⟩,
      ⟨Rect.unit (s := S2048x512) ![1024, 0] ![256, 512] inb_S2048x512_S256x512_1024_0, turned (View.readAt (Elt Ideal) arg8.view (Rect.unit (s := S512x2048) ![0, 1024] ![512, 256] inb_S512x2048_S512x256_0_1024).toLoadRect (harg8.unread x6))⟩,
      ⟨Rect.unit (s := S2048x512) ![768, 0] ![256, 512] inb_S2048x512_S256x512_768_0, turned (View.readAt (Elt Ideal) arg8.view (Rect.unit (s := S512x2048) ![0, 768] ![512, 256] inb_S512x2048_S512x256_0_768).toLoadRect (harg8.unread x6))⟩,
      ⟨Rect.unit (s := S2048x512) ![512, 0] ![256, 512] inb_S2048x512_S256x512_512_0, turned (View.readAt (Elt Ideal) arg8.view (Rect.unit (s := S512x2048) ![0, 512] ![512, 256] inb_S512x2048_S512x256_0_512).toLoadRect (harg8.unread x6))⟩,
      ⟨Rect.unit (s := S2048x512) ![256, 0] ![256, 512] inb_S2048x512_S256x512_256_0, turned (View.readAt (Elt Ideal) arg8.view (Rect.unit (s := S512x2048) ![0, 256] ![512, 256] inb_S512x2048_S512x256_0_256).toLoadRect (harg8.unread x6))⟩,
      ⟨Rect.unit (s := S2048x512) ![0, 0] ![256, 512] inb_S2048x512_S256x512_0_0, turned (View.readAt (Elt Ideal) arg8.view (Rect.unit (s := S512x2048) ![0, 0] ![512, 256] inb_S512x2048_S512x256_0_0).toLoadRect (harg8.unread x6))⟩] := rfl

/-- The transposed tokens. -/
theorem xtA (d : Fin 2048) (t : Fin 512) : View.canon (kernelRun0_A.sl.HS0_8 (F := Ideal) c arg8 harg8 x6) (ix2 d t) = x6 (ix2 t d) := by
  rw [xtA_eq]
  by_cases h7 : 1792 ≤ d.val
  · rw [canon_hit _ _ _ _ _ (by omega) (by omega) (by omega) (by omega), turned_apply]
    exact ld2' arg8 harg8 x6 inb_S512x2048_S512x256_0_1792 ⟨t.val - 0, by omega⟩ ⟨d.val - 1792, by omega⟩ _ _ (by show t.val = 0 + (t.val - 0); omega) (by show d.val = 1792 + (d.val - 1792); omega)
  rw [canon_miss _ _ _ _ _ (by omega)]
  by_cases h6 : 1536 ≤ d.val
  · rw [canon_hit _ _ _ _ _ (by omega) (by omega) (by omega) (by omega), turned_apply]
    exact ld2' arg8 harg8 x6 inb_S512x2048_S512x256_0_1536 ⟨t.val - 0, by omega⟩ ⟨d.val - 1536, by omega⟩ _ _ (by show t.val = 0 + (t.val - 0); omega) (by show d.val = 1536 + (d.val - 1536); omega)
  rw [canon_miss _ _ _ _ _ (by omega)]
  by_cases h5 : 1280 ≤ d.val
  · rw [canon_hit _ _ _ _ _ (by omega) (by omega) (by omega) (by omega), turned_apply]
    exact ld2' arg8 harg8 x6 inb_S512x2048_S512x256_0_1280 ⟨t.val - 0, by omega⟩ ⟨d.val - 1280, by omega⟩ _ _ (by show t.val = 0 + (t.val - 0); omega) (by show d.val = 1280 + (d.val - 1280); omega)
  rw [canon_miss _ _ _ _ _ (by omega)]
  by_cases h4 : 1024 ≤ d.val
  · rw [canon_hit _ _ _ _ _ (by omega) (by omega) (by omega) (by omega), turned_apply]
    exact ld2' arg8 harg8 x6 inb_S512x2048_S512x256_0_1024 ⟨t.val - 0, by omega⟩ ⟨d.val - 1024, by omega⟩ _ _ (by show t.val = 0 + (t.val - 0); omega) (by show d.val = 1024 + (d.val - 1024); omega)
  rw [canon_miss _ _ _ _ _ (by omega)]
  by_cases h3 : 768 ≤ d.val
  · rw [canon_hit _ _ _ _ _ (by omega) (by omega) (by omega) (by omega), turned_apply]
    exact ld2' arg8 harg8 x6 inb_S512x2048_S512x256_0_768 ⟨t.val - 0, by omega⟩ ⟨d.val - 768, by omega⟩ _ _ (by show t.val = 0 + (t.val - 0); omega) (by show d.val = 768 + (d.val - 768); omega)
  rw [canon_miss _ _ _ _ _ (by omega)]
  by_cases h2 : 512 ≤ d.val
  · rw [canon_hit _ _ _ _ _ (by omega) (by omega) (by omega) (by omega), turned_apply]
    exact ld2' arg8 harg8 x6 inb_S512x2048_S512x256_0_512 ⟨t.val - 0, by omega⟩ ⟨d.val - 512, by omega⟩ _ _ (by show t.val = 0 + (t.val - 0); omega) (by show d.val = 512 + (d.val - 512); omega)
  rw [canon_miss _ _ _ _ _ (by omega)]
  by_cases h1 : 256 ≤ d.val
  · rw [canon_hit _ _ _ _ _ (by omega) (by omega) (by omega) (by omega), turned_apply]
    exact ld2' arg8 harg8 x6 inb_S512x2048_S512x256_0_256 ⟨t.val - 0, by omega⟩ ⟨d.val - 256, by omega⟩ _ _ (by show t.val = 0 + (t.val - 0); omega) (by show d.val = 256 + (d.val - 256); omega)
  rw [canon_miss _ _ _ _ _ (by omega)]
  by_cases h0 : 0 ≤ d.val
  · rw [canon_hit _ _ _ _ _ (by omega) (by omega) (by omega) (by omega), turned_apply]
    exact ld2' arg8 harg8 x6 inb_S512x2048_S512x256_0_0 ⟨t.val - 0, by omega⟩ ⟨d.val - 0, by omega⟩ _ _ (by show t.val = 0 + (t.val - 0); omega) (by show d.val = 0 + (d.val - 0); omega)
  exact absurd (Nat.zero_le _) h0

/-- The output starts at zero. -/
theorem outA (p : Fin 512) (q : Fin 2048) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8).1 (ix2 p q) = 0 := by
  show View.canon ([⟨Rect.unit (s := S512x2048) ![0, 0] ![512, 2048] inb_S512x2048_S512x2048_0_0, k0_pay14 (F := Ideal)⟩] : List (View.Piece (Elt Ideal) S512x2048 .f32)) (ix2 p q) = 0
  rw [canon_hit _ _ _ _ _ (by omega) (by omega) (by omega) (by omega)]
  exact zero_apply _ _

theorem stA_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8).2.2.1 = (kernelRun0_A.sl.HS0_8 (F := Ideal) c arg8 harg8 x6) := rfl

theorem act0A_eq : (kernelRun0_A.sl.HS1_2 (F := Ideal) c arg2 harg2 arg8 harg8 arg13 x0 x6) = actPieces (View.readAt (Elt Ideal) arg2.view (Rect.unit (s := S1024x2048) ![0, 0] ![512, 2048] inb_S1024x2048_S512x2048_0_0).toLoadRect (harg2.unread x0)) (arg13.view.readCov (kernelRun0_A.sl.HS0_8 (F := Ideal) c arg8 harg8 x6) (Rect.unit (s := S2048x512) ![0, 0] ![2048, 256] inb_S2048x512_S2048x256_0_0).toLoadRect) (arg13.view.readCov (kernelRun0_A.sl.HS0_8 (F := Ideal) c arg8 harg8 x6) (Rect.unit (s := S2048x512) ![0, 256] ![2048, 256] inb_S2048x512_S2048x256_0_256).toLoadRect) := rfl

/-- The activations of the first expert group. -/
theorem act0A (r t : Fin 512) : View.canon (kernelRun0_A.sl.HS1_2 (F := Ideal) c arg2 harg2 arg8 harg8 arg13 x0 x6) (ix2 r t) = ∑ d : Fin 2048, x0 (ix2 ⟨r.val, by omega⟩ d) * x6 (ix2 t d) := by
  rw [act0A_eq]
  refine (actPieces_canon _ _ _ (fun k => x6 (ix2 (k 1) (k 0))) (fun d t => (cov2' arg13.view _ inb_S2048x512_S2048x256_0_0 d t _ _ (Nat.zero_add _).symm (Nat.zero_add _).symm).trans (xtA _ _))
    (fun d t => (cov2' arg13.view _ inb_S2048x512_S2048x256_0_256 d t _ _ (Nat.zero_add _).symm rfl).trans (xtA _ _)) r t).trans ?_
  exact Finset.sum_congr rfl fun d _ => congrArg (· * _) (ld2' arg2 harg2 x0 inb_S1024x2048_S512x2048_0_0 r d _ _ (Nat.zero_add _).symm (Nat.zero_add _).symm)

theorem act1A_eq : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8).2.2.2.1 = actPieces (View.readAt (Elt Ideal) arg2.view (Rect.unit (s := S1024x2048) ![512, 0] ![512, 2048] inb_S1024x2048_S512x2048_512_0).toLoadRect (harg2.unread x0)) (arg13.view.readCov (kernelRun0_A.sl.HS0_8 (F := Ideal) c arg8 harg8 x6) (Rect.unit (s := S2048x512) ![0, 0] ![2048, 256] inb_S2048x512_S2048x256_0_0).toLoadRect) (arg13.view.readCov (kernelRun0_A.sl.HS0_8 (F := Ideal) c arg8 harg8 x6) (Rect.unit (s := S2048x512) ![0, 256] ![2048, 256] inb_S2048x512_S2048x256_0_256).toLoadRect) := rfl

/-- The activations of the second expert group. -/
theorem act1A (r t : Fin 512) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8).2.2.2.1 (ix2 r t) = ∑ d : Fin 2048, x0 (ix2 ⟨512 + r.val, by omega⟩ d) * x6 (ix2 t d) := by
  rw [act1A_eq]
  refine (actPieces_canon _ _ _ (fun k => x6 (ix2 (k 1) (k 0))) (fun d t => (cov2' arg13.view _ inb_S2048x512_S2048x256_0_0 d t _ _ (Nat.zero_add _).symm (Nat.zero_add _).symm).trans (xtA _ _))
    (fun d t => (cov2' arg13.view _ inb_S2048x512_S2048x256_0_256 d t _ _ (Nat.zero_add _).symm rfl).trans (xtA _ _)) r t).trans ?_
  exact Finset.sum_congr rfl fun d _ => congrArg (· * _) (ld2' arg2 harg2 x0 inb_S1024x2048_S512x2048_512_0 r d _ _ rfl (Nat.zero_add _).symm)

theorem hid0A_eq (hg2 : (i 1).val ≤ 15) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8).2.2.2.2.1 = hidPieces
      (fun s h => View.readAt (Elt Ideal) arg4.view (Rect.unit (s := S8x128x512) (offA i s h) ![1, 1, 512] (offA_inb i s h (by omega))).toLoadRect (harg4.unread x2))
      (fun s h => View.readAt (Elt Ideal) arg5.view (Rect.unit (s := S8x128x512) (offA i s h) ![1, 1, 512] (offA_inb i s h (by omega))).toLoadRect (harg5.unread x3))
      (fun h => View.readAt (Elt Ideal) arg6.view (Rect.unit (s := S8x128x512) ![h.val, 0, 0] ![1, 128, 512] (headInb h)).toLoadRect (harg6.unread x4))
      (fun h => View.readAt (Elt Ideal) arg7.view (Rect.unit (s := S8x128x512) ![h.val, 0, 0] ![1, 128, 512] (headInb h)).toLoadRect (harg7.unread x5))
      (fun s => arg14.view.readCov (kernelRun0_A.sl.HS1_2 (F := Ideal) c arg2 harg2 arg8 harg8 arg13 x0 x6) (Rect.unit (s := S512x512) ![128 * s.val, 0] ![128, 512] (rowInb s)).toLoadRect) := rfl

/-- The hidden values of the first expert group. -/
theorem hid0A (hg2 : (i 1).val ≤ 15) (p q : Fin 512) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8).2.2.2.2.1 (ix2 p q)
      = hidAt x2 x3 x4 x5 (fun k => ∑ d : Fin 2048, x0 (ix2 ⟨(k 0).val, lt_trans (k 0).isLt (by decide)⟩ d) * x6 (ix2 (k 1) d)) ⟨8 * (i 1).val + q.val / 128, by omega⟩ ⟨q.val % 128, Nat.mod_lt _ (by decide)⟩ q p := by
  rw [hid0A_eq hg2]
  exact hidPieces_canon _ _ _ _ _ x2 x3 x4 x5 (fun k => ∑ d : Fin 2048, x0 (ix2 ⟨(k 0).val, lt_trans (k 0).isLt (by decide)⟩ d) * x6 (ix2 (k 1) d)) (8 * (i 1).val) (by omega)
    (fun s h p => ld3' arg4 harg4 x2 _ (offA_val i s h) 0 p _ _ _ rfl rfl rfl)
    (fun s h p => ld3' arg5 harg5 x3 _ (offA_val i s h) 0 p _ _ _ rfl rfl rfl)
    (fun h j p => ld3' arg6 harg6 x4 (headInb h) rfl j p _ _ _ rfl (Nat.zero_add _).symm rfl)
    (fun h j p => ld3' arg7 harg7 x5 (headInb h) rfl j p _ _ _ rfl (Nat.zero_add _).symm rfl)
    (fun s j p => (cov2' arg14.view _ (rowInb s) j p _ _ rfl (Nat.zero_add _).symm).trans (act0A _ _)) p q

end Cert.Kernel9Ideal.Blocks

end
-- ==== Proof.PeerRunB.lean ====
/- Program 9: the stores of a middle step. -/
module

public import proofs.«01_k».proof.Proof.PeerOff
public import proofs.«01_k».proof.Proof.Gen.Kernel9Ideal.Frame.RunB

@[expose] public section

set_option maxRecDepth 16384

noncomputable section

namespace Cert.Kernel9Ideal.Blocks

open Idealize.ShloMosaic Idealize.ShloMosaic.TcCoe Idealize.SL.Sem Cert.Kernel9Ideal Cert.Kernel9Ideal.Gen Cert.Peer

variable {c : Dev nD} {i : grid0.Coords} {arg2 : Memref sig .tc .vmem S1024x2048 .bf16} {harg2 : arg2.IsWhole} {arg3 : Memref sig .tc .vmem S1024x2048 .bf16} {harg3 : arg3.IsWhole} {arg4 : Memref sig .tc .vmem S8x128x512 .f32} {harg4 : arg4.IsWhole} {arg5 : Memref sig .tc .vmem S8x128x512 .f32} {harg5 : arg5.IsWhole} {arg6 : Memref sig .tc .vmem S8x128x512 .bf16} {harg6 : arg6.IsWhole} {arg7 : Memref sig .tc .vmem S8x128x512 .bf16} {harg7 : arg7.IsWhole} {arg8 : Memref sig .tc .vmem S512x2048 .f32} {harg8 : arg8.IsWhole} {arg9 : Memref sig .tc .vmem S1x2048 .f32} {harg9 : arg9.IsWhole} {arg10 : Memref sig .tc .vmem S1x2048 .f32} {harg10 : arg10.IsWhole} {arg11 : Memref sig .tc .vmem S512x2048 .f32} {harg11 : arg11.IsWhole} {arg12 : Memref sig .tc .vmem S512x2048 .bf16} {harg12 : arg12.IsWhole} {arg13 : Memref sig .tc .vmem S2048x512 .bf16} {harg13 : arg13.IsWhole} {arg14 : Memref sig .tc .vmem S512x512 .f32} {harg14 : arg14.IsWhole} {arg15 : Memref sig .tc .vmem S512x512 .f32} {harg15 : arg15.IsWhole} {arg16 : Memref sig .tc .vmem S512x512 .bf16} {harg16 : arg16.IsWhole} {arg17 : Memref sig .tc .vmem S512x512 .bf16} {harg17 : arg17.IsWhole} {hc0 : ¬cond0_0 i} {hc1 : ¬cond0_1 i} {hc2 : ¬cond0_2 i} {hc3 : cond0_3 i} {hc4 : cond0_4 i} {hc5 : ¬cond0_5 i} {hc6 : ¬cond0_6 i} {hc7 : ¬cond0_7 i}
    {x0 : Vec Ideal S1024x2048 .bf16} {x1 : Vec Ideal S1024x2048 .bf16} {x2 : Vec Ideal S8x128x512 .f32} {x3 : Vec Ideal S8x128x512 .f32} {x4 : Vec Ideal S8x128x512 .bf16} {x5 : Vec Ideal S8x128x512 .bf16} {x6 : Vec Ideal S512x2048 .f32} {x7 : Vec Ideal S1x2048 .f32} {x8 : Vec Ideal S1x2048 .f32} {xo9 : Vec Ideal S512x2048 .f32} {xs0 : Vec Ideal S2048x512 .bf16} {xs2 : Vec Ideal S512x512 .f32} {xs3 : Vec Ideal S512x512 .bf16}

theorem hid1B_eq (hg : 1 ≤ (i 1).val) (hg2 : (i 1).val ≤ 15) : (kernelRun0_B.sl.HS4_4 (F := Ideal) c i arg4 harg4 arg5 harg5 arg6 harg6 arg7 harg7 arg15 harg15 hc3 x2 x3 x4 x5 xs2) = hidPieces
      (fun s h => View.readAt (Elt Ideal) arg4.view (Rect.unit (s := S8x128x512) (offB0 i s h) ![1, 1, 512] (offB0_inb i s h hg (by omega))).toLoadRect (harg4.unread x2))
      (fun s h => View.readAt (Elt Ideal) arg5.view (Rect.unit (s := S8x128x512) (offB0 i s h) ![1, 1, 512] (offB0_inb i s h hg (by omega))).toLoadRect (harg5.unread x3))
      (fun h => View.readAt (Elt Ideal) arg6.view (Rect.unit (s := S8x128x512) ![h.val, 0, 0] ![1, 128, 512] (headInb h)).toLoadRect (harg6.unread x4))
      (fun h => View.readAt (Elt Ideal) arg7.view (Rect.unit (s := S8x128x512) ![h.val, 0, 0] ![1, 128, 512] (headInb h)).toLoadRect (harg7.unread x5))
      (fun s => View.readAt (Elt Ideal) arg15.view (Rect.unit (s := S512x512) ![128 * s.val, 0] ![128, 512] (rowInb s)).toLoadRect (harg15.unread xs2)) := rfl

/-- The hidden values of the expert group left over from the step before. -/
theorem hid1B (hg : 1 ≤ (i 1).val) (hg2 : (i 1).val ≤ 15) (p q : Fin 512) :
    View.canon (kernelRun0_B.sl.HS4_4 (F := Ideal) c i arg4 harg4 arg5 harg5 arg6 harg6 arg7 harg7 arg15 harg15 hc3 x2 x3 x4 x5 xs2) (ix2 p q)
      = hidAt x2 x3 x4 x5 xs2 ⟨8 * (i 1).val - 4 + q.val / 128, by omega⟩ ⟨q.val % 128, Nat.mod_lt _ (by decide)⟩ q p := by
  rw [hid1B_eq hg hg2]
  exact hidPieces_canon _ _ _ _ _ x2 x3 x4 x5 xs2 (8 * (i 1).val - 4) (by omega)
    (fun s h p => ld3' arg4 harg4 x2 _ (offB0_val i s h hg) 0 p _ _ _ rfl rfl rfl)
    (fun s h p => ld3' arg5 harg5 x3 _ (offB0_val i s h hg) 0 p _ _ _ rfl rfl rfl)
    (fun h j p => ld3' arg6 harg6 x4 (headInb h) rfl j p _ _ _ rfl (Nat.zero_add _).symm rfl)
    (fun h j p => ld3' arg7 harg7 x5 (headInb h) rfl j p _ _ _ rfl (Nat.zero_add _).symm rfl)
    (fun s j p => ld2' arg15 harg15 xs2 (rowInb s) j p _ _ rfl (Nat.zero_add _).symm) p q

theorem acc0B_eq : (kernelRun0_B.sl.H9_8 (F := Ideal) c arg3 harg3 arg11 harg11 arg16 harg16 x1 xo9 xs3) = [⟨(Rect.unit (s := S512x2048) ![0, 1792] ![512, 256] inb_S512x2048_S512x256_0_1792), accPay (View.readAt (Elt Ideal) arg11.view (Rect.unit (s := S512x2048) ![0, 1792] ![512, 256] inb_S512x2048_S512x256_0_1792).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 1792] ![512, 256] inb_S1024x2048_S512x256_0_1792).toLoadRect (harg3.unread x1))⟩,
      ⟨(Rect.unit (s := S512x2048) ![0, 1536] ![512, 256] inb_S512x2048_S512x256_0_1536), accPay (View.readAt (Elt Ideal) arg11.view (Rect.unit (s := S512x2048) ![0, 1536] ![512, 256] inb_S512x2048_S512x256_0_1536).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 1536] ![512, 256] inb_S1024x2048_S512x256_0_1536).toLoadRect (harg3.unread x1))⟩,
      ⟨(Rect.unit (s := S512x2048) ![0, 1280] ![512, 256] inb_S512x2048_S512x256_0_1280), accPay (View.readAt (Elt Ideal) arg11.view (Rect.unit (s := S512x2048) ![0, 1280] ![512, 256] inb_S512x2048_S512x256_0_1280).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 1280] ![512, 256] inb_S1024x2048_S512x256_0_1280).toLoadRect (harg3.unread x1))⟩,
      ⟨(Rect.unit (s := S512x2048) ![0, 1024] ![512, 256] inb_S512x2048_S512x256_0_1024), accPay (View.readAt (Elt Ideal) arg11.view (Rect.unit (s := S512x2048) ![0, 1024] ![512, 256] inb_S512x2048_S512x256_0_1024).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 1024] ![512, 256] inb_S1024x2048_S512x256_0_1024).toLoadRect (harg3.unread x1))⟩,
      ⟨(Rect.unit (s := S512x2048) ![0, 768] ![512, 256] inb_S512x2048_S512x256_0_768), accPay (View.readAt (Elt Ideal) arg11.view (Rect.unit (s := S512x2048) ![0, 768] ![512, 256] inb_S512x2048_S512x256_0_768).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 768] ![512, 256] inb_S1024x2048_S512x256_0_768).toLoadRect (harg3.unread x1))⟩,
      ⟨(Rect.unit (s := S512x2048) ![0, 512] ![512, 256] inb_S512x2048_S512x256_0_512), accPay (View.readAt (Elt Ideal) arg11.view (Rect.unit (s := S512x2048) ![0, 512] ![512, 256] inb_S512x2048_S512x256_0_512).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 512] ![512, 256] inb_S1024x2048_S512x256_0_512).toLoadRect (harg3.unread x1))⟩,
      ⟨(Rect.unit (s := S512x2048) ![0, 256] ![512, 256] inb_S512x2048_S512x256_0_256), accPay (View.readAt (Elt Ideal) arg11.view (Rect.unit (s := S512x2048) ![0, 256] ![512, 256] inb_S512x2048_S512x256_0_256).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 256] ![512, 256] inb_S1024x2048_S512x256_0_256).toLoadRect (harg3.unread x1))⟩,
      ⟨(Rect.unit (s := S512x2048) ![0, 0] ![512, 256] inb_S512x2048_S512x256_0_0), accPay (View.readAt (Elt Ideal) arg11.view (Rect.unit (s := S512x2048) ![0, 0] ![512, 256] inb_S512x2048_S512x256_0_0).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 0] ![512, 256] inb_S1024x2048_S512x256_0_0).toLoadRect (harg3.unread x1))⟩] := rfl

/-- The running output after the first expert group's products. -/
theorem acc0B (p : Fin 512) (q : Fin 2048) :
    View.canon (kernelRun0_B.sl.H9_8 (F := Ideal) c arg3 harg3 arg11 harg11 arg16 harg16 x1 xo9 xs3) (ix2 p q) = accOut (fun p q => xo9 (ix2 p q)) xs3 (fun r q => x1 (ix2 ⟨r.val, by omega⟩ q)) p q := by
  rw [acc0B_eq]
  refine acc_first 7 1792 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_1792 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_1792 r q _ _ (Nat.zero_add _).symm rfl) p q (by omega)
  refine acc_first 6 1536 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_1536 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_1536 r q _ _ (Nat.zero_add _).symm rfl) p q (by omega)
  refine acc_first 5 1280 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_1280 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_1280 r q _ _ (Nat.zero_add _).symm rfl) p q (by omega)
  refine acc_first 4 1024 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_1024 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_1024 r q _ _ (Nat.zero_add _).symm rfl) p q (by omega)
  refine acc_first 3 768 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_768 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_768 r q _ _ (Nat.zero_add _).symm rfl) p q (by omega)
  refine acc_first 2 512 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_512 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_512 r q _ _ (Nat.zero_add _).symm rfl) p q (by omega)
  refine acc_first 1 256 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_256 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_256 r q _ _ (Nat.zero_add _).symm rfl) p q (by omega)
  refine acc_first 0 0 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_0 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_0 r q _ _ (Nat.zero_add _).symm rfl) p q (by omega)
  exact absurd hq (by omega)

theorem acc1B_eq : (kernelRun0_B.sl.H9_9 (F := Ideal) c i arg3 harg3 arg4 harg4 arg5 harg5 arg6 harg6 arg7 harg7 arg11 harg11 arg15 harg15 arg16 harg16 arg17 hc3 x1 x2 x3 x4 x5 xo9 xs2 xs3) = ⟨(Rect.unit (s := S512x2048) ![0, 0] ![512, 256] inb_S512x2048_S512x256_0_0), accPay (arg11.view.readCov (kernelRun0_B.sl.H9_8 (F := Ideal) c arg3 harg3 arg11 harg11 arg16 harg16 x1 xo9 xs3) (Rect.unit (s := S512x2048) ![0, 0] ![512, 256] inb_S512x2048_S512x256_0_0).toLoadRect) (arg17.view.readCov (kernelRun0_B.sl.HS4_4 (F := Ideal) c i arg4 harg4 arg5 harg5 arg6 harg6 arg7 harg7 arg15 harg15 hc3 x2 x3 x4 x5 xs2) (Rect.unit (s := S512x512) ![0, 0] ![512, 512] inb_S512x512_S512x512_0_0).toLoadRect) (View.readAt (Elt Ideal) arg3.view (Rect.unit (s := S1024x2048) ![512, 0] ![512, 256] inb_S1024x2048_S512x256_512_0).toLoadRect (harg3.unread x1))⟩ :: (kernelRun0_B.sl.H9_8 (F := Ideal) c arg3 harg3 arg11 harg11 arg16 harg16 x1 xo9 xs3) := rfl

theorem acc1B (p : Fin 512) (q : Fin 2048) :
    View.canon (kernelRun0_B.sl.H9_9 (F := Ideal) c i arg3 harg3 arg4 harg4 arg5 harg5 arg6 harg6 arg7 harg7 arg11 harg11 arg15 harg15 arg16 harg16 arg17 hc3 x1 x2 x3 x4 x5 xo9 xs2 xs3) (ix2 p q) = accTo 1 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q))) p q := by
  rw [acc1B_eq]
  exact acc_step 0 0 rfl (by decide) _ _ _ _ _ (fun p q => accOut (fun p q => xo9 (ix2 p q)) xs3 (fun r q => x1 (ix2 ⟨r.val, by omega⟩ q)) p q)
    (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q)) (fun p q => (acc0B p q).trans (if_neg (by omega)).symm)
    (fun p q => cov2' arg11.view _ inb_S512x2048_S512x256_0_0 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_0 r q _ _ rfl rfl) p q

theorem acc2B_eq : (kernelRun0_B.sl.H9_10 (F := Ideal) c i arg3 harg3 arg4 harg4 arg5 harg5 arg6 harg6 arg7 harg7 arg11 harg11 arg15 harg15 arg16 harg16 arg17 hc3 x1 x2 x3 x4 x5 xo9 xs2 xs3) = ⟨(Rect.unit (s := S512x2048) ![0, 256] ![512, 256] inb_S512x2048_S512x256_0_256), accPay (arg11.view.readCov (kernelRun0_B.sl.H9_9 (F := Ideal) c i arg3 harg3 arg4 harg4 arg5 harg5 arg6 harg6 arg7 harg7 arg11 harg11 arg15 harg15 arg16 harg16 arg17 hc3 x1 x2 x3 x4 x5 xo9 xs2 xs3) (Rect.unit (s := S512x2048) ![0, 256] ![512, 256] inb_S512x2048_S512x256_0_256).toLoadRect) (arg17.view.readCov (kernelRun0_B.sl.HS4_4 (F := Ideal) c i arg4 harg4 arg5 harg5 arg6 harg6 arg7 harg7 arg15 harg15 hc3 x2 x3 x4 x5 xs2) (Rect.unit (s := S512x512) ![0, 0] ![512, 512] inb_S512x512_S512x512_0_0).toLoadRect) (View.readAt (Elt Ideal) arg3.view (Rect.unit (s := S1024x2048) ![512, 256] ![512, 256] inb_S1024x2048_S512x256_512_256).toLoadRect (harg3.unread x1))⟩ :: (kernelRun0_B.sl.H9_9 (F := Ideal) c i arg3 harg3 arg4 harg4 arg5 harg5 arg6 harg6 arg7 harg7 arg11 harg11 arg15 harg15 arg16 harg16 arg17 hc3 x1 x2 x3 x4 x5 xo9 xs2 xs3) := rfl

theorem acc2B (p : Fin 512) (q : Fin 2048) :
    View.canon (kernelRun0_B.sl.H9_10 (F := Ideal) c i arg3 harg3 arg4 harg4 arg5 harg5 arg6 harg6 arg7 harg7 arg11 harg11 arg15 harg15 arg16 harg16 arg17 hc3 x1 x2 x3 x4 x5 xo9 xs2 xs3) (ix2 p q) = accTo 2 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q))) p q := by
  rw [acc2B_eq]
  exact acc_step 1 256 rfl (by decide) _ _ _ _ _ (fun p q => accOut (fun p q => xo9 (ix2 p q)) xs3 (fun r q => x1 (ix2 ⟨r.val, by omega⟩ q)) p q)
    (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q)) (fun p q => acc1B p q)
    (fun p q => cov2' arg11.view _ inb_S512x2048_S512x256_0_256 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_256 r q _ _ rfl rfl) p q

theorem acc3B_eq : (kernelRun0_B.sl.H9_11 (F := Ideal) c i arg3 harg3 arg4 harg4 arg5 harg5 arg6 harg6 arg7 harg7 arg11 harg11 arg15 harg15 arg16 harg16 arg17 hc3 x1 x2 x3 x4 x5 xo9 xs2 xs3) = ⟨(Rect.unit (s := S512x2048) ![0, 512] ![512, 256] inb_S512x2048_S512x256_0_512), accPay (arg11.view.readCov (kernelRun0_B.sl.H9_10 (F := Ideal) c i arg3 harg3 arg4 harg4 arg5 harg5 arg6 harg6 arg7 harg7 arg11 harg11 arg15 harg15 arg16 harg16 arg17 hc3 x1 x2 x3 x4 x5 xo9 xs2 xs3) (Rect.unit (s := S512x2048) ![0, 512] ![512, 256] inb_S512x2048_S512x256_0_512).toLoadRect) (arg17.view.readCov (kernelRun0_B.sl.HS4_4 (F := Ideal) c i arg4 harg4 arg5 harg5 arg6 harg6 arg7 harg7 arg15 harg15 hc3 x2 x3 x4 x5 xs2) (Rect.unit (s := S512x512) ![0, 0] ![512, 512] inb_S512x512_S512x512_0_0).toLoadRect) (View.readAt (Elt Ideal) arg3.view (Rect.unit (s := S1024x2048) ![512, 512] ![512, 256] inb_S1024x2048_S512x256_512_512).toLoadRect (harg3.unread x1))⟩ :: (kernelRun0_B.sl.H9_10 (F := Ideal) c i arg3 harg3 arg4 harg4 arg5 harg5 arg6 harg6 arg7 harg7 arg11 harg11 arg15 harg15 arg16 harg16 arg17 hc3 x1 x2 x3 x4 x5 xo9 xs2 xs3) := rfl

theorem acc3B (p : Fin 512) (q : Fin 2048) :
    View.canon (kernelRun0_B.sl.H9_11 (F := Ideal) c i arg3 harg3 arg4 harg4 arg5 harg5 arg6 harg6 arg7 harg7 arg11 harg11 arg15 harg15 arg16 harg16 arg17 hc3 x1 x2 x3 x4 x5 xo9 xs2 xs3) (ix2 p q) = accTo 3 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q))) p q := by
  rw [acc3B_eq]
  exact acc_step 2 512 rfl (by decide) _ _ _ _ _ (fun p q => accOut (fun p q => xo9 (ix2 p q)) xs3 (fun r q => x1 (ix2 ⟨r.val, by omega⟩ q)) p q)
    (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q)) (fun p q => acc2B p q)
    (fun p q => cov2' arg11.view _ inb_S512x2048_S512x256_0_512 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_512 r q _ _ rfl rfl) p q

theorem acc4B_eq : (kernelRun0_B.sl.H9_12 (F := Ideal) c i arg3 harg3 arg4 harg4 arg5 harg5 arg6 harg6 arg7 harg7 arg11 harg11 arg15 harg15 arg16 harg16 arg17 hc3 x1 x2 x3 x4 x5 xo9 xs2 xs3) = ⟨(Rect.unit (s := S512x2048) ![0, 768] ![512, 256] inb_S512x2048_S512x256_0_768), accPay (arg11.view.readCov (kernelRun0_B.sl.H9_11 (F := Ideal) c i arg3 harg3 arg4 harg4 arg5 harg5 arg6 harg6 arg7 harg7 arg11 harg11 arg15 harg15 arg16 harg16 arg17 hc3 x1 x2 x3 x4 x5 xo9 xs2 xs3) (Rect.unit (s := S512x2048) ![0, 768] ![512, 256] inb_S512x2048_S512x256_0_768).toLoadRect) (arg17.view.readCov (kernelRun0_B.sl.HS4_4 (F := Ideal) c i arg4 harg4 arg5 harg5 arg6 harg6 arg7 harg7 arg15 harg15 hc3 x2 x3 x4 x5 xs2) (Rect.unit (s := S512x512) ![0, 0] ![512, 512] inb_S512x512_S512x512_0_0).toLoadRect) (View.readAt (Elt Ideal) arg3.view (Rect.unit (s := S1024x2048) ![512, 768] ![512, 256] inb_S1024x2048_S512x256_512_768).toLoadRect (harg3.unread x1))⟩ :: (kernelRun0_B.sl.H9_11 (F := Ideal) c i arg3 harg3 arg4 harg4 arg5 harg5 arg6 harg6 arg7 harg7 arg11 harg11 arg15 harg15 arg16 harg16 arg17 hc3 x1 x2 x3 x4 x5 xo9 xs2 xs3) := rfl

theorem acc4B (p : Fin 512) (q : Fin 2048) :
    View.canon (kernelRun0_B.sl.H9_12 (F := Ideal) c i arg3 harg3 arg4 harg4 arg5 harg5 arg6 harg6 arg7 harg7 arg11 harg11 arg15 harg15 arg16 harg16 arg17 hc3 x1 x2 x3 x4 x5 xo9 xs2 xs3) (ix2 p q) = accTo 4 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q))) p q := by
  rw [acc4B_eq]
  exact acc_step 3 768 rfl (by decide) _ _ _ _ _ (fun p q => accOut (fun p q => xo9 (ix2 p q)) xs3 (fun r q => x1 (ix2 ⟨r.val, by omega⟩ q)) p q)
    (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q)) (fun p q => acc3B p q)
    (fun p q => cov2' arg11.view _ inb_S512x2048_S512x256_0_768 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_768 r q _ _ rfl rfl) p q

theorem acc5B_eq : (kernelRun0_B.sl.H9_13 (F := Ideal) c i arg3 harg3 arg4 harg4 arg5 harg5 arg6 harg6 arg7 harg7 arg11 harg11 arg15 harg15 arg16 harg16 arg17 hc3 x1 x2 x3 x4 x5 xo9 xs2 xs3) = ⟨(Rect.unit (s := S512x2048) ![0, 1024] ![512, 256] inb_S512x2048_S512x256_0_1024), accPay (arg11.view.readCov (kernelRun0_B.sl.H9_12 (F := Ideal) c i arg3 harg3 arg4 harg4 arg5 harg5 arg6 harg6 arg7 harg7 arg11 harg11 arg15 harg15 arg16 harg16 arg17 hc3 x1 x2 x3 x4 x5 xo9 xs2 xs3) (Rect.unit (s := S512x2048) ![0, 1024] ![512, 256] inb_S512x2048_S512x256_0_1024).toLoadRect) (arg17.view.readCov (kernelRun0_B.sl.HS4_4 (F := Ideal) c i arg4 harg4 arg5 harg5 arg6 harg6 arg7 harg7 arg15 harg15 hc3 x2 x3 x4 x5 xs2) (Rect.unit (s := S512x512) ![0, 0] ![512, 512] inb_S512x512_S512x512_0_0).toLoadRect) (View.readAt (Elt Ideal) arg3.view (Rect.unit (s := S1024x2048) ![512, 1024] ![512, 256] inb_S1024x2048_S512x256_512_1024).toLoadRect (harg3.unread x1))⟩ :: (kernelRun0_B.sl.H9_12 (F := Ideal) c i arg3 harg3 arg4 harg4 arg5 harg5 arg6 harg6 arg7 harg7 arg11 harg11 arg15 harg15 arg16 harg16 arg17 hc3 x1 x2 x3 x4 x5 xo9 xs2 xs3) := rfl

theorem acc5B (p : Fin 512) (q : Fin 2048) :
    View.canon (kernelRun0_B.sl.H9_13 (F := Ideal) c i arg3 harg3 arg4 harg4 arg5 harg5 arg6 harg6 arg7 harg7 arg11 harg11 arg15 harg15 arg16 harg16 arg17 hc3 x1 x2 x3 x4 x5 xo9 xs2 xs3) (ix2 p q) = accTo 5 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q))) p q := by
  rw [acc5B_eq]
  exact acc_step 4 1024 rfl (by decide) _ _ _ _ _ (fun p q => accOut (fun p q => xo9 (ix2 p q)) xs3 (fun r q => x1 (ix2 ⟨r.val, by omega⟩ q)) p q)
    (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q)) (fun p q => acc4B p q)
    (fun p q => cov2' arg11.view _ inb_S512x2048_S512x256_0_1024 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_1024 r q _ _ rfl rfl) p q

theorem acc6B_eq : (kernelRun0_B.sl.H9_14 (F := Ideal) c i arg3 harg3 arg4 harg4 arg5 harg5 arg6 harg6 arg7 harg7 arg11 harg11 arg15 harg15 arg16 harg16 arg17 hc3 x1 x2 x3 x4 x5 xo9 xs2 xs3) = ⟨(Rect.unit (s := S512x2048) ![0, 1280] ![512, 256] inb_S512x2048_S512x256_0_1280), accPay (arg11.view.readCov (kernelRun0_B.sl.H9_13 (F := Ideal) c i arg3 harg3 arg4 harg4 arg5 harg5 arg6 harg6 arg7 harg7 arg11 harg11 arg15 harg15 arg16 harg16 arg17 hc3 x1 x2 x3 x4 x5 xo9 xs2 xs3) (Rect.unit (s := S512x2048) ![0, 1280] ![512, 256] inb_S512x2048_S512x256_0_1280).toLoadRect) (arg17.view.readCov (kernelRun0_B.sl.HS4_4 (F := Ideal) c i arg4 harg4 arg5 harg5 arg6 harg6 arg7 harg7 arg15 harg15 hc3 x2 x3 x4 x5 xs2) (Rect.unit (s := S512x512) ![0, 0] ![512, 512] inb_S512x512_S512x512_0_0).toLoadRect) (View.readAt (Elt Ideal) arg3.view (Rect.unit (s := S1024x2048) ![512, 1280] ![512, 256] inb_S1024x2048_S512x256_512_1280).toLoadRect (harg3.unread x1))⟩ :: (kernelRun0_B.sl.H9_13 (F := Ideal) c i arg3 harg3 arg4 harg4 arg5 harg5 arg6 harg6 arg7 harg7 arg11 harg11 arg15 harg15 arg16 harg16 arg17 hc3 x1 x2 x3 x4 x5 xo9 xs2 xs3) := rfl

theorem acc6B (p : Fin 512) (q : Fin 2048) :
    View.canon (kernelRun0_B.sl.H9_14 (F := Ideal) c i arg3 harg3 arg4 harg4 arg5 harg5 arg6 harg6 arg7 harg7 arg11 harg11 arg15 harg15 arg16 harg16 arg17 hc3 x1 x2 x3 x4 x5 xo9 xs2 xs3) (ix2 p q) = accTo 6 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q))) p q := by
  rw [acc6B_eq]
  exact acc_step 5 1280 rfl (by decide) _ _ _ _ _ (fun p q => accOut (fun p q => xo9 (ix2 p q)) xs3 (fun r q => x1 (ix2 ⟨r.val, by omega⟩ q)) p q)
    (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q)) (fun p q => acc5B p q)
    (fun p q => cov2' arg11.view _ inb_S512x2048_S512x256_0_1280 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_1280 r q _ _ rfl rfl) p q

theorem acc7B_eq : (kernelRun0_B.sl.H9_15 (F := Ideal) c i arg3 harg3 arg4 harg4 arg5 harg5 arg6 harg6 arg7 harg7 arg11 harg11 arg15 harg15 arg16 harg16 arg17 hc3 x1 x2 x3 x4 x5 xo9 xs2 xs3) = ⟨(Rect.unit (s := S512x2048) ![0, 1536] ![512, 256] inb_S512x2048_S512x256_0_1536), accPay (arg11.view.readCov (kernelRun0_B.sl.H9_14 (F := Ideal) c i arg3 harg3 arg4 harg4 arg5 harg5 arg6 harg6 arg7 harg7 arg11 harg11 arg15 harg15 arg16 harg16 arg17 hc3 x1 x2 x3 x4 x5 xo9 xs2 xs3) (Rect.unit (s := S512x2048) ![0, 1536] ![512, 256] inb_S512x2048_S512x256_0_1536).toLoadRect) (arg17.view.readCov (kernelRun0_B.sl.HS4_4 (F := Ideal) c i arg4 harg4 arg5 harg5 arg6 harg6 arg7 harg7 arg15 harg15 hc3 x2 x3 x4 x5 xs2) (Rect.unit (s := S512x512) ![0, 0] ![512, 512] inb_S512x512_S512x512_0_0).toLoadRect) (View.readAt (Elt Ideal) arg3.view (Rect.unit (s := S1024x2048) ![512, 1536] ![512, 256] inb_S1024x2048_S512x256_512_1536).toLoadRect (harg3.unread x1))⟩ :: (kernelRun0_B.sl.H9_14 (F := Ideal) c i arg3 harg3 arg4 harg4 arg5 harg5 arg6 harg6 arg7 harg7 arg11 harg11 arg15 harg15 arg16 harg16 arg17 hc3 x1 x2 x3 x4 x5 xo9 xs2 xs3) := rfl

theorem acc7B (p : Fin 512) (q : Fin 2048) :
    View.canon (kernelRun0_B.sl.H9_15 (F := Ideal) c i arg3 harg3 arg4 harg4 arg5 harg5 arg6 harg6 arg7 harg7 arg11 harg11 arg15 harg15 arg16 harg16 arg17 hc3 x1 x2 x3 x4 x5 xo9 xs2 xs3) (ix2 p q) = accTo 7 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q))) p q := by
  rw [acc7B_eq]
  exact acc_step 6 1536 rfl (by decide) _ _ _ _ _ (fun p q => accOut (fun p q => xo9 (ix2 p q)) xs3 (fun r q => x1 (ix2 ⟨r.val, by omega⟩ q)) p q)
    (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q)) (fun p q => acc6B p q)
    (fun p q => cov2' arg11.view _ inb_S512x2048_S512x256_0_1536 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_1536 r q _ _ rfl rfl) p q

theorem acc8B_eq : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).1 = ⟨(Rect.unit (s := S512x2048) ![0, 1792] ![512, 256] inb_S512x2048_S512x256_0_1792), accPay (arg11.view.readCov (kernelRun0_B.sl.H9_15 (F := Ideal) c i arg3 harg3 arg4 harg4 arg5 harg5 arg6 harg6 arg7 harg7 arg11 harg11 arg15 harg15 arg16 harg16 arg17 hc3 x1 x2 x3 x4 x5 xo9 xs2 xs3) (Rect.unit (s := S512x2048) ![0, 1792] ![512, 256] inb_S512x2048_S512x256_0_1792).toLoadRect) (arg17.view.readCov (kernelRun0_B.sl.HS4_4 (F := Ideal) c i arg4 harg4 arg5 harg5 arg6 harg6 arg7 harg7 arg15 harg15 hc3 x2 x3 x4 x5 xs2) (Rect.unit (s := S512x512) ![0, 0] ![512, 512] inb_S512x512_S512x512_0_0).toLoadRect) (View.readAt (Elt Ideal) arg3.view (Rect.unit (s := S1024x2048) ![512, 1792] ![512, 256] inb_S1024x2048_S512x256_512_1792).toLoadRect (harg3.unread x1))⟩ :: (kernelRun0_B.sl.H9_15 (F := Ideal) c i arg3 harg3 arg4 harg4 arg5 harg5 arg6 harg6 arg7 harg7 arg11 harg11 arg15 harg15 arg16 harg16 arg17 hc3 x1 x2 x3 x4 x5 xo9 xs2 xs3) := rfl

theorem acc8B (p : Fin 512) (q : Fin 2048) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).1 (ix2 p q) = accTo 8 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q))) p q := by
  rw [acc8B_eq]
  exact acc_step 7 1792 rfl (by decide) _ _ _ _ _ (fun p q => accOut (fun p q => xo9 (ix2 p q)) xs3 (fun r q => x1 (ix2 ⟨r.val, by omega⟩ q)) p q)
    (View.canon (kernelRun0_B.sl.HS4_4 (F := Ideal) c i arg4 harg4 arg5 harg5 arg6 harg6 arg7 harg7 arg15 harg15 hc3 x2 x3 x4 x5 xs2)) (fun r q => x1 (ix2 ⟨512 + r.val, by omega⟩ q)) (fun p q => acc7B p q)
    (fun p q => cov2' arg11.view _ inb_S512x2048_S512x256_0_1792 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_1792 r q _ _ rfl rfl) p q

/-- The running output after both expert groups. -/
theorem outB (hg : 1 ≤ (i 1).val) (hg2 : (i 1).val ≤ 15) (p : Fin 512) (q : Fin 2048) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).1 (ix2 p q)
      = (xo9 (ix2 p q) + ∑ r : Fin 512, xs3 (ix2 p r) * x1 (ix2 ⟨r.val, by omega⟩ q))
        + ∑ r : Fin 512, hidAt x2 x3 x4 x5 xs2 ⟨8 * (i 1).val - 4 + r.val / 128, by omega⟩ ⟨r.val % 128, Nat.mod_lt _ (by decide)⟩ r p * x1 (ix2 ⟨512 + r.val, by omega⟩ q) := by
  rw [acc8B p q]
  refine (if_pos (by omega)).trans (congrArg₂ (· + ·) rfl (Finset.sum_congr rfl fun r _ => congrArg (· * _) (hid1B hg hg2 p r)))

theorem act0B_eq : (kernelRun0_B.sl.HS1_2 (F := Ideal) c arg2 harg2 arg13 harg13 x0 xs0) = actPieces (View.readAt (Elt Ideal) arg2.view (Rect.unit (s := S1024x2048) ![0, 0] ![512, 2048] inb_S1024x2048_S512x2048_0_0).toLoadRect (harg2.unread x0)) (View.readAt (Elt Ideal) arg13.view (Rect.unit (s := S2048x512) ![0, 0] ![2048, 256] inb_S2048x512_S2048x256_0_0).toLoadRect (harg13.unread xs0)) (View.readAt (Elt Ideal) arg13.view (Rect.unit (s := S2048x512) ![0, 256] ![2048, 256] inb_S2048x512_S2048x256_0_256).toLoadRect (harg13.unread xs0)) := rfl

/-- The activations of the step's first expert group. -/
theorem act0B (r t : Fin 512) : View.canon (kernelRun0_B.sl.HS1_2 (F := Ideal) c arg2 harg2 arg13 harg13 x0 xs0) (ix2 r t) = ∑ d : Fin 2048, x0 (ix2 ⟨r.val, by omega⟩ d) * xs0 (ix2 d t) := by
  rw [act0B_eq]
  refine (actPieces_canon _ _ _ xs0 (fun d t => ld2' arg13 harg13 xs0 inb_S2048x512_S2048x256_0_0 d t _ _ (Nat.zero_add _).symm (Nat.zero_add _).symm)
    (fun d t => ld2' arg13 harg13 xs0 inb_S2048x512_S2048x256_0_256 d t _ _ (Nat.zero_add _).symm rfl) r t).trans ?_
  exact Finset.sum_congr rfl fun d _ => congrArg (· * _) (ld2' arg2 harg2 x0 inb_S1024x2048_S512x2048_0_0 r d _ _ (Nat.zero_add _).symm (Nat.zero_add _).symm)

theorem act1B_eq : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).2.2.2.1 = actPieces (View.readAt (Elt Ideal) arg2.view (Rect.unit (s := S1024x2048) ![512, 0] ![512, 2048] inb_S1024x2048_S512x2048_512_0).toLoadRect (harg2.unread x0)) (View.readAt (Elt Ideal) arg13.view (Rect.unit (s := S2048x512) ![0, 0] ![2048, 256] inb_S2048x512_S2048x256_0_0).toLoadRect (harg13.unread xs0)) (View.readAt (Elt Ideal) arg13.view (Rect.unit (s := S2048x512) ![0, 256] ![2048, 256] inb_S2048x512_S2048x256_0_256).toLoadRect (harg13.unread xs0)) := rfl

/-- The activations of the step's second expert group. -/
theorem act1B (r t : Fin 512) : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).2.2.2.1 (ix2 r t) = ∑ d : Fin 2048, x0 (ix2 ⟨512 + r.val, by omega⟩ d) * xs0 (ix2 d t) := by
  rw [act1B_eq]
  refine (actPieces_canon _ _ _ xs0 (fun d t => ld2' arg13 harg13 xs0 inb_S2048x512_S2048x256_0_0 d t _ _ (Nat.zero_add _).symm (Nat.zero_add _).symm)
    (fun d t => ld2' arg13 harg13 xs0 inb_S2048x512_S2048x256_0_256 d t _ _ (Nat.zero_add _).symm rfl) r t).trans ?_
  exact Finset.sum_congr rfl fun d _ => congrArg (· * _) (ld2' arg2 harg2 x0 inb_S1024x2048_S512x2048_512_0 r d _ _ rfl (Nat.zero_add _).symm)

theorem hid0B_eq (hg2 : (i 1).val ≤ 15) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).2.2.2.2.1 = hidPieces
      (fun s h => View.readAt (Elt Ideal) arg4.view (Rect.unit (s := S8x128x512) (offB1 i s h) ![1, 1, 512] (offB1_inb i s h (by omega))).toLoadRect (harg4.unread x2))
      (fun s h => View.readAt (Elt Ideal) arg5.view (Rect.unit (s := S8x128x512) (offB1 i s h) ![1, 1, 512] (offB1_inb i s h (by omega))).toLoadRect (harg5.unread x3))
      (fun h => View.readAt (Elt Ideal) arg6.view (Rect.unit (s := S8x128x512) ![h.val, 0, 0] ![1, 128, 512] (headInb h)).toLoadRect (harg6.unread x4))
      (fun h => View.readAt (Elt Ideal) arg7.view (Rect.unit (s := S8x128x512) ![h.val, 0, 0] ![1, 128, 512] (headInb h)).toLoadRect (harg7.unread x5))
      (fun s => arg14.view.readCov (kernelRun0_B.sl.HS1_2 (F := Ideal) c arg2 harg2 arg13 harg13 x0 xs0) (Rect.unit (s := S512x512) ![128 * s.val, 0] ![128, 512] (rowInb s)).toLoadRect) := rfl

/-- The hidden values of the step's first expert group. -/
theorem hid0B (hg2 : (i 1).val ≤ 15) (p q : Fin 512) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).2.2.2.2.1 (ix2 p q)
      = hidAt x2 x3 x4 x5 (fun k => ∑ d : Fin 2048, x0 (ix2 ⟨(k 0).val, lt_trans (k 0).isLt (by decide)⟩ d) * xs0 (ix2 d (k 1))) ⟨8 * (i 1).val + q.val / 128, by omega⟩ ⟨q.val % 128, Nat.mod_lt _ (by decide)⟩ q p := by
  rw [hid0B_eq hg2]
  exact hidPieces_canon _ _ _ _ _ x2 x3 x4 x5 (fun k => ∑ d : Fin 2048, x0 (ix2 ⟨(k 0).val, lt_trans (k 0).isLt (by decide)⟩ d) * xs0 (ix2 d (k 1))) (8 * (i 1).val) (by omega)
    (fun s h p => ld3' arg4 harg4 x2 _ (offB1_val i s h) 0 p _ _ _ rfl rfl rfl)
    (fun s h p => ld3' arg5 harg5 x3 _ (offB1_val i s h) 0 p _ _ _ rfl rfl rfl)
    (fun h j p => ld3' arg6 harg6 x4 (headInb h) rfl j p _ _ _ rfl (Nat.zero_add _).symm rfl)
    (fun h j p => ld3' arg7 harg7 x5 (headInb h) rfl j p _ _ _ rfl (Nat.zero_add _).symm rfl)
    (fun s j p => (cov2' arg14.view _ (rowInb s) j p _ _ rfl (Nat.zero_add _).symm).trans (act0B _ _)) p q

end Cert.Kernel9Ideal.Blocks

end
-- ==== Proof.PeerRunC.lean ====
/- Program 9: the stores of a last step. -/
module

public import proofs.«01_k».proof.Proof.PeerOff
public import proofs.«01_k».proof.Proof.Norm
public import proofs.«01_k».proof.Proof.Gen.Kernel9Ideal.Frame.RunC

@[expose] public section

set_option maxRecDepth 16384

noncomputable section

namespace Cert.Kernel9Ideal.Blocks

open Idealize.ShloMosaic Idealize.ShloMosaic.TcCoe Idealize.SL.Sem Cert.Kernel9Ideal Cert.Kernel9Ideal.Gen Cert.Peer

variable {c : Dev nD} {i : grid0.Coords} {arg2 : Memref sig .tc .vmem S1024x2048 .bf16} {harg2 : arg2.IsWhole} {arg3 : Memref sig .tc .vmem S1024x2048 .bf16} {harg3 : arg3.IsWhole} {arg4 : Memref sig .tc .vmem S8x128x512 .f32} {harg4 : arg4.IsWhole} {arg5 : Memref sig .tc .vmem S8x128x512 .f32} {harg5 : arg5.IsWhole} {arg6 : Memref sig .tc .vmem S8x128x512 .bf16} {harg6 : arg6.IsWhole} {arg7 : Memref sig .tc .vmem S8x128x512 .bf16} {harg7 : arg7.IsWhole} {arg8 : Memref sig .tc .vmem S512x2048 .f32} {harg8 : arg8.IsWhole} {arg9 : Memref sig .tc .vmem S1x2048 .f32} {harg9 : arg9.IsWhole} {arg10 : Memref sig .tc .vmem S1x2048 .f32} {harg10 : arg10.IsWhole} {arg11 : Memref sig .tc .vmem S512x2048 .f32} {harg11 : arg11.IsWhole} {arg12 : Memref sig .tc .vmem S512x2048 .bf16} {harg12 : arg12.IsWhole} {arg13 : Memref sig .tc .vmem S2048x512 .bf16} {harg13 : arg13.IsWhole} {arg14 : Memref sig .tc .vmem S512x512 .f32} {harg14 : arg14.IsWhole} {arg15 : Memref sig .tc .vmem S512x512 .f32} {harg15 : arg15.IsWhole} {arg16 : Memref sig .tc .vmem S512x512 .bf16} {harg16 : arg16.IsWhole} {arg17 : Memref sig .tc .vmem S512x512 .bf16} {harg17 : arg17.IsWhole} {hc0 : ¬cond0_0 i} {hc1 : ¬cond0_1 i} {hc2 : ¬cond0_2 i} {hc3 : ¬cond0_3 i} {hc4 : ¬cond0_4 i} {hc5 : cond0_5 i} {hc6 : cond0_6 i} {hc7 : cond0_7 i}
    {x0 : Vec Ideal S1024x2048 .bf16} {x1 : Vec Ideal S1024x2048 .bf16} {x2 : Vec Ideal S8x128x512 .f32} {x3 : Vec Ideal S8x128x512 .f32} {x4 : Vec Ideal S8x128x512 .bf16} {x5 : Vec Ideal S8x128x512 .bf16} {x6 : Vec Ideal S512x2048 .f32} {x7 : Vec Ideal S1x2048 .f32} {x8 : Vec Ideal S1x2048 .f32} {xo9 : Vec Ideal S512x2048 .f32} {xs0 : Vec Ideal S2048x512 .bf16} {xs2 : Vec Ideal S512x512 .f32} {xs3 : Vec Ideal S512x512 .bf16}

theorem hid1C_eq (hg : 1 ≤ (i 1).val) (hg2 : (i 1).val ≤ 16) : (kernelRun0_C.sl.HS4_4 (F := Ideal) c i arg4 harg4 arg5 harg5 arg6 harg6 arg7 harg7 arg15 harg15 hc5 x2 x3 x4 x5 xs2) = hidPieces
      (fun s h => View.readAt (Elt Ideal) arg4.view (Rect.unit (s := S8x128x512) (offC i s h) ![1, 1, 512] (offC_inb i s h hg (by omega))).toLoadRect (harg4.unread x2))
      (fun s h => View.readAt (Elt Ideal) arg5.view (Rect.unit (s := S8x128x512) (offC i s h) ![1, 1, 512] (offC_inb i s h hg (by omega))).toLoadRect (harg5.unread x3))
      (fun h => View.readAt (Elt Ideal) arg6.view (Rect.unit (s := S8x128x512) ![h.val, 0, 0] ![1, 128, 512] (headInb h)).toLoadRect (harg6.unread x4))
      (fun h => View.readAt (Elt Ideal) arg7.view (Rect.unit (s := S8x128x512) ![h.val, 0, 0] ![1, 128, 512] (headInb h)).toLoadRect (harg7.unread x5))
      (fun s => View.readAt (Elt Ideal) arg15.view (Rect.unit (s := S512x512) ![128 * s.val, 0] ![128, 512] (rowInb s)).toLoadRect (harg15.unread xs2)) := rfl

/-- The hidden values of the expert group left over from the step before. -/
theorem hid1C (hg : 1 ≤ (i 1).val) (hg2 : (i 1).val ≤ 16) (p q : Fin 512) :
    View.canon (kernelRun0_C.sl.HS4_4 (F := Ideal) c i arg4 harg4 arg5 harg5 arg6 harg6 arg7 harg7 arg15 harg15 hc5 x2 x3 x4 x5 xs2) (ix2 p q)
      = hidAt x2 x3 x4 x5 xs2 ⟨8 * (i 1).val - 4 + q.val / 128, by omega⟩ ⟨q.val % 128, Nat.mod_lt _ (by decide)⟩ q p := by
  rw [hid1C_eq hg hg2]
  exact hidPieces_canon _ _ _ _ _ x2 x3 x4 x5 xs2 (8 * (i 1).val - 4) (by omega)
    (fun s h p => ld3' arg4 harg4 x2 _ (offC_val i s h hg) 0 p _ _ _ rfl rfl rfl)
    (fun s h p => ld3' arg5 harg5 x3 _ (offC_val i s h hg) 0 p _ _ _ rfl rfl rfl)
    (fun h j p => ld3' arg6 harg6 x4 (headInb h) rfl j p _ _ _ rfl (Nat.zero_add _).symm rfl)
    (fun h j p => ld3' arg7 harg7 x5 (headInb h) rfl j p _ _ _ rfl (Nat.zero_add _).symm rfl)
    (fun s j p => ld2' arg15 harg15 xs2 (rowInb s) j p _ _ rfl (Nat.zero_add _).symm) p q

theorem acc0C_eq : (kernelRun0_C.sl.H9_8 (F := Ideal) c arg3 harg3 arg11 harg11 arg16 harg16 x1 xo9 xs3) = [⟨(Rect.unit (s := S512x2048) ![0, 1792] ![512, 256] inb_S512x2048_S512x256_0_1792), accPay (View.readAt (Elt Ideal) arg11.view (Rect.unit (s := S512x2048) ![0, 1792] ![512, 256] inb_S512x2048_S512x256_0_1792).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 1792] ![512, 256] inb_S1024x2048_S512x256_0_1792).toLoadRect (harg3.unread x1))⟩,
      ⟨(Rect.unit (s := S512x2048) ![0, 1536] ![512, 256] inb_S512x2048_S512x256_0_1536), accPay (View.readAt (Elt Ideal) arg11.view (Rect.unit (s := S512x2048) ![0, 1536] ![512, 256] inb_S512x2048_S512x256_0_1536).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 1536] ![512, 256] inb_S1024x2048_S512x256_0_1536).toLoadRect (harg3.unread x1))⟩,
      ⟨(Rect.unit (s := S512x2048) ![0, 1280] ![512, 256] inb_S512x2048_S512x256_0_1280), accPay (View.readAt (Elt Ideal) arg11.view (Rect.unit (s := S512x2048) ![0, 1280] ![512, 256] inb_S512x2048_S512x256_0_1280).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 1280] ![512, 256] inb_S1024x2048_S512x256_0_1280).toLoadRect (harg3.unread x1))⟩,
      ⟨(Rect.unit (s := S512x2048) ![0, 1024] ![512, 256] inb_S512x2048_S512x256_0_1024), accPay (View.readAt (Elt Ideal) arg11.view (Rect.unit (s := S512x2048) ![0, 1024] ![512, 256] inb_S512x2048_S512x256_0_1024).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 1024] ![512, 256] inb_S1024x2048_S512x256_0_1024).toLoadRect (harg3.unread x1))⟩,
      ⟨(Rect.unit (s := S512x2048) ![0, 768] ![512, 256] inb_S512x2048_S512x256_0_768), accPay (View.readAt (Elt Ideal) arg11.view (Rect.unit (s := S512x2048) ![0, 768] ![512, 256] inb_S512x2048_S512x256_0_768).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 768] ![512, 256] inb_S1024x2048_S512x256_0_768).toLoadRect (harg3.unread x1))⟩,
      ⟨(Rect.unit (s := S512x2048) ![0, 512] ![512, 256] inb_S512x2048_S512x256_0_512), accPay (View.readAt (Elt Ideal) arg11.view (Rect.unit (s := S512x2048) ![0, 512] ![512, 256] inb_S512x2048_S512x256_0_512).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 512] ![512, 256] inb_S1024x2048_S512x256_0_512).toLoadRect (harg3.unread x1))⟩,
      ⟨(Rect.unit (s := S512x2048) ![0, 256] ![512, 256] inb_S512x2048_S512x256_0_256), accPay (View.readAt (Elt Ideal) arg11.view (Rect.unit (s := S512x2048) ![0, 256] ![512, 256] inb_S512x2048_S512x256_0_256).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 256] ![512, 256] inb_S1024x2048_S512x256_0_256).toLoadRect (harg3.unread x1))⟩,
      ⟨(Rect.unit (s := S512x2048) ![0, 0] ![512, 256] inb_S512x2048_S512x256_0_0), accPay (View.readAt (Elt Ideal) arg11.view (Rect.unit (s := S512x2048) ![0, 0] ![512, 256] inb_S512x2048_S512x256_0_0).toLoadRect (harg11.unread xo9)) (View.readAt (Elt Ideal) arg16.view (Rect.unit (s := S512x512) ![0, 0] ![512, 512] inb_S512x512_S512x512_0_0).toLoadRect (harg16.unread xs3)) (View.readAt (Elt Ideal) arg3.view (Rect.unit (s := S1024x2048) ![0, 0] ![512, 256] inb_S1024x2048_S512x256_0_0).toLoadRect (harg3.unread x1))⟩] := rfl

/-- The running output after the first expert group's products. -/
theorem acc0C (p : Fin 512) (q : Fin 2048) :
    View.canon (kernelRun0_C.sl.H9_8 (F := Ideal) c arg3 harg3 arg11 harg11 arg16 harg16 x1 xo9 xs3) (ix2 p q) = accOut (fun p q => xo9 (ix2 p q)) xs3 (fun r q => x1 (ix2 ⟨r.val, by omega⟩ q)) p q := by
  rw [acc0C_eq]
  refine acc_first 7 1792 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_1792 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_1792 r q _ _ (Nat.zero_add _).symm rfl) p q (by omega)
  refine acc_first 6 1536 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_1536 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_1536 r q _ _ (Nat.zero_add _).symm rfl) p q (by omega)
  refine acc_first 5 1280 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_1280 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_1280 r q _ _ (Nat.zero_add _).symm rfl) p q (by omega)
  refine acc_first 4 1024 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_1024 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_1024 r q _ _ (Nat.zero_add _).symm rfl) p q (by omega)
  refine acc_first 3 768 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_768 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_768 r q _ _ (Nat.zero_add _).symm rfl) p q (by omega)
  refine acc_first 2 512 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_512 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_512 r q _ _ (Nat.zero_add _).symm rfl) p q (by omega)
  refine acc_first 1 256 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_256 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_256 r q _ _ (Nat.zero_add _).symm rfl) p q (by omega)
  refine acc_first 0 0 rfl (by decide) _ _ _ _ _ (fun p q => xo9 (ix2 p q)) xs3 (fun r q => x1 (ix2 ⟨r.val, by omega⟩ q)) (fun p q hq => ?_)
    (fun p q => ld2' arg11 harg11 xo9 inb_S512x2048_S512x256_0_0 p q _ _ (Nat.zero_add _).symm rfl)
    (fun p r => ld2' arg16 harg16 xs3 inb_S512x512_S512x512_0_0 p r _ _ (Nat.zero_add _).symm (Nat.zero_add _).symm)
    (fun r q => ld2' arg3 harg3 x1 inb_S1024x2048_S512x256_0_0 r q _ _ (Nat.zero_add _).symm rfl) p q (by omega)
  exact absurd hq (by omega)

theorem acc1C_eq : (kernelRun0_C.sl.H9_9 (F := Ideal) c i arg3 harg3 arg4 harg4 arg5 harg5 arg6 harg6 arg7 harg7 arg11 harg11 arg15 harg15 arg16 harg16 arg17 hc5 x1 x2 x3 x4 x5 xo9 xs2 xs3) = ⟨(Rect.unit (s := S512x2048) ![0, 0] ![512, 256] inb_S512x2048_S512x256_0_0), accPay (arg11.view.readCov (kernelRun0_C.sl.H9_8 (F := Ideal) c arg3 harg3 arg11 harg11 arg16 harg16 x1 xo9 xs3) (Rect.unit (s := S512x2048) ![0, 0] ![512, 256] inb_S512x2048_S512x256_0_0).toLoadRect) (arg17.view.readCov (kernelRun0_C.sl.HS4_4 (F := Ideal) c i arg4 harg4 arg5 harg5 arg6 harg6 arg7 harg7 arg15 harg15 hc5 x2 x3 x4 x5 xs2) (Rect.unit (s := S512x512) ![0, 0] ![512, 512] inb_S512x512_S512x512_0_0).toLoadRect) (View.readAt (Elt Ideal) arg3.view (Rect.unit (s := S1024x2048) ![512, 0] ![512, 256] inb_S1024x2048_S512x256_512_0).toLoadRect (harg3.unread x1))⟩ :: (kernelRun0_C.sl.H9_8 (F := Ideal) c arg3 harg3 arg11 harg11 arg16 harg16 x1 xo9 xs3) := rfl

theorem acc1C (p : Fin 512) (q : Fin 2048) :
    View.canon (kernelRun0_C.sl.H9_9 (F := Ideal) c i arg3 harg3 arg4 harg4 arg5 harg5 arg6 harg6 arg7 harg7 arg11 harg11 arg15 harg15 arg16 harg16 arg17 hc5 x1 x2 x3 x4 x5 xo9 xs2 xs3) (ix2 p q) = accTo 1 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q))) p q := by
  rw [acc1C_eq]
  exact acc_step 0 0 rfl (by decide) _ _ _ _ _ (fun p q => accOut (fun p q => xo9 (ix2 p q)) xs3 (fun r q => x1 (ix2 ⟨r.val, by omega⟩ q)) p q)
    (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q)) (fun p q => (acc0C p q).trans (if_neg (by omega)).symm)
    (fun p q => cov2' arg11.view _ inb_S512x2048_S512x256_0_0 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_0 r q _ _ rfl rfl) p q

theorem acc2C_eq : (kernelRun0_C.sl.H9_10 (F := Ideal) c i arg3 harg3 arg4 harg4 arg5 harg5 arg6 harg6 arg7 harg7 arg11 harg11 arg15 harg15 arg16 harg16 arg17 hc5 x1 x2 x3 x4 x5 xo9 xs2 xs3) = ⟨(Rect.unit (s := S512x2048) ![0, 256] ![512, 256] inb_S512x2048_S512x256_0_256), accPay (arg11.view.readCov (kernelRun0_C.sl.H9_9 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 256] ![512, 256] inb_S512x2048_S512x256_0_256).toLoadRect) (arg17.view.readCov (kernelRun0_C.sl.HS4_4 (F := Ideal) c i arg4 harg4 arg5 harg5 arg6 harg6 arg7 harg7 arg15 harg15 hc5 x2 x3 x4 x5 xs2) (Rect.unit (s := S512x512) ![0, 0] ![512, 512] inb_S512x512_S512x512_0_0).toLoadRect) (View.readAt (Elt Ideal) arg3.view (Rect.unit (s := S1024x2048) ![512, 256] ![512, 256] inb_S1024x2048_S512x256_512_256).toLoadRect (harg3.unread x1))⟩ :: (kernelRun0_C.sl.H9_9 (F := Ideal) c i arg3 harg3 arg4 harg4 arg5 harg5 arg6 harg6 arg7 harg7 arg11 harg11 arg15 harg15 arg16 harg16 arg17 hc5 x1 x2 x3 x4 x5 xo9 xs2 xs3) := rfl

theorem acc2C (p : Fin 512) (q : Fin 2048) :
    View.canon (kernelRun0_C.sl.H9_10 (F := Ideal) c i arg3 harg3 arg4 harg4 arg5 harg5 arg6 harg6 arg7 harg7 arg11 harg11 arg15 harg15 arg16 harg16 arg17 hc5 x1 x2 x3 x4 x5 xo9 xs2 xs3) (ix2 p q) = accTo 2 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q))) p q := by
  rw [acc2C_eq]
  exact acc_step 1 256 rfl (by decide) _ _ _ _ _ (fun p q => accOut (fun p q => xo9 (ix2 p q)) xs3 (fun r q => x1 (ix2 ⟨r.val, by omega⟩ q)) p q)
    (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q)) (fun p q => acc1C p q)
    (fun p q => cov2' arg11.view _ inb_S512x2048_S512x256_0_256 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_256 r q _ _ rfl rfl) p q

theorem acc3C_eq : (kernelRun0_C.sl.H9_11 (F := Ideal) c i arg3 harg3 arg4 harg4 arg5 harg5 arg6 harg6 arg7 harg7 arg11 harg11 arg15 harg15 arg16 harg16 arg17 hc5 x1 x2 x3 x4 x5 xo9 xs2 xs3) = ⟨(Rect.unit (s := S512x2048) ![0, 512] ![512, 256] inb_S512x2048_S512x256_0_512), accPay (arg11.view.readCov (kernelRun0_C.sl.H9_10 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 512] ![512, 256] inb_S512x2048_S512x256_0_512).toLoadRect) (arg17.view.readCov (kernelRun0_C.sl.HS4_4 (F := Ideal) c i arg4 harg4 arg5 harg5 arg6 harg6 arg7 harg7 arg15 harg15 hc5 x2 x3 x4 x5 xs2) (Rect.unit (s := S512x512) ![0, 0] ![512, 512] inb_S512x512_S512x512_0_0).toLoadRect) (View.readAt (Elt Ideal) arg3.view (Rect.unit (s := S1024x2048) ![512, 512] ![512, 256] inb_S1024x2048_S512x256_512_512).toLoadRect (harg3.unread x1))⟩ :: (kernelRun0_C.sl.H9_10 (F := Ideal) c i arg3 harg3 arg4 harg4 arg5 harg5 arg6 harg6 arg7 harg7 arg11 harg11 arg15 harg15 arg16 harg16 arg17 hc5 x1 x2 x3 x4 x5 xo9 xs2 xs3) := rfl

theorem acc3C (p : Fin 512) (q : Fin 2048) :
    View.canon (kernelRun0_C.sl.H9_11 (F := Ideal) c i arg3 harg3 arg4 harg4 arg5 harg5 arg6 harg6 arg7 harg7 arg11 harg11 arg15 harg15 arg16 harg16 arg17 hc5 x1 x2 x3 x4 x5 xo9 xs2 xs3) (ix2 p q) = accTo 3 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q))) p q := by
  rw [acc3C_eq]
  exact acc_step 2 512 rfl (by decide) _ _ _ _ _ (fun p q => accOut (fun p q => xo9 (ix2 p q)) xs3 (fun r q => x1 (ix2 ⟨r.val, by omega⟩ q)) p q)
    (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q)) (fun p q => acc2C p q)
    (fun p q => cov2' arg11.view _ inb_S512x2048_S512x256_0_512 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_512 r q _ _ rfl rfl) p q

theorem acc4C_eq : (kernelRun0_C.sl.H9_12 (F := Ideal) c i arg3 harg3 arg4 harg4 arg5 harg5 arg6 harg6 arg7 harg7 arg11 harg11 arg15 harg15 arg16 harg16 arg17 hc5 x1 x2 x3 x4 x5 xo9 xs2 xs3) = ⟨(Rect.unit (s := S512x2048) ![0, 768] ![512, 256] inb_S512x2048_S512x256_0_768), accPay (arg11.view.readCov (kernelRun0_C.sl.H9_11 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 768] ![512, 256] inb_S512x2048_S512x256_0_768).toLoadRect) (arg17.view.readCov (kernelRun0_C.sl.HS4_4 (F := Ideal) c i arg4 harg4 arg5 harg5 arg6 harg6 arg7 harg7 arg15 harg15 hc5 x2 x3 x4 x5 xs2) (Rect.unit (s := S512x512) ![0, 0] ![512, 512] inb_S512x512_S512x512_0_0).toLoadRect) (View.readAt (Elt Ideal) arg3.view (Rect.unit (s := S1024x2048) ![512, 768] ![512, 256] inb_S1024x2048_S512x256_512_768).toLoadRect (harg3.unread x1))⟩ :: (kernelRun0_C.sl.H9_11 (F := Ideal) c i arg3 harg3 arg4 harg4 arg5 harg5 arg6 harg6 arg7 harg7 arg11 harg11 arg15 harg15 arg16 harg16 arg17 hc5 x1 x2 x3 x4 x5 xo9 xs2 xs3) := rfl

theorem acc4C (p : Fin 512) (q : Fin 2048) :
    View.canon (kernelRun0_C.sl.H9_12 (F := Ideal) c i arg3 harg3 arg4 harg4 arg5 harg5 arg6 harg6 arg7 harg7 arg11 harg11 arg15 harg15 arg16 harg16 arg17 hc5 x1 x2 x3 x4 x5 xo9 xs2 xs3) (ix2 p q) = accTo 4 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q))) p q := by
  rw [acc4C_eq]
  exact acc_step 3 768 rfl (by decide) _ _ _ _ _ (fun p q => accOut (fun p q => xo9 (ix2 p q)) xs3 (fun r q => x1 (ix2 ⟨r.val, by omega⟩ q)) p q)
    (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q)) (fun p q => acc3C p q)
    (fun p q => cov2' arg11.view _ inb_S512x2048_S512x256_0_768 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_768 r q _ _ rfl rfl) p q

theorem acc5C_eq : (kernelRun0_C.sl.H9_13 (F := Ideal) c i arg3 harg3 arg4 harg4 arg5 harg5 arg6 harg6 arg7 harg7 arg11 harg11 arg15 harg15 arg16 harg16 arg17 hc5 x1 x2 x3 x4 x5 xo9 xs2 xs3) = ⟨(Rect.unit (s := S512x2048) ![0, 1024] ![512, 256] inb_S512x2048_S512x256_0_1024), accPay (arg11.view.readCov (kernelRun0_C.sl.H9_12 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 1024] ![512, 256] inb_S512x2048_S512x256_0_1024).toLoadRect) (arg17.view.readCov (kernelRun0_C.sl.HS4_4 (F := Ideal) c i arg4 harg4 arg5 harg5 arg6 harg6 arg7 harg7 arg15 harg15 hc5 x2 x3 x4 x5 xs2) (Rect.unit (s := S512x512) ![0, 0] ![512, 512] inb_S512x512_S512x512_0_0).toLoadRect) (View.readAt (Elt Ideal) arg3.view (Rect.unit (s := S1024x2048) ![512, 1024] ![512, 256] inb_S1024x2048_S512x256_512_1024).toLoadRect (harg3.unread x1))⟩ :: (kernelRun0_C.sl.H9_12 (F := Ideal) c i arg3 harg3 arg4 harg4 arg5 harg5 arg6 harg6 arg7 harg7 arg11 harg11 arg15 harg15 arg16 harg16 arg17 hc5 x1 x2 x3 x4 x5 xo9 xs2 xs3) := rfl

theorem acc5C (p : Fin 512) (q : Fin 2048) :
    View.canon (kernelRun0_C.sl.H9_13 (F := Ideal) c i arg3 harg3 arg4 harg4 arg5 harg5 arg6 harg6 arg7 harg7 arg11 harg11 arg15 harg15 arg16 harg16 arg17 hc5 x1 x2 x3 x4 x5 xo9 xs2 xs3) (ix2 p q) = accTo 5 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q))) p q := by
  rw [acc5C_eq]
  exact acc_step 4 1024 rfl (by decide) _ _ _ _ _ (fun p q => accOut (fun p q => xo9 (ix2 p q)) xs3 (fun r q => x1 (ix2 ⟨r.val, by omega⟩ q)) p q)
    (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q)) (fun p q => acc4C p q)
    (fun p q => cov2' arg11.view _ inb_S512x2048_S512x256_0_1024 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_1024 r q _ _ rfl rfl) p q

theorem acc6C_eq : (kernelRun0_C.sl.H9_14 (F := Ideal) c i arg3 harg3 arg4 harg4 arg5 harg5 arg6 harg6 arg7 harg7 arg11 harg11 arg15 harg15 arg16 harg16 arg17 hc5 x1 x2 x3 x4 x5 xo9 xs2 xs3) = ⟨(Rect.unit (s := S512x2048) ![0, 1280] ![512, 256] inb_S512x2048_S512x256_0_1280), accPay (arg11.view.readCov (kernelRun0_C.sl.H9_13 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 1280] ![512, 256] inb_S512x2048_S512x256_0_1280).toLoadRect) (arg17.view.readCov (kernelRun0_C.sl.HS4_4 (F := Ideal) c i arg4 harg4 arg5 harg5 arg6 harg6 arg7 harg7 arg15 harg15 hc5 x2 x3 x4 x5 xs2) (Rect.unit (s := S512x512) ![0, 0] ![512, 512] inb_S512x512_S512x512_0_0).toLoadRect) (View.readAt (Elt Ideal) arg3.view (Rect.unit (s := S1024x2048) ![512, 1280] ![512, 256] inb_S1024x2048_S512x256_512_1280).toLoadRect (harg3.unread x1))⟩ :: (kernelRun0_C.sl.H9_13 (F := Ideal) c i arg3 harg3 arg4 harg4 arg5 harg5 arg6 harg6 arg7 harg7 arg11 harg11 arg15 harg15 arg16 harg16 arg17 hc5 x1 x2 x3 x4 x5 xo9 xs2 xs3) := rfl

theorem acc6C (p : Fin 512) (q : Fin 2048) :
    View.canon (kernelRun0_C.sl.H9_14 (F := Ideal) c i arg3 harg3 arg4 harg4 arg5 harg5 arg6 harg6 arg7 harg7 arg11 harg11 arg15 harg15 arg16 harg16 arg17 hc5 x1 x2 x3 x4 x5 xo9 xs2 xs3) (ix2 p q) = accTo 6 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q))) p q := by
  rw [acc6C_eq]
  exact acc_step 5 1280 rfl (by decide) _ _ _ _ _ (fun p q => accOut (fun p q => xo9 (ix2 p q)) xs3 (fun r q => x1 (ix2 ⟨r.val, by omega⟩ q)) p q)
    (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q)) (fun p q => acc5C p q)
    (fun p q => cov2' arg11.view _ inb_S512x2048_S512x256_0_1280 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_1280 r q _ _ rfl rfl) p q

theorem acc7C_eq : (kernelRun0_C.sl.H9_15 (F := Ideal) c i arg3 harg3 arg4 harg4 arg5 harg5 arg6 harg6 arg7 harg7 arg11 harg11 arg15 harg15 arg16 harg16 arg17 hc5 x1 x2 x3 x4 x5 xo9 xs2 xs3) = ⟨(Rect.unit (s := S512x2048) ![0, 1536] ![512, 256] inb_S512x2048_S512x256_0_1536), accPay (arg11.view.readCov (kernelRun0_C.sl.H9_14 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 1536] ![512, 256] inb_S512x2048_S512x256_0_1536).toLoadRect) (arg17.view.readCov (kernelRun0_C.sl.HS4_4 (F := Ideal) c i arg4 harg4 arg5 harg5 arg6 harg6 arg7 harg7 arg15 harg15 hc5 x2 x3 x4 x5 xs2) (Rect.unit (s := S512x512) ![0, 0] ![512, 512] inb_S512x512_S512x512_0_0).toLoadRect) (View.readAt (Elt Ideal) arg3.view (Rect.unit (s := S1024x2048) ![512, 1536] ![512, 256] inb_S1024x2048_S512x256_512_1536).toLoadRect (harg3.unread x1))⟩ :: (kernelRun0_C.sl.H9_14 (F := Ideal) c i arg3 harg3 arg4 harg4 arg5 harg5 arg6 harg6 arg7 harg7 arg11 harg11 arg15 harg15 arg16 harg16 arg17 hc5 x1 x2 x3 x4 x5 xo9 xs2 xs3) := rfl

theorem acc7C (p : Fin 512) (q : Fin 2048) :
    View.canon (kernelRun0_C.sl.H9_15 (F := Ideal) c i arg3 harg3 arg4 harg4 arg5 harg5 arg6 harg6 arg7 harg7 arg11 harg11 arg15 harg15 arg16 harg16 arg17 hc5 x1 x2 x3 x4 x5 xo9 xs2 xs3) (ix2 p q) = accTo 7 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q))) p q := by
  rw [acc7C_eq]
  exact acc_step 6 1536 rfl (by decide) _ _ _ _ _ (fun p q => accOut (fun p q => xo9 (ix2 p q)) xs3 (fun r q => x1 (ix2 ⟨r.val, by omega⟩ q)) p q)
    (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q)) (fun p q => acc6C p q)
    (fun p q => cov2' arg11.view _ inb_S512x2048_S512x256_0_1536 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_1536 r q _ _ rfl rfl) p q

theorem acc8C_eq : (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) = ⟨(Rect.unit (s := S512x2048) ![0, 1792] ![512, 256] inb_S512x2048_S512x256_0_1792), accPay (arg11.view.readCov (kernelRun0_C.sl.H9_15 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 1792] ![512, 256] inb_S512x2048_S512x256_0_1792).toLoadRect) (arg17.view.readCov (kernelRun0_C.sl.HS4_4 (F := Ideal) c i arg4 harg4 arg5 harg5 arg6 harg6 arg7 harg7 arg15 harg15 hc5 x2 x3 x4 x5 xs2) (Rect.unit (s := S512x512) ![0, 0] ![512, 512] inb_S512x512_S512x512_0_0).toLoadRect) (View.readAt (Elt Ideal) arg3.view (Rect.unit (s := S1024x2048) ![512, 1792] ![512, 256] inb_S1024x2048_S512x256_512_1792).toLoadRect (harg3.unread x1))⟩ :: (kernelRun0_C.sl.H9_15 (F := Ideal) c i arg3 harg3 arg4 harg4 arg5 harg5 arg6 harg6 arg7 harg7 arg11 harg11 arg15 harg15 arg16 harg16 arg17 hc5 x1 x2 x3 x4 x5 xo9 xs2 xs3) := rfl

theorem acc8C (p : Fin 512) (q : Fin 2048) :
    View.canon (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (ix2 p q) = accTo 8 (fun p q => accOut (fun p q => xo9 (ix2 p q)) xs3 (fun r q => x1 (ix2 ⟨r.val, by omega⟩ q)) p q)
      (accOut (fun p q => accOut (fun p q => xo9 (ix2 p q)) xs3 (fun r q => x1 (ix2 ⟨r.val, by omega⟩ q)) p q) (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q))) p q := by
  rw [acc8C_eq]
  exact acc_step 7 1792 rfl (by decide) _ _ _ _ _ (fun p q => accOut (fun p q => xo9 (ix2 p q)) xs3 (fun r q => x1 (ix2 ⟨r.val, by omega⟩ q)) p q)
    (View.canon (kernelRun0_C.sl.HS4_4 (F := Ideal) c i arg4 harg4 arg5 harg5 arg6 harg6 arg7 harg7 arg15 harg15 hc5 x2 x3 x4 x5 xs2)) (fun r q => x1 (ix2 ⟨512 + r.val, by omega⟩ q)) (fun p q => acc7C p q)
    (fun p q => cov2' arg11.view _ inb_S512x2048_S512x256_0_1792 p q _ _ (Nat.zero_add _).symm rfl)
    (fun p r => cov2' arg17.view _ inb_S512x512_S512x512_0_0 p r _ _ (Nat.zero_add _).symm (Nat.zero_add _).symm)
    (fun r q => ld2' arg3 harg3 x1 inb_S1024x2048_S512x256_512_1792 r q _ _ rfl rfl) p q

/-- The running output after both expert groups. -/
theorem outC (hg : 1 ≤ (i 1).val) (hg2 : (i 1).val ≤ 16) (p : Fin 512) (q : Fin 2048) :
    View.canon (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (ix2 p q)
      = (xo9 (ix2 p q) + ∑ r : Fin 512, xs3 (ix2 p r) * x1 (ix2 ⟨r.val, by omega⟩ q))
        + ∑ r : Fin 512, hidAt x2 x3 x4 x5 xs2 ⟨8 * (i 1).val - 4 + r.val / 128, by omega⟩ ⟨r.val % 128, Nat.mod_lt _ (by decide)⟩ r p * x1 (ix2 ⟨512 + r.val, by omega⟩ q) := by
  rw [acc8C p q]
  refine (if_pos (by omega)).trans (congrArg₂ (· + ·) rfl (Finset.sum_congr rfl fun r _ => congrArg (· * _) (hid1C hg hg2 p r)))

/-- The normed block, from the tokens and the experts' sum. -/
theorem normPay (x y : Vec Ideal S512x2048 .f32) (g b : Vec Ideal S1x2048 .f32) (p : Fin 512) (q : Fin 2048) :
    k0_pay12 x y g b (ix2 p q) = Norm.layer (fun q => Ideal.ofBits .f32 0x3FD744FD#32 * x (ix2 p q) + y (ix2 p q)) (fun k => g (ix2 0 k)) (fun k => b (ix2 0 k)) q := by
  pointwise [k0_pay12]
  rfl

theorem normPay' (x y : Vec Ideal S512x2048 .f32) (g b : Vec Ideal S1x2048 .f32) (p : Fin 512) (q : Fin 2048) :
    k0_pay13 x y g b (ix2 p q) = k0_pay12 x y g b (ix2 p q) := rfl

theorem normed (p : Fin 512) (q : Fin 2048) : k0_pay12 (View.readAt (Elt Ideal) arg8.view (Rect.unit (s := S512x2048) ![0, 0] ![512, 2048] inb_S512x2048_S512x2048_0_0).toLoadRect (harg8.unread x6)) (arg11.view.readCov (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 0] ![512, 2048] inb_S512x2048_S512x2048_0_0).toLoadRect) (View.readAt (Elt Ideal) arg9.view (Rect.unit (s := S1x2048) ![0, 0] ![1, 2048] inb_S1x2048_S1x2048_0_0).toLoadRect (harg9.unread x7)) (View.readAt (Elt Ideal) arg10.view (Rect.unit (s := S1x2048) ![0, 0] ![1, 2048] inb_S1x2048_S1x2048_0_0).toLoadRect (harg10.unread x8)) (ix2 p q)
    = Norm.layer (fun q => Ideal.ofBits .f32 0x3FD744FD#32 * x6 (ix2 p q) + View.canon (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (ix2 p q)) (fun k => x7 (ix2 0 k)) (fun k => x8 (ix2 0 k)) q := by
  rw [normPay]
  have e1 : ∀ q, Ideal.ofBits .f32 0x3FD744FD#32 * (View.readAt (Elt Ideal) arg8.view (Rect.unit (s := S512x2048) ![0, 0] ![512, 2048] inb_S512x2048_S512x2048_0_0).toLoadRect (harg8.unread x6)) (ix2 p q) + (arg11.view.readCov (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 0] ![512, 2048] inb_S512x2048_S512x2048_0_0).toLoadRect) (ix2 p q) = Ideal.ofBits .f32 0x3FD744FD#32 * x6 (ix2 p q) + View.canon (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (ix2 p q) := fun q =>
    congrArg₂ (· + ·) (congrArg (_ * ·) (ld2' arg8 harg8 x6 inb_S512x2048_S512x2048_0_0 p q _ _ (Nat.zero_add _).symm (Nat.zero_add _).symm))
      (cov2' arg11.view _ inb_S512x2048_S512x2048_0_0 p q _ _ (Nat.zero_add _).symm (Nat.zero_add _).symm)
  have e2 : ∀ k, (View.readAt (Elt Ideal) arg9.view (Rect.unit (s := S1x2048) ![0, 0] ![1, 2048] inb_S1x2048_S1x2048_0_0).toLoadRect (harg9.unread x7)) (ix2 0 k) = x7 (ix2 0 k) := fun k => ld2' arg9 harg9 x7 inb_S1x2048_S1x2048_0_0 0 k _ _ (Nat.zero_add _).symm (Nat.zero_add _).symm
  have e3 : ∀ k, (View.readAt (Elt Ideal) arg10.view (Rect.unit (s := S1x2048) ![0, 0] ![1, 2048] inb_S1x2048_S1x2048_0_0).toLoadRect (harg10.unread x8)) (ix2 0 k) = x8 (ix2 0 k) := fun k => ld2' arg10 harg10 x8 inb_S1x2048_S1x2048_0_0 0 k _ _ (Nat.zero_add _).symm (Nat.zero_add _).symm
  exact congrFun (congrFun (congrFun (congrArg Norm.layer (funext fun k => e1 k)) _ |>.trans (congrArg _ (funext fun k => e2 k))) _ |>.trans (congrArg _ (funext fun k => e3 k))) q

theorem finC_eq : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).1 = ⟨(Rect.unit (s := S512x2048) ![0, 0] ![512, 2048] inb_S512x2048_S512x2048_0_0), k0_pay12 (View.readAt (Elt Ideal) arg8.view (Rect.unit (s := S512x2048) ![0, 0] ![512, 2048] inb_S512x2048_S512x2048_0_0).toLoadRect (harg8.unread x6)) (arg11.view.readCov (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 0] ![512, 2048] inb_S512x2048_S512x2048_0_0).toLoadRect) (View.readAt (Elt Ideal) arg9.view (Rect.unit (s := S1x2048) ![0, 0] ![1, 2048] inb_S1x2048_S1x2048_0_0).toLoadRect (harg9.unread x7)) (View.readAt (Elt Ideal) arg10.view (Rect.unit (s := S1x2048) ![0, 0] ![1, 2048] inb_S1x2048_S1x2048_0_0).toLoadRect (harg10.unread x8))⟩ :: (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) := rfl
theorem narrowC_eq : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).2.1 = [⟨(Rect.unit (s := S512x2048) ![0, 0] ![512, 2048] inb_S512x2048_S512x2048_0_0), k0_pay13 (View.readAt (Elt Ideal) arg8.view (Rect.unit (s := S512x2048) ![0, 0] ![512, 2048] inb_S512x2048_S512x2048_0_0).toLoadRect (harg8.unread x6)) (arg11.view.readCov (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (Rect.unit (s := S512x2048) ![0, 0] ![512, 2048] inb_S512x2048_S512x2048_0_0).toLoadRect) (View.readAt (Elt Ideal) arg9.view (Rect.unit (s := S1x2048) ![0, 0] ![1, 2048] inb_S1x2048_S1x2048_0_0).toLoadRect (harg9.unread x7)) (View.readAt (Elt Ideal) arg10.view (Rect.unit (s := S1x2048) ![0, 0] ![1, 2048] inb_S1x2048_S1x2048_0_0).toLoadRect (harg10.unread x8))⟩] := rfl

/-- The block of the result. -/
theorem finC (p : Fin 512) (q : Fin 2048) : View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).1 (ix2 p q)
    = Norm.layer (fun q => Ideal.ofBits .f32 0x3FD744FD#32 * x6 (ix2 p q) + View.canon (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (ix2 p q)) (fun k => x7 (ix2 0 k)) (fun k => x8 (ix2 0 k)) q := by
  rw [finC_eq, canon_hit _ _ _ _ _ (by omega) (by omega) (by omega) (by omega)]
  exact normed p q

/-- Its narrow copy. -/
theorem narrowC (p : Fin 512) (q : Fin 2048) : View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3).2.1 (ix2 p q)
    = Norm.layer (fun q => Ideal.ofBits .f32 0x3FD744FD#32 * x6 (ix2 p q) + View.canon (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (ix2 p q)) (fun k => x7 (ix2 0 k)) (fun k => x8 (ix2 0 k)) q := by
  rw [narrowC_eq, canon_hit _ _ _ _ _ (by omega) (by omega) (by omega) (by omega)]
  exact (normPay' _ _ _ _ p q).trans (normed p q)

end Cert.Kernel9Ideal.Blocks

end
-- ==== Proof.PeerOut.lean ====
/- Program 9: the contents a step of each kind leaves, in plain entries. -/
module

public import proofs.«01_k».proof.Proof.PeerRunA
public import proofs.«01_k».proof.Proof.PeerRunB
public import proofs.«01_k».proof.Proof.PeerRunC
public import proofs.«01_k».proof.Proof.Gen.Kernel9Ideal.Frame

@[expose] public section

set_option maxRecDepth 16384

noncomputable section

namespace Cert.Kernel9Ideal.Blocks

open Idealize.ShloMosaic Idealize.ShloMosaic.TcCoe Idealize.SL.Sem Cert.Kernel9Ideal Cert.Kernel9Ideal.Gen Cert.Peer

section A

variable {c : Dev nD} {i : grid0.Coords} {arg2 : Memref sig .tc .vmem S1024x2048 .bf16} {harg2 : arg2.IsWhole} {arg3 : Memref sig .tc .vmem S1024x2048 .bf16} {harg3 : arg3.IsWhole} {arg4 : Memref sig .tc .vmem S8x128x512 .f32} {harg4 : arg4.IsWhole} {arg5 : Memref sig .tc .vmem S8x128x512 .f32} {harg5 : arg5.IsWhole} {arg6 : Memref sig .tc .vmem S8x128x512 .bf16} {harg6 : arg6.IsWhole} {arg7 : Memref sig .tc .vmem S8x128x512 .bf16} {harg7 : arg7.IsWhole} {arg8 : Memref sig .tc .vmem S512x2048 .f32} {harg8 : arg8.IsWhole} {arg9 : Memref sig .tc .vmem S1x2048 .f32} {harg9 : arg9.IsWhole} {arg10 : Memref sig .tc .vmem S1x2048 .f32} {harg10 : arg10.IsWhole} {arg11 : Memref sig .tc .vmem S512x2048 .f32} {harg11 : arg11.IsWhole} {arg12 : Memref sig .tc .vmem S512x2048 .bf16} {harg12 : arg12.IsWhole} {arg13 : Memref sig .tc .vmem S2048x512 .bf16} {harg13 : arg13.IsWhole} {arg14 : Memref sig .tc .vmem S512x512 .f32} {harg14 : arg14.IsWhole} {arg15 : Memref sig .tc .vmem S512x512 .f32} {harg15 : arg15.IsWhole} {arg16 : Memref sig .tc .vmem S512x512 .bf16} {harg16 : arg16.IsWhole} {arg17 : Memref sig .tc .vmem S512x512 .bf16} {harg17 : arg17.IsWhole} {hc0 : cond0_0 i} {hc1 : cond0_1 i} {hc2 : cond0_2 i} {hc3 : ¬cond0_3 i} {hc4 : ¬cond0_4 i} {hc5 : ¬cond0_5 i} {hc6 : ¬cond0_6 i} {hc7 : ¬cond0_7 i}
    {x0 : Vec Ideal S1024x2048 .bf16} {x1 : Vec Ideal S1024x2048 .bf16} {x2 : Vec Ideal S8x128x512 .f32} {x3 : Vec Ideal S8x128x512 .f32} {x4 : Vec Ideal S8x128x512 .bf16} {x5 : Vec Ideal S8x128x512 .bf16} {x6 : Vec Ideal S512x2048 .f32} {x7 : Vec Ideal S1x2048 .f32} {x8 : Vec Ideal S1x2048 .f32}

theorem outA_at (p : Fin 512) (q : Fin 2048) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 (ix2 p q) = 0 := by
  unfold out0_A_9
  exact (View.read_writes_junk_apply_eq_canon _ _ _).trans (outA  p q)

theorem act1A_at (r t : Fin 512) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 (ix2 r t) = ∑ d : Fin 2048, x0 (ix2 ⟨512 + r.val, by omega⟩ d) * x6 (ix2 t d) := by
  unfold sout0_A_2
  exact (View.read_writes_junk_apply_eq_canon _ _ _).trans (act1A  r t)

theorem hid0A_at (hg2 : (i 1).val ≤ 15) (p q : Fin 512) : sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 (ix2 p q) = hidAt x2 x3 x4 x5 (fun k => ∑ d : Fin 2048, x0 (ix2 ⟨(k 0).val, lt_trans (k 0).isLt (by decide)⟩ d) * x6 (ix2 (k 1) d)) ⟨8 * (i 1).val + q.val / 128, by omega⟩ ⟨q.val % 128, Nat.mod_lt _ (by decide)⟩ q p := by
  unfold sout0_A_3
  exact (View.read_writes_junk_apply_eq_canon _ _ _).trans (hid0A hg2 p q)

theorem xtA_at (d : Fin 2048) (t : Fin 512) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 (ix2 d t) = x6 (ix2 t d) := by
  unfold sout0_A_0
  exact (View.read_writes_junk_apply_eq_canon _ _ _).trans (xtA d t)

end A

section B

variable {c : Dev nD} {i : grid0.Coords} {arg2 : Memref sig .tc .vmem S1024x2048 .bf16} {harg2 : arg2.IsWhole} {arg3 : Memref sig .tc .vmem S1024x2048 .bf16} {harg3 : arg3.IsWhole} {arg4 : Memref sig .tc .vmem S8x128x512 .f32} {harg4 : arg4.IsWhole} {arg5 : Memref sig .tc .vmem S8x128x512 .f32} {harg5 : arg5.IsWhole} {arg6 : Memref sig .tc .vmem S8x128x512 .bf16} {harg6 : arg6.IsWhole} {arg7 : Memref sig .tc .vmem S8x128x512 .bf16} {harg7 : arg7.IsWhole} {arg8 : Memref sig .tc .vmem S512x2048 .f32} {harg8 : arg8.IsWhole} {arg9 : Memref sig .tc .vmem S1x2048 .f32} {harg9 : arg9.IsWhole} {arg10 : Memref sig .tc .vmem S1x2048 .f32} {harg10 : arg10.IsWhole} {arg11 : Memref sig .tc .vmem S512x2048 .f32} {harg11 : arg11.IsWhole} {arg12 : Memref sig .tc .vmem S512x2048 .bf16} {harg12 : arg12.IsWhole} {arg13 : Memref sig .tc .vmem S2048x512 .bf16} {harg13 : arg13.IsWhole} {arg14 : Memref sig .tc .vmem S512x512 .f32} {harg14 : arg14.IsWhole} {arg15 : Memref sig .tc .vmem S512x512 .f32} {harg15 : arg15.IsWhole} {arg16 : Memref sig .tc .vmem S512x512 .bf16} {harg16 : arg16.IsWhole} {arg17 : Memref sig .tc .vmem S512x512 .bf16} {harg17 : arg17.IsWhole} {hc0 : ¬cond0_0 i} {hc1 : ¬cond0_1 i} {hc2 : ¬cond0_2 i} {hc3 : cond0_3 i} {hc4 : cond0_4 i} {hc5 : ¬cond0_5 i} {hc6 : ¬cond0_6 i} {hc7 : ¬cond0_7 i}
    {x0 : Vec Ideal S1024x2048 .bf16} {x1 : Vec Ideal S1024x2048 .bf16} {x2 : Vec Ideal S8x128x512 .f32} {x3 : Vec Ideal S8x128x512 .f32} {x4 : Vec Ideal S8x128x512 .bf16} {x5 : Vec Ideal S8x128x512 .bf16} {x6 : Vec Ideal S512x2048 .f32} {x7 : Vec Ideal S1x2048 .f32} {x8 : Vec Ideal S1x2048 .f32} {xo9 : Vec Ideal S512x2048 .f32} {xs0 : Vec Ideal S2048x512 .bf16} {xs2 : Vec Ideal S512x512 .f32} {xs3 : Vec Ideal S512x512 .bf16}

theorem outB_at (hg : 1 ≤ (i 1).val) (hg2 : (i 1).val ≤ 15) (p : Fin 512) (q : Fin 2048) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3 (ix2 p q) = (xo9 (ix2 p q) + ∑ r : Fin 512, xs3 (ix2 p r) * x1 (ix2 ⟨r.val, by omega⟩ q))
        + ∑ r : Fin 512, hidAt x2 x3 x4 x5 xs2 ⟨8 * (i 1).val - 4 + r.val / 128, by omega⟩ ⟨r.val % 128, Nat.mod_lt _ (by decide)⟩ r p * x1 (ix2 ⟨512 + r.val, by omega⟩ q) := by
  unfold out0_B_9
  exact (View.read_writes_junk_apply_eq_canon _ _ _).trans (outB hg hg2 p q)

theorem act1B_at (r t : Fin 512) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3 (ix2 r t) = ∑ d : Fin 2048, x0 (ix2 ⟨512 + r.val, by omega⟩ d) * xs0 (ix2 d t) := by
  unfold sout0_B_2
  exact (View.read_writes_junk_apply_eq_canon _ _ _).trans (act1B  r t)

theorem hid0B_at (hg2 : (i 1).val ≤ 15) (p q : Fin 512) : sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3 (ix2 p q) = hidAt x2 x3 x4 x5 (fun k => ∑ d : Fin 2048, x0 (ix2 ⟨(k 0).val, lt_trans (k 0).isLt (by decide)⟩ d) * xs0 (ix2 d (k 1))) ⟨8 * (i 1).val + q.val / 128, by omega⟩ ⟨q.val % 128, Nat.mod_lt _ (by decide)⟩ q p := by
  unfold sout0_B_3
  exact (View.read_writes_junk_apply_eq_canon _ _ _).trans (hid0B hg2 p q)

theorem xtB_at : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3 = xs0 := rfl

end B

section C

variable {c : Dev nD} {i : grid0.Coords} {arg2 : Memref sig .tc .vmem S1024x2048 .bf16} {harg2 : arg2.IsWhole} {arg3 : Memref sig .tc .vmem S1024x2048 .bf16} {harg3 : arg3.IsWhole} {arg4 : Memref sig .tc .vmem S8x128x512 .f32} {harg4 : arg4.IsWhole} {arg5 : Memref sig .tc .vmem S8x128x512 .f32} {harg5 : arg5.IsWhole} {arg6 : Memref sig .tc .vmem S8x128x512 .bf16} {harg6 : arg6.IsWhole} {arg7 : Memref sig .tc .vmem S8x128x512 .bf16} {harg7 : arg7.IsWhole} {arg8 : Memref sig .tc .vmem S512x2048 .f32} {harg8 : arg8.IsWhole} {arg9 : Memref sig .tc .vmem S1x2048 .f32} {harg9 : arg9.IsWhole} {arg10 : Memref sig .tc .vmem S1x2048 .f32} {harg10 : arg10.IsWhole} {arg11 : Memref sig .tc .vmem S512x2048 .f32} {harg11 : arg11.IsWhole} {arg12 : Memref sig .tc .vmem S512x2048 .bf16} {harg12 : arg12.IsWhole} {arg13 : Memref sig .tc .vmem S2048x512 .bf16} {harg13 : arg13.IsWhole} {arg14 : Memref sig .tc .vmem S512x512 .f32} {harg14 : arg14.IsWhole} {arg15 : Memref sig .tc .vmem S512x512 .f32} {harg15 : arg15.IsWhole} {arg16 : Memref sig .tc .vmem S512x512 .bf16} {harg16 : arg16.IsWhole} {arg17 : Memref sig .tc .vmem S512x512 .bf16} {harg17 : arg17.IsWhole} {hc0 : ¬cond0_0 i} {hc1 : ¬cond0_1 i} {hc2 : ¬cond0_2 i} {hc3 : ¬cond0_3 i} {hc4 : ¬cond0_4 i} {hc5 : cond0_5 i} {hc6 : cond0_6 i} {hc7 : cond0_7 i}
    {x0 : Vec Ideal S1024x2048 .bf16} {x1 : Vec Ideal S1024x2048 .bf16} {x2 : Vec Ideal S8x128x512 .f32} {x3 : Vec Ideal S8x128x512 .f32} {x4 : Vec Ideal S8x128x512 .bf16} {x5 : Vec Ideal S8x128x512 .bf16} {x6 : Vec Ideal S512x2048 .f32} {x7 : Vec Ideal S1x2048 .f32} {x8 : Vec Ideal S1x2048 .f32} {xo9 : Vec Ideal S512x2048 .f32} {xs0 : Vec Ideal S2048x512 .bf16} {xs2 : Vec Ideal S512x512 .f32} {xs3 : Vec Ideal S512x512 .bf16}

theorem finC_at (p : Fin 512) (q : Fin 2048) : out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3 (ix2 p q) = Norm.layer (fun q => Ideal.ofBits .f32 0x3FD744FD#32 * x6 (ix2 p q) + View.canon (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (ix2 p q)) (fun k => x7 (ix2 0 k)) (fun k => x8 (ix2 0 k)) q := by
  unfold out0_C_9
  exact (View.read_writes_junk_apply_eq_canon _ _ _).trans (finC  p q)

theorem narrowC_at (p : Fin 512) (q : Fin 2048) : out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 x0 x1 x2 x3 x4 x5 x6 x7 x8 xo9 xs0 xs2 xs3 (ix2 p q) = Norm.layer (fun q => Ideal.ofBits .f32 0x3FD744FD#32 * x6 (ix2 p q) + View.canon (kernelRun0_C.sl.H9_16 (F := Ideal) c i arg3 harg3 arg4 harg4 arg5 harg5 arg6 harg6 arg7 harg7 arg11 harg11 arg15 harg15 arg16 harg16 arg17 hc5 x1 x2 x3 x4 x5 xo9 xs2 xs3) (ix2 p q)) (fun k => x7 (ix2 0 k)) (fun k => x8 (ix2 0 k)) q := by
  unfold out0_C_10
  exact (View.read_writes_junk_apply_eq_canon _ _ _).trans (narrowC  p q)

end C

end Cert.Kernel9Ideal.Blocks

end
-- ==== Proof.PeerStep.lean ====
/- Program 9: what the kernel holds after each point. -/
module

public import proofs.«01_k».proof.Proof.PeerBlk
public import proofs.«01_k».proof.Proof.PeerOut

@[expose] public section

set_option maxRecDepth 16384

noncomputable section

namespace Cert.Kernel9Ideal.Blocks

open Idealize.ShloMosaic Idealize.ShloMosaic.TcCoe Idealize.SL.Sem Cert.Kernel9Ideal Cert.Kernel9Ideal.Gen Cert.Peer
open Cert.Proof

variable (m : (ℓ : Loc nD τ sig) → Buf (Elt Ideal) ℓ) (c : Dev nD)

/-- A token's row in the whole array. -/
def tok (t : Fin cfg0.N) (p : Fin 512) : Fin 32768 :=
  ⟨t.val / 17 * 512 + p.val, by have h := lt_of_lt_of_eq t.isLt (show cfg0.N = 1088 from N_0); omega⟩

/-- An expert's activation and hidden value for a token, over the arguments. -/
abbrev upOf (e : Fin 16384) (r : Fin 32768) : EReal := PeerRef.dotUp (ups m c) (tokens m c) e r
abbrev hidOf (e : Fin 16384) (r : Fin 32768) : EReal := PeerRef.hid (ups m c) (num1 m c) (wgt1 m c) (rank2 m c) (wgt2 m c) (tokens m c) e r

/-- An expert's contribution to an entry, by its number. -/
def term (r : Fin 32768) (q : Fin 2048) (e : ℕ) : EReal :=
  if h : e < 16384 then hidOf m c ⟨e, h⟩ r * downs m c (ix2 ⟨e, h⟩ q) else 0

theorem term_eq (r : Fin 32768) (q : Fin 2048) (e : ℕ) (h : e < 16384) :
    term m c r q e = hidOf m c ⟨e, h⟩ r * downs m c (ix2 ⟨e, h⟩ q) := dif_pos h

/-- A hidden value from a point's blocks is an expert's hidden value. -/
theorem hid_blk (t : Fin cfg0.N) (act : S512x512.Idx → EReal) (k j : Fin 128) (x p : Fin 512) (e : Fin 16384)
    (hk : k.val = e.val / 128) (hj : j.val = e.val % 128) (hact : act (ix2 x p) = upOf m c e (tok t p)) :
    hidAt (iblk m c 2 t) (iblk m c 3 t) (iblk m c 4 t) (iblk m c 5 t) act k j x p = hidOf m c e (tok t p) := by
  have e1 : (⟨e.val / 128, by omega⟩ : Fin 128) = k := Fin.ext hk.symm
  have e2 : (⟨e.val % 128, Nat.mod_lt _ (by decide)⟩ : Fin 128) = j := Fin.ext hj.symm
  unfold hidAt hidOf PeerRef.hid PeerRef.gate
  rw [hact, e1, e2]
  refine congrArg (· * _) ?_
  rw [funext fun h => blk2 m c t h k p (tok t p) rfl, funext fun h => blk3 m c t h k p (tok t p) rfl,
    funext fun h => blk4 m c t h j p (tok t p) rfl, funext fun h => blk5 m c t h j p (tok t p) rfl]

/-- An activation from a point's block of experts and the tokens. -/
theorem up_blk (t : Fin cfg0.N) (U : S1024x2048.Idx → EReal) (hU : U = iblk m c 0 t) (r : Fin 1024) (p : Fin 512) (X : Fin 2048 → EReal) (e : Fin 16384)
    (he : e.val = min (t.val % 17) 15 * 1024 + r.val) (hX : ∀ d, X d = tokens m c (ix2 (tok t p) d)) :
    ∑ d : Fin 2048, U (ix2 r d) * X d = upOf m c e (tok t p) := by
  subst hU
  exact Finset.sum_congr rfl fun d _ => congrArg₂ (· * ·) (blk0 m c t r d e he) (hX d)

/-- What the kernel holds after a point that is not the last of its run. -/
structure Inv (t : Fin cfg0.N) (hg : t.val % 17 ≤ 15) : Prop where
  out : ∀ (p : Fin 512) (q : Fin 2048), (outsAt0 m c t.val t.isLt).1 (ix2 p q) = ∑ e ∈ Finset.range (1024 * (t.val % 17)), term m c (tok t p) q e
  xt : ∀ (d : Fin 2048) (p : Fin 512), (outsAt0 m c t.val t.isLt).2.2.1 (ix2 d p) = tokens m c (ix2 (tok t p) d)
  act : ∀ (r p : Fin 512), (outsAt0 m c t.val t.isLt).2.2.2.1 (ix2 r p) = upOf m c ⟨1024 * (t.val % 17) + 512 + r.val, by omega⟩ (tok t p)
  hid : ∀ (p r : Fin 512), (outsAt0 m c t.val t.isLt).2.2.2.2 (ix2 p r) = hidOf m c ⟨1024 * (t.val % 17) + r.val, by omega⟩ (tok t p)

theorem invA (t : Fin cfg0.N) (h : t.val % 17 = 0) (hg : t.val % 17 ≤ 15) : Inv m c t hg := by
  have hs := step t
  have g2 : (grid0.coords t 1).val ≤ 15 := by omega
  have e := outsAt0_A m c t h h h (by omega) (by omega) (by omega) (by omega) (by omega)
  refine ⟨fun p q => ?_, fun d p => ?_, fun r p => ?_, fun p r => ?_⟩
  · rw [e]
    dsimp only
    rw [outA_at, h]
    rfl
  · rw [e]
    dsimp only
    rw [xtA_at]
    exact blk6 m c t p d (tok t p) rfl
  · rw [e]
    dsimp only
    rw [act1A_at]
    exact up_blk m c t _ rfl _ p _ _ (by show 1024 * (t.val % 17) + 512 + r.val = min (t.val % 17) 15 * 1024 + (512 + r.val); omega)
      (fun d => blk6 m c t p d (tok t p) rfl)
  · rw [e]
    dsimp only
    rw [hid0A_at g2]
    exact hid_blk m c t _ _ _ r p _ (by show 8 * (grid0.coords t 1).val + r.val / 128 = (1024 * (t.val % 17) + r.val) / 128; omega)
      (by show r.val % 128 = (1024 * (t.val % 17) + r.val) % 128; omega)
      (up_blk m c t _ rfl _ p _ _ (by show 1024 * (t.val % 17) + r.val = min (t.val % 17) 15 * 1024 + r.val; omega) (fun d => blk6 m c t p d (tok t p) rfl))

/-- The point before, and what it has in common with its successor. -/
abbrev prev (t : Fin cfg0.N) : Fin cfg0.N := ⟨t.val - 1, Nat.lt_of_le_of_lt (Nat.sub_le _ _) t.isLt⟩

theorem tok_prev (t : Fin cfg0.N) (h : 1 ≤ t.val % 17) (p : Fin 512) : tok (prev t) p = tok t p :=
  Fin.ext (by show (t.val - 1) / 17 * 512 + p.val = t.val / 17 * 512 + p.val; omega)

/-- The running output grows by the two expert groups of a point. -/
theorem grown (t : Fin cfg0.N) (h : 1 ≤ t.val % 17) (hg : (prev t).val % 17 ≤ 15) (inv : Inv m c (prev t) hg)
    (g : ℕ) (hgv : g = t.val % 17) (k : Fin 512 → Fin 128) (j : Fin 512 → Fin 128)
    (hk : ∀ r, (k r).val = 8 * g - 4 + r.val / 128) (hj : ∀ r, (j r).val = r.val % 128) (p : Fin 512) (q : Fin 2048) :
    ((outsAt0 m c (prev t).val (prev t).isLt).1 (ix2 p q) + ∑ r : Fin 512, (outsAt0 m c (prev t).val (prev t).isLt).2.2.2.2 (ix2 p r) * iblk m c 1 t (ix2 (⟨r.val, by omega⟩ : Fin 1024) q))
        + ∑ r : Fin 512, hidAt (iblk m c 2 t) (iblk m c 3 t) (iblk m c 4 t) (iblk m c 5 t) (outsAt0 m c (prev t).val (prev t).isLt).2.2.2.1 (k r) (j r) r p * iblk m c 1 t (ix2 (⟨512 + r.val, by omega⟩ : Fin 1024) q)
      = ∑ e ∈ Finset.range (1024 * (t.val % 17)), term m c (tok t p) q e := by
  have hpv : (prev t).val % 17 = t.val % 17 - 1 := by show (t.val - 1) % 17 = t.val % 17 - 1; omega
  have hlt : t.val % 17 ≤ 16 := by omega
  have e0 : 1024 * (t.val % 17) = 1024 * (t.val % 17 - 1) + 512 + 512 := by omega
  rw [e0, ← sum_grow, ← sum_grow]
  refine congrArg₂ (· + ·) (congrArg₂ (· + ·) ?_ (Finset.sum_congr rfl fun r _ => ?_)) (Finset.sum_congr rfl fun r _ => ?_)
  · refine (inv.out p q).trans ?_
    rw [hpv, tok_prev t h p]
  · rw [term_eq m c _ _ _ (by omega)]
    refine congrArg₂ (· * ·) ((inv.hid p r).trans ?_) (blk1 m c t _ q _ (by show 1024 * (t.val % 17 - 1) + r.val = (t.val % 17 - 1) * 1024 + r.val; omega))
    rw [tok_prev t h p]
    exact congrArg (fun e => hidOf m c e (tok t p)) (Fin.ext (by show 1024 * ((prev t).val % 17) + r.val = 1024 * (t.val % 17 - 1) + r.val; rw [hpv]))
  · rw [term_eq m c _ _ _ (by omega)]
    refine congrArg₂ (· * ·) (hid_blk m c t _ _ _ r p _ ?_ ?_ ((inv.act r p).trans ?_)) (blk1 m c t _ q _ (by show 1024 * (t.val % 17 - 1) + 512 + r.val = (t.val % 17 - 1) * 1024 + (512 + r.val); omega))
    · rw [hk]
      show 8 * g - 4 + r.val / 128 = (1024 * (t.val % 17 - 1) + 512 + r.val) / 128
      omega
    · rw [hj]
      show r.val % 128 = (1024 * (t.val % 17 - 1) + 512 + r.val) % 128
      omega
    · rw [tok_prev t h p]
      exact congrArg (fun e => upOf m c e (tok t p)) (Fin.ext (by show 1024 * ((prev t).val % 17) + 512 + r.val = 1024 * (t.val % 17 - 1) + 512 + r.val; rw [hpv]))

theorem invB (t : Fin cfg0.N) (h : 1 ≤ t.val % 17) (hg : t.val % 17 ≤ 15) (hg' : (prev t).val % 17 ≤ 15) (inv : Inv m c (prev t) hg') : Inv m c t hg := by
  have hs := step t
  have g1 : 1 ≤ (grid0.coords t 1).val := by omega
  have g2 : (grid0.coords t 1).val ≤ 15 := by omega
  have e := outsAt0_B m c t (by omega) (by omega) (by omega) ⟨h, hg⟩ ⟨h, hg⟩ (by omega) (by omega) (by omega)
  have hx : ∀ (d : Fin 2048) (p : Fin 512), (outsAt0 m c (prev t).val (prev t).isLt).2.2.1 (ix2 d p) = tokens m c (ix2 (tok t p) d) := fun d p => by
    rw [inv.xt d p, tok_prev t h p]
  refine ⟨fun p q => ?_, fun d p => ?_, fun r p => ?_, fun p r => ?_⟩
  · rw [e]
    dsimp only
    rw [outB_at g1 g2]
    exact grown m c t h hg' inv (grid0.coords t 1).val hs _ _ (fun r => rfl) (fun r => rfl) p q
  · rw [e]
    dsimp only
    rw [xtB_at]
    exact hx d p
  · rw [e]
    dsimp only
    rw [act1B_at]
    exact up_blk m c t _ rfl _ p _ _ (by show 1024 * (t.val % 17) + 512 + r.val = min (t.val % 17) 15 * 1024 + (512 + r.val); omega)
      (fun d => hx d p)
  · rw [e]
    dsimp only
    rw [hid0B_at g2]
    exact hid_blk m c t _ _ _ r p _ (by show 8 * (grid0.coords t 1).val + r.val / 128 = (1024 * (t.val % 17) + r.val) / 128; omega)
      (by show r.val % 128 = (1024 * (t.val % 17) + r.val) % 128; omega)
      (up_blk m c t _ rfl _ p _ _ (by show 1024 * (t.val % 17) + r.val = min (t.val % 17) 15 * 1024 + r.val; omega) (fun d => hx d p))

/-- Every point but the last of a run. -/
theorem invAll : ∀ (n : ℕ) (hn : n < cfg0.N) (hg : n % 17 ≤ 15), Inv m c ⟨n, hn⟩ hg
  | 0, hn, hg => invA m c ⟨0, hn⟩ rfl hg
  | n + 1, hn, hg => by
    by_cases h : (n + 1) % 17 = 0
    · exact invA m c ⟨n + 1, hn⟩ h hg
    · exact invB m c ⟨n + 1, hn⟩ (by show 1 ≤ (n + 1) % 17; omega) hg (by show (n + 1 - 1) % 17 ≤ 15; omega)
        (invAll n (Nat.lt_of_succ_lt hn) (by omega))

/-- The result over the arguments. -/
def G (i : S32768x2048.Idx) : EReal :=
  PeerRef.G (ups m c) (downs m c) (num1 m c) (wgt1 m c) (rank2 m c) (wgt2 m c) (tokens m c) (gain m c) (bias m c) i

/-- All experts' contributions. -/
theorem all_terms (r : Fin 32768) (q : Fin 2048) :
    ∑ e ∈ Finset.range (1024 * 16), term m c r q e = ∑ e : Fin 16384, hidOf m c e r * downs m c (ix2 e q) := by
  refine (sum_range (n := 16384) (term m c r q)).symm.trans (Finset.sum_congr rfl fun e _ => ?_)
  exact term_eq m c r q e.val e.isLt

/-- The normed row from the last point's blocks. -/
theorem last_row (t : Fin cfg0.N) (p : Fin 512) (q : Fin 2048) (y : Fin 2048 → EReal)
    (hy : ∀ q, y q = ∑ e ∈ Finset.range (1024 * 16), term m c (tok t p) q e) :
    Norm.layer (fun q => Ideal.ofBits .f32 0x3FD744FD#32 * iblk m c 6 t (ix2 p q) + y q) (fun k => iblk m c 7 t (ix2 0 k)) (fun k => iblk m c 8 t (ix2 0 k)) q
      = G m c (ix2 (tok t p) q) := by
  have e1 : ∀ q, Ideal.ofBits .f32 0x3FD744FD#32 * iblk m c 6 t (ix2 p q) + y q
      = PeerRef.pre (ups m c) (downs m c) (num1 m c) (wgt1 m c) (rank2 m c) (wgt2 m c) (tokens m c) (tok t p) q := fun q =>
    congrArg₂ (· + ·) (congrArg (_ * ·) (blk6 m c t p q (tok t p) rfl)) ((hy q).trans (all_terms m c (tok t p) q))
  exact congrFun (congrFun (congrFun (congrArg Norm.layer (funext fun k => e1 k)) _ |>.trans (congrArg _ (funext fun k => blk7 m c t k))) _ |>.trans
    (congrArg _ (funext fun k => blk8 m c t k))) q

theorem lastPt (t : Fin cfg0.N) (h : t.val % 17 = 16) (p : Fin 512) (q : Fin 2048) :
    (outsAt0 m c t.val t.isLt).1 (ix2 p q) = G m c (ix2 (tok t p) q) ∧ (outsAt0 m c t.val t.isLt).2.1 (ix2 p q) = G m c (ix2 (tok t p) q) := by
  have hs := step t
  have g1 : 1 ≤ (grid0.coords t 1).val := by omega
  have g2 : (grid0.coords t 1).val ≤ 16 := by omega
  have hg' : (prev t).val % 17 ≤ 15 := by show (t.val - 1) % 17 ≤ 15; omega
  have inv : Inv m c (prev t) hg' := invAll m c (t.val - 1) (Nat.lt_of_le_of_lt (Nat.sub_le _ _) t.isLt) hg'
  have e := outsAt0_C m c t (by omega) (by omega) (by omega) (by omega) (by omega) h h h
  constructor
  · rw [e]
    dsimp only
    rw [finC_at]
    refine last_row m c t p q _ fun q => (outC g1 g2 p q).trans ?_
    refine (grown m c t (by omega) hg' inv (grid0.coords t 1).val hs _ _ (fun r => rfl) (fun r => rfl) p q).trans ?_
    rw [h]
  · rw [e]
    dsimp only
    rw [narrowC_at]
    refine last_row m c t p q _ fun q => (outC g1 g2 p q).trans ?_
    refine (grown m c t (by omega) hg' inv (grid0.coords t 1).val hs _ _ (fun r => rfl) (fun r => rfl) p q).trans ?_
    rw [h]

end Cert.Kernel9Ideal.Blocks

end
-- ==== Proof.Peer9.lean ====
/- Program 9: the experts' layer: its results, its frames and its equality with the reference. -/
module

public import proofs.«01_k».proof.Defs
public import proofs.«01_k».proof.Proof.PeerStep
public import proofs.«01_k».proof.Proof.Gen.Kernel9
public import proofs.«01_k».proof.Proof.Gen.Kernel9.Frame
public import proofs.«01_k».proof.Proof.Gen.Reference9Ideal.Run
public import proofs.«01_k».proof.Proof.Gen.Reference9Ideal.Read
public import Idealize.ShloMosaic.Adequacy
public import Idealize.ShloMosaic.Lib.Pipeline.ValueKit
public import Idealize.ShloMosaic.Lib.Pointwise

@[expose] public section

set_option maxRecDepth 16384

noncomputable section

namespace Cert.Kernel9Ideal.Blocks

open Idealize.ShloMosaic Idealize.ShloMosaic.TcCoe Idealize.SL.Sem Cert.Kernel9Ideal Cert.Kernel9Ideal.Gen

variable (m : (ℓ : Loc nD τ sig) → Buf (Elt Ideal) ℓ) (c : Dev nD)

/-- What the last point of a run writes back is its block of the result. -/
theorem written9 (t : Fin cfg0.N) (hf : (cfg0.win 9).flush t = true) :
    (dats m 0 c).flushed 9 t = ((cfg0.win 9).blk t).view.read (Elt Ideal) (G m c) := by
  have hl : t.val % 17 = 16 := (flush0_9 t).1 hf
  obtain ⟨⟨a9, b9⟩, ⟨a10, b10⟩⟩ := widx9 t
  have e : (dats m 0 c).flushed 9 t = (cfg0.win 9).cut (grid0.coords t) ((dats m 0 c).after 9 t) := rfl
  rw [e, after0_9]
  funext y
  rw [View.read_apply]
  have h0 : (((cfg0.win 9).blk t).view.emb y 0).val = t.val / 17 * 512 + (y 0).val := by blk_simp [a9]
  have h1 : (((cfg0.win 9).blk t).view.emb y 1).val = (y 1).val := by blk_simp [b9]
  refine Eq.trans (congrArg (outsAt0 m c t.val t.isLt).1 (funext fun a => Fin.ext (by
    match a with
    | ⟨0, _⟩ => rfl
    | ⟨1, _⟩ => rfl))) ((lastPt m c t hl ⟨(y 0).val, (y 0).isLt⟩ ⟨(y 1).val, (y 1).isLt⟩).1.trans (congrArg (G m c) (funext fun a => Fin.ext ?_)))
  match a with
  | ⟨0, _⟩ => exact h0.symm
  | ⟨1, _⟩ => exact h1.symm

theorem covered9 (i : S32768x2048.Idx) : ∃ t : Fin cfg0.N, (cfg0.win 9).flush t = true ∧ i ∈ ((cfg0.win 9).blk t).view.set := by
  have h0 : (i 0).val < 32768 := (i 0).isLt
  have h1 : (i 1).val < 2048 := (i 1).isLt
  obtain ⟨t, ht⟩ : ∃ t : Fin cfg0.N, t.val = 17 * ((i 0).val / 512) + 16 :=
    ⟨⟨_, lt_of_lt_of_eq (by omega : 17 * ((i 0).val / 512) + 16 < 1088) N_0.symm⟩, rfl⟩
  obtain ⟨⟨a9, b9⟩, ⟨a10, b10⟩⟩ := widx9 t
  refine ⟨t, (flush0_9 t).2 (by omega), ?_⟩
  show i ∈ ((View.whole main_v6_0).slice (win0_9.rect t)).set
  rw [View.set_slice_whole, Rect.mem_set_unit]
  intro a
  match a with
  | ⟨0, _⟩ => show win0_9.index t 0 * 512 ≤ (i 0).val ∧ (i 0).val < win0_9.index t 0 * 512 + 512; omega
  | ⟨1, _⟩ => show win0_9.index t 1 * 2048 ≤ (i 1).val ∧ (i 1).val < win0_9.index t 1 * 2048 + 2048; omega

theorem final9 : (dats m 0 c).arrAt 9 cfg0.N = G m c :=
  (dats m 0 c).arrAt_eq_of_cover 9 _ (fun t hf => written9 m c t hf) (fun i => covered9 i)

/-- What the last point of a run writes back is its block of the result. -/
theorem written10 (t : Fin cfg0.N) (hf : (cfg0.win 10).flush t = true) :
    (dats m 0 c).flushed 10 t = ((cfg0.win 10).blk t).view.read (Elt Ideal) (G m c) := by
  have hl : t.val % 17 = 16 := (flush0_10 t).1 hf
  obtain ⟨⟨a9, b9⟩, ⟨a10, b10⟩⟩ := widx9 t
  have e : (dats m 0 c).flushed 10 t = (cfg0.win 10).cut (grid0.coords t) ((dats m 0 c).after 10 t) := rfl
  rw [e, after0_10]
  funext y
  rw [View.read_apply]
  have h0 : (((cfg0.win 10).blk t).view.emb y 0).val = t.val / 17 * 512 + (y 0).val := by blk_simp [a10]
  have h1 : (((cfg0.win 10).blk t).view.emb y 1).val = (y 1).val := by blk_simp [b10]
  refine Eq.trans (congrArg (outsAt0 m c t.val t.isLt).2.1 (funext fun a => Fin.ext (by
    match a with
    | ⟨0, _⟩ => rfl
    | ⟨1, _⟩ => rfl))) ((lastPt m c t hl ⟨(y 0).val, (y 0).isLt⟩ ⟨(y 1).val, (y 1).isLt⟩).2.trans (congrArg (G m c) (funext fun a => Fin.ext ?_)))
  match a with
  | ⟨0, _⟩ => exact h0.symm
  | ⟨1, _⟩ => exact h1.symm

theorem covered10 (i : S32768x2048.Idx) : ∃ t : Fin cfg0.N, (cfg0.win 10).flush t = true ∧ i ∈ ((cfg0.win 10).blk t).view.set := by
  have h0 : (i 0).val < 32768 := (i 0).isLt
  have h1 : (i 1).val < 2048 := (i 1).isLt
  obtain ⟨t, ht⟩ : ∃ t : Fin cfg0.N, t.val = 17 * ((i 0).val / 512) + 16 :=
    ⟨⟨_, lt_of_lt_of_eq (by omega : 17 * ((i 0).val / 512) + 16 < 1088) N_0.symm⟩, rfl⟩
  obtain ⟨⟨a9, b9⟩, ⟨a10, b10⟩⟩ := widx9 t
  refine ⟨t, (flush0_10 t).2 (by omega), ?_⟩
  show i ∈ ((View.whole main_v6_1).slice (win0_10.rect t)).set
  rw [View.set_slice_whole, Rect.mem_set_unit]
  intro a
  match a with
  | ⟨0, _⟩ => show win0_10.index t 0 * 512 ≤ (i 0).val ∧ (i 0).val < win0_10.index t 0 * 512 + 512; omega
  | ⟨1, _⟩ => show win0_10.index t 1 * 2048 ≤ (i 1).val ∧ (i 1).val < win0_10.index t 1 * 2048 + 2048; omega

theorem final10 : (dats m 0 c).arrAt 10 cfg0.N = G m c :=
  (dats m 0 c).arrAt_eq_of_cover 10 _ (fun t hf => written10 m c t hf) (fun i => covered10 i)

variable (ρ : Dev nD → PrngReg)

/-- A run leaves the two results in their arrays and the arguments as they were. -/
theorem run : θ_run (defs (F := Ideal)) (onTc (τ := τ) (main (F := Ideal))) ⟨m, fun _ => 0, ρ⟩ fun r => ∀ c : Dev nD,
    r.2.mem ((c : Thread nD τ).loc main_v6_0) = G m c
    ∧ r.2.mem ((c : Thread nD τ).loc main_v6_1) = G m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  (θ_run defs _ _).mono (fun r h c => ⟨((h c).1 9).trans (final9 m c), ((h c).1 10).trans (final10 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩) (run_main m ρ)

end Cert.Kernel9Ideal.Blocks

namespace Cert.Proof.Peer9

open Idealize.ShloMosaic Idealize.ShloMosaic.TcCoe Idealize.SL.Sem Cert.Kernel9Ideal Cert.Reference9Ideal.Read

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The named constant stands for the inverse of the square root of two, wherever it is used. -/
theorem preserves : Cert.preserves_Kernel9_Kernel9Ideal :=
  IdealRules.named_const.statement Cert.Kernel9Ideal.κ "rsqrt2" .f32 0x3F3504F3#32 (((Real.sqrt 2)⁻¹ : ℝ) : EReal) rfl

/-- Kernel and reference leave the same two results. -/
theorem algebraic : Cert.algebraic_Kernel9Ideal_Reference9Ideal := by
  intro m ρ m' ρ' _ hagree
  refine ⟨fun c => Blocks.G m c, fun c => Blocks.G m c, Blocks.run m ρ, ?_⟩
  have key : ∀ c, Cert.Reference9Ideal.Value.res_main_v51 (F := Ideal) m' c = Blocks.G m c := fun c => by
    refine (val_main_v51_eq m' c).trans ?_
    obtain ⟨h0, h1, h2, h3, h4, h5, h6, h7, h8⟩ := hagree c
    rw [h0, h1, h2, h3, h4, h5, h6, h7, h8]
    exact PeerRef.result_eq _ _ _ _ _ _ _ _ _
  have narrow : ∀ c, Cert.Reference9Ideal.Value.res_main_v52 (F := Ideal) m' c = Blocks.G m c := fun c =>
    (val_main_v52_eq m' c).trans (Eq.trans (funext fun i => val_main_v52_apply _ _ _ _ _ _ _ _ _ i) ((val_main_v51_eq m' c).symm.trans (key c)))
  exact (θ_run Cert.Reference9Ideal.defs _ _).mono (fun _ h c => ⟨(h c).1.trans (key c), (h c).2.1.trans (narrow c), (h c).2.2⟩)
    (Cert.Reference9Ideal.Value.run (F := Ideal) m' ρ')

end Cert.Proof.Peer9

end
-- ==== Proof.MemPool.lean ====
/- Program 10: the attention over the memory in a pooling layer. -/
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Adequacy
public import Idealize.ShloMosaic.Lib.Pipeline.ValueKit
public import Idealize.ShloMosaic.Lib.Pointwise

@[expose] public section

set_option maxRecDepth 16384

noncomputable section

namespace Cert.Kernel10Ideal.Blocks

open Idealize.ShloMosaic Idealize.ShloMosaic.TcCoe Idealize.SL.Sem Cert.Kernel10Ideal Cert.Kernel10Ideal.Gen Cert.Kernel10Ideal.Value

/-- One entry of an attention row: the weights of 256 keys, by their scores, over the values. -/
def att (q : Fin 128 → EReal) (k v : Fin 256 → Fin 128 → EReal) (d : Fin 128) : EReal :=
  ∑ x : Fin 256, Ideal.div
      (Ideal.exp ((∑ e, q e * k x e) * Ideal.ofBits .f32 0x3DB504F3#32
        - Finset.fold max (Ideal.ofBits .f32 0xFF800000#32) (fun x => (∑ e, q e * k x e) * Ideal.ofBits .f32 0x3DB504F3#32) Finset.univ))
      (∑ x, Ideal.exp ((∑ e, q e * k x e) * Ideal.ofBits .f32 0x3DB504F3#32
        - Finset.fold max (Ideal.ofBits .f32 0xFF800000#32) (fun x => (∑ e, q e * k x e) * Ideal.ofBits .f32 0x3DB504F3#32) Finset.univ))
    * v x d

theorem att_congr {q q' : Fin 128 → EReal} {k k' v v' : Fin 256 → Fin 128 → EReal} (hq : ∀ e, q e = q' e) (hk : ∀ x e, k x e = k' x e)
    (hv : ∀ x e, v x e = v' x e) (d : Fin 128) : att q k v d = att q' k' v' d := by
  rw [funext hq, show k = k' from funext fun x => funext (hk x), show v = v' from funext fun x => funext (hv x)]

theorem pay3 (q : Vec Ideal S1x512x128 .bf16) (k v : Vec Ideal S1x256x128 .bf16) (p : Fin 512) (d : Fin 128) :
    k0_pay3 q k v (ix3 0 p d) = att (fun e => q (ix3 0 p e)) (fun x e => k (ix3 0 x e)) (fun x e => v (ix3 0 x e)) d := by
  pointwise [k0_pay3]
  rfl

theorem pay7 (q : Vec Ideal S1x512x128 .bf16) (k v : Vec Ideal S1x256x128 .bf16) (p : Fin 512) (d : Fin 128) :
    k0_pay7 (k0_pay4 q) (k0_pay5 k) (k0_pay6 v) (constant S512x256 .f32 0x00000000#32) (ix3 0 p d) = att (fun e => q (ix3 0 p e)) (fun x e => k (ix3 0 x e)) (fun x e => v (ix3 0 x e)) d := by
  pointwise [k0_pay7, k0_pay4, k0_pay5, k0_pay6]
  rfl

theorem pay8 (q : Vec Ideal S1x512x128 .bf16) (k v : Vec Ideal S1x256x128 .bf16) (p : Fin 512) (d : Fin 128) :
    k0_pay1 (k0_pay8 q k v) (ix3 0 p d) = att (fun e => q (ix3 0 p e)) (fun x e => k (ix3 0 x e)) (fun x e => v (ix3 0 x e)) d := by
  pointwise [k0_pay1, k0_pay8]
  rfl

theorem pay2 (q : Vec Ideal S1x512x128 .bf16) (k v : Vec Ideal S1x256x128 .bf16) (p : Fin 512) (d : Fin 128) :
    k0_pay2 q k v (ix3 0 p d) = att (fun e => q (ix3 0 p e)) (fun x e => k (ix3 0 x e)) (fun x e => v (ix3 0 x e)) d := by
  pointwise [k0_pay2]
  rfl

/-- One head of a block of the result. -/
def head (x0 : Vec Ideal S1x512x512 .bf16) (x1 : Vec Ideal S1x256x1024 .bf16) (p : Fin 512) (h : ℕ) (hh : h < 4) (d : Fin 128) : EReal :=
  att (fun e => x0 (ix3 0 p ⟨h * 128 + e.val, by omega⟩)) (fun x e => x1 (ix3 0 x ⟨h * 128 + e.val, by omega⟩))
    (fun x e => x1 (ix3 0 x ⟨512 + (h * 128 + e.val), by omega⟩)) d

theorem piece0 (x0 : Vec Ideal S1x512x512 .bf16) (x1 : Vec Ideal S1x256x1024 .bf16) (p : Fin 512) (d : Fin 128) :
    k0_pay3 (View.ld x0 r0_0) (View.ld x1 r0_1) (View.ld x1 r0_2) (ix3 0 p d) = head x0 x1 p 0 (by omega) d := by
  rw [pay3]
  unfold head
  refine att_congr (fun e => View.ld_unit_apply_of _ _ _ _ _ _ fun a => ?_) (fun x e => View.ld_unit_apply_of _ _ _ _ _ _ fun a => ?_)
    (fun x e => View.ld_unit_apply_of _ _ _ _ _ _ fun a => ?_) d
  · match a with
    | ⟨0, _⟩ => rfl
    | ⟨1, _⟩ => exact (Nat.zero_add _).symm
    | ⟨2, _⟩ => show 0 * 128 + e.val = 0 + e.val; omega
  · match a with
    | ⟨0, _⟩ => rfl
    | ⟨1, _⟩ => exact (Nat.zero_add _).symm
    | ⟨2, _⟩ => show 0 * 128 + e.val = 0 + e.val; omega
  · match a with
    | ⟨0, _⟩ => rfl
    | ⟨1, _⟩ => exact (Nat.zero_add _).symm
    | ⟨2, _⟩ => show 512 + (0 * 128 + e.val) = 512 + e.val; omega

theorem piece1 (x0 : Vec Ideal S1x512x512 .bf16) (x1 : Vec Ideal S1x256x1024 .bf16) (p : Fin 512) (d : Fin 128) :
    k0_pay7 (k0_pay4 (View.ld x0 r0_3)) (k0_pay5 (View.ld x1 r0_4)) (k0_pay6 (View.ld x1 r0_5)) (constant S512x256 .f32 0x00000000#32) (ix3 0 p d) = head x0 x1 p 1 (by omega) d := by
  rw [pay7]
  unfold head
  refine att_congr (fun e => View.ld_unit_apply_of _ _ _ _ _ _ fun a => ?_) (fun x e => View.ld_unit_apply_of _ _ _ _ _ _ fun a => ?_)
    (fun x e => View.ld_unit_apply_of _ _ _ _ _ _ fun a => ?_) d
  · match a with
    | ⟨0, _⟩ => rfl
    | ⟨1, _⟩ => exact (Nat.zero_add _).symm
    | ⟨2, _⟩ => show 1 * 128 + e.val = 128 + e.val; omega
  · match a with
    | ⟨0, _⟩ => rfl
    | ⟨1, _⟩ => exact (Nat.zero_add _).symm
    | ⟨2, _⟩ => show 1 * 128 + e.val = 128 + e.val; omega
  · match a with
    | ⟨0, _⟩ => rfl
    | ⟨1, _⟩ => exact (Nat.zero_add _).symm
    | ⟨2, _⟩ => show 512 + (1 * 128 + e.val) = 640 + e.val; omega

theorem piece2 (x0 : Vec Ideal S1x512x512 .bf16) (x1 : Vec Ideal S1x256x1024 .bf16) (p : Fin 512) (d : Fin 128) :
    k0_pay1 (k0_pay8 (View.ld x0 r0_6) (View.ld x1 r0_7) (View.ld x1 r0_8)) (ix3 0 p d) = head x0 x1 p 2 (by omega) d := by
  rw [pay8]
  unfold head
  refine att_congr (fun e => View.ld_unit_apply_of _ _ _ _ _ _ fun a => ?_) (fun x e => View.ld_unit_apply_of _ _ _ _ _ _ fun a => ?_)
    (fun x e => View.ld_unit_apply_of _ _ _ _ _ _ fun a => ?_) d
  · match a with
    | ⟨0, _⟩ => rfl
    | ⟨1, _⟩ => exact (Nat.zero_add _).symm
    | ⟨2, _⟩ => show 2 * 128 + e.val = 256 + e.val; omega
  · match a with
    | ⟨0, _⟩ => rfl
    | ⟨1, _⟩ => exact (Nat.zero_add _).symm
    | ⟨2, _⟩ => show 2 * 128 + e.val = 256 + e.val; omega
  · match a with
    | ⟨0, _⟩ => rfl
    | ⟨1, _⟩ => exact (Nat.zero_add _).symm
    | ⟨2, _⟩ => show 512 + (2 * 128 + e.val) = 768 + e.val; omega

theorem piece3 (x0 : Vec Ideal S1x512x512 .bf16) (x1 : Vec Ideal S1x256x1024 .bf16) (p : Fin 512) (d : Fin 128) :
    k0_pay2 (View.ld x0 r0_9) (View.ld x1 r0_10) (View.ld x1 r0_11) (ix3 0 p d) = head x0 x1 p 3 (by omega) d := by
  rw [pay2]
  unfold head
  refine att_congr (fun e => View.ld_unit_apply_of _ _ _ _ _ _ fun a => ?_) (fun x e => View.ld_unit_apply_of _ _ _ _ _ _ fun a => ?_)
    (fun x e => View.ld_unit_apply_of _ _ _ _ _ _ fun a => ?_) d
  · match a with
    | ⟨0, _⟩ => rfl
    | ⟨1, _⟩ => exact (Nat.zero_add _).symm
    | ⟨2, _⟩ => show 3 * 128 + e.val = 384 + e.val; omega
  · match a with
    | ⟨0, _⟩ => rfl
    | ⟨1, _⟩ => exact (Nat.zero_add _).symm
    | ⟨2, _⟩ => show 3 * 128 + e.val = 384 + e.val; omega
  · match a with
    | ⟨0, _⟩ => rfl
    | ⟨1, _⟩ => exact (Nat.zero_add _).symm
    | ⟨2, _⟩ => show 512 + (3 * 128 + e.val) = 896 + e.val; omega

theorem corner (x : S1x512x128.Idx) : x = ix3 (0 : Fin 1) (⟨(x 1).val, (x 1).isLt⟩ : Fin 512) (⟨(x 2).val, (x 2).isLt⟩ : Fin 128) := funext fun a => Fin.ext (by
  match a with
  | ⟨0, _⟩ => exact Nat.lt_one_iff.mp (x 0).isLt
  | ⟨1, _⟩ => rfl
  | ⟨2, _⟩ => rfl)

theorem head_at (x0 : Vec Ideal S1x512x512 .bf16) (x1 : Vec Ideal S1x256x1024 .bf16) (p p' : Fin 512) (h h' : ℕ) (hh : h < 4) (hh' : h' < 4) (d d' : Fin 128)
    (e0 : p = p') (e1 : h = h') (e2 : d = d') : head x0 x1 p h hh d = head x0 x1 p' h' hh' d' := by
  subst e0; subst e1; subst e2; rfl

/-- A block of the result: its four heads side by side. -/
theorem out (x0 : Vec Ideal S1x512x512 .bf16) (x1 : Vec Ideal S1x256x1024 .bf16) (y : S1x512x512.Idx) :
    out0_2 x0 x1 y = head x0 x1 ⟨(y 1).val, (y 1).isLt⟩ ((y 2).val / 128) (by have h : (y 2).val < 512 := (y 2).isLt; omega) ⟨(y 2).val % 128, by omega⟩ := by
  canon_tiles x h
  · rw [corner x, piece3]
    exact head_at _ _ _ _ _ _ _ _ _ _ (Fin.ext h1.symm) (by omega) (Fin.ext (by show (x 2).val = (y 2).val % 128; omega))
  · rw [corner x, piece2]
    exact head_at _ _ _ _ _ _ _ _ _ _ (Fin.ext h1.symm) (by omega) (Fin.ext (by show (x 2).val = (y 2).val % 128; omega))
  · rw [corner x, piece1]
    exact head_at _ _ _ _ _ _ _ _ _ _ (Fin.ext h1.symm) (by omega) (Fin.ext (by show (x 2).val = (y 2).val % 128; omega))
  · rw [corner x, piece0]
    exact head_at _ _ _ _ _ _ _ _ _ _ (Fin.ext h1.symm) (by omega) (Fin.ext (by show (x 2).val = (y 2).val % 128; omega))

variable (m : (ℓ : Loc nD τ sig) → Buf (Elt Ideal) ℓ) (c : Dev nD)

/-- The hidden array, whose last 512 columns are the queries. -/
abbrev hidden (i : S8x4096x2048.Idx) : EReal := m ((c : Thread nD τ).loc main_arg0) i

/-- The keys and values of the memory. -/
abbrev memory (i : S8x256x1024.Idx) : EReal := m ((c : Thread nD τ).loc main_arg1) i

theorem entry_h (i : S8x4096x2048.Idx) : V m c main_v0 i = hidden m c i := by
  entry_read
  rfl

theorem entry_k (i : S8x256x1024.Idx) : V m c main_v1 i = memory m c i := by
  entry_read
  rfl

/-- The block index of each window at a grid point. -/
theorem idx : ∀ t : Fin cfg0.N, (win0_0.index t 0 = t.val / 8 ∧ win0_0.index t 1 = t.val % 8 ∧ win0_0.index t 2 = 3)
    ∧ (win0_1.index t 0 = t.val / 8 ∧ win0_1.index t 1 = 0 ∧ win0_1.index t 2 = 0)
    ∧ win0_2.index t 0 = t.val / 8 ∧ win0_2.index t 1 = t.val % 8 ∧ win0_2.index t 2 = 0 ∧ (cfg0.win 2).flush t = true :=
  (by decide +kernel : ∀ t : Fin grid0.N, _)

/-- The result: for every batch element, position and head the attention over the memory. -/
def G (i : S8x4096x512.Idx) : EReal :=
  att (fun e => hidden m c (ix3 (i 0) (i 1) ⟨1536 + ((i 2).val / 128 * 128 + e.val), by have h : (i 2).val < 512 := (i 2).isLt; omega⟩))
    (fun x e => memory m c (ix3 (i 0) x ⟨(i 2).val / 128 * 128 + e.val, by have h : (i 2).val < 512 := (i 2).isLt; omega⟩))
    (fun x e => memory m c (ix3 (i 0) x ⟨512 + ((i 2).val / 128 * 128 + e.val), by have h : (i 2).val < 512 := (i 2).isLt; omega⟩))
    ⟨(i 2).val % 128, by omega⟩

theorem blk_h (t : Fin cfg0.N) (p : Fin 512) (j : Fin 512) (b : Fin 8) (r : Fin 4096) (l : Fin 2048) (hb : b.val = t.val / 8)
    (hr : r.val = t.val % 8 * 512 + p.val) (hl : l.val = 1536 + j.val) : iblk m c 0 t (ix3 0 p j) = hidden m c (ix3 b r l) := by
  obtain ⟨⟨a0, a1, a2⟩, ⟨b0, b1, b2⟩, e0, e1, e2, -⟩ := idx t
  unfold iblk
  rw [View.read_apply]
  refine (entry_h m c _).trans (congrArg (hidden m c) (funext fun a => Fin.ext ?_))
  match a with
  | ⟨0, _⟩ => (blk_simp [a0, a1, a2, hb]; rfl)
  | ⟨1, _⟩ => blk_simp [a0, a1, a2, hr]
  | ⟨2, _⟩ => blk_simp [a0, a1, a2, hl]

theorem blk_k (t : Fin cfg0.N) (x : Fin 256) (j : Fin 1024) (b : Fin 8) (hb : b.val = t.val / 8) :
    iblk m c 1 t (ix3 0 x j) = memory m c (ix3 b x j) := by
  obtain ⟨⟨a0, a1, a2⟩, ⟨b0, b1, b2⟩, e0, e1, e2, -⟩ := idx t
  unfold iblk
  rw [View.read_apply]
  refine (entry_k m c _).trans (congrArg (memory m c) (funext fun a => Fin.ext ?_))
  match a with
  | ⟨0, _⟩ => (blk_simp [b0, b1, b2, hb]; rfl)
  | ⟨1, _⟩ => blk_simp [b0, b1, b2]
  | ⟨2, _⟩ => blk_simp [b0, b1, b2]

theorem out_blk (t : Fin cfg0.N) (y : S1x512x512.Idx) (i : S8x4096x512.Idx) (h0 : (i 0).val = t.val / 8)
    (h1 : (i 1).val = t.val % 8 * 512 + (y 1).val) (h2 : (i 2).val = (y 2).val) : out0_2 (iblk m c 0 t) (iblk m c 1 t) y = G m c i := by
  rw [out]
  unfold head G
  have hd : (⟨(i 2).val % 128, by omega⟩ : Fin 128) = ⟨(y 2).val % 128, by omega⟩ := Fin.ext (by show (i 2).val % 128 = _; rw [h2])
  rw [hd]
  refine att_congr (fun e => ?_) (fun x e => ?_) (fun x e => ?_) _
  · exact blk_h m c t _ _ (i 0) (i 1) _ h0 h1 (by show 1536 + ((i 2).val / 128 * 128 + e.val) = _; rw [h2])
  · refine (blk_k m c t x _ (i 0) h0).trans (congrArg (fun j => memory m c (ix3 (i 0) x j)) (Fin.ext ?_))
    show (y 2).val / 128 * 128 + e.val = (i 2).val / 128 * 128 + e.val
    rw [h2]
  · refine (blk_k m c t x _ (i 0) h0).trans (congrArg (fun j => memory m c (ix3 (i 0) x j)) (Fin.ext ?_))
    show 512 + ((y 2).val / 128 * 128 + e.val) = 512 + ((i 2).val / 128 * 128 + e.val)
    rw [h2]

/-- What a point writes back is its block of the result. -/
theorem written (t : Fin cfg0.N) : (dats m 0 c).flushed 2 t = ((cfg0.win 2).blk t).view.read (Elt Ideal) (G m c) := by
  obtain ⟨-, -, e0, e1, e2, -⟩ := idx t
  rw [flushed2]
  funext y
  rw [View.read_apply]
  have y0 : (y 0).val = 0 := Nat.lt_one_iff.mp (y 0).isLt
  have h0 : (((cfg0.win 2).blk t).view.emb y 0).val = t.val / 8 := by blk_simp [e0, y0]
  have h1 : (((cfg0.win 2).blk t).view.emb y 1).val = t.val % 8 * 512 + (y 1).val := by blk_simp [e1]
  have h2 : (((cfg0.win 2).blk t).view.emb y 2).val = (y 2).val := by blk_simp [e2]
  exact (congrArg (out0_2 (iblk m c 0 t) (iblk m c 1 t)) (funext fun a => Fin.ext (by
    match a with
    | ⟨0, _⟩ => rfl
    | ⟨1, _⟩ => rfl
    | ⟨2, _⟩ => rfl))).trans (out_blk m c t (fun a => ⟨(y a).val, (y a).isLt⟩) _ h0 h1 h2)

theorem covered (i : S8x4096x512.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 512 := (i 2).isLt
  obtain ⟨t, ht⟩ : ∃ t : Fin cfg0.N, t.val = (i 0).val * 8 + (i 1).val / 512 :=
    ⟨⟨_, lt_of_lt_of_eq (by omega : (i 0).val * 8 + (i 1).val / 512 < 64) N_0.symm⟩, rfl⟩
  obtain ⟨-, -, e0, e1, e2, hf⟩ := idx t
  refine ⟨t, hf, ?_⟩
  show i ∈ ((View.whole main_v2).slice (win0_2.rect t)).set
  rw [View.set_slice_whole, Rect.mem_set_unit]
  intro a
  match a with
  | ⟨0, _⟩ => show win0_2.index t 0 * 1 ≤ (i 0).val ∧ (i 0).val < win0_2.index t 0 * 1 + 1; omega
  | ⟨1, _⟩ => show win0_2.index t 1 * 512 ≤ (i 1).val ∧ (i 1).val < win0_2.index t 1 * 512 + 512; omega
  | ⟨2, _⟩ => show win0_2.index t 2 * 512 ≤ (i 2).val ∧ (i 2).val < win0_2.index t 2 * 512 + 512; omega

/-- After the run the output array is the attention. -/
theorem final : (dats m 0 c).arrAt 2 cfg0.N = G m c :=
  (dats m 0 c).arrAt_eq_of_cover 2 _ (fun t _ => written m c t) (fun i => covered i)

end Cert.Kernel10Ideal.Blocks

namespace Cert.Proof.MemPool

open Idealize.ShloMosaic Idealize.ShloMosaic.TcCoe Idealize.SL.Sem Cert.Kernel10Ideal Cert.Reference10Ideal.Read

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

section Reference
variable (x0 : (⟨Cert.Reference10Ideal.S8x4096x2048, .f32⟩ : BufTy).Contents (Elt Ideal)) (x1 : (⟨Cert.Reference10Ideal.S8x256x1024, .f32⟩ : BufTy).Contents (Elt Ideal))

/-- The queries of a head. -/
theorem queries (b : Fin 8) (p : Fin 4096) (h : Fin 4) (e : Fin 128) :
    val_main_v5 (F := Ideal) x0 (ix4 b p h e) = x0 (ix3 b p ⟨1536 + (h.val * 128 + e.val), by omega⟩) := by
  rw [val_main_v5_apply, val_main_v0_apply]
  refine congrArg x0 (funext fun a => Fin.ext ?_)
  match a with
  | ⟨0, _⟩ => show (((b.val * 4096 + p.val) * 4 + h.val) * 128 + e.val) / 2097152 = b.val; omega
  | ⟨1, _⟩ => show (((b.val * 4096 + p.val) * 4 + h.val) * 128 + e.val) / 512 % 4096 = p.val; omega
  | ⟨2, _⟩ => show 1536 + (((b.val * 4096 + p.val) * 4 + h.val) * 128 + e.val) % 512 = 1536 + (h.val * 128 + e.val); omega

/-- The keys of a head. -/
theorem keys (b : Fin 8) (x : Fin 256) (h : Fin 4) (e : Fin 128) :
    val_main_v2 (F := Ideal) x1 (ix4 b x h e) = x1 (ix3 b x ⟨h.val * 128 + e.val, by omega⟩) := by
  rw [val_main_v2_apply, val_main_v1_apply]
  refine congrArg x1 (funext fun a => Fin.ext ?_)
  match a with
  | ⟨0, _⟩ => show (((b.val * 256 + x.val) * 4 + h.val) * 128 + e.val) / 131072 = b.val; omega
  | ⟨1, _⟩ => show (((b.val * 256 + x.val) * 4 + h.val) * 128 + e.val) / 512 % 256 = x.val; omega
  | ⟨2, _⟩ => show (((b.val * 256 + x.val) * 4 + h.val) * 128 + e.val) % 512 = h.val * 128 + e.val; omega

/-- The values of a head. -/
theorem values (b : Fin 8) (x : Fin 256) (h : Fin 4) (e : Fin 128) :
    val_main_v4 (F := Ideal) x1 (ix4 b x h e) = x1 (ix3 b x ⟨512 + (h.val * 128 + e.val), by omega⟩) := by
  rw [val_main_v4_apply, val_main_v3_apply]
  refine congrArg x1 (funext fun a => Fin.ext ?_)
  match a with
  | ⟨0, _⟩ => show (((b.val * 256 + x.val) * 4 + h.val) * 128 + e.val) / 131072 = b.val; omega
  | ⟨1, _⟩ => show (((b.val * 256 + x.val) * 4 + h.val) * 128 + e.val) / 512 % 256 = x.val; omega
  | ⟨2, _⟩ => show 512 + (((b.val * 256 + x.val) * 4 + h.val) * 128 + e.val) % 512 = 512 + (h.val * 128 + e.val); omega

/-- A scaled score. -/
def score (b : Fin 8) (h : Fin 4) (p : Fin 4096) (x : Fin 256) : EReal :=
  (∑ e : Fin 128, x0 (ix3 b p ⟨1536 + (h.val * 128 + e.val), by omega⟩) * x1 (ix3 b x ⟨h.val * 128 + e.val, by omega⟩)) * Ideal.ofBits .f32 0x3DB504F3#32

theorem score_eq (b : Fin 8) (h : Fin 4) (p : Fin 4096) (x : Fin 256) : val_main_v8 (F := Ideal) x0 x1 (ix4 b h p x) = score x0 x1 b h p x := by
  rw [val_main_v8_apply, val_main_v6_apply, val_main_v7_apply]
  refine congrArg₂ (· * ·) (Finset.sum_congr rfl fun e _ => congrArg₂ (· * ·) (Eq.trans (congrArg _ (funext fun a => Fin.ext ?_)) (queries x0 b p h e))
    (Eq.trans (congrArg _ (funext fun a => Fin.ext ?_)) (keys x1 b x h e))) rfl
  all_goals match a with
    | ⟨0, _⟩ => rfl
    | ⟨1, _⟩ => rfl
    | ⟨2, _⟩ => rfl
    | ⟨3, _⟩ => rfl

/-- The largest score of a row. -/
def top (b : Fin 8) (h : Fin 4) (p : Fin 4096) : EReal :=
  Finset.fold max (Ideal.ofBits .f32 0xFF800000#32) (score x0 x1 b h p) Finset.univ

theorem top_eq (b : Fin 8) (h : Fin 4) (p : Fin 4096) : val_main_v9 (F := Ideal) x0 x1 (ix3 b h p) = top x0 x1 b h p := by
  have hs : ∀ x, val_main_v8 (F := Ideal) x0 x1 (ix4 b h p x) = score x0 x1 b h p x := score_eq x0 x1 b h p
  unfold val_main_v9 top
  revert hs
  generalize val_main_v8 (F := Ideal) x0 x1 = y
  intro hs
  rw [Host.reduce_eq_fold_single (FloatOps.maximumf (F := Ideal) (φ := .f32)) y _ Cert.Reference10Ideal.Gen.reducesTo_S8x4x4096x256_S8x4x4096_d3 (by decide), val_main_cst_0_apply]
  show Finset.fold max (Ideal.ofBits .f32 0xFF800000#32) _ _ = _
  refine congrArg (fun f => Finset.fold max (Ideal.ofBits .f32 0xFF800000#32) f Finset.univ) (funext fun k => (congrArg y (funext fun a => Fin.ext ?_)).trans (hs k))
  match a with
  | ⟨0, _⟩ => rfl
  | ⟨1, _⟩ => rfl
  | ⟨2, _⟩ => rfl
  | ⟨3, _⟩ => rfl

/-- Raising the largest score to the bound that the fold starts from changes nothing. -/
theorem top_max (b : Fin 8) (h : Fin 4) (p : Fin 4096) : max (Ideal.ofBits .f32 0xFF800000#32) (top x0 x1 b h p) = top x0 x1 b h p :=
  max_eq_right (Finset.le_fold_max _ |>.mpr (Or.inl le_rfl))

theorem expo_eq (b : Fin 8) (h : Fin 4) (p : Fin 4096) (x : Fin 256) :
    val_main_v15 (F := Ideal) x0 x1 (ix4 b h p x) = Ideal.exp (score x0 x1 b h p x - top x0 x1 b h p) := by
  rw [val_main_v15_apply, val_main_v14_apply, val_main_v13_apply, val_main_v12_apply, val_main_v11_apply, val_main_v10_apply, score_eq]
  refine congrArg (fun z => Ideal.exp (score x0 x1 b h p x - z)) (Eq.trans (congrArg (max (Ideal.ofBits .f32 0xFF800000#32))
    (Eq.trans (congrArg _ (funext fun a => Fin.ext ?_)) (top_eq x0 x1 b h p))) (top_max x0 x1 b h p))
  match a with
  | ⟨0, _⟩ => rfl
  | ⟨1, _⟩ => rfl
  | ⟨2, _⟩ => rfl

theorem total_eq (b : Fin 8) (h : Fin 4) (p : Fin 4096) (x : Fin 256) :
    val_main_v18 (F := Ideal) x0 x1 (ix4 b h p x) = ∑ k, Ideal.exp (score x0 x1 b h p k - top x0 x1 b h p) := by
  rw [val_main_v18_apply, val_main_v17_apply, val_main_v16_apply]
  refine ((congrArg (· + _) Ideal.ofBits_zero_f32).trans (zero_add _)).trans
    (Finset.sum_congr rfl fun k _ => (congrArg _ (funext fun a => Fin.ext ?_)).trans (expo_eq x0 x1 b h p k))
  match a with
  | ⟨0, _⟩ => rfl
  | ⟨1, _⟩ => rfl
  | ⟨2, _⟩ => rfl
  | ⟨3, _⟩ => rfl

theorem head_eq (b : Fin 8) (h : Fin 4) (d : Fin 128) (p : Fin 4096) : val_main_v20 (F := Ideal) x0 x1 (ix4 b h d p)
    = Blocks.att (fun e => x0 (ix3 b p ⟨1536 + (h.val * 128 + e.val), by omega⟩)) (fun x e => x1 (ix3 b x ⟨h.val * 128 + e.val, by omega⟩))
      (fun x e => x1 (ix3 b x ⟨512 + (h.val * 128 + e.val), by omega⟩)) d := by
  rw [val_main_v20_apply]
  unfold Blocks.att
  refine Finset.sum_congr rfl fun x _ => (mul_comm _ _).trans (congrArg₂ (· * ·) (Eq.trans (congrArg _ (funext fun a => Fin.ext ?_))
    ((val_main_v19_apply x0 x1 (ix4 b h p x)).trans (congrArg₂ Ideal.div (expo_eq x0 x1 b h p x) (total_eq x0 x1 b h p x))))
    (Eq.trans (congrArg _ (funext fun a => Fin.ext ?_)) (values x1 b x h d)))
  all_goals match a with
    | ⟨0, _⟩ => rfl
    | ⟨1, _⟩ => rfl
    | ⟨2, _⟩ => rfl
    | ⟨3, _⟩ => rfl

theorem joined (b : Fin 8) (p : Fin 4096) (j : Fin 512) : val_main_v23 (F := Ideal) x0 x1 (ix3 b p j)
    = val_main_v20 (F := Ideal) x0 x1 (ix4 b (⟨j.val / 128, by omega⟩ : Fin 4) (⟨j.val % 128, by omega⟩ : Fin 128) p) := by
  rw [val_main_v23_apply]
  refine (val_main_v22_apply x0 x1 (ix3 b p j)).trans ((val_main_v21_apply x0 x1 _).trans (congrArg _ (funext fun a => Fin.ext ?_)))
  match a with
  | ⟨0, _⟩ => show ((b.val * 4096 + p.val) * 512 + j.val) / 2097152 = b.val; omega
  | ⟨1, _⟩ => show ((b.val * 4096 + p.val) * 512 + j.val) / 128 % 4 = j.val / 128; omega
  | ⟨2, _⟩ => show ((b.val * 4096 + p.val) * 512 + j.val) % 128 = j.val % 128; omega
  | ⟨3, _⟩ => show ((b.val * 4096 + p.val) * 512 + j.val) / 512 % 4096 = p.val; omega

end Reference

/-- The reference's attention is the kernel's. -/
theorem reference_eq (m : (ℓ : Loc nD τ sig) → Buf (Elt Ideal) ℓ) (c : Dev nD) (i : S8x4096x512.Idx) :
    val_main_v23 (F := Ideal) (m ((c : Thread nD τ).loc main_arg0)) (m ((c : Thread nD τ).loc main_arg1)) i = Blocks.G m c i :=
  (congrArg _ (funext fun a => Fin.ext (by
    match a with
    | ⟨0, _⟩ => rfl
    | ⟨1, _⟩ => rfl
    | ⟨2, _⟩ => rfl))).trans ((joined _ _ (i 0) (i 1) (i 2)).trans (head_eq _ _ (i 0) _ _ (i 1)))

/-- Kernel and reference leave the same attention. -/
theorem algebraic : Cert.algebraic_Kernel10Ideal_Reference10Ideal := by
  intro m ρ m' ρ' _ hagree
  refine ⟨fun c => Blocks.G m c, (θ_run Cert.Kernel10Ideal.defs _ _).mono (fun _ h c => ⟨(h c).1.trans (Blocks.final m c), (h c).2⟩)
    (Cert.Kernel10Ideal.Value.run_blocks (F := Ideal) m ρ), ?_⟩
  refine (θ_run Cert.Reference10Ideal.defs _ _).mono (fun _ h c => ⟨(h c).1.trans ?_, (h c).2⟩) (Cert.Reference10Ideal.Value.run (F := Ideal) m' ρ')
  rw [(hagree c).1, (hagree c).2]
  exact (val_main_v23_eq _ _).trans (funext fun i => reference_eq m c i)

end Cert.Proof.MemPool

end
-- ==== Proof.PoolSum.lean ====
/- Program 11: the reference's running sums, and their differences as sums over a window. -/
module

public import proofs.«01_k».proof.Proof.Gen.Reference11Ideal.Read
public import Idealize.ShloMosaic.Lib.Pipeline.ValueKit
public import Idealize.ShloMosaic.Lib.KernelVsHost

@[expose] public section

set_option maxRecDepth 16384

noncomputable section

namespace Cert.Pool

open Idealize.ShloMosaic Idealize.SL.Sem Cert.Reference11Ideal Cert.Reference11Ideal.Gen Cert.Reference11Ideal.Read

/-- How many positions the window of `w` ending at position `t` holds. -/
def cnt (w t : ℕ) : EReal := FloatOps.sitofp (F := Ideal) .f32 (IntOp.minsi (IntOp.addi (BitVec.ofNat 32 t) 1#32) (BitVec.ofNat 32 w))

/-- The sum over the window of `w` positions ending at `t`. -/
def winsum (w : ℕ) (x : ℕ → EReal) (t : ℕ) : EReal := ∑ j ∈ Finset.range w, if j ≤ t then x (t - j) else 0

/-- The window's mean less the position's own value. -/
def dev (w : ℕ) (x : ℕ → EReal) (t : ℕ) : EReal := Ideal.div (winsum w x t) (cnt w t) - x t

/-- A column of one batch element, by position (0 outside the array). -/
def col (x : S8x4096x2048.Idx → EReal) (b : Fin 8) (k : Fin 2048) (t : ℕ) : EReal :=
  if h : t < 4096 then x (ix3 b ⟨t, h⟩ k) else 0

/-- The reals of a column. -/
def rcol (x : S8x4096x2048.Idx → EReal) (b : Fin 8) (k : Fin 2048) (t : ℕ) : ℝ := (col x b k t).toReal

theorem coe_range (n : ℕ) (f : ℕ → ℝ) : ((∑ i ∈ Finset.range n, f i : ℝ) : EReal) = ∑ i ∈ Finset.range n, ((f i : ℝ) : EReal) := by
  induction n with
  | zero => rfl
  | succ n ih => rw [Finset.sum_range_succ, Finset.sum_range_succ, EReal.coe_add, ih]

/-- A left fold of additions. -/
theorem foldl_add_eq {N : ℕ} (g : Fin N → EReal) (v : EReal) : (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, Fin.sum_univ_def]

/-- A window of `R + 1` positions that ends at `t ≤ R`, padded in front, holds the positions up to `t`. -/
theorem sum_front (R t : ℕ) (ht : t ≤ R) (X : ℕ → ℝ) :
    ∑ n ∈ Finset.range (R + 1), (if R ≤ t + n then X (t + n - R) else 0) = ∑ i ∈ Finset.range (t + 1), X i := by
  rw [show R + 1 = (R - t) + (t + 1) by omega, Finset.sum_range_add, Finset.sum_eq_zero fun i hi => ?_, zero_add]
  · refine Finset.sum_congr rfl fun i _ => ?_
    rw [if_pos (by omega)]
    exact congrArg X (by omega)
  · have := Finset.mem_range.mp hi
    rw [if_neg (by omega)]

/-- The difference of two running sums is the sum over the window between them. -/
theorem sum_diff (w t : ℕ) (X : ℕ → ℝ) :
    ∑ i ∈ Finset.range (t + 1), X i - (if w ≤ t then ∑ i ∈ Finset.range (t - w + 1), X i else 0) = ∑ j ∈ Finset.range w, if j ≤ t then X (t - j) else 0 := by
  induction w with
  | zero => simp
  | succ w ih =>
    rw [Finset.sum_range_succ _ w, ← ih]
    by_cases h : w + 1 ≤ t
    · rw [if_pos h, if_pos (by omega), if_pos (by omega), show t - w + 1 = (t - (w + 1) + 1) + 1 by omega, Finset.sum_range_succ _ (t - (w + 1) + 1),
        show t - (w + 1) + 1 = t - w by omega]
      ring
    · rw [if_neg h]
      by_cases h' : w ≤ t
      · rw [if_pos h', if_pos h', show t - w = 0 by omega]
        simp
      · rw [if_neg h', if_neg h']
        simp

theorem winsum_coe (w : ℕ) (X : ℕ → ℝ) (t : ℕ) :
    winsum w (fun i => ((X i : ℝ) : EReal)) t = ((∑ j ∈ Finset.range w, (if j ≤ t then X (t - j) else 0) : ℝ) : EReal) := by
  rw [coe_range]
  refine Finset.sum_congr rfl fun j _ => ?_
  split <;> rfl

/-- A running sum along the middle axis of an array whose column `(b, ·, k)` holds the reals `X`. -/
theorem cumsum3 {A R Rm1 C : ℕ} (hR : Rm1 + 1 = R) (x : FVec Ideal (⟨3, ![A, R, C]⟩ : Shape) .f32) (init : (⟨0, ![]⟩ : Shape).Idx → EReal)
    (hinit : init ix0 = 0) (h : (⟨3, ![A, R, C]⟩ : Shape).ReduceWindows (![1, R, 1] : Fin 3 → ℕ) ![1, 1, 1] ![0, Rm1, 0] ![0, 0, 0] (⟨3, ![A, R, C]⟩ : Shape))
    (hu : 0 < (⟨0, ![]⟩ : Shape).numel) (b : Fin A) (t : Fin R) (k : Fin C) (X : ℕ → ℝ) (hx : ∀ r : Fin R, x (ix3 b r k) = ((X r.val : ℝ) : EReal)) :
    Host.reduceWindowAdd (F := Ideal) (φ := .f32) ![1, R, 1] ![1, 1, 1] ![0, Rm1, 0] ![0, 0, 0] x init h hu (ix3 b t k)
      = ((∑ i ∈ Finset.range (t.val + 1), X i : ℝ) : EReal) := by
  subst hR
  have hv : init (Shape.Idx.first hu) = 0 := (congrArg init (funext fun a => a.elim0)).trans hinit
  have ht := t.isLt
  have hb := b.isLt
  have hk := k.isLt
  show Host.reduceWindow (· + ·) ![1, Rm1 + 1, 1] ![1, 1, 1] ![0, Rm1, 0] ![0, 0, 0] x (fun _ : (⟨0, ![]⟩ : Shape).Idx => init (Shape.Idx.first hu)) h hu (ix3 b t k) = _
  rw [hv]
  unfold Host.reduceWindow
  refine (foldl_add_eq _ _).trans ((zero_add _).trans ?_)
  have hN : (⟨3, ![1, Rm1 + 1, 1]⟩ : Shape).numel = Rm1 + 1 := by
    refine (Fin.prod_univ_three _).trans ?_
    show 1 * (Rm1 + 1) * 1 = Rm1 + 1
    omega
  have hs : ∑ n : Fin (⟨3, ![1, Rm1 + 1, 1]⟩ : Shape).numel, (((if Rm1 ≤ t.val + n.val then X (t.val + n.val - Rm1) else 0 : ℝ)) : EReal)
      = ((∑ i ∈ Finset.range (t.val + 1), X i : ℝ) : EReal) := by
    rw [Fin.sum_univ_eq_sum_range (fun n => (((if Rm1 ≤ t.val + n then X (t.val + n - Rm1) else 0 : ℝ)) : EReal)), hN, ← coe_range, sum_front Rm1 t.val (by omega)]
  refine Eq.trans (Finset.sum_congr rfl fun n _ => ?_) hs
  have hn : n.val < Rm1 + 1 := lt_of_lt_of_eq n.isLt hN
  have e := Shape.rowMajor_val_three ((⟨3, ![1, Rm1 + 1, 1]⟩ : Shape).rowMajor.symm n)
  rw [Equiv.apply_symm_apply] at e
  have l0 : ((⟨3, ![1, Rm1 + 1, 1]⟩ : Shape).rowMajor.symm n 0).val < 1 := ((⟨3, ![1, Rm1 + 1, 1]⟩ : Shape).rowMajor.symm n 0).isLt
  have l2 : ((⟨3, ![1, Rm1 + 1, 1]⟩ : Shape).rowMajor.symm n 2).val < 1 := ((⟨3, ![1, Rm1 + 1, 1]⟩ : Shape).rowMajor.symm n 2).isLt
  have w0 : ((⟨3, ![1, Rm1 + 1, 1]⟩ : Shape).rowMajor.symm n 0).val = 0 := by omega
  have w2 : ((⟨3, ![1, Rm1 + 1, 1]⟩ : Shape).rowMajor.symm n 2).val = 0 := by omega
  have w1 : ((⟨3, ![1, Rm1 + 1, 1]⟩ : Shape).rowMajor.symm n 1).val = n.val := by
    rw [w0, w2] at e
    have e' : n.val = (0 * (Rm1 + 1) + ((⟨3, ![1, Rm1 + 1, 1]⟩ : Shape).rowMajor.symm n 1).val) * 1 + 0 := e
    omega
  dsimp only
  split
  · next hin =>
    have h1 := hin 1
    change Rm1 ≤ t.val * 1 + ((⟨3, ![1, Rm1 + 1, 1]⟩ : Shape).rowMajor.symm n 1).val ∧ t.val * 1 + ((⟨3, ![1, Rm1 + 1, 1]⟩ : Shape).rowMajor.symm n 1).val - Rm1 < Rm1 + 1 at h1
    rw [w1] at h1
    rw [if_pos (by omega)]
    refine (congrArg x (funext fun a => Fin.ext ?_)).trans (hx ⟨t.val + n.val - Rm1, by omega⟩)
    match a with
    | ⟨0, _⟩ =>
      show b.val * 1 + ((⟨3, ![1, Rm1 + 1, 1]⟩ : Shape).rowMajor.symm n 0).val - 0 = b.val
      rw [w0]; omega
    | ⟨1, _⟩ =>
      show t.val * 1 + ((⟨3, ![1, Rm1 + 1, 1]⟩ : Shape).rowMajor.symm n 1).val - Rm1 = t.val + n.val - Rm1
      rw [w1]; omega
    | ⟨2, _⟩ =>
      show k.val * 1 + ((⟨3, ![1, Rm1 + 1, 1]⟩ : Shape).rowMajor.symm n 2).val - 0 = k.val
      rw [w2]; omega
  · next hin =>
    rw [if_neg fun hle => hin fun a => by
      match a with
      | ⟨0, _⟩ =>
        show 0 ≤ b.val * 1 + ((⟨3, ![1, Rm1 + 1, 1]⟩ : Shape).rowMajor.symm n 0).val ∧ b.val * 1 + ((⟨3, ![1, Rm1 + 1, 1]⟩ : Shape).rowMajor.symm n 0).val - 0 < A
        rw [w0]; omega
      | ⟨1, _⟩ =>
        show Rm1 ≤ t.val * 1 + ((⟨3, ![1, Rm1 + 1, 1]⟩ : Shape).rowMajor.symm n 1).val ∧ t.val * 1 + ((⟨3, ![1, Rm1 + 1, 1]⟩ : Shape).rowMajor.symm n 1).val - Rm1 < Rm1 + 1
        rw [w1]; omega
      | ⟨2, _⟩ =>
        show 0 ≤ k.val * 1 + ((⟨3, ![1, Rm1 + 1, 1]⟩ : Shape).rowMajor.symm n 2).val ∧ k.val * 1 + ((⟨3, ![1, Rm1 + 1, 1]⟩ : Shape).rowMajor.symm n 2).val - 0 < C
        rw [w2]; omega]
    rfl

/-- The word 0 is the number 0. -/
theorem pad_zero : FloatOps.sitofp (F := Ideal) .f32 (0#32) = ((0 : ℝ) : EReal) := by
  show (((0#32 : BitVec 32).toInt : ℝ) : EReal) = _
  simp

section Reference

variable (x0 : (⟨S8x4096x2048, .f32⟩ : BufTy).Contents (Elt Ideal)) (x1 : (⟨S4x384x384, .f32⟩ : BufTy).Contents (Elt Ideal)) (x2 : (⟨S1536, .f32⟩ : BufTy).Contents (Elt Ideal))

/-- A running sum: the sum of the positions up to its own. -/
theorem csum_at (hx : ∀ i, (i 2).val < 1536 → x0 i = (((x0 i).toReal : ℝ) : EReal)) (b : Fin 8) (t : Fin 4096) (k : Fin 1536) :
    val_main_v1 (F := Ideal) x0 (ix3 b t k) = ((∑ i ∈ Finset.range (t.val + 1), rcol x0 b ⟨k.val, by omega⟩ i : ℝ) : EReal) := by
  unfold val_main_v1
  refine cumsum3 (R := 4096) (Rm1 := 4095) rfl _ _ Ideal.ofBits_zero_f32 _ _ b t k _ fun r => ?_
  rw [val_main_v0_apply, hx _ (by show k.val < 1536; exact k.isLt)]
  unfold rcol col
  rw [dif_pos r.isLt]
  refine congrArg (fun i => (((x0 i).toReal : ℝ) : EReal)) (funext fun a => Fin.ext ?_)
  match a with
  | ⟨0, _⟩ => rfl
  | ⟨1, _⟩ => rfl
  | ⟨2, _⟩ => rfl

/-- The quotient of a difference of running sums less the position's own value. -/
theorem dev_eq (hx : ∀ i, (i 2).val < 1536 → x0 i = (((x0 i).toReal : ℝ) : EReal)) (w : ℕ) (b : Fin 8) (t : Fin 4096) (k : Fin 2048) (hk : k.val < 1536) (A B N P : EReal)
    (hA : A = ((∑ i ∈ Finset.range (t.val + 1), rcol x0 b k i : ℝ) : EReal))
    (hB : B = (((if w ≤ t.val then ∑ i ∈ Finset.range (t.val - w + 1), rcol x0 b k i else 0 : ℝ)) : EReal))
    (hN : N = cnt w t.val) (hP : P = x0 (ix3 b t k)) : Ideal.div (A - B) N - P = dev w (col x0 b k) t.val := by
  have hc : col x0 b k = fun i => ((rcol x0 b k i : ℝ) : EReal) := funext fun i => by
    unfold rcol col
    split
    · exact hx _ hk
    · rfl
  unfold dev
  rw [hA, hB, hN, hP, ← EReal.coe_sub, sum_diff, ← winsum_coe, ← hc]
  refine congrArg (fun z => Ideal.div (winsum w (col x0 b k) t.val) (cnt w t.val) - z) ?_
  unfold col
  rw [dif_pos t.isLt]

/-- Group 0: a running sum of its columns. -/
theorem run0 (hx : ∀ i, (i 2).val < 1536 → x0 i = (((x0 i).toReal : ℝ) : EReal)) (b : Fin 8) (t : Fin 4096) (k : Fin 384) :
    val_main_v3 (F := Ideal) x0 (ix3 b t k) = ((∑ i ∈ Finset.range (t.val + 1), rcol x0 b ⟨0 + k.val, by omega⟩ i : ℝ) : EReal) := by
  rw [val_main_v3_apply]
  refine Eq.trans (congrArg _ (funext fun a => Fin.ext ?_)) (csum_at x0 hx b t ⟨0 + k.val, by omega⟩)
  match a with
  | ⟨0, _⟩ => rfl
  | ⟨1, _⟩ => rfl
  | ⟨2, _⟩ => first | rfl | (show k.val = 0 + k.val; omega)

/-- Group 0: the running sum 2 positions before, 0 where there is none. -/
theorem low0 (hx : ∀ i, (i 2).val < 1536 → x0 i = (((x0 i).toReal : ℝ) : EReal)) (b : Fin 8) (t : Fin 4096) (k : Fin 384) :
    val_main_v5 (F := Ideal) x0 (ix3 b t k) = (((if 2 ≤ t.val then ∑ i ∈ Finset.range (t.val - 2 + 1), rcol x0 b ⟨0 + k.val, by omega⟩ i else 0 : ℝ)) : EReal) := by
  have ht := t.isLt
  have hr := run0 x0 hx b
  unfold val_main_v5
  split
  · next h =>
    refine (pad_apply_of_inside _ _ _ _ _ _ _ (ix3 b t k) (ix3 b (⟨t.val - 2, by omega⟩ : Fin 4094) k) fun a => ?_).trans ?_
    · match a with
      | ⟨0, _⟩ => show b.val = 0 + b.val * (0 + 1); omega
      | ⟨1, _⟩ => show t.val = 2 + (t.val - 2) * (0 + 1); omega
      | ⟨2, _⟩ => show k.val = 0 + k.val * (0 + 1); omega
    · rw [val_main_v4_apply]
      refine Eq.trans (congrArg _ (funext fun a => Fin.ext ?_)) (hr ⟨t.val - 2, by omega⟩ k)
      match a with
      | ⟨0, _⟩ => rfl
      | ⟨1, _⟩ => rfl
      | ⟨2, _⟩ => rfl
  · next h =>
    refine (pad_apply_of_not_inside _ _ _ _ _ _ _ (ix3 b t k) 1 fun hin => ?_).trans ?_
    · have h1 : 2 ≤ t.val := hin.1
      exact h h1
    · exact pad_zero

/-- Group 0: what is multiplied by the group's matrix. -/
theorem arg0 (hx : ∀ i, (i 2).val < 1536 → x0 i = (((x0 i).toReal : ℝ) : EReal)) (b : Fin 8) (t : Fin 4096) (k : Fin 384) :
    val_main_v16 (F := Ideal) x0 (ix3 b t k) = dev 2 (col x0 b ⟨0 + k.val, by omega⟩) t.val := by
  rw [val_main_v16_apply, val_main_v14_apply, val_main_v12_apply]
  refine dev_eq x0 hx 2 b t ⟨0 + k.val, by omega⟩ (by show 0 + k.val < 1536; omega) _ _ _ _ (run0 x0 hx b t k) (low0 x0 hx b t k) ?_ ?_
  · rw [val_main_v13_apply, val_main_v11_apply, val_main_v10_apply, val_main_v9_apply, val_main_v8_apply, val_main_v7_apply, val_main_v6_apply, val_main_v2_apply]
    rfl
  · rw [val_main_v15_apply, val_main_v0_apply]
    refine congrArg x0 (funext fun a => Fin.ext ?_)
    match a with
    | ⟨0, _⟩ => rfl
    | ⟨1, _⟩ => rfl
    | ⟨2, _⟩ => first | rfl | (show k.val = 0 + k.val; omega)

/-- Group 1: a running sum of its columns. -/
theorem run1 (hx : ∀ i, (i 2).val < 1536 → x0 i = (((x0 i).toReal : ℝ) : EReal)) (b : Fin 8) (t : Fin 4096) (k : Fin 384) :
    val_main_v20 (F := Ideal) x0 (ix3 b t k) = ((∑ i ∈ Finset.range (t.val + 1), rcol x0 b ⟨384 + k.val, by omega⟩ i : ℝ) : EReal) := by
  rw [val_main_v20_apply]
  refine Eq.trans (congrArg _ (funext fun a => Fin.ext ?_)) (csum_at x0 hx b t ⟨384 + k.val, by omega⟩)
  match a with
  | ⟨0, _⟩ => rfl
  | ⟨1, _⟩ => rfl
  | ⟨2, _⟩ => first | rfl | (show k.val = 0 + k.val; omega)

/-- Group 1: the running sum 4 positions before, 0 where there is none. -/
theorem low1 (hx : ∀ i, (i 2).val < 1536 → x0 i = (((x0 i).toReal : ℝ) : EReal)) (b : Fin 8) (t : Fin 4096) (k : Fin 384) :
    val_main_v22 (F := Ideal) x0 (ix3 b t k) = (((if 4 ≤ t.val then ∑ i ∈ Finset.range (t.val - 4 + 1), rcol x0 b ⟨384 + k.val, by omega⟩ i else 0 : ℝ)) : EReal) := by
  have ht := t.isLt
  have hr := run1 x0 hx b
  unfold val_main_v22
  split
  · next h =>
    refine (pad_apply_of_inside _ _ _ _ _ _ _ (ix3 b t k) (ix3 b (⟨t.val - 4, by omega⟩ : Fin 4092) k) fun a => ?_).trans ?_
    · match a with
      | ⟨0, _⟩ => show b.val = 0 + b.val * (0 + 1); omega
      | ⟨1, _⟩ => show t.val = 4 + (t.val - 4) * (0 + 1); omega
      | ⟨2, _⟩ => show k.val = 0 + k.val * (0 + 1); omega
    · rw [val_main_v21_apply]
      refine Eq.trans (congrArg _ (funext fun a => Fin.ext ?_)) (hr ⟨t.val - 4, by omega⟩ k)
      match a with
      | ⟨0, _⟩ => rfl
      | ⟨1, _⟩ => rfl
      | ⟨2, _⟩ => rfl
  · next h =>
    refine (pad_apply_of_not_inside _ _ _ _ _ _ _ (ix3 b t k) 1 fun hin => ?_).trans ?_
    · have h1 : 4 ≤ t.val := hin.1
      exact h h1
    · exact pad_zero

/-- Group 1: what is multiplied by the group's matrix. -/
theorem arg1 (hx : ∀ i, (i 2).val < 1536 → x0 i = (((x0 i).toReal : ℝ) : EReal)) (b : Fin 8) (t : Fin 4096) (k : Fin 384) :
    val_main_v33 (F := Ideal) x0 (ix3 b t k) = dev 4 (col x0 b ⟨384 + k.val, by omega⟩) t.val := by
  rw [val_main_v33_apply, val_main_v31_apply, val_main_v29_apply]
  refine dev_eq x0 hx 4 b t ⟨384 + k.val, by omega⟩ (by show 384 + k.val < 1536; omega) _ _ _ _ (run1 x0 hx b t k) (low1 x0 hx b t k) ?_ ?_
  · rw [val_main_v30_apply, val_main_v28_apply, val_main_v27_apply, val_main_v26_apply, val_main_v25_apply, val_main_v24_apply, val_main_v23_apply, val_main_v2_apply]
    rfl
  · rw [val_main_v32_apply, val_main_v0_apply]
    refine congrArg x0 (funext fun a => Fin.ext ?_)
    match a with
    | ⟨0, _⟩ => rfl
    | ⟨1, _⟩ => rfl
    | ⟨2, _⟩ => first | rfl | (show k.val = 0 + k.val; omega)

/-- Group 2: a running sum of its columns. -/
theorem run2 (hx : ∀ i, (i 2).val < 1536 → x0 i = (((x0 i).toReal : ℝ) : EReal)) (b : Fin 8) (t : Fin 4096) (k : Fin 384) :
    val_main_v37 (F := Ideal) x0 (ix3 b t k) = ((∑ i ∈ Finset.range (t.val + 1), rcol x0 b ⟨768 + k.val, by omega⟩ i : ℝ) : EReal) := by
  rw [val_main_v37_apply]
  refine Eq.trans (congrArg _ (funext fun a => Fin.ext ?_)) (csum_at x0 hx b t ⟨768 + k.val, by omega⟩)
  match a with
  | ⟨0, _⟩ => rfl
  | ⟨1, _⟩ => rfl
  | ⟨2, _⟩ => first | rfl | (show k.val = 0 + k.val; omega)

/-- Group 2: the running sum 8 positions before, 0 where there is none. -/
theorem low2 (hx : ∀ i, (i 2).val < 1536 → x0 i = (((x0 i).toReal : ℝ) : EReal)) (b : Fin 8) (t : Fin 4096) (k : Fin 384) :
    val_main_v39 (F := Ideal) x0 (ix3 b t k) = (((if 8 ≤ t.val then ∑ i ∈ Finset.range (t.val - 8 + 1), rcol x0 b ⟨768 + k.val, by omega⟩ i else 0 : ℝ)) : EReal) := by
  have ht := t.isLt
  have hr := run2 x0 hx b
  unfold val_main_v39
  split
  · next h =>
    refine (pad_apply_of_inside _ _ _ _ _ _ _ (ix3 b t k) (ix3 b (⟨t.val - 8, by omega⟩ : Fin 4088) k) fun a => ?_).trans ?_
    · match a with
      | ⟨0, _⟩ => show b.val = 0 + b.val * (0 + 1); omega
      | ⟨1, _⟩ => show t.val = 8 + (t.val - 8) * (0 + 1); omega
      | ⟨2, _⟩ => show k.val = 0 + k.val * (0 + 1); omega
    · rw [val_main_v38_apply]
      refine Eq.trans (congrArg _ (funext fun a => Fin.ext ?_)) (hr ⟨t.val - 8, by omega⟩ k)
      match a with
      | ⟨0, _⟩ => rfl
      | ⟨1, _⟩ => rfl
      | ⟨2, _⟩ => rfl
  · next h =>
    refine (pad_apply_of_not_inside _ _ _ _ _ _ _ (ix3 b t k) 1 fun hin => ?_).trans ?_
    · have h1 : 8 ≤ t.val := hin.1
      exact h h1
    · exact pad_zero

/-- Group 2: what is multiplied by the group's matrix. -/
theorem arg2 (hx : ∀ i, (i 2).val < 1536 → x0 i = (((x0 i).toReal : ℝ) : EReal)) (b : Fin 8) (t : Fin 4096) (k : Fin 384) :
    val_main_v50 (F := Ideal) x0 (ix3 b t k) = dev 8 (col x0 b ⟨768 + k.val, by omega⟩) t.val := by
  rw [val_main_v50_apply, val_main_v48_apply, val_main_v46_apply]
  refine dev_eq x0 hx 8 b t ⟨768 + k.val, by omega⟩ (by show 768 + k.val < 1536; omega) _ _ _ _ (run2 x0 hx b t k) (low2 x0 hx b t k) ?_ ?_
  · rw [val_main_v47_apply, val_main_v45_apply, val_main_v44_apply, val_main_v43_apply, val_main_v42_apply, val_main_v41_apply, val_main_v40_apply, val_main_v2_apply]
    rfl
  · rw [val_main_v49_apply, val_main_v0_apply]
    refine congrArg x0 (funext fun a => Fin.ext ?_)
    match a with
    | ⟨0, _⟩ => rfl
    | ⟨1, _⟩ => rfl
    | ⟨2, _⟩ => first | rfl | (show k.val = 0 + k.val; omega)

/-- Group 3: a running sum of its columns. -/
theorem run3 (hx : ∀ i, (i 2).val < 1536 → x0 i = (((x0 i).toReal : ℝ) : EReal)) (b : Fin 8) (t : Fin 4096) (k : Fin 384) :
    val_main_v54 (F := Ideal) x0 (ix3 b t k) = ((∑ i ∈ Finset.range (t.val + 1), rcol x0 b ⟨1152 + k.val, by omega⟩ i : ℝ) : EReal) := by
  rw [val_main_v54_apply]
  refine Eq.trans (congrArg _ (funext fun a => Fin.ext ?_)) (csum_at x0 hx b t ⟨1152 + k.val, by omega⟩)
  match a with
  | ⟨0, _⟩ => rfl
  | ⟨1, _⟩ => rfl
  | ⟨2, _⟩ => first | rfl | (show k.val = 0 + k.val; omega)

/-- Group 3: the running sum 16 positions before, 0 where there is none. -/
theorem low3 (hx : ∀ i, (i 2).val < 1536 → x0 i = (((x0 i).toReal : ℝ) : EReal)) (b : Fin 8) (t : Fin 4096) (k : Fin 384) :
    val_main_v56 (F := Ideal) x0 (ix3 b t k) = (((if 16 ≤ t.val then ∑ i ∈ Finset.range (t.val - 16 + 1), rcol x0 b ⟨1152 + k.val, by omega⟩ i else 0 : ℝ)) : EReal) := by
  have ht := t.isLt
  have hr := run3 x0 hx b
  unfold val_main_v56
  split
  · next h =>
    refine (pad_apply_of_inside _ _ _ _ _ _ _ (ix3 b t k) (ix3 b (⟨t.val - 16, by omega⟩ : Fin 4080) k) fun a => ?_).trans ?_
    · match a with
      | ⟨0, _⟩ => show b.val = 0 + b.val * (0 + 1); omega
      | ⟨1, _⟩ => show t.val = 16 + (t.val - 16) * (0 + 1); omega
      | ⟨2, _⟩ => show k.val = 0 + k.val * (0 + 1); omega
    · rw [val_main_v55_apply]
      refine Eq.trans (congrArg _ (funext fun a => Fin.ext ?_)) (hr ⟨t.val - 16, by omega⟩ k)
      match a with
      | ⟨0, _⟩ => rfl
      | ⟨1, _⟩ => rfl
      | ⟨2, _⟩ => rfl
  · next h =>
    refine (pad_apply_of_not_inside _ _ _ _ _ _ _ (ix3 b t k) 1 fun hin => ?_).trans ?_
    · have h1 : 16 ≤ t.val := hin.1
      exact h h1
    · exact pad_zero

/-- Group 3: what is multiplied by the group's matrix. -/
theorem arg3 (hx : ∀ i, (i 2).val < 1536 → x0 i = (((x0 i).toReal : ℝ) : EReal)) (b : Fin 8) (t : Fin 4096) (k : Fin 384) :
    val_main_v67 (F := Ideal) x0 (ix3 b t k) = dev 16 (col x0 b ⟨1152 + k.val, by omega⟩) t.val := by
  rw [val_main_v67_apply, val_main_v65_apply, val_main_v63_apply]
  refine dev_eq x0 hx 16 b t ⟨1152 + k.val, by omega⟩ (by show 1152 + k.val < 1536; omega) _ _ _ _ (run3 x0 hx b t k) (low3 x0 hx b t k) ?_ ?_
  · rw [val_main_v64_apply, val_main_v62_apply, val_main_v61_apply, val_main_v60_apply, val_main_v59_apply, val_main_v58_apply, val_main_v57_apply, val_main_v2_apply]
    rfl
  · rw [val_main_v66_apply, val_main_v0_apply]
    refine congrArg x0 (funext fun a => Fin.ext ?_)
    match a with
    | ⟨0, _⟩ => rfl
    | ⟨1, _⟩ => rfl
    | ⟨2, _⟩ => first | rfl | (show k.val = 0 + k.val; omega)

end Reference

end Cert.Pool

end
-- ==== Proof.PoolRef.lean ====
/- Program 11: the reference's result, entry by entry. -/
module

public import proofs.«01_k».proof.Proof.PoolSum

@[expose] public section

set_option maxRecDepth 16384

noncomputable section

namespace Cert.Pool

open Idealize.ShloMosaic Idealize.SL.Sem Cert.Reference11Ideal Cert.Reference11Ideal.Gen Cert.Reference11Ideal.Read

variable (x0 : (⟨S8x4096x2048, .f32⟩ : BufTy).Contents (Elt Ideal)) (x1 : (⟨S4x384x384, .f32⟩ : BufTy).Contents (Elt Ideal)) (x2 : (⟨S1536, .f32⟩ : BufTy).Contents (Elt Ideal))

/-- One group's output: the deviations of its 384 columns times its weights. -/
def group (g : ℕ) (hg : g < 4) (b : Fin 8) (t : Fin 4096) (q : Fin 384) : EReal :=
  ∑ k : Fin 384, dev (2 ^ (g + 1)) (col x0 b ⟨384 * g + k.val, by omega⟩) t.val * x1 (ix3 ⟨g, hg⟩ k q)

/-- The mixer's result: each group's output times the scale of its column. -/
def mixed (i : S8x4096x1536.Idx) : EReal :=
  group x0 x1 ((i 2).val / 384) (by have h : (i 2).val < 1536 := (i 2).isLt; omega) (i 0) (i 1) ⟨(i 2).val % 384, Nat.mod_lt _ (by decide)⟩ * x2 (ix1 (i 2))

theorem dot0 (hx : ∀ i, (i 2).val < 1536 → x0 i = (((x0 i).toReal : ℝ) : EReal)) (b : Fin 8) (t : Fin 4096) (q : Fin 384) :
    val_main_v19 (F := Ideal) x0 x1 (ix3 b t q) = group x0 x1 0 (by decide) b t q := by
  rw [val_main_v19_apply]
  unfold group
  refine Finset.sum_congr rfl fun k _ => congrArg₂ (· * ·) ((congrArg _ (funext fun a => Fin.ext ?_)).trans (arg0 x0 hx b t k))
    ((val_main_v18_apply x1 _).trans ((val_main_v17_apply x1 _).trans (congrArg x1 (funext fun a => Fin.ext ?_))))
  · match a with
    | ⟨0, _⟩ => rfl
    | ⟨1, _⟩ => rfl
    | ⟨2, _⟩ => rfl
  · match a with
    | ⟨0, _⟩ => rfl
    | ⟨1, _⟩ => show (k.val * 384 + q.val) / 384 % 384 = k.val; omega
    | ⟨2, _⟩ => show (k.val * 384 + q.val) % 384 = q.val; omega

theorem dot1 (hx : ∀ i, (i 2).val < 1536 → x0 i = (((x0 i).toReal : ℝ) : EReal)) (b : Fin 8) (t : Fin 4096) (q : Fin 384) :
    val_main_v36 (F := Ideal) x0 x1 (ix3 b t q) = group x0 x1 1 (by decide) b t q := by
  rw [val_main_v36_apply]
  unfold group
  refine Finset.sum_congr rfl fun k _ => congrArg₂ (· * ·) ((congrArg _ (funext fun a => Fin.ext ?_)).trans (arg1 x0 hx b t k))
    ((val_main_v35_apply x1 _).trans ((val_main_v34_apply x1 _).trans (congrArg x1 (funext fun a => Fin.ext ?_))))
  · match a with
    | ⟨0, _⟩ => rfl
    | ⟨1, _⟩ => rfl
    | ⟨2, _⟩ => rfl
  · match a with
    | ⟨0, _⟩ => rfl
    | ⟨1, _⟩ => show (k.val * 384 + q.val) / 384 % 384 = k.val; omega
    | ⟨2, _⟩ => show (k.val * 384 + q.val) % 384 = q.val; omega

theorem dot2 (hx : ∀ i, (i 2).val < 1536 → x0 i = (((x0 i).toReal : ℝ) : EReal)) (b : Fin 8) (t : Fin 4096) (q : Fin 384) :
    val_main_v53 (F := Ideal) x0 x1 (ix3 b t q) = group x0 x1 2 (by decide) b t q := by
  rw [val_main_v53_apply]
  unfold group
  refine Finset.sum_congr rfl fun k _ => congrArg₂ (· * ·) ((congrArg _ (funext fun a => Fin.ext ?_)).trans (arg2 x0 hx b t k))
    ((val_main_v52_apply x1 _).trans ((val_main_v51_apply x1 _).trans (congrArg x1 (funext fun a => Fin.ext ?_))))
  · match a with
    | ⟨0, _⟩ => rfl
    | ⟨1, _⟩ => rfl
    | ⟨2, _⟩ => rfl
  · match a with
    | ⟨0, _⟩ => rfl
    | ⟨1, _⟩ => show (k.val * 384 + q.val) / 384 % 384 = k.val; omega
    | ⟨2, _⟩ => show (k.val * 384 + q.val) % 384 = q.val; omega

theorem dot3 (hx : ∀ i, (i 2).val < 1536 → x0 i = (((x0 i).toReal : ℝ) : EReal)) (b : Fin 8) (t : Fin 4096) (q : Fin 384) :
    val_main_v70 (F := Ideal) x0 x1 (ix3 b t q) = group x0 x1 3 (by decide) b t q := by
  rw [val_main_v70_apply]
  unfold group
  refine Finset.sum_congr rfl fun k _ => congrArg₂ (· * ·) ((congrArg _ (funext fun a => Fin.ext ?_)).trans (arg3 x0 hx b t k))
    ((val_main_v69_apply x1 _).trans ((val_main_v68_apply x1 _).trans (congrArg x1 (funext fun a => Fin.ext ?_))))
  · match a with
    | ⟨0, _⟩ => rfl
    | ⟨1, _⟩ => rfl
    | ⟨2, _⟩ => rfl
  · match a with
    | ⟨0, _⟩ => rfl
    | ⟨1, _⟩ => show (k.val * 384 + q.val) / 384 % 384 = k.val; omega
    | ⟨2, _⟩ => show (k.val * 384 + q.val) % 384 = q.val; omega

theorem group_congr {g g' : ℕ} {hg : g < 4} {hg' : g' < 4} (e : g = g') (b : Fin 8) (t : Fin 4096) {q q' : Fin 384} (eq : q = q') :
    group x0 x1 g hg b t q = group x0 x1 g' hg' b t q' := by
  subst e; subst eq; rfl

theorem joined (hx : ∀ i, (i 2).val < 1536 → x0 i = (((x0 i).toReal : ℝ) : EReal)) (b : Fin 8) (t : Fin 4096) (l : Fin 1536) :
    val_main_v71 (F := Ideal) x0 x1 (ix3 b t l) = group x0 x1 (l.val / 384) (by omega) b t ⟨l.val % 384, Nat.mod_lt _ (by decide)⟩ := by
  have hl := l.isLt
  unfold val_main_v71
  by_cases h0 : l.val < 384
  · refine (concatenate_apply_piece (t := S8x4096x1536) 2 _ _ (ix3 b t l) 0 (by show 0 < 4; decide) S8x4096x384 (val_main_v19 (F := Ideal) x0 x1) rfl rfl 0 rfl (ix3 b t (⟨l.val - 0, by omega⟩ : Fin 384)) (fun a ha => ?_) ?_).trans ((dot0 x0 x1 hx b t _).trans (group_congr x0 x1 (by omega) b t (Fin.ext (by show l.val - 0 = l.val % 384; omega))))
    · match a with
      | ⟨0, _⟩ => rfl
      | ⟨1, _⟩ => rfl
      | ⟨2, _⟩ => exact absurd rfl ha
    · show 0 + (l.val - 0) = l.val
      omega
  by_cases h1 : l.val < 768
  · refine (concatenate_apply_piece (t := S8x4096x1536) 2 _ _ (ix3 b t l) 1 (by show 1 < 4; decide) S8x4096x384 (val_main_v36 (F := Ideal) x0 x1) rfl rfl 384 rfl (ix3 b t (⟨l.val - 384, by omega⟩ : Fin 384)) (fun a ha => ?_) ?_).trans ((dot1 x0 x1 hx b t _).trans (group_congr x0 x1 (by omega) b t (Fin.ext (by show l.val - 384 = l.val % 384; omega))))
    · match a with
      | ⟨0, _⟩ => rfl
      | ⟨1, _⟩ => rfl
      | ⟨2, _⟩ => exact absurd rfl ha
    · show 384 + (l.val - 384) = l.val
      omega
  by_cases h2 : l.val < 1152
  · refine (concatenate_apply_piece (t := S8x4096x1536) 2 _ _ (ix3 b t l) 2 (by show 2 < 4; decide) S8x4096x384 (val_main_v53 (F := Ideal) x0 x1) rfl rfl 768 rfl (ix3 b t (⟨l.val - 768, by omega⟩ : Fin 384)) (fun a ha => ?_) ?_).trans ((dot2 x0 x1 hx b t _).trans (group_congr x0 x1 (by omega) b t (Fin.ext (by show l.val - 768 = l.val % 384; omega))))
    · match a with
      | ⟨0, _⟩ => rfl
      | ⟨1, _⟩ => rfl
      | ⟨2, _⟩ => exact absurd rfl ha
    · show 768 + (l.val - 768) = l.val
      omega
  refine (concatenate_apply_piece (t := S8x4096x1536) 2 _ _ (ix3 b t l) 3 (by show 3 < 4; decide) S8x4096x384 (val_main_v70 (F := Ideal) x0 x1) rfl rfl 1152 rfl (ix3 b t (⟨l.val - 1152, by omega⟩ : Fin 384)) (fun a ha => ?_) ?_).trans ((dot3 x0 x1 hx b t _).trans (group_congr x0 x1 (by omega) b t (Fin.ext (by show l.val - 1152 = l.val % 384; omega))))
  · match a with
    | ⟨0, _⟩ => rfl
    | ⟨1, _⟩ => rfl
    | ⟨2, _⟩ => exact absurd rfl ha
  · show 1152 + (l.val - 1152) = l.val
    omega

/-- The reference's result. -/
theorem ref_at (hx : ∀ i, (i 2).val < 1536 → x0 i = (((x0 i).toReal : ℝ) : EReal)) (i : S8x4096x1536.Idx) : val_main_v75 (F := Ideal) x0 x1 x2 i = mixed x0 x1 x2 i := by
  rw [val_main_v75_apply, val_main_v74_apply, val_main_v73_apply, val_main_v72_apply]
  unfold mixed
  refine congrArg₂ (· * ·) ((congrArg _ (funext fun a => Fin.ext ?_)).trans (joined x0 x1 hx (i 0) (i 1) (i 2))) (congrArg x2 (funext fun a => Fin.ext ?_))
  · match a with
    | ⟨0, _⟩ => rfl
    | ⟨1, _⟩ => rfl
    | ⟨2, _⟩ => rfl
  · match a with
    | ⟨0, _⟩ => rfl

end Cert.Pool

end
-- ==== Proof.PoolRun.lean ====
/- Program 11: what a step of the pooling mixer stores, entry by entry. -/
module

public import proofs.«01_k».proof.Proof.PoolSum
public import proofs.«01_k».proof.Proof.PeerBuf
public import proofs.«01_k».proof.Proof.Gen.Kernel11Ideal.Frame.RunA

@[expose] public section

set_option maxRecDepth 16384

noncomputable section

namespace Cert.Kernel11Ideal.Blocks

open Idealize.ShloMosaic Idealize.ShloMosaic.TcCoe Idealize.SL.Sem Cert.Kernel11Ideal Cert.Kernel11Ideal.Gen
open Cert.Kernel9Ideal.Blocks (idx2 canon_hit canon_miss)

/-- What one store holds: the window's sums `acc` over the counts, less the tokens `x`, times the weights and the scale. -/
def mixPay (n o w : BitVec 32) (acc x : Vec Ideal S256x384 .f32) (W : Vec Ideal S1x384x384 .bf16) (s : Vec Ideal S1x384 .f32) : FVec Ideal S1x256x384 .bf16 :=
  shapeCast S1x256x384 (truncf .bf16 (mulf (matmul (φ₂ := .bf16) dot_S256x384_S384x384_S256x384_1_0_0_1_n_n none
    (truncf .bf16 (subf (divf acc (broadcastTo S256x384 (sitofp (F := Ideal) .f32 (minsi (addi (addi (broadcast S256x1 (Scalar.addi (Scalar.muli n 1024#32) o)) (iota .tc S256x1 32 [0] iota_S256x1_d0_w32)) (broadcast S256x1 1#32)) (broadcast S256x1 w))) broadcasts_S256x1_S256x384)) x) bitsLt_bf16_f32)
    (shapeCast S384x384 W shapeCasts_S1x384x384_S384x384 : FVec Ideal S384x384 .bf16) (constant S256x384 .f32 0x00000000#32))
    (broadcastTo S256x384 (shapeCast S1x384 s shapeCasts_S1x384_S1x384) broadcasts_S1x384_S256x384)) bitsLt_bf16_f32) shapeCasts_S256x384_S1x256x384

theorem mixPay_apply (n o w : BitVec 32) (acc x : Vec Ideal S256x384 .f32) (W : Vec Ideal S1x384x384 .bf16) (s : Vec Ideal S1x384 .f32) (p : Fin 256) (q : Fin 384) :
    mixPay n o w acc x W s (ix3 0 p q)
      = (∑ k : Fin 384, (Ideal.div (acc (ix2 p k)) (FloatOps.sitofp (F := Ideal) .f32 (IntOp.minsi (IntOp.addi (IntOp.addi (IntOp.addi (IntOp.muli n 1024#32) o) (BitVec.ofNat 32 p.val)) 1#32) w)) - x (ix2 p k)) * W (ix3 0 k q)) * s (ix2 0 q) := by
  pointwise [mixPay]
  rfl

/-- The rows of tokens of a step: the 1024 rows of the tile. -/
theorem cur_apply (X : Vec Ideal S1x1024x1536 .bf16) (r : Fin 1024) (l : Fin 1536) : k0_pay2 (F := Ideal) X (ix2 r l) = X (ix3 0 r l) := by
  pointwise [k0_pay2]

theorem halo_apply (i : grid0.Coords) (X : Vec Ideal S1x16x1536 .bf16) (r : Fin 16) (l : Fin 1536) :
    k0_pay3 (F := Ideal) i X (ix2 r l) = if (i 1).val = 0 then 0 else X (ix3 0 r l) := by
  pointwise [k0_pay3]
  have hi : (i 1).val < 4 := (i 1).isLt
  generalize (i 1).val = n at hi
  have e : ∀ n : Fin 4, Scalar.cmpi .sgt (BitVec.ofNat 32 n.val) 0#32 = if n.val = 0 then 0#1 else 1#1 := by decide
  have e' := e ⟨n, hi⟩
  dsimp only at e'
  rw [e']
  by_cases h : n = 0
  · rw [if_pos h, if_pos h]
    rfl
  · rw [if_neg h, if_neg h]
    rfl

variable {c : Dev nD} {i : grid0.Coords} {arg2 : Memref sig .tc .vmem S1x1024x1536 .bf16} {harg2 : arg2.IsWhole} {arg3 : Memref sig .tc .vmem S1x16x1536 .bf16} {harg3 : arg3.IsWhole} {arg4 : Memref sig .tc .vmem S4x384x384 .bf16} {harg4 : arg4.IsWhole} {arg5 : Memref sig .tc .vmem S1x1536 .f32} {harg5 : arg5.IsWhole} {arg6 : Memref sig .tc .vmem S1x1024x1536 .bf16} {harg6 : arg6.IsWhole} {arg7 : Memref sig .tc .vmem S1040x1536 .f32} {harg7 : arg7.IsWhole}
    {x0 : Vec Ideal S1x1024x1536 .bf16} {x1 : Vec Ideal S1x16x1536 .bf16} {x2 : Vec Ideal S4x384x384 .bf16} {x3 : Vec Ideal S1x1536 .f32}

/-- The two stores that fill the padded tile: the rows before it, and its own. -/
def pads (i : grid0.Coords) (X : Vec Ideal S1x1024x1536 .bf16) (H : Vec Ideal S1x16x1536 .bf16) : List (View.Piece (Elt Ideal) S1040x1536 .f32) :=
  [⟨Rect.unit (s := S1040x1536) ![0, 0] ![16, 1536] inb_S1040x1536_S16x1536_0_0, k0_pay3 i H⟩,
    ⟨Rect.unit (s := S1040x1536) ![16, 0] ![1024, 1536] inb_S1040x1536_S1024x1536_16_0, k0_pay2 X⟩]

theorem winInb (g : Fin 4) (k : Fin 4) (j : ℕ) : ∀ a, ![16 + 256 * k.val - j, 384 * g.val] a + (![256, 384] : Fin 2 → ℕ) a ≤ S1040x1536.size a := fun a => by
  match a with
  | ⟨0, _⟩ => show 16 + 256 * k.val - j + 256 ≤ 1040; omega
  | ⟨1, _⟩ => show 384 * g.val + 384 ≤ 1536; omega

theorem weightInb (g : Fin 4) : ∀ a, ![g.val, 0, 0] a + (![1, 384, 384] : Fin 3 → ℕ) a ≤ S4x384x384.size a := fun a => by
  match a with
  | ⟨0, _⟩ => show g.val + 1 ≤ 4; omega
  | ⟨1, _⟩ => exact le_refl _
  | ⟨2, _⟩ => exact le_refl _

theorem scaleInb (g : Fin 4) : ∀ a, ![0, 384 * g.val] a + (![1, 384] : Fin 2 → ℕ) a ≤ S1x1536.size a := fun a => by
  match a with
  | ⟨0, _⟩ => exact le_refl _
  | ⟨1, _⟩ => show 384 * g.val + 384 ≤ 1536; omega

theorem outInb (g : Fin 4) (k : Fin 4) : ∀ a, ![0, 256 * k.val, 384 * g.val] a + (![1, 256, 384] : Fin 3 → ℕ) a ≤ S1x1024x1536.size a := fun a => by
  match a with
  | ⟨0, _⟩ => exact le_refl _
  | ⟨1, _⟩ => show 256 * k.val + 256 ≤ 1024; omega
  | ⟨2, _⟩ => show 384 * g.val + 384 ≤ 1536; omega

/-- Sums of the first `n + 1` of a family of arrays. -/
def accum (R : ℕ → Vec Ideal S256x384 .f32) : ℕ → Vec Ideal S256x384 .f32
  | 0 => R 0
  | n + 1 => addf (F := Ideal) (φ := .f32) (accum R n) (R (n + 1))

theorem accum_apply (R : ℕ → Vec Ideal S256x384 .f32) (n : ℕ) (y : S256x384.Idx) : accum R n y = ∑ j ∈ Finset.range (n + 1), R j y := by
  induction n with
  | zero => exact (Finset.sum_range_one fun j => R j y).symm
  | succ n ih => exact (congrArg (· + _) ih).trans (Finset.sum_range_succ _ _).symm

/-- One store of the result: 256 rows of one group's columns. -/
def piece (i : grid0.Coords) (arg4 : Memref sig .tc .vmem S4x384x384 .bf16) (harg4 : arg4.IsWhole) (arg5 : Memref sig .tc .vmem S1x1536 .f32) (harg5 : arg5.IsWhole) (arg7 : Memref sig .tc .vmem S1040x1536 .f32)
    (x2 : Vec Ideal S4x384x384 .bf16) (x3 : Vec Ideal S1x1536 .f32) (L : List (View.Piece (Elt Ideal) S1040x1536 .f32)) (g : Fin 4) (k : Fin 4) (n : ℕ) : View.Piece (Elt Ideal) S1x1024x1536 .bf16 :=
  ⟨Rect.unit (s := S1x1024x1536) ![0, 256 * k.val, 384 * g.val] ![1, 256, 384] (outInb g k),
    mixPay (BitVec.ofNat 32 (i 1).val) (BitVec.ofNat 32 (256 * k.val)) (BitVec.ofNat 32 (n + 1))
      (accum (fun j => arg7.view.readCov L (Rect.unit (s := S1040x1536) ![16 + 256 * k.val - j, 384 * g.val] ![256, 384] (winInb g k j)).toLoadRect) n)
      (arg7.view.readCov L (Rect.unit (s := S1040x1536) ![16 + 256 * k.val - 0, 384 * g.val] ![256, 384] (winInb g k 0)).toLoadRect)
      (View.readAt (Elt Ideal) arg4.view (Rect.unit (s := S4x384x384) ![g.val, 0, 0] ![1, 384, 384] (weightInb g)).toLoadRect (harg4.unread x2))
      (View.readAt (Elt Ideal) arg5.view (Rect.unit (s := S1x1536) ![0, 384 * g.val] ![1, 384] (scaleInb g)).toLoadRect (harg5.unread x3))⟩

/-- The padded tile's stores are the run's. -/
theorem pads_eq : (kernelRun0_A (F := Ideal) c i arg2 harg2 arg3 harg3 arg4 harg4 arg5 harg5 arg6 harg6 arg7 harg7 x0 x1 x2 x3).2.1
    = pads i (View.readAt (Elt Ideal) arg2.view (Rect.unit (s := S1x1024x1536) ![0, 0, 0] ![1, 1024, 1536] inb_S1x1024x1536_S1x1024x1536_0_0_0).toLoadRect (harg2.unread x0)) (View.readAt (Elt Ideal) arg3.view (Rect.unit (s := S1x16x1536) ![0, 0, 0] ![1, 16, 1536] inb_S1x16x1536_S1x16x1536_0_0_0).toLoadRect (harg3.unread x1)) := rfl

/-- The groups and row blocks in the order of their stores, the last first. -/
def order : List (Fin 4 × Fin 4) :=
  [(3, 3), (3, 2), (3, 1), (3, 0), (2, 3), (2, 2), (2, 1), (2, 0), (1, 3), (1, 2), (1, 1), (1, 0), (0, 3), (0, 2), (0, 1), (0, 0)]

/-- The result's sixteen stores, the last first. -/
def stores (i : grid0.Coords) (arg4 : Memref sig .tc .vmem S4x384x384 .bf16) (harg4 : arg4.IsWhole) (arg5 : Memref sig .tc .vmem S1x1536 .f32) (harg5 : arg5.IsWhole) (arg7 : Memref sig .tc .vmem S1040x1536 .f32)
    (x2 : Vec Ideal S4x384x384 .bf16) (x3 : Vec Ideal S1x1536 .f32) (L : List (View.Piece (Elt Ideal) S1040x1536 .f32)) : List (View.Piece (Elt Ideal) S1x1024x1536 .bf16) :=
  order.map fun u => piece i arg4 harg4 arg5 harg5 arg7 x2 x3 L u.1 u.2 (2 ^ (u.1.val + 1) - 1)

theorem stores_eq : (kernelRun0_A (F := Ideal) c i arg2 harg2 arg3 harg3 arg4 harg4 arg5 harg5 arg6 harg6 arg7 harg7 x0 x1 x2 x3).1
    = stores i arg4 harg4 arg5 harg5 arg7 x2 x3 (pads i (View.readAt (Elt Ideal) arg2.view (Rect.unit (s := S1x1024x1536) ![0, 0, 0] ![1, 1024, 1536] inb_S1x1024x1536_S1x1024x1536_0_0_0).toLoadRect (harg2.unread x0)) (View.readAt (Elt Ideal) arg3.view (Rect.unit (s := S1x16x1536) ![0, 0, 0] ![1, 16, 1536] inb_S1x16x1536_S1x16x1536_0_0_0).toLoadRect (harg3.unread x1))) := rfl

/-- A load of a rectangle of what a list of stores left in a two-axis buffer. -/
theorem cov {M N m n R C : ℕ} {e : EltTy} {sp : Space} (v : View sig .tc sp (⟨2, ![M, N]⟩ : Shape) e) (L : List (View.Piece (Elt Ideal) (⟨2, ![M, N]⟩ : Shape) e))
    (inb : ∀ a, ![R, C] a + (![m, n] : Fin 2 → ℕ) a ≤ (⟨2, ![M, N]⟩ : Shape).size a) (p : Fin m) (q : Fin n) (hi : R + p.val < M) (hj : C + q.val < N) :
    v.readCov L (Rect.unit (s := ⟨2, ![M, N]⟩) ![R, C] ![m, n] inb).toLoadRect (ix2 p q) = View.canon L (ix2 ⟨R + p.val, hi⟩ ⟨C + q.val, hj⟩) :=
  (View.read_writes_junk_apply_eq_canon v _ L).trans (congrArg (View.canon L) (idx2 inb p q hi hj))

/-- The padded tile: position by position the columns `C` of the batch element, zero before its first position. -/
theorem pads_at (i : grid0.Coords) (X : Vec Ideal S1x1024x1536 .bf16) (H : Vec Ideal S1x16x1536 .bf16) (C : Fin 1536 → ℕ → EReal)
    (hX : ∀ (r : Fin 1024) (l : Fin 1536), X (ix3 0 r l) = C l (1024 * (i 1).val + r.val))
    (hH : ∀ (r : Fin 16) (l : Fin 1536), (i 1).val ≠ 0 → H (ix3 0 r l) = C l (1024 * (i 1).val + r.val - 16)) (R : Fin 1040) (l : Fin 1536) :
    View.canon (pads i X H) (ix2 R l) = if 16 ≤ 1024 * (i 1).val + R.val then C l (1024 * (i 1).val + R.val - 16) else 0 := by
  unfold pads
  by_cases h : R.val < 16
  · rw [canon_hit _ _ _ _ _ (by omega) (by omega) (by omega) (by omega), halo_apply]
    by_cases h0 : (i 1).val = 0
    · rw [if_pos h0, if_neg (by omega)]
    · rw [if_neg h0, if_pos (by omega)]
      exact (congrArg H (congrArg₂ (ix3 0) (Fin.ext (Nat.sub_zero _)) (Fin.ext (Nat.sub_zero _)))).trans (hH ⟨R.val, h⟩ l h0)
  · rw [canon_miss _ _ _ _ _ (by omega), canon_hit _ _ _ _ _ (by omega) (by omega) (by omega) (by omega), cur_apply, hX, if_pos (by omega)]
    exact congrArg₂ C (Fin.ext (Nat.sub_zero _)) (by show 1024 * (i 1).val + (R.val - 16) = _; omega)

theorem word (i o p w : ℕ) : FloatOps.sitofp (F := Ideal) .f32 (IntOp.minsi (IntOp.addi (IntOp.addi (IntOp.addi (IntOp.muli (BitVec.ofNat 32 i) 1024#32) (BitVec.ofNat 32 o)) (BitVec.ofNat 32 p)) 1#32) (BitVec.ofNat 32 w))
    = Cert.Pool.cnt w (1024 * i + (o + p)) := by
  have e : IntOp.addi (IntOp.addi (IntOp.muli (BitVec.ofNat 32 i) 1024#32) (BitVec.ofNat 32 o)) (BitVec.ofNat 32 p) = BitVec.ofNat 32 (1024 * i + (o + p)) := by
    show BitVec.ofNat 32 i * BitVec.ofNat 32 1024 + BitVec.ofNat 32 o + BitVec.ofNat 32 p = _
    rw [← BitVec.ofNat_mul, ← BitVec.ofNat_add, ← BitVec.ofNat_add]
    exact congrArg _ (by omega)
  rw [e]
  rfl

/-- A block of the result, entry by entry: `C` the columns, `W` the weights, `s` the scales. -/
def blockAt (i : grid0.Coords) (C : Fin 1536 → ℕ → EReal) (W : Vec Ideal S4x384x384 .bf16) (s : Vec Ideal S1x1536 .f32) (g : Fin 4) (r : Fin 1024) (q : Fin 384) : EReal :=
  (∑ k : Fin 384, Cert.Pool.dev (2 ^ (g.val + 1)) (C ⟨384 * g.val + k.val, by omega⟩) (1024 * (i 1).val + r.val) * W (ix3 g k q)) * s (ix2 0 ⟨384 * g.val + q.val, by omega⟩)

theorem block_congr (i : grid0.Coords) (C : Fin 1536 → ℕ → EReal) (W : Vec Ideal S4x384x384 .bf16) (s : Vec Ideal S1x1536 .f32) {g g' : Fin 4} {r r' : Fin 1024} {q q' : Fin 384}
    (eg : g = g') (er : r = r') (eq : q = q') : blockAt i C W s g r q = blockAt i C W s g' r' q' := by
  rw [eg, er, eq]

theorem every : ∀ u : Fin 4 × Fin 4, u ∈ order := by decide

theorem piece_at (L : List (View.Piece (Elt Ideal) S1040x1536 .f32)) (C : Fin 1536 → ℕ → EReal)
    (hL : ∀ (R : Fin 1040) (l : Fin 1536), View.canon L (ix2 R l) = if 16 ≤ 1024 * (i 1).val + R.val then C l (1024 * (i 1).val + R.val - 16) else 0)
    (g k : Fin 4) (p : Fin 256) (q : Fin 384) :
    (piece i arg4 harg4 arg5 harg5 arg7 x2 x3 L g k (2 ^ (g.val + 1) - 1)).2 (ix3 0 p q) = blockAt i C x2 x3 g ⟨256 * k.val + p.val, by omega⟩ q := by
  have hw : 2 ^ (g.val + 1) - 1 + 1 = 2 ^ (g.val + 1) := Nat.sub_add_cancel Nat.one_le_two_pow
  have hw16 : 2 ^ (g.val + 1) ≤ 16 := (Nat.pow_le_pow_right (by decide) (show g.val + 1 ≤ 4 by omega)).trans (by decide)
  have rd (j : ℕ) (hj : j ≤ 16) (d : Fin 384) : arg7.view.readCov L (Rect.unit (s := S1040x1536) ![16 + 256 * k.val - j, 384 * g.val] ![256, 384] (winInb g k j)).toLoadRect (ix2 p d)
      = if j ≤ 1024 * (i 1).val + (256 * k.val + p.val) then C ⟨384 * g.val + d.val, by omega⟩ (1024 * (i 1).val + (256 * k.val + p.val) - j) else 0 := by
    refine (cov arg7.view L (winInb g k j) p d (by omega) (by omega)).trans ((hL _ _).trans ?_)
    dsimp only
    by_cases h : j ≤ 1024 * (i 1).val + (256 * k.val + p.val)
    · rw [if_pos h, if_pos (by omega)]
      exact congrArg _ (by omega)
    · rw [if_neg h, if_neg (by omega)]
  refine (mixPay_apply _ _ _ _ _ _ _ p q).trans ?_
  rw [word, hw]
  unfold blockAt
  refine congrArg₂ (· * ·) (Finset.sum_congr rfl fun d _ => congrArg₂ (· * ·) ?_ ?_) ?_
  · unfold Cert.Pool.dev Cert.Pool.winsum
    rw [accum_apply, hw]
    refine congrArg₂ (· - ·) (congrArg (Ideal.div · _) (Finset.sum_congr rfl fun j hj => rd j ((Finset.mem_range.1 hj).le.trans hw16) d)) ((rd 0 (by decide) d).trans (if_pos (Nat.zero_le _)))
  · refine (Memref.IsWhole.readAt_unread harg4 x2 _ _).trans (congrArg x2 (funext fun a => Fin.ext ?_))
    match a with
    | ⟨0, _⟩ => exact Nat.add_zero _
    | ⟨1, _⟩ => exact (Nat.zero_add _).trans (Nat.one_mul _)
    | ⟨2, _⟩ => exact (Nat.zero_add _).trans (Nat.one_mul _)
  · refine (Memref.IsWhole.readAt_unread harg5 x3 _ _).trans (congrArg x3 (funext fun a => Fin.ext ?_))
    match a with
    | ⟨0, _⟩ => rfl
    | ⟨1, _⟩ => exact congrArg (_ + ·) (Nat.one_mul _)

/-- What the step's stores leave in the block. -/
theorem stores_at (L : List (View.Piece (Elt Ideal) S1040x1536 .f32)) (C : Fin 1536 → ℕ → EReal)
    (hL : ∀ (R : Fin 1040) (l : Fin 1536), View.canon L (ix2 R l) = if 16 ≤ 1024 * (i 1).val + R.val then C l (1024 * (i 1).val + R.val - 16) else 0)
    (y : S1x1024x1536.Idx) :
    View.canon (stores i arg4 harg4 arg5 harg5 arg7 x2 x3 L) y
      = blockAt i C x2 x3 ⟨(y 2).val / 384, by have h : (y 2).val < 1536 := (y 2).isLt; omega⟩ ⟨(y 1).val, (y 1).isLt⟩ ⟨(y 2).val % 384, Nat.mod_lt _ (by decide)⟩ := by
  have h1 : (y 1).val < 1024 := (y 1).isLt
  have h2 : (y 2).val < 1536 := (y 2).isLt
  have h0 : (y 0).val < 1 := (y 0).isLt
  let G : S1x1024x1536.Idx → Elt Ideal (.bf16 : EltTy) := fun z : S1x1024x1536.Idx => blockAt i C x2 x3 ⟨(z 2).val / 384, by have h : (z 2).val < 1536 := (z 2).isLt; omega⟩ ⟨(z 1).val, (z 1).isLt⟩ ⟨(z 2).val % 384, Nat.mod_lt _ (by decide)⟩
  refine View.canon_apply_of_pieces (Val := Elt Ideal) G _ ?_ y ?_
  · intro P hP x
    obtain ⟨⟨g, k⟩, -, rfl⟩ := List.mem_map.1 hP
    have ex : x = ix3 (0 : Fin 1) (⟨(x 1).val, (x 1).isLt⟩ : Fin 256) (⟨(x 2).val, (x 2).isLt⟩ : Fin 384) := funext fun a => Fin.ext (by
      match a with
      | ⟨0, _⟩ => exact Nat.lt_one_iff.mp (x 0).isLt
      | ⟨1, _⟩ => rfl
      | ⟨2, _⟩ => rfl)
    have l1 : (x 1).val < 256 := (x 1).isLt
    have l2 : (x 2).val < 384 := (x 2).isLt
    refine ((congrArg _ ex).trans (piece_at L C hL g k _ _)).trans ?_
    have e1 : (((Rect.unit (s := S1x1024x1536) ![0, 256 * k.val, 384 * g.val] ![1, 256, 384] (outInb g k)).emb x) 1).val = 256 * k.val + (x 1).val := congrArg (_ + ·) (Nat.one_mul _)
    have e2 : (((Rect.unit (s := S1x1024x1536) ![0, 256 * k.val, 384 * g.val] ![1, 256, 384] (outInb g k)).emb x) 2).val = 384 * g.val + (x 2).val := congrArg (_ + ·) (Nat.one_mul _)
    refine block_congr _ _ _ _ ?_ ?_ ?_
    · exact Fin.ext (Eq.trans (b := (384 * g.val + (x 2).val) / 384) (by show g.val = _; omega) (congrArg (· / 384) e2.symm))
    · exact Fin.ext e1.symm
    · exact Fin.ext (Eq.trans (b := (384 * g.val + (x 2).val) % 384) (by show (x 2).val = _; omega) (congrArg (· % 384) e2.symm))
  · refine ⟨_, List.mem_map.2 ⟨(⟨(y 2).val / 384, by omega⟩, ⟨(y 1).val / 256, by omega⟩), every _, rfl⟩, (Rect.mem_set_unit (inb := outInb ⟨(y 2).val / 384, by omega⟩ ⟨(y 1).val / 256, by omega⟩)).2 fun a => ?_⟩
    match a with
    | ⟨0, _⟩ => exact ⟨Nat.zero_le _, by show (y 0).val < 0 + 1; omega⟩
    | ⟨1, _⟩ => exact ⟨by show 256 * ((y 1).val / 256) ≤ (y 1).val; omega, by show (y 1).val < 256 * ((y 1).val / 256) + 256; omega⟩
    | ⟨2, _⟩ => exact ⟨by show 384 * ((y 2).val / 384) ≤ (y 2).val; omega, by show (y 2).val < 384 * ((y 2).val / 384) + 384; omega⟩

end Cert.Kernel11Ideal.Blocks

end
-- ==== Proof.Pool.lean ====
/- Program 11: the pooling mixer. -/
module

public import proofs.«01_k».proof.Defs
public import proofs.«01_k».proof.Proof.PoolRef
public import proofs.«01_k».proof.Proof.PoolRun
public import proofs.«01_k».proof.Proof.Finish
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_finite_p
public import Idealize.ShloMosaic.Adequacy
public import Idealize.ShloMosaic.Lib.Pipeline.ValueKit
public import Idealize.ShloMosaic.Lib.Pointwise

@[expose] public section

set_option maxRecDepth 16384

noncomputable section

namespace Cert.Kernel11Ideal.Blocks

open Idealize.ShloMosaic Idealize.ShloMosaic.TcCoe Idealize.SL.Sem Cert.Kernel11Ideal Cert.Kernel11Ideal.Gen Cert.Kernel11Ideal.Value
open Idealize.ShloMosaic.Pipeline (Dat)

variable (m : (ℓ : Loc nD τ sig) → Buf (Elt Ideal) ℓ) (c : Dev nD)

/-- The hidden array, whose first 1536 columns are the mixer's. -/
abbrev hidden (i : S8x4096x2048.Idx) : EReal := m ((c : Thread nD τ).loc main_arg0) i

/-- The mixer's weights. -/
abbrev weights (i : S4x384x384.Idx) : EReal := m ((c : Thread nD τ).loc main_arg1) i

/-- The mixer's scales. -/
abbrev scales (i : S1536.Idx) : EReal := m ((c : Thread nD τ).loc main_arg2) i

theorem entry_h (i : S8x4096x2048.Idx) : V m c main_v0 i = hidden m c i := by
  entry_read
  rfl

theorem entry_w (i : S4x384x384.Idx) : V m c main_v1 i = weights m c i := by
  entry_read
  rfl

theorem entry_s (l : Fin 1536) : V m c main_v2 (ix2 0 l) = scales m c (ix1 l) := by
  entry_read
  exact shapeCast_apply _ shapeCasts_S1536_S1x1536 (ix2 0 l) (ix1 l) (by
    rw [Shape.rowMajor_val_one, Shape.rowMajor_val_two]
    show l.val = 0 * 1536 + l.val
    omega)

/-- The block index of each window at a grid point. -/
theorem idx : ∀ t : Fin cfg0.N, (win0_0.index t 0 = t.val / 4 ∧ win0_0.index t 1 = t.val % 4 ∧ win0_0.index t 2 = 0)
    ∧ (win0_1.index t 0 = t.val / 4 ∧ win0_1.index t 1 = 64 * (t.val % 4) - 1 ∧ win0_1.index t 2 = 0)
    ∧ (win0_2.index t 0 = 0 ∧ win0_2.index t 1 = 0 ∧ win0_2.index t 2 = 0)
    ∧ (win0_3.index t 0 = 0 ∧ win0_3.index t 1 = 0)
    ∧ (grid0.coords t 1).val = t.val % 4
    ∧ win0_4.index t 0 = t.val / 4 ∧ win0_4.index t 1 = t.val % 4 ∧ win0_4.index t 2 = 0 ∧ (cfg0.win 4).flush t = true :=
  (by decide +kernel : ∀ t : Fin grid0.N, _)

theorem cur_at (t : Fin cfg0.N) (p : Fin 1024) (l : Fin 1536) (b : Fin 8) (hb : b.val = t.val / 4) :
    X0_0 m c t (ix3 0 p l) = Cert.Pool.col (hidden m c) b ⟨l.val, by omega⟩ (1024 * (t.val % 4) + p.val) := by
  obtain ⟨⟨a0, a1, a2⟩, -⟩ := idx t
  have hp := p.isLt
  have ht : 1024 * (t.val % 4) + p.val < 4096 := by omega
  unfold X0_0 Pipeline.Window.fill
  rw [dif_pos (moved0_0 t _)]
  unfold iblk Cert.Pool.col
  rw [View.read_apply, dif_pos ht]
  refine (entry_h m c _).trans (congrArg (hidden m c) (funext fun a => Fin.ext ?_))
  match a with
  | ⟨0, _⟩ => (blk_simp [a0, a1, a2, hb]; exact Nat.add_zero _)
  | ⟨1, _⟩ => (blk_simp [a0, a1, a2]; show t.val % 4 * 1024 + p.val = 1024 * (t.val % 4) + p.val; omega)
  | ⟨2, _⟩ => (blk_simp [a0, a1, a2]; done)

theorem halo_at (t : Fin cfg0.N) (p : Fin 16) (l : Fin 1536) (b : Fin 8) (hb : b.val = t.val / 4) (h0 : t.val % 4 ≠ 0) :
    X0_1 m c t (ix3 0 p l) = Cert.Pool.col (hidden m c) b ⟨l.val, by omega⟩ (1024 * (t.val % 4) + p.val - 16) := by
  obtain ⟨-, ⟨a0, a1, a2⟩, -⟩ := idx t
  have hp := p.isLt
  have ht : 1024 * (t.val % 4) + p.val - 16 < 4096 := by omega
  unfold X0_1 Pipeline.Window.fill
  rw [dif_pos (moved0_1 t _)]
  unfold iblk Cert.Pool.col
  rw [View.read_apply, dif_pos ht]
  refine (entry_h m c _).trans (congrArg (hidden m c) (funext fun a => Fin.ext ?_))
  match a with
  | ⟨0, _⟩ => (blk_simp [a0, a1, a2, hb]; exact Nat.add_zero _)
  | ⟨1, _⟩ => (blk_simp [a0, a1, a2]; show (64 * (t.val % 4) - 1) * 16 + p.val = 1024 * (t.val % 4) + p.val - 16; omega)
  | ⟨2, _⟩ => (blk_simp [a0, a1, a2]; done)

theorem w_at (t : Fin cfg0.N) (g : Fin 4) (k q : Fin 384) : iblk m c 2 t (ix3 g k q) = weights m c (ix3 g k q) := by
  obtain ⟨-, -, ⟨a0, a1, a2⟩, -⟩ := idx t
  unfold iblk
  rw [View.read_apply]
  refine (entry_w m c _).trans (congrArg (weights m c) (funext fun a => Fin.ext ?_))
  match a with
  | ⟨0, _⟩ => blk_simp [a0, a1, a2]
  | ⟨1, _⟩ => blk_simp [a0, a1, a2]
  | ⟨2, _⟩ => blk_simp [a0, a1, a2]

theorem s_at (t : Fin cfg0.N) (l : Fin 1536) : iblk m c 3 t (ix2 0 l) = scales m c (ix1 l) := by
  obtain ⟨-, -, -, ⟨a0, a1⟩, -⟩ := idx t
  unfold iblk
  rw [View.read_apply]
  refine Eq.trans (congrArg (V m c main_v2) (funext fun a => Fin.ext ?_)) (entry_s m c l)
  match a with
  | ⟨0, _⟩ => blk_simp [a0, a1]
  | ⟨1, _⟩ => blk_simp [a0, a1]

/-- The result the run leaves. -/
def G (i : S8x4096x1536.Idx) : EReal := Cert.Pool.mixed (hidden m c) (weights m c) (scales m c) i

/-- What a step leaves in its block of the result. -/
theorem out_at (t : Fin cfg0.N) (b : Fin 8) (hb : b.val = t.val / 4) (y : S1x1024x1536.Idx) :
    outsAt0 m c t y = blockAt (grid0.coords t) (fun l => Cert.Pool.col (hidden m c) b ⟨l.val, by omega⟩) (iblk m c 2 t) (iblk m c 3 t)
      ⟨(y 2).val / 384, by have h : (y 2).val < 1536 := (y 2).isLt; omega⟩ ⟨(y 1).val, (y 1).isLt⟩ ⟨(y 2).val % 384, Nat.mod_lt _ (by decide)⟩ := by
  have e1 : (grid0.coords t 1).val = t.val % 4 := (idx t).2.2.2.2.1
  unfold outsAt0 out0_A_4
  refine (View.read_writes_junk_apply_eq_canon _ _ _).trans ?_
  rw [stores_eq]
  refine stores_at _ (fun l => Cert.Pool.col (hidden m c) b ⟨l.val, by omega⟩) (pads_at (grid0.coords t) _ _ (fun l => Cert.Pool.col (hidden m c) b ⟨l.val, by omega⟩) ?_ ?_) y
  · intro r l
    rw [e1]
    refine (Memref.IsWhole.readAt_unread _ _ _ _).trans (Eq.trans (congrArg _ (funext fun a => Fin.ext ?_)) (cur_at m c t r l b hb))
    match a with
    | ⟨0, _⟩ => rfl
    | ⟨1, _⟩ => exact (Nat.zero_add _).trans (Nat.one_mul _)
    | ⟨2, _⟩ => exact (Nat.zero_add _).trans (Nat.one_mul _)
  · intro r l h0
    rw [e1] at h0 ⊢
    refine (Memref.IsWhole.readAt_unread _ _ _ _).trans (Eq.trans (congrArg _ (funext fun a => Fin.ext ?_)) (halo_at m c t r l b hb h0))
    match a with
    | ⟨0, _⟩ => rfl
    | ⟨1, _⟩ => exact (Nat.zero_add _).trans (Nat.one_mul _)
    | ⟨2, _⟩ => exact (Nat.zero_add _).trans (Nat.one_mul _)

theorem out_blk (t : Fin cfg0.N) (y : S1x1024x1536.Idx) (i : S8x4096x1536.Idx) (h0 : (i 0).val = t.val / 4)
    (h1 : (i 1).val = t.val % 4 * 1024 + (y 1).val) (h2 : (i 2).val = (y 2).val) : outsAt0 m c t y = G m c i := by
  have e1 : (grid0.coords t 1).val = t.val % 4 := (idx t).2.2.2.2.1
  have l2 : (y 2).val < 1536 := (y 2).isLt
  rw [out_at m c t (i 0) h0 y]
  unfold blockAt G Cert.Pool.mixed Cert.Pool.group
  have ed : (i 2).val / 384 = (y 2).val / 384 := by rw [h2]
  have em : (i 2).val % 384 = (y 2).val % 384 := by rw [h2]
  refine congrArg₂ (· * ·) (Finset.sum_congr rfl fun k _ => congrArg₂ (· * ·) ?_ ((w_at m c t _ k _).trans ?_)) ((s_at m c t _).trans ?_)
  · have et : 1024 * (grid0.coords t 1).val + (y 1).val = (i 1).val := by rw [e1]; omega
    have ek : (⟨384 * ((y 2).val / 384) + k.val, by omega⟩ : Fin 2048) = ⟨384 * ((i 2).val / 384) + k.val, by omega⟩ := Fin.ext (by show 384 * ((y 2).val / 384) + k.val = 384 * ((i 2).val / 384) + k.val; omega)
    show Cert.Pool.dev (2 ^ ((y 2).val / 384 + 1)) (Cert.Pool.col (hidden m c) (i 0) ⟨384 * ((y 2).val / 384) + k.val, by omega⟩) (1024 * (grid0.coords t 1).val + (y 1).val) = _
    rw [et, ek]
    exact congrArg (fun g => Cert.Pool.dev (2 ^ (g + 1)) (Cert.Pool.col (hidden m c) (i 0) ⟨384 * ((i 2).val / 384) + k.val, by omega⟩) (i 1).val) ed.symm
  · refine congrArg (weights m c) (funext fun a => Fin.ext ?_)
    match a with
    | ⟨0, _⟩ => exact ed.symm
    | ⟨1, _⟩ => rfl
    | ⟨2, _⟩ => exact em.symm
  · refine congrArg (scales m c) (funext fun a => Fin.ext ?_)
    match a with
    | ⟨0, _⟩ => show 384 * ((y 2).val / 384) + (y 2).val % 384 = (i 2).val; omega

/-- What a point writes back is its block of the result. -/
theorem written (t : Fin cfg0.N) : (dats m 0 c).flushed 4 t = ((cfg0.win 4).blk t).view.read (Elt Ideal) (G m c) := by
  obtain ⟨-, -, -, -, -, e0, e1, e2, -⟩ := idx t
  rw [flushed4]
  funext y
  rw [View.read_apply]
  have y0 : (y 0).val = 0 := Nat.lt_one_iff.mp (y 0).isLt
  have h0 : (((cfg0.win 4).blk t).view.emb y 0).val = t.val / 4 := by blk_simp [e0, y0]
  have h1 : (((cfg0.win 4).blk t).view.emb y 1).val = t.val % 4 * 1024 + (y 1).val := by blk_simp [e1]
  have h2 : (((cfg0.win 4).blk t).view.emb y 2).val = (y 2).val := by blk_simp [e2]
  exact (congrArg (outsAt0 m c t) (funext fun a => Fin.ext (by
    match a with
    | ⟨0, _⟩ => rfl
    | ⟨1, _⟩ => rfl
    | ⟨2, _⟩ => rfl))).trans (out_blk m c t (fun a => ⟨(y a).val, (y a).isLt⟩) _ h0 h1 h2)

theorem covered (i : S8x4096x1536.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 1536 := (i 2).isLt
  obtain ⟨t, ht⟩ : ∃ t : Fin cfg0.N, t.val = (i 0).val * 4 + (i 1).val / 1024 :=
    ⟨⟨_, lt_of_lt_of_eq (by omega : (i 0).val * 4 + (i 1).val / 1024 < 32) N_0.symm⟩, rfl⟩
  obtain ⟨-, -, -, -, -, e0, e1, e2, hf⟩ := idx t
  refine ⟨t, hf, ?_⟩
  show i ∈ ((View.whole main_v3).slice (win0_4.rect t)).set
  rw [View.set_slice_whole, Rect.mem_set_unit]
  intro a
  match a with
  | ⟨0, _⟩ => show win0_4.index t 0 * 1 ≤ (i 0).val ∧ (i 0).val < win0_4.index t 0 * 1 + 1; omega
  | ⟨1, _⟩ => show win0_4.index t 1 * 1024 ≤ (i 1).val ∧ (i 1).val < win0_4.index t 1 * 1024 + 1024; omega
  | ⟨2, _⟩ => show win0_4.index t 2 * 1536 ≤ (i 2).val ∧ (i 2).val < win0_4.index t 2 * 1536 + 1536; omega

/-- After the run the output array is the mixer's result. -/
theorem final : (dats m 0 c).arrAt 4 cfg0.N = G m c :=
  (dats m 0 c).arrAt_eq_of_cover 4 _ (fun t _ => written m c t) (fun i => covered i)

end Cert.Kernel11Ideal.Blocks

namespace Cert.Proof.Pool

open Idealize.ShloMosaic Idealize.ShloMosaic.TcCoe Idealize.SL.Sem Cert.Kernel11Ideal Cert.Reference11Ideal.Read

/-- The first 1536 columns of an array of which the precondition holds consist of reals. -/
theorem real_of_finite (h : (⟨Cert.Pre_finite_p.S8x4096x2048, .f32⟩ : BufTy).Contents (Elt Ideal)) (w : (⟨Cert.Pre_finite_p.S4x384x384, .f32⟩ : BufTy).Contents (Elt Ideal))
    (s : (⟨Cert.Pre_finite_p.S1536, .f32⟩ : BufTy).Contents (Elt Ideal))
    (hp : Cert.Pre_finite_p.fn (F := Ideal) h w s = fun _ => 1#1) (i : Cert.Pre_finite_p.S8x4096x2048.Idx) (hi : (i 2).val < 1536) :
    h i = (((h i).toReal : ℝ) : EReal) := by
  obtain ⟨j, e, hj⟩ : ∃ j : Cert.Pre_finite_p.S8x4096x2048.Idx, BitVec.ofBool (decide (max (h j) (-(h j)) < Ideal.ofBits .f32 0x7F800000#32)) = 1#1 ∧ ∀ a, (j a).val = 0 + (i a).val := by
    refine ⟨_, congrFun hp (ix3 (⟨(i 0).val, (i 0).isLt⟩ : Fin 8) (⟨(i 1).val, (i 1).isLt⟩ : Fin 4096) (⟨(i 2).val, hi⟩ : Fin 1536)), fun a => ?_⟩
    match a with
    | ⟨0, _⟩ => rfl
    | ⟨1, _⟩ => rfl
    | ⟨2, _⟩ => rfl
  rw [show j = i from funext fun a => Fin.ext ((hj a).trans (Nat.zero_add _))] at e
  rw [Cert.Proof.Dilated.ofBits_inf] at e
  have hlt : max (h i) (-(h i)) < ⊤ := by
    by_contra hn
    rw [decide_eq_false hn] at e
    exact absurd e (by decide)
  obtain ⟨h1, h2⟩ := max_lt_iff.1 hlt
  refine (EReal.coe_toReal h1.ne ?_).symm
  intro hb
  rw [hb] at h2
  exact absurd h2 (by simp)

theorem frame_p : Cert.quiescent_Kernel11 := fun m ρ _ => Cert.Kernel11.Gen.frame m ρ
theorem frame_pi : Cert.quiescent_Kernel11Ideal := fun m ρ _ => Cert.Kernel11Ideal.Gen.frame m ρ
theorem frame_pi_pre : Cert.quiescent_Kernel11Ideal_pre_finite_p := fun m ρ _ => Cert.Kernel11Ideal.Gen.frame m ρ
theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem frame_ri_pre : Cert.quiescent_Reference11Ideal_pre_finite_p := fun m ρ _ =>
  (θ_run Cert.Reference11Ideal.defs _ _).mono (fun r h => ⟨fun c => (h c).2, sem_eq_zero_of_no_sems (by decide) r.2⟩)
    (Cert.Reference11Ideal.Value.run (F := Ideal) m ρ)

/-- Kernel and reference leave the same mixed columns. -/
theorem algebraic : Cert.algebraic_Kernel11Ideal_Reference11Ideal_pre_finite_p := by
  intro m ρ m' ρ' hpre hagree
  refine ⟨fun c => Blocks.G m c, (θ_run Cert.Kernel11Ideal.defs _ _).mono (fun _ h c => ⟨(h c).1.trans (Blocks.final m c), (h c).2⟩)
    (Cert.Kernel11Ideal.Value.run_blocks (F := Ideal) m ρ), ?_⟩
  refine (θ_run Cert.Reference11Ideal.defs _ _).mono (fun _ h c => ⟨(h c).1.trans ?_, (h c).2⟩) (Cert.Reference11Ideal.Value.run (F := Ideal) m' ρ')
  refine (val_main_v75_eq _ _).trans (funext fun i => ?_)
  rw [(hagree c).1, (hagree c).2.1, (hagree c).2.2]
  exact Cert.Pool.ref_at _ _ _ (real_of_finite _ _ _ (hpre c)) i

end Cert.Proof.Pool

end
-- ==== Proof.lean ====
module

public import proofs.«01_k».proof.Defs
public import proofs.«01_k».proof.Proof.Finish
public import proofs.«01_k».proof.Proof.Mat2
public import proofs.«01_k».proof.Proof.Mat3
public import proofs.«01_k».proof.Proof.Mat4
public import proofs.«01_k».proof.Proof.Mat5
public import proofs.«01_k».proof.Proof.Wo6
public import proofs.«01_k».proof.Proof.Wo7
public import proofs.«01_k».proof.Proof.Mem
public import proofs.«01_k».proof.Proof.Peer9
public import proofs.«01_k».proof.Proof.MemPool
public import proofs.«01_k».proof.Proof.Pool
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite_p
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite_p.Gen.facts,
  Dilated.frame_p, Dilated.frame_pi, Dilated.frame_pi_pre, Dilated.frame_ri, Dilated.frame_ri_pre,
  Mat2.frame_p, Mat2.frame_pi, Mat2.frame_ri,
  Mat3.frame_p, Mat3.frame_pi, Mat3.frame_ri,
  Mat4.frame_p, Mat4.frame_pi, Mat4.frame_ri,
  Mat5.frame_p, Mat5.frame_pi, Mat5.frame_ri,
  Wo6.frame_p, Wo6.frame_pi, Wo6.frame_ri,
  Wo7.frame_p, Wo7.frame_pi, Wo7.frame_ri,
  Mem.frame_p, Mem.frame_pi, Mem.frame_ri,
  Peer9.frame_p, Peer9.frame_pi, Peer9.frame_ri,
  MemPool.frame_p, MemPool.frame_pi, MemPool.frame_ri,
  Pool.frame_p, Pool.frame_pi, Pool.frame_pi_pre, Pool.frame_ri, Pool.frame_ri_pre,
  Dilated.preserves, Dilated.algebraic,
  trivial, Mat2.algebraic,
  trivial, Mat3.algebraic,
  trivial, Mat4.algebraic,
  trivial, Mat5.algebraic,
  trivial, Wo6.algebraic,
  trivial, Wo7.algebraic,
  trivial, Mem.algebraic,
  Peer9.preserves, Peer9.algebraic,
  trivial, MemPool.algebraic,
  trivial, Pool.algebraic⟩

end Cert.Proof

end
